-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2))).1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2))).2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2))).2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2))).2.2 = (fun _ => 1#1)

def Pre_NormRes (m : (ℓ : Loc Cert.NormRes.nD Cert.NormRes.τ Cert.NormRes.sig) → Buf (Elt Bits) ℓ) : Prop :=
  True

def Pre_NormResIdeal (m : (ℓ : Loc Cert.NormResIdeal.nD Cert.NormResIdeal.τ Cert.NormResIdeal.sig) → Buf (Elt Ideal) ℓ) : Prop :=
  True

def Pre_NormResIdeal_norm_res_finite [hPre_norm_res_finite : Cert.Pre_norm_res_finite.Facts] (m : (ℓ : Loc Cert.NormResIdeal.nD Cert.NormResIdeal.τ Cert.NormResIdeal.sig) → Buf (Elt Ideal) ℓ) : Prop :=
  ∀ c : Dev Cert.NormResIdeal.nD,
    (Cert.Pre_norm_res_finite.fn (F := Ideal) (m ((c.tc : Thread Cert.NormResIdeal.nD Cert.NormResIdeal.τ).loc Cert.NormResIdeal.main_arg0)) (m ((c.tc : Thread Cert.NormResIdeal.nD Cert.NormResIdeal.τ).loc Cert.NormResIdeal.main_arg1)) (m ((c.tc : Thread Cert.NormResIdeal.nD Cert.NormResIdeal.τ).loc Cert.NormResIdeal.main_arg2)) (m ((c.tc : Thread Cert.NormResIdeal.nD Cert.NormResIdeal.τ).loc Cert.NormResIdeal.main_arg3))).1 = (fun _ => 1#1)
    ∧ (Cert.Pre_norm_res_finite.fn (F := Ideal) (m ((c.tc : Thread Cert.NormResIdeal.nD Cert.NormResIdeal.τ).loc Cert.NormResIdeal.main_arg0)) (m ((c.tc : Thread Cert.NormResIdeal.nD Cert.NormResIdeal.τ).loc Cert.NormResIdeal.main_arg1)) (m ((c.tc : Thread Cert.NormResIdeal.nD Cert.NormResIdeal.τ).loc Cert.NormResIdeal.main_arg2)) (m ((c.tc : Thread Cert.NormResIdeal.nD Cert.NormResIdeal.τ).loc Cert.NormResIdeal.main_arg3))).2.1 = (fun _ => 1#1)
    ∧ (Cert.Pre_norm_res_finite.fn (F := Ideal) (m ((c.tc : Thread Cert.NormResIdeal.nD Cert.NormResIdeal.τ).loc Cert.NormResIdeal.main_arg0)) (m ((c.tc : Thread Cert.NormResIdeal.nD Cert.NormResIdeal.τ).loc Cert.NormResIdeal.main_arg1)) (m ((c.tc : Thread Cert.NormResIdeal.nD Cert.NormResIdeal.τ).loc Cert.NormResIdeal.main_arg2)) (m ((c.tc : Thread Cert.NormResIdeal.nD Cert.NormResIdeal.τ).loc Cert.NormResIdeal.main_arg3))).2.2.1 = (fun _ => 1#1)
    ∧ (Cert.Pre_norm_res_finite.fn (F := Ideal) (m ((c.tc : Thread Cert.NormResIdeal.nD Cert.NormResIdeal.τ).loc Cert.NormResIdeal.main_arg0)) (m ((c.tc : Thread Cert.NormResIdeal.nD Cert.NormResIdeal.τ).loc Cert.NormResIdeal.main_arg1)) (m ((c.tc : Thread Cert.NormResIdeal.nD Cert.NormResIdeal.τ).loc Cert.NormResIdeal.main_arg2)) (m ((c.tc : Thread Cert.NormResIdeal.nD Cert.NormResIdeal.τ).loc Cert.NormResIdeal.main_arg3))).2.2.2 = (fun _ => 1#1)

def Pre_NormResRefIdeal (m : (ℓ : Loc Cert.NormResRefIdeal.nD Cert.NormResRefIdeal.τ Cert.NormResRefIdeal.sig) → Buf (Elt Ideal) ℓ) : Prop :=
  True

def Pre_NormResRefIdeal_norm_res_finite [hPre_norm_res_finite : Cert.Pre_norm_res_finite.Facts] (m : (ℓ : Loc Cert.NormResRefIdeal.nD Cert.NormResRefIdeal.τ Cert.NormResRefIdeal.sig) → Buf (Elt Ideal) ℓ) : Prop :=
  ∀ c : Dev Cert.NormResRefIdeal.nD,
    (Cert.Pre_norm_res_finite.fn (F := Ideal) (m ((c.tc : Thread Cert.NormResRefIdeal.nD Cert.NormResRefIdeal.τ).loc Cert.NormResRefIdeal.main_arg0)) (m ((c.tc : Thread Cert.NormResRefIdeal.nD Cert.NormResRefIdeal.τ).loc Cert.NormResRefIdeal.main_arg1)) (m ((c.tc : Thread Cert.NormResRefIdeal.nD Cert.NormResRefIdeal.τ).loc Cert.NormResRefIdeal.main_arg2)) (m ((c.tc : Thread Cert.NormResRefIdeal.nD Cert.NormResRefIdeal.τ).loc Cert.NormResRefIdeal.main_arg3))).1 = (fun _ => 1#1)
    ∧ (Cert.Pre_norm_res_finite.fn (F := Ideal) (m ((c.tc : Thread Cert.NormResRefIdeal.nD Cert.NormResRefIdeal.τ).loc Cert.NormResRefIdeal.main_arg0)) (m ((c.tc : Thread Cert.NormResRefIdeal.nD Cert.NormResRefIdeal.τ).loc Cert.NormResRefIdeal.main_arg1)) (m ((c.tc : Thread Cert.NormResRefIdeal.nD Cert.NormResRefIdeal.τ).loc Cert.NormResRefIdeal.main_arg2)) (m ((c.tc : Thread Cert.NormResRefIdeal.nD Cert.NormResRefIdeal.τ).loc Cert.NormResRefIdeal.main_arg3))).2.1 = (fun _ => 1#1)
    ∧ (Cert.Pre_norm_res_finite.fn (F := Ideal) (m ((c.tc : Thread Cert.NormResRefIdeal.nD Cert.NormResRefIdeal.τ).loc Cert.NormResRefIdeal.main_arg0)) (m ((c.tc : Thread Cert.NormResRefIdeal.nD Cert.NormResRefIdeal.τ).loc Cert.NormResRefIdeal.main_arg1)) (m ((c.tc : Thread Cert.NormResRefIdeal.nD Cert.NormResRefIdeal.τ).loc Cert.NormResRefIdeal.main_arg2)) (m ((c.tc : Thread Cert.NormResRefIdeal.nD Cert.NormResRefIdeal.τ).loc Cert.NormResRefIdeal.main_arg3))).2.2.1 = (fun _ => 1#1)
    ∧ (Cert.Pre_norm_res_finite.fn (F := Ideal) (m ((c.tc : Thread Cert.NormResRefIdeal.nD Cert.NormResRefIdeal.τ).loc Cert.NormResRefIdeal.main_arg0)) (m ((c.tc : Thread Cert.NormResRefIdeal.nD Cert.NormResRefIdeal.τ).loc Cert.NormResRefIdeal.main_arg1)) (m ((c.tc : Thread Cert.NormResRefIdeal.nD Cert.NormResRefIdeal.τ).loc Cert.NormResRefIdeal.main_arg2)) (m ((c.tc : Thread Cert.NormResRefIdeal.nD Cert.NormResRefIdeal.τ).loc Cert.NormResRefIdeal.main_arg3))).2.2.2 = (fun _ => 1#1)

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemIdeal_norm_mem_finite [hPre_norm_mem_finite : Cert.Pre_norm_mem_finite.Facts] (m : (ℓ : Loc Cert.NormMemIdeal.nD Cert.NormMemIdeal.τ Cert.NormMemIdeal.sig) → Buf (Elt Ideal) ℓ) : Prop :=
  ∀ c : Dev Cert.NormMemIdeal.nD,
    (Cert.Pre_norm_mem_finite.fn (F := Ideal) (m ((c.tc : Thread Cert.NormMemIdeal.nD Cert.NormMemIdeal.τ).loc Cert.NormMemIdeal.main_arg0)) (m ((c.tc : Thread Cert.NormMemIdeal.nD Cert.NormMemIdeal.τ).loc Cert.NormMemIdeal.main_arg1)) (m ((c.tc : Thread Cert.NormMemIdeal.nD Cert.NormMemIdeal.τ).loc Cert.NormMemIdeal.main_arg2))).1 = (fun _ => 1#1)
    ∧ (Cert.Pre_norm_mem_finite.fn (F := Ideal) (m ((c.tc : Thread Cert.NormMemIdeal.nD Cert.NormMemIdeal.τ).loc Cert.NormMemIdeal.main_arg0)) (m ((c.tc : Thread Cert.NormMemIdeal.nD Cert.NormMemIdeal.τ).loc Cert.NormMemIdeal.main_arg1)) (m ((c.tc : Thread Cert.NormMemIdeal.nD Cert.NormMemIdeal.τ).loc Cert.NormMemIdeal.main_arg2))).2.1 = (fun _ => 1#1)
    ∧ (Cert.Pre_norm_mem_finite.fn (F := Ideal) (m ((c.tc : Thread Cert.NormMemIdeal.nD Cert.NormMemIdeal.τ).loc Cert.NormMemIdeal.main_arg0)) (m ((c.tc : Thread Cert.NormMemIdeal.nD Cert.NormMemIdeal.τ).loc Cert.NormMemIdeal.main_arg1)) (m ((c.tc : Thread Cert.NormMemIdeal.nD Cert.NormMemIdeal.τ).loc Cert.NormMemIdeal.main_arg2))).2.2 = (fun _ => 1#1)

def Pre_NormMemRefIdeal (m : (ℓ : Loc Cert.NormMemRefIdeal.nD Cert.NormMemRefIdeal.τ Cert.NormMemRefIdeal.sig) → Buf (Elt Ideal) ℓ) : Prop :=
  True

def Pre_NormMemRefIdeal_norm_mem_finite [hPre_norm_mem_finite : Cert.Pre_norm_mem_finite.Facts] (m : (ℓ : Loc Cert.NormMemRefIdeal.nD Cert.NormMemRefIdeal.τ Cert.NormMemRefIdeal.sig) → Buf (Elt Ideal) ℓ) : Prop :=
  ∀ c : Dev Cert.NormMemRefIdeal.nD,
    (Cert.Pre_norm_mem_finite.fn (F := Ideal) (m ((c.tc : Thread Cert.NormMemRefIdeal.nD Cert.NormMemRefIdeal.τ).loc Cert.NormMemRefIdeal.main_arg0)) (m ((c.tc : Thread Cert.NormMemRefIdeal.nD Cert.NormMemRefIdeal.τ).loc Cert.NormMemRefIdeal.main_arg1)) (m ((c.tc : Thread Cert.NormMemRefIdeal.nD Cert.NormMemRefIdeal.τ).loc Cert.NormMemRefIdeal.main_arg2))).1 = (fun _ => 1#1)
    ∧ (Cert.Pre_norm_mem_finite.fn (F := Ideal) (m ((c.tc : Thread Cert.NormMemRefIdeal.nD Cert.NormMemRefIdeal.τ).loc Cert.NormMemRefIdeal.main_arg0)) (m ((c.tc : Thread Cert.NormMemRefIdeal.nD Cert.NormMemRefIdeal.τ).loc Cert.NormMemRefIdeal.main_arg1)) (m ((c.tc : Thread Cert.NormMemRefIdeal.nD Cert.NormMemRefIdeal.τ).loc Cert.NormMemRefIdeal.main_arg2))).2.1 = (fun _ => 1#1)
    ∧ (Cert.Pre_norm_mem_finite.fn (F := Ideal) (m ((c.tc : Thread Cert.NormMemRefIdeal.nD Cert.NormMemRefIdeal.τ).loc Cert.NormMemRefIdeal.main_arg0)) (m ((c.tc : Thread Cert.NormMemRefIdeal.nD Cert.NormMemRefIdeal.τ).loc Cert.NormMemRefIdeal.main_arg1)) (m ((c.tc : Thread Cert.NormMemRefIdeal.nD Cert.NormMemRefIdeal.τ).loc Cert.NormMemRefIdeal.main_arg2))).2.2 = (fun _ => 1#1)

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_LruConv (m : (ℓ : Loc Cert.LruConv.nD Cert.LruConv.τ Cert.LruConv.sig) → Buf (Elt Bits) ℓ) : Prop :=
  True

def Pre_LruConvIdeal (m : (ℓ : Loc Cert.LruConvIdeal.nD Cert.LruConvIdeal.τ Cert.LruConvIdeal.sig) → Buf (Elt Ideal) ℓ) : Prop :=
  True

def Pre_LruConvRefIdeal (m : (ℓ : Loc Cert.LruConvRefIdeal.nD Cert.LruConvRefIdeal.τ Cert.LruConvRefIdeal.sig) → Buf (Elt Ideal) ℓ) : Prop :=
  True

def Pre_Dlogf (m : (ℓ : Loc Cert.Dlogf.nD Cert.Dlogf.τ Cert.Dlogf.sig) → Buf (Elt Bits) ℓ) : Prop :=
  True

def Pre_DlogfIdeal (m : (ℓ : Loc Cert.DlogfIdeal.nD Cert.DlogfIdeal.τ Cert.DlogfIdeal.sig) → Buf (Elt Ideal) ℓ) : Prop :=
  True

def Pre_DlogfRefIdeal (m : (ℓ : Loc Cert.DlogfRefIdeal.nD Cert.DlogfRefIdeal.τ Cert.DlogfRefIdeal.sig) → Buf (Elt Ideal) ℓ) : Prop :=
  True

def Pre_FfnDa (m : (ℓ : Loc Cert.FfnDa.nD Cert.FfnDa.τ Cert.FfnDa.sig) → Buf (Elt Bits) ℓ) : Prop :=
  True

def Pre_FfnDaIdeal (m : (ℓ : Loc Cert.FfnDaIdeal.nD Cert.FfnDaIdeal.τ Cert.FfnDaIdeal.sig) → Buf (Elt Ideal) ℓ) : Prop :=
  True

def Pre_FfnDaIdeal_ffn_da_finite [hPre_ffn_da_finite : Cert.Pre_ffn_da_finite.Facts] (m : (ℓ : Loc Cert.FfnDaIdeal.nD Cert.FfnDaIdeal.τ Cert.FfnDaIdeal.sig) → Buf (Elt Ideal) ℓ) : Prop :=
  ∀ c : Dev Cert.FfnDaIdeal.nD,
    (Cert.Pre_ffn_da_finite.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).1 = (fun _ => 1#1)
    ∧ (Cert.Pre_ffn_da_finite.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.1 = (fun _ => 1#1)
    ∧ (Cert.Pre_ffn_da_finite.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.2.1 = (fun _ => 1#1)
    ∧ (Cert.Pre_ffn_da_finite.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.2.2 = (fun _ => 1#1)

def Pre_FfnDaRefIdeal (m : (ℓ : Loc Cert.FfnDaRefIdeal.nD Cert.FfnDaRefIdeal.τ Cert.FfnDaRefIdeal.sig) → Buf (Elt Ideal) ℓ) : Prop :=
  True

def Pre_FfnDaRefIdeal_ffn_da_finite [hPre_ffn_da_finite : Cert.Pre_ffn_da_finite.Facts] (m : (ℓ : Loc Cert.FfnDaRefIdeal.nD Cert.FfnDaRefIdeal.τ Cert.FfnDaRefIdeal.sig) → Buf (Elt Ideal) ℓ) : Prop :=
  ∀ c : Dev Cert.FfnDaRefIdeal.nD,
    (Cert.Pre_ffn_da_finite.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).1 = (fun _ => 1#1)
    ∧ (Cert.Pre_ffn_da_finite.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).2.1 = (fun _ => 1#1)
    ∧ (Cert.Pre_ffn_da_finite.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).2.2.1 = (fun _ => 1#1)
    ∧ (Cert.Pre_ffn_da_finite.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).2.2.2 = (fun _ => 1#1)

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_xattn_finite [hPre_xattn_finite : Cert.Pre_xattn_finite.Facts] (m : (ℓ : Loc Cert.XattnIdeal.nD Cert.XattnIdeal.τ Cert.XattnIdeal.sig) → Buf (Elt Ideal) ℓ) : Prop :=
  ∀ c : Dev Cert.XattnIdeal.nD,
    (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3))).1 = (fun _ => 1#1)
    ∧ (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3))).2.1 = (fun _ => 1#1)
    ∧ (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3))).2.2.1 = (fun _ => 1#1)
    ∧ (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3))).2.2.2 = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_xattn_finite [hPre_xattn_finite : Cert.Pre_xattn_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3))).1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3))).2.1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3))).2.2.1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3))).2.2.2 = (fun _ => 1#1)

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.2 = (fun _ => 1#1)

def Pre_XattnFwd (m : (ℓ : Loc Cert.XattnFwd.nD Cert.XattnFwd.τ Cert.XattnFwd.sig) → Buf (Elt Bits) ℓ) : Prop :=
  True

def Pre_XattnFwdIdeal (m : (ℓ : Loc Cert.XattnFwdIdeal.nD Cert.XattnFwdIdeal.τ Cert.XattnFwdIdeal.sig) → Buf (Elt Ideal) ℓ) : Prop :=
  True

def Pre_XattnFwdRefIdeal (m : (ℓ : Loc Cert.XattnFwdRefIdeal.nD Cert.XattnFwdRefIdeal.τ Cert.XattnFwdRefIdeal.sig) → Buf (Elt Ideal) ℓ) : Prop :=
  True

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdIdeal_fox_fwd_finite [hPre_fox_fwd_finite : Cert.Pre_fox_fwd_finite.Facts] (m : (ℓ : Loc Cert.FoxFwdIdeal.nD Cert.FoxFwdIdeal.τ Cert.FoxFwdIdeal.sig) → Buf (Elt Ideal) ℓ) : Prop :=
  ∀ c : Dev Cert.FoxFwdIdeal.nD,
    (Cert.Pre_fox_fwd_finite.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).1 = (fun _ => 1#1)
    ∧ (Cert.Pre_fox_fwd_finite.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.1 = (fun _ => 1#1)
    ∧ (Cert.Pre_fox_fwd_finite.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.2.1 = (fun _ => 1#1)
    ∧ (Cert.Pre_fox_fwd_finite.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.2.2 = (fun _ => 1#1)

def Pre_FoxFwdRefIdeal (m : (ℓ : Loc Cert.FoxFwdRefIdeal.nD Cert.FoxFwdRefIdeal.τ Cert.FoxFwdRefIdeal.sig) → Buf (Elt Ideal) ℓ) : Prop :=
  True

def Pre_FoxFwdRefIdeal_fox_fwd_finite [hPre_fox_fwd_finite : Cert.Pre_fox_fwd_finite.Facts] (m : (ℓ : Loc Cert.FoxFwdRefIdeal.nD Cert.FoxFwdRefIdeal.τ Cert.FoxFwdRefIdeal.sig) → Buf (Elt Ideal) ℓ) : Prop :=
  ∀ c : Dev Cert.FoxFwdRefIdeal.nD,
    (Cert.Pre_fox_fwd_finite.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).1 = (fun _ => 1#1)
    ∧ (Cert.Pre_fox_fwd_finite.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).2.1 = (fun _ => 1#1)
    ∧ (Cert.Pre_fox_fwd_finite.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).2.2.1 = (fun _ => 1#1)
    ∧ (Cert.Pre_fox_fwd_finite.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).2.2.2 = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_NormAdd (m : (ℓ : Loc Cert.NormAdd.nD Cert.NormAdd.τ Cert.NormAdd.sig) → Buf (Elt Bits) ℓ) : Prop :=
  True

def Pre_NormAddIdeal (m : (ℓ : Loc Cert.NormAddIdeal.nD Cert.NormAddIdeal.τ Cert.NormAddIdeal.sig) → Buf (Elt Ideal) ℓ) : Prop :=
  True

def Pre_NormAddRefIdeal (m : (ℓ : Loc Cert.NormAddRefIdeal.nD Cert.NormAddRefIdeal.τ Cert.NormAddRefIdeal.sig) → Buf (Elt Ideal) ℓ) : Prop :=
  True

def Pre_SconvFwd (m : (ℓ : Loc Cert.SconvFwd.nD Cert.SconvFwd.τ Cert.SconvFwd.sig) → Buf (Elt Bits) ℓ) : Prop :=
  True

def Pre_SconvFwdIdeal (m : (ℓ : Loc Cert.SconvFwdIdeal.nD Cert.SconvFwdIdeal.τ Cert.SconvFwdIdeal.sig) → Buf (Elt Ideal) ℓ) : Prop :=
  True

def Pre_SconvFwdRefIdeal (m : (ℓ : Loc Cert.SconvFwdRefIdeal.nD Cert.SconvFwdRefIdeal.τ Cert.SconvFwdRefIdeal.sig) → Buf (Elt Ideal) ℓ) : Prop :=
  True

def Pre_LruConvFwd (m : (ℓ : Loc Cert.LruConvFwd.nD Cert.LruConvFwd.τ Cert.LruConvFwd.sig) → Buf (Elt Bits) ℓ) : Prop :=
  True

def Pre_LruConvFwdIdeal (m : (ℓ : Loc Cert.LruConvFwdIdeal.nD Cert.LruConvFwdIdeal.τ Cert.LruConvFwdIdeal.sig) → Buf (Elt Ideal) ℓ) : Prop :=
  True

def Pre_LruConvFwdRefIdeal (m : (ℓ : Loc Cert.LruConvFwdRefIdeal.nD Cert.LruConvFwdRefIdeal.τ Cert.LruConvFwdRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FoxCum (m : (ℓ : Loc Cert.FoxCum.nD Cert.FoxCum.τ Cert.FoxCum.sig) → Buf (Elt Bits) ℓ) : Prop :=
  True

def Pre_FoxCumIdeal (m : (ℓ : Loc Cert.FoxCumIdeal.nD Cert.FoxCumIdeal.τ Cert.FoxCumIdeal.sig) → Buf (Elt Ideal) ℓ) : Prop :=
  True

def Pre_FoxCumRefIdeal (m : (ℓ : Loc Cert.FoxCumRefIdeal.nD Cert.FoxCumRefIdeal.τ Cert.FoxCumRefIdeal.sig) → Buf (Elt Ideal) ℓ) : Prop :=
  True

def Pre_LruScan (m : (ℓ : Loc Cert.LruScan.nD Cert.LruScan.τ Cert.LruScan.sig) → Buf (Elt Bits) ℓ) : Prop :=
  True

def Pre_LruScanIdeal (m : (ℓ : Loc Cert.LruScanIdeal.nD Cert.LruScanIdeal.τ Cert.LruScanIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MmNn (m : (ℓ : Loc Cert.MmNn.nD Cert.MmNn.τ Cert.MmNn.sig) → Buf (Elt Bits) ℓ) : Prop :=
  True

def Pre_MmNnIdeal (m : (ℓ : Loc Cert.MmNnIdeal.nD Cert.MmNnIdeal.τ Cert.MmNnIdeal.sig) → Buf (Elt Ideal) ℓ) : Prop :=
  True

def Pre_MmNnRefIdeal (m : (ℓ : Loc Cert.MmNnRefIdeal.nD Cert.MmNnRefIdeal.τ Cert.MmNnRefIdeal.sig) → Buf (Elt Ideal) ℓ) : Prop :=
  True

def Pre_MmCols (m : (ℓ : Loc Cert.MmCols.nD Cert.MmCols.τ Cert.MmCols.sig) → Buf (Elt Bits) ℓ) : Prop :=
  True

def Pre_MmColsIdeal (m : (ℓ : Loc Cert.MmColsIdeal.nD Cert.MmColsIdeal.τ Cert.MmColsIdeal.sig) → Buf (Elt Ideal) ℓ) : Prop :=
  True

def Pre_MmColsRefIdeal (m : (ℓ : Loc Cert.MmColsRefIdeal.nD Cert.MmColsRefIdeal.τ Cert.MmColsRefIdeal.sig) → Buf (Elt Ideal) ℓ) : Prop :=
  True

def Pre_MmRows (m : (ℓ : Loc Cert.MmRows.nD Cert.MmRows.τ Cert.MmRows.sig) → Buf (Elt Bits) ℓ) : Prop :=
  True

def Pre_MmRowsIdeal (m : (ℓ : Loc Cert.MmRowsIdeal.nD Cert.MmRowsIdeal.τ Cert.MmRowsIdeal.sig) → Buf (Elt Ideal) ℓ) : Prop :=
  True

def Pre_MmRowsRefIdeal (m : (ℓ : Loc Cert.MmRowsRefIdeal.nD Cert.MmRowsRefIdeal.τ Cert.MmRowsRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_BmmNn (m : (ℓ : Loc Cert.BmmNn.nD Cert.BmmNn.τ Cert.BmmNn.sig) → Buf (Elt Bits) ℓ) : Prop :=
  True

def Pre_BmmNnIdeal (m : (ℓ : Loc Cert.BmmNnIdeal.nD Cert.BmmNnIdeal.τ Cert.BmmNnIdeal.sig) → Buf (Elt Ideal) ℓ) : Prop :=
  True

def Pre_BmmNnRefIdeal (m : (ℓ : Loc Cert.BmmNnRefIdeal.nD Cert.BmmNnRefIdeal.τ Cert.BmmNnRefIdeal.sig) → Buf (Elt Ideal) ℓ) : Prop :=
  True

def Pre_BmmTn (m : (ℓ : Loc Cert.BmmTn.nD Cert.BmmTn.τ Cert.BmmTn.sig) → Buf (Elt Bits) ℓ) : Prop :=
  True

def Pre_BmmTnIdeal (m : (ℓ : Loc Cert.BmmTnIdeal.nD Cert.BmmTnIdeal.τ Cert.BmmTnIdeal.sig) → Buf (Elt Ideal) ℓ) : Prop :=
  True

def Pre_BmmTnRefIdeal (m : (ℓ : Loc Cert.BmmTnRefIdeal.nD Cert.BmmTnRefIdeal.τ Cert.BmmTnRefIdeal.sig) → Buf (Elt Ideal) ℓ) : Prop :=
  True

def Pre_MmA3 (m : (ℓ : Loc Cert.MmA3.nD Cert.MmA3.τ Cert.MmA3.sig) → Buf (Elt Bits) ℓ) : Prop :=
  True

def Pre_MmA3Ideal (m : (ℓ : Loc Cert.MmA3Ideal.nD Cert.MmA3Ideal.τ Cert.MmA3Ideal.sig) → Buf (Elt Ideal) ℓ) : Prop :=
  True

def Pre_MmA3RefIdeal (m : (ℓ : Loc Cert.MmA3RefIdeal.nD Cert.MmA3RefIdeal.τ Cert.MmA3RefIdeal.sig) → Buf (Elt Ideal) ℓ) : Prop :=
  True

def Pre_BmmNnSum (m : (ℓ : Loc Cert.BmmNnSum.nD Cert.BmmNnSum.τ Cert.BmmNnSum.sig) → Buf (Elt Bits) ℓ) : Prop :=
  True

def Pre_BmmNnSumIdeal (m : (ℓ : Loc Cert.BmmNnSumIdeal.nD Cert.BmmNnSumIdeal.τ Cert.BmmNnSumIdeal.sig) → Buf (Elt Ideal) ℓ) : Prop :=
  True

def Pre_BmmNnSumRefIdeal (m : (ℓ : Loc Cert.BmmNnSumRefIdeal.nD Cert.BmmNnSumRefIdeal.τ Cert.BmmNnSumRefIdeal.sig) → Buf (Elt Ideal) ℓ) : Prop :=
  True

def Pre_BmmNtSum (m : (ℓ : Loc Cert.BmmNtSum.nD Cert.BmmNtSum.τ Cert.BmmNtSum.sig) → Buf (Elt Bits) ℓ) : Prop :=
  True

def Pre_BmmNtSumIdeal (m : (ℓ : Loc Cert.BmmNtSumIdeal.nD Cert.BmmNtSumIdeal.τ Cert.BmmNtSumIdeal.sig) → Buf (Elt Ideal) ℓ) : Prop :=
  True

def Pre_BmmNtSumRefIdeal (m : (ℓ : Loc Cert.BmmNtSumRefIdeal.nD Cert.BmmNtSumRefIdeal.τ Cert.BmmNtSumRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_SumDev (m : (ℓ : Loc Cert.SumDev.nD Cert.SumDev.τ Cert.SumDev.sig) → Buf (Elt Bits) ℓ) : Prop :=
  True

def Pre_SumDevIdeal (m : (ℓ : Loc Cert.SumDevIdeal.nD Cert.SumDevIdeal.τ Cert.SumDevIdeal.sig) → Buf (Elt Ideal) ℓ) : Prop :=
  True

def Pre_SumDevRefIdeal (m : (ℓ : Loc Cert.SumDevRefIdeal.nD Cert.SumDevRefIdeal.τ Cert.SumDevRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_NormRes [hNormRes : Cert.NormRes.Facts] : Prop :=
  ∀ (m : (ℓ : Loc Cert.NormRes.nD Cert.NormRes.τ Cert.NormRes.sig) → Buf (Elt Bits) ℓ) (g : Dev Cert.NormRes.nD → PrngReg), Pre_NormRes m →
    θ_run (Cert.NormRes.defs (F := Bits)) (onTc (τ := Cert.NormRes.τ) (Cert.NormRes.main (F := Bits))) ⟨m, fun _ => 0, g⟩ (fun r => (∀ c : Dev Cert.NormRes.nD,
      r.2.mem ((c.tc : Thread Cert.NormRes.nD Cert.NormRes.τ).loc Cert.NormRes.main_arg0) = m ((c.tc : Thread Cert.NormRes.nD Cert.NormRes.τ).loc Cert.NormRes.main_arg0)
      ∧ r.2.mem ((c.tc : Thread Cert.NormRes.nD Cert.NormRes.τ).loc Cert.NormRes.main_arg1) = m ((c.tc : Thread Cert.NormRes.nD Cert.NormRes.τ).loc Cert.NormRes.main_arg1)
      ∧ r.2.mem ((c.tc : Thread Cert.NormRes.nD Cert.NormRes.τ).loc Cert.NormRes.main_arg2) = m ((c.tc : Thread Cert.NormRes.nD Cert.NormRes.τ).loc Cert.NormRes.main_arg2)
      ∧ r.2.mem ((c.tc : Thread Cert.NormRes.nD Cert.NormRes.τ).loc Cert.NormRes.main_arg3) = m ((c.tc : Thread Cert.NormRes.nD Cert.NormRes.τ).loc Cert.NormRes.main_arg3))
      ∧ r.2.sem = fun _ => 0)

def quiescent_NormResIdeal [hNormResIdeal : Cert.NormResIdeal.Facts] : Prop :=
  ∀ (m : (ℓ : Loc Cert.NormResIdeal.nD Cert.NormResIdeal.τ Cert.NormResIdeal.sig) → Buf (Elt Ideal) ℓ) (g : Dev Cert.NormResIdeal.nD → PrngReg), Pre_NormResIdeal m →
    θ_run (Cert.NormResIdeal.defs (F := Ideal)) (onTc (τ := Cert.NormResIdeal.τ) (Cert.NormResIdeal.main (F := Ideal))) ⟨m, fun _ => 0, g⟩ (fun r => (∀ c : Dev Cert.NormResIdeal.nD,
      r.2.mem ((c.tc : Thread Cert.NormResIdeal.nD Cert.NormResIdeal.τ).loc Cert.NormResIdeal.main_arg0) = m ((c.tc : Thread Cert.NormResIdeal.nD Cert.NormResIdeal.τ).loc Cert.NormResIdeal.main_arg0)
      ∧ r.2.mem ((c.tc : Thread Cert.NormResIdeal.nD Cert.NormResIdeal.τ).loc Cert.NormResIdeal.main_arg1) = m ((c.tc : Thread Cert.NormResIdeal.nD Cert.NormResIdeal.τ).loc Cert.NormResIdeal.main_arg1)
      ∧ r.2.mem ((c.tc : Thread Cert.NormResIdeal.nD Cert.NormResIdeal.τ).loc Cert.NormResIdeal.main_arg2) = m ((c.tc : Thread Cert.NormResIdeal.nD Cert.NormResIdeal.τ).loc Cert.NormResIdeal.main_arg2)
      ∧ r.2.mem ((c.tc : Thread Cert.NormResIdeal.nD Cert.NormResIdeal.τ).loc Cert.NormResIdeal.main_arg3) = m ((c.tc : Thread Cert.NormResIdeal.nD Cert.NormResIdeal.τ).loc Cert.NormResIdeal.main_arg3))
      ∧ r.2.sem = fun _ => 0)

def quiescent_NormResIdeal_pre_norm_res_finite [hNormResIdeal : Cert.NormResIdeal.Facts] [hPre_norm_res_finite : Cert.Pre_norm_res_finite.Facts] : Prop :=
  ∀ (m : (ℓ : Loc Cert.NormResIdeal.nD Cert.NormResIdeal.τ Cert.NormResIdeal.sig) → Buf (Elt Ideal) ℓ) (g : Dev Cert.NormResIdeal.nD → PrngReg), Pre_NormResIdeal_norm_res_finite m →
    θ_run (Cert.NormResIdeal.defs (F := Ideal)) (onTc (τ := Cert.NormResIdeal.τ) (Cert.NormResIdeal.main (F := Ideal))) ⟨m, fun _ => 0, g⟩ (fun r => (∀ c : Dev Cert.NormResIdeal.nD,
      r.2.mem ((c.tc : Thread Cert.NormResIdeal.nD Cert.NormResIdeal.τ).loc Cert.NormResIdeal.main_arg0) = m ((c.tc : Thread Cert.NormResIdeal.nD Cert.NormResIdeal.τ).loc Cert.NormResIdeal.main_arg0)
      ∧ r.2.mem ((c.tc : Thread Cert.NormResIdeal.nD Cert.NormResIdeal.τ).loc Cert.NormResIdeal.main_arg1) = m ((c.tc : Thread Cert.NormResIdeal.nD Cert.NormResIdeal.τ).loc Cert.NormResIdeal.main_arg1)
      ∧ r.2.mem ((c.tc : Thread Cert.NormResIdeal.nD Cert.NormResIdeal.τ).loc Cert.NormResIdeal.main_arg2) = m ((c.tc : Thread Cert.NormResIdeal.nD Cert.NormResIdeal.τ).loc Cert.NormResIdeal.main_arg2)
      ∧ r.2.mem ((c.tc : Thread Cert.NormResIdeal.nD Cert.NormResIdeal.τ).loc Cert.NormResIdeal.main_arg3) = m ((c.tc : Thread Cert.NormResIdeal.nD Cert.NormResIdeal.τ).loc Cert.NormResIdeal.main_arg3))
      ∧ r.2.sem = fun _ => 0)

def quiescent_NormResRefIdeal [hNormResRefIdeal : Cert.NormResRefIdeal.Facts] : Prop :=
  ∀ (m : (ℓ : Loc Cert.NormResRefIdeal.nD Cert.NormResRefIdeal.τ Cert.NormResRefIdeal.sig) → Buf (Elt Ideal) ℓ) (g : Dev Cert.NormResRefIdeal.nD → PrngReg), Pre_NormResRefIdeal m →
    θ_run (Cert.NormResRefIdeal.defs (F := Ideal)) (onTc (τ := Cert.NormResRefIdeal.τ) (Cert.NormResRefIdeal.main (F := Ideal))) ⟨m, fun _ => 0, g⟩ (fun r => (∀ c : Dev Cert.NormResRefIdeal.nD,
      r.2.mem ((c.tc : Thread Cert.NormResRefIdeal.nD Cert.NormResRefIdeal.τ).loc Cert.NormResRefIdeal.main_arg0) = m ((c.tc : Thread Cert.NormResRefIdeal.nD Cert.NormResRefIdeal.τ).loc Cert.NormResRefIdeal.main_arg0)
      ∧ r.2.mem ((c.tc : Thread Cert.NormResRefIdeal.nD Cert.NormResRefIdeal.τ).loc Cert.NormResRefIdeal.main_arg1) = m ((c.tc : Thread Cert.NormResRefIdeal.nD Cert.NormResRefIdeal.τ).loc Cert.NormResRefIdeal.main_arg1)
      ∧ r.2.mem ((c.tc : Thread Cert.NormResRefIdeal.nD Cert.NormResRefIdeal.τ).loc Cert.NormResRefIdeal.main_arg2) = m ((c.tc : Thread Cert.NormResRefIdeal.nD Cert.NormResRefIdeal.τ).loc Cert.NormResRefIdeal.main_arg2)
      ∧ r.2.mem ((c.tc : Thread Cert.NormResRefIdeal.nD Cert.NormResRefIdeal.τ).loc Cert.NormResRefIdeal.main_arg3) = m ((c.tc : Thread Cert.NormResRefIdeal.nD Cert.NormResRefIdeal.τ).loc Cert.NormResRefIdeal.main_arg3))
      ∧ r.2.sem = fun _ => 0)

def quiescent_NormResRefIdeal_pre_norm_res_finite [hNormResRefIdeal : Cert.NormResRefIdeal.Facts] [hPre_norm_res_finite : Cert.Pre_norm_res_finite.Facts] : Prop :=
  ∀ (m : (ℓ : Loc Cert.NormResRefIdeal.nD Cert.NormResRefIdeal.τ Cert.NormResRefIdeal.sig) → Buf (Elt Ideal) ℓ) (g : Dev Cert.NormResRefIdeal.nD → PrngReg), Pre_NormResRefIdeal_norm_res_finite m →
    θ_run (Cert.NormResRefIdeal.defs (F := Ideal)) (onTc (τ := Cert.NormResRefIdeal.τ) (Cert.NormResRefIdeal.main (F := Ideal))) ⟨m, fun _ => 0, g⟩ (fun r => (∀ c : Dev Cert.NormResRefIdeal.nD,
      r.2.mem ((c.tc : Thread Cert.NormResRefIdeal.nD Cert.NormResRefIdeal.τ).loc Cert.NormResRefIdeal.main_arg0) = m ((c.tc : Thread Cert.NormResRefIdeal.nD Cert.NormResRefIdeal.τ).loc Cert.NormResRefIdeal.main_arg0)
      ∧ r.2.mem ((c.tc : Thread Cert.NormResRefIdeal.nD Cert.NormResRefIdeal.τ).loc Cert.NormResRefIdeal.main_arg1) = m ((c.tc : Thread Cert.NormResRefIdeal.nD Cert.NormResRefIdeal.τ).loc Cert.NormResRefIdeal.main_arg1)
      ∧ r.2.mem ((c.tc : Thread Cert.NormResRefIdeal.nD Cert.NormResRefIdeal.τ).loc Cert.NormResRefIdeal.main_arg2) = m ((c.tc : Thread Cert.NormResRefIdeal.nD Cert.NormResRefIdeal.τ).loc Cert.NormResRefIdeal.main_arg2)
      ∧ r.2.mem ((c.tc : Thread Cert.NormResRefIdeal.nD Cert.NormResRefIdeal.τ).loc Cert.NormResRefIdeal.main_arg3) = m ((c.tc : Thread Cert.NormResRefIdeal.nD Cert.NormResRefIdeal.τ).loc Cert.NormResRefIdeal.main_arg3))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1)
      ∧ r.2.mem ((c.tc : Thread Cert.NormMem.nD Cert.NormMem.τ).loc Cert.NormMem.main_arg2) = m ((c.tc : Thread Cert.NormMem.nD Cert.NormMem.τ).loc Cert.NormMem.main_arg2))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
      ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ r.2.sem = fun _ => 0)

def quiescent_NormMemIdeal_pre_norm_mem_finite [hNormMemIdeal : Cert.NormMemIdeal.Facts] [hPre_norm_mem_finite : Cert.Pre_norm_mem_finite.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal_norm_mem_finite m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
      ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1)
      ∧ r.2.mem ((c.tc : Thread Cert.NormMemRefIdeal.nD Cert.NormMemRefIdeal.τ).loc Cert.NormMemRefIdeal.main_arg2) = m ((c.tc : Thread Cert.NormMemRefIdeal.nD Cert.NormMemRefIdeal.τ).loc Cert.NormMemRefIdeal.main_arg2))
      ∧ r.2.sem = fun _ => 0)

def quiescent_NormMemRefIdeal_pre_norm_mem_finite [hNormMemRefIdeal : Cert.NormMemRefIdeal.Facts] [hPre_norm_mem_finite : Cert.Pre_norm_mem_finite.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal_norm_mem_finite m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1)
      ∧ r.2.mem ((c.tc : Thread Cert.NormMemRefIdeal.nD Cert.NormMemRefIdeal.τ).loc Cert.NormMemRefIdeal.main_arg2) = m ((c.tc : Thread Cert.NormMemRefIdeal.nD Cert.NormMemRefIdeal.τ).loc Cert.NormMemRefIdeal.main_arg2))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2))
      ∧ r.2.sem = fun _ => 0)

def quiescent_LruConv [hLruConv : Cert.LruConv.Facts] : Prop :=
  ∀ (m : (ℓ : Loc Cert.LruConv.nD Cert.LruConv.τ Cert.LruConv.sig) → Buf (Elt Bits) ℓ) (g : Dev Cert.LruConv.nD → PrngReg), Pre_LruConv m →
    θ_run (Cert.LruConv.defs (F := Bits)) (onTc (τ := Cert.LruConv.τ) (Cert.LruConv.main (F := Bits))) ⟨m, fun _ => 0, g⟩ (fun r => (∀ c : Dev Cert.LruConv.nD,
      r.2.mem ((c.tc : Thread Cert.LruConv.nD Cert.LruConv.τ).loc Cert.LruConv.main_arg0) = m ((c.tc : Thread Cert.LruConv.nD Cert.LruConv.τ).loc Cert.LruConv.main_arg0)
      ∧ r.2.mem ((c.tc : Thread Cert.LruConv.nD Cert.LruConv.τ).loc Cert.LruConv.main_arg1) = m ((c.tc : Thread Cert.LruConv.nD Cert.LruConv.τ).loc Cert.LruConv.main_arg1)
      ∧ r.2.mem ((c.tc : Thread Cert.LruConv.nD Cert.LruConv.τ).loc Cert.LruConv.main_arg2) = m ((c.tc : Thread Cert.LruConv.nD Cert.LruConv.τ).loc Cert.LruConv.main_arg2)
      ∧ r.2.mem ((c.tc : Thread Cert.LruConv.nD Cert.LruConv.τ).loc Cert.LruConv.main_arg3) = m ((c.tc : Thread Cert.LruConv.nD Cert.LruConv.τ).loc Cert.LruConv.main_arg3))
      ∧ r.2.sem = fun _ => 0)

def quiescent_LruConvIdeal [hLruConvIdeal : Cert.LruConvIdeal.Facts] : Prop :=
  ∀ (m : (ℓ : Loc Cert.LruConvIdeal.nD Cert.LruConvIdeal.τ Cert.LruConvIdeal.sig) → Buf (Elt Ideal) ℓ) (g : Dev Cert.LruConvIdeal.nD → PrngReg), Pre_LruConvIdeal m →
    θ_run (Cert.LruConvIdeal.defs (F := Ideal)) (onTc (τ := Cert.LruConvIdeal.τ) (Cert.LruConvIdeal.main (F := Ideal))) ⟨m, fun _ => 0, g⟩ (fun r => (∀ c : Dev Cert.LruConvIdeal.nD,
      r.2.mem ((c.tc : Thread Cert.LruConvIdeal.nD Cert.LruConvIdeal.τ).loc Cert.LruConvIdeal.main_arg0) = m ((c.tc : Thread Cert.LruConvIdeal.nD Cert.LruConvIdeal.τ).loc Cert.LruConvIdeal.main_arg0)
      ∧ r.2.mem ((c.tc : Thread Cert.LruConvIdeal.nD Cert.LruConvIdeal.τ).loc Cert.LruConvIdeal.main_arg1) = m ((c.tc : Thread Cert.LruConvIdeal.nD Cert.LruConvIdeal.τ).loc Cert.LruConvIdeal.main_arg1)
      ∧ r.2.mem ((c.tc : Thread Cert.LruConvIdeal.nD Cert.LruConvIdeal.τ).loc Cert.LruConvIdeal.main_arg2) = m ((c.tc : Thread Cert.LruConvIdeal.nD Cert.LruConvIdeal.τ).loc Cert.LruConvIdeal.main_arg2)
      ∧ r.2.mem ((c.tc : Thread Cert.LruConvIdeal.nD Cert.LruConvIdeal.τ).loc Cert.LruConvIdeal.main_arg3) = m ((c.tc : Thread Cert.LruConvIdeal.nD Cert.LruConvIdeal.τ).loc Cert.LruConvIdeal.main_arg3))
      ∧ r.2.sem = fun _ => 0)

def quiescent_LruConvRefIdeal [hLruConvRefIdeal : Cert.LruConvRefIdeal.Facts] : Prop :=
  ∀ (m : (ℓ : Loc Cert.LruConvRefIdeal.nD Cert.LruConvRefIdeal.τ Cert.LruConvRefIdeal.sig) → Buf (Elt Ideal) ℓ) (g : Dev Cert.LruConvRefIdeal.nD → PrngReg), Pre_LruConvRefIdeal m →
    θ_run (Cert.LruConvRefIdeal.defs (F := Ideal)) (onTc (τ := Cert.LruConvRefIdeal.τ) (Cert.LruConvRefIdeal.main (F := Ideal))) ⟨m, fun _ => 0, g⟩ (fun r => (∀ c : Dev Cert.LruConvRefIdeal.nD,
      r.2.mem ((c.tc : Thread Cert.LruConvRefIdeal.nD Cert.LruConvRefIdeal.τ).loc Cert.LruConvRefIdeal.main_arg0) = m ((c.tc : Thread Cert.LruConvRefIdeal.nD Cert.LruConvRefIdeal.τ).loc Cert.LruConvRefIdeal.main_arg0)
      ∧ r.2.mem ((c.tc : Thread Cert.LruConvRefIdeal.nD Cert.LruConvRefIdeal.τ).loc Cert.LruConvRefIdeal.main_arg1) = m ((c.tc : Thread Cert.LruConvRefIdeal.nD Cert.LruConvRefIdeal.τ).loc Cert.LruConvRefIdeal.main_arg1)
      ∧ r.2.mem ((c.tc : Thread Cert.LruConvRefIdeal.nD Cert.LruConvRefIdeal.τ).loc Cert.LruConvRefIdeal.main_arg2) = m ((c.tc : Thread Cert.LruConvRefIdeal.nD Cert.LruConvRefIdeal.τ).loc Cert.LruConvRefIdeal.main_arg2)
      ∧ r.2.mem ((c.tc : Thread Cert.LruConvRefIdeal.nD Cert.LruConvRefIdeal.τ).loc Cert.LruConvRefIdeal.main_arg3) = m ((c.tc : Thread Cert.LruConvRefIdeal.nD Cert.LruConvRefIdeal.τ).loc Cert.LruConvRefIdeal.main_arg3))
      ∧ r.2.sem = fun _ => 0)

def quiescent_Dlogf [hDlogf : Cert.Dlogf.Facts] : Prop :=
  ∀ (m : (ℓ : Loc Cert.Dlogf.nD Cert.Dlogf.τ Cert.Dlogf.sig) → Buf (Elt Bits) ℓ) (g : Dev Cert.Dlogf.nD → PrngReg), Pre_Dlogf m →
    θ_run (Cert.Dlogf.defs (F := Bits)) (onTc (τ := Cert.Dlogf.τ) (Cert.Dlogf.main (F := Bits))) ⟨m, fun _ => 0, g⟩ (fun r => (∀ c : Dev Cert.Dlogf.nD,
      r.2.mem ((c.tc : Thread Cert.Dlogf.nD Cert.Dlogf.τ).loc Cert.Dlogf.main_arg0) = m ((c.tc : Thread Cert.Dlogf.nD Cert.Dlogf.τ).loc Cert.Dlogf.main_arg0)
      ∧ r.2.mem ((c.tc : Thread Cert.Dlogf.nD Cert.Dlogf.τ).loc Cert.Dlogf.main_arg1) = m ((c.tc : Thread Cert.Dlogf.nD Cert.Dlogf.τ).loc Cert.Dlogf.main_arg1)
      ∧ r.2.mem ((c.tc : Thread Cert.Dlogf.nD Cert.Dlogf.τ).loc Cert.Dlogf.main_arg2) = m ((c.tc : Thread Cert.Dlogf.nD Cert.Dlogf.τ).loc Cert.Dlogf.main_arg2)
      ∧ r.2.mem ((c.tc : Thread Cert.Dlogf.nD Cert.Dlogf.τ).loc Cert.Dlogf.main_arg3) = m ((c.tc : Thread Cert.Dlogf.nD Cert.Dlogf.τ).loc Cert.Dlogf.main_arg3))
      ∧ r.2.sem = fun _ => 0)

def quiescent_DlogfIdeal [hDlogfIdeal : Cert.DlogfIdeal.Facts] : Prop :=
  ∀ (m : (ℓ : Loc Cert.DlogfIdeal.nD Cert.DlogfIdeal.τ Cert.DlogfIdeal.sig) → Buf (Elt Ideal) ℓ) (g : Dev Cert.DlogfIdeal.nD → PrngReg), Pre_DlogfIdeal m →
    θ_run (Cert.DlogfIdeal.defs (F := Ideal)) (onTc (τ := Cert.DlogfIdeal.τ) (Cert.DlogfIdeal.main (F := Ideal))) ⟨m, fun _ => 0, g⟩ (fun r => (∀ c : Dev Cert.DlogfIdeal.nD,
      r.2.mem ((c.tc : Thread Cert.DlogfIdeal.nD Cert.DlogfIdeal.τ).loc Cert.DlogfIdeal.main_arg0) = m ((c.tc : Thread Cert.DlogfIdeal.nD Cert.DlogfIdeal.τ).loc Cert.DlogfIdeal.main_arg0)
      ∧ r.2.mem ((c.tc : Thread Cert.DlogfIdeal.nD Cert.DlogfIdeal.τ).loc Cert.DlogfIdeal.main_arg1) = m ((c.tc : Thread Cert.DlogfIdeal.nD Cert.DlogfIdeal.τ).loc Cert.DlogfIdeal.main_arg1)
      ∧ r.2.mem ((c.tc : Thread Cert.DlogfIdeal.nD Cert.DlogfIdeal.τ).loc Cert.DlogfIdeal.main_arg2) = m ((c.tc : Thread Cert.DlogfIdeal.nD Cert.DlogfIdeal.τ).loc Cert.DlogfIdeal.main_arg2)
      ∧ r.2.mem ((c.tc : Thread Cert.DlogfIdeal.nD Cert.DlogfIdeal.τ).loc Cert.DlogfIdeal.main_arg3) = m ((c.tc : Thread Cert.DlogfIdeal.nD Cert.DlogfIdeal.τ).loc Cert.DlogfIdeal.main_arg3))
      ∧ r.2.sem = fun _ => 0)

def quiescent_DlogfRefIdeal [hDlogfRefIdeal : Cert.DlogfRefIdeal.Facts] : Prop :=
  ∀ (m : (ℓ : Loc Cert.DlogfRefIdeal.nD Cert.DlogfRefIdeal.τ Cert.DlogfRefIdeal.sig) → Buf (Elt Ideal) ℓ) (g : Dev Cert.DlogfRefIdeal.nD → PrngReg), Pre_DlogfRefIdeal m →
    θ_run (Cert.DlogfRefIdeal.defs (F := Ideal)) (onTc (τ := Cert.DlogfRefIdeal.τ) (Cert.DlogfRefIdeal.main (F := Ideal))) ⟨m, fun _ => 0, g⟩ (fun r => (∀ c : Dev Cert.DlogfRefIdeal.nD,
      r.2.mem ((c.tc : Thread Cert.DlogfRefIdeal.nD Cert.DlogfRefIdeal.τ).loc Cert.DlogfRefIdeal.main_arg0) = m ((c.tc : Thread Cert.DlogfRefIdeal.nD Cert.DlogfRefIdeal.τ).loc Cert.DlogfRefIdeal.main_arg0)
      ∧ r.2.mem ((c.tc : Thread Cert.DlogfRefIdeal.nD Cert.DlogfRefIdeal.τ).loc Cert.DlogfRefIdeal.main_arg1) = m ((c.tc : Thread Cert.DlogfRefIdeal.nD Cert.DlogfRefIdeal.τ).loc Cert.DlogfRefIdeal.main_arg1)
      ∧ r.2.mem ((c.tc : Thread Cert.DlogfRefIdeal.nD Cert.DlogfRefIdeal.τ).loc Cert.DlogfRefIdeal.main_arg2) = m ((c.tc : Thread Cert.DlogfRefIdeal.nD Cert.DlogfRefIdeal.τ).loc Cert.DlogfRefIdeal.main_arg2)
      ∧ r.2.mem ((c.tc : Thread Cert.DlogfRefIdeal.nD Cert.DlogfRefIdeal.τ).loc Cert.DlogfRefIdeal.main_arg3) = m ((c.tc : Thread Cert.DlogfRefIdeal.nD Cert.DlogfRefIdeal.τ).loc Cert.DlogfRefIdeal.main_arg3))
      ∧ r.2.sem = fun _ => 0)

def quiescent_FfnDa [hFfnDa : Cert.FfnDa.Facts] : Prop :=
  ∀ (m : (ℓ : Loc Cert.FfnDa.nD Cert.FfnDa.τ Cert.FfnDa.sig) → Buf (Elt Bits) ℓ) (g : Dev Cert.FfnDa.nD → PrngReg), Pre_FfnDa m →
    θ_run (Cert.FfnDa.defs (F := Bits)) (onTc (τ := Cert.FfnDa.τ) (Cert.FfnDa.main (F := Bits))) ⟨m, fun _ => 0, g⟩ (fun r => (∀ c : Dev Cert.FfnDa.nD,
      r.2.mem ((c.tc : Thread Cert.FfnDa.nD Cert.FfnDa.τ).loc Cert.FfnDa.main_arg0) = m ((c.tc : Thread Cert.FfnDa.nD Cert.FfnDa.τ).loc Cert.FfnDa.main_arg0)
      ∧ r.2.mem ((c.tc : Thread Cert.FfnDa.nD Cert.FfnDa.τ).loc Cert.FfnDa.main_arg1) = m ((c.tc : Thread Cert.FfnDa.nD Cert.FfnDa.τ).loc Cert.FfnDa.main_arg1)
      ∧ r.2.mem ((c.tc : Thread Cert.FfnDa.nD Cert.FfnDa.τ).loc Cert.FfnDa.main_arg2) = m ((c.tc : Thread Cert.FfnDa.nD Cert.FfnDa.τ).loc Cert.FfnDa.main_arg2)
      ∧ r.2.mem ((c.tc : Thread Cert.FfnDa.nD Cert.FfnDa.τ).loc Cert.FfnDa.main_arg3) = m ((c.tc : Thread Cert.FfnDa.nD Cert.FfnDa.τ).loc Cert.FfnDa.main_arg3))
      ∧ r.2.sem = fun _ => 0)

def quiescent_FfnDaIdeal [hFfnDaIdeal : Cert.FfnDaIdeal.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
      ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ r.2.sem = fun _ => 0)

def quiescent_FfnDaIdeal_pre_ffn_da_finite [hFfnDaIdeal : Cert.FfnDaIdeal.Facts] [hPre_ffn_da_finite : Cert.Pre_ffn_da_finite.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal_ffn_da_finite m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
      ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ r.2.sem = fun _ => 0)

def quiescent_FfnDaRefIdeal [hFfnDaRefIdeal : Cert.FfnDaRefIdeal.Facts] : Prop :=
  ∀ (m : (ℓ : Loc Cert.FfnDaRefIdeal.nD Cert.FfnDaRefIdeal.τ Cert.FfnDaRefIdeal.sig) → Buf (Elt Ideal) ℓ) (g : Dev Cert.FfnDaRefIdeal.nD → PrngReg), Pre_FfnDaRefIdeal m →
    θ_run (Cert.FfnDaRefIdeal.defs (F := Ideal)) (onTc (τ := Cert.FfnDaRefIdeal.τ) (Cert.FfnDaRefIdeal.main (F := Ideal))) ⟨m, fun _ => 0, g⟩ (fun r => (∀ c : Dev Cert.FfnDaRefIdeal.nD,
      r.2.mem ((c.tc : Thread Cert.FfnDaRefIdeal.nD Cert.FfnDaRefIdeal.τ).loc Cert.FfnDaRefIdeal.main_arg0) = m ((c.tc : Thread Cert.FfnDaRefIdeal.nD Cert.FfnDaRefIdeal.τ).loc Cert.FfnDaRefIdeal.main_arg0)
      ∧ r.2.mem ((c.tc : Thread Cert.FfnDaRefIdeal.nD Cert.FfnDaRefIdeal.τ).loc Cert.FfnDaRefIdeal.main_arg1) = m ((c.tc : Thread Cert.FfnDaRefIdeal.nD Cert.FfnDaRefIdeal.τ).loc Cert.FfnDaRefIdeal.main_arg1)
      ∧ r.2.mem ((c.tc : Thread Cert.FfnDaRefIdeal.nD Cert.FfnDaRefIdeal.τ).loc Cert.FfnDaRefIdeal.main_arg2) = m ((c.tc : Thread Cert.FfnDaRefIdeal.nD Cert.FfnDaRefIdeal.τ).loc Cert.FfnDaRefIdeal.main_arg2)
      ∧ r.2.mem ((c.tc : Thread Cert.FfnDaRefIdeal.nD Cert.FfnDaRefIdeal.τ).loc Cert.FfnDaRefIdeal.main_arg3) = m ((c.tc : Thread Cert.FfnDaRefIdeal.nD Cert.FfnDaRefIdeal.τ).loc Cert.FfnDaRefIdeal.main_arg3))
      ∧ r.2.sem = fun _ => 0)

def quiescent_FfnDaRefIdeal_pre_ffn_da_finite [hFfnDaRefIdeal : Cert.FfnDaRefIdeal.Facts] [hPre_ffn_da_finite : Cert.Pre_ffn_da_finite.Facts] : Prop :=
  ∀ (m : (ℓ : Loc Cert.FfnDaRefIdeal.nD Cert.FfnDaRefIdeal.τ Cert.FfnDaRefIdeal.sig) → Buf (Elt Ideal) ℓ) (g : Dev Cert.FfnDaRefIdeal.nD → PrngReg), Pre_FfnDaRefIdeal_ffn_da_finite m →
    θ_run (Cert.FfnDaRefIdeal.defs (F := Ideal)) (onTc (τ := Cert.FfnDaRefIdeal.τ) (Cert.FfnDaRefIdeal.main (F := Ideal))) ⟨m, fun _ => 0, g⟩ (fun r => (∀ c : Dev Cert.FfnDaRefIdeal.nD,
      r.2.mem ((c.tc : Thread Cert.FfnDaRefIdeal.nD Cert.FfnDaRefIdeal.τ).loc Cert.FfnDaRefIdeal.main_arg0) = m ((c.tc : Thread Cert.FfnDaRefIdeal.nD Cert.FfnDaRefIdeal.τ).loc Cert.FfnDaRefIdeal.main_arg0)
      ∧ r.2.mem ((c.tc : Thread Cert.FfnDaRefIdeal.nD Cert.FfnDaRefIdeal.τ).loc Cert.FfnDaRefIdeal.main_arg1) = m ((c.tc : Thread Cert.FfnDaRefIdeal.nD Cert.FfnDaRefIdeal.τ).loc Cert.FfnDaRefIdeal.main_arg1)
      ∧ r.2.mem ((c.tc : Thread Cert.FfnDaRefIdeal.nD Cert.FfnDaRefIdeal.τ).loc Cert.FfnDaRefIdeal.main_arg2) = m ((c.tc : Thread Cert.FfnDaRefIdeal.nD Cert.FfnDaRefIdeal.τ).loc Cert.FfnDaRefIdeal.main_arg2)
      ∧ r.2.mem ((c.tc : Thread Cert.FfnDaRefIdeal.nD Cert.FfnDaRefIdeal.τ).loc Cert.FfnDaRefIdeal.main_arg3) = m ((c.tc : Thread Cert.FfnDaRefIdeal.nD Cert.FfnDaRefIdeal.τ).loc Cert.FfnDaRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3))
      ∧ r.2.sem = fun _ => 0)

def quiescent_XattnIdeal_pre_xattn_finite [hXattnIdeal : Cert.XattnIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_xattn_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3))
      ∧ r.2.sem = fun _ => 0)

def quiescent_XattnRefIdeal_pre_xattn_finite [hXattnRefIdeal : Cert.XattnRefIdeal.Facts] [hPre_xattn_finite : Cert.Pre_xattn_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_xattn_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_XattnFwd [hXattnFwd : Cert.XattnFwd.Facts] : Prop :=
  ∀ (m : (ℓ : Loc Cert.XattnFwd.nD Cert.XattnFwd.τ Cert.XattnFwd.sig) → Buf (Elt Bits) ℓ) (g : Dev Cert.XattnFwd.nD → PrngReg), Pre_XattnFwd m →
    θ_run (Cert.XattnFwd.defs (F := Bits)) (onTc (τ := Cert.XattnFwd.τ) (Cert.XattnFwd.main (F := Bits))) ⟨m, fun _ => 0, g⟩ (fun r => (∀ c : Dev Cert.XattnFwd.nD,
      r.2.mem ((c.tc : Thread Cert.XattnFwd.nD Cert.XattnFwd.τ).loc Cert.XattnFwd.main_arg0) = m ((c.tc : Thread Cert.XattnFwd.nD Cert.XattnFwd.τ).loc Cert.XattnFwd.main_arg0)
      ∧ r.2.mem ((c.tc : Thread Cert.XattnFwd.nD Cert.XattnFwd.τ).loc Cert.XattnFwd.main_arg1) = m ((c.tc : Thread Cert.XattnFwd.nD Cert.XattnFwd.τ).loc Cert.XattnFwd.main_arg1)
      ∧ r.2.mem ((c.tc : Thread Cert.XattnFwd.nD Cert.XattnFwd.τ).loc Cert.XattnFwd.main_arg2) = m ((c.tc : Thread Cert.XattnFwd.nD Cert.XattnFwd.τ).loc Cert.XattnFwd.main_arg2)
      ∧ r.2.mem ((c.tc : Thread Cert.XattnFwd.nD Cert.XattnFwd.τ).loc Cert.XattnFwd.main_arg3) = m ((c.tc : Thread Cert.XattnFwd.nD Cert.XattnFwd.τ).loc Cert.XattnFwd.main_arg3))
      ∧ r.2.sem = fun _ => 0)

def quiescent_XattnFwdIdeal [hXattnFwdIdeal : Cert.XattnFwdIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1)
      ∧ r.2.mem ((c.tc : Thread Cert.XattnFwdIdeal.nD Cert.XattnFwdIdeal.τ).loc Cert.XattnFwdIdeal.main_arg2) = m ((c.tc : Thread Cert.XattnFwdIdeal.nD Cert.XattnFwdIdeal.τ).loc Cert.XattnFwdIdeal.main_arg2)
      ∧ r.2.mem ((c.tc : Thread Cert.XattnFwdIdeal.nD Cert.XattnFwdIdeal.τ).loc Cert.XattnFwdIdeal.main_arg3) = m ((c.tc : Thread Cert.XattnFwdIdeal.nD Cert.XattnFwdIdeal.τ).loc Cert.XattnFwdIdeal.main_arg3))
      ∧ r.2.sem = fun _ => 0)

def quiescent_XattnFwdRefIdeal [hXattnFwdRefIdeal : Cert.XattnFwdRefIdeal.Facts] : Prop :=
  ∀ (m : (ℓ : Loc Cert.XattnFwdRefIdeal.nD Cert.XattnFwdRefIdeal.τ Cert.XattnFwdRefIdeal.sig) → Buf (Elt Ideal) ℓ) (g : Dev Cert.XattnFwdRefIdeal.nD → PrngReg), Pre_XattnFwdRefIdeal m →
    θ_run (Cert.XattnFwdRefIdeal.defs (F := Ideal)) (onTc (τ := Cert.XattnFwdRefIdeal.τ) (Cert.XattnFwdRefIdeal.main (F := Ideal))) ⟨m, fun _ => 0, g⟩ (fun r => (∀ c : Dev Cert.XattnFwdRefIdeal.nD,
      r.2.mem ((c.tc : Thread Cert.XattnFwdRefIdeal.nD Cert.XattnFwdRefIdeal.τ).loc Cert.XattnFwdRefIdeal.main_arg0) = m ((c.tc : Thread Cert.XattnFwdRefIdeal.nD Cert.XattnFwdRefIdeal.τ).loc Cert.XattnFwdRefIdeal.main_arg0)
      ∧ r.2.mem ((c.tc : Thread Cert.XattnFwdRefIdeal.nD Cert.XattnFwdRefIdeal.τ).loc Cert.XattnFwdRefIdeal.main_arg1) = m ((c.tc : Thread Cert.XattnFwdRefIdeal.nD Cert.XattnFwdRefIdeal.τ).loc Cert.XattnFwdRefIdeal.main_arg1)
      ∧ r.2.mem ((c.tc : Thread Cert.XattnFwdRefIdeal.nD Cert.XattnFwdRefIdeal.τ).loc Cert.XattnFwdRefIdeal.main_arg2) = m ((c.tc : Thread Cert.XattnFwdRefIdeal.nD Cert.XattnFwdRefIdeal.τ).loc Cert.XattnFwdRefIdeal.main_arg2)
      ∧ r.2.mem ((c.tc : Thread Cert.XattnFwdRefIdeal.nD Cert.XattnFwdRefIdeal.τ).loc Cert.XattnFwdRefIdeal.main_arg3) = m ((c.tc : Thread Cert.XattnFwdRefIdeal.nD Cert.XattnFwdRefIdeal.τ).loc Cert.XattnFwdRefIdeal.main_arg3))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1)
      ∧ r.2.mem ((c.tc : Thread Cert.FoxFwd.nD Cert.FoxFwd.τ).loc Cert.FoxFwd.main_arg2) = m ((c.tc : Thread Cert.FoxFwd.nD Cert.FoxFwd.τ).loc Cert.FoxFwd.main_arg2)
      ∧ r.2.mem ((c.tc : Thread Cert.FoxFwd.nD Cert.FoxFwd.τ).loc Cert.FoxFwd.main_arg3) = m ((c.tc : Thread Cert.FoxFwd.nD Cert.FoxFwd.τ).loc Cert.FoxFwd.main_arg3))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdIdeal_pre_fox_fwd_finite [hFoxFwdIdeal : Cert.FoxFwdIdeal.Facts] [hPre_fox_fwd_finite : Cert.Pre_fox_fwd_finite.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal_fox_fwd_finite m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdRefIdeal [hFoxFwdRefIdeal : Cert.FoxFwdRefIdeal.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_FoxFwdRefIdeal_pre_fox_fwd_finite [hFoxFwdRefIdeal : Cert.FoxFwdRefIdeal.Facts] [hPre_fox_fwd_finite : Cert.Pre_fox_fwd_finite.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal_fox_fwd_finite m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_NormAdd [hNormAdd : Cert.NormAdd.Facts] : Prop :=
  ∀ (m : (ℓ : Loc Cert.NormAdd.nD Cert.NormAdd.τ Cert.NormAdd.sig) → Buf (Elt Bits) ℓ) (g : Dev Cert.NormAdd.nD → PrngReg), Pre_NormAdd m →
    θ_run (Cert.NormAdd.defs (F := Bits)) (onTc (τ := Cert.NormAdd.τ) (Cert.NormAdd.main (F := Bits))) ⟨m, fun _ => 0, g⟩ (fun r => (∀ c : Dev Cert.NormAdd.nD,
      r.2.mem ((c.tc : Thread Cert.NormAdd.nD Cert.NormAdd.τ).loc Cert.NormAdd.main_arg0) = m ((c.tc : Thread Cert.NormAdd.nD Cert.NormAdd.τ).loc Cert.NormAdd.main_arg0)
      ∧ r.2.mem ((c.tc : Thread Cert.NormAdd.nD Cert.NormAdd.τ).loc Cert.NormAdd.main_arg1) = m ((c.tc : Thread Cert.NormAdd.nD Cert.NormAdd.τ).loc Cert.NormAdd.main_arg1)
      ∧ r.2.mem ((c.tc : Thread Cert.NormAdd.nD Cert.NormAdd.τ).loc Cert.NormAdd.main_arg2) = m ((c.tc : Thread Cert.NormAdd.nD Cert.NormAdd.τ).loc Cert.NormAdd.main_arg2))
      ∧ r.2.sem = fun _ => 0)

def quiescent_NormAddIdeal [hNormAddIdeal : Cert.NormAddIdeal.Facts] : Prop :=
  ∀ (m : (ℓ : Loc Cert.NormAddIdeal.nD Cert.NormAddIdeal.τ Cert.NormAddIdeal.sig) → Buf (Elt Ideal) ℓ) (g : Dev Cert.NormAddIdeal.nD → PrngReg), Pre_NormAddIdeal m →
    θ_run (Cert.NormAddIdeal.defs (F := Ideal)) (onTc (τ := Cert.NormAddIdeal.τ) (Cert.NormAddIdeal.main (F := Ideal))) ⟨m, fun _ => 0, g⟩ (fun r => (∀ c : Dev Cert.NormAddIdeal.nD,
      r.2.mem ((c.tc : Thread Cert.NormAddIdeal.nD Cert.NormAddIdeal.τ).loc Cert.NormAddIdeal.main_arg0) = m ((c.tc : Thread Cert.NormAddIdeal.nD Cert.NormAddIdeal.τ).loc Cert.NormAddIdeal.main_arg0)
      ∧ r.2.mem ((c.tc : Thread Cert.NormAddIdeal.nD Cert.NormAddIdeal.τ).loc Cert.NormAddIdeal.main_arg1) = m ((c.tc : Thread Cert.NormAddIdeal.nD Cert.NormAddIdeal.τ).loc Cert.NormAddIdeal.main_arg1)
      ∧ r.2.mem ((c.tc : Thread Cert.NormAddIdeal.nD Cert.NormAddIdeal.τ).loc Cert.NormAddIdeal.main_arg2) = m ((c.tc : Thread Cert.NormAddIdeal.nD Cert.NormAddIdeal.τ).loc Cert.NormAddIdeal.main_arg2))
      ∧ r.2.sem = fun _ => 0)

def quiescent_NormAddRefIdeal [hNormAddRefIdeal : Cert.NormAddRefIdeal.Facts] : Prop :=
  ∀ (m : (ℓ : Loc Cert.NormAddRefIdeal.nD Cert.NormAddRefIdeal.τ Cert.NormAddRefIdeal.sig) → Buf (Elt Ideal) ℓ) (g : Dev Cert.NormAddRefIdeal.nD → PrngReg), Pre_NormAddRefIdeal m →
    θ_run (Cert.NormAddRefIdeal.defs (F := Ideal)) (onTc (τ := Cert.NormAddRefIdeal.τ) (Cert.NormAddRefIdeal.main (F := Ideal))) ⟨m, fun _ => 0, g⟩ (fun r => (∀ c : Dev Cert.NormAddRefIdeal.nD,
      r.2.mem ((c.tc : Thread Cert.NormAddRefIdeal.nD Cert.NormAddRefIdeal.τ).loc Cert.NormAddRefIdeal.main_arg0) = m ((c.tc : Thread Cert.NormAddRefIdeal.nD Cert.NormAddRefIdeal.τ).loc Cert.NormAddRefIdeal.main_arg0)
      ∧ r.2.mem ((c.tc : Thread Cert.NormAddRefIdeal.nD Cert.NormAddRefIdeal.τ).loc Cert.NormAddRefIdeal.main_arg1) = m ((c.tc : Thread Cert.NormAddRefIdeal.nD Cert.NormAddRefIdeal.τ).loc Cert.NormAddRefIdeal.main_arg1)
      ∧ r.2.mem ((c.tc : Thread Cert.NormAddRefIdeal.nD Cert.NormAddRefIdeal.τ).loc Cert.NormAddRefIdeal.main_arg2) = m ((c.tc : Thread Cert.NormAddRefIdeal.nD Cert.NormAddRefIdeal.τ).loc Cert.NormAddRefIdeal.main_arg2))
      ∧ r.2.sem = fun _ => 0)

def quiescent_SconvFwd [hSconvFwd : Cert.SconvFwd.Facts] : Prop :=
  ∀ (m : (ℓ : Loc Cert.SconvFwd.nD Cert.SconvFwd.τ Cert.SconvFwd.sig) → Buf (Elt Bits) ℓ) (g : Dev Cert.SconvFwd.nD → PrngReg), Pre_SconvFwd m →
    θ_run (Cert.SconvFwd.defs (F := Bits)) (onTc (τ := Cert.SconvFwd.τ) (Cert.SconvFwd.main (F := Bits))) ⟨m, fun _ => 0, g⟩ (fun r => (∀ c : Dev Cert.SconvFwd.nD,
      r.2.mem ((c.tc : Thread Cert.SconvFwd.nD Cert.SconvFwd.τ).loc Cert.SconvFwd.main_arg0) = m ((c.tc : Thread Cert.SconvFwd.nD Cert.SconvFwd.τ).loc Cert.SconvFwd.main_arg0)
      ∧ r.2.mem ((c.tc : Thread Cert.SconvFwd.nD Cert.SconvFwd.τ).loc Cert.SconvFwd.main_arg1) = m ((c.tc : Thread Cert.SconvFwd.nD Cert.SconvFwd.τ).loc Cert.SconvFwd.main_arg1))
      ∧ r.2.sem = fun _ => 0)

def quiescent_SconvFwdIdeal [hSconvFwdIdeal : Cert.SconvFwdIdeal.Facts] : Prop :=
  ∀ (m : (ℓ : Loc Cert.SconvFwdIdeal.nD Cert.SconvFwdIdeal.τ Cert.SconvFwdIdeal.sig) → Buf (Elt Ideal) ℓ) (g : Dev Cert.SconvFwdIdeal.nD → PrngReg), Pre_SconvFwdIdeal m →
    θ_run (Cert.SconvFwdIdeal.defs (F := Ideal)) (onTc (τ := Cert.SconvFwdIdeal.τ) (Cert.SconvFwdIdeal.main (F := Ideal))) ⟨m, fun _ => 0, g⟩ (fun r => (∀ c : Dev Cert.SconvFwdIdeal.nD,
      r.2.mem ((c.tc : Thread Cert.SconvFwdIdeal.nD Cert.SconvFwdIdeal.τ).loc Cert.SconvFwdIdeal.main_arg0) = m ((c.tc : Thread Cert.SconvFwdIdeal.nD Cert.SconvFwdIdeal.τ).loc Cert.SconvFwdIdeal.main_arg0)
      ∧ r.2.mem ((c.tc : Thread Cert.SconvFwdIdeal.nD Cert.SconvFwdIdeal.τ).loc Cert.SconvFwdIdeal.main_arg1) = m ((c.tc : Thread Cert.SconvFwdIdeal.nD Cert.SconvFwdIdeal.τ).loc Cert.SconvFwdIdeal.main_arg1))
      ∧ r.2.sem = fun _ => 0)

def quiescent_SconvFwdRefIdeal [hSconvFwdRefIdeal : Cert.SconvFwdRefIdeal.Facts] : Prop :=
  ∀ (m : (ℓ : Loc Cert.SconvFwdRefIdeal.nD Cert.SconvFwdRefIdeal.τ Cert.SconvFwdRefIdeal.sig) → Buf (Elt Ideal) ℓ) (g : Dev Cert.SconvFwdRefIdeal.nD → PrngReg), Pre_SconvFwdRefIdeal m →
    θ_run (Cert.SconvFwdRefIdeal.defs (F := Ideal)) (onTc (τ := Cert.SconvFwdRefIdeal.τ) (Cert.SconvFwdRefIdeal.main (F := Ideal))) ⟨m, fun _ => 0, g⟩ (fun r => (∀ c : Dev Cert.SconvFwdRefIdeal.nD,
      r.2.mem ((c.tc : Thread Cert.SconvFwdRefIdeal.nD Cert.SconvFwdRefIdeal.τ).loc Cert.SconvFwdRefIdeal.main_arg0) = m ((c.tc : Thread Cert.SconvFwdRefIdeal.nD Cert.SconvFwdRefIdeal.τ).loc Cert.SconvFwdRefIdeal.main_arg0)
      ∧ r.2.mem ((c.tc : Thread Cert.SconvFwdRefIdeal.nD Cert.SconvFwdRefIdeal.τ).loc Cert.SconvFwdRefIdeal.main_arg1) = m ((c.tc : Thread Cert.SconvFwdRefIdeal.nD Cert.SconvFwdRefIdeal.τ).loc Cert.SconvFwdRefIdeal.main_arg1))
      ∧ r.2.sem = fun _ => 0)

def quiescent_LruConvFwd [hLruConvFwd : Cert.LruConvFwd.Facts] : Prop :=
  ∀ (m : (ℓ : Loc Cert.LruConvFwd.nD Cert.LruConvFwd.τ Cert.LruConvFwd.sig) → Buf (Elt Bits) ℓ) (g : Dev Cert.LruConvFwd.nD → PrngReg), Pre_LruConvFwd m →
    θ_run (Cert.LruConvFwd.defs (F := Bits)) (onTc (τ := Cert.LruConvFwd.τ) (Cert.LruConvFwd.main (F := Bits))) ⟨m, fun _ => 0, g⟩ (fun r => (∀ c : Dev Cert.LruConvFwd.nD,
      r.2.mem ((c.tc : Thread Cert.LruConvFwd.nD Cert.LruConvFwd.τ).loc Cert.LruConvFwd.main_arg0) = m ((c.tc : Thread Cert.LruConvFwd.nD Cert.LruConvFwd.τ).loc Cert.LruConvFwd.main_arg0)
      ∧ r.2.mem ((c.tc : Thread Cert.LruConvFwd.nD Cert.LruConvFwd.τ).loc Cert.LruConvFwd.main_arg1) = m ((c.tc : Thread Cert.LruConvFwd.nD Cert.LruConvFwd.τ).loc Cert.LruConvFwd.main_arg1)
      ∧ r.2.mem ((c.tc : Thread Cert.LruConvFwd.nD Cert.LruConvFwd.τ).loc Cert.LruConvFwd.main_arg2) = m ((c.tc : Thread Cert.LruConvFwd.nD Cert.LruConvFwd.τ).loc Cert.LruConvFwd.main_arg2))
      ∧ r.2.sem = fun _ => 0)

def quiescent_LruConvFwdIdeal [hLruConvFwdIdeal : Cert.LruConvFwdIdeal.Facts] : Prop :=
  ∀ (m : (ℓ : Loc Cert.LruConvFwdIdeal.nD Cert.LruConvFwdIdeal.τ Cert.LruConvFwdIdeal.sig) → Buf (Elt Ideal) ℓ) (g : Dev Cert.LruConvFwdIdeal.nD → PrngReg), Pre_LruConvFwdIdeal m →
    θ_run (Cert.LruConvFwdIdeal.defs (F := Ideal)) (onTc (τ := Cert.LruConvFwdIdeal.τ) (Cert.LruConvFwdIdeal.main (F := Ideal))) ⟨m, fun _ => 0, g⟩ (fun r => (∀ c : Dev Cert.LruConvFwdIdeal.nD,
      r.2.mem ((c.tc : Thread Cert.LruConvFwdIdeal.nD Cert.LruConvFwdIdeal.τ).loc Cert.LruConvFwdIdeal.main_arg0) = m ((c.tc : Thread Cert.LruConvFwdIdeal.nD Cert.LruConvFwdIdeal.τ).loc Cert.LruConvFwdIdeal.main_arg0)
      ∧ r.2.mem ((c.tc : Thread Cert.LruConvFwdIdeal.nD Cert.LruConvFwdIdeal.τ).loc Cert.LruConvFwdIdeal.main_arg1) = m ((c.tc : Thread Cert.LruConvFwdIdeal.nD Cert.LruConvFwdIdeal.τ).loc Cert.LruConvFwdIdeal.main_arg1)
      ∧ r.2.mem ((c.tc : Thread Cert.LruConvFwdIdeal.nD Cert.LruConvFwdIdeal.τ).loc Cert.LruConvFwdIdeal.main_arg2) = m ((c.tc : Thread Cert.LruConvFwdIdeal.nD Cert.LruConvFwdIdeal.τ).loc Cert.LruConvFwdIdeal.main_arg2))
      ∧ r.2.sem = fun _ => 0)

def quiescent_LruConvFwdRefIdeal [hLruConvFwdRefIdeal : Cert.LruConvFwdRefIdeal.Facts] : Prop :=
  ∀ (m : (ℓ : Loc Cert.LruConvFwdRefIdeal.nD Cert.LruConvFwdRefIdeal.τ Cert.LruConvFwdRefIdeal.sig) → Buf (Elt Ideal) ℓ) (g : Dev Cert.LruConvFwdRefIdeal.nD → PrngReg), Pre_LruConvFwdRefIdeal m →
    θ_run (Cert.LruConvFwdRefIdeal.defs (F := Ideal)) (onTc (τ := Cert.LruConvFwdRefIdeal.τ) (Cert.LruConvFwdRefIdeal.main (F := Ideal))) ⟨m, fun _ => 0, g⟩ (fun r => (∀ c : Dev Cert.LruConvFwdRefIdeal.nD,
      r.2.mem ((c.tc : Thread Cert.LruConvFwdRefIdeal.nD Cert.LruConvFwdRefIdeal.τ).loc Cert.LruConvFwdRefIdeal.main_arg0) = m ((c.tc : Thread Cert.LruConvFwdRefIdeal.nD Cert.LruConvFwdRefIdeal.τ).loc Cert.LruConvFwdRefIdeal.main_arg0)
      ∧ r.2.mem ((c.tc : Thread Cert.LruConvFwdRefIdeal.nD Cert.LruConvFwdRefIdeal.τ).loc Cert.LruConvFwdRefIdeal.main_arg1) = m ((c.tc : Thread Cert.LruConvFwdRefIdeal.nD Cert.LruConvFwdRefIdeal.τ).loc Cert.LruConvFwdRefIdeal.main_arg1)
      ∧ r.2.mem ((c.tc : Thread Cert.LruConvFwdRefIdeal.nD Cert.LruConvFwdRefIdeal.τ).loc Cert.LruConvFwdRefIdeal.main_arg2) = m ((c.tc : Thread Cert.LruConvFwdRefIdeal.nD Cert.LruConvFwdRefIdeal.τ).loc Cert.LruConvFwdRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FoxCum [hFoxCum : Cert.FoxCum.Facts] : Prop :=
  ∀ (m : (ℓ : Loc Cert.FoxCum.nD Cert.FoxCum.τ Cert.FoxCum.sig) → Buf (Elt Bits) ℓ) (g : Dev Cert.FoxCum.nD → PrngReg), Pre_FoxCum m →
    θ_run (Cert.FoxCum.defs (F := Bits)) (onTc (τ := Cert.FoxCum.τ) (Cert.FoxCum.main (F := Bits))) ⟨m, fun _ => 0, g⟩ (fun r => (∀ c : Dev Cert.FoxCum.nD,
      r.2.mem ((c.tc : Thread Cert.FoxCum.nD Cert.FoxCum.τ).loc Cert.FoxCum.main_arg0) = m ((c.tc : Thread Cert.FoxCum.nD Cert.FoxCum.τ).loc Cert.FoxCum.main_arg0)
      ∧ r.2.mem ((c.tc : Thread Cert.FoxCum.nD Cert.FoxCum.τ).loc Cert.FoxCum.main_arg1) = m ((c.tc : Thread Cert.FoxCum.nD Cert.FoxCum.τ).loc Cert.FoxCum.main_arg1))
      ∧ r.2.sem = fun _ => 0)

def quiescent_FoxCumIdeal [hFoxCumIdeal : Cert.FoxCumIdeal.Facts] : Prop :=
  ∀ (m : (ℓ : Loc Cert.FoxCumIdeal.nD Cert.FoxCumIdeal.τ Cert.FoxCumIdeal.sig) → Buf (Elt Ideal) ℓ) (g : Dev Cert.FoxCumIdeal.nD → PrngReg), Pre_FoxCumIdeal m →
    θ_run (Cert.FoxCumIdeal.defs (F := Ideal)) (onTc (τ := Cert.FoxCumIdeal.τ) (Cert.FoxCumIdeal.main (F := Ideal))) ⟨m, fun _ => 0, g⟩ (fun r => (∀ c : Dev Cert.FoxCumIdeal.nD,
      r.2.mem ((c.tc : Thread Cert.FoxCumIdeal.nD Cert.FoxCumIdeal.τ).loc Cert.FoxCumIdeal.main_arg0) = m ((c.tc : Thread Cert.FoxCumIdeal.nD Cert.FoxCumIdeal.τ).loc Cert.FoxCumIdeal.main_arg0)
      ∧ r.2.mem ((c.tc : Thread Cert.FoxCumIdeal.nD Cert.FoxCumIdeal.τ).loc Cert.FoxCumIdeal.main_arg1) = m ((c.tc : Thread Cert.FoxCumIdeal.nD Cert.FoxCumIdeal.τ).loc Cert.FoxCumIdeal.main_arg1))
      ∧ r.2.sem = fun _ => 0)

def quiescent_FoxCumRefIdeal [hFoxCumRefIdeal : Cert.FoxCumRefIdeal.Facts] : Prop :=
  ∀ (m : (ℓ : Loc Cert.FoxCumRefIdeal.nD Cert.FoxCumRefIdeal.τ Cert.FoxCumRefIdeal.sig) → Buf (Elt Ideal) ℓ) (g : Dev Cert.FoxCumRefIdeal.nD → PrngReg), Pre_FoxCumRefIdeal m →
    θ_run (Cert.FoxCumRefIdeal.defs (F := Ideal)) (onTc (τ := Cert.FoxCumRefIdeal.τ) (Cert.FoxCumRefIdeal.main (F := Ideal))) ⟨m, fun _ => 0, g⟩ (fun r => (∀ c : Dev Cert.FoxCumRefIdeal.nD,
      r.2.mem ((c.tc : Thread Cert.FoxCumRefIdeal.nD Cert.FoxCumRefIdeal.τ).loc Cert.FoxCumRefIdeal.main_arg0) = m ((c.tc : Thread Cert.FoxCumRefIdeal.nD Cert.FoxCumRefIdeal.τ).loc Cert.FoxCumRefIdeal.main_arg0)
      ∧ r.2.mem ((c.tc : Thread Cert.FoxCumRefIdeal.nD Cert.FoxCumRefIdeal.τ).loc Cert.FoxCumRefIdeal.main_arg1) = m ((c.tc : Thread Cert.FoxCumRefIdeal.nD Cert.FoxCumRefIdeal.τ).loc Cert.FoxCumRefIdeal.main_arg1))
      ∧ r.2.sem = fun _ => 0)

def quiescent_LruScan [hLruScan : Cert.LruScan.Facts] : Prop :=
  ∀ (m : (ℓ : Loc Cert.LruScan.nD Cert.LruScan.τ Cert.LruScan.sig) → Buf (Elt Bits) ℓ) (g : Dev Cert.LruScan.nD → PrngReg), Pre_LruScan m →
    θ_run (Cert.LruScan.defs (F := Bits)) (onTc (τ := Cert.LruScan.τ) (Cert.LruScan.main (F := Bits))) ⟨m, fun _ => 0, g⟩ (fun r => (∀ c : Dev Cert.LruScan.nD,
      r.2.mem ((c.tc : Thread Cert.LruScan.nD Cert.LruScan.τ).loc Cert.LruScan.main_arg0) = m ((c.tc : Thread Cert.LruScan.nD Cert.LruScan.τ).loc Cert.LruScan.main_arg0)
      ∧ r.2.mem ((c.tc : Thread Cert.LruScan.nD Cert.LruScan.τ).loc Cert.LruScan.main_arg1) = m ((c.tc : Thread Cert.LruScan.nD Cert.LruScan.τ).loc Cert.LruScan.main_arg1)
      ∧ r.2.mem ((c.tc : Thread Cert.LruScan.nD Cert.LruScan.τ).loc Cert.LruScan.main_arg2) = m ((c.tc : Thread Cert.LruScan.nD Cert.LruScan.τ).loc Cert.LruScan.main_arg2)
      ∧ r.2.mem ((c.tc : Thread Cert.LruScan.nD Cert.LruScan.τ).loc Cert.LruScan.main_arg3) = m ((c.tc : Thread Cert.LruScan.nD Cert.LruScan.τ).loc Cert.LruScan.main_arg3)
      ∧ r.2.mem ((c.tc : Thread Cert.LruScan.nD Cert.LruScan.τ).loc Cert.LruScan.main_arg4) = m ((c.tc : Thread Cert.LruScan.nD Cert.LruScan.τ).loc Cert.LruScan.main_arg4)
      ∧ r.2.mem ((c.tc : Thread Cert.LruScan.nD Cert.LruScan.τ).loc Cert.LruScan.main_arg5) = m ((c.tc : Thread Cert.LruScan.nD Cert.LruScan.τ).loc Cert.LruScan.main_arg5))
      ∧ r.2.sem = fun _ => 0)

def quiescent_LruScanIdeal [hLruScanIdeal : Cert.LruScanIdeal.Facts] : Prop :=
  ∀ (m : (ℓ : Loc Cert.LruScanIdeal.nD Cert.LruScanIdeal.τ Cert.LruScanIdeal.sig) → Buf (Elt Ideal) ℓ) (g : Dev Cert.LruScanIdeal.nD → PrngReg), Pre_LruScanIdeal m →
    θ_run (Cert.LruScanIdeal.defs (F := Ideal)) (onTc (τ := Cert.LruScanIdeal.τ) (Cert.LruScanIdeal.main (F := Ideal))) ⟨m, fun _ => 0, g⟩ (fun r => (∀ c : Dev Cert.LruScanIdeal.nD,
      r.2.mem ((c.tc : Thread Cert.LruScanIdeal.nD Cert.LruScanIdeal.τ).loc Cert.LruScanIdeal.main_arg0) = m ((c.tc : Thread Cert.LruScanIdeal.nD Cert.LruScanIdeal.τ).loc Cert.LruScanIdeal.main_arg0)
      ∧ r.2.mem ((c.tc : Thread Cert.LruScanIdeal.nD Cert.LruScanIdeal.τ).loc Cert.LruScanIdeal.main_arg1) = m ((c.tc : Thread Cert.LruScanIdeal.nD Cert.LruScanIdeal.τ).loc Cert.LruScanIdeal.main_arg1)
      ∧ r.2.mem ((c.tc : Thread Cert.LruScanIdeal.nD Cert.LruScanIdeal.τ).loc Cert.LruScanIdeal.main_arg2) = m ((c.tc : Thread Cert.LruScanIdeal.nD Cert.LruScanIdeal.τ).loc Cert.LruScanIdeal.main_arg2)
      ∧ r.2.mem ((c.tc : Thread Cert.LruScanIdeal.nD Cert.LruScanIdeal.τ).loc Cert.LruScanIdeal.main_arg3) = m ((c.tc : Thread Cert.LruScanIdeal.nD Cert.LruScanIdeal.τ).loc Cert.LruScanIdeal.main_arg3)
      ∧ r.2.mem ((c.tc : Thread Cert.LruScanIdeal.nD Cert.LruScanIdeal.τ).loc Cert.LruScanIdeal.main_arg4) = m ((c.tc : Thread Cert.LruScanIdeal.nD Cert.LruScanIdeal.τ).loc Cert.LruScanIdeal.main_arg4)
      ∧ r.2.mem ((c.tc : Thread Cert.LruScanIdeal.nD Cert.LruScanIdeal.τ).loc Cert.LruScanIdeal.main_arg5) = m ((c.tc : Thread Cert.LruScanIdeal.nD Cert.LruScanIdeal.τ).loc Cert.LruScanIdeal.main_arg5))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_MmNn [hMmNn : Cert.MmNn.Facts] : Prop :=
  ∀ (m : (ℓ : Loc Cert.MmNn.nD Cert.MmNn.τ Cert.MmNn.sig) → Buf (Elt Bits) ℓ) (g : Dev Cert.MmNn.nD → PrngReg), Pre_MmNn m →
    θ_run (Cert.MmNn.defs (F := Bits)) (onTc (τ := Cert.MmNn.τ) (Cert.MmNn.main (F := Bits))) ⟨m, fun _ => 0, g⟩ (fun r => (∀ c : Dev Cert.MmNn.nD,
      r.2.mem ((c.tc : Thread Cert.MmNn.nD Cert.MmNn.τ).loc Cert.MmNn.main_arg0) = m ((c.tc : Thread Cert.MmNn.nD Cert.MmNn.τ).loc Cert.MmNn.main_arg0)
      ∧ r.2.mem ((c.tc : Thread Cert.MmNn.nD Cert.MmNn.τ).loc Cert.MmNn.main_arg1) = m ((c.tc : Thread Cert.MmNn.nD Cert.MmNn.τ).loc Cert.MmNn.main_arg1))
      ∧ r.2.sem = fun _ => 0)

def quiescent_MmNnIdeal [hMmNnIdeal : Cert.MmNnIdeal.Facts] : Prop :=
  ∀ (m : (ℓ : Loc Cert.MmNnIdeal.nD Cert.MmNnIdeal.τ Cert.MmNnIdeal.sig) → Buf (Elt Ideal) ℓ) (g : Dev Cert.MmNnIdeal.nD → PrngReg), Pre_MmNnIdeal m →
    θ_run (Cert.MmNnIdeal.defs (F := Ideal)) (onTc (τ := Cert.MmNnIdeal.τ) (Cert.MmNnIdeal.main (F := Ideal))) ⟨m, fun _ => 0, g⟩ (fun r => (∀ c : Dev Cert.MmNnIdeal.nD,
      r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
      ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ r.2.sem = fun _ => 0)

def quiescent_MmNnRefIdeal [hMmNnRefIdeal : Cert.MmNnRefIdeal.Facts] : Prop :=
  ∀ (m : (ℓ : Loc Cert.MmNnRefIdeal.nD Cert.MmNnRefIdeal.τ Cert.MmNnRefIdeal.sig) → Buf (Elt Ideal) ℓ) (g : Dev Cert.MmNnRefIdeal.nD → PrngReg), Pre_MmNnRefIdeal m →
    θ_run (Cert.MmNnRefIdeal.defs (F := Ideal)) (onTc (τ := Cert.MmNnRefIdeal.τ) (Cert.MmNnRefIdeal.main (F := Ideal))) ⟨m, fun _ => 0, g⟩ (fun r => (∀ c : Dev Cert.MmNnRefIdeal.nD,
      r.2.mem ((c.tc : Thread Cert.MmNnRefIdeal.nD Cert.MmNnRefIdeal.τ).loc Cert.MmNnRefIdeal.main_arg0) = m ((c.tc : Thread Cert.MmNnRefIdeal.nD Cert.MmNnRefIdeal.τ).loc Cert.MmNnRefIdeal.main_arg0)
      ∧ r.2.mem ((c.tc : Thread Cert.MmNnRefIdeal.nD Cert.MmNnRefIdeal.τ).loc Cert.MmNnRefIdeal.main_arg1) = m ((c.tc : Thread Cert.MmNnRefIdeal.nD Cert.MmNnRefIdeal.τ).loc Cert.MmNnRefIdeal.main_arg1))
      ∧ r.2.sem = fun _ => 0)

def quiescent_MmCols [hMmCols : Cert.MmCols.Facts] : Prop :=
  ∀ (m : (ℓ : Loc Cert.MmCols.nD Cert.MmCols.τ Cert.MmCols.sig) → Buf (Elt Bits) ℓ) (g : Dev Cert.MmCols.nD → PrngReg), Pre_MmCols m →
    θ_run (Cert.MmCols.defs (F := Bits)) (onTc (τ := Cert.MmCols.τ) (Cert.MmCols.main (F := Bits))) ⟨m, fun _ => 0, g⟩ (fun r => (∀ c : Dev Cert.MmCols.nD,
      r.2.mem ((c.tc : Thread Cert.MmCols.nD Cert.MmCols.τ).loc Cert.MmCols.main_arg0) = m ((c.tc : Thread Cert.MmCols.nD Cert.MmCols.τ).loc Cert.MmCols.main_arg0)
      ∧ r.2.mem ((c.tc : Thread Cert.MmCols.nD Cert.MmCols.τ).loc Cert.MmCols.main_arg1) = m ((c.tc : Thread Cert.MmCols.nD Cert.MmCols.τ).loc Cert.MmCols.main_arg1))
      ∧ r.2.sem = fun _ => 0)

def quiescent_MmColsIdeal [hMmColsIdeal : Cert.MmColsIdeal.Facts] : Prop :=
  ∀ (m : (ℓ : Loc Cert.MmColsIdeal.nD Cert.MmColsIdeal.τ Cert.MmColsIdeal.sig) → Buf (Elt Ideal) ℓ) (g : Dev Cert.MmColsIdeal.nD → PrngReg), Pre_MmColsIdeal m →
    θ_run (Cert.MmColsIdeal.defs (F := Ideal)) (onTc (τ := Cert.MmColsIdeal.τ) (Cert.MmColsIdeal.main (F := Ideal))) ⟨m, fun _ => 0, g⟩ (fun r => (∀ c : Dev Cert.MmColsIdeal.nD,
      r.2.mem ((c.tc : Thread Cert.MmColsIdeal.nD Cert.MmColsIdeal.τ).loc Cert.MmColsIdeal.main_arg0) = m ((c.tc : Thread Cert.MmColsIdeal.nD Cert.MmColsIdeal.τ).loc Cert.MmColsIdeal.main_arg0)
      ∧ r.2.mem ((c.tc : Thread Cert.MmColsIdeal.nD Cert.MmColsIdeal.τ).loc Cert.MmColsIdeal.main_arg1) = m ((c.tc : Thread Cert.MmColsIdeal.nD Cert.MmColsIdeal.τ).loc Cert.MmColsIdeal.main_arg1))
      ∧ r.2.sem = fun _ => 0)

def quiescent_MmColsRefIdeal [hMmColsRefIdeal : Cert.MmColsRefIdeal.Facts] : Prop :=
  ∀ (m : (ℓ : Loc Cert.MmColsRefIdeal.nD Cert.MmColsRefIdeal.τ Cert.MmColsRefIdeal.sig) → Buf (Elt Ideal) ℓ) (g : Dev Cert.MmColsRefIdeal.nD → PrngReg), Pre_MmColsRefIdeal m →
    θ_run (Cert.MmColsRefIdeal.defs (F := Ideal)) (onTc (τ := Cert.MmColsRefIdeal.τ) (Cert.MmColsRefIdeal.main (F := Ideal))) ⟨m, fun _ => 0, g⟩ (fun r => (∀ c : Dev Cert.MmColsRefIdeal.nD,
      r.2.mem ((c.tc : Thread Cert.MmColsRefIdeal.nD Cert.MmColsRefIdeal.τ).loc Cert.MmColsRefIdeal.main_arg0) = m ((c.tc : Thread Cert.MmColsRefIdeal.nD Cert.MmColsRefIdeal.τ).loc Cert.MmColsRefIdeal.main_arg0)
      ∧ r.2.mem ((c.tc : Thread Cert.MmColsRefIdeal.nD Cert.MmColsRefIdeal.τ).loc Cert.MmColsRefIdeal.main_arg1) = m ((c.tc : Thread Cert.MmColsRefIdeal.nD Cert.MmColsRefIdeal.τ).loc Cert.MmColsRefIdeal.main_arg1))
      ∧ r.2.sem = fun _ => 0)

def quiescent_MmRows [hMmRows : Cert.MmRows.Facts] : Prop :=
  ∀ (m : (ℓ : Loc Cert.MmRows.nD Cert.MmRows.τ Cert.MmRows.sig) → Buf (Elt Bits) ℓ) (g : Dev Cert.MmRows.nD → PrngReg), Pre_MmRows m →
    θ_run (Cert.MmRows.defs (F := Bits)) (onTc (τ := Cert.MmRows.τ) (Cert.MmRows.main (F := Bits))) ⟨m, fun _ => 0, g⟩ (fun r => (∀ c : Dev Cert.MmRows.nD,
      r.2.mem ((c.tc : Thread Cert.MmRows.nD Cert.MmRows.τ).loc Cert.MmRows.main_arg0) = m ((c.tc : Thread Cert.MmRows.nD Cert.MmRows.τ).loc Cert.MmRows.main_arg0)
      ∧ r.2.mem ((c.tc : Thread Cert.MmRows.nD Cert.MmRows.τ).loc Cert.MmRows.main_arg1) = m ((c.tc : Thread Cert.MmRows.nD Cert.MmRows.τ).loc Cert.MmRows.main_arg1))
      ∧ r.2.sem = fun _ => 0)

def quiescent_MmRowsIdeal [hMmRowsIdeal : Cert.MmRowsIdeal.Facts] : Prop :=
  ∀ (m : (ℓ : Loc Cert.MmRowsIdeal.nD Cert.MmRowsIdeal.τ Cert.MmRowsIdeal.sig) → Buf (Elt Ideal) ℓ) (g : Dev Cert.MmRowsIdeal.nD → PrngReg), Pre_MmRowsIdeal m →
    θ_run (Cert.MmRowsIdeal.defs (F := Ideal)) (onTc (τ := Cert.MmRowsIdeal.τ) (Cert.MmRowsIdeal.main (F := Ideal))) ⟨m, fun _ => 0, g⟩ (fun r => (∀ c : Dev Cert.MmRowsIdeal.nD,
      r.2.mem ((c.tc : Thread Cert.MmRowsIdeal.nD Cert.MmRowsIdeal.τ).loc Cert.MmRowsIdeal.main_arg0) = m ((c.tc : Thread Cert.MmRowsIdeal.nD Cert.MmRowsIdeal.τ).loc Cert.MmRowsIdeal.main_arg0)
      ∧ r.2.mem ((c.tc : Thread Cert.MmRowsIdeal.nD Cert.MmRowsIdeal.τ).loc Cert.MmRowsIdeal.main_arg1) = m ((c.tc : Thread Cert.MmRowsIdeal.nD Cert.MmRowsIdeal.τ).loc Cert.MmRowsIdeal.main_arg1))
      ∧ r.2.sem = fun _ => 0)

def quiescent_MmRowsRefIdeal [hMmRowsRefIdeal : Cert.MmRowsRefIdeal.Facts] : Prop :=
  ∀ (m : (ℓ : Loc Cert.MmRowsRefIdeal.nD Cert.MmRowsRefIdeal.τ Cert.MmRowsRefIdeal.sig) → Buf (Elt Ideal) ℓ) (g : Dev Cert.MmRowsRefIdeal.nD → PrngReg), Pre_MmRowsRefIdeal m →
    θ_run (Cert.MmRowsRefIdeal.defs (F := Ideal)) (onTc (τ := Cert.MmRowsRefIdeal.τ) (Cert.MmRowsRefIdeal.main (F := Ideal))) ⟨m, fun _ => 0, g⟩ (fun r => (∀ c : Dev Cert.MmRowsRefIdeal.nD,
      r.2.mem ((c.tc : Thread Cert.MmRowsRefIdeal.nD Cert.MmRowsRefIdeal.τ).loc Cert.MmRowsRefIdeal.main_arg0) = m ((c.tc : Thread Cert.MmRowsRefIdeal.nD Cert.MmRowsRefIdeal.τ).loc Cert.MmRowsRefIdeal.main_arg0)
      ∧ r.2.mem ((c.tc : Thread Cert.MmRowsRefIdeal.nD Cert.MmRowsRefIdeal.τ).loc Cert.MmRowsRefIdeal.main_arg1) = m ((c.tc : Thread Cert.MmRowsRefIdeal.nD Cert.MmRowsRefIdeal.τ).loc Cert.MmRowsRefIdeal.main_arg1))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_BmmNn [hBmmNn : Cert.BmmNn.Facts] : Prop :=
  ∀ (m : (ℓ : Loc Cert.BmmNn.nD Cert.BmmNn.τ Cert.BmmNn.sig) → Buf (Elt Bits) ℓ) (g : Dev Cert.BmmNn.nD → PrngReg), Pre_BmmNn m →
    θ_run (Cert.BmmNn.defs (F := Bits)) (onTc (τ := Cert.BmmNn.τ) (Cert.BmmNn.main (F := Bits))) ⟨m, fun _ => 0, g⟩ (fun r => (∀ c : Dev Cert.BmmNn.nD,
      r.2.mem ((c.tc : Thread Cert.BmmNn.nD Cert.BmmNn.τ).loc Cert.BmmNn.main_arg0) = m ((c.tc : Thread Cert.BmmNn.nD Cert.BmmNn.τ).loc Cert.BmmNn.main_arg0)
      ∧ r.2.mem ((c.tc : Thread Cert.BmmNn.nD Cert.BmmNn.τ).loc Cert.BmmNn.main_arg1) = m ((c.tc : Thread Cert.BmmNn.nD Cert.BmmNn.τ).loc Cert.BmmNn.main_arg1))
      ∧ r.2.sem = fun _ => 0)

def quiescent_BmmNnIdeal [hBmmNnIdeal : Cert.BmmNnIdeal.Facts] : Prop :=
  ∀ (m : (ℓ : Loc Cert.BmmNnIdeal.nD Cert.BmmNnIdeal.τ Cert.BmmNnIdeal.sig) → Buf (Elt Ideal) ℓ) (g : Dev Cert.BmmNnIdeal.nD → PrngReg), Pre_BmmNnIdeal m →
    θ_run (Cert.BmmNnIdeal.defs (F := Ideal)) (onTc (τ := Cert.BmmNnIdeal.τ) (Cert.BmmNnIdeal.main (F := Ideal))) ⟨m, fun _ => 0, g⟩ (fun r => (∀ c : Dev Cert.BmmNnIdeal.nD,
      r.2.mem ((c.tc : Thread Cert.BmmNnIdeal.nD Cert.BmmNnIdeal.τ).loc Cert.BmmNnIdeal.main_arg0) = m ((c.tc : Thread Cert.BmmNnIdeal.nD Cert.BmmNnIdeal.τ).loc Cert.BmmNnIdeal.main_arg0)
      ∧ r.2.mem ((c.tc : Thread Cert.BmmNnIdeal.nD Cert.BmmNnIdeal.τ).loc Cert.BmmNnIdeal.main_arg1) = m ((c.tc : Thread Cert.BmmNnIdeal.nD Cert.BmmNnIdeal.τ).loc Cert.BmmNnIdeal.main_arg1))
      ∧ r.2.sem = fun _ => 0)

def quiescent_BmmNnRefIdeal [hBmmNnRefIdeal : Cert.BmmNnRefIdeal.Facts] : Prop :=
  ∀ (m : (ℓ : Loc Cert.BmmNnRefIdeal.nD Cert.BmmNnRefIdeal.τ Cert.BmmNnRefIdeal.sig) → Buf (Elt Ideal) ℓ) (g : Dev Cert.BmmNnRefIdeal.nD → PrngReg), Pre_BmmNnRefIdeal m →
    θ_run (Cert.BmmNnRefIdeal.defs (F := Ideal)) (onTc (τ := Cert.BmmNnRefIdeal.τ) (Cert.BmmNnRefIdeal.main (F := Ideal))) ⟨m, fun _ => 0, g⟩ (fun r => (∀ c : Dev Cert.BmmNnRefIdeal.nD,
      r.2.mem ((c.tc : Thread Cert.BmmNnRefIdeal.nD Cert.BmmNnRefIdeal.τ).loc Cert.BmmNnRefIdeal.main_arg0) = m ((c.tc : Thread Cert.BmmNnRefIdeal.nD Cert.BmmNnRefIdeal.τ).loc Cert.BmmNnRefIdeal.main_arg0)
      ∧ r.2.mem ((c.tc : Thread Cert.BmmNnRefIdeal.nD Cert.BmmNnRefIdeal.τ).loc Cert.BmmNnRefIdeal.main_arg1) = m ((c.tc : Thread Cert.BmmNnRefIdeal.nD Cert.BmmNnRefIdeal.τ).loc Cert.BmmNnRefIdeal.main_arg1))
      ∧ r.2.sem = fun _ => 0)

def quiescent_BmmTn [hBmmTn : Cert.BmmTn.Facts] : Prop :=
  ∀ (m : (ℓ : Loc Cert.BmmTn.nD Cert.BmmTn.τ Cert.BmmTn.sig) → Buf (Elt Bits) ℓ) (g : Dev Cert.BmmTn.nD → PrngReg), Pre_BmmTn m →
    θ_run (Cert.BmmTn.defs (F := Bits)) (onTc (τ := Cert.BmmTn.τ) (Cert.BmmTn.main (F := Bits))) ⟨m, fun _ => 0, g⟩ (fun r => (∀ c : Dev Cert.BmmTn.nD,
      r.2.mem ((c.tc : Thread Cert.BmmTn.nD Cert.BmmTn.τ).loc Cert.BmmTn.main_arg0) = m ((c.tc : Thread Cert.BmmTn.nD Cert.BmmTn.τ).loc Cert.BmmTn.main_arg0)
      ∧ r.2.mem ((c.tc : Thread Cert.BmmTn.nD Cert.BmmTn.τ).loc Cert.BmmTn.main_arg1) = m ((c.tc : Thread Cert.BmmTn.nD Cert.BmmTn.τ).loc Cert.BmmTn.main_arg1))
      ∧ r.2.sem = fun _ => 0)

def quiescent_BmmTnIdeal [hBmmTnIdeal : Cert.BmmTnIdeal.Facts] : Prop :=
  ∀ (m : (ℓ : Loc Cert.BmmTnIdeal.nD Cert.BmmTnIdeal.τ Cert.BmmTnIdeal.sig) → Buf (Elt Ideal) ℓ) (g : Dev Cert.BmmTnIdeal.nD → PrngReg), Pre_BmmTnIdeal m →
    θ_run (Cert.BmmTnIdeal.defs (F := Ideal)) (onTc (τ := Cert.BmmTnIdeal.τ) (Cert.BmmTnIdeal.main (F := Ideal))) ⟨m, fun _ => 0, g⟩ (fun r => (∀ c : Dev Cert.BmmTnIdeal.nD,
      r.2.mem ((c.tc : Thread Cert.BmmTnIdeal.nD Cert.BmmTnIdeal.τ).loc Cert.BmmTnIdeal.main_arg0) = m ((c.tc : Thread Cert.BmmTnIdeal.nD Cert.BmmTnIdeal.τ).loc Cert.BmmTnIdeal.main_arg0)
      ∧ r.2.mem ((c.tc : Thread Cert.BmmTnIdeal.nD Cert.BmmTnIdeal.τ).loc Cert.BmmTnIdeal.main_arg1) = m ((c.tc : Thread Cert.BmmTnIdeal.nD Cert.BmmTnIdeal.τ).loc Cert.BmmTnIdeal.main_arg1))
      ∧ r.2.sem = fun _ => 0)

def quiescent_BmmTnRefIdeal [hBmmTnRefIdeal : Cert.BmmTnRefIdeal.Facts] : Prop :=
  ∀ (m : (ℓ : Loc Cert.BmmTnRefIdeal.nD Cert.BmmTnRefIdeal.τ Cert.BmmTnRefIdeal.sig) → Buf (Elt Ideal) ℓ) (g : Dev Cert.BmmTnRefIdeal.nD → PrngReg), Pre_BmmTnRefIdeal m →
    θ_run (Cert.BmmTnRefIdeal.defs (F := Ideal)) (onTc (τ := Cert.BmmTnRefIdeal.τ) (Cert.BmmTnRefIdeal.main (F := Ideal))) ⟨m, fun _ => 0, g⟩ (fun r => (∀ c : Dev Cert.BmmTnRefIdeal.nD,
      r.2.mem ((c.tc : Thread Cert.BmmTnRefIdeal.nD Cert.BmmTnRefIdeal.τ).loc Cert.BmmTnRefIdeal.main_arg0) = m ((c.tc : Thread Cert.BmmTnRefIdeal.nD Cert.BmmTnRefIdeal.τ).loc Cert.BmmTnRefIdeal.main_arg0)
      ∧ r.2.mem ((c.tc : Thread Cert.BmmTnRefIdeal.nD Cert.BmmTnRefIdeal.τ).loc Cert.BmmTnRefIdeal.main_arg1) = m ((c.tc : Thread Cert.BmmTnRefIdeal.nD Cert.BmmTnRefIdeal.τ).loc Cert.BmmTnRefIdeal.main_arg1))
      ∧ r.2.sem = fun _ => 0)

def quiescent_MmA3 [hMmA3 : Cert.MmA3.Facts] : Prop :=
  ∀ (m : (ℓ : Loc Cert.MmA3.nD Cert.MmA3.τ Cert.MmA3.sig) → Buf (Elt Bits) ℓ) (g : Dev Cert.MmA3.nD → PrngReg), Pre_MmA3 m →
    θ_run (Cert.MmA3.defs (F := Bits)) (onTc (τ := Cert.MmA3.τ) (Cert.MmA3.main (F := Bits))) ⟨m, fun _ => 0, g⟩ (fun r => (∀ c : Dev Cert.MmA3.nD,
      r.2.mem ((c.tc : Thread Cert.MmA3.nD Cert.MmA3.τ).loc Cert.MmA3.main_arg0) = m ((c.tc : Thread Cert.MmA3.nD Cert.MmA3.τ).loc Cert.MmA3.main_arg0)
      ∧ r.2.mem ((c.tc : Thread Cert.MmA3.nD Cert.MmA3.τ).loc Cert.MmA3.main_arg1) = m ((c.tc : Thread Cert.MmA3.nD Cert.MmA3.τ).loc Cert.MmA3.main_arg1))
      ∧ r.2.sem = fun _ => 0)

def quiescent_MmA3Ideal [hMmA3Ideal : Cert.MmA3Ideal.Facts] : Prop :=
  ∀ (m : (ℓ : Loc Cert.MmA3Ideal.nD Cert.MmA3Ideal.τ Cert.MmA3Ideal.sig) → Buf (Elt Ideal) ℓ) (g : Dev Cert.MmA3Ideal.nD → PrngReg), Pre_MmA3Ideal m →
    θ_run (Cert.MmA3Ideal.defs (F := Ideal)) (onTc (τ := Cert.MmA3Ideal.τ) (Cert.MmA3Ideal.main (F := Ideal))) ⟨m, fun _ => 0, g⟩ (fun r => (∀ c : Dev Cert.MmA3Ideal.nD,
      r.2.mem ((c.tc : Thread Cert.MmA3Ideal.nD Cert.MmA3Ideal.τ).loc Cert.MmA3Ideal.main_arg0) = m ((c.tc : Thread Cert.MmA3Ideal.nD Cert.MmA3Ideal.τ).loc Cert.MmA3Ideal.main_arg0)
      ∧ r.2.mem ((c.tc : Thread Cert.MmA3Ideal.nD Cert.MmA3Ideal.τ).loc Cert.MmA3Ideal.main_arg1) = m ((c.tc : Thread Cert.MmA3Ideal.nD Cert.MmA3Ideal.τ).loc Cert.MmA3Ideal.main_arg1))
      ∧ r.2.sem = fun _ => 0)

def quiescent_MmA3RefIdeal [hMmA3RefIdeal : Cert.MmA3RefIdeal.Facts] : Prop :=
  ∀ (m : (ℓ : Loc Cert.MmA3RefIdeal.nD Cert.MmA3RefIdeal.τ Cert.MmA3RefIdeal.sig) → Buf (Elt Ideal) ℓ) (g : Dev Cert.MmA3RefIdeal.nD → PrngReg), Pre_MmA3RefIdeal m →
    θ_run (Cert.MmA3RefIdeal.defs (F := Ideal)) (onTc (τ := Cert.MmA3RefIdeal.τ) (Cert.MmA3RefIdeal.main (F := Ideal))) ⟨m, fun _ => 0, g⟩ (fun r => (∀ c : Dev Cert.MmA3RefIdeal.nD,
      r.2.mem ((c.tc : Thread Cert.MmA3RefIdeal.nD Cert.MmA3RefIdeal.τ).loc Cert.MmA3RefIdeal.main_arg0) = m ((c.tc : Thread Cert.MmA3RefIdeal.nD Cert.MmA3RefIdeal.τ).loc Cert.MmA3RefIdeal.main_arg0)
      ∧ r.2.mem ((c.tc : Thread Cert.MmA3RefIdeal.nD Cert.MmA3RefIdeal.τ).loc Cert.MmA3RefIdeal.main_arg1) = m ((c.tc : Thread Cert.MmA3RefIdeal.nD Cert.MmA3RefIdeal.τ).loc Cert.MmA3RefIdeal.main_arg1))
      ∧ r.2.sem = fun _ => 0)

def quiescent_BmmNnSum [hBmmNnSum : Cert.BmmNnSum.Facts] : Prop :=
  ∀ (m : (ℓ : Loc Cert.BmmNnSum.nD Cert.BmmNnSum.τ Cert.BmmNnSum.sig) → Buf (Elt Bits) ℓ) (g : Dev Cert.BmmNnSum.nD → PrngReg), Pre_BmmNnSum m →
    θ_run (Cert.BmmNnSum.defs (F := Bits)) (onTc (τ := Cert.BmmNnSum.τ) (Cert.BmmNnSum.main (F := Bits))) ⟨m, fun _ => 0, g⟩ (fun r => (∀ c : Dev Cert.BmmNnSum.nD,
      r.2.mem ((c.tc : Thread Cert.BmmNnSum.nD Cert.BmmNnSum.τ).loc Cert.BmmNnSum.main_arg0) = m ((c.tc : Thread Cert.BmmNnSum.nD Cert.BmmNnSum.τ).loc Cert.BmmNnSum.main_arg0)
      ∧ r.2.mem ((c.tc : Thread Cert.BmmNnSum.nD Cert.BmmNnSum.τ).loc Cert.BmmNnSum.main_arg1) = m ((c.tc : Thread Cert.BmmNnSum.nD Cert.BmmNnSum.τ).loc Cert.BmmNnSum.main_arg1))
      ∧ r.2.sem = fun _ => 0)

def quiescent_BmmNnSumIdeal [hBmmNnSumIdeal : Cert.BmmNnSumIdeal.Facts] : Prop :=
  ∀ (m : (ℓ : Loc Cert.BmmNnSumIdeal.nD Cert.BmmNnSumIdeal.τ Cert.BmmNnSumIdeal.sig) → Buf (Elt Ideal) ℓ) (g : Dev Cert.BmmNnSumIdeal.nD → PrngReg), Pre_BmmNnSumIdeal m →
    θ_run (Cert.BmmNnSumIdeal.defs (F := Ideal)) (onTc (τ := Cert.BmmNnSumIdeal.τ) (Cert.BmmNnSumIdeal.main (F := Ideal))) ⟨m, fun _ => 0, g⟩ (fun r => (∀ c : Dev Cert.BmmNnSumIdeal.nD,
      r.2.mem ((c.tc : Thread Cert.BmmNnSumIdeal.nD Cert.BmmNnSumIdeal.τ).loc Cert.BmmNnSumIdeal.main_arg0) = m ((c.tc : Thread Cert.BmmNnSumIdeal.nD Cert.BmmNnSumIdeal.τ).loc Cert.BmmNnSumIdeal.main_arg0)
      ∧ r.2.mem ((c.tc : Thread Cert.BmmNnSumIdeal.nD Cert.BmmNnSumIdeal.τ).loc Cert.BmmNnSumIdeal.main_arg1) = m ((c.tc : Thread Cert.BmmNnSumIdeal.nD Cert.BmmNnSumIdeal.τ).loc Cert.BmmNnSumIdeal.main_arg1))
      ∧ r.2.sem = fun _ => 0)

def quiescent_BmmNnSumRefIdeal [hBmmNnSumRefIdeal : Cert.BmmNnSumRefIdeal.Facts] : Prop :=
  ∀ (m : (ℓ : Loc Cert.BmmNnSumRefIdeal.nD Cert.BmmNnSumRefIdeal.τ Cert.BmmNnSumRefIdeal.sig) → Buf (Elt Ideal) ℓ) (g : Dev Cert.BmmNnSumRefIdeal.nD → PrngReg), Pre_BmmNnSumRefIdeal m →
    θ_run (Cert.BmmNnSumRefIdeal.defs (F := Ideal)) (onTc (τ := Cert.BmmNnSumRefIdeal.τ) (Cert.BmmNnSumRefIdeal.main (F := Ideal))) ⟨m, fun _ => 0, g⟩ (fun r => (∀ c : Dev Cert.BmmNnSumRefIdeal.nD,
      r.2.mem ((c.tc : Thread Cert.BmmNnSumRefIdeal.nD Cert.BmmNnSumRefIdeal.τ).loc Cert.BmmNnSumRefIdeal.main_arg0) = m ((c.tc : Thread Cert.BmmNnSumRefIdeal.nD Cert.BmmNnSumRefIdeal.τ).loc Cert.BmmNnSumRefIdeal.main_arg0)
      ∧ r.2.mem ((c.tc : Thread Cert.BmmNnSumRefIdeal.nD Cert.BmmNnSumRefIdeal.τ).loc Cert.BmmNnSumRefIdeal.main_arg1) = m ((c.tc : Thread Cert.BmmNnSumRefIdeal.nD Cert.BmmNnSumRefIdeal.τ).loc Cert.BmmNnSumRefIdeal.main_arg1))
      ∧ r.2.sem = fun _ => 0)

def quiescent_BmmNtSum [hBmmNtSum : Cert.BmmNtSum.Facts] : Prop :=
  ∀ (m : (ℓ : Loc Cert.BmmNtSum.nD Cert.BmmNtSum.τ Cert.BmmNtSum.sig) → Buf (Elt Bits) ℓ) (g : Dev Cert.BmmNtSum.nD → PrngReg), Pre_BmmNtSum m →
    θ_run (Cert.BmmNtSum.defs (F := Bits)) (onTc (τ := Cert.BmmNtSum.τ) (Cert.BmmNtSum.main (F := Bits))) ⟨m, fun _ => 0, g⟩ (fun r => (∀ c : Dev Cert.BmmNtSum.nD,
      r.2.mem ((c.tc : Thread Cert.BmmNtSum.nD Cert.BmmNtSum.τ).loc Cert.BmmNtSum.main_arg0) = m ((c.tc : Thread Cert.BmmNtSum.nD Cert.BmmNtSum.τ).loc Cert.BmmNtSum.main_arg0)
      ∧ r.2.mem ((c.tc : Thread Cert.BmmNtSum.nD Cert.BmmNtSum.τ).loc Cert.BmmNtSum.main_arg1) = m ((c.tc : Thread Cert.BmmNtSum.nD Cert.BmmNtSum.τ).loc Cert.BmmNtSum.main_arg1))
      ∧ r.2.sem = fun _ => 0)

def quiescent_BmmNtSumIdeal [hBmmNtSumIdeal : Cert.BmmNtSumIdeal.Facts] : Prop :=
  ∀ (m : (ℓ : Loc Cert.BmmNtSumIdeal.nD Cert.BmmNtSumIdeal.τ Cert.BmmNtSumIdeal.sig) → Buf (Elt Ideal) ℓ) (g : Dev Cert.BmmNtSumIdeal.nD → PrngReg), Pre_BmmNtSumIdeal m →
    θ_run (Cert.BmmNtSumIdeal.defs (F := Ideal)) (onTc (τ := Cert.BmmNtSumIdeal.τ) (Cert.BmmNtSumIdeal.main (F := Ideal))) ⟨m, fun _ => 0, g⟩ (fun r => (∀ c : Dev Cert.BmmNtSumIdeal.nD,
      r.2.mem ((c.tc : Thread Cert.BmmNtSumIdeal.nD Cert.BmmNtSumIdeal.τ).loc Cert.BmmNtSumIdeal.main_arg0) = m ((c.tc : Thread Cert.BmmNtSumIdeal.nD Cert.BmmNtSumIdeal.τ).loc Cert.BmmNtSumIdeal.main_arg0)
      ∧ r.2.mem ((c.tc : Thread Cert.BmmNtSumIdeal.nD Cert.BmmNtSumIdeal.τ).loc Cert.BmmNtSumIdeal.main_arg1) = m ((c.tc : Thread Cert.BmmNtSumIdeal.nD Cert.BmmNtSumIdeal.τ).loc Cert.BmmNtSumIdeal.main_arg1))
      ∧ r.2.sem = fun _ => 0)

def quiescent_BmmNtSumRefIdeal [hBmmNtSumRefIdeal : Cert.BmmNtSumRefIdeal.Facts] : Prop :=
  ∀ (m : (ℓ : Loc Cert.BmmNtSumRefIdeal.nD Cert.BmmNtSumRefIdeal.τ Cert.BmmNtSumRefIdeal.sig) → Buf (Elt Ideal) ℓ) (g : Dev Cert.BmmNtSumRefIdeal.nD → PrngReg), Pre_BmmNtSumRefIdeal m →
    θ_run (Cert.BmmNtSumRefIdeal.defs (F := Ideal)) (onTc (τ := Cert.BmmNtSumRefIdeal.τ) (Cert.BmmNtSumRefIdeal.main (F := Ideal))) ⟨m, fun _ => 0, g⟩ (fun r => (∀ c : Dev Cert.BmmNtSumRefIdeal.nD,
      r.2.mem ((c.tc : Thread Cert.BmmNtSumRefIdeal.nD Cert.BmmNtSumRefIdeal.τ).loc Cert.BmmNtSumRefIdeal.main_arg0) = m ((c.tc : Thread Cert.BmmNtSumRefIdeal.nD Cert.BmmNtSumRefIdeal.τ).loc Cert.BmmNtSumRefIdeal.main_arg0)
      ∧ r.2.mem ((c.tc : Thread Cert.BmmNtSumRefIdeal.nD Cert.BmmNtSumRefIdeal.τ).loc Cert.BmmNtSumRefIdeal.main_arg1) = m ((c.tc : Thread Cert.BmmNtSumRefIdeal.nD Cert.BmmNtSumRefIdeal.τ).loc Cert.BmmNtSumRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_SumDev [hSumDev : Cert.SumDev.Facts] : Prop :=
  ∀ (m : (ℓ : Loc Cert.SumDev.nD Cert.SumDev.τ Cert.SumDev.sig) → Buf (Elt Bits) ℓ) (g : Dev Cert.SumDev.nD → PrngReg), Pre_SumDev m →
    θ_run (Cert.SumDev.defs (F := Bits)) (onTc (τ := Cert.SumDev.τ) (Cert.SumDev.main (F := Bits))) ⟨m, fun _ => 0, g⟩ (fun r => (∀ c : Dev Cert.SumDev.nD,
      r.2.mem ((c.tc : Thread Cert.SumDev.nD Cert.SumDev.τ).loc Cert.SumDev.main_arg0) = m ((c.tc : Thread Cert.SumDev.nD Cert.SumDev.τ).loc Cert.SumDev.main_arg0))
      ∧ r.2.sem = fun _ => 0)

def quiescent_SumDevIdeal [hSumDevIdeal : Cert.SumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg), Pre_SumDevIdeal m →
    θ_run (Cert.SumDevIdeal.defs (F := Ideal)) (onTc (τ := Cert.SumDevIdeal.τ) (Cert.SumDevIdeal.main (F := Ideal))) ⟨m, fun _ => 0, g⟩ (fun r => (∀ c : Dev Cert.SumDevIdeal.nD,
      r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ r.2.sem = fun _ => 0)

def quiescent_SumDevRefIdeal [hSumDevRefIdeal : Cert.SumDevRefIdeal.Facts] : Prop :=
  ∀ (m : (ℓ : Loc Cert.SumDevRefIdeal.nD Cert.SumDevRefIdeal.τ Cert.SumDevRefIdeal.sig) → Buf (Elt Ideal) ℓ) (g : Dev Cert.SumDevRefIdeal.nD → PrngReg), Pre_SumDevRefIdeal m →
    θ_run (Cert.SumDevRefIdeal.defs (F := Ideal)) (onTc (τ := Cert.SumDevRefIdeal.τ) (Cert.SumDevRefIdeal.main (F := Ideal))) ⟨m, fun _ => 0, g⟩ (fun r => (∀ c : Dev Cert.SumDevRefIdeal.nD,
      r.2.mem ((c.tc : Thread Cert.SumDevRefIdeal.nD Cert.SumDevRefIdeal.τ).loc Cert.SumDevRefIdeal.main_arg0) = m ((c.tc : Thread Cert.SumDevRefIdeal.nD Cert.SumDevRefIdeal.τ).loc Cert.SumDevRefIdeal.main_arg0))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_NormRes_NormResIdeal : Prop :=
  True

def algebraic_NormResIdeal_NormResRefIdeal_pre_norm_res_finite [hNormResIdeal : Cert.NormResIdeal.Facts] [hNormResRefIdeal : Cert.NormResRefIdeal.Facts] [hPre_norm_res_finite : Cert.Pre_norm_res_finite.Facts] : Prop :=
  ∀ (m : (ℓ : Loc Cert.NormResIdeal.nD Cert.NormResIdeal.τ Cert.NormResIdeal.sig) → Buf (Elt Ideal) ℓ) (g : Dev Cert.NormResIdeal.nD → PrngReg)
    (m' : (ℓ : Loc Cert.NormResRefIdeal.nD Cert.NormResRefIdeal.τ Cert.NormResRefIdeal.sig) → Buf (Elt Ideal) ℓ) (g' : Dev Cert.NormResRefIdeal.nD → PrngReg), Pre_NormResIdeal_norm_res_finite m →
    (∀ c : Dev Cert.NormResIdeal.nD,
      m' ((c.tc : Thread Cert.NormResRefIdeal.nD Cert.NormResRefIdeal.τ).loc Cert.NormResRefIdeal.main_arg0) = m ((c.tc : Thread Cert.NormResIdeal.nD Cert.NormResIdeal.τ).loc Cert.NormResIdeal.main_arg0)
      ∧ m' ((c.tc : Thread Cert.NormResRefIdeal.nD Cert.NormResRefIdeal.τ).loc Cert.NormResRefIdeal.main_arg1) = m ((c.tc : Thread Cert.NormResIdeal.nD Cert.NormResIdeal.τ).loc Cert.NormResIdeal.main_arg1)
      ∧ m' ((c.tc : Thread Cert.NormResRefIdeal.nD Cert.NormResRefIdeal.τ).loc Cert.NormResRefIdeal.main_arg2) = m ((c.tc : Thread Cert.NormResIdeal.nD Cert.NormResIdeal.τ).loc Cert.NormResIdeal.main_arg2)
      ∧ m' ((c.tc : Thread Cert.NormResRefIdeal.nD Cert.NormResRefIdeal.τ).loc Cert.NormResRefIdeal.main_arg3) = m ((c.tc : Thread Cert.NormResIdeal.nD Cert.NormResIdeal.τ).loc Cert.NormResIdeal.main_arg3)) →
    ∃ (v0 : (c : Dev Cert.NormResIdeal.nD) → Buf (Elt Ideal) ((c.tc : Thread Cert.NormResIdeal.nD Cert.NormResIdeal.τ).loc Cert.NormResIdeal.main_v1_0)) (v1 : (c : Dev Cert.NormResIdeal.nD) → Buf (Elt Ideal) ((c.tc : Thread Cert.NormResIdeal.nD Cert.NormResIdeal.τ).loc Cert.NormResIdeal.main_v1_1)),
      θ_run (Cert.NormResIdeal.defs (F := Ideal)) (onTc (τ := Cert.NormResIdeal.τ) (Cert.NormResIdeal.main (F := Ideal))) ⟨m, fun _ => 0, g⟩ (fun r => ∀ c : Dev Cert.NormResIdeal.nD,
          r.2.mem ((c.tc : Thread Cert.NormResIdeal.nD Cert.NormResIdeal.τ).loc Cert.NormResIdeal.main_v1_0) = v0 c
          ∧ r.2.mem ((c.tc : Thread Cert.NormResIdeal.nD Cert.NormResIdeal.τ).loc Cert.NormResIdeal.main_v1_1) = v1 c
          ∧ r.2.mem ((c.tc : Thread Cert.NormResIdeal.nD Cert.NormResIdeal.τ).loc Cert.NormResIdeal.main_arg0) = m ((c.tc : Thread Cert.NormResIdeal.nD Cert.NormResIdeal.τ).loc Cert.NormResIdeal.main_arg0)
          ∧ r.2.mem ((c.tc : Thread Cert.NormResIdeal.nD Cert.NormResIdeal.τ).loc Cert.NormResIdeal.main_arg1) = m ((c.tc : Thread Cert.NormResIdeal.nD Cert.NormResIdeal.τ).loc Cert.NormResIdeal.main_arg1)
          ∧ r.2.mem ((c.tc : Thread Cert.NormResIdeal.nD Cert.NormResIdeal.τ).loc Cert.NormResIdeal.main_arg2) = m ((c.tc : Thread Cert.NormResIdeal.nD Cert.NormResIdeal.τ).loc Cert.NormResIdeal.main_arg2)
          ∧ r.2.mem ((c.tc : Thread Cert.NormResIdeal.nD Cert.NormResIdeal.τ).loc Cert.NormResIdeal.main_arg3) = m ((c.tc : Thread Cert.NormResIdeal.nD Cert.NormResIdeal.τ).loc Cert.NormResIdeal.main_arg3))
      ∧ θ_run (Cert.NormResRefIdeal.defs (F := Ideal)) (onTc (τ := Cert.NormResRefIdeal.τ) (Cert.NormResRefIdeal.main (F := Ideal))) ⟨m', fun _ => 0, g'⟩ (fun r => ∀ c : Dev Cert.NormResRefIdeal.nD,
          r.2.mem ((c.tc : Thread Cert.NormResRefIdeal.nD Cert.NormResRefIdeal.τ).loc Cert.NormResRefIdeal.main_v36) = v0 c
          ∧ r.2.mem ((c.tc : Thread Cert.NormResRefIdeal.nD Cert.NormResRefIdeal.τ).loc Cert.NormResRefIdeal.main_v37) = v1 c
          ∧ r.2.mem ((c.tc : Thread Cert.NormResRefIdeal.nD Cert.NormResRefIdeal.τ).loc Cert.NormResRefIdeal.main_arg0) = m' ((c.tc : Thread Cert.NormResRefIdeal.nD Cert.NormResRefIdeal.τ).loc Cert.NormResRefIdeal.main_arg0)
          ∧ r.2.mem ((c.tc : Thread Cert.NormResRefIdeal.nD Cert.NormResRefIdeal.τ).loc Cert.NormResRefIdeal.main_arg1) = m' ((c.tc : Thread Cert.NormResRefIdeal.nD Cert.NormResRefIdeal.τ).loc Cert.NormResRefIdeal.main_arg1)
          ∧ r.2.mem ((c.tc : Thread Cert.NormResRefIdeal.nD Cert.NormResRefIdeal.τ).loc Cert.NormResRefIdeal.main_arg2) = m' ((c.tc : Thread Cert.NormResRefIdeal.nD Cert.NormResRefIdeal.τ).loc Cert.NormResRefIdeal.main_arg2)
          ∧ r.2.mem ((c.tc : Thread Cert.NormResRefIdeal.nD Cert.NormResRefIdeal.τ).loc Cert.NormResRefIdeal.main_arg3) = m' ((c.tc : Thread Cert.NormResRefIdeal.nD Cert.NormResRefIdeal.τ).loc Cert.NormResRefIdeal.main_arg3))

def preserves_NormMem_NormMemIdeal : Prop :=
  True

def algebraic_NormMemIdeal_NormMemRefIdeal_pre_norm_mem_finite [hNormMemIdeal : Cert.NormMemIdeal.Facts] [hNormMemRefIdeal : Cert.NormMemRefIdeal.Facts] [hPre_norm_mem_finite : Cert.Pre_norm_mem_finite.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal_norm_mem_finite m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)
      ∧ m' ((c.tc : Thread Cert.NormMemRefIdeal.nD Cert.NormMemRefIdeal.τ).loc Cert.NormMemRefIdeal.main_arg2) = m ((c.tc : Thread Cert.NormMemIdeal.nD Cert.NormMemIdeal.τ).loc Cert.NormMemIdeal.main_arg2)) →
    ∃ (v0 : (c : Dev Cert.NormMemIdeal.nD) → Buf (Elt Ideal) ((c.tc : Thread Cert.NormMemIdeal.nD Cert.NormMemIdeal.τ).loc Cert.NormMemIdeal.main_v1_0)) (v1 : (c : Dev Cert.NormMemIdeal.nD) → Buf (Elt Ideal) ((c.tc : Thread Cert.NormMemIdeal.nD Cert.NormMemIdeal.τ).loc Cert.NormMemIdeal.main_v1_1)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v1_0) = v0 c
          ∧ r.2.mem ((c.tc : Thread Cert.NormMemIdeal.nD Cert.NormMemIdeal.τ).loc Cert.NormMemIdeal.main_v1_1) = v1 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
          ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v36) = v0 c
          ∧ r.2.mem ((c.tc : Thread Cert.NormMemRefIdeal.nD Cert.NormMemRefIdeal.τ).loc Cert.NormMemRefIdeal.main_v37) = v1 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1)
          ∧ r.2.mem ((c.tc : Thread Cert.NormMemRefIdeal.nD Cert.NormMemRefIdeal.τ).loc Cert.NormMemRefIdeal.main_arg2) = m' ((c.tc : Thread Cert.NormMemRefIdeal.nD Cert.NormMemRefIdeal.τ).loc Cert.NormMemRefIdeal.main_arg2))

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)) →
    ∃ (v0 : (c : Dev Cert.SconvIdeal.nD) → Buf (Elt Ideal) ((c.tc : Thread Cert.SconvIdeal.nD Cert.SconvIdeal.τ).loc Cert.SconvIdeal.main_v5_0)) (v1 : (c : Dev Cert.SconvIdeal.nD) → Buf (Elt Ideal) ((c.tc : Thread Cert.SconvIdeal.nD Cert.SconvIdeal.τ).loc Cert.SconvIdeal.main_v5_1)) (v2 : (c : Dev Cert.SconvIdeal.nD) → Buf (Elt Ideal) ((c.tc : Thread Cert.SconvIdeal.nD Cert.SconvIdeal.τ).loc Cert.SconvIdeal.main_v5_2)) (v3 : (c : Dev Cert.SconvIdeal.nD) → Buf (Elt Ideal) ((c.tc : Thread Cert.SconvIdeal.nD Cert.SconvIdeal.τ).loc Cert.SconvIdeal.main_v5_3)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v5_0) = v0 c
          ∧ r.2.mem ((c.tc : Thread Cert.SconvIdeal.nD Cert.SconvIdeal.τ).loc Cert.SconvIdeal.main_v5_1) = v1 c
          ∧ r.2.mem ((c.tc : Thread Cert.SconvIdeal.nD Cert.SconvIdeal.τ).loc Cert.SconvIdeal.main_v5_2) = v2 c
          ∧ r.2.mem ((c.tc : Thread Cert.SconvIdeal.nD Cert.SconvIdeal.τ).loc Cert.SconvIdeal.main_v5_3) = v3 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v36) = v0 c
          ∧ r.2.mem ((c.tc : Thread Cert.SconvRefIdeal.nD Cert.SconvRefIdeal.τ).loc Cert.SconvRefIdeal.main_v71) = v1 c
          ∧ r.2.mem ((c.tc : Thread Cert.SconvRefIdeal.nD Cert.SconvRefIdeal.τ).loc Cert.SconvRefIdeal.main_v70) = v2 c
          ∧ r.2.mem ((c.tc : Thread Cert.SconvRefIdeal.nD Cert.SconvRefIdeal.τ).loc Cert.SconvRefIdeal.main_v67) = v3 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2))

def preserves_LruConv_LruConvIdeal : Prop :=
  True

def algebraic_LruConvIdeal_LruConvRefIdeal [hLruConvIdeal : Cert.LruConvIdeal.Facts] [hLruConvRefIdeal : Cert.LruConvRefIdeal.Facts] : Prop :=
  ∀ (m : (ℓ : Loc Cert.LruConvIdeal.nD Cert.LruConvIdeal.τ Cert.LruConvIdeal.sig) → Buf (Elt Ideal) ℓ) (g : Dev Cert.LruConvIdeal.nD → PrngReg)
    (m' : (ℓ : Loc Cert.LruConvRefIdeal.nD Cert.LruConvRefIdeal.τ Cert.LruConvRefIdeal.sig) → Buf (Elt Ideal) ℓ) (g' : Dev Cert.LruConvRefIdeal.nD → PrngReg), Pre_LruConvIdeal m →
    (∀ c : Dev Cert.LruConvIdeal.nD,
      m' ((c.tc : Thread Cert.LruConvRefIdeal.nD Cert.LruConvRefIdeal.τ).loc Cert.LruConvRefIdeal.main_arg0) = m ((c.tc : Thread Cert.LruConvIdeal.nD Cert.LruConvIdeal.τ).loc Cert.LruConvIdeal.main_arg0)
      ∧ m' ((c.tc : Thread Cert.LruConvRefIdeal.nD Cert.LruConvRefIdeal.τ).loc Cert.LruConvRefIdeal.main_arg1) = m ((c.tc : Thread Cert.LruConvIdeal.nD Cert.LruConvIdeal.τ).loc Cert.LruConvIdeal.main_arg1)
      ∧ m' ((c.tc : Thread Cert.LruConvRefIdeal.nD Cert.LruConvRefIdeal.τ).loc Cert.LruConvRefIdeal.main_arg2) = m ((c.tc : Thread Cert.LruConvIdeal.nD Cert.LruConvIdeal.τ).loc Cert.LruConvIdeal.main_arg2)
      ∧ m' ((c.tc : Thread Cert.LruConvRefIdeal.nD Cert.LruConvRefIdeal.τ).loc Cert.LruConvRefIdeal.main_arg3) = m ((c.tc : Thread Cert.LruConvIdeal.nD Cert.LruConvIdeal.τ).loc Cert.LruConvIdeal.main_arg3)) →
    ∃ (v0 : (c : Dev Cert.LruConvIdeal.nD) → Buf (Elt Ideal) ((c.tc : Thread Cert.LruConvIdeal.nD Cert.LruConvIdeal.τ).loc Cert.LruConvIdeal.main_v6_0)) (v1 : (c : Dev Cert.LruConvIdeal.nD) → Buf (Elt Ideal) ((c.tc : Thread Cert.LruConvIdeal.nD Cert.LruConvIdeal.τ).loc Cert.LruConvIdeal.main_v6_1)) (v2 : (c : Dev Cert.LruConvIdeal.nD) → Buf (Elt Ideal) ((c.tc : Thread Cert.LruConvIdeal.nD Cert.LruConvIdeal.τ).loc Cert.LruConvIdeal.main_v6_2)),
      θ_run (Cert.LruConvIdeal.defs (F := Ideal)) (onTc (τ := Cert.LruConvIdeal.τ) (Cert.LruConvIdeal.main (F := Ideal))) ⟨m, fun _ => 0, g⟩ (fun r => ∀ c : Dev Cert.LruConvIdeal.nD,
          r.2.mem ((c.tc : Thread Cert.LruConvIdeal.nD Cert.LruConvIdeal.τ).loc Cert.LruConvIdeal.main_v6_0) = v0 c
          ∧ r.2.mem ((c.tc : Thread Cert.LruConvIdeal.nD Cert.LruConvIdeal.τ).loc Cert.LruConvIdeal.main_v6_1) = v1 c
          ∧ r.2.mem ((c.tc : Thread Cert.LruConvIdeal.nD Cert.LruConvIdeal.τ).loc Cert.LruConvIdeal.main_v6_2) = v2 c
          ∧ r.2.mem ((c.tc : Thread Cert.LruConvIdeal.nD Cert.LruConvIdeal.τ).loc Cert.LruConvIdeal.main_arg0) = m ((c.tc : Thread Cert.LruConvIdeal.nD Cert.LruConvIdeal.τ).loc Cert.LruConvIdeal.main_arg0)
          ∧ r.2.mem ((c.tc : Thread Cert.LruConvIdeal.nD Cert.LruConvIdeal.τ).loc Cert.LruConvIdeal.main_arg1) = m ((c.tc : Thread Cert.LruConvIdeal.nD Cert.LruConvIdeal.τ).loc Cert.LruConvIdeal.main_arg1)
          ∧ r.2.mem ((c.tc : Thread Cert.LruConvIdeal.nD Cert.LruConvIdeal.τ).loc Cert.LruConvIdeal.main_arg2) = m ((c.tc : Thread Cert.LruConvIdeal.nD Cert.LruConvIdeal.τ).loc Cert.LruConvIdeal.main_arg2)
          ∧ r.2.mem ((c.tc : Thread Cert.LruConvIdeal.nD Cert.LruConvIdeal.τ).loc Cert.LruConvIdeal.main_arg3) = m ((c.tc : Thread Cert.LruConvIdeal.nD Cert.LruConvIdeal.τ).loc Cert.LruConvIdeal.main_arg3))
      ∧ θ_run (Cert.LruConvRefIdeal.defs (F := Ideal)) (onTc (τ := Cert.LruConvRefIdeal.τ) (Cert.LruConvRefIdeal.main (F := Ideal))) ⟨m', fun _ => 0, g'⟩ (fun r => ∀ c : Dev Cert.LruConvRefIdeal.nD,
          r.2.mem ((c.tc : Thread Cert.LruConvRefIdeal.nD Cert.LruConvRefIdeal.τ).loc Cert.LruConvRefIdeal.main_v89) = v0 c
          ∧ r.2.mem ((c.tc : Thread Cert.LruConvRefIdeal.nD Cert.LruConvRefIdeal.τ).loc Cert.LruConvRefIdeal.main_v84) = v1 c
          ∧ r.2.mem ((c.tc : Thread Cert.LruConvRefIdeal.nD Cert.LruConvRefIdeal.τ).loc Cert.LruConvRefIdeal.main_v90) = v2 c
          ∧ r.2.mem ((c.tc : Thread Cert.LruConvRefIdeal.nD Cert.LruConvRefIdeal.τ).loc Cert.LruConvRefIdeal.main_arg0) = m' ((c.tc : Thread Cert.LruConvRefIdeal.nD Cert.LruConvRefIdeal.τ).loc Cert.LruConvRefIdeal.main_arg0)
          ∧ r.2.mem ((c.tc : Thread Cert.LruConvRefIdeal.nD Cert.LruConvRefIdeal.τ).loc Cert.LruConvRefIdeal.main_arg1) = m' ((c.tc : Thread Cert.LruConvRefIdeal.nD Cert.LruConvRefIdeal.τ).loc Cert.LruConvRefIdeal.main_arg1)
          ∧ r.2.mem ((c.tc : Thread Cert.LruConvRefIdeal.nD Cert.LruConvRefIdeal.τ).loc Cert.LruConvRefIdeal.main_arg2) = m' ((c.tc : Thread Cert.LruConvRefIdeal.nD Cert.LruConvRefIdeal.τ).loc Cert.LruConvRefIdeal.main_arg2)
          ∧ r.2.mem ((c.tc : Thread Cert.LruConvRefIdeal.nD Cert.LruConvRefIdeal.τ).loc Cert.LruConvRefIdeal.main_arg3) = m' ((c.tc : Thread Cert.LruConvRefIdeal.nD Cert.LruConvRefIdeal.τ).loc Cert.LruConvRefIdeal.main_arg3))

def preserves_Dlogf_DlogfIdeal : Prop :=
  True

def algebraic_DlogfIdeal_DlogfRefIdeal [hDlogfIdeal : Cert.DlogfIdeal.Facts] [hDlogfRefIdeal : Cert.DlogfRefIdeal.Facts] : Prop :=
  ∀ (m : (ℓ : Loc Cert.DlogfIdeal.nD Cert.DlogfIdeal.τ Cert.DlogfIdeal.sig) → Buf (Elt Ideal) ℓ) (g : Dev Cert.DlogfIdeal.nD → PrngReg)
    (m' : (ℓ : Loc Cert.DlogfRefIdeal.nD Cert.DlogfRefIdeal.τ Cert.DlogfRefIdeal.sig) → Buf (Elt Ideal) ℓ) (g' : Dev Cert.DlogfRefIdeal.nD → PrngReg), Pre_DlogfIdeal m →
    (∀ c : Dev Cert.DlogfIdeal.nD,
      m' ((c.tc : Thread Cert.DlogfRefIdeal.nD Cert.DlogfRefIdeal.τ).loc Cert.DlogfRefIdeal.main_arg0) = m ((c.tc : Thread Cert.DlogfIdeal.nD Cert.DlogfIdeal.τ).loc Cert.DlogfIdeal.main_arg0)
      ∧ m' ((c.tc : Thread Cert.DlogfRefIdeal.nD Cert.DlogfRefIdeal.τ).loc Cert.DlogfRefIdeal.main_arg1) = m ((c.tc : Thread Cert.DlogfIdeal.nD Cert.DlogfIdeal.τ).loc Cert.DlogfIdeal.main_arg1)
      ∧ m' ((c.tc : Thread Cert.DlogfRefIdeal.nD Cert.DlogfRefIdeal.τ).loc Cert.DlogfRefIdeal.main_arg2) = m ((c.tc : Thread Cert.DlogfIdeal.nD Cert.DlogfIdeal.τ).loc Cert.DlogfIdeal.main_arg2)
      ∧ m' ((c.tc : Thread Cert.DlogfRefIdeal.nD Cert.DlogfRefIdeal.τ).loc Cert.DlogfRefIdeal.main_arg3) = m ((c.tc : Thread Cert.DlogfIdeal.nD Cert.DlogfIdeal.τ).loc Cert.DlogfIdeal.main_arg3)) →
    ∃ (v0 : (c : Dev Cert.DlogfIdeal.nD) → Buf (Elt Ideal) ((c.tc : Thread Cert.DlogfIdeal.nD Cert.DlogfIdeal.τ).loc Cert.DlogfIdeal.main_v3_0)) (v1 : (c : Dev Cert.DlogfIdeal.nD) → Buf (Elt Ideal) ((c.tc : Thread Cert.DlogfIdeal.nD Cert.DlogfIdeal.τ).loc Cert.DlogfIdeal.main_v3_1)),
      θ_run (Cert.DlogfIdeal.defs (F := Ideal)) (onTc (τ := Cert.DlogfIdeal.τ) (Cert.DlogfIdeal.main (F := Ideal))) ⟨m, fun _ => 0, g⟩ (fun r => ∀ c : Dev Cert.DlogfIdeal.nD,
          r.2.mem ((c.tc : Thread Cert.DlogfIdeal.nD Cert.DlogfIdeal.τ).loc Cert.DlogfIdeal.main_v3_0) = v0 c
          ∧ r.2.mem ((c.tc : Thread Cert.DlogfIdeal.nD Cert.DlogfIdeal.τ).loc Cert.DlogfIdeal.main_v3_1) = v1 c
          ∧ r.2.mem ((c.tc : Thread Cert.DlogfIdeal.nD Cert.DlogfIdeal.τ).loc Cert.DlogfIdeal.main_arg0) = m ((c.tc : Thread Cert.DlogfIdeal.nD Cert.DlogfIdeal.τ).loc Cert.DlogfIdeal.main_arg0)
          ∧ r.2.mem ((c.tc : Thread Cert.DlogfIdeal.nD Cert.DlogfIdeal.τ).loc Cert.DlogfIdeal.main_arg1) = m ((c.tc : Thread Cert.DlogfIdeal.nD Cert.DlogfIdeal.τ).loc Cert.DlogfIdeal.main_arg1)
          ∧ r.2.mem ((c.tc : Thread Cert.DlogfIdeal.nD Cert.DlogfIdeal.τ).loc Cert.DlogfIdeal.main_arg2) = m ((c.tc : Thread Cert.DlogfIdeal.nD Cert.DlogfIdeal.τ).loc Cert.DlogfIdeal.main_arg2)
          ∧ r.2.mem ((c.tc : Thread Cert.DlogfIdeal.nD Cert.DlogfIdeal.τ).loc Cert.DlogfIdeal.main_arg3) = m ((c.tc : Thread Cert.DlogfIdeal.nD Cert.DlogfIdeal.τ).loc Cert.DlogfIdeal.main_arg3))
      ∧ θ_run (Cert.DlogfRefIdeal.defs (F := Ideal)) (onTc (τ := Cert.DlogfRefIdeal.τ) (Cert.DlogfRefIdeal.main (F := Ideal))) ⟨m', fun _ => 0, g'⟩ (fun r => ∀ c : Dev Cert.DlogfRefIdeal.nD,
          r.2.mem ((c.tc : Thread Cert.DlogfRefIdeal.nD Cert.DlogfRefIdeal.τ).loc Cert.DlogfRefIdeal.main_v15) = v0 c
          ∧ r.2.mem ((c.tc : Thread Cert.DlogfRefIdeal.nD Cert.DlogfRefIdeal.τ).loc Cert.DlogfRefIdeal.main_v17) = v1 c
          ∧ r.2.mem ((c.tc : Thread Cert.DlogfRefIdeal.nD Cert.DlogfRefIdeal.τ).loc Cert.DlogfRefIdeal.main_arg0) = m' ((c.tc : Thread Cert.DlogfRefIdeal.nD Cert.DlogfRefIdeal.τ).loc Cert.DlogfRefIdeal.main_arg0)
          ∧ r.2.mem ((c.tc : Thread Cert.DlogfRefIdeal.nD Cert.DlogfRefIdeal.τ).loc Cert.DlogfRefIdeal.main_arg1) = m' ((c.tc : Thread Cert.DlogfRefIdeal.nD Cert.DlogfRefIdeal.τ).loc Cert.DlogfRefIdeal.main_arg1)
          ∧ r.2.mem ((c.tc : Thread Cert.DlogfRefIdeal.nD Cert.DlogfRefIdeal.τ).loc Cert.DlogfRefIdeal.main_arg2) = m' ((c.tc : Thread Cert.DlogfRefIdeal.nD Cert.DlogfRefIdeal.τ).loc Cert.DlogfRefIdeal.main_arg2)
          ∧ r.2.mem ((c.tc : Thread Cert.DlogfRefIdeal.nD Cert.DlogfRefIdeal.τ).loc Cert.DlogfRefIdeal.main_arg3) = m' ((c.tc : Thread Cert.DlogfRefIdeal.nD Cert.DlogfRefIdeal.τ).loc Cert.DlogfRefIdeal.main_arg3))

def preserves_FfnDa_FfnDaIdeal : Prop :=
  True

def algebraic_FfnDaIdeal_FfnDaRefIdeal_pre_ffn_da_finite [hFfnDaIdeal : Cert.FfnDaIdeal.Facts] [hFfnDaRefIdeal : Cert.FfnDaRefIdeal.Facts] [hPre_ffn_da_finite : Cert.Pre_ffn_da_finite.Facts] : Prop :=
  ∀ (m : (ℓ : Loc Cert.FfnDaIdeal.nD Cert.FfnDaIdeal.τ Cert.FfnDaIdeal.sig) → Buf (Elt Ideal) ℓ) (g : Dev Cert.FfnDaIdeal.nD → PrngReg)
    (m' : (ℓ : Loc Cert.FfnDaRefIdeal.nD Cert.FfnDaRefIdeal.τ Cert.FfnDaRefIdeal.sig) → Buf (Elt Ideal) ℓ) (g' : Dev Cert.FfnDaRefIdeal.nD → PrngReg), Pre_FfnDaIdeal_ffn_da_finite m →
    (∀ c : Dev Cert.FfnDaIdeal.nD,
      m' ((c.tc : Thread Cert.FfnDaRefIdeal.nD Cert.FfnDaRefIdeal.τ).loc Cert.FfnDaRefIdeal.main_arg0) = m ((c.tc : Thread Cert.FfnDaIdeal.nD Cert.FfnDaIdeal.τ).loc Cert.FfnDaIdeal.main_arg0)
      ∧ m' ((c.tc : Thread Cert.FfnDaRefIdeal.nD Cert.FfnDaRefIdeal.τ).loc Cert.FfnDaRefIdeal.main_arg1) = m ((c.tc : Thread Cert.FfnDaIdeal.nD Cert.FfnDaIdeal.τ).loc Cert.FfnDaIdeal.main_arg1)
      ∧ m' ((c.tc : Thread Cert.FfnDaRefIdeal.nD Cert.FfnDaRefIdeal.τ).loc Cert.FfnDaRefIdeal.main_arg2) = m ((c.tc : Thread Cert.FfnDaIdeal.nD Cert.FfnDaIdeal.τ).loc Cert.FfnDaIdeal.main_arg2)
      ∧ m' ((c.tc : Thread Cert.FfnDaRefIdeal.nD Cert.FfnDaRefIdeal.τ).loc Cert.FfnDaRefIdeal.main_arg3) = m ((c.tc : Thread Cert.FfnDaIdeal.nD Cert.FfnDaIdeal.τ).loc Cert.FfnDaIdeal.main_arg3)) →
    ∃ (v0 : (c : Dev Cert.FfnDaIdeal.nD) → Buf (Elt Ideal) ((c.tc : Thread Cert.FfnDaIdeal.nD Cert.FfnDaIdeal.τ).loc Cert.FfnDaIdeal.main_v11)),
      θ_run (Cert.FfnDaIdeal.defs (F := Ideal)) (onTc (τ := Cert.FfnDaIdeal.τ) (Cert.FfnDaIdeal.main (F := Ideal))) ⟨m, fun _ => 0, g⟩ (fun r => ∀ c : Dev Cert.FfnDaIdeal.nD,
          r.2.mem ((c.tc : Thread Cert.FfnDaIdeal.nD Cert.FfnDaIdeal.τ).loc Cert.FfnDaIdeal.main_v11) = v0 c
          ∧ r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
          ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
          ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
          ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ θ_run (Cert.FfnDaRefIdeal.defs (F := Ideal)) (onTc (τ := Cert.FfnDaRefIdeal.τ) (Cert.FfnDaRefIdeal.main (F := Ideal))) ⟨m', fun _ => 0, g'⟩ (fun r => ∀ c : Dev Cert.FfnDaRefIdeal.nD,
          r.2.mem ((c.tc : Thread Cert.FfnDaRefIdeal.nD Cert.FfnDaRefIdeal.τ).loc Cert.FfnDaRefIdeal.main_v12) = v0 c
          ∧ r.2.mem ((c.tc : Thread Cert.FfnDaRefIdeal.nD Cert.FfnDaRefIdeal.τ).loc Cert.FfnDaRefIdeal.main_arg0) = m' ((c.tc : Thread Cert.FfnDaRefIdeal.nD Cert.FfnDaRefIdeal.τ).loc Cert.FfnDaRefIdeal.main_arg0)
          ∧ r.2.mem ((c.tc : Thread Cert.FfnDaRefIdeal.nD Cert.FfnDaRefIdeal.τ).loc Cert.FfnDaRefIdeal.main_arg1) = m' ((c.tc : Thread Cert.FfnDaRefIdeal.nD Cert.FfnDaRefIdeal.τ).loc Cert.FfnDaRefIdeal.main_arg1)
          ∧ r.2.mem ((c.tc : Thread Cert.FfnDaRefIdeal.nD Cert.FfnDaRefIdeal.τ).loc Cert.FfnDaRefIdeal.main_arg2) = m' ((c.tc : Thread Cert.FfnDaRefIdeal.nD Cert.FfnDaRefIdeal.τ).loc Cert.FfnDaRefIdeal.main_arg2)
          ∧ r.2.mem ((c.tc : Thread Cert.FfnDaRefIdeal.nD Cert.FfnDaRefIdeal.τ).loc Cert.FfnDaRefIdeal.main_arg3) = m' ((c.tc : Thread Cert.FfnDaRefIdeal.nD Cert.FfnDaRefIdeal.τ).loc Cert.FfnDaRefIdeal.main_arg3))

def preserves_Xattn_XattnIdeal : Prop :=
  True

def algebraic_XattnIdeal_XattnRefIdeal_pre_xattn_finite [hXattnIdeal : Cert.XattnIdeal.Facts] [hXattnRefIdeal : Cert.XattnRefIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_xattn_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)) →
    ∃ (v0 : (c : Dev Cert.XattnIdeal.nD) → Buf (Elt Ideal) ((c.tc : Thread Cert.XattnIdeal.nD Cert.XattnIdeal.τ).loc Cert.XattnIdeal.main_v8_0)) (v1 : (c : Dev Cert.XattnIdeal.nD) → Buf (Elt Ideal) ((c.tc : Thread Cert.XattnIdeal.nD Cert.XattnIdeal.τ).loc Cert.XattnIdeal.main_v8_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v8_0) = v0 c
          ∧ r.2.mem ((c.tc : Thread Cert.XattnIdeal.nD Cert.XattnIdeal.τ).loc Cert.XattnIdeal.main_v8_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v60) = v0 c
          ∧ r.2.mem ((c.tc : Thread Cert.XattnRefIdeal.nD Cert.XattnRefIdeal.τ).loc Cert.XattnRefIdeal.main_v64) = v1 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3))

def preserves_Fox_FoxIdeal : Prop :=
  IdealRules.named_const.Statement Cert.FoxIdeal.κ "mask" .f32 0xF149F2CA#32 ⊥

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v196_0)) (v1 : (c : Dev Cert.FoxIdeal.nD) → Buf (Elt Ideal) ((c.tc : Thread Cert.FoxIdeal.nD Cert.FoxIdeal.τ).loc Cert.FoxIdeal.main_v196_1)) (v2 : (c : Dev Cert.FoxIdeal.nD) → Buf (Elt Ideal) ((c.tc : Thread Cert.FoxIdeal.nD Cert.FoxIdeal.τ).loc Cert.FoxIdeal.main_v196_2)) (v3 : (c : Dev Cert.FoxIdeal.nD) → Buf (Elt Ideal) ((c.tc : Thread Cert.FoxIdeal.nD Cert.FoxIdeal.τ).loc Cert.FoxIdeal.main_v196_3)) (v4 : (c : Dev Cert.FoxIdeal.nD) → Buf (Elt Ideal) ((c.tc : Thread Cert.FoxIdeal.nD Cert.FoxIdeal.τ).loc Cert.FoxIdeal.main_v196_4)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v196_0) = v0 c
          ∧ r.2.mem ((c.tc : Thread Cert.FoxIdeal.nD Cert.FoxIdeal.τ).loc Cert.FoxIdeal.main_v196_1) = v1 c
          ∧ r.2.mem ((c.tc : Thread Cert.FoxIdeal.nD Cert.FoxIdeal.τ).loc Cert.FoxIdeal.main_v196_2) = v2 c
          ∧ r.2.mem ((c.tc : Thread Cert.FoxIdeal.nD Cert.FoxIdeal.τ).loc Cert.FoxIdeal.main_v196_3) = v3 c
          ∧ r.2.mem ((c.tc : Thread Cert.FoxIdeal.nD Cert.FoxIdeal.τ).loc Cert.FoxIdeal.main_v196_4) = v4 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v88) = v0 c
          ∧ r.2.mem ((c.tc : Thread Cert.FoxRefIdeal.nD Cert.FoxRefIdeal.τ).loc Cert.FoxRefIdeal.main_v87) = v1 c
          ∧ r.2.mem ((c.tc : Thread Cert.FoxRefIdeal.nD Cert.FoxRefIdeal.τ).loc Cert.FoxRefIdeal.main_v59) = v2 c
          ∧ r.2.mem ((c.tc : Thread Cert.FoxRefIdeal.nD Cert.FoxRefIdeal.τ).loc Cert.FoxRefIdeal.main_v92) = v3 c
          ∧ r.2.mem ((c.tc : Thread Cert.FoxRefIdeal.nD Cert.FoxRefIdeal.τ).loc Cert.FoxRefIdeal.main_v90) = v4 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_XattnFwd_XattnFwdIdeal : Prop :=
  True

def algebraic_XattnFwdIdeal_XattnFwdRefIdeal [hXattnFwdIdeal : Cert.XattnFwdIdeal.Facts] [hXattnFwdRefIdeal : Cert.XattnFwdRefIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg)
    (m' : (ℓ : Loc Cert.XattnFwdRefIdeal.nD Cert.XattnFwdRefIdeal.τ Cert.XattnFwdRefIdeal.sig) → Buf (Elt Ideal) ℓ) (g' : Dev Cert.XattnFwdRefIdeal.nD → PrngReg), Pre_XattnFwdIdeal m →
    (∀ c : Dev Cert.XattnFwdIdeal.nD,
      m' ((c.tc : Thread Cert.XattnFwdRefIdeal.nD Cert.XattnFwdRefIdeal.τ).loc Cert.XattnFwdRefIdeal.main_arg0) = m ((c.tc : Thread Cert.XattnFwdIdeal.nD Cert.XattnFwdIdeal.τ).loc Cert.XattnFwdIdeal.main_arg0)
      ∧ m' ((c.tc : Thread Cert.XattnFwdRefIdeal.nD Cert.XattnFwdRefIdeal.τ).loc Cert.XattnFwdRefIdeal.main_arg1) = m ((c.tc : Thread Cert.XattnFwdIdeal.nD Cert.XattnFwdIdeal.τ).loc Cert.XattnFwdIdeal.main_arg1)
      ∧ m' ((c.tc : Thread Cert.XattnFwdRefIdeal.nD Cert.XattnFwdRefIdeal.τ).loc Cert.XattnFwdRefIdeal.main_arg2) = m ((c.tc : Thread Cert.XattnFwdIdeal.nD Cert.XattnFwdIdeal.τ).loc Cert.XattnFwdIdeal.main_arg2)
      ∧ m' ((c.tc : Thread Cert.XattnFwdRefIdeal.nD Cert.XattnFwdRefIdeal.τ).loc Cert.XattnFwdRefIdeal.main_arg3) = m ((c.tc : Thread Cert.XattnFwdIdeal.nD Cert.XattnFwdIdeal.τ).loc Cert.XattnFwdIdeal.main_arg3)) →
    ∃ (v0 : (c : Dev Cert.XattnFwdIdeal.nD) → Buf (Elt Ideal) ((c.tc : Thread Cert.XattnFwdIdeal.nD Cert.XattnFwdIdeal.τ).loc Cert.XattnFwdIdeal.main_v8_0)) (v1 : (c : Dev Cert.XattnFwdIdeal.nD) → Buf (Elt Ideal) ((c.tc : Thread Cert.XattnFwdIdeal.nD Cert.XattnFwdIdeal.τ).loc Cert.XattnFwdIdeal.main_v8_1)),
      θ_run (Cert.XattnFwdIdeal.defs (F := Ideal)) (onTc (τ := Cert.XattnFwdIdeal.τ) (Cert.XattnFwdIdeal.main (F := Ideal))) ⟨m, fun _ => 0, g⟩ (fun r => ∀ c : Dev Cert.XattnFwdIdeal.nD,
          r.2.mem ((c.tc : Thread Cert.XattnFwdIdeal.nD Cert.XattnFwdIdeal.τ).loc Cert.XattnFwdIdeal.main_v8_0) = v0 c
          ∧ r.2.mem ((c.tc : Thread Cert.XattnFwdIdeal.nD Cert.XattnFwdIdeal.τ).loc Cert.XattnFwdIdeal.main_v8_1) = v1 c
          ∧ r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
          ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1)
          ∧ r.2.mem ((c.tc : Thread Cert.XattnFwdIdeal.nD Cert.XattnFwdIdeal.τ).loc Cert.XattnFwdIdeal.main_arg2) = m ((c.tc : Thread Cert.XattnFwdIdeal.nD Cert.XattnFwdIdeal.τ).loc Cert.XattnFwdIdeal.main_arg2)
          ∧ r.2.mem ((c.tc : Thread Cert.XattnFwdIdeal.nD Cert.XattnFwdIdeal.τ).loc Cert.XattnFwdIdeal.main_arg3) = m ((c.tc : Thread Cert.XattnFwdIdeal.nD Cert.XattnFwdIdeal.τ).loc Cert.XattnFwdIdeal.main_arg3))
      ∧ θ_run (Cert.XattnFwdRefIdeal.defs (F := Ideal)) (onTc (τ := Cert.XattnFwdRefIdeal.τ) (Cert.XattnFwdRefIdeal.main (F := Ideal))) ⟨m', fun _ => 0, g'⟩ (fun r => ∀ c : Dev Cert.XattnFwdRefIdeal.nD,
          r.2.mem ((c.tc : Thread Cert.XattnFwdRefIdeal.nD Cert.XattnFwdRefIdeal.τ).loc Cert.XattnFwdRefIdeal.main_v21) = v0 c
          ∧ r.2.mem ((c.tc : Thread Cert.XattnFwdRefIdeal.nD Cert.XattnFwdRefIdeal.τ).loc Cert.XattnFwdRefIdeal.main_v22) = v1 c
          ∧ r.2.mem ((c.tc : Thread Cert.XattnFwdRefIdeal.nD Cert.XattnFwdRefIdeal.τ).loc Cert.XattnFwdRefIdeal.main_arg0) = m' ((c.tc : Thread Cert.XattnFwdRefIdeal.nD Cert.XattnFwdRefIdeal.τ).loc Cert.XattnFwdRefIdeal.main_arg0)
          ∧ r.2.mem ((c.tc : Thread Cert.XattnFwdRefIdeal.nD Cert.XattnFwdRefIdeal.τ).loc Cert.XattnFwdRefIdeal.main_arg1) = m' ((c.tc : Thread Cert.XattnFwdRefIdeal.nD Cert.XattnFwdRefIdeal.τ).loc Cert.XattnFwdRefIdeal.main_arg1)
          ∧ r.2.mem ((c.tc : Thread Cert.XattnFwdRefIdeal.nD Cert.XattnFwdRefIdeal.τ).loc Cert.XattnFwdRefIdeal.main_arg2) = m' ((c.tc : Thread Cert.XattnFwdRefIdeal.nD Cert.XattnFwdRefIdeal.τ).loc Cert.XattnFwdRefIdeal.main_arg2)
          ∧ r.2.mem ((c.tc : Thread Cert.XattnFwdRefIdeal.nD Cert.XattnFwdRefIdeal.τ).loc Cert.XattnFwdRefIdeal.main_arg3) = m' ((c.tc : Thread Cert.XattnFwdRefIdeal.nD Cert.XattnFwdRefIdeal.τ).loc Cert.XattnFwdRefIdeal.main_arg3))

def preserves_FoxFwd_FoxFwdIdeal : Prop :=
  IdealRules.named_const.Statement Cert.FoxFwdIdeal.κ "mask" .f32 0xF149F2CA#32 ⊥

def algebraic_FoxFwdIdeal_FoxFwdRefIdeal_pre_fox_fwd_finite [hFoxFwdIdeal : Cert.FoxFwdIdeal.Facts] [hFoxFwdRefIdeal : Cert.FoxFwdRefIdeal.Facts] [hPre_fox_fwd_finite : Cert.Pre_fox_fwd_finite.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.FoxFwdRefIdeal.nD Cert.FoxFwdRefIdeal.τ Cert.FoxFwdRefIdeal.sig) → Buf (Elt Ideal) ℓ) (g' : Dev Cert.FoxFwdRefIdeal.nD → PrngReg), Pre_FoxFwdIdeal_fox_fwd_finite m →
    (∀ c : Dev Cert.FoxFwdIdeal.nD,
      m' ((c.tc : Thread Cert.FoxFwdRefIdeal.nD Cert.FoxFwdRefIdeal.τ).loc Cert.FoxFwdRefIdeal.main_arg0) = m ((c.tc : Thread Cert.FoxFwdIdeal.nD Cert.FoxFwdIdeal.τ).loc Cert.FoxFwdIdeal.main_arg0)
      ∧ m' ((c.tc : Thread Cert.FoxFwdRefIdeal.nD Cert.FoxFwdRefIdeal.τ).loc Cert.FoxFwdRefIdeal.main_arg1) = m ((c.tc : Thread Cert.FoxFwdIdeal.nD Cert.FoxFwdIdeal.τ).loc Cert.FoxFwdIdeal.main_arg1)
      ∧ m' ((c.tc : Thread Cert.FoxFwdRefIdeal.nD Cert.FoxFwdRefIdeal.τ).loc Cert.FoxFwdRefIdeal.main_arg2) = m ((c.tc : Thread Cert.FoxFwdIdeal.nD Cert.FoxFwdIdeal.τ).loc Cert.FoxFwdIdeal.main_arg2)
      ∧ m' ((c.tc : Thread Cert.FoxFwdRefIdeal.nD Cert.FoxFwdRefIdeal.τ).loc Cert.FoxFwdRefIdeal.main_arg3) = m ((c.tc : Thread Cert.FoxFwdIdeal.nD Cert.FoxFwdIdeal.τ).loc Cert.FoxFwdIdeal.main_arg3)) →
    ∃ (v0 : (c : Dev Cert.FoxFwdIdeal.nD) → Buf (Elt Ideal) ((c.tc : Thread Cert.FoxFwdIdeal.nD Cert.FoxFwdIdeal.τ).loc Cert.FoxFwdIdeal.main_v158_0)) (v1 : (c : Dev Cert.FoxFwdIdeal.nD) → Buf (Elt Ideal) ((c.tc : Thread Cert.FoxFwdIdeal.nD Cert.FoxFwdIdeal.τ).loc Cert.FoxFwdIdeal.main_v158_1)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v158_0) = v0 c
          ∧ r.2.mem ((c.tc : Thread Cert.FoxFwdIdeal.nD Cert.FoxFwdIdeal.τ).loc Cert.FoxFwdIdeal.main_v158_1) = v1 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
          ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
          ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ θ_run (Cert.FoxFwdRefIdeal.defs (F := Ideal)) (onTc (τ := Cert.FoxFwdRefIdeal.τ) (Cert.FoxFwdRefIdeal.main (F := Ideal))) ⟨m', fun _ => 0, g'⟩ (fun r => ∀ c : Dev Cert.FoxFwdRefIdeal.nD,
          r.2.mem ((c.tc : Thread Cert.FoxFwdRefIdeal.nD Cert.FoxFwdRefIdeal.τ).loc Cert.FoxFwdRefIdeal.main_v35) = v0 c
          ∧ r.2.mem ((c.tc : Thread Cert.FoxFwdRefIdeal.nD Cert.FoxFwdRefIdeal.τ).loc Cert.FoxFwdRefIdeal.main_v45) = v1 c
          ∧ r.2.mem ((c.tc : Thread Cert.FoxFwdRefIdeal.nD Cert.FoxFwdRefIdeal.τ).loc Cert.FoxFwdRefIdeal.main_arg0) = m' ((c.tc : Thread Cert.FoxFwdRefIdeal.nD Cert.FoxFwdRefIdeal.τ).loc Cert.FoxFwdRefIdeal.main_arg0)
          ∧ r.2.mem ((c.tc : Thread Cert.FoxFwdRefIdeal.nD Cert.FoxFwdRefIdeal.τ).loc Cert.FoxFwdRefIdeal.main_arg1) = m' ((c.tc : Thread Cert.FoxFwdRefIdeal.nD Cert.FoxFwdRefIdeal.τ).loc Cert.FoxFwdRefIdeal.main_arg1)
          ∧ r.2.mem ((c.tc : Thread Cert.FoxFwdRefIdeal.nD Cert.FoxFwdRefIdeal.τ).loc Cert.FoxFwdRefIdeal.main_arg2) = m' ((c.tc : Thread Cert.FoxFwdRefIdeal.nD Cert.FoxFwdRefIdeal.τ).loc Cert.FoxFwdRefIdeal.main_arg2)
          ∧ r.2.mem ((c.tc : Thread Cert.FoxFwdRefIdeal.nD Cert.FoxFwdRefIdeal.τ).loc Cert.FoxFwdRefIdeal.main_arg3) = m' ((c.tc : Thread Cert.FoxFwdRefIdeal.nD Cert.FoxFwdRefIdeal.τ).loc Cert.FoxFwdRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_NormAdd_NormAddIdeal : Prop :=
  True

def algebraic_NormAddIdeal_NormAddRefIdeal [hNormAddIdeal : Cert.NormAddIdeal.Facts] [hNormAddRefIdeal : Cert.NormAddRefIdeal.Facts] : Prop :=
  ∀ (m : (ℓ : Loc Cert.NormAddIdeal.nD Cert.NormAddIdeal.τ Cert.NormAddIdeal.sig) → Buf (Elt Ideal) ℓ) (g : Dev Cert.NormAddIdeal.nD → PrngReg)
    (m' : (ℓ : Loc Cert.NormAddRefIdeal.nD Cert.NormAddRefIdeal.τ Cert.NormAddRefIdeal.sig) → Buf (Elt Ideal) ℓ) (g' : Dev Cert.NormAddRefIdeal.nD → PrngReg), Pre_NormAddIdeal m →
    (∀ c : Dev Cert.NormAddIdeal.nD,
      m' ((c.tc : Thread Cert.NormAddRefIdeal.nD Cert.NormAddRefIdeal.τ).loc Cert.NormAddRefIdeal.main_arg0) = m ((c.tc : Thread Cert.NormAddIdeal.nD Cert.NormAddIdeal.τ).loc Cert.NormAddIdeal.main_arg0)
      ∧ m' ((c.tc : Thread Cert.NormAddRefIdeal.nD Cert.NormAddRefIdeal.τ).loc Cert.NormAddRefIdeal.main_arg1) = m ((c.tc : Thread Cert.NormAddIdeal.nD Cert.NormAddIdeal.τ).loc Cert.NormAddIdeal.main_arg1)
      ∧ m' ((c.tc : Thread Cert.NormAddRefIdeal.nD Cert.NormAddRefIdeal.τ).loc Cert.NormAddRefIdeal.main_arg2) = m ((c.tc : Thread Cert.NormAddIdeal.nD Cert.NormAddIdeal.τ).loc Cert.NormAddIdeal.main_arg2)) →
    ∃ (v0 : (c : Dev Cert.NormAddIdeal.nD) → Buf (Elt Ideal) ((c.tc : Thread Cert.NormAddIdeal.nD Cert.NormAddIdeal.τ).loc Cert.NormAddIdeal.main_v1)),
      θ_run (Cert.NormAddIdeal.defs (F := Ideal)) (onTc (τ := Cert.NormAddIdeal.τ) (Cert.NormAddIdeal.main (F := Ideal))) ⟨m, fun _ => 0, g⟩ (fun r => ∀ c : Dev Cert.NormAddIdeal.nD,
          r.2.mem ((c.tc : Thread Cert.NormAddIdeal.nD Cert.NormAddIdeal.τ).loc Cert.NormAddIdeal.main_v1) = v0 c
          ∧ r.2.mem ((c.tc : Thread Cert.NormAddIdeal.nD Cert.NormAddIdeal.τ).loc Cert.NormAddIdeal.main_arg0) = m ((c.tc : Thread Cert.NormAddIdeal.nD Cert.NormAddIdeal.τ).loc Cert.NormAddIdeal.main_arg0)
          ∧ r.2.mem ((c.tc : Thread Cert.NormAddIdeal.nD Cert.NormAddIdeal.τ).loc Cert.NormAddIdeal.main_arg1) = m ((c.tc : Thread Cert.NormAddIdeal.nD Cert.NormAddIdeal.τ).loc Cert.NormAddIdeal.main_arg1)
          ∧ r.2.mem ((c.tc : Thread Cert.NormAddIdeal.nD Cert.NormAddIdeal.τ).loc Cert.NormAddIdeal.main_arg2) = m ((c.tc : Thread Cert.NormAddIdeal.nD Cert.NormAddIdeal.τ).loc Cert.NormAddIdeal.main_arg2))
      ∧ θ_run (Cert.NormAddRefIdeal.defs (F := Ideal)) (onTc (τ := Cert.NormAddRefIdeal.τ) (Cert.NormAddRefIdeal.main (F := Ideal))) ⟨m', fun _ => 0, g'⟩ (fun r => ∀ c : Dev Cert.NormAddRefIdeal.nD,
          r.2.mem ((c.tc : Thread Cert.NormAddRefIdeal.nD Cert.NormAddRefIdeal.τ).loc Cert.NormAddRefIdeal.main_v13) = v0 c
          ∧ r.2.mem ((c.tc : Thread Cert.NormAddRefIdeal.nD Cert.NormAddRefIdeal.τ).loc Cert.NormAddRefIdeal.main_arg0) = m' ((c.tc : Thread Cert.NormAddRefIdeal.nD Cert.NormAddRefIdeal.τ).loc Cert.NormAddRefIdeal.main_arg0)
          ∧ r.2.mem ((c.tc : Thread Cert.NormAddRefIdeal.nD Cert.NormAddRefIdeal.τ).loc Cert.NormAddRefIdeal.main_arg1) = m' ((c.tc : Thread Cert.NormAddRefIdeal.nD Cert.NormAddRefIdeal.τ).loc Cert.NormAddRefIdeal.main_arg1)
          ∧ r.2.mem ((c.tc : Thread Cert.NormAddRefIdeal.nD Cert.NormAddRefIdeal.τ).loc Cert.NormAddRefIdeal.main_arg2) = m' ((c.tc : Thread Cert.NormAddRefIdeal.nD Cert.NormAddRefIdeal.τ).loc Cert.NormAddRefIdeal.main_arg2))

def preserves_SconvFwd_SconvFwdIdeal : Prop :=
  True

def algebraic_SconvFwdIdeal_SconvFwdRefIdeal [hSconvFwdIdeal : Cert.SconvFwdIdeal.Facts] [hSconvFwdRefIdeal : Cert.SconvFwdRefIdeal.Facts] : Prop :=
  ∀ (m : (ℓ : Loc Cert.SconvFwdIdeal.nD Cert.SconvFwdIdeal.τ Cert.SconvFwdIdeal.sig) → Buf (Elt Ideal) ℓ) (g : Dev Cert.SconvFwdIdeal.nD → PrngReg)
    (m' : (ℓ : Loc Cert.SconvFwdRefIdeal.nD Cert.SconvFwdRefIdeal.τ Cert.SconvFwdRefIdeal.sig) → Buf (Elt Ideal) ℓ) (g' : Dev Cert.SconvFwdRefIdeal.nD → PrngReg), Pre_SconvFwdIdeal m →
    (∀ c : Dev Cert.SconvFwdIdeal.nD,
      m' ((c.tc : Thread Cert.SconvFwdRefIdeal.nD Cert.SconvFwdRefIdeal.τ).loc Cert.SconvFwdRefIdeal.main_arg0) = m ((c.tc : Thread Cert.SconvFwdIdeal.nD Cert.SconvFwdIdeal.τ).loc Cert.SconvFwdIdeal.main_arg0)
      ∧ m' ((c.tc : Thread Cert.SconvFwdRefIdeal.nD Cert.SconvFwdRefIdeal.τ).loc Cert.SconvFwdRefIdeal.main_arg1) = m ((c.tc : Thread Cert.SconvFwdIdeal.nD Cert.SconvFwdIdeal.τ).loc Cert.SconvFwdIdeal.main_arg1)) →
    ∃ (v0 : (c : Dev Cert.SconvFwdIdeal.nD) → Buf (Elt Ideal) ((c.tc : Thread Cert.SconvFwdIdeal.nD Cert.SconvFwdIdeal.τ).loc Cert.SconvFwdIdeal.main_v5)),
      θ_run (Cert.SconvFwdIdeal.defs (F := Ideal)) (onTc (τ := Cert.SconvFwdIdeal.τ) (Cert.SconvFwdIdeal.main (F := Ideal))) ⟨m, fun _ => 0, g⟩ (fun r => ∀ c : Dev Cert.SconvFwdIdeal.nD,
          r.2.mem ((c.tc : Thread Cert.SconvFwdIdeal.nD Cert.SconvFwdIdeal.τ).loc Cert.SconvFwdIdeal.main_v5) = v0 c
          ∧ r.2.mem ((c.tc : Thread Cert.SconvFwdIdeal.nD Cert.SconvFwdIdeal.τ).loc Cert.SconvFwdIdeal.main_arg0) = m ((c.tc : Thread Cert.SconvFwdIdeal.nD Cert.SconvFwdIdeal.τ).loc Cert.SconvFwdIdeal.main_arg0)
          ∧ r.2.mem ((c.tc : Thread Cert.SconvFwdIdeal.nD Cert.SconvFwdIdeal.τ).loc Cert.SconvFwdIdeal.main_arg1) = m ((c.tc : Thread Cert.SconvFwdIdeal.nD Cert.SconvFwdIdeal.τ).loc Cert.SconvFwdIdeal.main_arg1))
      ∧ θ_run (Cert.SconvFwdRefIdeal.defs (F := Ideal)) (onTc (τ := Cert.SconvFwdRefIdeal.τ) (Cert.SconvFwdRefIdeal.main (F := Ideal))) ⟨m', fun _ => 0, g'⟩ (fun r => ∀ c : Dev Cert.SconvFwdRefIdeal.nD,
          r.2.mem ((c.tc : Thread Cert.SconvFwdRefIdeal.nD Cert.SconvFwdRefIdeal.τ).loc Cert.SconvFwdRefIdeal.main_v33) = v0 c
          ∧ r.2.mem ((c.tc : Thread Cert.SconvFwdRefIdeal.nD Cert.SconvFwdRefIdeal.τ).loc Cert.SconvFwdRefIdeal.main_arg0) = m' ((c.tc : Thread Cert.SconvFwdRefIdeal.nD Cert.SconvFwdRefIdeal.τ).loc Cert.SconvFwdRefIdeal.main_arg0)
          ∧ r.2.mem ((c.tc : Thread Cert.SconvFwdRefIdeal.nD Cert.SconvFwdRefIdeal.τ).loc Cert.SconvFwdRefIdeal.main_arg1) = m' ((c.tc : Thread Cert.SconvFwdRefIdeal.nD Cert.SconvFwdRefIdeal.τ).loc Cert.SconvFwdRefIdeal.main_arg1))

def preserves_LruConvFwd_LruConvFwdIdeal : Prop :=
  True

def algebraic_LruConvFwdIdeal_LruConvFwdRefIdeal [hLruConvFwdIdeal : Cert.LruConvFwdIdeal.Facts] [hLruConvFwdRefIdeal : Cert.LruConvFwdRefIdeal.Facts] : Prop :=
  ∀ (m : (ℓ : Loc Cert.LruConvFwdIdeal.nD Cert.LruConvFwdIdeal.τ Cert.LruConvFwdIdeal.sig) → Buf (Elt Ideal) ℓ) (g : Dev Cert.LruConvFwdIdeal.nD → PrngReg)
    (m' : (ℓ : Loc Cert.LruConvFwdRefIdeal.nD Cert.LruConvFwdRefIdeal.τ Cert.LruConvFwdRefIdeal.sig) → Buf (Elt Ideal) ℓ) (g' : Dev Cert.LruConvFwdRefIdeal.nD → PrngReg), Pre_LruConvFwdIdeal m →
    (∀ c : Dev Cert.LruConvFwdIdeal.nD,
      m' ((c.tc : Thread Cert.LruConvFwdRefIdeal.nD Cert.LruConvFwdRefIdeal.τ).loc Cert.LruConvFwdRefIdeal.main_arg0) = m ((c.tc : Thread Cert.LruConvFwdIdeal.nD Cert.LruConvFwdIdeal.τ).loc Cert.LruConvFwdIdeal.main_arg0)
      ∧ m' ((c.tc : Thread Cert.LruConvFwdRefIdeal.nD Cert.LruConvFwdRefIdeal.τ).loc Cert.LruConvFwdRefIdeal.main_arg1) = m ((c.tc : Thread Cert.LruConvFwdIdeal.nD Cert.LruConvFwdIdeal.τ).loc Cert.LruConvFwdIdeal.main_arg1)
      ∧ m' ((c.tc : Thread Cert.LruConvFwdRefIdeal.nD Cert.LruConvFwdRefIdeal.τ).loc Cert.LruConvFwdRefIdeal.main_arg2) = m ((c.tc : Thread Cert.LruConvFwdIdeal.nD Cert.LruConvFwdIdeal.τ).loc Cert.LruConvFwdIdeal.main_arg2)) →
    ∃ (v0 : (c : Dev Cert.LruConvFwdIdeal.nD) → Buf (Elt Ideal) ((c.tc : Thread Cert.LruConvFwdIdeal.nD Cert.LruConvFwdIdeal.τ).loc Cert.LruConvFwdIdeal.main_v3)),
      θ_run (Cert.LruConvFwdIdeal.defs (F := Ideal)) (onTc (τ := Cert.LruConvFwdIdeal.τ) (Cert.LruConvFwdIdeal.main (F := Ideal))) ⟨m, fun _ => 0, g⟩ (fun r => ∀ c : Dev Cert.LruConvFwdIdeal.nD,
          r.2.mem ((c.tc : Thread Cert.LruConvFwdIdeal.nD Cert.LruConvFwdIdeal.τ).loc Cert.LruConvFwdIdeal.main_v3) = v0 c
          ∧ r.2.mem ((c.tc : Thread Cert.LruConvFwdIdeal.nD Cert.LruConvFwdIdeal.τ).loc Cert.LruConvFwdIdeal.main_arg0) = m ((c.tc : Thread Cert.LruConvFwdIdeal.nD Cert.LruConvFwdIdeal.τ).loc Cert.LruConvFwdIdeal.main_arg0)
          ∧ r.2.mem ((c.tc : Thread Cert.LruConvFwdIdeal.nD Cert.LruConvFwdIdeal.τ).loc Cert.LruConvFwdIdeal.main_arg1) = m ((c.tc : Thread Cert.LruConvFwdIdeal.nD Cert.LruConvFwdIdeal.τ).loc Cert.LruConvFwdIdeal.main_arg1)
          ∧ r.2.mem ((c.tc : Thread Cert.LruConvFwdIdeal.nD Cert.LruConvFwdIdeal.τ).loc Cert.LruConvFwdIdeal.main_arg2) = m ((c.tc : Thread Cert.LruConvFwdIdeal.nD Cert.LruConvFwdIdeal.τ).loc Cert.LruConvFwdIdeal.main_arg2))
      ∧ θ_run (Cert.LruConvFwdRefIdeal.defs (F := Ideal)) (onTc (τ := Cert.LruConvFwdRefIdeal.τ) (Cert.LruConvFwdRefIdeal.main (F := Ideal))) ⟨m', fun _ => 0, g'⟩ (fun r => ∀ c : Dev Cert.LruConvFwdRefIdeal.nD,
          r.2.mem ((c.tc : Thread Cert.LruConvFwdRefIdeal.nD Cert.LruConvFwdRefIdeal.τ).loc Cert.LruConvFwdRefIdeal.main_v37) = v0 c
          ∧ r.2.mem ((c.tc : Thread Cert.LruConvFwdRefIdeal.nD Cert.LruConvFwdRefIdeal.τ).loc Cert.LruConvFwdRefIdeal.main_arg0) = m' ((c.tc : Thread Cert.LruConvFwdRefIdeal.nD Cert.LruConvFwdRefIdeal.τ).loc Cert.LruConvFwdRefIdeal.main_arg0)
          ∧ r.2.mem ((c.tc : Thread Cert.LruConvFwdRefIdeal.nD Cert.LruConvFwdRefIdeal.τ).loc Cert.LruConvFwdRefIdeal.main_arg1) = m' ((c.tc : Thread Cert.LruConvFwdRefIdeal.nD Cert.LruConvFwdRefIdeal.τ).loc Cert.LruConvFwdRefIdeal.main_arg1)
          ∧ r.2.mem ((c.tc : Thread Cert.LruConvFwdRefIdeal.nD Cert.LruConvFwdRefIdeal.τ).loc Cert.LruConvFwdRefIdeal.main_arg2) = m' ((c.tc : Thread Cert.LruConvFwdRefIdeal.nD Cert.LruConvFwdRefIdeal.τ).loc Cert.LruConvFwdRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v11) = v0 c
          ∧ r.2.mem ((c.tc : Thread Cert.FfnUpRefIdeal.nD Cert.FfnUpRefIdeal.τ).loc Cert.FfnUpRefIdeal.main_v16) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FoxCum_FoxCumIdeal : Prop :=
  True

def algebraic_FoxCumIdeal_FoxCumRefIdeal [hFoxCumIdeal : Cert.FoxCumIdeal.Facts] [hFoxCumRefIdeal : Cert.FoxCumRefIdeal.Facts] : Prop :=
  ∀ (m : (ℓ : Loc Cert.FoxCumIdeal.nD Cert.FoxCumIdeal.τ Cert.FoxCumIdeal.sig) → Buf (Elt Ideal) ℓ) (g : Dev Cert.FoxCumIdeal.nD → PrngReg)
    (m' : (ℓ : Loc Cert.FoxCumRefIdeal.nD Cert.FoxCumRefIdeal.τ Cert.FoxCumRefIdeal.sig) → Buf (Elt Ideal) ℓ) (g' : Dev Cert.FoxCumRefIdeal.nD → PrngReg), Pre_FoxCumIdeal m →
    (∀ c : Dev Cert.FoxCumIdeal.nD,
      m' ((c.tc : Thread Cert.FoxCumRefIdeal.nD Cert.FoxCumRefIdeal.τ).loc Cert.FoxCumRefIdeal.main_arg0) = m ((c.tc : Thread Cert.FoxCumIdeal.nD Cert.FoxCumIdeal.τ).loc Cert.FoxCumIdeal.main_arg0)
      ∧ m' ((c.tc : Thread Cert.FoxCumRefIdeal.nD Cert.FoxCumRefIdeal.τ).loc Cert.FoxCumRefIdeal.main_arg1) = m ((c.tc : Thread Cert.FoxCumIdeal.nD Cert.FoxCumIdeal.τ).loc Cert.FoxCumIdeal.main_arg1)) →
    ∃ (v0 : (c : Dev Cert.FoxCumIdeal.nD) → Buf (Elt Ideal) ((c.tc : Thread Cert.FoxCumIdeal.nD Cert.FoxCumIdeal.τ).loc Cert.FoxCumIdeal.main_v3)),
      θ_run (Cert.FoxCumIdeal.defs (F := Ideal)) (onTc (τ := Cert.FoxCumIdeal.τ) (Cert.FoxCumIdeal.main (F := Ideal))) ⟨m, fun _ => 0, g⟩ (fun r => ∀ c : Dev Cert.FoxCumIdeal.nD,
          r.2.mem ((c.tc : Thread Cert.FoxCumIdeal.nD Cert.FoxCumIdeal.τ).loc Cert.FoxCumIdeal.main_v3) = v0 c
          ∧ r.2.mem ((c.tc : Thread Cert.FoxCumIdeal.nD Cert.FoxCumIdeal.τ).loc Cert.FoxCumIdeal.main_arg0) = m ((c.tc : Thread Cert.FoxCumIdeal.nD Cert.FoxCumIdeal.τ).loc Cert.FoxCumIdeal.main_arg0)
          ∧ r.2.mem ((c.tc : Thread Cert.FoxCumIdeal.nD Cert.FoxCumIdeal.τ).loc Cert.FoxCumIdeal.main_arg1) = m ((c.tc : Thread Cert.FoxCumIdeal.nD Cert.FoxCumIdeal.τ).loc Cert.FoxCumIdeal.main_arg1))
      ∧ θ_run (Cert.FoxCumRefIdeal.defs (F := Ideal)) (onTc (τ := Cert.FoxCumRefIdeal.τ) (Cert.FoxCumRefIdeal.main (F := Ideal))) ⟨m', fun _ => 0, g'⟩ (fun r => ∀ c : Dev Cert.FoxCumRefIdeal.nD,
          r.2.mem ((c.tc : Thread Cert.FoxCumRefIdeal.nD Cert.FoxCumRefIdeal.τ).loc Cert.FoxCumRefIdeal.main_v5) = v0 c
          ∧ r.2.mem ((c.tc : Thread Cert.FoxCumRefIdeal.nD Cert.FoxCumRefIdeal.τ).loc Cert.FoxCumRefIdeal.main_arg0) = m' ((c.tc : Thread Cert.FoxCumRefIdeal.nD Cert.FoxCumRefIdeal.τ).loc Cert.FoxCumRefIdeal.main_arg0)
          ∧ r.2.mem ((c.tc : Thread Cert.FoxCumRefIdeal.nD Cert.FoxCumRefIdeal.τ).loc Cert.FoxCumRefIdeal.main_arg1) = m' ((c.tc : Thread Cert.FoxCumRefIdeal.nD Cert.FoxCumRefIdeal.τ).loc Cert.FoxCumRefIdeal.main_arg1))

def preserves_LruScan_LruScanIdeal : Prop :=
  True

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v1)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v1) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v13) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_MmNn_MmNnIdeal : Prop :=
  True

def algebraic_MmNnIdeal_MmNnRefIdeal [hMmNnIdeal : Cert.MmNnIdeal.Facts] [hMmNnRefIdeal : Cert.MmNnRefIdeal.Facts] : Prop :=
  ∀ (m : (ℓ : Loc Cert.MmNnIdeal.nD Cert.MmNnIdeal.τ Cert.MmNnIdeal.sig) → Buf (Elt Ideal) ℓ) (g : Dev Cert.MmNnIdeal.nD → PrngReg)
    (m' : (ℓ : Loc Cert.MmNnRefIdeal.nD Cert.MmNnRefIdeal.τ Cert.MmNnRefIdeal.sig) → Buf (Elt Ideal) ℓ) (g' : Dev Cert.MmNnRefIdeal.nD → PrngReg), Pre_MmNnIdeal m →
    (∀ c : Dev Cert.MmNnIdeal.nD,
      m' ((c.tc : Thread Cert.MmNnRefIdeal.nD Cert.MmNnRefIdeal.τ).loc Cert.MmNnRefIdeal.main_arg0) = m ((c.tc : Thread Cert.MmNnIdeal.nD Cert.MmNnIdeal.τ).loc Cert.MmNnIdeal.main_arg0)
      ∧ m' ((c.tc : Thread Cert.MmNnRefIdeal.nD Cert.MmNnRefIdeal.τ).loc Cert.MmNnRefIdeal.main_arg1) = m ((c.tc : Thread Cert.MmNnIdeal.nD Cert.MmNnIdeal.τ).loc Cert.MmNnIdeal.main_arg1)) →
    ∃ (v0 : (c : Dev Cert.MmNnIdeal.nD) → Buf (Elt Ideal) ((c.tc : Thread Cert.MmNnIdeal.nD Cert.MmNnIdeal.τ).loc Cert.MmNnIdeal.main_v2)),
      θ_run (Cert.MmNnIdeal.defs (F := Ideal)) (onTc (τ := Cert.MmNnIdeal.τ) (Cert.MmNnIdeal.main (F := Ideal))) ⟨m, fun _ => 0, g⟩ (fun r => ∀ c : Dev Cert.MmNnIdeal.nD,
          r.2.mem ((c.tc : Thread Cert.MmNnIdeal.nD Cert.MmNnIdeal.τ).loc Cert.MmNnIdeal.main_v2) = v0 c
          ∧ r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
          ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ θ_run (Cert.MmNnRefIdeal.defs (F := Ideal)) (onTc (τ := Cert.MmNnRefIdeal.τ) (Cert.MmNnRefIdeal.main (F := Ideal))) ⟨m', fun _ => 0, g'⟩ (fun r => ∀ c : Dev Cert.MmNnRefIdeal.nD,
          r.2.mem ((c.tc : Thread Cert.MmNnRefIdeal.nD Cert.MmNnRefIdeal.τ).loc Cert.MmNnRefIdeal.main_v0) = v0 c
          ∧ r.2.mem ((c.tc : Thread Cert.MmNnRefIdeal.nD Cert.MmNnRefIdeal.τ).loc Cert.MmNnRefIdeal.main_arg0) = m' ((c.tc : Thread Cert.MmNnRefIdeal.nD Cert.MmNnRefIdeal.τ).loc Cert.MmNnRefIdeal.main_arg0)
          ∧ r.2.mem ((c.tc : Thread Cert.MmNnRefIdeal.nD Cert.MmNnRefIdeal.τ).loc Cert.MmNnRefIdeal.main_arg1) = m' ((c.tc : Thread Cert.MmNnRefIdeal.nD Cert.MmNnRefIdeal.τ).loc Cert.MmNnRefIdeal.main_arg1))

def preserves_MmCols_MmColsIdeal : Prop :=
  True

def algebraic_MmColsIdeal_MmColsRefIdeal [hMmColsIdeal : Cert.MmColsIdeal.Facts] [hMmColsRefIdeal : Cert.MmColsRefIdeal.Facts] : Prop :=
  ∀ (m : (ℓ : Loc Cert.MmColsIdeal.nD Cert.MmColsIdeal.τ Cert.MmColsIdeal.sig) → Buf (Elt Ideal) ℓ) (g : Dev Cert.MmColsIdeal.nD → PrngReg)
    (m' : (ℓ : Loc Cert.MmColsRefIdeal.nD Cert.MmColsRefIdeal.τ Cert.MmColsRefIdeal.sig) → Buf (Elt Ideal) ℓ) (g' : Dev Cert.MmColsRefIdeal.nD → PrngReg), Pre_MmColsIdeal m →
    (∀ c : Dev Cert.MmColsIdeal.nD,
      m' ((c.tc : Thread Cert.MmColsRefIdeal.nD Cert.MmColsRefIdeal.τ).loc Cert.MmColsRefIdeal.main_arg0) = m ((c.tc : Thread Cert.MmColsIdeal.nD Cert.MmColsIdeal.τ).loc Cert.MmColsIdeal.main_arg0)
      ∧ m' ((c.tc : Thread Cert.MmColsRefIdeal.nD Cert.MmColsRefIdeal.τ).loc Cert.MmColsRefIdeal.main_arg1) = m ((c.tc : Thread Cert.MmColsIdeal.nD Cert.MmColsIdeal.τ).loc Cert.MmColsIdeal.main_arg1)) →
    ∃ (v0 : (c : Dev Cert.MmColsIdeal.nD) → Buf (Elt Ideal) ((c.tc : Thread Cert.MmColsIdeal.nD Cert.MmColsIdeal.τ).loc Cert.MmColsIdeal.main_v2)),
      θ_run (Cert.MmColsIdeal.defs (F := Ideal)) (onTc (τ := Cert.MmColsIdeal.τ) (Cert.MmColsIdeal.main (F := Ideal))) ⟨m, fun _ => 0, g⟩ (fun r => ∀ c : Dev Cert.MmColsIdeal.nD,
          r.2.mem ((c.tc : Thread Cert.MmColsIdeal.nD Cert.MmColsIdeal.τ).loc Cert.MmColsIdeal.main_v2) = v0 c
          ∧ r.2.mem ((c.tc : Thread Cert.MmColsIdeal.nD Cert.MmColsIdeal.τ).loc Cert.MmColsIdeal.main_arg0) = m ((c.tc : Thread Cert.MmColsIdeal.nD Cert.MmColsIdeal.τ).loc Cert.MmColsIdeal.main_arg0)
          ∧ r.2.mem ((c.tc : Thread Cert.MmColsIdeal.nD Cert.MmColsIdeal.τ).loc Cert.MmColsIdeal.main_arg1) = m ((c.tc : Thread Cert.MmColsIdeal.nD Cert.MmColsIdeal.τ).loc Cert.MmColsIdeal.main_arg1))
      ∧ θ_run (Cert.MmColsRefIdeal.defs (F := Ideal)) (onTc (τ := Cert.MmColsRefIdeal.τ) (Cert.MmColsRefIdeal.main (F := Ideal))) ⟨m', fun _ => 0, g'⟩ (fun r => ∀ c : Dev Cert.MmColsRefIdeal.nD,
          r.2.mem ((c.tc : Thread Cert.MmColsRefIdeal.nD Cert.MmColsRefIdeal.τ).loc Cert.MmColsRefIdeal.main_v1) = v0 c
          ∧ r.2.mem ((c.tc : Thread Cert.MmColsRefIdeal.nD Cert.MmColsRefIdeal.τ).loc Cert.MmColsRefIdeal.main_arg0) = m' ((c.tc : Thread Cert.MmColsRefIdeal.nD Cert.MmColsRefIdeal.τ).loc Cert.MmColsRefIdeal.main_arg0)
          ∧ r.2.mem ((c.tc : Thread Cert.MmColsRefIdeal.nD Cert.MmColsRefIdeal.τ).loc Cert.MmColsRefIdeal.main_arg1) = m' ((c.tc : Thread Cert.MmColsRefIdeal.nD Cert.MmColsRefIdeal.τ).loc Cert.MmColsRefIdeal.main_arg1))

def preserves_MmRows_MmRowsIdeal : Prop :=
  True

def algebraic_MmRowsIdeal_MmRowsRefIdeal [hMmRowsIdeal : Cert.MmRowsIdeal.Facts] [hMmRowsRefIdeal : Cert.MmRowsRefIdeal.Facts] : Prop :=
  ∀ (m : (ℓ : Loc Cert.MmRowsIdeal.nD Cert.MmRowsIdeal.τ Cert.MmRowsIdeal.sig) → Buf (Elt Ideal) ℓ) (g : Dev Cert.MmRowsIdeal.nD → PrngReg)
    (m' : (ℓ : Loc Cert.MmRowsRefIdeal.nD Cert.MmRowsRefIdeal.τ Cert.MmRowsRefIdeal.sig) → Buf (Elt Ideal) ℓ) (g' : Dev Cert.MmRowsRefIdeal.nD → PrngReg), Pre_MmRowsIdeal m →
    (∀ c : Dev Cert.MmRowsIdeal.nD,
      m' ((c.tc : Thread Cert.MmRowsRefIdeal.nD Cert.MmRowsRefIdeal.τ).loc Cert.MmRowsRefIdeal.main_arg0) = m ((c.tc : Thread Cert.MmRowsIdeal.nD Cert.MmRowsIdeal.τ).loc Cert.MmRowsIdeal.main_arg0)
      ∧ m' ((c.tc : Thread Cert.MmRowsRefIdeal.nD Cert.MmRowsRefIdeal.τ).loc Cert.MmRowsRefIdeal.main_arg1) = m ((c.tc : Thread Cert.MmRowsIdeal.nD Cert.MmRowsIdeal.τ).loc Cert.MmRowsIdeal.main_arg1)) →
    ∃ (v0 : (c : Dev Cert.MmRowsIdeal.nD) → Buf (Elt Ideal) ((c.tc : Thread Cert.MmRowsIdeal.nD Cert.MmRowsIdeal.τ).loc Cert.MmRowsIdeal.main_v2)),
      θ_run (Cert.MmRowsIdeal.defs (F := Ideal)) (onTc (τ := Cert.MmRowsIdeal.τ) (Cert.MmRowsIdeal.main (F := Ideal))) ⟨m, fun _ => 0, g⟩ (fun r => ∀ c : Dev Cert.MmRowsIdeal.nD,
          r.2.mem ((c.tc : Thread Cert.MmRowsIdeal.nD Cert.MmRowsIdeal.τ).loc Cert.MmRowsIdeal.main_v2) = v0 c
          ∧ r.2.mem ((c.tc : Thread Cert.MmRowsIdeal.nD Cert.MmRowsIdeal.τ).loc Cert.MmRowsIdeal.main_arg0) = m ((c.tc : Thread Cert.MmRowsIdeal.nD Cert.MmRowsIdeal.τ).loc Cert.MmRowsIdeal.main_arg0)
          ∧ r.2.mem ((c.tc : Thread Cert.MmRowsIdeal.nD Cert.MmRowsIdeal.τ).loc Cert.MmRowsIdeal.main_arg1) = m ((c.tc : Thread Cert.MmRowsIdeal.nD Cert.MmRowsIdeal.τ).loc Cert.MmRowsIdeal.main_arg1))
      ∧ θ_run (Cert.MmRowsRefIdeal.defs (F := Ideal)) (onTc (τ := Cert.MmRowsRefIdeal.τ) (Cert.MmRowsRefIdeal.main (F := Ideal))) ⟨m', fun _ => 0, g'⟩ (fun r => ∀ c : Dev Cert.MmRowsRefIdeal.nD,
          r.2.mem ((c.tc : Thread Cert.MmRowsRefIdeal.nD Cert.MmRowsRefIdeal.τ).loc Cert.MmRowsRefIdeal.main_v1) = v0 c
          ∧ r.2.mem ((c.tc : Thread Cert.MmRowsRefIdeal.nD Cert.MmRowsRefIdeal.τ).loc Cert.MmRowsRefIdeal.main_arg0) = m' ((c.tc : Thread Cert.MmRowsRefIdeal.nD Cert.MmRowsRefIdeal.τ).loc Cert.MmRowsRefIdeal.main_arg0)
          ∧ r.2.mem ((c.tc : Thread Cert.MmRowsRefIdeal.nD Cert.MmRowsRefIdeal.τ).loc Cert.MmRowsRefIdeal.main_arg1) = m' ((c.tc : Thread Cert.MmRowsRefIdeal.nD Cert.MmRowsRefIdeal.τ).loc Cert.MmRowsRefIdeal.main_arg1))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v2)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v2) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v1) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v2)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v2) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v1) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_BmmNn_BmmNnIdeal : Prop :=
  True

def algebraic_BmmNnIdeal_BmmNnRefIdeal [hBmmNnIdeal : Cert.BmmNnIdeal.Facts] [hBmmNnRefIdeal : Cert.BmmNnRefIdeal.Facts] : Prop :=
  ∀ (m : (ℓ : Loc Cert.BmmNnIdeal.nD Cert.BmmNnIdeal.τ Cert.BmmNnIdeal.sig) → Buf (Elt Ideal) ℓ) (g : Dev Cert.BmmNnIdeal.nD → PrngReg)
    (m' : (ℓ : Loc Cert.BmmNnRefIdeal.nD Cert.BmmNnRefIdeal.τ Cert.BmmNnRefIdeal.sig) → Buf (Elt Ideal) ℓ) (g' : Dev Cert.BmmNnRefIdeal.nD → PrngReg), Pre_BmmNnIdeal m →
    (∀ c : Dev Cert.BmmNnIdeal.nD,
      m' ((c.tc : Thread Cert.BmmNnRefIdeal.nD Cert.BmmNnRefIdeal.τ).loc Cert.BmmNnRefIdeal.main_arg0) = m ((c.tc : Thread Cert.BmmNnIdeal.nD Cert.BmmNnIdeal.τ).loc Cert.BmmNnIdeal.main_arg0)
      ∧ m' ((c.tc : Thread Cert.BmmNnRefIdeal.nD Cert.BmmNnRefIdeal.τ).loc Cert.BmmNnRefIdeal.main_arg1) = m ((c.tc : Thread Cert.BmmNnIdeal.nD Cert.BmmNnIdeal.τ).loc Cert.BmmNnIdeal.main_arg1)) →
    ∃ (v0 : (c : Dev Cert.BmmNnIdeal.nD) → Buf (Elt Ideal) ((c.tc : Thread Cert.BmmNnIdeal.nD Cert.BmmNnIdeal.τ).loc Cert.BmmNnIdeal.main_v2)),
      θ_run (Cert.BmmNnIdeal.defs (F := Ideal)) (onTc (τ := Cert.BmmNnIdeal.τ) (Cert.BmmNnIdeal.main (F := Ideal))) ⟨m, fun _ => 0, g⟩ (fun r => ∀ c : Dev Cert.BmmNnIdeal.nD,
          r.2.mem ((c.tc : Thread Cert.BmmNnIdeal.nD Cert.BmmNnIdeal.τ).loc Cert.BmmNnIdeal.main_v2) = v0 c
          ∧ r.2.mem ((c.tc : Thread Cert.BmmNnIdeal.nD Cert.BmmNnIdeal.τ).loc Cert.BmmNnIdeal.main_arg0) = m ((c.tc : Thread Cert.BmmNnIdeal.nD Cert.BmmNnIdeal.τ).loc Cert.BmmNnIdeal.main_arg0)
          ∧ r.2.mem ((c.tc : Thread Cert.BmmNnIdeal.nD Cert.BmmNnIdeal.τ).loc Cert.BmmNnIdeal.main_arg1) = m ((c.tc : Thread Cert.BmmNnIdeal.nD Cert.BmmNnIdeal.τ).loc Cert.BmmNnIdeal.main_arg1))
      ∧ θ_run (Cert.BmmNnRefIdeal.defs (F := Ideal)) (onTc (τ := Cert.BmmNnRefIdeal.τ) (Cert.BmmNnRefIdeal.main (F := Ideal))) ⟨m', fun _ => 0, g'⟩ (fun r => ∀ c : Dev Cert.BmmNnRefIdeal.nD,
          r.2.mem ((c.tc : Thread Cert.BmmNnRefIdeal.nD Cert.BmmNnRefIdeal.τ).loc Cert.BmmNnRefIdeal.main_v1) = v0 c
          ∧ r.2.mem ((c.tc : Thread Cert.BmmNnRefIdeal.nD Cert.BmmNnRefIdeal.τ).loc Cert.BmmNnRefIdeal.main_arg0) = m' ((c.tc : Thread Cert.BmmNnRefIdeal.nD Cert.BmmNnRefIdeal.τ).loc Cert.BmmNnRefIdeal.main_arg0)
          ∧ r.2.mem ((c.tc : Thread Cert.BmmNnRefIdeal.nD Cert.BmmNnRefIdeal.τ).loc Cert.BmmNnRefIdeal.main_arg1) = m' ((c.tc : Thread Cert.BmmNnRefIdeal.nD Cert.BmmNnRefIdeal.τ).loc Cert.BmmNnRefIdeal.main_arg1))

def preserves_BmmTn_BmmTnIdeal : Prop :=
  True

def algebraic_BmmTnIdeal_BmmTnRefIdeal [hBmmTnIdeal : Cert.BmmTnIdeal.Facts] [hBmmTnRefIdeal : Cert.BmmTnRefIdeal.Facts] : Prop :=
  ∀ (m : (ℓ : Loc Cert.BmmTnIdeal.nD Cert.BmmTnIdeal.τ Cert.BmmTnIdeal.sig) → Buf (Elt Ideal) ℓ) (g : Dev Cert.BmmTnIdeal.nD → PrngReg)
    (m' : (ℓ : Loc Cert.BmmTnRefIdeal.nD Cert.BmmTnRefIdeal.τ Cert.BmmTnRefIdeal.sig) → Buf (Elt Ideal) ℓ) (g' : Dev Cert.BmmTnRefIdeal.nD → PrngReg), Pre_BmmTnIdeal m →
    (∀ c : Dev Cert.BmmTnIdeal.nD,
      m' ((c.tc : Thread Cert.BmmTnRefIdeal.nD Cert.BmmTnRefIdeal.τ).loc Cert.BmmTnRefIdeal.main_arg0) = m ((c.tc : Thread Cert.BmmTnIdeal.nD Cert.BmmTnIdeal.τ).loc Cert.BmmTnIdeal.main_arg0)
      ∧ m' ((c.tc : Thread Cert.BmmTnRefIdeal.nD Cert.BmmTnRefIdeal.τ).loc Cert.BmmTnRefIdeal.main_arg1) = m ((c.tc : Thread Cert.BmmTnIdeal.nD Cert.BmmTnIdeal.τ).loc Cert.BmmTnIdeal.main_arg1)) →
    ∃ (v0 : (c : Dev Cert.BmmTnIdeal.nD) → Buf (Elt Ideal) ((c.tc : Thread Cert.BmmTnIdeal.nD Cert.BmmTnIdeal.τ).loc Cert.BmmTnIdeal.main_v2)),
      θ_run (Cert.BmmTnIdeal.defs (F := Ideal)) (onTc (τ := Cert.BmmTnIdeal.τ) (Cert.BmmTnIdeal.main (F := Ideal))) ⟨m, fun _ => 0, g⟩ (fun r => ∀ c : Dev Cert.BmmTnIdeal.nD,
          r.2.mem ((c.tc : Thread Cert.BmmTnIdeal.nD Cert.BmmTnIdeal.τ).loc Cert.BmmTnIdeal.main_v2) = v0 c
          ∧ r.2.mem ((c.tc : Thread Cert.BmmTnIdeal.nD Cert.BmmTnIdeal.τ).loc Cert.BmmTnIdeal.main_arg0) = m ((c.tc : Thread Cert.BmmTnIdeal.nD Cert.BmmTnIdeal.τ).loc Cert.BmmTnIdeal.main_arg0)
          ∧ r.2.mem ((c.tc : Thread Cert.BmmTnIdeal.nD Cert.BmmTnIdeal.τ).loc Cert.BmmTnIdeal.main_arg1) = m ((c.tc : Thread Cert.BmmTnIdeal.nD Cert.BmmTnIdeal.τ).loc Cert.BmmTnIdeal.main_arg1))
      ∧ θ_run (Cert.BmmTnRefIdeal.defs (F := Ideal)) (onTc (τ := Cert.BmmTnRefIdeal.τ) (Cert.BmmTnRefIdeal.main (F := Ideal))) ⟨m', fun _ => 0, g'⟩ (fun r => ∀ c : Dev Cert.BmmTnRefIdeal.nD,
          r.2.mem ((c.tc : Thread Cert.BmmTnRefIdeal.nD Cert.BmmTnRefIdeal.τ).loc Cert.BmmTnRefIdeal.main_v1) = v0 c
          ∧ r.2.mem ((c.tc : Thread Cert.BmmTnRefIdeal.nD Cert.BmmTnRefIdeal.τ).loc Cert.BmmTnRefIdeal.main_arg0) = m' ((c.tc : Thread Cert.BmmTnRefIdeal.nD Cert.BmmTnRefIdeal.τ).loc Cert.BmmTnRefIdeal.main_arg0)
          ∧ r.2.mem ((c.tc : Thread Cert.BmmTnRefIdeal.nD Cert.BmmTnRefIdeal.τ).loc Cert.BmmTnRefIdeal.main_arg1) = m' ((c.tc : Thread Cert.BmmTnRefIdeal.nD Cert.BmmTnRefIdeal.τ).loc Cert.BmmTnRefIdeal.main_arg1))

def preserves_MmA3_MmA3Ideal : Prop :=
  True

def algebraic_MmA3Ideal_MmA3RefIdeal [hMmA3Ideal : Cert.MmA3Ideal.Facts] [hMmA3RefIdeal : Cert.MmA3RefIdeal.Facts] : Prop :=
  ∀ (m : (ℓ : Loc Cert.MmA3Ideal.nD Cert.MmA3Ideal.τ Cert.MmA3Ideal.sig) → Buf (Elt Ideal) ℓ) (g : Dev Cert.MmA3Ideal.nD → PrngReg)
    (m' : (ℓ : Loc Cert.MmA3RefIdeal.nD Cert.MmA3RefIdeal.τ Cert.MmA3RefIdeal.sig) → Buf (Elt Ideal) ℓ) (g' : Dev Cert.MmA3RefIdeal.nD → PrngReg), Pre_MmA3Ideal m →
    (∀ c : Dev Cert.MmA3Ideal.nD,
      m' ((c.tc : Thread Cert.MmA3RefIdeal.nD Cert.MmA3RefIdeal.τ).loc Cert.MmA3RefIdeal.main_arg0) = m ((c.tc : Thread Cert.MmA3Ideal.nD Cert.MmA3Ideal.τ).loc Cert.MmA3Ideal.main_arg0)
      ∧ m' ((c.tc : Thread Cert.MmA3RefIdeal.nD Cert.MmA3RefIdeal.τ).loc Cert.MmA3RefIdeal.main_arg1) = m ((c.tc : Thread Cert.MmA3Ideal.nD Cert.MmA3Ideal.τ).loc Cert.MmA3Ideal.main_arg1)) →
    ∃ (v0 : (c : Dev Cert.MmA3Ideal.nD) → Buf (Elt Ideal) ((c.tc : Thread Cert.MmA3Ideal.nD Cert.MmA3Ideal.τ).loc Cert.MmA3Ideal.main_v2)),
      θ_run (Cert.MmA3Ideal.defs (F := Ideal)) (onTc (τ := Cert.MmA3Ideal.τ) (Cert.MmA3Ideal.main (F := Ideal))) ⟨m, fun _ => 0, g⟩ (fun r => ∀ c : Dev Cert.MmA3Ideal.nD,
          r.2.mem ((c.tc : Thread Cert.MmA3Ideal.nD Cert.MmA3Ideal.τ).loc Cert.MmA3Ideal.main_v2) = v0 c
          ∧ r.2.mem ((c.tc : Thread Cert.MmA3Ideal.nD Cert.MmA3Ideal.τ).loc Cert.MmA3Ideal.main_arg0) = m ((c.tc : Thread Cert.MmA3Ideal.nD Cert.MmA3Ideal.τ).loc Cert.MmA3Ideal.main_arg0)
          ∧ r.2.mem ((c.tc : Thread Cert.MmA3Ideal.nD Cert.MmA3Ideal.τ).loc Cert.MmA3Ideal.main_arg1) = m ((c.tc : Thread Cert.MmA3Ideal.nD Cert.MmA3Ideal.τ).loc Cert.MmA3Ideal.main_arg1))
      ∧ θ_run (Cert.MmA3RefIdeal.defs (F := Ideal)) (onTc (τ := Cert.MmA3RefIdeal.τ) (Cert.MmA3RefIdeal.main (F := Ideal))) ⟨m', fun _ => 0, g'⟩ (fun r => ∀ c : Dev Cert.MmA3RefIdeal.nD,
          r.2.mem ((c.tc : Thread Cert.MmA3RefIdeal.nD Cert.MmA3RefIdeal.τ).loc Cert.MmA3RefIdeal.main_v0) = v0 c
          ∧ r.2.mem ((c.tc : Thread Cert.MmA3RefIdeal.nD Cert.MmA3RefIdeal.τ).loc Cert.MmA3RefIdeal.main_arg0) = m' ((c.tc : Thread Cert.MmA3RefIdeal.nD Cert.MmA3RefIdeal.τ).loc Cert.MmA3RefIdeal.main_arg0)
          ∧ r.2.mem ((c.tc : Thread Cert.MmA3RefIdeal.nD Cert.MmA3RefIdeal.τ).loc Cert.MmA3RefIdeal.main_arg1) = m' ((c.tc : Thread Cert.MmA3RefIdeal.nD Cert.MmA3RefIdeal.τ).loc Cert.MmA3RefIdeal.main_arg1))

def preserves_BmmNnSum_BmmNnSumIdeal : Prop :=
  True

def algebraic_BmmNnSumIdeal_BmmNnSumRefIdeal [hBmmNnSumIdeal : Cert.BmmNnSumIdeal.Facts] [hBmmNnSumRefIdeal : Cert.BmmNnSumRefIdeal.Facts] : Prop :=
  ∀ (m : (ℓ : Loc Cert.BmmNnSumIdeal.nD Cert.BmmNnSumIdeal.τ Cert.BmmNnSumIdeal.sig) → Buf (Elt Ideal) ℓ) (g : Dev Cert.BmmNnSumIdeal.nD → PrngReg)
    (m' : (ℓ : Loc Cert.BmmNnSumRefIdeal.nD Cert.BmmNnSumRefIdeal.τ Cert.BmmNnSumRefIdeal.sig) → Buf (Elt Ideal) ℓ) (g' : Dev Cert.BmmNnSumRefIdeal.nD → PrngReg), Pre_BmmNnSumIdeal m →
    (∀ c : Dev Cert.BmmNnSumIdeal.nD,
      m' ((c.tc : Thread Cert.BmmNnSumRefIdeal.nD Cert.BmmNnSumRefIdeal.τ).loc Cert.BmmNnSumRefIdeal.main_arg0) = m ((c.tc : Thread Cert.BmmNnSumIdeal.nD Cert.BmmNnSumIdeal.τ).loc Cert.BmmNnSumIdeal.main_arg0)
      ∧ m' ((c.tc : Thread Cert.BmmNnSumRefIdeal.nD Cert.BmmNnSumRefIdeal.τ).loc Cert.BmmNnSumRefIdeal.main_arg1) = m ((c.tc : Thread Cert.BmmNnSumIdeal.nD Cert.BmmNnSumIdeal.τ).loc Cert.BmmNnSumIdeal.main_arg1)) →
    ∃ (v0 : (c : Dev Cert.BmmNnSumIdeal.nD) → Buf (Elt Ideal) ((c.tc : Thread Cert.BmmNnSumIdeal.nD Cert.BmmNnSumIdeal.τ).loc Cert.BmmNnSumIdeal.main_v2)),
      θ_run (Cert.BmmNnSumIdeal.defs (F := Ideal)) (onTc (τ := Cert.BmmNnSumIdeal.τ) (Cert.BmmNnSumIdeal.main (F := Ideal))) ⟨m, fun _ => 0, g⟩ (fun r => ∀ c : Dev Cert.BmmNnSumIdeal.nD,
          r.2.mem ((c.tc : Thread Cert.BmmNnSumIdeal.nD Cert.BmmNnSumIdeal.τ).loc Cert.BmmNnSumIdeal.main_v2) = v0 c
          ∧ r.2.mem ((c.tc : Thread Cert.BmmNnSumIdeal.nD Cert.BmmNnSumIdeal.τ).loc Cert.BmmNnSumIdeal.main_arg0) = m ((c.tc : Thread Cert.BmmNnSumIdeal.nD Cert.BmmNnSumIdeal.τ).loc Cert.BmmNnSumIdeal.main_arg0)
          ∧ r.2.mem ((c.tc : Thread Cert.BmmNnSumIdeal.nD Cert.BmmNnSumIdeal.τ).loc Cert.BmmNnSumIdeal.main_arg1) = m ((c.tc : Thread Cert.BmmNnSumIdeal.nD Cert.BmmNnSumIdeal.τ).loc Cert.BmmNnSumIdeal.main_arg1))
      ∧ θ_run (Cert.BmmNnSumRefIdeal.defs (F := Ideal)) (onTc (τ := Cert.BmmNnSumRefIdeal.τ) (Cert.BmmNnSumRefIdeal.main (F := Ideal))) ⟨m', fun _ => 0, g'⟩ (fun r => ∀ c : Dev Cert.BmmNnSumRefIdeal.nD,
          r.2.mem ((c.tc : Thread Cert.BmmNnSumRefIdeal.nD Cert.BmmNnSumRefIdeal.τ).loc Cert.BmmNnSumRefIdeal.main_v1) = v0 c
          ∧ r.2.mem ((c.tc : Thread Cert.BmmNnSumRefIdeal.nD Cert.BmmNnSumRefIdeal.τ).loc Cert.BmmNnSumRefIdeal.main_arg0) = m' ((c.tc : Thread Cert.BmmNnSumRefIdeal.nD Cert.BmmNnSumRefIdeal.τ).loc Cert.BmmNnSumRefIdeal.main_arg0)
          ∧ r.2.mem ((c.tc : Thread Cert.BmmNnSumRefIdeal.nD Cert.BmmNnSumRefIdeal.τ).loc Cert.BmmNnSumRefIdeal.main_arg1) = m' ((c.tc : Thread Cert.BmmNnSumRefIdeal.nD Cert.BmmNnSumRefIdeal.τ).loc Cert.BmmNnSumRefIdeal.main_arg1))

def preserves_BmmNtSum_BmmNtSumIdeal : Prop :=
  True

def algebraic_BmmNtSumIdeal_BmmNtSumRefIdeal [hBmmNtSumIdeal : Cert.BmmNtSumIdeal.Facts] [hBmmNtSumRefIdeal : Cert.BmmNtSumRefIdeal.Facts] : Prop :=
  ∀ (m : (ℓ : Loc Cert.BmmNtSumIdeal.nD Cert.BmmNtSumIdeal.τ Cert.BmmNtSumIdeal.sig) → Buf (Elt Ideal) ℓ) (g : Dev Cert.BmmNtSumIdeal.nD → PrngReg)
    (m' : (ℓ : Loc Cert.BmmNtSumRefIdeal.nD Cert.BmmNtSumRefIdeal.τ Cert.BmmNtSumRefIdeal.sig) → Buf (Elt Ideal) ℓ) (g' : Dev Cert.BmmNtSumRefIdeal.nD → PrngReg), Pre_BmmNtSumIdeal m →
    (∀ c : Dev Cert.BmmNtSumIdeal.nD,
      m' ((c.tc : Thread Cert.BmmNtSumRefIdeal.nD Cert.BmmNtSumRefIdeal.τ).loc Cert.BmmNtSumRefIdeal.main_arg0) = m ((c.tc : Thread Cert.BmmNtSumIdeal.nD Cert.BmmNtSumIdeal.τ).loc Cert.BmmNtSumIdeal.main_arg0)
      ∧ m' ((c.tc : Thread Cert.BmmNtSumRefIdeal.nD Cert.BmmNtSumRefIdeal.τ).loc Cert.BmmNtSumRefIdeal.main_arg1) = m ((c.tc : Thread Cert.BmmNtSumIdeal.nD Cert.BmmNtSumIdeal.τ).loc Cert.BmmNtSumIdeal.main_arg1)) →
    ∃ (v0 : (c : Dev Cert.BmmNtSumIdeal.nD) → Buf (Elt Ideal) ((c.tc : Thread Cert.BmmNtSumIdeal.nD Cert.BmmNtSumIdeal.τ).loc Cert.BmmNtSumIdeal.main_v2)),
      θ_run (Cert.BmmNtSumIdeal.defs (F := Ideal)) (onTc (τ := Cert.BmmNtSumIdeal.τ) (Cert.BmmNtSumIdeal.main (F := Ideal))) ⟨m, fun _ => 0, g⟩ (fun r => ∀ c : Dev Cert.BmmNtSumIdeal.nD,
          r.2.mem ((c.tc : Thread Cert.BmmNtSumIdeal.nD Cert.BmmNtSumIdeal.τ).loc Cert.BmmNtSumIdeal.main_v2) = v0 c
          ∧ r.2.mem ((c.tc : Thread Cert.BmmNtSumIdeal.nD Cert.BmmNtSumIdeal.τ).loc Cert.BmmNtSumIdeal.main_arg0) = m ((c.tc : Thread Cert.BmmNtSumIdeal.nD Cert.BmmNtSumIdeal.τ).loc Cert.BmmNtSumIdeal.main_arg0)
          ∧ r.2.mem ((c.tc : Thread Cert.BmmNtSumIdeal.nD Cert.BmmNtSumIdeal.τ).loc Cert.BmmNtSumIdeal.main_arg1) = m ((c.tc : Thread Cert.BmmNtSumIdeal.nD Cert.BmmNtSumIdeal.τ).loc Cert.BmmNtSumIdeal.main_arg1))
      ∧ θ_run (Cert.BmmNtSumRefIdeal.defs (F := Ideal)) (onTc (τ := Cert.BmmNtSumRefIdeal.τ) (Cert.BmmNtSumRefIdeal.main (F := Ideal))) ⟨m', fun _ => 0, g'⟩ (fun r => ∀ c : Dev Cert.BmmNtSumRefIdeal.nD,
          r.2.mem ((c.tc : Thread Cert.BmmNtSumRefIdeal.nD Cert.BmmNtSumRefIdeal.τ).loc Cert.BmmNtSumRefIdeal.main_v1) = v0 c
          ∧ r.2.mem ((c.tc : Thread Cert.BmmNtSumRefIdeal.nD Cert.BmmNtSumRefIdeal.τ).loc Cert.BmmNtSumRefIdeal.main_arg0) = m' ((c.tc : Thread Cert.BmmNtSumRefIdeal.nD Cert.BmmNtSumRefIdeal.τ).loc Cert.BmmNtSumRefIdeal.main_arg0)
          ∧ r.2.mem ((c.tc : Thread Cert.BmmNtSumRefIdeal.nD Cert.BmmNtSumRefIdeal.τ).loc Cert.BmmNtSumRefIdeal.main_arg1) = m' ((c.tc : Thread Cert.BmmNtSumRefIdeal.nD Cert.BmmNtSumRefIdeal.τ).loc Cert.BmmNtSumRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_SumDev_SumDevIdeal : Prop :=
  True

def algebraic_SumDevIdeal_SumDevRefIdeal [hSumDevIdeal : Cert.SumDevIdeal.Facts] [hSumDevRefIdeal : Cert.SumDevRefIdeal.Facts] : Prop :=
  ∀ (m : (ℓ : Loc Cert.SumDevIdeal.nD Cert.SumDevIdeal.τ Cert.SumDevIdeal.sig) → Buf (Elt Ideal) ℓ) (g : Dev Cert.SumDevIdeal.nD → PrngReg)
    (m' : (ℓ : Loc Cert.SumDevRefIdeal.nD Cert.SumDevRefIdeal.τ Cert.SumDevRefIdeal.sig) → Buf (Elt Ideal) ℓ) (g' : Dev Cert.SumDevRefIdeal.nD → PrngReg), Pre_SumDevIdeal m →
    (∀ c : Dev Cert.SumDevIdeal.nD,
      m' ((c.tc : Thread Cert.SumDevRefIdeal.nD Cert.SumDevRefIdeal.τ).loc Cert.SumDevRefIdeal.main_arg0) = m ((c.tc : Thread Cert.SumDevIdeal.nD Cert.SumDevIdeal.τ).loc Cert.SumDevIdeal.main_arg0)) →
    ∃ (v0 : (c : Dev Cert.SumDevIdeal.nD) → Buf (Elt Ideal) ((c.tc : Thread Cert.SumDevIdeal.nD Cert.SumDevIdeal.τ).loc Cert.SumDevIdeal.main_v0)),
      θ_run (Cert.SumDevIdeal.defs (F := Ideal)) (onTc (τ := Cert.SumDevIdeal.τ) (Cert.SumDevIdeal.main (F := Ideal))) ⟨m, fun _ => 0, g⟩ (fun r => ∀ c : Dev Cert.SumDevIdeal.nD,
          r.2.mem ((c.tc : Thread Cert.SumDevIdeal.nD Cert.SumDevIdeal.τ).loc Cert.SumDevIdeal.main_v0) = v0 c
          ∧ r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ θ_run (Cert.SumDevRefIdeal.defs (F := Ideal)) (onTc (τ := Cert.SumDevRefIdeal.τ) (Cert.SumDevRefIdeal.main (F := Ideal))) ⟨m', fun _ => 0, g'⟩ (fun r => ∀ c : Dev Cert.SumDevRefIdeal.nD,
          r.2.mem ((c.tc : Thread Cert.SumDevRefIdeal.nD Cert.SumDevRefIdeal.τ).loc Cert.SumDevRefIdeal.main_v0) = v0 c
          ∧ r.2.mem ((c.tc : Thread Cert.SumDevRefIdeal.nD Cert.SumDevRefIdeal.τ).loc Cert.SumDevRefIdeal.main_arg0) = m' ((c.tc : Thread Cert.SumDevRefIdeal.nD Cert.SumDevRefIdeal.τ).loc Cert.SumDevRefIdeal.main_arg0))

def Claim : Prop :=
  ∃ (hLoss : Cert.Loss.Facts) (hLossIdeal : Cert.LossIdeal.Facts) (hLossRefIdeal : Cert.LossRefIdeal.Facts) (hNorm : Cert.Norm.Facts) (hNormIdeal : Cert.NormIdeal.Facts) (hNormRefIdeal : Cert.NormRefIdeal.Facts) (hNormRes : Cert.NormRes.Facts) (hNormResIdeal : Cert.NormResIdeal.Facts) (hNormResRefIdeal : Cert.NormResRefIdeal.Facts) (hNormMem : Cert.NormMem.Facts) (hNormMemIdeal : Cert.NormMemIdeal.Facts) (hNormMemRefIdeal : Cert.NormMemRefIdeal.Facts) (hSconv : Cert.Sconv.Facts) (hSconvIdeal : Cert.SconvIdeal.Facts) (hSconvRefIdeal : Cert.SconvRefIdeal.Facts) (hLruConv : Cert.LruConv.Facts) (hLruConvIdeal : Cert.LruConvIdeal.Facts) (hLruConvRefIdeal : Cert.LruConvRefIdeal.Facts) (hDlogf : Cert.Dlogf.Facts) (hDlogfIdeal : Cert.DlogfIdeal.Facts) (hDlogfRefIdeal : Cert.DlogfRefIdeal.Facts) (hFfnDa : Cert.FfnDa.Facts) (hFfnDaIdeal : Cert.FfnDaIdeal.Facts) (hFfnDaRefIdeal : Cert.FfnDaRefIdeal.Facts) (hXattn : Cert.Xattn.Facts) (hXattnIdeal : Cert.XattnIdeal.Facts) (hXattnRefIdeal : Cert.XattnRefIdeal.Facts) (hFox : Cert.Fox.Facts) (hFoxIdeal : Cert.FoxIdeal.Facts) (hFoxRefIdeal : Cert.FoxRefIdeal.Facts) (hXattnFwd : Cert.XattnFwd.Facts) (hXattnFwdIdeal : Cert.XattnFwdIdeal.Facts) (hXattnFwdRefIdeal : Cert.XattnFwdRefIdeal.Facts) (hFoxFwd : Cert.FoxFwd.Facts) (hFoxFwdIdeal : Cert.FoxFwdIdeal.Facts) (hFoxFwdRefIdeal : Cert.FoxFwdRefIdeal.Facts) (hNormFwd : Cert.NormFwd.Facts) (hNormFwdIdeal : Cert.NormFwdIdeal.Facts) (hNormFwdRefIdeal : Cert.NormFwdRefIdeal.Facts) (hNormAdd : Cert.NormAdd.Facts) (hNormAddIdeal : Cert.NormAddIdeal.Facts) (hNormAddRefIdeal : Cert.NormAddRefIdeal.Facts) (hSconvFwd : Cert.SconvFwd.Facts) (hSconvFwdIdeal : Cert.SconvFwdIdeal.Facts) (hSconvFwdRefIdeal : Cert.SconvFwdRefIdeal.Facts) (hLruConvFwd : Cert.LruConvFwd.Facts) (hLruConvFwdIdeal : Cert.LruConvFwdIdeal.Facts) (hLruConvFwdRefIdeal : Cert.LruConvFwdRefIdeal.Facts) (hFfnUp : Cert.FfnUp.Facts) (hFfnUpIdeal : Cert.FfnUpIdeal.Facts) (hFfnUpRefIdeal : Cert.FfnUpRefIdeal.Facts) (hFoxCum : Cert.FoxCum.Facts) (hFoxCumIdeal : Cert.FoxCumIdeal.Facts) (hFoxCumRefIdeal : Cert.FoxCumRefIdeal.Facts) (hLruScan : Cert.LruScan.Facts) (hLruScanIdeal : Cert.LruScanIdeal.Facts) (hMemNorm : Cert.MemNorm.Facts) (hMemNormIdeal : Cert.MemNormIdeal.Facts) (hMemNormRefIdeal : Cert.MemNormRefIdeal.Facts) (hMmNn : Cert.MmNn.Facts) (hMmNnIdeal : Cert.MmNnIdeal.Facts) (hMmNnRefIdeal : Cert.MmNnRefIdeal.Facts) (hMmCols : Cert.MmCols.Facts) (hMmColsIdeal : Cert.MmColsIdeal.Facts) (hMmColsRefIdeal : Cert.MmColsRefIdeal.Facts) (hMmRows : Cert.MmRows.Facts) (hMmRowsIdeal : Cert.MmRowsIdeal.Facts) (hMmRowsRefIdeal : Cert.MmRowsRefIdeal.Facts) (hMmNt : Cert.MmNt.Facts) (hMmNtIdeal : Cert.MmNtIdeal.Facts) (hMmNtRefIdeal : Cert.MmNtRefIdeal.Facts) (hMmTn : Cert.MmTn.Facts) (hMmTnIdeal : Cert.MmTnIdeal.Facts) (hMmTnRefIdeal : Cert.MmTnRefIdeal.Facts) (hBmmNn : Cert.BmmNn.Facts) (hBmmNnIdeal : Cert.BmmNnIdeal.Facts) (hBmmNnRefIdeal : Cert.BmmNnRefIdeal.Facts) (hBmmTn : Cert.BmmTn.Facts) (hBmmTnIdeal : Cert.BmmTnIdeal.Facts) (hBmmTnRefIdeal : Cert.BmmTnRefIdeal.Facts) (hMmA3 : Cert.MmA3.Facts) (hMmA3Ideal : Cert.MmA3Ideal.Facts) (hMmA3RefIdeal : Cert.MmA3RefIdeal.Facts) (hBmmNnSum : Cert.BmmNnSum.Facts) (hBmmNnSumIdeal : Cert.BmmNnSumIdeal.Facts) (hBmmNnSumRefIdeal : Cert.BmmNnSumRefIdeal.Facts) (hBmmNtSum : Cert.BmmNtSum.Facts) (hBmmNtSumIdeal : Cert.BmmNtSumIdeal.Facts) (hBmmNtSumRefIdeal : Cert.BmmNtSumRefIdeal.Facts) (hAdamW : Cert.AdamW.Facts) (hAdamWIdeal : Cert.AdamWIdeal.Facts) (hAdamWRefIdeal : Cert.AdamWRefIdeal.Facts) (hSumDev : Cert.SumDev.Facts) (hSumDevIdeal : Cert.SumDevIdeal.Facts) (hSumDevRefIdeal : Cert.SumDevRefIdeal.Facts) (hPre_norm_finite : Cert.Pre_norm_finite.Facts) (hPre_norm_res_finite : Cert.Pre_norm_res_finite.Facts) (hPre_norm_mem_finite : Cert.Pre_norm_mem_finite.Facts) (hPre_ffn_da_finite : Cert.Pre_ffn_da_finite.Facts) (hPre_xattn_finite : Cert.Pre_xattn_finite.Facts) (hPre_fox_finite : Cert.Pre_fox_finite.Facts) (hPre_fox_fwd_finite : Cert.Pre_fox_fwd_finite.Facts),
    quiescent_Loss (hLoss := hLoss)
    ∧ quiescent_LossIdeal (hLossIdeal := hLossIdeal)
    ∧ quiescent_LossRefIdeal (hLossRefIdeal := hLossRefIdeal)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_NormRes (hNormRes := hNormRes)
    ∧ quiescent_NormResIdeal (hNormResIdeal := hNormResIdeal)
    ∧ quiescent_NormResIdeal_pre_norm_res_finite (hNormResIdeal := hNormResIdeal) (hPre_norm_res_finite := hPre_norm_res_finite)
    ∧ quiescent_NormResRefIdeal (hNormResRefIdeal := hNormResRefIdeal)
    ∧ quiescent_NormResRefIdeal_pre_norm_res_finite (hNormResRefIdeal := hNormResRefIdeal) (hPre_norm_res_finite := hPre_norm_res_finite)
    ∧ quiescent_NormMem (hNormMem := hNormMem)
    ∧ quiescent_NormMemIdeal (hNormMemIdeal := hNormMemIdeal)
    ∧ quiescent_NormMemIdeal_pre_norm_mem_finite (hNormMemIdeal := hNormMemIdeal) (hPre_norm_mem_finite := hPre_norm_mem_finite)
    ∧ quiescent_NormMemRefIdeal (hNormMemRefIdeal := hNormMemRefIdeal)
    ∧ quiescent_NormMemRefIdeal_pre_norm_mem_finite (hNormMemRefIdeal := hNormMemRefIdeal) (hPre_norm_mem_finite := hPre_norm_mem_finite)
    ∧ quiescent_Sconv (hSconv := hSconv)
    ∧ quiescent_SconvIdeal (hSconvIdeal := hSconvIdeal)
    ∧ quiescent_SconvRefIdeal (hSconvRefIdeal := hSconvRefIdeal)
    ∧ quiescent_LruConv (hLruConv := hLruConv)
    ∧ quiescent_LruConvIdeal (hLruConvIdeal := hLruConvIdeal)
    ∧ quiescent_LruConvRefIdeal (hLruConvRefIdeal := hLruConvRefIdeal)
    ∧ quiescent_Dlogf (hDlogf := hDlogf)
    ∧ quiescent_DlogfIdeal (hDlogfIdeal := hDlogfIdeal)
    ∧ quiescent_DlogfRefIdeal (hDlogfRefIdeal := hDlogfRefIdeal)
    ∧ quiescent_FfnDa (hFfnDa := hFfnDa)
    ∧ quiescent_FfnDaIdeal (hFfnDaIdeal := hFfnDaIdeal)
    ∧ quiescent_FfnDaIdeal_pre_ffn_da_finite (hFfnDaIdeal := hFfnDaIdeal) (hPre_ffn_da_finite := hPre_ffn_da_finite)
    ∧ quiescent_FfnDaRefIdeal (hFfnDaRefIdeal := hFfnDaRefIdeal)
    ∧ quiescent_FfnDaRefIdeal_pre_ffn_da_finite (hFfnDaRefIdeal := hFfnDaRefIdeal) (hPre_ffn_da_finite := hPre_ffn_da_finite)
    ∧ quiescent_Xattn (hXattn := hXattn)
    ∧ quiescent_XattnIdeal (hXattnIdeal := hXattnIdeal)
    ∧ quiescent_XattnIdeal_pre_xattn_finite (hXattnIdeal := hXattnIdeal) (hPre_xattn_finite := hPre_xattn_finite)
    ∧ quiescent_XattnRefIdeal (hXattnRefIdeal := hXattnRefIdeal)
    ∧ quiescent_XattnRefIdeal_pre_xattn_finite (hXattnRefIdeal := hXattnRefIdeal) (hPre_xattn_finite := hPre_xattn_finite)
    ∧ quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_XattnFwd (hXattnFwd := hXattnFwd)
    ∧ quiescent_XattnFwdIdeal (hXattnFwdIdeal := hXattnFwdIdeal)
    ∧ quiescent_XattnFwdRefIdeal (hXattnFwdRefIdeal := hXattnFwdRefIdeal)
    ∧ quiescent_FoxFwd (hFoxFwd := hFoxFwd)
    ∧ quiescent_FoxFwdIdeal (hFoxFwdIdeal := hFoxFwdIdeal)
    ∧ quiescent_FoxFwdIdeal_pre_fox_fwd_finite (hFoxFwdIdeal := hFoxFwdIdeal) (hPre_fox_fwd_finite := hPre_fox_fwd_finite)
    ∧ quiescent_FoxFwdRefIdeal (hFoxFwdRefIdeal := hFoxFwdRefIdeal)
    ∧ quiescent_FoxFwdRefIdeal_pre_fox_fwd_finite (hFoxFwdRefIdeal := hFoxFwdRefIdeal) (hPre_fox_fwd_finite := hPre_fox_fwd_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_NormAdd (hNormAdd := hNormAdd)
    ∧ quiescent_NormAddIdeal (hNormAddIdeal := hNormAddIdeal)
    ∧ quiescent_NormAddRefIdeal (hNormAddRefIdeal := hNormAddRefIdeal)
    ∧ quiescent_SconvFwd (hSconvFwd := hSconvFwd)
    ∧ quiescent_SconvFwdIdeal (hSconvFwdIdeal := hSconvFwdIdeal)
    ∧ quiescent_SconvFwdRefIdeal (hSconvFwdRefIdeal := hSconvFwdRefIdeal)
    ∧ quiescent_LruConvFwd (hLruConvFwd := hLruConvFwd)
    ∧ quiescent_LruConvFwdIdeal (hLruConvFwdIdeal := hLruConvFwdIdeal)
    ∧ quiescent_LruConvFwdRefIdeal (hLruConvFwdRefIdeal := hLruConvFwdRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FoxCum (hFoxCum := hFoxCum)
    ∧ quiescent_FoxCumIdeal (hFoxCumIdeal := hFoxCumIdeal)
    ∧ quiescent_FoxCumRefIdeal (hFoxCumRefIdeal := hFoxCumRefIdeal)
    ∧ quiescent_LruScan (hLruScan := hLruScan)
    ∧ quiescent_LruScanIdeal (hLruScanIdeal := hLruScanIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MmNn (hMmNn := hMmNn)
    ∧ quiescent_MmNnIdeal (hMmNnIdeal := hMmNnIdeal)
    ∧ quiescent_MmNnRefIdeal (hMmNnRefIdeal := hMmNnRefIdeal)
    ∧ quiescent_MmCols (hMmCols := hMmCols)
    ∧ quiescent_MmColsIdeal (hMmColsIdeal := hMmColsIdeal)
    ∧ quiescent_MmColsRefIdeal (hMmColsRefIdeal := hMmColsRefIdeal)
    ∧ quiescent_MmRows (hMmRows := hMmRows)
    ∧ quiescent_MmRowsIdeal (hMmRowsIdeal := hMmRowsIdeal)
    ∧ quiescent_MmRowsRefIdeal (hMmRowsRefIdeal := hMmRowsRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_BmmNn (hBmmNn := hBmmNn)
    ∧ quiescent_BmmNnIdeal (hBmmNnIdeal := hBmmNnIdeal)
    ∧ quiescent_BmmNnRefIdeal (hBmmNnRefIdeal := hBmmNnRefIdeal)
    ∧ quiescent_BmmTn (hBmmTn := hBmmTn)
    ∧ quiescent_BmmTnIdeal (hBmmTnIdeal := hBmmTnIdeal)
    ∧ quiescent_BmmTnRefIdeal (hBmmTnRefIdeal := hBmmTnRefIdeal)
    ∧ quiescent_MmA3 (hMmA3 := hMmA3)
    ∧ quiescent_MmA3Ideal (hMmA3Ideal := hMmA3Ideal)
    ∧ quiescent_MmA3RefIdeal (hMmA3RefIdeal := hMmA3RefIdeal)
    ∧ quiescent_BmmNnSum (hBmmNnSum := hBmmNnSum)
    ∧ quiescent_BmmNnSumIdeal (hBmmNnSumIdeal := hBmmNnSumIdeal)
    ∧ quiescent_BmmNnSumRefIdeal (hBmmNnSumRefIdeal := hBmmNnSumRefIdeal)
    ∧ quiescent_BmmNtSum (hBmmNtSum := hBmmNtSum)
    ∧ quiescent_BmmNtSumIdeal (hBmmNtSumIdeal := hBmmNtSumIdeal)
    ∧ quiescent_BmmNtSumRefIdeal (hBmmNtSumRefIdeal := hBmmNtSumRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_SumDev (hSumDev := hSumDev)
    ∧ quiescent_SumDevIdeal (hSumDevIdeal := hSumDevIdeal)
    ∧ quiescent_SumDevRefIdeal (hSumDevRefIdeal := hSumDevRefIdeal)
    ∧ preserves_Loss_LossIdeal
    ∧ algebraic_LossIdeal_LossRefIdeal (hLossIdeal := hLossIdeal) (hLossRefIdeal := hLossRefIdeal)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_NormRes_NormResIdeal
    ∧ algebraic_NormResIdeal_NormResRefIdeal_pre_norm_res_finite (hNormResIdeal := hNormResIdeal) (hNormResRefIdeal := hNormResRefIdeal) (hPre_norm_res_finite := hPre_norm_res_finite)
    ∧ preserves_NormMem_NormMemIdeal
    ∧ algebraic_NormMemIdeal_NormMemRefIdeal_pre_norm_mem_finite (hNormMemIdeal := hNormMemIdeal) (hNormMemRefIdeal := hNormMemRefIdeal) (hPre_norm_mem_finite := hPre_norm_mem_finite)
    ∧ preserves_Sconv_SconvIdeal
    ∧ algebraic_SconvIdeal_SconvRefIdeal (hSconvIdeal := hSconvIdeal) (hSconvRefIdeal := hSconvRefIdeal)
    ∧ preserves_LruConv_LruConvIdeal
    ∧ algebraic_LruConvIdeal_LruConvRefIdeal (hLruConvIdeal := hLruConvIdeal) (hLruConvRefIdeal := hLruConvRefIdeal)
    ∧ preserves_Dlogf_DlogfIdeal
    ∧ algebraic_DlogfIdeal_DlogfRefIdeal (hDlogfIdeal := hDlogfIdeal) (hDlogfRefIdeal := hDlogfRefIdeal)
    ∧ preserves_FfnDa_FfnDaIdeal
    ∧ algebraic_FfnDaIdeal_FfnDaRefIdeal_pre_ffn_da_finite (hFfnDaIdeal := hFfnDaIdeal) (hFfnDaRefIdeal := hFfnDaRefIdeal) (hPre_ffn_da_finite := hPre_ffn_da_finite)
    ∧ preserves_Xattn_XattnIdeal
    ∧ algebraic_XattnIdeal_XattnRefIdeal_pre_xattn_finite (hXattnIdeal := hXattnIdeal) (hXattnRefIdeal := hXattnRefIdeal) (hPre_xattn_finite := hPre_xattn_finite)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_XattnFwd_XattnFwdIdeal
    ∧ algebraic_XattnFwdIdeal_XattnFwdRefIdeal (hXattnFwdIdeal := hXattnFwdIdeal) (hXattnFwdRefIdeal := hXattnFwdRefIdeal)
    ∧ preserves_FoxFwd_FoxFwdIdeal
    ∧ algebraic_FoxFwdIdeal_FoxFwdRefIdeal_pre_fox_fwd_finite (hFoxFwdIdeal := hFoxFwdIdeal) (hFoxFwdRefIdeal := hFoxFwdRefIdeal) (hPre_fox_fwd_finite := hPre_fox_fwd_finite)
    ∧ preserves_NormFwd_NormFwdIdeal
    ∧ algebraic_NormFwdIdeal_NormFwdRefIdeal (hNormFwdIdeal := hNormFwdIdeal) (hNormFwdRefIdeal := hNormFwdRefIdeal)
    ∧ preserves_NormAdd_NormAddIdeal
    ∧ algebraic_NormAddIdeal_NormAddRefIdeal (hNormAddIdeal := hNormAddIdeal) (hNormAddRefIdeal := hNormAddRefIdeal)
    ∧ preserves_SconvFwd_SconvFwdIdeal
    ∧ algebraic_SconvFwdIdeal_SconvFwdRefIdeal (hSconvFwdIdeal := hSconvFwdIdeal) (hSconvFwdRefIdeal := hSconvFwdRefIdeal)
    ∧ preserves_LruConvFwd_LruConvFwdIdeal
    ∧ algebraic_LruConvFwdIdeal_LruConvFwdRefIdeal (hLruConvFwdIdeal := hLruConvFwdIdeal) (hLruConvFwdRefIdeal := hLruConvFwdRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FoxCum_FoxCumIdeal
    ∧ algebraic_FoxCumIdeal_FoxCumRefIdeal (hFoxCumIdeal := hFoxCumIdeal) (hFoxCumRefIdeal := hFoxCumRefIdeal)
    ∧ preserves_LruScan_LruScanIdeal
    ∧ preserves_MemNorm_MemNormIdeal
    ∧ algebraic_MemNormIdeal_MemNormRefIdeal (hMemNormIdeal := hMemNormIdeal) (hMemNormRefIdeal := hMemNormRefIdeal)
    ∧ preserves_MmNn_MmNnIdeal
    ∧ algebraic_MmNnIdeal_MmNnRefIdeal (hMmNnIdeal := hMmNnIdeal) (hMmNnRefIdeal := hMmNnRefIdeal)
    ∧ preserves_MmCols_MmColsIdeal
    ∧ algebraic_MmColsIdeal_MmColsRefIdeal (hMmColsIdeal := hMmColsIdeal) (hMmColsRefIdeal := hMmColsRefIdeal)
    ∧ preserves_MmRows_MmRowsIdeal
    ∧ algebraic_MmRowsIdeal_MmRowsRefIdeal (hMmRowsIdeal := hMmRowsIdeal) (hMmRowsRefIdeal := hMmRowsRefIdeal)
    ∧ preserves_MmNt_MmNtIdeal
    ∧ algebraic_MmNtIdeal_MmNtRefIdeal (hMmNtIdeal := hMmNtIdeal) (hMmNtRefIdeal := hMmNtRefIdeal)
    ∧ preserves_MmTn_MmTnIdeal
    ∧ algebraic_MmTnIdeal_MmTnRefIdeal (hMmTnIdeal := hMmTnIdeal) (hMmTnRefIdeal := hMmTnRefIdeal)
    ∧ preserves_BmmNn_BmmNnIdeal
    ∧ algebraic_BmmNnIdeal_BmmNnRefIdeal (hBmmNnIdeal := hBmmNnIdeal) (hBmmNnRefIdeal := hBmmNnRefIdeal)
    ∧ preserves_BmmTn_BmmTnIdeal
    ∧ algebraic_BmmTnIdeal_BmmTnRefIdeal (hBmmTnIdeal := hBmmTnIdeal) (hBmmTnRefIdeal := hBmmTnRefIdeal)
    ∧ preserves_MmA3_MmA3Ideal
    ∧ algebraic_MmA3Ideal_MmA3RefIdeal (hMmA3Ideal := hMmA3Ideal) (hMmA3RefIdeal := hMmA3RefIdeal)
    ∧ preserves_BmmNnSum_BmmNnSumIdeal
    ∧ algebraic_BmmNnSumIdeal_BmmNnSumRefIdeal (hBmmNnSumIdeal := hBmmNnSumIdeal) (hBmmNnSumRefIdeal := hBmmNnSumRefIdeal)
    ∧ preserves_BmmNtSum_BmmNtSumIdeal
    ∧ algebraic_BmmNtSumIdeal_BmmNtSumRefIdeal (hBmmNtSumIdeal := hBmmNtSumIdeal) (hBmmNtSumRefIdeal := hBmmNtSumRefIdeal)
    ∧ preserves_AdamW_AdamWIdeal
    ∧ algebraic_AdamWIdeal_AdamWRefIdeal (hAdamWIdeal := hAdamWIdeal) (hAdamWRefIdeal := hAdamWRefIdeal)
    ∧ preserves_SumDev_SumDevIdeal
    ∧ algebraic_SumDevIdeal_SumDevRefIdeal (hSumDevIdeal := hSumDevIdeal) (hSumDevRefIdeal := hSumDevRefIdeal)
-- ==== Pre_ffn_da_finite.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

class Facts : Prop where
  bcast_S_S2048x1024 : S_.BroadcastsInDim S2048x1024 (![] : Fin 0 → Fin S2048x1024.rank)
  bcast_S_S2816x1024 : S_.BroadcastsInDim S2816x1024 (![] : Fin 0 → Fin S2816x1024.rank)
  bcast_S_S2048x2816 : S_.BroadcastsInDim S2048x2816 (![] : Fin 0 → Fin S2048x2816.rank)

variable [Facts]

def fn {F : FTy → Type} [FloatOps F] (main_arg0 : FVec F S2048x1024 .f32) (main_arg1 : FVec F S2816x1024 .f32) (main_arg2 : FVec F S2048x2816 .f32) (main_arg3 : FVec F S2048x2816 .f32) : IVec S2048x1024 1 × IVec S2816x1024 1 × IVec S2048x2816 1 × IVec S2048x2816 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S2048x2816 .f32 := Host.absf main_arg2
  let main_cst_1 : FVec F S_ .f32 := constant S_ .f32 0x7F800000#32
  let main_v7 : FVec F S2048x2816 .f32 := broadcastInDim S2048x2816 ![] bcast_S_S2048x2816 main_cst_1
  let main_v8 : IVec S2048x2816 1 := cmpf .olt main_v6 main_v7
  let main_v9 : FVec F S2048x2816 .f32 := Host.absf main_arg3
  let main_cst_2 : FVec F S_ .f32 := constant S_ .f32 0x7F800000#32
  let main_v10 : FVec F S2048x2816 .f32 := broadcastInDim S2048x2816 ![] bcast_S_S2048x2816 main_cst_2
  let main_v11 : IVec S2048x2816 1 := cmpf .olt main_v9 main_v10
  (main_v2, main_v5, main_v8, main_v11)
-- ==== Pre_fox_finite.lean ====
abbrev S2048x512 : Shape := ⟨2, ![2048, 512]⟩
abbrev S8x2048 : Shape := ⟨2, ![8, 2048]⟩
abbrev S_ : Shape := ⟨0, ![]⟩

class Facts : Prop where
  bcast_S_S2048x512 : S_.BroadcastsInDim S2048x512 (![] : Fin 0 → Fin S2048x512.rank)
  bcast_S_S8x2048 : S_.BroadcastsInDim S8x2048 (![] : Fin 0 → Fin S8x2048.rank)

variable [Facts]

def fn {F : FTy → Type} [FloatOps F] (main_arg0 : FVec F S2048x512 .f32) (main_arg1 : FVec F S2048x512 .f32) (main_arg2 : FVec F S2048x512 .f32) (main_arg3 : FVec F S8x2048 .f32) (main_arg4 : FVec F S2048x512 .f32) : IVec S2048x512 1 × IVec S2048x512 1 × IVec S2048x512 1 × IVec S8x2048 1 × IVec S2048x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S8x2048 .f32 := Host.absf main_arg3
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_v12 : FVec F S2048x512 .f32 := Host.absf main_arg4
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  (main_v2, main_v5, main_v8, main_v11, main_v14)
-- ==== Pre_fox_fwd_finite.lean ====
abbrev S2048x512 : Shape := ⟨2, ![2048, 512]⟩
abbrev S8x2048 : Shape := ⟨2, ![8, 2048]⟩
abbrev S_ : Shape := ⟨0, ![]⟩

class Facts : Prop where
  bcast_S_S2048x512 : S_.BroadcastsInDim S2048x512 (![] : Fin 0 → Fin S2048x512.rank)
  bcast_S_S8x2048 : S_.BroadcastsInDim S8x2048 (![] : Fin 0 → Fin S8x2048.rank)

variable [Facts]

def fn {F : FTy → Type} [FloatOps F] (main_arg0 : FVec F S2048x512 .f32) (main_arg1 : FVec F S2048x512 .f32) (main_arg2 : FVec F S2048x512 .f32) (main_arg3 : FVec F S8x2048 .f32) : IVec S2048x512 1 × IVec S2048x512 1 × IVec S2048x512 1 × IVec S8x2048 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S8x2048 .f32 := Host.absf main_arg3
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  (main_v2, main_v5, main_v8, main_v11)
-- ==== Pre_norm_finite.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2048x1024 .f32) (main_arg1 : FVec F S2048x1024 .f32) (main_arg2 : FVec F S1024 .f32) : IVec S2048x1024 1 × IVec S2048x1024 1 × IVec S1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_norm_mem_finite.lean ====
abbrev S256x1024 : Shape := ⟨2, ![256, 1024]⟩
abbrev S1024 : Shape := ⟨1, ![1024]⟩
abbrev S_ : Shape := ⟨0, ![]⟩

class Facts : Prop where
  bcast_S_S256x1024 : S_.BroadcastsInDim S256x1024 (![] : Fin 0 → Fin S256x1024.rank)
  bcast_S_S1024 : S_.BroadcastsInDim S1024 (![] : Fin 0 → Fin S1024.rank)

variable [Facts]

def fn {F : FTy → Type} [FloatOps F] (main_arg0 : FVec F S256x1024 .f32) (main_arg1 : FVec F S256x1024 .f32) (main_arg2 : FVec F S1024 .f32) : IVec S256x1024 1 × IVec S256x1024 1 × IVec S1024 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_norm_res_finite.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2048x1024 .f32) (main_arg1 : FVec F S2048x1024 .f32) (main_arg2 : FVec F S1024 .f32) (main_arg3 : FVec F S2048x1024 .f32) : IVec S2048x1024 1 × IVec S2048x1024 1 × IVec S1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_xattn_finite.lean ====
abbrev S2048x1024 : Shape := ⟨2, ![2048, 1024]⟩
abbrev S256x1024 : Shape := ⟨2, ![256, 1024]⟩
abbrev S_ : Shape := ⟨0, ![]⟩

class Facts : Prop where
  bcast_S_S2048x1024 : S_.BroadcastsInDim S2048x1024 (![] : Fin 0 → Fin S2048x1024.rank)
  bcast_S_S256x1024 : S_.BroadcastsInDim S256x1024 (![] : Fin 0 → Fin S256x1024.rank)

variable [Facts]

def fn {F : FTy → Type} [FloatOps F] (main_arg0 : FVec F S2048x1024 .f32) (main_arg1 : FVec F S256x1024 .f32) (main_arg2 : FVec F S256x1024 .f32) (main_arg3 : FVec F S2048x1024 .f32) : IVec S2048x1024 1 × IVec S256x1024 1 × IVec S256x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Loss.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32_10 : BitVec 32 := 0#32
  let v20 : BitVec 1 := Scalar.cmpi .sgt arg0 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Norm.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1x1024, .f32⟩
  | .hbm, ⟨4, _⟩ => ⟨S2048x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32_13 : BitVec 32 := 0#32
  let v34 : BitVec 1 := Scalar.cmpi .sgt arg0 c0_i32_13
  let v35 : BitVec 32 := Scalar.extui v34
  let c0_i32_14 : BitVec 32 := 0#32
  let v36 : BitVec 1 := Scalar.cmpi .ne v35 c0_i32_14
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .bf16⟩
  | .hbm, ⟨49, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== NormRes.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormResRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== NormMem.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024, .f32⟩
  | .hbm, ⟨3, _⟩ => ⟨S1x1024, .f32⟩
  | .hbm, ⟨4, _⟩ => ⟨S256x1024, .bf16⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32_13 : BitVec 32 := 0#32
  let v34 : BitVec 1 := Scalar.cmpi .sgt arg0 c0_i32_13
  let v35 : BitVec 32 := Scalar.extui v34
  let c0_i32_14 : BitVec 32 := 0#32
  let v36 : BitVec 1 := Scalar.cmpi .ne v35 c0_i32_14
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormMemRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .bf16⟩
  | .hbm, ⟨49, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Sconv.lean ====
abbrev S2048x3080 : Shape := ⟨2, ![2048, 3080]⟩
abbrev S3x512 : Shape := ⟨2, ![3, 512]⟩
abbrev S2048x1024 : Shape := ⟨2, ![2048, 1024]⟩
abbrev S2048x1536 : Shape := ⟨2, ![2048, 1536]⟩
abbrev S2048x8 : Shape := ⟨2, ![2048, 8]⟩
abbrev S_ : Shape := ⟨0, ![]⟩
abbrev S2048x120 : Shape := ⟨2, ![2048, 120]⟩
abbrev S2048x3200 : Shape := ⟨2, ![2048, 3200]⟩
abbrev S2048x512 : Shape := ⟨2, ![2048, 512]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 13
  | .vmem => 18
  | .smem => 0
  | _ => 0

abbrev bufTy : (tb : Table) → Fin (tcTables nBuf tb) → BufTy
  | .hbm, ⟨0, _⟩ => ⟨S2048x3080, .f32⟩
  | .hbm, ⟨1, _⟩ => ⟨S3x512, .f32⟩
  | .hbm, ⟨2, _⟩ => ⟨S2048x1024, .f32⟩
  | .hbm, ⟨3, _⟩ => ⟨S2048x1536, .f32⟩
  | .hbm, ⟨4, _⟩ => ⟨S2048x1536, .f32⟩
  | .hbm, ⟨5, _⟩ => ⟨S2048x8, .f32⟩
  | .hbm, ⟨6, _⟩ => ⟨S_, .f32⟩
  | .hbm, ⟨7, _⟩ => ⟨S2048x120, .f32⟩
  | .hbm, ⟨8, _⟩ => ⟨S2048x3200, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S3x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S3x128, .f32⟩
  | .local _ .vmem, ⟨17, _⟩ => ⟨S3x128, .f32⟩
  | _, _ => ⟨S2048x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SconvRefIdeal.lean ====
abbrev S2048x3080 : Shape := ⟨2, ![2048, 3080]⟩
abbrev S3x512 : Shape := ⟨2, ![3, 512]⟩
abbrev S2048x1024 : Shape := ⟨2, ![2048, 1024]⟩
abbrev S2048x512 : Shape := ⟨2, ![2048, 512]⟩
abbrev S2048x8 : Shape := ⟨2, ![2048, 8]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩

abbrev nBuf : Space → Nat
  | .hbm => 90
  | .vmem => 0
  | .smem => 0
  | _ => 0

abbrev bufTy : (tb : Table) → Fin (tcTables nBuf tb) → BufTy
  | .hbm, ⟨0, _⟩ => ⟨S2048x3080, .f32⟩
  | .hbm, ⟨1, _⟩ => ⟨S3x512, .f32⟩
  | .hbm, ⟨2, _⟩ => ⟨S2048x1024, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x8, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2x512, .f32⟩
  | .hbm, ⟨13, _⟩ => ⟨S2050x512, .f32⟩
  | .hbm, ⟨14, _⟩ => ⟨S_, .f32⟩
  | .hbm, ⟨15, _⟩ => ⟨S2x512, .f32⟩
  | .hbm, ⟨16, _⟩ => ⟨S1x512, .f32⟩
  | .hbm, ⟨17, _⟩ => ⟨S512, .f32⟩
  | .hbm, ⟨18, _⟩ => ⟨S2048x512, .f32⟩
  | .hbm, ⟨19, _⟩ => ⟨S1x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S1x512, .f32⟩
  | .hbm, ⟨26, _⟩ => ⟨S512, .f32⟩
  | .hbm, ⟨27, _⟩ => ⟨S2048x512, .f32⟩
  | .hbm, ⟨28, _⟩ => ⟨S1x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S1x512, .f32⟩
  | .hbm, ⟨33, _⟩ => ⟨S512, .f32⟩
  | .hbm, ⟨34, _⟩ => ⟨S2048x512, .f32⟩
  | .hbm, ⟨35, _⟩ => ⟨S1x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S_, .f32⟩
  | .hbm, ⟨47, _⟩ => ⟨S512, .f32⟩
  | .hbm, ⟨48, _⟩ => ⟨S1x512, .f32⟩
  | .hbm, ⟨49, _⟩ => ⟨S_, .f32⟩
  | .hbm, ⟨50, _⟩ => ⟨S512, .f32⟩
  | .hbm, ⟨51, _⟩ => ⟨S_, .f32⟩
  | .hbm, ⟨52, _⟩ => ⟨S2050x512, .f32⟩
  | .hbm, ⟨53, _⟩ => ⟨S1x512, .f32⟩
  | .hbm, ⟨54, _⟩ => ⟨S_, .f32⟩
  | .hbm, ⟨55, _⟩ => ⟨S3x512, .f32⟩
  | .hbm, ⟨56, _⟩ => ⟨S2048x512, .f32⟩
  | .hbm, ⟨57, _⟩ => ⟨S2048x512, .f32⟩
  | .hbm, ⟨58, _⟩ => ⟨S2048x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S_, .f32⟩
  | .hbm, ⟨63, _⟩ => ⟨S512, .f32⟩
  | .hbm, ⟨64, _⟩ => ⟨S_, .f32⟩
  | .hbm, ⟨65, _⟩ => ⟨S2050x512, .f32⟩
  | .hbm, ⟨66, _⟩ => ⟨S2050x512, .f32⟩
  | .hbm, ⟨67, _⟩ => ⟨S1x512, .f32⟩
  | .hbm, ⟨68, _⟩ => ⟨S_, .f32⟩
  | .hbm, ⟨69, _⟩ => ⟨S3x512, .f32⟩
  | .hbm, ⟨70, _⟩ => ⟨S3x512, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S_, .f32⟩
  | .hbm, ⟨75, _⟩ => ⟨S512, .f32⟩
  | .hbm, ⟨76, _⟩ => ⟨S1x512, .f32⟩
  | .hbm, ⟨77, _⟩ => ⟨S_, .f32⟩
  | .hbm, ⟨78, _⟩ => ⟨S512, .f32⟩
  | .hbm, ⟨79, _⟩ => ⟨S_, .f32⟩
  | .hbm, ⟨80, _⟩ => ⟨S2050x512, .f32⟩
  | .hbm, ⟨81, _⟩ => ⟨S2050x512, .f32⟩
  | .hbm, ⟨82, _⟩ => ⟨S1x512, .f32⟩
  | .hbm, ⟨83, _⟩ => ⟨S_, .f32⟩
  | .hbm, ⟨84, _⟩ => ⟨S3x512, .f32⟩
  | .hbm, ⟨85, _⟩ => ⟨S3x512, .f32⟩
  | .hbm, ⟨86, _⟩ => ⟨S2x512, .f32⟩
  | .hbm, ⟨87, _⟩ => ⟨S2048x512, .f32⟩
  | .hbm, ⟨88, _⟩ => ⟨S2048x512, .f32⟩
  | .hbm, ⟨89, _⟩ => ⟨S2048x512, .f32⟩
  | _, _ => ⟨S2048x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== LruConv.lean ====
abbrev S2048x2048 : Shape := ⟨2, ![2048, 2048]⟩
abbrev S4x1024 : Shape := ⟨2, ![4, 1024]⟩
abbrev S2048x1024 : Shape := ⟨2, ![2048, 1024]⟩
abbrev S2048x4x256 : Shape := ⟨3, ![2048, 4, 256]⟩
abbrev S4x2048x256 : Shape := ⟨3, ![4, 2048, 256]⟩
abbrev S2048x8x256 : Shape := ⟨3, ![2048, 8, 256]⟩
abbrev S8x2048x256 : Shape := ⟨3, ![8, 2048, 256]⟩
abbrev S1x1024 : Shape := ⟨2, ![1, 1024]⟩
abbrev S1x2048x128 : Shape := ⟨3, ![1, 2048, 128]⟩
abbrev S4x128 : Shape := ⟨2, ![4, 128]⟩
abbrev S1x128 : Shape := ⟨2, ![1, 128]⟩
abbrev S2048x128 : Shape := ⟨2, ![2048, 128]⟩
abbrev S128 : Shape := ⟨1, ![128]⟩

abbrev nBuf : Space → Nat
  | .hbm => 13
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S4x1024, .f32⟩
  | .hbm, ⟨2, _⟩ => ⟨S2048x1024, .f32⟩
  | .hbm, ⟨3, _⟩ => ⟨S2048x1024, .f32⟩
  | .hbm, ⟨4, _⟩ => ⟨S2048x4x256, .f32⟩
  | .hbm, ⟨5, _⟩ => ⟨S4x2048x256, .f32⟩
  | .hbm, ⟨6, _⟩ => ⟨S2048x4x256, .f32⟩
  | .hbm, ⟨7, _⟩ => ⟨S4x2048x256, .f32⟩
  | .hbm, ⟨8, _⟩ => ⟨S2048x8x256, .f32⟩
  | .hbm, ⟨9, _⟩ => ⟨S8x2048x256, .f32⟩
  | .hbm, ⟨10, _⟩ => ⟨S4x2048x256, .bf16⟩
  | .hbm, ⟨11, _⟩ => ⟨S4x1024, .f32⟩
  | .hbm, ⟨12, _⟩ => ⟨S1x1024, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S4x128, .f32⟩
  | .local _ .vmem, ⟨7, _⟩ => ⟨S4x128, .f32⟩
  | .local _ .vmem, ⟨8, _⟩ => ⟨S1x2048x128, .bf16⟩
  | .local _ .vmem, ⟨9, _⟩ => ⟨S1x2048x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LruConvRefIdeal.lean ====
abbrev S2048x2048 : Shape := ⟨2, ![2048, 2048]⟩
abbrev S4x1024 : Shape := ⟨2, ![4, 1024]⟩
abbrev S2048x1024 : Shape := ⟨2, ![2048, 1024]⟩
abbrev S_ : Shape := ⟨0, ![]⟩
abbrev S1024 : Shape := ⟨1, ![1024]⟩
abbrev S3x1024 : Shape := ⟨2, ![3, 1024]⟩
abbrev S2051x1024 : Shape := ⟨2, ![2051, 1024]⟩
abbrev S1x1024 : Shape := ⟨2, ![1, 1024]⟩
abbrev S2048x4x256 : Shape := ⟨3, ![2048, 4, 256]⟩
abbrev S4x2048x256 : Shape := ⟨3, ![4, 2048, 256]⟩

abbrev nBuf : Space → Nat
  | .hbm => 117
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S3x1024, .f32⟩
  | .hbm, ⟨10, _⟩ => ⟨S2051x1024, .f32⟩
  | .hbm, ⟨11, _⟩ => ⟨S_, .f32⟩
  | .hbm, ⟨12, _⟩ => ⟨S3x1024, .f32⟩
  | .hbm, ⟨13, _⟩ => ⟨S1x1024, .f32⟩
  | .hbm, ⟨14, _⟩ => ⟨S1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S_, .f32⟩
  | .hbm, ⟨62, _⟩ => ⟨S2051x1024, .f32⟩
  | .hbm, ⟨63, _⟩ => ⟨S1x1024, .f32⟩
  | .hbm, ⟨64, _⟩ => ⟨S_, .f32⟩
  | .hbm, ⟨65, _⟩ => ⟨S4x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S_, .f32⟩
  | .hbm, ⟨75, _⟩ => ⟨S2051x1024, .f32⟩
  | .hbm, ⟨76, _⟩ => ⟨S2051x1024, .f32⟩
  | .hbm, ⟨77, _⟩ => ⟨S1x1024, .f32⟩
  | .hbm, ⟨78, _⟩ => ⟨S_, .f32⟩
  | .hbm, ⟨79, _⟩ => ⟨S4x1024, .f32⟩
  | .hbm, ⟨80, _⟩ => ⟨S4x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S_, .f32⟩
  | .hbm, ⟨88, _⟩ => ⟨S1024, .f32⟩
  | .hbm, ⟨89, _⟩ => ⟨S_, .f32⟩
  | .hbm, ⟨90, _⟩ => ⟨S2051x1024, .f32⟩
  | .hbm, ⟨91, _⟩ => ⟨S2051x1024, .f32⟩
  | .hbm, ⟨92, _⟩ => ⟨S1x1024, .f32⟩
  | .hbm, ⟨93, _⟩ => ⟨S_, .f32⟩
  | .hbm, ⟨94, _⟩ => ⟨S4x1024, .f32⟩
  | .hbm, ⟨95, _⟩ => ⟨S4x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S_, .f32⟩
  | .hbm, ⟨103, _⟩ => ⟨S1024, .f32⟩
  | .hbm, ⟨104, _⟩ => ⟨S_, .f32⟩
  | .hbm, ⟨105, _⟩ => ⟨S2051x1024, .f32⟩
  | .hbm, ⟨106, _⟩ => ⟨S2051x1024, .f32⟩
  | .hbm, ⟨107, _⟩ => ⟨S1x1024, .f32⟩
  | .hbm, ⟨108, _⟩ => ⟨S_, .f32⟩
  | .hbm, ⟨109, _⟩ => ⟨S4x1024, .f32⟩
  | .hbm, ⟨110, _⟩ => ⟨S4x1024, .f32⟩
  | .hbm, ⟨111, _⟩ => ⟨S3x1024, .f32⟩
  | .hbm, ⟨112, _⟩ => ⟨S2048x1024, .f32⟩
  | .hbm, ⟨113, _⟩ => ⟨S2048x1024, .bf16⟩
  | .hbm, ⟨114, _⟩ => ⟨S2048x4x256, .bf16⟩
  | .hbm, ⟨115, _⟩ => ⟨S4x2048x256, .bf16⟩
  | .hbm, ⟨116, _⟩ => ⟨S1x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_16 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_17 : Ref sig .tc := ⟨.hbm, 99, rfl⟩
abbrev main_v77 : Ref sig .tc := ⟨.hbm, 100, rfl⟩
abbrev main_v78 : Ref sig .tc := ⟨.hbm, 101, rfl⟩
abbrev main_cst_18 : Ref sig .tc := ⟨.hbm, 102, rfl⟩
abbrev main_v79 : Ref sig .tc := ⟨.hbm, 103, rfl⟩
abbrev main_cst_19 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_20 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== Dlogf.lean ====
abbrev S2048x8 : Shape := ⟨2, ![2048, 8]⟩
abbrev S8 : Shape := ⟨1, ![8]⟩
abbrev S8x2048 : Shape := ⟨2, ![8, 2048]⟩
abbrev S8x1 : Shape := ⟨2, ![8, 1]⟩
abbrev S8x128 : Shape := ⟨2, ![8, 128]⟩

abbrev nBuf : Space → Nat
  | .hbm => 9
  | .vmem => 6
  | .smem => 0
  | _ => 0

abbrev bufTy : (tb : Table) → Fin (tcTables nBuf tb) → BufTy
  | .hbm, ⟨0, _⟩ => ⟨S2048x8, .f32⟩
  | .hbm, ⟨1, _⟩ => ⟨S8, .f32⟩
  | .hbm, ⟨2, _⟩ => ⟨S8x2048, .f32⟩
  | .hbm, ⟨3, _⟩ => ⟨S8x2048, .f32⟩
  | .hbm, ⟨4, _⟩ => ⟨S8x1, .f32⟩
  | .hbm, ⟨5, _⟩ => ⟨S8x128, .f32⟩
  | .hbm, ⟨6, _⟩ => ⟨S8x2048, .f32⟩
  | .hbm, ⟨7, _⟩ => ⟨S8x2048, .f32⟩
  | .hbm, ⟨8, _⟩ => ⟨S8x128, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x128, .f32⟩
  | .local _ .vmem, ⟨4, _⟩ => ⟨S8x2048, .f32⟩
  | .local _ .vmem, ⟨5, _⟩ => ⟨S8x128, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DlogfRefIdeal.lean ====
abbrev S2048x8 : Shape := ⟨2, ![2048, 8]⟩
abbrev S8 : Shape := ⟨1, ![8]⟩
abbrev S8x2048 : Shape := ⟨2, ![8, 2048]⟩
abbrev S1x8 : Shape := ⟨2, ![1, 8]⟩
abbrev S_ : Shape := ⟨0, ![]⟩
abbrev S8x1 : Shape := ⟨2, ![8, 1]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S8, .f32⟩
  | .hbm, ⟨2, _⟩ => ⟨S8x2048, .f32⟩
  | .hbm, ⟨3, _⟩ => ⟨S8x2048, .f32⟩
  | .hbm, ⟨4, _⟩ => ⟨S1x8, .f32⟩
  | .hbm, ⟨5, _⟩ => ⟨S2048x8, .f32⟩
  | .hbm, ⟨6, _⟩ => ⟨S2048x8, .f32⟩
  | .hbm, ⟨7, _⟩ => ⟨S2048x8, .f32⟩
  | .hbm, ⟨8, _⟩ => ⟨S_, .f32⟩
  | .hbm, ⟨9, _⟩ => ⟨S2048x8, .f32⟩
  | .hbm, ⟨10, _⟩ => ⟨S2048x8, .f32⟩
  | .hbm, ⟨11, _⟩ => ⟨S2048x8, .f32⟩
  | .hbm, ⟨12, _⟩ => ⟨S2048x8, .f32⟩
  | .hbm, ⟨13, _⟩ => ⟨S2048x8, .i1⟩
  | .hbm, ⟨14, _⟩ => ⟨S2048x8, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S_, .f32⟩
  | .hbm, ⟨23, _⟩ => ⟨S2048x8, .f32⟩
  | .hbm, ⟨24, _⟩ => ⟨S2048x8, .i1⟩
  | .hbm, ⟨25, _⟩ => ⟨S_, .f32⟩
  | .hbm, ⟨26, _⟩ => ⟨S2048x8, .f32⟩
  | .hbm, ⟨27, _⟩ => ⟨S2048x8, .f32⟩
  | .hbm, ⟨28, _⟩ => ⟨S_, .f32⟩
  | .hbm, ⟨29, _⟩ => ⟨S2048x8, .f32⟩
  | .hbm, ⟨30, _⟩ => ⟨S2048x8, .i1⟩
  | .hbm, ⟨31, _⟩ => ⟨S_, .f32⟩
  | .hbm, ⟨32, _⟩ => ⟨S2048x8, .f32⟩
  | .hbm, ⟨33, _⟩ => ⟨S2048x8, .f32⟩
  | .hbm, ⟨34, _⟩ => ⟨S2048x8, .f32⟩
  | .hbm, ⟨35, _⟩ => ⟨S2048x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048x8, .f32⟩
  | .hbm, ⟨44, _⟩ => ⟨S2048x8, .i1⟩
  | .hbm, ⟨45, _⟩ => ⟨S_, .f32⟩
  | .hbm, ⟨46, _⟩ => ⟨S2048x8, .f32⟩
  | .hbm, ⟨47, _⟩ => ⟨S2048x8, .f32⟩
  | .hbm, ⟨48, _⟩ => ⟨S2048x8, .f32⟩
  | .hbm, ⟨49, _⟩ => ⟨S2048x8, .f32⟩
  | .hbm, ⟨50, _⟩ => ⟨S2048x8, .f32⟩
  | .hbm, ⟨51, _⟩ => ⟨S_, .f32⟩
  | .hbm, ⟨52, _⟩ => ⟨S2048x8, .f32⟩
  | .hbm, ⟨53, _⟩ => ⟨S2048x8, .f32⟩
  | .hbm, ⟨54, _⟩ => ⟨S2048x8, .f32⟩
  | .hbm, ⟨55, _⟩ => ⟨S_, .f32⟩
  | .hbm, ⟨56, _⟩ => ⟨S_, .f32⟩
  | .hbm, ⟨57, _⟩ => ⟨S2048x8, .f32⟩
  | .hbm, ⟨58, _⟩ => ⟨S8x2048, .f32⟩
  | .hbm, ⟨59, _⟩ => ⟨S8x2048, .f32⟩
  | .hbm, ⟨60, _⟩ => ⟨S8x2048, .f32⟩
  | .hbm, ⟨61, _⟩ => ⟨S8x2048, .f32⟩
  | .hbm, ⟨62, _⟩ => ⟨S2048x8, .f32⟩
  | .hbm, ⟨63, _⟩ => ⟨S_, .f32⟩
  | .hbm, ⟨64, _⟩ => ⟨S_, .f32⟩
  | .hbm, ⟨65, _⟩ => ⟨S2048x8, .f32⟩
  | .hbm, ⟨66, _⟩ => ⟨S2048x8, .f32⟩
  | .hbm, ⟨67, _⟩ => ⟨S2048x8, .f32⟩
  | .hbm, ⟨68, _⟩ => ⟨S2048x8, .f32⟩
  | .hbm, ⟨69, _⟩ => ⟨S_, .f32⟩
  | .hbm, ⟨70, _⟩ => ⟨S8, .f32⟩
  | .hbm, ⟨71, _⟩ => ⟨S1x8, .f32⟩
  | .hbm, ⟨72, _⟩ => ⟨S_, .f32⟩
  | .hbm, ⟨73, _⟩ => ⟨S8, .f32⟩
  | .hbm, ⟨74, _⟩ => ⟨S8x2048, .f32⟩
  | .hbm, ⟨75, _⟩ => ⟨S8x1, .f32⟩
  | .hbm, ⟨76, _⟩ => ⟨S8x128, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_call2_call0_cst : Ref sig .tc := ⟨.hbm, 63, rfl⟩
abbrev main_call2_call0_v0 : Ref sig .tc := ⟨.hbm, 64, rfl⟩
abbrev main_v10 : Ref sig .tc := ⟨.hbm, 65, rfl⟩
abbrev main_call3_v0 : Ref sig .tc := ⟨.hbm, 66, rfl⟩
abbrev main_call3_v1 : Ref sig .tc := ⟨.hbm, 67, rfl⟩
abbrev main_v11 : Ref sig .tc := ⟨.hbm, 68, rfl⟩
abbrev main_cst : Ref sig .tc := ⟨.hbm, 69, rfl⟩
abbrev main_v12 : Ref sig .tc := ⟨.hbm, 70, rfl⟩
abbrev main_v13 : Ref sig .tc := ⟨.hbm, 71, rfl⟩
abbrev main_cst_0 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩

abbrev nD : Nat := 1
abbrev τ : Topo := Topo.v7x

variable {F : FTy → Type} [FloatOps F]
-- ==== FfnDa.lean ====
abbrev S2048x1024 : Shape := ⟨2, ![2048, 1024]⟩
abbrev S2816x1024 : Shape := ⟨2, ![2816, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S1x4x2048x704 : Shape := ⟨4, ![1, 4, 2048, 704]⟩
abbrev S2x4x2048x704 : Shape := ⟨4, ![2, 4, 2048, 704]⟩
abbrev S4x704x1024 : Shape := ⟨3, ![4, 704, 1024]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 16
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x2816, .f32⟩
  | .hbm, ⟨3, _⟩ => ⟨S2048x2816, .f32⟩
  | .hbm, ⟨4, _⟩ => ⟨S2048x4x704, .f32⟩
  | .hbm, ⟨5, _⟩ => ⟨S4x2048x704, .f32⟩
  | .hbm, ⟨6, _⟩ => ⟨S2048x4x704, .f32⟩
  | .hbm, ⟨7, _⟩ => ⟨S4x2048x704, .f32⟩
  | .hbm, ⟨8, _⟩ => ⟨S1x4x2048x704, .f32⟩
  | .hbm, ⟨9, _⟩ => ⟨S1x4x2048x704, .f32⟩
  | .hbm, ⟨10, _⟩ => ⟨S2x4x2048x704, .f32⟩
  | .hbm, ⟨11, _⟩ => ⟨S2048x1024, .bf16⟩
  | .hbm, ⟨12, _⟩ => ⟨S2816x1024, .bf16⟩
  | .hbm, ⟨13, _⟩ => ⟨S4x704x1024, .bf16⟩
  | .hbm, ⟨14, _⟩ => ⟨S2x4x2048x704, .bf16⟩
  | .hbm, ⟨15, _⟩ => ⟨S2x4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x1024x704, .bf16⟩
  | .local _ .vmem, ⟨7, _⟩ => ⟨S2x1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDaRefIdeal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩
abbrev S1x2048x2816 : Shape := ⟨3, ![1, 2048, 2816]⟩
abbrev S2x2048x2816 : Shape := ⟨3, ![2, 2048, 2816]⟩
abbrev S2x2048x4x704 : Shape := ⟨4, ![2, 2048, 4, 704]⟩
abbrev S2x4x2048x704 : Shape := ⟨4, ![2, 4, 2048, 704]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S1x2048x2816, .f32⟩
  | .hbm, ⟨27, _⟩ => ⟨S1x2048x2816, .f32⟩
  | .hbm, ⟨28, _⟩ => ⟨S2x2048x2816, .f32⟩
  | .hbm, ⟨29, _⟩ => ⟨S2x2048x2816, .bf16⟩
  | .hbm, ⟨30, _⟩ => ⟨S2x2048x4x704, .bf16⟩
  | .hbm, ⟨31, _⟩ => ⟨S2x4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Xattn.lean ====
abbrev S2048x1024 : Shape := ⟨2, ![2048, 1024]⟩
abbrev S256x1024 : Shape := ⟨2, ![256, 1024]⟩
abbrev S256x4x256 : Shape := ⟨3, ![256, 4, 256]⟩
abbrev S4x256x256 : Shape := ⟨3, ![4, 256, 256]⟩
abbrev S8x256x256 : Shape := ⟨3, ![8, 256, 256]⟩
abbrev S2x4x256x256 : Shape := ⟨4, ![2, 4, 256, 256]⟩
abbrev S2048x256 : Shape := ⟨2, ![2048, 256]⟩
abbrev S1x256x256 : Shape := ⟨3, ![1, 256, 256]⟩
abbrev S2x1x256x256 : Shape := ⟨4, ![2, 1, 256, 256]⟩
abbrev S256x256 : Shape := ⟨2, ![256, 256]⟩
abbrev S2048 : Shape := ⟨1, ![2048]⟩
abbrev S2048x1 : Shape := ⟨2, ![2048, 1]⟩
abbrev S1x1x256x256 : Shape := ⟨4, ![1, 1, 256, 256]⟩

abbrev nBuf : Space → Nat
  | .hbm => 14
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S256x1024, .f32⟩
  | .hbm, ⟨3, _⟩ => ⟨S2048x1024, .f32⟩
  | .hbm, ⟨4, _⟩ => ⟨S256x4x256, .f32⟩
  | .hbm, ⟨5, _⟩ => ⟨S4x256x256, .f32⟩
  | .hbm, ⟨6, _⟩ => ⟨S256x4x256, .f32⟩
  | .hbm, ⟨7, _⟩ => ⟨S4x256x256, .f32⟩
  | .hbm, ⟨8, _⟩ => ⟨S8x256x256, .f32⟩
  | .hbm, ⟨9, _⟩ => ⟨S2048x1024, .bf16⟩
  | .hbm, ⟨10, _⟩ => ⟨S8x256x256, .bf16⟩
  | .hbm, ⟨11, _⟩ => ⟨S2048x1024, .bf16⟩
  | .hbm, ⟨12, _⟩ => ⟨S2048x1024, .bf16⟩
  | .hbm, ⟨13, _⟩ => ⟨S2x4x256x256, .f32⟩
  | .local _ .vmem, ⟨0, _⟩ => ⟨S2048x256, .bf16⟩
  | .local _ .vmem, ⟨1, _⟩ => ⟨S2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2x1x256x256, .f32⟩
  | .local _ .vmem, ⟨11, _⟩ => ⟨S2x1x256x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_20 : BitVec 32 := 0#32
  let v38 : BitVec 1 := Scalar.cmpi .ne v37 c0_i32_20
  v38

def k0_cond2 (i : grid0.Coords) : BitVec 1 :=
  let arg1 : BitVec 32 := BitVec.ofNat 32 (i 1).val
  let c0_i32_21 : BitVec 32 := 0#32
  let v39 : BitVec 1 := Scalar.cmpi .sgt arg1 c0_i32_21
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== XattnRefIdeal.lean ====
abbrev S2048x1024 : Shape := ⟨2, ![2048, 1024]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩
abbrev S1x256x4x256 : Shape := ⟨4, ![1, 256, 4, 256]⟩
abbrev S2x256x4x256 : Shape := ⟨4, ![2, 256, 4, 256]⟩
abbrev S2x4x256x256 : Shape := ⟨4, ![2, 4, 256, 256]⟩

abbrev nBuf : Space → Nat
  | .hbm => 83
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S256x1024, .f32⟩
  | .hbm, ⟨3, _⟩ => ⟨S2048x1024, .f32⟩
  | .hbm, ⟨4, _⟩ => ⟨S2048x4x256, .f32⟩
  | .hbm, ⟨5, _⟩ => ⟨S256x4x256, .f32⟩
  | .hbm, ⟨6, _⟩ => ⟨S256x4x256, .f32⟩
  | .hbm, ⟨7, _⟩ => ⟨S4x2048x256, .f32⟩
  | .hbm, ⟨8, _⟩ => ⟨S_, .f32⟩
  | .hbm, ⟨9, _⟩ => ⟨S4x2048x256, .f32⟩
  | .hbm, ⟨10, _⟩ => ⟨S4x2048x256, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S4x2048x256, .f32⟩
  | .hbm, ⟨15, _⟩ => ⟨S4x2048x256, .i1⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .i1⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S4x2048x1, .f32⟩
  | .hbm, ⟨37, _⟩ => ⟨S4x2048x256, .f32⟩
  | .hbm, ⟨38, _⟩ => ⟨S4x2048x256, .f32⟩
  | .hbm, ⟨39, _⟩ => ⟨S4x2048x256, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x256x2048, .f32⟩
  | .hbm, ⟨50, _⟩ => ⟨S2048x4x256, .f32⟩
  | .hbm, ⟨51, _⟩ => ⟨S2048x4x256, .f32⟩
  | .hbm, ⟨52, _⟩ => ⟨S4x256x2048, .f32⟩
  | .hbm, ⟨53, _⟩ => ⟨S4x2048x256, .f32⟩
  | .hbm, ⟨54, _⟩ => ⟨S4x256x256, .f32⟩
  | .hbm, ⟨55, _⟩ => ⟨S256x4x256, .f32⟩
  | .hbm, ⟨56, _⟩ => ⟨S4x2048x256, .f32⟩
  | .hbm, ⟨57, _⟩ => ⟨S4x2048x256, .f32⟩
  | .hbm, ⟨58, _⟩ => ⟨S4x2048x256, .f32⟩
  | .hbm, ⟨59, _⟩ => ⟨S_, .f32⟩
  | .hbm, ⟨60, _⟩ => ⟨S4x2048, .f32⟩
  | .hbm, ⟨61, _⟩ => ⟨S4x2048x1, .f32⟩
  | .hbm, ⟨62, _⟩ => ⟨S4x2048x1, .f32⟩
  | .hbm, ⟨63, _⟩ => ⟨S4x2048x256, .f32⟩
  | .hbm, ⟨64, _⟩ => ⟨S4x2048x256, .f32⟩
  | .hbm, ⟨65, _⟩ => ⟨S_, .f32⟩
  | .hbm, ⟨66, _⟩ => ⟨S4x2048, .f32⟩
  | .hbm, ⟨67, _⟩ => ⟨S4x2048x256, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048x256, .f32⟩
  | .hbm, ⟨72, _⟩ => ⟨S4x2048x256, .f32⟩
  | .hbm, ⟨73, _⟩ => ⟨S4x256x256, .f32⟩
  | .hbm, ⟨74, _⟩ => ⟨S256x4x256, .f32⟩
  | .hbm, ⟨75, _⟩ => ⟨S4x2048x256, .f32⟩
  | .hbm, ⟨76, _⟩ => ⟨S2048x4x256, .f32⟩
  | .hbm, ⟨77, _⟩ => ⟨S2048x4x256, .bf16⟩
  | .hbm, ⟨78, _⟩ => ⟨S2048x1024, .bf16⟩
  | .hbm, ⟨79, _⟩ => ⟨S1x256x4x256, .f32⟩
  | .hbm, ⟨80, _⟩ => ⟨S1x256x4x256, .f32⟩
  | .hbm, ⟨81, _⟩ => ⟨S2x256x4x256, .f32⟩
  | .hbm, ⟨82, _⟩ => ⟨S2x4x256x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Fox.lean ====
abbrev S2048x512 : Shape := ⟨2, ![2048, 512]⟩
abbrev S8x2048 : Shape := ⟨2, ![8, 2048]⟩
abbrev S_ : Shape := ⟨0, ![]⟩
abbrev S2048x1664 : Shape := ⟨2, ![2048, 1664]⟩
abbrev S2048x3200 : Shape := ⟨2, ![2048, 3200]⟩
abbrev S2048x1024 : Shape := ⟨2, ![2048, 1024]⟩
abbrev S2048x128 : Shape := ⟨2, ![2048, 128]⟩
abbrev S4x2x2048x1 : Shape := ⟨4, ![4, 2, 2048, 1]⟩
abbrev S2048x4x128 : Shape := ⟨3, ![2048, 4, 128]⟩
abbrev S4x2048x128 : Shape := ⟨3, ![4, 2048, 128]⟩
abbrev S4x1x2048x1 : Shape := ⟨4, ![4, 1, 2048, 1]⟩
abbrev S4x2048x1 : Shape := ⟨3, ![4, 2048, 1]⟩
abbrev S4x1x2048x128 : Shape := ⟨4, ![4, 1, 2048, 128]⟩
abbrev S4x2x2048x128 : Shape := ⟨4, ![4, 2, 2048, 128]⟩
abbrev S8x2048x128 : Shape := ⟨3, ![8, 2048, 128]⟩
abbrev S2048x8x64 : Shape := ⟨3, ![2048, 8, 64]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x64x2048 : Shape := ⟨3, ![8, 64, 2048]⟩
abbrev S8x4x16x512 : Shape := ⟨4, ![8, 4, 16, 512]⟩
abbrev S2x512x128 : Shape := ⟨3, ![2, 512, 128]⟩
abbrev S512x128 : Shape := ⟨2, ![512, 128]⟩
abbrev S2x1x512 : Shape := ⟨3, ![2, 1, 512]⟩
abbrev S2x4x16x512 : Shape := ⟨4, ![2, 4, 16, 512]⟩
abbrev S16x512 : Shape := ⟨2, ![16, 512]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S2x1x16x512 : Shape := ⟨4, ![2, 1, 16, 512]⟩
abbrev S1x16x512 : Shape := ⟨3, ![1, 16, 512]⟩
abbrev S2x16x512 : Shape := ⟨3, ![2, 16, 512]⟩

abbrev nBuf : Space → Nat
  | .hbm => 331
  | .vmem => 22
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S8x2048, .f32⟩
  | 4 => ⟨S2048x512, .f32⟩
  | 5 => ⟨S_, .f32⟩
  | 6 => ⟨S2048x1664, .f32⟩
  | 7 => ⟨S2048x3200, .f32⟩
  | 8 => ⟨S_, .f32⟩
  | 9 => ⟨S2048x512, .f32⟩
  | 10 => ⟨S2048x1024, .f32⟩
  | 11 => ⟨S2048x128, .i32⟩
  | 12 => ⟨S4x2x2048x1, .f32⟩
  | 13 => ⟨S2048x4x128, .f32⟩
  | 14 => ⟨S4x2048x128, .f32⟩
  | 15 => ⟨S2048x4x128, .f32⟩
  | 16 => ⟨S4x2048x128, .f32⟩
  | 17 => ⟨S4x1x2048x1, .f32⟩
  | 18 => ⟨S4x2048x1, .f32⟩
  | 19 => ⟨S4x1x2048x1, .f32⟩
  | 20 => ⟨S4x2048x1, .f32⟩
  | 21 => ⟨S_, .i32⟩
  | 22 => ⟨S2048x128, .i32⟩
  | 23 => ⟨S2048x128, .i1⟩
  | 24 => ⟨S_, .f32⟩
  | 25 => ⟨S4x2048x128, .f32⟩
  | 26 => ⟨S4x2048x128, .f32⟩
  | 27 => ⟨S_, .f32⟩
  | 28 => ⟨S_, .f32⟩
  | 29 => ⟨S4x2048x128, .i1⟩
  | 30 => ⟨S4x2048x128, .f32⟩
  | 31 => ⟨S4x2048x128, .f32⟩
  | 32 => ⟨S_, .f32⟩
  | 33 => ⟨S_, .f32⟩
  | 34 => ⟨S4x2048x128, .i1⟩
  | 35 => ⟨S4x2048x128, .f32⟩
  | 36 => ⟨S4x2048x128, .f32⟩
  | 37 => ⟨S4x2048x1, .bf16⟩
  | 38 => ⟨S4x2048x1, .f32⟩
  | 39 => ⟨S4x2048x1, .f32⟩
  | 40 => ⟨S4x2048x1, .bf16⟩
  | 41 => ⟨S4x2048x1, .f32⟩
  | 42 => ⟨S4x2048x1, .f32⟩
  | 43 => ⟨S4x2048x1, .f32⟩
  | 44 => ⟨S4x2048x1, .bf16⟩
  | 45 => ⟨S4x2048x1, .f32⟩
  | 46 => ⟨S4x2048x1, .bf16⟩
  | 47 => ⟨S4x2048x1, .f32⟩
  | 48 => ⟨S4x2048x1, .f32⟩
  | 49 => ⟨S4x2048x1, .bf16⟩
  | 50 => ⟨S4x2048x1, .f32⟩
  | 51 => ⟨S4x2048x1, .f32⟩
  | 52 => ⟨S4x2048x1, .f32⟩
  | 53 => ⟨S4x2048x1, .bf16⟩
  | 54 => ⟨S4x2048x1, .f32⟩
  | 55 => ⟨S_, .i32⟩
  | 56 => ⟨S2048x128, .i32⟩
  | 57 => ⟨S2048x128, .i1⟩
  | 58 => ⟨S_, .i32⟩
  | 59 => ⟨S2048x128, .i32⟩
  | 60 => ⟨S2048x128, .i1⟩
  | 61 => ⟨S_, .f32⟩
  | 62 => ⟨S_, .f32⟩
  | 63 => ⟨S4x2048x128, .i1⟩
  | 64 => ⟨S4x2048x128, .f32⟩
  | 65 => ⟨S4x2048x128, .f32⟩
  | 66 => ⟨S4x2048x128, .i1⟩
  | 67 => ⟨S4x2048x128, .f32⟩
  | 68 => ⟨S4x2048x128, .f32⟩
  | 69 => ⟨S_, .i32⟩
  | 70 => ⟨S2048x128, .i32⟩
  | 71 => ⟨S2048x128, .i1⟩
  | 72 => ⟨S_, .i32⟩
  | 73 => ⟨S2048x128, .i32⟩
  | 74 => ⟨S2048x128, .i1⟩
  | 75 => ⟨S4x2048x1, .f32⟩
  | 76 => ⟨S4x2048x128, .i1⟩
  | 77 => ⟨S4x2048x128, .f32⟩
  | 78 => ⟨S4x2048x128, .f32⟩
  | 79 => ⟨S_, .f32⟩
  | 80 => ⟨S_, .f32⟩
  | 81 => ⟨S4x2048x128, .i1⟩
  | 82 => ⟨S4x2048x128, .f32⟩
  | 83 => ⟨S4x2048x128, .f32⟩
  | 84 => ⟨S_, .i32⟩
  | 85 => ⟨S2048x128, .i32⟩
  | 86 => ⟨S2048x128, .i1⟩
  | 87 => ⟨S_, .i32⟩
  | 88 => ⟨S2048x128, .i32⟩
  | 89 => ⟨S2048x128, .i1⟩
  | 90 => ⟨S_, .f32⟩
  | 91 => ⟨S_, .f32⟩
  | 92 => ⟨S4x2048x128, .i1⟩
  | 93 => ⟨S4x2048x128, .f32⟩
  | 94 => ⟨S4x2048x128, .f32⟩
  | 95 => ⟨S4x2048x128, .i1⟩
  | 96 => ⟨S4x2048x128, .f32⟩
  | 97 => ⟨S4x2048x128, .f32⟩
  | 98 => ⟨S_, .i32⟩
  | 99 => ⟨S2048x128, .i32⟩
  | 100 => ⟨S2048x128, .i1⟩
  | 101 => ⟨S_, .i32⟩
  | 102 => ⟨S2048x128, .i32⟩
  | 103 => ⟨S2048x128, .i1⟩
  | 104 => ⟨S4x2048x1, .f32⟩
  | 105 => ⟨S4x2048x128, .i1⟩
  | 106 => ⟨S4x2048x128, .f32⟩
  | 107 => ⟨S4x2048x128, .f32⟩
  | 108 => ⟨S_, .f32⟩
  | 109 => ⟨S_, .f32⟩
  | 110 => ⟨S4x2048x128, .i1⟩
  | 111 => ⟨S4x2048x128, .f32⟩
  | 112 => ⟨S4x2048x128, .f32⟩
  | 113 => ⟨S_, .i32⟩
  | 114 => ⟨S2048x128, .i32⟩
  | 115 => ⟨S2048x128, .i1⟩
  | 116 => ⟨S_, .i32⟩
  | 117 => ⟨S2048x128, .i32⟩
  | 118 => ⟨S2048x128, .i1⟩
  | 119 => ⟨S_, .f32⟩
  | 120 => ⟨S_, .f32⟩
  | 121 => ⟨S4x2048x128, .i1⟩
  | 122 => ⟨S4x2048x128, .f32⟩
  | 123 => ⟨S4x2048x128, .f32⟩
  | 124 => ⟨S4x2048x128, .i1⟩
  | 125 => ⟨S4x2048x128, .f32⟩
  | 126 => ⟨S4x2048x128, .f32⟩
  | 127 => ⟨S_, .i32⟩
  | _ => ⟨S2048x512, .f32⟩

abbrev hbmTy0_1 (i : Nat) : BufTy := match i % 128 with
  | 0 => ⟨S2048x128, .i32⟩
  | 1 => ⟨S2048x128, .i1⟩
  | 2 => ⟨S_, .i32⟩
  | 3 => ⟨S2048x128, .i32⟩
  | 4 => ⟨S2048x128, .i1⟩
  | 5 => ⟨S4x2048x1, .f32⟩
  | 6 => ⟨S4x2048x128, .i1⟩
  | 7 => ⟨S4x2048x128, .f32⟩
  | 8 => ⟨S4x2048x128, .f32⟩
  | 9 => ⟨S_, .f32⟩
  | 10 => ⟨S_, .f32⟩
  | 11 => ⟨S4x2048x128, .i1⟩
  | 12 => ⟨S4x2048x128, .f32⟩
  | 13 => ⟨S4x2048x128, .f32⟩
  | 14 => ⟨S4x2048x128, .bf16⟩
  | 15 => ⟨S4x2048x128, .bf16⟩
  | 16 => ⟨S2048x4x128, .f32⟩
  | 17 => ⟨S4x2048x128, .f32⟩
  | 18 => ⟨S2048x4x128, .f32⟩
  | 19 => ⟨S4x2048x128, .f32⟩
  | 20 => ⟨S4x1x2048x1, .f32⟩
  | 21 => ⟨S4x2048x1, .f32⟩
  | 22 => ⟨S4x1x2048x1, .f32⟩
  | 23 => ⟨S4x2048x1, .f32⟩
  | 24 => ⟨S_, .i32⟩
  | 25 => ⟨S2048x128, .i32⟩
  | 26 => ⟨S2048x128, .i1⟩
  | 27 => ⟨S_, .f32⟩
  | 28 => ⟨S4x2048x128, .f32⟩
  | 29 => ⟨S4x2048x128, .f32⟩
  | 30 => ⟨S_, .f32⟩
  | 31 => ⟨S_, .f32⟩
  | 32 => ⟨S4x2048x128, .i1⟩
  | 33 => ⟨S4x2048x128, .f32⟩
  | 34 => ⟨S4x2048x128, .f32⟩
  | 35 => ⟨S_, .f32⟩
  | 36 => ⟨S_, .f32⟩
  | 37 => ⟨S4x2048x128, .i1⟩
  | 38 => ⟨S4x2048x128, .f32⟩
  | 39 => ⟨S4x2048x128, .f32⟩
  | 40 => ⟨S4x2048x1, .bf16⟩
  | 41 => ⟨S4x2048x1, .f32⟩
  | 42 => ⟨S4x2048x1, .f32⟩
  | 43 => ⟨S4x2048x1, .bf16⟩
  | 44 => ⟨S4x2048x1, .f32⟩
  | 45 => ⟨S4x2048x1, .f32⟩
  | 46 => ⟨S4x2048x1, .f32⟩
  | 47 => ⟨S4x2048x1, .bf16⟩
  | 48 => ⟨S4x2048x1, .f32⟩
  | 49 => ⟨S4x2048x1, .bf16⟩
  | 50 => ⟨S4x2048x1, .f32⟩
  | 51 => ⟨S4x2048x1, .f32⟩
  | 52 => ⟨S4x2048x1, .bf16⟩
  | 53 => ⟨S4x2048x1, .f32⟩
  | 54 => ⟨S4x2048x1, .f32⟩
  | 55 => ⟨S4x2048x1, .f32⟩
  | 56 => ⟨S4x2048x1, .bf16⟩
  | 57 => ⟨S4x2048x1, .f32⟩
  | 58 => ⟨S_, .i32⟩
  | 59 => ⟨S2048x128, .i32⟩
  | 60 => ⟨S2048x128, .i1⟩
  | 61 => ⟨S_, .i32⟩
  | 62 => ⟨S2048x128, .i32⟩
  | 63 => ⟨S2048x128, .i1⟩
  | 64 => ⟨S_, .f32⟩
  | 65 => ⟨S_, .f32⟩
  | 66 => ⟨S4x2048x128, .i1⟩
  | 67 => ⟨S4x2048x128, .f32⟩
  | 68 => ⟨S4x2048x128, .f32⟩
  | 69 => ⟨S4x2048x128, .i1⟩
  | 70 => ⟨S4x2048x128, .f32⟩
  | 71 => ⟨S4x2048x128, .f32⟩
  | 72 => ⟨S_, .i32⟩
  | 73 => ⟨S2048x128, .i32⟩
  | 74 => ⟨S2048x128, .i1⟩
  | 75 => ⟨S_, .i32⟩
  | 76 => ⟨S2048x128, .i32⟩
  | 77 => ⟨S2048x128, .i1⟩
  | 78 => ⟨S4x2048x1, .f32⟩
  | 79 => ⟨S4x2048x128, .i1⟩
  | 80 => ⟨S4x2048x128, .f32⟩
  | 81 => ⟨S4x2048x128, .f32⟩
  | 82 => ⟨S_, .f32⟩
  | 83 => ⟨S_, .f32⟩
  | 84 => ⟨S4x2048x128, .i1⟩
  | 85 => ⟨S4x2048x128, .f32⟩
  | 86 => ⟨S4x2048x128, .f32⟩
  | 87 => ⟨S_, .i32⟩
  | 88 => ⟨S2048x128, .i32⟩
  | 89 => ⟨S2048x128, .i1⟩
  | 90 => ⟨S_, .i32⟩
  | 91 => ⟨S2048x128, .i32⟩
  | 92 => ⟨S2048x128, .i1⟩
  | 93 => ⟨S_, .f32⟩
  | 94 => ⟨S_, .f32⟩
  | 95 => ⟨S4x2048x128, .i1⟩
  | 96 => ⟨S4x2048x128, .f32⟩
  | 97 => ⟨S4x2048x128, .f32⟩
  | 98 => ⟨S4x2048x128, .i1⟩
  | 99 => ⟨S4x2048x128, .f32⟩
  | 100 => ⟨S4x2048x128, .f32⟩
  | 101 => ⟨S_, .i32⟩
  | 102 => ⟨S2048x128, .i32⟩
  | 103 => ⟨S2048x128, .i1⟩
  | 104 => ⟨S_, .i32⟩
  | 105 => ⟨S2048x128, .i32⟩
  | 106 => ⟨S2048x128, .i1⟩
  | 107 => ⟨S4x2048x1, .f32⟩
  | 108 => ⟨S4x2048x128, .i1⟩
  | 109 => ⟨S4x2048x128, .f32⟩
  | 110 => ⟨S4x2048x128, .f32⟩
  | 111 => ⟨S_, .f32⟩
  | 112 => ⟨S_, .f32⟩
  | 113 => ⟨S4x2048x128, .i1⟩
  | 114 => ⟨S4x2048x128, .f32⟩
  | 115 => ⟨S4x2048x128, .f32⟩
  | 116 => ⟨S_, .i32⟩
  | 117 => ⟨S2048x128, .i32⟩
  | 118 => ⟨S2048x128, .i1⟩
  | 119 => ⟨S_, .i32⟩
  | 120 => ⟨S2048x128, .i32⟩
  | 121 => ⟨S2048x128, .i1⟩
  | 122 => ⟨S_, .f32⟩
  | 123 => ⟨S_, .f32⟩
  | 124 => ⟨S4x2048x128, .i1⟩
  | 125 => ⟨S4x2048x128, .f32⟩
  | 126 => ⟨S4x2048x128, .f32⟩
  | 127 => ⟨S4x2048x128, .i1⟩
  | _ => ⟨S2048x512, .f32⟩

abbrev hbmTy0_2 (i : Nat) : BufTy := match i % 128 with
  | 0 => ⟨S4x2048x128, .f32⟩
  | 1 => ⟨S4x2048x128, .f32⟩
  | 2 => ⟨S_, .i32⟩
  | 3 => ⟨S2048x128, .i32⟩
  | 4 => ⟨S2048x128, .i1⟩
  | 5 => ⟨S_, .i32⟩
  | 6 => ⟨S2048x128, .i32⟩
  | 7 => ⟨S2048x128, .i1⟩
  | 8 => ⟨S4x2048x1, .f32⟩
  | 9 => ⟨S4x2048x128, .i1⟩
  | 10 => ⟨S4x2048x128, .f32⟩
  | 11 => ⟨S4x2048x128, .f32⟩
  | 12 => ⟨S_, .f32⟩
  | 13 => ⟨S_, .f32⟩
  | 14 => ⟨S4x2048x128, .i1⟩
  | 15 => ⟨S4x2048x128, .f32⟩
  | 16 => ⟨S4x2048x128, .f32⟩
  | 17 => ⟨S4x2048x128, .bf16⟩
  | 18 => ⟨S4x2048x128, .bf16⟩
  | 19 => ⟨S4x1x2048x128, .bf16⟩
  | 20 => ⟨S4x1x2048x128, .bf16⟩
  | 21 => ⟨S4x2x2048x128, .bf16⟩
  | 22 => ⟨S8x2048x128, .bf16⟩
  | 23 => ⟨S4x1x2048x128, .bf16⟩
  | 24 => ⟨S4x1x2048x128, .bf16⟩
  | 25 => ⟨S4x2x2048x128, .bf16⟩
  | 26 => ⟨S8x2048x128, .bf16⟩
  | 27 => ⟨S2048x8x64, .f32⟩
  | 28 => ⟨S2048x8x64, .f32⟩
  | 29 => ⟨S8x2048x2048, .f32⟩
  | 30 => ⟨S_, .f32⟩
  | 31 => ⟨S8x2048x2048, .f32⟩
  | 32 => ⟨S8x2048x2048, .f32⟩
  | 33 => ⟨S8x2048x1, .f32⟩
  | 34 => ⟨S8x2048x2048, .f32⟩
  | 35 => ⟨S8x2048x2048, .f32⟩
  | 36 => ⟨S8x1x2048, .f32⟩
  | 37 => ⟨S8x2048x2048, .f32⟩
  | 38 => ⟨S8x2048x2048, .f32⟩
  | 39 => ⟨S2048, .i32⟩
  | 40 => ⟨S2048x1, .i32⟩
  | 41 => ⟨S2048, .i32⟩
  | 42 => ⟨S1x2048, .i32⟩
  | 43 => ⟨S2048x2048, .i32⟩
  | 44 => ⟨S2048x2048, .i32⟩
  | 45 => ⟨S2048x2048, .i1⟩
  | 46 => ⟨S_, .f32⟩
  | 47 => ⟨S_, .f32⟩
  | 48 => ⟨S8x2048x2048, .i1⟩
  | 49 => ⟨S8x2048x2048, .f32⟩
  | 50 => ⟨S8x2048x2048, .f32⟩
  | 51 => ⟨S_, .f32⟩
  | 52 => ⟨S8x2048, .f32⟩
  | 53 => ⟨S8x2048x1, .f32⟩
  | 54 => ⟨S8x2048x2048, .f32⟩
  | 55 => ⟨S8x2048x2048, .f32⟩
  | 56 => ⟨S8x2048x2048, .f32⟩
  | 57 => ⟨S_, .f32⟩
  | 58 => ⟨S8x2048, .f32⟩
  | 59 => ⟨S8x2048x1, .f32⟩
  | 60 => ⟨S8x2048x2048, .f32⟩
  | 61 => ⟨S8x2048x2048, .f32⟩
  | 62 => ⟨S2048x8x64, .f32⟩
  | 63 => ⟨S8x64x2048, .f32⟩
  | 64 => ⟨S2048x8x64, .f32⟩
  | 65 => ⟨S2048x512, .f32⟩
  | 66 => ⟨S8x2048, .f32⟩
  | 67 => ⟨S8x2048, .f32⟩
  | 68 => ⟨S8x2048x1, .f32⟩
  | 69 => ⟨S8x2048x128, .f32⟩
  | 70 => ⟨S2048x512, .f32⟩
  | 71 => ⟨S2048x512, .f32⟩
  | 72 => ⟨S2048x512, .f32⟩
  | 73 => ⟨S8x1x2048, .f32⟩
  | 74 => ⟨S8x4x16x512, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | .local _ .vmem, ⟨0, _⟩ => ⟨S2x512x128, .bf16⟩
  | .local _ .vmem, ⟨1, _⟩ => ⟨S2x512x128, .bf16⟩
  | .local _ .vmem, ⟨2, _⟩ => ⟨S2x512x128, .bf16⟩
  | .local _ .vmem, ⟨3, _⟩ => ⟨S2x512x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S2x512x128, .f32⟩
  | .local _ .vmem, ⟨11, _⟩ => ⟨S2x512x128, .f32⟩
  | .local _ .vmem, ⟨12, _⟩ => ⟨S2048x128, .f32⟩
  | .local _ .vmem, ⟨13, _⟩ => ⟨S2048x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S2x1x512, .f32⟩
  | .local _ .vmem, ⟨19, _⟩ => ⟨S2x1x512, .f32⟩
  | .local _ .vmem, ⟨20, _⟩ => ⟨S2x4x16x512, .f32⟩
  | .local _ .vmem, ⟨21, _⟩ => ⟨S2x4x16x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v42 : Ref sig .tc := ⟨.hbm, 65, rfl⟩
abbrev main_call3_v0 : Ref sig .tc := ⟨.hbm, 66, rfl⟩
abbrev main_call3_v1 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call4_v0 : Ref sig .tc := ⟨.hbm, 76, rfl⟩
abbrev main_call4_v1 : Ref sig .tc := ⟨.hbm, 77, rfl⟩
abbrev main_v49 : Ref sig .tc := ⟨.hbm, 78, rfl⟩
abbrev main_cst_9 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_v50 : Ref sig .tc := ⟨.hbm, 83, rfl⟩
abbrev main_c_10 : Ref sig .tc := ⟨.hbm, 84, rfl⟩
abbrev main_v51 : Ref sig .tc := ⟨.hbm, 85, rfl⟩
abbrev main_v52 : Ref sig .tc := ⟨.hbm, 86, rfl⟩
abbrev main_c_11 : Ref sig .tc := ⟨.hbm, 87, rfl⟩
abbrev main_v53 : Ref sig .tc := ⟨.hbm, 88, rfl⟩
abbrev main_v54 : Ref sig .tc := ⟨.hbm, 89, rfl⟩
abbrev main_cst_12 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_v55 : Ref sig .tc := ⟨.hbm, 94, rfl⟩
abbrev main_call7_v0 : Ref sig .tc := ⟨.hbm, 95, rfl⟩
abbrev main_call7_v1 : Ref sig .tc := ⟨.hbm, 96, rfl⟩
abbrev main_v56 : Ref sig .tc := ⟨.hbm, 97, rfl⟩
abbrev main_c_13 : Ref sig .tc := ⟨.hbm, 98, rfl⟩
abbrev main_v57 : Ref sig .tc := ⟨.hbm, 99, rfl⟩
abbrev main_v58 : Ref sig .tc := ⟨.hbm, 100, rfl⟩
abbrev main_c_14 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_call8_v0 : Ref sig .tc := ⟨.hbm, 105, rfl⟩
abbrev main_call8_v1 : Ref sig .tc := ⟨.hbm, 106, rfl⟩
abbrev main_v62 : Ref sig .tc := ⟨.hbm, 107, rfl⟩
abbrev main_cst_15 : Ref sig .tc := ⟨.hbm, 108, rfl⟩
abbrev main_call9_v0 : Ref sig .tc := ⟨.hbm, 109, rfl⟩
abbrev main_call9_v1 : Ref sig .tc := ⟨.hbm, 110, rfl⟩
abbrev main_call9_v2 : Ref sig .tc := ⟨.hbm, 111, rfl⟩
abbrev main_v63 : Ref sig .tc := ⟨.hbm, 112, rfl⟩
abbrev main_c_16 : Ref sig .tc := ⟨.hbm, 113, rfl⟩
abbrev main_v64 : Ref sig .tc := ⟨.hbm, 114, rfl⟩
abbrev main_v65 : Ref sig .tc := ⟨.hbm, 115, rfl⟩
abbrev main_c_17 : Ref sig .tc := ⟨.hbm, 116, rfl⟩
abbrev main_v66 : Ref sig .tc := ⟨.hbm, 117, rfl⟩
abbrev main_v67 : Ref sig .tc := ⟨.hbm, 118, rfl⟩
abbrev main_cst_18 : Ref sig .tc := ⟨.hbm, 119, rfl⟩
abbrev main_call10_v0 : Ref sig .tc := ⟨.hbm, 120, rfl⟩
abbrev main_call10_v1 : Ref sig .tc := ⟨.hbm, 121, rfl⟩
abbrev main_call10_v2 : Ref sig .tc := ⟨.hbm, 122, rfl⟩
abbrev main_v68 : Ref sig .tc := ⟨.hbm, 123, rfl⟩
abbrev main_call11_v0 : Ref sig .tc := ⟨.hbm, 124, rfl⟩
abbrev main_call11_v1 : Ref sig .tc := ⟨.hbm, 125, rfl⟩
abbrev main_v69 : Ref sig .tc := ⟨.hbm, 126, rfl⟩
abbrev main_c_19 : Ref sig .tc := ⟨.hbm, 127, rfl⟩
abbrev main_v70 : Ref sig .tc := ⟨.hbm, 128, rfl⟩
abbrev main_v71 : Ref sig .tc := ⟨.hbm, 129, rfl⟩
abbrev main_c_20 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_call12_v0 : Ref sig .tc := ⟨.hbm, 134, rfl⟩
abbrev main_call12_v1 : Ref sig .tc := ⟨.hbm, 135, rfl⟩
abbrev main_v75 : Ref sig .tc := ⟨.hbm, 136, rfl⟩
abbrev main_cst_21 : Ref sig .tc := ⟨.hbm, 137, rfl⟩
abbrev main_call13_v0 : Ref sig .tc := ⟨.hbm, 138, rfl⟩
abbrev main_call13_v1 : Ref sig .tc := ⟨.hbm, 139, rfl⟩
abbrev main_call13_v2 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_c_22 : Ref sig .tc := ⟨.hbm, 152, rfl⟩
abbrev main_v87 : Ref sig .tc := ⟨.hbm, 153, rfl⟩
abbrev main_v88 : Ref sig .tc := ⟨.hbm, 154, rfl⟩
abbrev main_cst_23 : Ref sig .tc := ⟨.hbm, 155, rfl⟩
abbrev main_v89 : Ref sig .tc := ⟨.hbm, 156, rfl⟩
abbrev main_v90 : Ref sig .tc := ⟨.hbm, 157, rfl⟩
abbrev main_cst_24 : Ref sig .tc := ⟨.hbm, 158, rfl⟩
abbrev main_call14_v0 : Ref sig .tc := ⟨.hbm, 159, rfl⟩
abbrev main_call14_v1 : Ref sig .tc := ⟨.hbm, 160, rfl⟩
abbrev main_call14_v2 : Ref sig .tc := ⟨.hbm, 161, rfl⟩
abbrev main_v91 : Ref sig .tc := ⟨.hbm, 162, rfl⟩
abbrev main_cst_25 : Ref sig .tc := ⟨.hbm, 163, rfl⟩
abbrev main_call15_v0 : Ref sig .tc := ⟨.hbm, 164, rfl⟩
abbrev main_call15_v1 : Ref sig .tc := ⟨.hbm, 165, rfl⟩
abbrev main_call15_v2 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_c_26 : Ref sig .tc := ⟨.hbm, 186, rfl⟩
abbrev main_v111 : Ref sig .tc := ⟨.hbm, 187, rfl⟩
abbrev main_v112 : Ref sig .tc := ⟨.hbm, 188, rfl⟩
abbrev main_c_27 : Ref sig .tc := ⟨.hbm, 189, rfl⟩
abbrev main_v113 : Ref sig .tc := ⟨.hbm, 190, rfl⟩
abbrev main_v114 : Ref sig .tc := ⟨.hbm, 191, rfl⟩
abbrev main_cst_28 : Ref sig .tc := ⟨.hbm, 192, rfl⟩
abbrev main_call16_v0 : Ref sig .tc := ⟨.hbm, 193, rfl⟩
abbrev main_call16_v1 : Ref sig .tc := ⟨.hbm, 194, rfl⟩
abbrev main_call16_v2 : Ref sig .tc := ⟨.hbm, 195, rfl⟩
abbrev main_v115 : Ref sig .tc := ⟨.hbm, 196, rfl⟩
abbrev main_call17_v0 : Ref sig .tc := ⟨.hbm, 197, rfl⟩
abbrev main_call17_v1 : Ref sig .tc := ⟨.hbm, 198, rfl⟩
abbrev main_v116 : Ref sig .tc := ⟨.hbm, 199, rfl⟩
abbrev main_c_29 : Ref sig .tc := ⟨.hbm, 200, rfl⟩
abbrev main_v117 : Ref sig .tc := ⟨.hbm, 201, rfl⟩
abbrev main_v118 : Ref sig .tc := ⟨.hbm, 202, rfl⟩
abbrev main_c_30 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_call18_v0 : Ref sig .tc := ⟨.hbm, 207, rfl⟩
abbrev main_call18_v1 : Ref sig .tc := ⟨.hbm, 208, rfl⟩
abbrev main_v122 : Ref sig .tc := ⟨.hbm, 209, rfl⟩
abbrev main_cst_31 : Ref sig .tc := ⟨.hbm, 210, rfl⟩
abbrev main_call19_v0 : Ref sig .tc := ⟨.hbm, 211, rfl⟩
abbrev main_call19_v1 : Ref sig .tc := ⟨.hbm, 212, rfl⟩
abbrev main_call19_v2 : Ref sig .tc := ⟨.hbm, 213, rfl⟩
abbrev main_v123 : Ref sig .tc := ⟨.hbm, 214, rfl⟩
abbrev main_c_32 : Ref sig .tc := ⟨.hbm, 215, rfl⟩
abbrev main_v124 : Ref sig .tc := ⟨.hbm, 216, rfl⟩
abbrev main_v125 : Ref sig .tc := ⟨.hbm, 217, rfl⟩
abbrev main_c_33 : Ref sig .tc := ⟨.hbm, 218, rfl⟩
abbrev main_v126 : Ref sig .tc := ⟨.hbm, 219, rfl⟩
abbrev main_v127 : Ref sig .tc := ⟨.hbm, 220, rfl⟩
abbrev main_cst_34 : Ref sig .tc := ⟨.hbm, 221, rfl⟩
abbrev main_call20_v0 : Ref sig .tc := ⟨.hbm, 222, rfl⟩
abbrev main_call20_v1 : Ref sig .tc := ⟨.hbm, 223, rfl⟩
abbrev main_call20_v2 : Ref sig .tc := ⟨.hbm, 224, rfl⟩
abbrev main_v128 : Ref sig .tc := ⟨.hbm, 225, rfl⟩
abbrev main_call21_v0 : Ref sig .tc := ⟨.hbm, 226, rfl⟩
abbrev main_call21_v1 : Ref sig .tc := ⟨.hbm, 227, rfl⟩
abbrev main_v129 : Ref sig .tc := ⟨.hbm, 228, rfl⟩
abbrev main_c_35 : Ref sig .tc := ⟨.hbm, 229, rfl⟩
abbrev main_v130 : Ref sig .tc := ⟨.hbm, 230, rfl⟩
abbrev main_v131 : Ref sig .tc := ⟨.hbm, 231, rfl⟩
abbrev main_c_36 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_call22_v0 : Ref sig .tc := ⟨.hbm, 236, rfl⟩
abbrev main_call22_v1 : Ref sig .tc := ⟨.hbm, 237, rfl⟩
abbrev main_v135 : Ref sig .tc := ⟨.hbm, 238, rfl⟩
abbrev main_cst_37 : Ref sig .tc := ⟨.hbm, 239, rfl⟩
abbrev main_call23_v0 : Ref sig .tc := ⟨.hbm, 240, rfl⟩
abbrev main_call23_v1 : Ref sig .tc := ⟨.hbm, 241, rfl⟩
abbrev main_call23_v2 : Ref sig .tc := ⟨.hbm, 242, rfl⟩
abbrev main_v136 : Ref sig .tc := ⟨.hbm, 243, rfl⟩
abbrev main_c_38 : Ref sig .tc := ⟨.hbm, 244, rfl⟩
abbrev main_v137 : Ref sig .tc := ⟨.hbm, 245, rfl⟩
abbrev main_v138 : Ref sig .tc := ⟨.hbm, 246, rfl⟩
abbrev main_c_39 : Ref sig .tc := ⟨.hbm, 247, rfl⟩
abbrev main_v139 : Ref sig .tc := ⟨.hbm, 248, rfl⟩
abbrev main_v140 : Ref sig .tc := ⟨.hbm, 249, rfl⟩
abbrev main_cst_40 : Ref sig .tc := ⟨.hbm, 250, rfl⟩
abbrev main_call24_v0 : Ref sig .tc := ⟨.hbm, 251, rfl⟩
abbrev main_call24_v1 : Ref sig .tc := ⟨.hbm, 252, rfl⟩
abbrev main_call24_v2 : Ref sig .tc := ⟨.hbm, 253, rfl⟩
abbrev main_v141 : Ref sig .tc := ⟨.hbm, 254, rfl⟩
abbrev main_call25_v0 : Ref sig .tc := ⟨.hbm, 255, rfl⟩
abbrev main_call25_v1 : Ref sig .tc := ⟨.hbm, 256, rfl⟩
abbrev main_v142 : Ref sig .tc := ⟨.hbm, 257, rfl⟩
abbrev main_c_41 : Ref sig .tc := ⟨.hbm, 258, rfl⟩
abbrev main_v143 : Ref sig .tc := ⟨.hbm, 259, rfl⟩
abbrev main_v144 : Ref sig .tc := ⟨.hbm, 260, rfl⟩
abbrev main_c_42 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_call26_v0 : Ref sig .tc := ⟨.hbm, 265, rfl⟩
abbrev main_call26_v1 : Ref sig .tc := ⟨.hbm, 266, rfl⟩
abbrev main_v148 : Ref sig .tc := ⟨.hbm, 267, rfl⟩
abbrev main_cst_43 : Ref sig .tc := ⟨.hbm, 268, rfl⟩
abbrev main_call27_v0 : Ref sig .tc := ⟨.hbm, 269, rfl⟩
abbrev main_call27_v1 : Ref sig .tc := ⟨.hbm, 270, rfl⟩
abbrev main_call27_v2 : Ref sig .tc := ⟨.hbm, 271, rfl⟩
abbrev main_v149 : Ref sig .tc := ⟨.hbm, 272, rfl⟩
abbrev main_v150 : Ref sig .tc := ⟨.hbm, 273, rfl⟩
abbrev main_v151 : Ref sig .tc := ⟨.hbm, 274, rfl⟩
abbrev main_v152 : Ref sig .tc := ⟨.hbm, 275, rfl⟩
abbrev main_v153 : Ref sig .tc := ⟨.hbm, 276, rfl⟩
abbrev main_v154 : Ref sig .tc := ⟨.hbm, 277, rfl⟩
abbrev main_v155 : Ref sig .tc := ⟨.hbm, 278, rfl⟩
abbrev main_v156 : Ref sig .tc := ⟨.hbm, 279, rfl⟩
abbrev main_v157 : Ref sig .tc := ⟨.hbm, 280, rfl⟩
abbrev main_v158 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_cst_44 : Ref sig .tc := ⟨.hbm, 286, rfl⟩
abbrev main_v163 : Ref sig .tc := ⟨.hbm, 287, rfl⟩
abbrev main_v164 : Ref sig .tc := ⟨.hbm, 288, rfl⟩
abbrev main_v165 : Ref sig .tc := ⟨.hbm, 289, rfl⟩
abbrev main_v166 : Ref sig .tc := ⟨.hbm, 290, rfl⟩
abbrev main_v167 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_v174 : Ref sig .tc := ⟨.hbm, 298, rfl⟩
abbrev main_v175 : Ref sig .tc := ⟨.hbm, 299, rfl⟩
abbrev main_v176 : Ref sig .tc := ⟨.hbm, 300, rfl⟩
abbrev main_v177 : Ref sig .tc := ⟨.hbm, 301, rfl⟩
abbrev main_cst_45 : Ref sig .tc := ⟨.hbm, 302, rfl⟩
abbrev main_call28_v0 : Ref sig .tc := ⟨.hbm, 303, rfl⟩
abbrev main_call28_v1 : Ref sig .tc := ⟨.hbm, 304, rfl⟩
abbrev main_call28_v2 : Ref sig .tc := ⟨.hbm, 305, rfl⟩
abbrev main_v178 : Ref sig .tc := ⟨.hbm, 306, rfl⟩
abbrev main_cst_46 : Ref sig .tc := ⟨.hbm, 307, rfl⟩
abbrev main_v179 : Ref sig .tc := ⟨.hbm, 308, rfl⟩
abbrev main_v180 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_cst_47 : Ref sig .tc := ⟨.hbm, 313, rfl⟩
abbrev main_v184 : Ref sig .tc := ⟨.hbm, 314, rfl⟩
abbrev main_v185 : Ref sig .tc := ⟨.hbm, 315, rfl⟩
abbrev main_v186 : Ref sig .tc := ⟨.hbm, 316, rfl⟩
abbrev main_v187 : Ref sig .tc := ⟨.hbm, 317, rfl⟩
abbrev main_v188 : Ref sig .tc := ⟨.hbm, 318, rfl⟩
abbrev main_v189 : Ref sig .tc := ⟨.hbm, 319, rfl⟩
abbrev main_v190 : Ref sig .tc := ⟨.hbm, 320, rfl⟩
abbrev main_v191 : Ref sig .tc := ⟨.hbm, 321, rfl⟩
abbrev main_v192 : Ref sig .tc := ⟨.hbm, 322, rfl⟩
abbrev main_v193 : Ref sig .tc := ⟨.hbm, 323, rfl⟩
abbrev main_v194 : Ref sig .tc := ⟨.hbm, 324, rfl⟩
abbrev main_v195 : Ref sig .tc := ⟨.hbm, 325, rfl⟩
abbrev main_v196_0 : Ref sig .tc := ⟨.hbm, 326, rfl⟩
abbrev main_v196_1 : Ref sig .tc := ⟨.hbm, 327, rfl⟩
abbrev main_v196_2 : Ref sig .tc := ⟨.hbm, 328, rfl⟩
abbrev main_v196_3 : Ref sig .tc := ⟨.hbm, 329, rfl⟩
abbrev main_v196_4 : Ref sig .tc := ⟨.hbm, 330, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let arg1 : BitVec 32 := BitVec.ofNat 32 (i 1).val
  let v10 : BitVec 1 := Scalar.cmpi .sgt arg2 arg1
  let v11 : BitVec 32 := Scalar.extui v10
  let c0_i32_3 : BitVec 32 := 0#32
  let v12 : BitVec 1 := Scalar.cmpi .ne v11 c0_i32_3
  v12

def k0_off1 (i : grid0.Coords) : Fin 4 → Nat :=
  let c0_65 : Index := 0#32
  let arg2 : BitVec 32 := BitVec.ofNat 32 (i 2).val
  let v118 : Index := Scalar.indexCast arg2
  let c0_66 : Index := 0#32
  let c0_67 : Index := 0#32
  ![0, v118.toNat, 0, 0]
def k0_mult1 (i : grid0.Coords) : BitVec 32 :=
  let arg2 : BitVec 32 := BitVec.ofNat 32 (i 2).val
  let c512_i32 : BitVec 32 := 512#32
  let v128 : BitVec 32 := Scalar.muli arg2 c512_i32
  v128
def k0_off2 (i : grid0.Coords) : Fin 2 → Nat :=
  let arg2 : BitVec 32 := BitVec.ofNat 32 (i 2).val
  let c512_i32 : BitVec 32 := 512#32
  let v128 : BitVec 32 := Scalar.muli arg2 c512_i32
  let v129 : BitVec 32 := v128
  let v130 : Index := Scalar.indexCast v129
  let c0_71 : Index := 0#32
  ![v130.toNat, 0]
def k0_cond4 (i : grid0.Coords) : BitVec 1 :=
  let arg2 : BitVec 32 := BitVec.ofNat 32 (i 2).val
  let arg1 : BitVec 32 := BitVec.ofNat 32 (i 1).val
  let v13 : BitVec 1 := Scalar.cmpi .eq arg2 arg1
  let v14 : BitVec 32 := Scalar.extui v13
  let c0_i32_4 : BitVec 32 := 0#32
  let v15 : BitVec 1 := Scalar.cmpi .ne v14 c0_i32_4
  v15

def k0_off3 (i : grid0.Coords) : Fin 4 → Nat :=
  let c0_67 : Index := 0#32
  let arg2 : BitVec 32 := BitVec.ofNat 32 (i 2).val
  let v125 : Index := Scalar.indexCast arg2
  let c0_68 : Index := 0#32
  let c0_69 : Index := 0#32
  ![0, v125.toNat, 0, 0]
def k0_mult2 (i : grid0.Coords) : BitVec 32 :=
  let arg2 : BitVec 32 := BitVec.ofNat 32 (i 2).val
  let c512_i32 : BitVec 32 := 512#32
  let v135 : BitVec 32 := Scalar.muli arg2 c512_i32
  v135
def k0_off4 (i : grid0.Coords) : Fin 2 → Nat :=
  let arg2 : BitVec 32 := BitVec.ofNat 32 (i 2).val
  let c512_i32 : BitVec 32 := 512#32
  let v135 : BitVec 32 := Scalar.muli arg2 c512_i32
  let v136 : BitVec 32 := v135
  let v137 : Index := Scalar.indexCast v136
  let c0_73 : Index := 0#32
  ![v137.toNat, 0]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let arg2 : BitVec 32 := BitVec.ofNat 32 (i 2).val
  let c0_i32_0 : BitVec 32 := 0#32
  let v3 : BitVec 1 := Scalar.cmpi .eq arg2 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def k0_cond2 (i : grid0.Coords) : BitVec 1 :=
  let arg2 : BitVec 32 := BitVec.ofNat 32 (i 2).val
  let arg1 : BitVec 32 := BitVec.ofNat 32 (i 1).val
  let v7 : BitVec 1 := Scalar.cmpi .eq arg2 arg1
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2x4x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== FoxIdeal.lean ====
variable {F : FTy → Type} [FloatOps F] [Named F]
def κ : String → Option EReal := fun
  | "mask" => some ⊥
  | _ => none
-- ==== FoxRefIdeal.lean ====
abbrev S2048x512 : Shape := ⟨2, ![2048, 512]⟩
abbrev S8x2048 : Shape := ⟨2, ![8, 2048]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x64x2048 : Shape := ⟨3, ![8, 64, 2048]⟩
abbrev S8x2048x64 : Shape := ⟨3, ![8, 2048, 64]⟩
abbrev S8x4x1x512 : Shape := ⟨4, ![8, 4, 1, 512]⟩
abbrev S8x4x16x512 : Shape := ⟨4, ![8, 4, 16, 512]⟩

abbrev nBuf : Space → Nat
  | .hbm => 119
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048, .f32⟩
  | .hbm, ⟨4, _⟩ => ⟨S2048x512, .f32⟩
  | .hbm, ⟨5, _⟩ => ⟨S2048x8x64, .f32⟩
  | .hbm, ⟨6, _⟩ => ⟨S2048x8x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S8x2048x1, .f32⟩
  | .hbm, ⟨12, _⟩ => ⟨S8x2048x2048, .f32⟩
  | .hbm, ⟨13, _⟩ => ⟨S8x2048x2048, .f32⟩
  | .hbm, ⟨14, _⟩ => ⟨S8x1x2048, .f32⟩
  | .hbm, ⟨15, _⟩ => ⟨S8x2048x2048, .f32⟩
  | .hbm, ⟨16, _⟩ => ⟨S8x2048x2048, .f32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S8x2048x2048, .i1⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .i1⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .f32⟩
  | .hbm, ⟨41, _⟩ => ⟨S_, .f32⟩
  | .hbm, ⟨42, _⟩ => ⟨S8x2048, .f32⟩
  | .hbm, ⟨43, _⟩ => ⟨S8x2048, .i1⟩
  | .hbm, ⟨44, _⟩ => ⟨S_, .f32⟩
  | .hbm, ⟨45, _⟩ => ⟨S8x2048, .f32⟩
  | .hbm, ⟨46, _⟩ => ⟨S8x2048, .i1⟩
  | .hbm, ⟨47, _⟩ => ⟨S_, .f32⟩
  | .hbm, ⟨48, _⟩ => ⟨S8x2048, .f32⟩
  | .hbm, ⟨49, _⟩ => ⟨S_, .f32⟩
  | .hbm, ⟨50, _⟩ => ⟨S8x2048, .f32⟩
  | .hbm, ⟨51, _⟩ => ⟨S_, .f32⟩
  | .hbm, ⟨52, _⟩ => ⟨S8x2048, .f32⟩
  | .hbm, ⟨53, _⟩ => ⟨S8x2048, .f32⟩
  | .hbm, ⟨54, _⟩ => ⟨S8x2048, .f32⟩
  | .hbm, ⟨55, _⟩ => ⟨S8x2048x1, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S_, .f32⟩
  | .hbm, ⟨60, _⟩ => ⟨S8x2048, .f32⟩
  | .hbm, ⟨61, _⟩ => ⟨S8x2048x1, .f32⟩
  | .hbm, ⟨62, _⟩ => ⟨S8x2048x2048, .f32⟩
  | .hbm, ⟨63, _⟩ => ⟨S8x2048x2048, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S2048x8x64, .f32⟩
  | .hbm, ⟨69, _⟩ => ⟨S8x64x2048, .f32⟩
  | .hbm, ⟨70, _⟩ => ⟨S2048x8x64, .f32⟩
  | .hbm, ⟨71, _⟩ => ⟨S2048x512, .f32⟩
  | .hbm, ⟨72, _⟩ => ⟨S2048x8x64, .f32⟩
  | .hbm, ⟨73, _⟩ => ⟨S8x64x2048, .f32⟩
  | .hbm, ⟨74, _⟩ => ⟨S8x2048x2048, .f32⟩
  | .hbm, ⟨75, _⟩ => ⟨S8x64x2048, .f32⟩
  | .hbm, ⟨76, _⟩ => ⟨S2048x8x64, .f32⟩
  | .hbm, ⟨77, _⟩ => ⟨S2048x512, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | .hbm, ⟨81, _⟩ => ⟨S_, .f32⟩
  | .hbm, ⟨82, _⟩ => ⟨S8x2048, .f32⟩
  | .hbm, ⟨83, _⟩ => ⟨S8x2048x1, .f32⟩
  | .hbm, ⟨84, _⟩ => ⟨S8x2048x1, .f32⟩
  | .hbm, ⟨85, _⟩ => ⟨S8x2048x2048, .f32⟩
  | .hbm, ⟨86, _⟩ => ⟨S8x2048x2048, .f32⟩
  | .hbm, ⟨87, _⟩ => ⟨S_, .f32⟩
  | .hbm, ⟨88, _⟩ => ⟨S8x2048, .f32⟩
  | .hbm, ⟨89, _⟩ => ⟨S8x2048x2048, .f32⟩
  | .hbm, ⟨90, _⟩ => ⟨S8x2048x2048, .f32⟩
  | .hbm, ⟨91, _⟩ => ⟨S8x2048x2048, .f32⟩
  | .hbm, ⟨92, _⟩ => ⟨S_, .f32⟩
  | .hbm, ⟨93, _⟩ => ⟨S8x2048x2048, .f32⟩
  | .hbm, ⟨94, _⟩ => ⟨S8x2048x2048, .f32⟩
  | .hbm, ⟨95, _⟩ => ⟨S8x2048x2048, .f32⟩
  | .hbm, ⟨96, _⟩ => ⟨S_, .f32⟩
  | .hbm, ⟨97, _⟩ => ⟨S8x2048, .f32⟩
  | .hbm, ⟨98, _⟩ => ⟨S8x1x2048, .f32⟩
  | .hbm, ⟨99, _⟩ => ⟨S_, .f32⟩
  | .hbm, ⟨100, _⟩ => ⟨S8x2048, .f32⟩
  | .hbm, ⟨101, _⟩ => ⟨S_, .f32⟩
  | .hbm, ⟨102, _⟩ => ⟨S8x2048, .f32⟩
  | .hbm, ⟨103, _⟩ => ⟨S8x2048x1, .f32⟩
  | .hbm, ⟨104, _⟩ => ⟨S_, .f32⟩
  | .hbm, ⟨105, _⟩ => ⟨S8x2048, .f32⟩
  | .hbm, ⟨106, _⟩ => ⟨S_, .f32⟩
  | .hbm, ⟨107, _⟩ => ⟨S8x2048x2048, .f32⟩
  | .hbm, ⟨108, _⟩ => ⟨S8x2048x2048, .f32⟩
  | .hbm, ⟨109, _⟩ => ⟨S8x2048x64, .f32⟩
  | .hbm, ⟨110, _⟩ => ⟨S2048x8x64, .f32⟩
  | .hbm, ⟨111, _⟩ => ⟨S8x2048x64, .f32⟩
  | .hbm, ⟨112, _⟩ => ⟨S2048x8x64, .f32⟩
  | .hbm, ⟨113, _⟩ => ⟨S2048x512, .f32⟩
  | .hbm, ⟨114, _⟩ => ⟨S2048x512, .f32⟩
  | .hbm, ⟨115, _⟩ => ⟨S8x4x1x512, .f32⟩
  | .hbm, ⟨116, _⟩ => ⟨S8x4x16x512, .f32⟩
  | .hbm, ⟨117, _⟩ => ⟨S8x1x2048, .f32⟩
  | .hbm, ⟨118, _⟩ => ⟨S8x1x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_14 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_cst_16 : Ref sig .tc := ⟨.hbm, 99, rfl⟩
abbrev main_v77 : Ref sig .tc := ⟨.hbm, 100, rfl⟩
abbrev main_cst_17 : Ref sig .tc := ⟨.hbm, 101, rfl⟩
abbrev main_v78 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_cst_19 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]
-- ==== XattnFwd.lean ====
abbrev S2048x1024 : Shape := ⟨2, ![2048, 1024]⟩
abbrev S1024x1024 : Shape := ⟨2, ![1024, 1024]⟩
abbrev S256x1024 : Shape := ⟨2, ![256, 1024]⟩
abbrev S256x4x256 : Shape := ⟨3, ![256, 4, 256]⟩
abbrev S4x256x256 : Shape := ⟨3, ![4, 256, 256]⟩
abbrev S8x256x256 : Shape := ⟨3, ![8, 256, 256]⟩
abbrev S1024x256 : Shape := ⟨2, ![1024, 256]⟩
abbrev S1x256x256 : Shape := ⟨3, ![1, 256, 256]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 14
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S256x4x256, .f32⟩
  | .hbm, ⟨5, _⟩ => ⟨S4x256x256, .f32⟩
  | .hbm, ⟨6, _⟩ => ⟨S256x4x256, .f32⟩
  | .hbm, ⟨7, _⟩ => ⟨S4x256x256, .f32⟩
  | .hbm, ⟨8, _⟩ => ⟨S8x256x256, .f32⟩
  | .hbm, ⟨9, _⟩ => ⟨S2048x1024, .bf16⟩
  | .hbm, ⟨10, _⟩ => ⟨S1024x1024, .bf16⟩
  | .hbm, ⟨11, _⟩ => ⟨S8x256x256, .bf16⟩
  | .hbm, ⟨12, _⟩ => ⟨S2048x1024, .bf16⟩
  | .hbm, ⟨13, _⟩ => ⟨S2048x1024, .bf16⟩
  | .local _ .vmem, ⟨0, _⟩ => ⟨S2048x1024, .bf16⟩
  | .local _ .vmem, ⟨1, _⟩ => ⟨S1024x256, .bf16⟩
  | .local _ .vmem, ⟨2, _⟩ => ⟨S1024x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== XattnFwdRefIdeal.lean ====
abbrev S2048x1024 : Shape := ⟨2, ![2048, 1024]⟩
abbrev S1024x1024 : Shape := ⟨2, ![1024, 1024]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S2048x1024, .f32⟩
  | .hbm, ⟨5, _⟩ => ⟨S2048x4x256, .f32⟩
  | .hbm, ⟨6, _⟩ => ⟨S256x4x256, .f32⟩
  | .hbm, ⟨7, _⟩ => ⟨S4x2048x256, .f32⟩
  | .hbm, ⟨8, _⟩ => ⟨S_, .f32⟩
  | .hbm, ⟨9, _⟩ => ⟨S4x2048x256, .f32⟩
  | .hbm, ⟨10, _⟩ => ⟨S4x2048x256, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .f32⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x256, .f32⟩
  | .hbm, ⟨24, _⟩ => ⟨S4x2048x256, .f32⟩
  | .hbm, ⟨25, _⟩ => ⟨S256x4x256, .f32⟩
  | .hbm, ⟨26, _⟩ => ⟨S4x256x2048, .f32⟩
  | .hbm, ⟨27, _⟩ => ⟨S2048x4x256, .f32⟩
  | .hbm, ⟨28, _⟩ => ⟨S2048x1024, .f32⟩
  | .hbm, ⟨29, _⟩ => ⟨S2048x1024, .bf16⟩
  | .hbm, ⟨30, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== FoxFwd.lean ====
abbrev S2048x512 : Shape := ⟨2, ![2048, 512]⟩
abbrev S8x2048 : Shape := ⟨2, ![8, 2048]⟩
abbrev S_ : Shape := ⟨0, ![]⟩
abbrev S2048x1664 : Shape := ⟨2, ![2048, 1664]⟩
abbrev S2048x3200 : Shape := ⟨2, ![2048, 3200]⟩
abbrev S2048x128 : Shape := ⟨2, ![2048, 128]⟩
abbrev S4x2x2048x1 : Shape := ⟨4, ![4, 2, 2048, 1]⟩
abbrev S2048x4x128 : Shape := ⟨3, ![2048, 4, 128]⟩
abbrev S4x2048x128 : Shape := ⟨3, ![4, 2048, 128]⟩
abbrev S4x1x2048x1 : Shape := ⟨4, ![4, 1, 2048, 1]⟩
abbrev S4x2048x1 : Shape := ⟨3, ![4, 2048, 1]⟩
abbrev S4x1x2048x128 : Shape := ⟨4, ![4, 1, 2048, 128]⟩
abbrev S4x2x2048x128 : Shape := ⟨4, ![4, 2, 2048, 128]⟩
abbrev S8x2048x128 : Shape := ⟨3, ![8, 2048, 128]⟩
abbrev S2x512x128 : Shape := ⟨3, ![2, 512, 128]⟩
abbrev S512x128 : Shape := ⟨2, ![512, 128]⟩
abbrev S2x512x1 : Shape := ⟨3, ![2, 512, 1]⟩
abbrev S1x512x128 : Shape := ⟨3, ![1, 512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩

abbrev nBuf : Space → Nat
  | .hbm => 281
  | .vmem => 13
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S8x2048, .f32⟩
  | 4 => ⟨S_, .f32⟩
  | 5 => ⟨S2048x1664, .f32⟩
  | 6 => ⟨S2048x3200, .f32⟩
  | 7 => ⟨S2048x128, .i32⟩
  | 8 => ⟨S4x2x2048x1, .f32⟩
  | 9 => ⟨S2048x4x128, .f32⟩
  | 10 => ⟨S4x2048x128, .f32⟩
  | 11 => ⟨S2048x4x128, .f32⟩
  | 12 => ⟨S4x2048x128, .f32⟩
  | 13 => ⟨S4x1x2048x1, .f32⟩
  | 14 => ⟨S4x2048x1, .f32⟩
  | 15 => ⟨S4x1x2048x1, .f32⟩
  | 16 => ⟨S4x2048x1, .f32⟩
  | 17 => ⟨S_, .i32⟩
  | 18 => ⟨S2048x128, .i32⟩
  | 19 => ⟨S2048x128, .i1⟩
  | 20 => ⟨S_, .f32⟩
  | 21 => ⟨S4x2048x128, .f32⟩
  | 22 => ⟨S4x2048x128, .f32⟩
  | 23 => ⟨S_, .f32⟩
  | 24 => ⟨S_, .f32⟩
  | 25 => ⟨S4x2048x128, .i1⟩
  | 26 => ⟨S4x2048x128, .f32⟩
  | 27 => ⟨S4x2048x128, .f32⟩
  | 28 => ⟨S_, .f32⟩
  | 29 => ⟨S_, .f32⟩
  | 30 => ⟨S4x2048x128, .i1⟩
  | 31 => ⟨S4x2048x128, .f32⟩
  | 32 => ⟨S4x2048x128, .f32⟩
  | 33 => ⟨S4x2048x1, .bf16⟩
  | 34 => ⟨S4x2048x1, .f32⟩
  | 35 => ⟨S4x2048x1, .f32⟩
  | 36 => ⟨S4x2048x1, .bf16⟩
  | 37 => ⟨S4x2048x1, .f32⟩
  | 38 => ⟨S4x2048x1, .f32⟩
  | 39 => ⟨S4x2048x1, .f32⟩
  | 40 => ⟨S4x2048x1, .bf16⟩
  | 41 => ⟨S4x2048x1, .f32⟩
  | 42 => ⟨S4x2048x1, .bf16⟩
  | 43 => ⟨S4x2048x1, .f32⟩
  | 44 => ⟨S4x2048x1, .f32⟩
  | 45 => ⟨S4x2048x1, .bf16⟩
  | 46 => ⟨S4x2048x1, .f32⟩
  | 47 => ⟨S4x2048x1, .f32⟩
  | 48 => ⟨S4x2048x1, .f32⟩
  | 49 => ⟨S4x2048x1, .bf16⟩
  | 50 => ⟨S4x2048x1, .f32⟩
  | 51 => ⟨S_, .i32⟩
  | 52 => ⟨S2048x128, .i32⟩
  | 53 => ⟨S2048x128, .i1⟩
  | 54 => ⟨S_, .i32⟩
  | 55 => ⟨S2048x128, .i32⟩
  | 56 => ⟨S2048x128, .i1⟩
  | 57 => ⟨S_, .f32⟩
  | 58 => ⟨S_, .f32⟩
  | 59 => ⟨S4x2048x128, .i1⟩
  | 60 => ⟨S4x2048x128, .f32⟩
  | 61 => ⟨S4x2048x128, .f32⟩
  | 62 => ⟨S4x2048x128, .i1⟩
  | 63 => ⟨S4x2048x128, .f32⟩
  | 64 => ⟨S4x2048x128, .f32⟩
  | 65 => ⟨S_, .i32⟩
  | 66 => ⟨S2048x128, .i32⟩
  | 67 => ⟨S2048x128, .i1⟩
  | 68 => ⟨S_, .i32⟩
  | 69 => ⟨S2048x128, .i32⟩
  | 70 => ⟨S2048x128, .i1⟩
  | 71 => ⟨S4x2048x1, .f32⟩
  | 72 => ⟨S4x2048x128, .i1⟩
  | 73 => ⟨S4x2048x128, .f32⟩
  | 74 => ⟨S4x2048x128, .f32⟩
  | 75 => ⟨S_, .f32⟩
  | 76 => ⟨S_, .f32⟩
  | 77 => ⟨S4x2048x128, .i1⟩
  | 78 => ⟨S4x2048x128, .f32⟩
  | 79 => ⟨S4x2048x128, .f32⟩
  | 80 => ⟨S_, .i32⟩
  | 81 => ⟨S2048x128, .i32⟩
  | 82 => ⟨S2048x128, .i1⟩
  | 83 => ⟨S_, .i32⟩
  | 84 => ⟨S2048x128, .i32⟩
  | 85 => ⟨S2048x128, .i1⟩
  | 86 => ⟨S_, .f32⟩
  | 87 => ⟨S_, .f32⟩
  | 88 => ⟨S4x2048x128, .i1⟩
  | 89 => ⟨S4x2048x128, .f32⟩
  | 90 => ⟨S4x2048x128, .f32⟩
  | 91 => ⟨S4x2048x128, .i1⟩
  | 92 => ⟨S4x2048x128, .f32⟩
  | 93 => ⟨S4x2048x128, .f32⟩
  | 94 => ⟨S_, .i32⟩
  | 95 => ⟨S2048x128, .i32⟩
  | 96 => ⟨S2048x128, .i1⟩
  | 97 => ⟨S_, .i32⟩
  | 98 => ⟨S2048x128, .i32⟩
  | 99 => ⟨S2048x128, .i1⟩
  | 100 => ⟨S4x2048x1, .f32⟩
  | 101 => ⟨S4x2048x128, .i1⟩
  | 102 => ⟨S4x2048x128, .f32⟩
  | 103 => ⟨S4x2048x128, .f32⟩
  | 104 => ⟨S_, .f32⟩
  | 105 => ⟨S_, .f32⟩
  | 106 => ⟨S4x2048x128, .i1⟩
  | 107 => ⟨S4x2048x128, .f32⟩
  | 108 => ⟨S4x2048x128, .f32⟩
  | 109 => ⟨S_, .i32⟩
  | 110 => ⟨S2048x128, .i32⟩
  | 111 => ⟨S2048x128, .i1⟩
  | 112 => ⟨S_, .i32⟩
  | 113 => ⟨S2048x128, .i32⟩
  | 114 => ⟨S2048x128, .i1⟩
  | 115 => ⟨S_, .f32⟩
  | 116 => ⟨S_, .f32⟩
  | 117 => ⟨S4x2048x128, .i1⟩
  | 118 => ⟨S4x2048x128, .f32⟩
  | 119 => ⟨S4x2048x128, .f32⟩
  | 120 => ⟨S4x2048x128, .i1⟩
  | 121 => ⟨S4x2048x128, .f32⟩
  | 122 => ⟨S4x2048x128, .f32⟩
  | 123 => ⟨S_, .i32⟩
  | 124 => ⟨S2048x128, .i32⟩
  | 125 => ⟨S2048x128, .i1⟩
  | 126 => ⟨S_, .i32⟩
  | 127 => ⟨S2048x128, .i32⟩
  | _ => ⟨S2048x512, .f32⟩

abbrev hbmTy0_1 (i : Nat) : BufTy := match i % 128 with
  | 0 => ⟨S2048x128, .i1⟩
  | 1 => ⟨S4x2048x1, .f32⟩
  | 2 => ⟨S4x2048x128, .i1⟩
  | 3 => ⟨S4x2048x128, .f32⟩
  | 4 => ⟨S4x2048x128, .f32⟩
  | 5 => ⟨S_, .f32⟩
  | 6 => ⟨S_, .f32⟩
  | 7 => ⟨S4x2048x128, .i1⟩
  | 8 => ⟨S4x2048x128, .f32⟩
  | 9 => ⟨S4x2048x128, .f32⟩
  | 10 => ⟨S4x2048x128, .bf16⟩
  | 11 => ⟨S4x2048x128, .bf16⟩
  | 12 => ⟨S2048x4x128, .f32⟩
  | 13 => ⟨S4x2048x128, .f32⟩
  | 14 => ⟨S2048x4x128, .f32⟩
  | 15 => ⟨S4x2048x128, .f32⟩
  | 16 => ⟨S4x1x2048x1, .f32⟩
  | 17 => ⟨S4x2048x1, .f32⟩
  | 18 => ⟨S4x1x2048x1, .f32⟩
  | 19 => ⟨S4x2048x1, .f32⟩
  | 20 => ⟨S_, .i32⟩
  | 21 => ⟨S2048x128, .i32⟩
  | 22 => ⟨S2048x128, .i1⟩
  | 23 => ⟨S_, .f32⟩
  | 24 => ⟨S4x2048x128, .f32⟩
  | 25 => ⟨S4x2048x128, .f32⟩
  | 26 => ⟨S_, .f32⟩
  | 27 => ⟨S_, .f32⟩
  | 28 => ⟨S4x2048x128, .i1⟩
  | 29 => ⟨S4x2048x128, .f32⟩
  | 30 => ⟨S4x2048x128, .f32⟩
  | 31 => ⟨S_, .f32⟩
  | 32 => ⟨S_, .f32⟩
  | 33 => ⟨S4x2048x128, .i1⟩
  | 34 => ⟨S4x2048x128, .f32⟩
  | 35 => ⟨S4x2048x128, .f32⟩
  | 36 => ⟨S4x2048x1, .bf16⟩
  | 37 => ⟨S4x2048x1, .f32⟩
  | 38 => ⟨S4x2048x1, .f32⟩
  | 39 => ⟨S4x2048x1, .bf16⟩
  | 40 => ⟨S4x2048x1, .f32⟩
  | 41 => ⟨S4x2048x1, .f32⟩
  | 42 => ⟨S4x2048x1, .f32⟩
  | 43 => ⟨S4x2048x1, .bf16⟩
  | 44 => ⟨S4x2048x1, .f32⟩
  | 45 => ⟨S4x2048x1, .bf16⟩
  | 46 => ⟨S4x2048x1, .f32⟩
  | 47 => ⟨S4x2048x1, .f32⟩
  | 48 => ⟨S4x2048x1, .bf16⟩
  | 49 => ⟨S4x2048x1, .f32⟩
  | 50 => ⟨S4x2048x1, .f32⟩
  | 51 => ⟨S4x2048x1, .f32⟩
  | 52 => ⟨S4x2048x1, .bf16⟩
  | 53 => ⟨S4x2048x1, .f32⟩
  | 54 => ⟨S_, .i32⟩
  | 55 => ⟨S2048x128, .i32⟩
  | 56 => ⟨S2048x128, .i1⟩
  | 57 => ⟨S_, .i32⟩
  | 58 => ⟨S2048x128, .i32⟩
  | 59 => ⟨S2048x128, .i1⟩
  | 60 => ⟨S_, .f32⟩
  | 61 => ⟨S_, .f32⟩
  | 62 => ⟨S4x2048x128, .i1⟩
  | 63 => ⟨S4x2048x128, .f32⟩
  | 64 => ⟨S4x2048x128, .f32⟩
  | 65 => ⟨S4x2048x128, .i1⟩
  | 66 => ⟨S4x2048x128, .f32⟩
  | 67 => ⟨S4x2048x128, .f32⟩
  | 68 => ⟨S_, .i32⟩
  | 69 => ⟨S2048x128, .i32⟩
  | 70 => ⟨S2048x128, .i1⟩
  | 71 => ⟨S_, .i32⟩
  | 72 => ⟨S2048x128, .i32⟩
  | 73 => ⟨S2048x128, .i1⟩
  | 74 => ⟨S4x2048x1, .f32⟩
  | 75 => ⟨S4x2048x128, .i1⟩
  | 76 => ⟨S4x2048x128, .f32⟩
  | 77 => ⟨S4x2048x128, .f32⟩
  | 78 => ⟨S_, .f32⟩
  | 79 => ⟨S_, .f32⟩
  | 80 => ⟨S4x2048x128, .i1⟩
  | 81 => ⟨S4x2048x128, .f32⟩
  | 82 => ⟨S4x2048x128, .f32⟩
  | 83 => ⟨S_, .i32⟩
  | 84 => ⟨S2048x128, .i32⟩
  | 85 => ⟨S2048x128, .i1⟩
  | 86 => ⟨S_, .i32⟩
  | 87 => ⟨S2048x128, .i32⟩
  | 88 => ⟨S2048x128, .i1⟩
  | 89 => ⟨S_, .f32⟩
  | 90 => ⟨S_, .f32⟩
  | 91 => ⟨S4x2048x128, .i1⟩
  | 92 => ⟨S4x2048x128, .f32⟩
  | 93 => ⟨S4x2048x128, .f32⟩
  | 94 => ⟨S4x2048x128, .i1⟩
  | 95 => ⟨S4x2048x128, .f32⟩
  | 96 => ⟨S4x2048x128, .f32⟩
  | 97 => ⟨S_, .i32⟩
  | 98 => ⟨S2048x128, .i32⟩
  | 99 => ⟨S2048x128, .i1⟩
  | 100 => ⟨S_, .i32⟩
  | 101 => ⟨S2048x128, .i32⟩
  | 102 => ⟨S2048x128, .i1⟩
  | 103 => ⟨S4x2048x1, .f32⟩
  | 104 => ⟨S4x2048x128, .i1⟩
  | 105 => ⟨S4x2048x128, .f32⟩
  | 106 => ⟨S4x2048x128, .f32⟩
  | 107 => ⟨S_, .f32⟩
  | 108 => ⟨S_, .f32⟩
  | 109 => ⟨S4x2048x128, .i1⟩
  | 110 => ⟨S4x2048x128, .f32⟩
  | 111 => ⟨S4x2048x128, .f32⟩
  | 112 => ⟨S_, .i32⟩
  | 113 => ⟨S2048x128, .i32⟩
  | 114 => ⟨S2048x128, .i1⟩
  | 115 => ⟨S_, .i32⟩
  | 116 => ⟨S2048x128, .i32⟩
  | 117 => ⟨S2048x128, .i1⟩
  | 118 => ⟨S_, .f32⟩
  | 119 => ⟨S_, .f32⟩
  | 120 => ⟨S4x2048x128, .i1⟩
  | 121 => ⟨S4x2048x128, .f32⟩
  | 122 => ⟨S4x2048x128, .f32⟩
  | 123 => ⟨S4x2048x128, .i1⟩
  | 124 => ⟨S4x2048x128, .f32⟩
  | 125 => ⟨S4x2048x128, .f32⟩
  | 126 => ⟨S_, .i32⟩
  | 127 => ⟨S2048x128, .i32⟩
  | _ => ⟨S2048x512, .f32⟩

abbrev hbmTy0_2 (i : Nat) : BufTy := match i % 128 with
  | 0 => ⟨S2048x128, .i1⟩
  | 1 => ⟨S_, .i32⟩
  | 2 => ⟨S2048x128, .i32⟩
  | 3 => ⟨S2048x128, .i1⟩
  | 4 => ⟨S4x2048x1, .f32⟩
  | 5 => ⟨S4x2048x128, .i1⟩
  | 6 => ⟨S4x2048x128, .f32⟩
  | 7 => ⟨S4x2048x128, .f32⟩
  | 8 => ⟨S_, .f32⟩
  | 9 => ⟨S_, .f32⟩
  | 10 => ⟨S4x2048x128, .i1⟩
  | 11 => ⟨S4x2048x128, .f32⟩
  | 12 => ⟨S4x2048x128, .f32⟩
  | 13 => ⟨S4x2048x128, .bf16⟩
  | 14 => ⟨S4x2048x128, .bf16⟩
  | 15 => ⟨S4x1x2048x128, .bf16⟩
  | 16 => ⟨S4x1x2048x128, .bf16⟩
  | 17 => ⟨S4x2x2048x128, .bf16⟩
  | 18 => ⟨S8x2048x128, .bf16⟩
  | 19 => ⟨S4x1x2048x128, .bf16⟩
  | 20 => ⟨S4x1x2048x128, .bf16⟩
  | 21 => ⟨S4x2x2048x128, .bf16⟩
  | 22 => ⟨S8x2048x128, .bf16⟩
  | 23 => ⟨S2048x512, .f32⟩
  | 24 => ⟨S8x2048x128, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | .local _ .vmem, ⟨0, _⟩ => ⟨S2x512x128, .bf16⟩
  | .local _ .vmem, ⟨1, _⟩ => ⟨S2x512x128, .bf16⟩
  | .local _ .vmem, ⟨2, _⟩ => ⟨S2x512x128, .bf16⟩
  | .local _ .vmem, ⟨3, _⟩ => ⟨S2x512x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x1, .f32⟩
  | .local _ .vmem, ⟨11, _⟩ => ⟨S2x512x1, .f32⟩
  | .local _ .vmem, ⟨12, _⟩ => ⟨S2x512x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_3 : Ref sig .tc := ⟨.hbm, 51, rfl⟩
abbrev main_v36 : Ref sig .tc := ⟨.hbm, 52, rfl⟩
abbrev main_v37 : Ref sig .tc := ⟨.hbm, 53, rfl⟩
abbrev main_c_4 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v40 : Ref sig .tc := ⟨.hbm, 61, rfl⟩
abbrev main_call3_v0 : Ref sig .tc := ⟨.hbm, 62, rfl⟩
abbrev main_call3_v1 : Ref sig .tc := ⟨.hbm, 63, rfl⟩
abbrev main_v41 : Ref sig .tc := ⟨.hbm, 64, rfl⟩
abbrev main_c_6 : Ref sig .tc := ⟨.hbm, 65, rfl⟩
abbrev main_v42 : Ref sig .tc := ⟨.hbm, 66, rfl⟩
abbrev main_v43 : Ref sig .tc := ⟨.hbm, 67, rfl⟩
abbrev main_c_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call4_v0 : Ref sig .tc := ⟨.hbm, 72, rfl⟩
abbrev main_call4_v1 : Ref sig .tc := ⟨.hbm, 73, rfl⟩
abbrev main_v47 : Ref sig .tc := ⟨.hbm, 74, rfl⟩
abbrev main_cst_8 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_v48 : Ref sig .tc := ⟨.hbm, 79, rfl⟩
abbrev main_c_9 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_v53 : Ref sig .tc := ⟨.hbm, 90, rfl⟩
abbrev main_call7_v0 : Ref sig .tc := ⟨.hbm, 91, rfl⟩
abbrev main_call7_v1 : Ref sig .tc := ⟨.hbm, 92, rfl⟩
abbrev main_v54 : Ref sig .tc := ⟨.hbm, 93, rfl⟩
abbrev main_c_12 : Ref sig .tc := ⟨.hbm, 94, rfl⟩
abbrev main_v55 : Ref sig .tc := ⟨.hbm, 95, rfl⟩
abbrev main_v56 : Ref sig .tc := ⟨.hbm, 96, rfl⟩
abbrev main_c_13 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_call8_v0 : Ref sig .tc := ⟨.hbm, 101, rfl⟩
abbrev main_call8_v1 : Ref sig .tc := ⟨.hbm, 102, rfl⟩
abbrev main_v60 : Ref sig .tc := ⟨.hbm, 103, rfl⟩
abbrev main_cst_14 : Ref sig .tc := ⟨.hbm, 104, rfl⟩
abbrev main_call9_v0 : Ref sig .tc := ⟨.hbm, 105, rfl⟩
abbrev main_call9_v1 : Ref sig .tc := ⟨.hbm, 106, rfl⟩
abbrev main_call9_v2 : Ref sig .tc := ⟨.hbm, 107, rfl⟩
abbrev main_v61 : Ref sig .tc := ⟨.hbm, 108, rfl⟩
abbrev main_c_15 : Ref sig .tc := ⟨.hbm, 109, rfl⟩
abbrev main_v62 : Ref sig .tc := ⟨.hbm, 110, rfl⟩
abbrev main_v63 : Ref sig .tc := ⟨.hbm, 111, rfl⟩
abbrev main_c_16 : Ref sig .tc := ⟨.hbm, 112, rfl⟩
abbrev main_v64 : Ref sig .tc := ⟨.hbm, 113, rfl⟩
abbrev main_v65 : Ref sig .tc := ⟨.hbm, 114, rfl⟩
abbrev main_cst_17 : Ref sig .tc := ⟨.hbm, 115, rfl⟩
abbrev main_call10_v0 : Ref sig .tc := ⟨.hbm, 116, rfl⟩
abbrev main_call10_v1 : Ref sig .tc := ⟨.hbm, 117, rfl⟩
abbrev main_call10_v2 : Ref sig .tc := ⟨.hbm, 118, rfl⟩
abbrev main_v66 : Ref sig .tc := ⟨.hbm, 119, rfl⟩
abbrev main_call11_v0 : Ref sig .tc := ⟨.hbm, 120, rfl⟩
abbrev main_call11_v1 : Ref sig .tc := ⟨.hbm, 121, rfl⟩
abbrev main_v67 : Ref sig .tc := ⟨.hbm, 122, rfl⟩
abbrev main_c_18 : Ref sig .tc := ⟨.hbm, 123, rfl⟩
abbrev main_v68 : Ref sig .tc := ⟨.hbm, 124, rfl⟩
abbrev main_v69 : Ref sig .tc := ⟨.hbm, 125, rfl⟩
abbrev main_c_19 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_call12_v0 : Ref sig .tc := ⟨.hbm, 130, rfl⟩
abbrev main_call12_v1 : Ref sig .tc := ⟨.hbm, 131, rfl⟩
abbrev main_v73 : Ref sig .tc := ⟨.hbm, 132, rfl⟩
abbrev main_cst_20 : Ref sig .tc := ⟨.hbm, 133, rfl⟩
abbrev main_call13_v0 : Ref sig .tc := ⟨.hbm, 134, rfl⟩
abbrev main_call13_v1 : Ref sig .tc := ⟨.hbm, 135, rfl⟩
abbrev main_call13_v2 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_21 : Ref sig .tc := ⟨.hbm, 148, rfl⟩
abbrev main_v85 : Ref sig .tc := ⟨.hbm, 149, rfl⟩
abbrev main_v86 : Ref sig .tc := ⟨.hbm, 150, rfl⟩
abbrev main_cst_22 : Ref sig .tc := ⟨.hbm, 151, rfl⟩
abbrev main_v87 : Ref sig .tc := ⟨.hbm, 152, rfl⟩
abbrev main_v88 : Ref sig .tc := ⟨.hbm, 153, rfl⟩
abbrev main_cst_23 : Ref sig .tc := ⟨.hbm, 154, rfl⟩
abbrev main_call14_v0 : Ref sig .tc := ⟨.hbm, 155, rfl⟩
abbrev main_call14_v1 : Ref sig .tc := ⟨.hbm, 156, rfl⟩
abbrev main_call14_v2 : Ref sig .tc := ⟨.hbm, 157, rfl⟩
abbrev main_v89 : Ref sig .tc := ⟨.hbm, 158, rfl⟩
abbrev main_cst_24 : Ref sig .tc := ⟨.hbm, 159, rfl⟩
abbrev main_call15_v0 : Ref sig .tc := ⟨.hbm, 160, rfl⟩
abbrev main_call15_v1 : Ref sig .tc := ⟨.hbm, 161, rfl⟩
abbrev main_call15_v2 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_c_25 : Ref sig .tc := ⟨.hbm, 182, rfl⟩
abbrev main_v109 : Ref sig .tc := ⟨.hbm, 183, rfl⟩
abbrev main_v110 : Ref sig .tc := ⟨.hbm, 184, rfl⟩
abbrev main_c_26 : Ref sig .tc := ⟨.hbm, 185, rfl⟩
abbrev main_v111 : Ref sig .tc := ⟨.hbm, 186, rfl⟩
abbrev main_v112 : Ref sig .tc := ⟨.hbm, 187, rfl⟩
abbrev main_cst_27 : Ref sig .tc := ⟨.hbm, 188, rfl⟩
abbrev main_call16_v0 : Ref sig .tc := ⟨.hbm, 189, rfl⟩
abbrev main_call16_v1 : Ref sig .tc := ⟨.hbm, 190, rfl⟩
abbrev main_call16_v2 : Ref sig .tc := ⟨.hbm, 191, rfl⟩
abbrev main_v113 : Ref sig .tc := ⟨.hbm, 192, rfl⟩
abbrev main_call17_v0 : Ref sig .tc := ⟨.hbm, 193, rfl⟩
abbrev main_call17_v1 : Ref sig .tc := ⟨.hbm, 194, rfl⟩
abbrev main_v114 : Ref sig .tc := ⟨.hbm, 195, rfl⟩
abbrev main_c_28 : Ref sig .tc := ⟨.hbm, 196, rfl⟩
abbrev main_v115 : Ref sig .tc := ⟨.hbm, 197, rfl⟩
abbrev main_v116 : Ref sig .tc := ⟨.hbm, 198, rfl⟩
abbrev main_c_29 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_call18_v0 : Ref sig .tc := ⟨.hbm, 203, rfl⟩
abbrev main_call18_v1 : Ref sig .tc := ⟨.hbm, 204, rfl⟩
abbrev main_v120 : Ref sig .tc := ⟨.hbm, 205, rfl⟩
abbrev main_cst_30 : Ref sig .tc := ⟨.hbm, 206, rfl⟩
abbrev main_call19_v0 : Ref sig .tc := ⟨.hbm, 207, rfl⟩
abbrev main_call19_v1 : Ref sig .tc := ⟨.hbm, 208, rfl⟩
abbrev main_call19_v2 : Ref sig .tc := ⟨.hbm, 209, rfl⟩
abbrev main_v121 : Ref sig .tc := ⟨.hbm, 210, rfl⟩
abbrev main_c_31 : Ref sig .tc := ⟨.hbm, 211, rfl⟩
abbrev main_v122 : Ref sig .tc := ⟨.hbm, 212, rfl⟩
abbrev main_v123 : Ref sig .tc := ⟨.hbm, 213, rfl⟩
abbrev main_c_32 : Ref sig .tc := ⟨.hbm, 214, rfl⟩
abbrev main_v124 : Ref sig .tc := ⟨.hbm, 215, rfl⟩
abbrev main_v125 : Ref sig .tc := ⟨.hbm, 216, rfl⟩
abbrev main_cst_33 : Ref sig .tc := ⟨.hbm, 217, rfl⟩
abbrev main_call20_v0 : Ref sig .tc := ⟨.hbm, 218, rfl⟩
abbrev main_call20_v1 : Ref sig .tc := ⟨.hbm, 219, rfl⟩
abbrev main_call20_v2 : Ref sig .tc := ⟨.hbm, 220, rfl⟩
abbrev main_v126 : Ref sig .tc := ⟨.hbm, 221, rfl⟩
abbrev main_call21_v0 : Ref sig .tc := ⟨.hbm, 222, rfl⟩
abbrev main_call21_v1 : Ref sig .tc := ⟨.hbm, 223, rfl⟩
abbrev main_v127 : Ref sig .tc := ⟨.hbm, 224, rfl⟩
abbrev main_c_34 : Ref sig .tc := ⟨.hbm, 225, rfl⟩
abbrev main_v128 : Ref sig .tc := ⟨.hbm, 226, rfl⟩
abbrev main_v129 : Ref sig .tc := ⟨.hbm, 227, rfl⟩
abbrev main_c_35 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_call22_v0 : Ref sig .tc := ⟨.hbm, 232, rfl⟩
abbrev main_call22_v1 : Ref sig .tc := ⟨.hbm, 233, rfl⟩
abbrev main_v133 : Ref sig .tc := ⟨.hbm, 234, rfl⟩
abbrev main_cst_36 : Ref sig .tc := ⟨.hbm, 235, rfl⟩
abbrev main_call23_v0 : Ref sig .tc := ⟨.hbm, 236, rfl⟩
abbrev main_call23_v1 : Ref sig .tc := ⟨.hbm, 237, rfl⟩
abbrev main_call23_v2 : Ref sig .tc := ⟨.hbm, 238, rfl⟩
abbrev main_v134 : Ref sig .tc := ⟨.hbm, 239, rfl⟩
abbrev main_c_37 : Ref sig .tc := ⟨.hbm, 240, rfl⟩
abbrev main_v135 : Ref sig .tc := ⟨.hbm, 241, rfl⟩
abbrev main_v136 : Ref sig .tc := ⟨.hbm, 242, rfl⟩
abbrev main_c_38 : Ref sig .tc := ⟨.hbm, 243, rfl⟩
abbrev main_v137 : Ref sig .tc := ⟨.hbm, 244, rfl⟩
abbrev main_v138 : Ref sig .tc := ⟨.hbm, 245, rfl⟩
abbrev main_cst_39 : Ref sig .tc := ⟨.hbm, 246, rfl⟩
abbrev main_call24_v0 : Ref sig .tc := ⟨.hbm, 247, rfl⟩
abbrev main_call24_v1 : Ref sig .tc := ⟨.hbm, 248, rfl⟩
abbrev main_call24_v2 : Ref sig .tc := ⟨.hbm, 249, rfl⟩
abbrev main_v139 : Ref sig .tc := ⟨.hbm, 250, rfl⟩
abbrev main_call25_v0 : Ref sig .tc := ⟨.hbm, 251, rfl⟩
abbrev main_call25_v1 : Ref sig .tc := ⟨.hbm, 252, rfl⟩
abbrev main_v140 : Ref sig .tc := ⟨.hbm, 253, rfl⟩
abbrev main_c_40 : Ref sig .tc := ⟨.hbm, 254, rfl⟩
abbrev main_v141 : Ref sig .tc := ⟨.hbm, 255, rfl⟩
abbrev main_v142 : Ref sig .tc := ⟨.hbm, 256, rfl⟩
abbrev main_c_41 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_call26_v0 : Ref sig .tc := ⟨.hbm, 261, rfl⟩
abbrev main_call26_v1 : Ref sig .tc := ⟨.hbm, 262, rfl⟩
abbrev main_v146 : Ref sig .tc := ⟨.hbm, 263, rfl⟩
abbrev main_cst_42 : Ref sig .tc := ⟨.hbm, 264, rfl⟩
abbrev main_call27_v0 : Ref sig .tc := ⟨.hbm, 265, rfl⟩
abbrev main_call27_v1 : Ref sig .tc := ⟨.hbm, 266, rfl⟩
abbrev main_call27_v2 : Ref sig .tc := ⟨.hbm, 267, rfl⟩
abbrev main_v147 : Ref sig .tc := ⟨.hbm, 268, rfl⟩
abbrev main_v148 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_v157 : Ref sig .tc := ⟨.hbm, 278, rfl⟩
abbrev main_v158_0 : Ref sig .tc := ⟨.hbm, 279, rfl⟩
abbrev main_v158_1 : Ref sig .tc := ⟨.hbm, 280, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond4 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_3 : BitVec 32 := 0#32
  let v12 : BitVec 1 := Scalar.cmpi .ne v11 c0_i32_3
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c8_i32 : BitVec 32 := 8#32
  let v1 : BitVec 32 := Scalar.addi c8_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FoxFwdIdeal.lean ====
variable {F : FTy → Type} [FloatOps F] [Named F]
def κ : String → Option EReal := fun
  | "mask" => some ⊥
  | _ => none
-- ==== FoxFwdRefIdeal.lean ====
abbrev S2048x512 : Shape := ⟨2, ![2048, 512]⟩
abbrev S8x2048 : Shape := ⟨2, ![8, 2048]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x64x2048 : Shape := ⟨3, ![8, 64, 2048]⟩
abbrev S8x2048x128 : Shape := ⟨3, ![8, 2048, 128]⟩

abbrev nBuf : Space → Nat
  | .hbm => 57
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048, .f32⟩
  | .hbm, ⟨4, _⟩ => ⟨S2048x8x64, .f32⟩
  | .hbm, ⟨5, _⟩ => ⟨S2048x8x64, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S8x2048x1, .f32⟩
  | .hbm, ⟨11, _⟩ => ⟨S8x2048x2048, .f32⟩
  | .hbm, ⟨12, _⟩ => ⟨S8x2048x2048, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S8x2048x2048, .i1⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S2048x8x64, .f32⟩
  | .hbm, ⟨42, _⟩ => ⟨S8x64x2048, .f32⟩
  | .hbm, ⟨43, _⟩ => ⟨S2048x8x64, .f32⟩
  | .hbm, ⟨44, _⟩ => ⟨S2048x512, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048, .f32⟩
  | .hbm, ⟨53, _⟩ => ⟨S8x2048, .f32⟩
  | .hbm, ⟨54, _⟩ => ⟨S8x2048, .f32⟩
  | .hbm, ⟨55, _⟩ => ⟨S8x2048x1, .f32⟩
  | .hbm, ⟨56, _⟩ => ⟨S8x2048x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== NormFwd.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormAdd.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1x1024, .f32⟩
  | .hbm, ⟨4, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormAddRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== SconvFwd.lean ====
abbrev S2048x3080 : Shape := ⟨2, ![2048, 3080]⟩
abbrev S3x512 : Shape := ⟨2, ![3, 512]⟩
abbrev S2048x1536 : Shape := ⟨2, ![2048, 1536]⟩
abbrev S2048x8 : Shape := ⟨2, ![2048, 8]⟩
abbrev S_ : Shape := ⟨0, ![]⟩
abbrev S2048x120 : Shape := ⟨2, ![2048, 120]⟩
abbrev S2048x3200 : Shape := ⟨2, ![2048, 3200]⟩
abbrev S2048x512 : Shape := ⟨2, ![2048, 512]⟩
abbrev S2048x128 : Shape := ⟨2, ![2048, 128]⟩
abbrev S3x128 : Shape := ⟨2, ![3, 128]⟩
abbrev S1x128 : Shape := ⟨2, ![1, 128]⟩

abbrev nBuf : Space → Nat
  | .hbm => 9
  | .vmem => 10
  | .smem => 0
  | _ => 0

abbrev bufTy : (tb : Table) → Fin (tcTables nBuf tb) → BufTy
  | .hbm, ⟨0, _⟩ => ⟨S2048x3080, .f32⟩
  | .hbm, ⟨1, _⟩ => ⟨S3x512, .f32⟩
  | .hbm, ⟨2, _⟩ => ⟨S2048x1536, .f32⟩
  | .hbm, ⟨3, _⟩ => ⟨S2048x1536, .f32⟩
  | .hbm, ⟨4, _⟩ => ⟨S2048x8, .f32⟩
  | .hbm, ⟨5, _⟩ => ⟨S_, .f32⟩
  | .hbm, ⟨6, _⟩ => ⟨S2048x120, .f32⟩
  | .hbm, ⟨7, _⟩ => ⟨S2048x3200, .f32⟩
  | .hbm, ⟨8, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | _, _ => ⟨S2048x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SconvFwdRefIdeal.lean ====
abbrev S2048x3080 : Shape := ⟨2, ![2048, 3080]⟩
abbrev S3x512 : Shape := ⟨2, ![3, 512]⟩
abbrev S2048x512 : Shape := ⟨2, ![2048, 512]⟩
abbrev S2048x8 : Shape := ⟨2, ![2048, 8]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩

abbrev nBuf : Space → Nat
  | .hbm => 38
  | .vmem => 0
  | .smem => 0
  | _ => 0

abbrev bufTy : (tb : Table) → Fin (tcTables nBuf tb) → BufTy
  | .hbm, ⟨0, _⟩ => ⟨S2048x3080, .f32⟩
  | .hbm, ⟨1, _⟩ => ⟨S3x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x8, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2x512, .f32⟩
  | .hbm, ⟨12, _⟩ => ⟨S2050x512, .f32⟩
  | .hbm, ⟨13, _⟩ => ⟨S1x512, .f32⟩
  | .hbm, ⟨14, _⟩ => ⟨S512, .f32⟩
  | .hbm, ⟨15, _⟩ => ⟨S2048x512, .f32⟩
  | .hbm, ⟨16, _⟩ => ⟨S1x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S1x512, .f32⟩
  | .hbm, ⟨23, _⟩ => ⟨S512, .f32⟩
  | .hbm, ⟨24, _⟩ => ⟨S2048x512, .f32⟩
  | .hbm, ⟨25, _⟩ => ⟨S1x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S1x512, .f32⟩
  | .hbm, ⟨30, _⟩ => ⟨S512, .f32⟩
  | .hbm, ⟨31, _⟩ => ⟨S2048x512, .f32⟩
  | .hbm, ⟨32, _⟩ => ⟨S1x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .bf16⟩
  | _, _ => ⟨S2048x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== LruConvFwd.lean ====
abbrev S2048x2048 : Shape := ⟨2, ![2048, 2048]⟩
abbrev S4x1024 : Shape := ⟨2, ![4, 1024]⟩
abbrev S1024 : Shape := ⟨1, ![1024]⟩
abbrev S2048x8x256 : Shape := ⟨3, ![2048, 8, 256]⟩
abbrev S8x2048x256 : Shape := ⟨3, ![8, 2048, 256]⟩
abbrev S1x1024 : Shape := ⟨2, ![1, 1024]⟩
abbrev S4x2048x256 : Shape := ⟨3, ![4, 2048, 256]⟩
abbrev S1x2048x128 : Shape := ⟨3, ![1, 2048, 128]⟩
abbrev S4x128 : Shape := ⟨2, ![4, 128]⟩
abbrev S1x128 : Shape := ⟨2, ![1, 128]⟩
abbrev S2048x128 : Shape := ⟨2, ![2048, 128]⟩

abbrev nBuf : Space → Nat
  | .hbm => 7
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S4x1024, .f32⟩
  | .hbm, ⟨2, _⟩ => ⟨S1024, .f32⟩
  | .hbm, ⟨3, _⟩ => ⟨S2048x8x256, .f32⟩
  | .hbm, ⟨4, _⟩ => ⟨S8x2048x256, .f32⟩
  | .hbm, ⟨5, _⟩ => ⟨S1x1024, .f32⟩
  | .hbm, ⟨6, _⟩ => ⟨S4x2048x256, .f32⟩
  | .local _ .vmem, ⟨0, _⟩ => ⟨S1x2048x128, .f32⟩
  | .local _ .vmem, ⟨1, _⟩ => ⟨S1x2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S1x2048x128, .f32⟩
  | .local _ .vmem, ⟨7, _⟩ => ⟨S1x2048x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LruConvFwdRefIdeal.lean ====
abbrev S2048x2048 : Shape := ⟨2, ![2048, 2048]⟩
abbrev S4x1024 : Shape := ⟨2, ![4, 1024]⟩
abbrev S1024 : Shape := ⟨1, ![1024]⟩
abbrev S2048x1024 : Shape := ⟨2, ![2048, 1024]⟩
abbrev S_ : Shape := ⟨0, ![]⟩
abbrev S3x1024 : Shape := ⟨2, ![3, 1024]⟩
abbrev S2051x1024 : Shape := ⟨2, ![2051, 1024]⟩
abbrev S1x1024 : Shape := ⟨2, ![1, 1024]⟩
abbrev S2048x4x256 : Shape := ⟨3, ![2048, 4, 256]⟩
abbrev S4x2048x256 : Shape := ⟨3, ![4, 2048, 256]⟩

abbrev nBuf : Space → Nat
  | .hbm => 43
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S3x1024, .f32⟩
  | .hbm, ⟨7, _⟩ => ⟨S2051x1024, .f32⟩
  | .hbm, ⟨8, _⟩ => ⟨S1x1024, .f32⟩
  | .hbm, ⟨9, _⟩ => ⟨S1024, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x4x256, .f32⟩
  | .hbm, ⟨42, _⟩ => ⟨S4x2048x256, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]
-- ==== FfnUp.lean ====
abbrev S2048x1024 : Shape := ⟨2, ![2048, 1024]⟩
abbrev S1024x5632 : Shape := ⟨2, ![1024, 5632]⟩
abbrev S5632x1024 : Shape := ⟨2, ![5632, 1024]⟩
abbrev S2x4x704x1024 : Shape := ⟨4, ![2, 4, 704, 1024]⟩
abbrev S2x4x2048x704 : Shape := ⟨4, ![2, 4, 2048, 704]⟩
abbrev S4x2048x704 : Shape := ⟨3, ![4, 2048, 704]⟩
abbrev S1024x1024 : Shape := ⟨2, ![1024, 1024]⟩
abbrev S2x1x704x1024 : Shape := ⟨4, ![2, 1, 704, 1024]⟩
abbrev S2x1x1024x704 : Shape := ⟨4, ![2, 1, 1024, 704]⟩
abbrev S1x1024x704 : Shape := ⟨3, ![1, 1024, 704]⟩
abbrev S1x1x704x1024 : Shape := ⟨4, ![1, 1, 704, 1024]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S1024x5632, .bf16⟩
  | .hbm, ⟨4, _⟩ => ⟨S5632x1024, .bf16⟩
  | .hbm, ⟨5, _⟩ => ⟨S2x4x704x1024, .bf16⟩
  | .hbm, ⟨6, _⟩ => ⟨S2x4x2048x704, .bf16⟩
  | .hbm, ⟨7, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S2x1x704x1024, .bf16⟩
  | .local _ .vmem, ⟨3, _⟩ => ⟨S2x1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S1x1024x704, .bf16⟩
  | .local _ .vmem, ⟨7, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S2048x4x704 : Shape := ⟨3, ![2048, 4, 704]⟩
abbrev S4x2048x704 : Shape := ⟨3, ![4, 2048, 704]⟩
abbrev S1x4x2048x704 : Shape := ⟨4, ![1, 4, 2048, 704]⟩
abbrev S2x4x2048x704 : Shape := ⟨4, ![2, 4, 2048, 704]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .bf16⟩
  | .hbm, ⟨6, _⟩ => ⟨S2048x4x704, .bf16⟩
  | .hbm, ⟨7, _⟩ => ⟨S4x2048x704, .bf16⟩
  | .hbm, ⟨8, _⟩ => ⟨S2048x2816, .bf16⟩
  | .hbm, ⟨9, _⟩ => ⟨S2048x4x704, .bf16⟩
  | .hbm, ⟨10, _⟩ => ⟨S4x2048x704, .bf16⟩
  | .hbm, ⟨11, _⟩ => ⟨S1x4x2048x704, .bf16⟩
  | .hbm, ⟨12, _⟩ => ⟨S1x4x2048x704, .bf16⟩
  | .hbm, ⟨13, _⟩ => ⟨S2x4x2048x704, .bf16⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .bf16⟩
  | .hbm, ⟨25, _⟩ => ⟨S2048x4x704, .bf16⟩
  | .hbm, ⟨26, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== FoxCum.lean ====
abbrev S2048x8 : Shape := ⟨2, ![2048, 8]⟩
abbrev S8 : Shape := ⟨1, ![8]⟩
abbrev S8x2048 : Shape := ⟨2, ![8, 2048]⟩
abbrev S8x1 : Shape := ⟨2, ![8, 1]⟩
abbrev S8x128 : Shape := ⟨2, ![8, 128]⟩

abbrev nBuf : Space → Nat
  | .hbm => 6
  | .vmem => 3
  | .smem => 0
  | _ => 0

abbrev bufTy : (tb : Table) → Fin (tcTables nBuf tb) → BufTy
  | .hbm, ⟨0, _⟩ => ⟨S2048x8, .f32⟩
  | .hbm, ⟨1, _⟩ => ⟨S8, .f32⟩
  | .hbm, ⟨2, _⟩ => ⟨S8x2048, .f32⟩
  | .hbm, ⟨3, _⟩ => ⟨S8x1, .f32⟩
  | .hbm, ⟨4, _⟩ => ⟨S8x128, .f32⟩
  | .hbm, ⟨5, _⟩ => ⟨S8x2048, .f32⟩
  | .local _ .vmem, ⟨0, _⟩ => ⟨S8x2048, .f32⟩
  | .local _ .vmem, ⟨1, _⟩ => ⟨S8x128, .f32⟩
  | .local _ .vmem, ⟨2, _⟩ => ⟨S8x2048, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== FoxCumRefIdeal.lean ====
abbrev S2048x8 : Shape := ⟨2, ![2048, 8]⟩
abbrev S8 : Shape := ⟨1, ![8]⟩
abbrev S1x8 : Shape := ⟨2, ![1, 8]⟩
abbrev S_ : Shape := ⟨0, ![]⟩
abbrev S8x2048 : Shape := ⟨2, ![8, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S8, .f32⟩
  | .hbm, ⟨2, _⟩ => ⟨S1x8, .f32⟩
  | .hbm, ⟨3, _⟩ => ⟨S2048x8, .f32⟩
  | .hbm, ⟨4, _⟩ => ⟨S2048x8, .f32⟩
  | .hbm, ⟨5, _⟩ => ⟨S2048x8, .f32⟩
  | .hbm, ⟨6, _⟩ => ⟨S_, .f32⟩
  | .hbm, ⟨7, _⟩ => ⟨S2048x8, .f32⟩
  | .hbm, ⟨8, _⟩ => ⟨S2048x8, .f32⟩
  | .hbm, ⟨9, _⟩ => ⟨S2048x8, .f32⟩
  | .hbm, ⟨10, _⟩ => ⟨S2048x8, .f32⟩
  | .hbm, ⟨11, _⟩ => ⟨S2048x8, .i1⟩
  | .hbm, ⟨12, _⟩ => ⟨S2048x8, .f32⟩
  | .hbm, ⟨13, _⟩ => ⟨S2048x8, .f32⟩
  | .hbm, ⟨14, _⟩ => ⟨S2048x8, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S_, .f32⟩
  | .hbm, ⟨22, _⟩ => ⟨S_, .f32⟩
  | .hbm, ⟨23, _⟩ => ⟨S2048x8, .f32⟩
  | .hbm, ⟨24, _⟩ => ⟨S8x2048, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_call1_call0_cst : Ref sig .tc := ⟨.hbm, 21, rfl⟩
abbrev main_call1_call0_v0 : Ref sig .tc := ⟨.hbm, 22, rfl⟩
abbrev main_v4 : Ref sig .tc := ⟨.hbm, 23, rfl⟩
abbrev main_v5 : Ref sig .tc := ⟨.hbm, 24, rfl⟩

abbrev nD : Nat := 1
abbrev τ : Topo := Topo.v7x

variable {F : FTy → Type} [FloatOps F]
-- ==== LruScan.lean ====
abbrev S8x2048x256 : Shape := ⟨3, ![8, 2048, 256]⟩
abbrev S2x4x2048x256 : Shape := ⟨4, ![2, 4, 2048, 256]⟩
abbrev S4x2048x256 : Shape := ⟨3, ![4, 2048, 256]⟩
abbrev S2x1024 : Shape := ⟨2, ![2, 1024]⟩
abbrev S1024 : Shape := ⟨1, ![1024]⟩
abbrev S2048x1024 : Shape := ⟨2, ![2048, 1024]⟩
abbrev S1x1024 : Shape := ⟨2, ![1, 1024]⟩
abbrev S2x1x2048x128 : Shape := ⟨4, ![2, 1, 2048, 128]⟩
abbrev S2x128 : Shape := ⟨2, ![2, 128]⟩
abbrev S1x128 : Shape := ⟨2, ![1, 128]⟩
abbrev S1x2048x128 : Shape := ⟨3, ![1, 2048, 128]⟩
abbrev S2048x128 : Shape := ⟨2, ![2048, 128]⟩
abbrev S1x1x2048x128 : Shape := ⟨4, ![1, 1, 2048, 128]⟩
abbrev S128 : Shape := ⟨1, ![128]⟩

abbrev nBuf : Space → Nat
  | .hbm => 15
  | .vmem => 38
  | .smem => 0
  | _ => 0

abbrev bufTy : (tb : Table) → Fin (tcTables nBuf tb) → BufTy
  | .hbm, ⟨0, _⟩ => ⟨S8x2048x256, .f32⟩
  | .hbm, ⟨1, _⟩ => ⟨S2x4x2048x256, .f32⟩
  | .hbm, ⟨2, _⟩ => ⟨S4x2048x256, .f32⟩
  | .hbm, ⟨3, _⟩ => ⟨S2x1024, .f32⟩
  | .hbm, ⟨4, _⟩ => ⟨S1024, .f32⟩
  | .hbm, ⟨5, _⟩ => ⟨S2048x1024, .f32⟩
  | .hbm, ⟨6, _⟩ => ⟨S1x1024, .f32⟩
  | .hbm, ⟨7, _⟩ => ⟨S4x2048x256, .f32⟩
  | .hbm, ⟨8, _⟩ => ⟨S2048x1024, .bf16⟩
  | .hbm, ⟨9, _⟩ => ⟨S1x1024, .f32⟩
  | .hbm, ⟨10, _⟩ => ⟨S4x2048x256, .bf16⟩
  | .hbm, ⟨11, _⟩ => ⟨S2x4x2048x256, .bf16⟩
  | .hbm, ⟨12, _⟩ => ⟨S4x2048x256, .f32⟩
  | .hbm, ⟨13, _⟩ => ⟨S2x1024, .f32⟩
  | .hbm, ⟨14, _⟩ => ⟨S1x1024, .f32⟩
  | .local _ .vmem, ⟨0, _⟩ => ⟨S2x1x2048x128, .f32⟩
  | .local _ .vmem, ⟨1, _⟩ => ⟨S2x1x2048x128, .f32⟩
  | .local _ .vmem, ⟨2, _⟩ => ⟨S2x128, .f32⟩
  | .local _ .vmem, ⟨3, _⟩ => ⟨S2x128, .f32⟩
  | .local _ .vmem, ⟨4, _⟩ => ⟨S1x128, .f32⟩
  | .local _ .vmem, ⟨5, _⟩ => ⟨S1x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .f32⟩
  | .local _ .vmem, ⟨15, _⟩ => ⟨S2048x128, .f32⟩
  | .local _ .vmem, ⟨16, _⟩ => ⟨S2x1x2048x128, .f32⟩
  | .local _ .vmem, ⟨17, _⟩ => ⟨S2x1x2048x128, .f32⟩
  | .local _ .vmem, ⟨18, _⟩ => ⟨S2x128, .f32⟩
  | .local _ .vmem, ⟨19, _⟩ => ⟨S2x128, .f32⟩
  | .local _ .vmem, ⟨20, _⟩ => ⟨S1x128, .f32⟩
  | .local _ .vmem, ⟨21, _⟩ => ⟨S1x128, .f32⟩
  | .local _ .vmem, ⟨22, _⟩ => ⟨S1x2048x128, .f32⟩
  | .local _ .vmem, ⟨23, _⟩ => ⟨S1x2048x128, .f32⟩
  | .local _ .vmem, ⟨24, _⟩ => ⟨S1x2048x128, .f32⟩
  | .local _ .vmem, ⟨25, _⟩ => ⟨S1x2048x128, .f32⟩
  | .local _ .vmem, ⟨26, _⟩ => ⟨S1x2048x128, .f32⟩
  | .local _ .vmem, ⟨27, _⟩ => ⟨S1x2048x128, .f32⟩
  | .local _ .vmem, ⟨28, _⟩ => ⟨S1x2048x128, .bf16⟩
  | .local _ .vmem, ⟨29, _⟩ => ⟨S1x2048x128, .bf16⟩
  | .local _ .vmem, ⟨30, _⟩ => ⟨S2x1x2048x128, .bf16⟩
  | .local _ .vmem, ⟨31, _⟩ => ⟨S2x1x2048x128, .bf16⟩
  | .local _ .vmem, ⟨32, _⟩ => ⟨S1x2048x128, .f32⟩
  | .local _ .vmem, ⟨33, _⟩ => ⟨S1x2048x128, .f32⟩
  | .local _ .vmem, ⟨34, _⟩ => ⟨S2x128, .f32⟩
  | .local _ .vmem, ⟨35, _⟩ => ⟨S2x128, .f32⟩
  | .local _ .vmem, ⟨36, _⟩ => ⟨S1x128, .f32⟩
  | .local _ .vmem, ⟨37, _⟩ => ⟨S1x128, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc1_transform_5 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc1_transform_6 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc1_transform_7 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc1_transform_8 (i : grid1.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc1_transform_9 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2048x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2x1x2048x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== MemNorm.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MmNn.lean ====
abbrev S2048x3200 : Shape := ⟨2, ![2048, 3200]⟩
abbrev S3200x1024 : Shape := ⟨2, ![3200, 1024]⟩
abbrev S2048x1024 : Shape := ⟨2, ![2048, 1024]⟩
abbrev S1024x3200 : Shape := ⟨2, ![1024, 3200]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x3200, .f32⟩
  | .hbm, ⟨1, _⟩ => ⟨S3200x1024, .f32⟩
  | .hbm, ⟨2, _⟩ => ⟨S2048x3200, .bf16⟩
  | .hbm, ⟨3, _⟩ => ⟨S3200x1024, .bf16⟩
  | .hbm, ⟨4, _⟩ => ⟨S2048x1024, .f32⟩
  | .local _ .vmem, ⟨0, _⟩ => ⟨S1024x3200, .bf16⟩
  | .local _ .vmem, ⟨1, _⟩ => ⟨S1024x3200, .bf16⟩
  | .local _ .vmem, ⟨2, _⟩ => ⟨S3200x1024, .bf16⟩
  | .local _ .vmem, ⟨3, _⟩ => ⟨S1024x1024, .f32⟩
  | .local _ .vmem, ⟨4, _⟩ => ⟨S1024x1024, .f32⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmNnRefIdeal.lean ====
abbrev S2048x3200 : Shape := ⟨2, ![2048, 3200]⟩
abbrev S3200x1024 : Shape := ⟨2, ![3200, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x3200, .f32⟩
  | .hbm, ⟨1, _⟩ => ⟨S3200x1024, .f32⟩
  | .hbm, ⟨2, _⟩ => ⟨S2048x1024, .f32⟩
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmCols.lean ====
abbrev S2048x1024 : Shape := ⟨2, ![2048, 1024]⟩
abbrev S3200x1024 : Shape := ⟨2, ![3200, 1024]⟩
abbrev S2048x3200 : Shape := ⟨2, ![2048, 3200]⟩
abbrev S640x1024 : Shape := ⟨2, ![640, 1024]⟩
abbrev S2048x640 : Shape := ⟨2, ![2048, 640]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S3200x1024, .f32⟩
  | .hbm, ⟨2, _⟩ => ⟨S2048x1024, .bf16⟩
  | .hbm, ⟨3, _⟩ => ⟨S3200x1024, .bf16⟩
  | .hbm, ⟨4, _⟩ => ⟨S2048x3200, .f32⟩
  | .local _ .vmem, ⟨0, _⟩ => ⟨S2048x1024, .bf16⟩
  | .local _ .vmem, ⟨1, _⟩ => ⟨S640x1024, .bf16⟩
  | .local _ .vmem, ⟨2, _⟩ => ⟨S640x1024, .bf16⟩
  | .local _ .vmem, ⟨3, _⟩ => ⟨S2048x640, .f32⟩
  | .local _ .vmem, ⟨4, _⟩ => ⟨S2048x640, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmColsRefIdeal.lean ====
abbrev S2048x1024 : Shape := ⟨2, ![2048, 1024]⟩
abbrev S3200x1024 : Shape := ⟨2, ![3200, 1024]⟩
abbrev S1024x3200 : Shape := ⟨2, ![1024, 3200]⟩
abbrev S2048x3200 : Shape := ⟨2, ![2048, 3200]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3200x1024, .f32⟩
  | .hbm, ⟨2, _⟩ => ⟨S1024x3200, .f32⟩
  | .hbm, ⟨3, _⟩ => ⟨S2048x3200, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmRows.lean ====
abbrev S2048x3200 : Shape := ⟨2, ![2048, 3200]⟩
abbrev S2048x1024 : Shape := ⟨2, ![2048, 1024]⟩
abbrev S3200x1024 : Shape := ⟨2, ![3200, 1024]⟩
abbrev S2048x640 : Shape := ⟨2, ![2048, 640]⟩
abbrev S640x1024 : Shape := ⟨2, ![640, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x3200, .f32⟩
  | .hbm, ⟨1, _⟩ => ⟨S2048x1024, .f32⟩
  | .hbm, ⟨2, _⟩ => ⟨S2048x3200, .bf16⟩
  | .hbm, ⟨3, _⟩ => ⟨S2048x1024, .bf16⟩
  | .hbm, ⟨4, _⟩ => ⟨S3200x1024, .f32⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S640x1024, .f32⟩
  | .local _ .vmem, ⟨4, _⟩ => ⟨S640x1024, .f32⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmRowsRefIdeal.lean ====
abbrev S2048x3200 : Shape := ⟨2, ![2048, 3200]⟩
abbrev S2048x1024 : Shape := ⟨2, ![2048, 1024]⟩
abbrev S3200x2048 : Shape := ⟨2, ![3200, 2048]⟩
abbrev S3200x1024 : Shape := ⟨2, ![3200, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x3200, .f32⟩
  | .hbm, ⟨1, _⟩ => ⟨S2048x1024, .f32⟩
  | .hbm, ⟨2, _⟩ => ⟨S3200x2048, .f32⟩
  | .hbm, ⟨3, _⟩ => ⟨S3200x1024, .f32⟩
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmNt.lean ====
abbrev S2048x1024 : Shape := ⟨2, ![2048, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== MmNtRefIdeal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .f32⟩
  | .hbm, ⟨3, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmTn.lean ====
abbrev S2048x1024 : Shape := ⟨2, ![2048, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== MmTnRefIdeal.lean ====
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BmmNn.lean ====
abbrev S2048x1024 : Shape := ⟨2, ![2048, 1024]⟩
abbrev S8x1024x256 : Shape := ⟨3, ![8, 1024, 256]⟩
abbrev S8x2048x256 : Shape := ⟨3, ![8, 2048, 256]⟩
abbrev S1x1024x256 : Shape := ⟨3, ![1, 1024, 256]⟩
abbrev S1x2048x256 : Shape := ⟨3, ![1, 2048, 256]⟩
abbrev S1024x256 : Shape := ⟨2, ![1024, 256]⟩
abbrev S2048x256 : Shape := ⟨2, ![2048, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S8x1024x256, .f32⟩
  | .hbm, ⟨2, _⟩ => ⟨S2048x1024, .bf16⟩
  | .hbm, ⟨3, _⟩ => ⟨S8x1024x256, .bf16⟩
  | .hbm, ⟨4, _⟩ => ⟨S8x2048x256, .f32⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x2048x256, .f32⟩
  | .local _ .vmem, ⟨4, _⟩ => ⟨S1x2048x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BmmNnRefIdeal.lean ====
abbrev S2048x1024 : Shape := ⟨2, ![2048, 1024]⟩
abbrev S8x1024x256 : Shape := ⟨3, ![8, 1024, 256]⟩
abbrev S8x256x2048 : Shape := ⟨3, ![8, 256, 2048]⟩
abbrev S8x2048x256 : Shape := ⟨3, ![8, 2048, 256]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1024x256, .f32⟩
  | .hbm, ⟨2, _⟩ => ⟨S8x256x2048, .f32⟩
  | .hbm, ⟨3, _⟩ => ⟨S8x2048x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BmmTn.lean ====
abbrev S2048x1024 : Shape := ⟨2, ![2048, 1024]⟩
abbrev S8x2048x256 : Shape := ⟨3, ![8, 2048, 256]⟩
abbrev S8x1024x256 : Shape := ⟨3, ![8, 1024, 256]⟩
abbrev S1x2048x256 : Shape := ⟨3, ![1, 2048, 256]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S8x2048x256, .f32⟩
  | .hbm, ⟨2, _⟩ => ⟨S2048x1024, .bf16⟩
  | .hbm, ⟨3, _⟩ => ⟨S8x2048x256, .bf16⟩
  | .hbm, ⟨4, _⟩ => ⟨S8x1024x256, .f32⟩
  | .local _ .vmem, ⟨0, _⟩ => ⟨S2048x1024, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x1024x256, .f32⟩
  | .local _ .vmem, ⟨4, _⟩ => ⟨S1x1024x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== BmmTnRefIdeal.lean ====
abbrev S2048x1024 : Shape := ⟨2, ![2048, 1024]⟩
abbrev S8x2048x256 : Shape := ⟨3, ![8, 2048, 256]⟩
abbrev S8x256x1024 : Shape := ⟨3, ![8, 256, 1024]⟩
abbrev S8x1024x256 : Shape := ⟨3, ![8, 1024, 256]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x2048x256, .f32⟩
  | .hbm, ⟨2, _⟩ => ⟨S8x256x1024, .f32⟩
  | .hbm, ⟨3, _⟩ => ⟨S8x1024x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmA3.lean ====
abbrev S8x2048x704 : Shape := ⟨3, ![8, 2048, 704]⟩
abbrev S2048x1024 : Shape := ⟨2, ![2048, 1024]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x704, .f32⟩
  | .hbm, ⟨1, _⟩ => ⟨S2048x1024, .f32⟩
  | .hbm, ⟨2, _⟩ => ⟨S8x2048x704, .bf16⟩
  | .hbm, ⟨3, _⟩ => ⟨S2048x1024, .bf16⟩
  | .hbm, ⟨4, _⟩ => ⟨S8x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .f32⟩
  | .local _ .vmem, ⟨4, _⟩ => ⟨S1x704x1024, .f32⟩
  | _, _ => ⟨S8x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmA3RefIdeal.lean ====
abbrev S8x2048x704 : Shape := ⟨3, ![8, 2048, 704]⟩
abbrev S2048x1024 : Shape := ⟨2, ![2048, 1024]⟩
abbrev S8x704x1024 : Shape := ⟨3, ![8, 704, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x704, .f32⟩
  | .hbm, ⟨1, _⟩ => ⟨S2048x1024, .f32⟩
  | .hbm, ⟨2, _⟩ => ⟨S8x704x1024, .f32⟩
  | _, _ => ⟨S8x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BmmNnSum.lean ====
abbrev S8x2048x704 : Shape := ⟨3, ![8, 2048, 704]⟩
abbrev S8x704x1024 : Shape := ⟨3, ![8, 704, 1024]⟩
abbrev S2048x1024 : Shape := ⟨2, ![2048, 1024]⟩
abbrev S8x512x704 : Shape := ⟨3, ![8, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x704, .f32⟩
  | .hbm, ⟨1, _⟩ => ⟨S8x704x1024, .f32⟩
  | .hbm, ⟨2, _⟩ => ⟨S8x2048x704, .bf16⟩
  | .hbm, ⟨3, _⟩ => ⟨S8x704x1024, .bf16⟩
  | .hbm, ⟨4, _⟩ => ⟨S2048x1024, .f32⟩
  | .local _ .vmem, ⟨0, _⟩ => ⟨S8x512x704, .bf16⟩
  | .local _ .vmem, ⟨1, _⟩ => ⟨S8x512x704, .bf16⟩
  | .local _ .vmem, ⟨2, _⟩ => ⟨S8x704x1024, .bf16⟩
  | .local _ .vmem, ⟨3, _⟩ => ⟨S512x1024, .f32⟩
  | .local _ .vmem, ⟨4, _⟩ => ⟨S512x1024, .f32⟩
  | _, _ => ⟨S8x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BmmNnSumRefIdeal.lean ====
abbrev S8x2048x704 : Shape := ⟨3, ![8, 2048, 704]⟩
abbrev S8x704x1024 : Shape := ⟨3, ![8, 704, 1024]⟩
abbrev S8x2048x1024 : Shape := ⟨3, ![8, 2048, 1024]⟩
abbrev S_ : Shape := ⟨0, ![]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x2048x704, .f32⟩
  | .hbm, ⟨1, _⟩ => ⟨S8x704x1024, .f32⟩
  | .hbm, ⟨2, _⟩ => ⟨S8x2048x1024, .f32⟩
  | .hbm, ⟨3, _⟩ => ⟨S_, .f32⟩
  | .hbm, ⟨4, _⟩ => ⟨S2048x1024, .f32⟩
  | _, _ => ⟨S8x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== BmmNtSum.lean ====
abbrev S8x2048x256 : Shape := ⟨3, ![8, 2048, 256]⟩
abbrev S8x1024x256 : Shape := ⟨3, ![8, 1024, 256]⟩
abbrev S2048x1024 : Shape := ⟨2, ![2048, 1024]⟩
abbrev S8x512x256 : Shape := ⟨3, ![8, 512, 256]⟩
abbrev S512x1024 : Shape := ⟨2, ![512, 1024]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x256, .f32⟩
  | .hbm, ⟨1, _⟩ => ⟨S8x1024x256, .f32⟩
  | .hbm, ⟨2, _⟩ => ⟨S8x2048x256, .bf16⟩
  | .hbm, ⟨3, _⟩ => ⟨S8x1024x256, .bf16⟩
  | .hbm, ⟨4, _⟩ => ⟨S2048x1024, .f32⟩
  | .local _ .vmem, ⟨0, _⟩ => ⟨S8x512x256, .bf16⟩
  | .local _ .vmem, ⟨1, _⟩ => ⟨S8x512x256, .bf16⟩
  | .local _ .vmem, ⟨2, _⟩ => ⟨S8x1024x256, .bf16⟩
  | .local _ .vmem, ⟨3, _⟩ => ⟨S512x1024, .f32⟩
  | .local _ .vmem, ⟨4, _⟩ => ⟨S512x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BmmNtSumRefIdeal.lean ====
abbrev S8x2048x256 : Shape := ⟨3, ![8, 2048, 256]⟩
abbrev S8x1024x256 : Shape := ⟨3, ![8, 1024, 256]⟩
abbrev S8x2048x1024 : Shape := ⟨3, ![8, 2048, 1024]⟩
abbrev S_ : Shape := ⟨0, ![]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x1024x256, .f32⟩
  | .hbm, ⟨2, _⟩ => ⟨S8x2048x1024, .f32⟩
  | .hbm, ⟨3, _⟩ => ⟨S_, .f32⟩
  | .hbm, ⟨4, _⟩ => ⟨S2048x1024, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== AdamW.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumDev.lean ====
abbrev S8x384x128 : Shape := ⟨3, ![8, 384, 128]⟩
abbrev S384x128 : Shape := ⟨2, ![384, 128]⟩
abbrev S1x384x128 : Shape := ⟨3, ![1, 384, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x384x128, .f32⟩
  | .hbm, ⟨1, _⟩ => ⟨S384x128, .f32⟩
  | .local _ .vmem, ⟨0, _⟩ => ⟨S8x384x128, .f32⟩
  | .local _ .vmem, ⟨1, _⟩ => ⟨S384x128, .f32⟩
  | _, _ => ⟨S8x384x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumDevRefIdeal.lean ====
abbrev S8x384x128 : Shape := ⟨3, ![8, 384, 128]⟩
abbrev S_ : Shape := ⟨0, ![]⟩
abbrev S384x128 : Shape := ⟨2, ![384, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x384x128, .f32⟩
  | .hbm, ⟨1, _⟩ => ⟨S_, .f32⟩
  | .hbm, ⟨2, _⟩ => ⟨S384x128, .f32⟩
  | _, _ => ⟨S8x384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Words.lean ====
/-
  Small facts of index words: the comparison of two row numbers below 2³¹ selects as the numbers compare.
-/
module

public import Idealize.ShloMosaic.Lib.Pointwise
public import Idealize.ShloMosaic.Lib.Tactic.WordOmega

@[expose] public section

namespace Cert.Words

open Idealize.ShloMosaic

/-- The signed value of a number below 2³¹ written in 32 bits is the number. -/
theorem toInt_small (n : ℕ) (h : n < 2147483648) : (BitVec.ofNat 32 n).toInt = n := by
  rw [BitVec.toInt_ofNat', Int.bmod_def]
  omega

/-- A select under «n at least d» is the case distinction on the numbers. -/
theorem sel_sge {α : Type} (n d : ℕ) (hn : n < 2147483648) (hd : d < 2147483648) (a b : α) :
    Scalar.select (IntOp.cmpi .sge (BitVec.ofNat 32 n) (BitVec.ofNat 32 d)) a b = if d ≤ n then a else b := by
  simp only [Scalar.select, IntOp.cmpi, BitVec.sle, toInt_small n hn, toInt_small d hd]
  by_cases h : d ≤ n <;> simp [h]

/-- A select under «n below d» is the case distinction on the numbers. -/
theorem sel_slt {α : Type} (n d : ℕ) (hn : n < 2147483648) (hd : d < 2147483648) (a b : α) :
    Scalar.select (IntOp.cmpi .slt (BitVec.ofNat 32 n) (BitVec.ofNat 32 d)) a b = if n < d then a else b := by
  simp only [Scalar.select, IntOp.cmpi, BitVec.slt, toInt_small n hn, toInt_small d hd]
  by_cases h : n < d <;> simp [h]

/-- A select under «n is d» is the case distinction on the numbers. -/
theorem sel_eq {α : Type} (n d : ℕ) (hn : n < 2147483648) (hd : d < 2147483648) (a b : α) :
    Scalar.select (IntOp.cmpi .eq (BitVec.ofNat 32 n) (BitVec.ofNat 32 d)) a b = if n = d then a else b := by
  have e : BitVec.ofNat 32 n = BitVec.ofNat 32 d ↔ n = d :=
    ⟨fun h => by have := congrArg BitVec.toInt h; rw [toInt_small n hn, toInt_small d hd] at this; omega, fun h => h ▸ rfl⟩
  by_cases h : n = d
  · subst h; simp [Scalar.select, IntOp.cmpi]
  · have := beq_eq_false_iff_ne.mpr (mt e.mp h)
    simp only [Scalar.select, IntOp.cmpi, this, if_neg h]
    rfl

/-- A sum of three, read from its last term to its first. -/
theorem add_rev (a b c : EReal) : a + b + c = c + b + a := by
  rw [add_comm a b, add_comm (b + a) c, add_assoc]

end Cert.Words
-- ==== Proof.SconvValue.lean ====
/-
  The short convolution's backward call at `Ideal`: what each of the four result arrays holds after the run, index by
  index, and that the reference's term is the same.
-/
module

public import proofs.«01_k».proof.Defs
public import proofs.«01_k».proof.Proof.Gen.SconvIdeal.Value
public import proofs.«01_k».proof.Proof.Gen.SconvRefIdeal.Run
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Words

@[expose] public section

set_option maxRecDepth 16384

noncomputable section

namespace Cert.SconvIdeal.Hand

open Cert.SconvIdeal Cert.SconvIdeal.Gen Idealize.ShloMosaic Idealize.ShloMosaic.TcCoe Idealize.SL.Sem
open Idealize.ShloMosaic.Pipeline (Dat)

variable (m : (ℓ : Loc nD τ sig) → Buf (Elt Ideal) ℓ)

/-- Row `r` and column `l` of the causal product `c·u`, shifted down `d` rows: zero in the first `d` rows. -/
def zs (x : S2048x3080.Idx → EReal) (d : Nat) (r : Fin 2048) (l : Fin 512) : EReal :=
  if d ≤ r.val then x (ix2 ⟨r.val - d, by omega⟩ ⟨2056 + l.val, by omega⟩) * x (ix2 ⟨r.val - d, by omega⟩ ⟨2568 + l.val, by omega⟩)
  else 0

/-- The gate's gradient. -/
def db (x : S2048x3080.Idx → EReal) (w : S3x512.Idx → EReal) (dc : S2048x1024.Idx → EReal) : S2048x512.Idx → EReal := fun j =>
  dc (ix2 (j 0) ⟨512 + (j 1).val, by have := (j 1).isLt; change (j 1).val < 512 at this; omega⟩) *
    (w (ix2 2 (j 1)) * zs x 0 (j 0) (j 1) + w (ix2 1 (j 1)) * zs x 1 (j 0) (j 1) + w (ix2 0 (j 1)) * zs x 2 (j 0) (j 1))

/-- The convolution's cotangent at row `r`, column `l`: the output cotangent times the gate. -/
def dcv (x : S2048x3080.Idx → EReal) (dc : S2048x1024.Idx → EReal) (r : Fin 2048) (l : Fin 512) : EReal :=
  dc (ix2 r ⟨512 + l.val, by omega⟩) * x (ix2 r ⟨1544 + l.val, by omega⟩)

theorem idx8 : ∀ t : Fin grid0.N, win0_8.index t = ![0, t.val] := by decide +kernel
theorem idx7 : ∀ t : Fin grid0.N, win0_7.index t = ![0, t.val] := by decide +kernel
theorem idx6 : ∀ t : Fin grid0.N, win0_6.index t = ![0, t.val] := by decide +kernel
theorem idx5 : ∀ t : Fin grid0.N, win0_5.index t = ![0, t.val] := by decide +kernel
theorem idx4 : ∀ t : Fin grid0.N, win0_4.index t = ![0, 4 + t.val] := by decide +kernel
theorem idx3 : ∀ t : Fin grid0.N, win0_3.index t = ![0, t.val] := by decide +kernel
theorem idx2 : ∀ t : Fin grid0.N, win0_2.index t = ![0, 20 + t.val] := by decide +kernel
theorem idx1 : ∀ t : Fin grid0.N, win0_1.index t = ![0, 16 + t.val] := by decide +kernel
theorem idx0 : ∀ t : Fin grid0.N, win0_0.index t = ![0, 12 + t.val] := by decide +kernel

/-- Column `l` of chunk `t`. -/
abbrev col (t : Fin cfg0.N) (l : Fin 128) : Fin 512 := ⟨128 * t.val + l.val, by have := t.isLt; have h : cfg0.N = 4 := N_0; omega⟩

theorem blk4 (c : Dev nD) (t : Fin cfg0.N) (r : Fin 2048) (l : Fin 128) :
    iblk m c 4 t (ix2 r l) = m ((c : Thread nD τ).loc main_arg2) (ix2 r ⟨512 + (col t l).val, by omega⟩) := by
  blk_point [iblk, V, idx4 t]
theorem blk3 (c : Dev nD) (t : Fin cfg0.N) (r : Fin 3) (l : Fin 128) :
    iblk m c 3 t (ix2 r l) = m ((c : Thread nD τ).loc main_arg1) (ix2 r (col t l)) := by
  blk_point [iblk, V, idx3 t]
/-- The packed projection holds the three convolution groups from column 1536 on. -/
theorem packed (c : Dev nD) (r : Fin 2048) (k : Fin 1536) :
    V m c main_v4 (ix2 r ⟨1536 + k.val, by omega⟩) = m ((c : Thread nD τ).loc main_arg0) (ix2 r ⟨1544 + k.val, by omega⟩) := by
  unfold V
  after_results_simp
  clean_types
  pointwise
  after_results_simp
  clean_types
  pointwise
theorem blk2 (c : Dev nD) (t : Fin cfg0.N) (r : Fin 2048) (l : Fin 128) :
    iblk m c 2 t (ix2 r l) = m ((c : Thread nD τ).loc main_arg0) (ix2 r ⟨2568 + (col t l).val, by omega⟩) := by
  refine Eq.trans ?_ ((packed m c r ⟨1024 + (col t l).val, by omega⟩).trans ?_)
  · blk_point [iblk, idx2 t]
  · blk_point
theorem blk1 (c : Dev nD) (t : Fin cfg0.N) (r : Fin 2048) (l : Fin 128) :
    iblk m c 1 t (ix2 r l) = m ((c : Thread nD τ).loc main_arg0) (ix2 r ⟨2056 + (col t l).val, by omega⟩) := by
  refine Eq.trans ?_ ((packed m c r ⟨512 + (col t l).val, by omega⟩).trans ?_)
  · blk_point [iblk, idx1 t]
  · blk_point
theorem emb5 (t : Fin cfg0.N) (r : Fin 2048) (l : Fin 128) : ((View.whole main_v5_0).slice (win0_5.rect t)).emb (ix2 r l) = ix2 r (col t l) := by
  blk_point [idx5 t]

theorem db_eq (c : Dev nD) : (dats m 0 c).arrAt 5 cfg0.N =
    db (m ((c : Thread nD τ).loc main_arg0)) (m ((c : Thread nD τ).loc main_arg1)) (m ((c : Thread nD τ).loc main_arg2)) := by
  refine Dat.arrAt_eq_of_covers (dats m 0 c) 5 _ (by decide +kernel) fun t hf y => ?_
  blk_simp
  rw [after0_5]
  frame_out
  idx_vars y
  unfold_payloads
  rw [emb5]
  pointwise [db, zs]
  rw [Words.sel_sge _ 1 (by omega) (by omega), Words.sel_sge _ 2 (by omega) (by omega)]
  rw [blk4, blk3, blk3, blk3, blk2, blk2, blk2, blk1, blk1, blk1]
  by_cases h1 : 1 ≤ y0.val <;> by_cases h2 : 2 ≤ y0.val <;> first | omega | simp only [if_pos, if_neg, h1, h2, not_false_eq_true, mul_zero]
  all_goals blk_point

/-- The gradient of the causal product `c·u`: the scaled cotangents of this row and the two below it, those past the end zero. -/
def dz (x : S2048x3080.Idx → EReal) (w : S3x512.Idx → EReal) (dc : S2048x1024.Idx → EReal) (r : Fin 2048) (l : Fin 512) : EReal :=
  w (ix2 2 l) * dcv x dc r l + (if h : r.val < 2047 then w (ix2 1 l) * dcv x dc ⟨r.val + 1, by omega⟩ l else 0)
    + (if h : r.val < 2046 then w (ix2 0 l) * dcv x dc ⟨r.val + 2, by omega⟩ l else 0)

/-- The gradient of `c`. -/
def dcg (x : S2048x3080.Idx → EReal) (w : S3x512.Idx → EReal) (dc : S2048x1024.Idx → EReal) : S2048x512.Idx → EReal := fun j =>
  dz x w dc (j 0) (j 1) * x (ix2 (j 0) ⟨2568 + (j 1).val, by have := (j 1).isLt; change (j 1).val < 512 at this; omega⟩)

/-- The gradient of `u`. -/
def dug (x : S2048x3080.Idx → EReal) (w : S3x512.Idx → EReal) (dc : S2048x1024.Idx → EReal) : S2048x512.Idx → EReal := fun j =>
  dz x w dc (j 0) (j 1) * x (ix2 (j 0) ⟨2056 + (j 1).val, by have := (j 1).isLt; change (j 1).val < 512 at this; omega⟩)

/-- The taps' gradient: tap `k` meets the product shifted down `2 - k` rows. -/
def dwg (x : S2048x3080.Idx → EReal) (dc : S2048x1024.Idx → EReal) : S3x512.Idx → EReal := fun j =>
  ∑ r : Fin 2048, dcv x dc r (j 1) * zs x (2 - (j 0).val) r (j 1)

theorem blk0 (c : Dev nD) (t : Fin cfg0.N) (r : Fin 2048) (l : Fin 128) :
    iblk m c 0 t (ix2 r l) = m ((c : Thread nD τ).loc main_arg0) (ix2 r ⟨1544 + (col t l).val, by omega⟩) := by
  refine Eq.trans ?_ ((packed m c r ⟨0 + (col t l).val, by omega⟩).trans ?_)
  · blk_point [iblk, idx0 t]
  · blk_point
theorem emb6 (t : Fin cfg0.N) (r : Fin 2048) (l : Fin 128) : ((View.whole main_v5_1).slice (win0_6.rect t)).emb (ix2 r l) = ix2 r (col t l) := by
  blk_point [idx6 t]
theorem emb7 (t : Fin cfg0.N) (r : Fin 2048) (l : Fin 128) : ((View.whole main_v5_2).slice (win0_7.rect t)).emb (ix2 r l) = ix2 r (col t l) := by
  blk_point [idx7 t]
theorem emb8 (t : Fin cfg0.N) (r : Fin 3) (l : Fin 128) : ((View.whole main_v5_3).slice (win0_8.rect t)).emb (ix2 r l) = ix2 r (col t l) := by
  blk_point [idx8 t]

theorem dcg_eq (c : Dev nD) : (dats m 0 c).arrAt 6 cfg0.N =
    dcg (m ((c : Thread nD τ).loc main_arg0)) (m ((c : Thread nD τ).loc main_arg1)) (m ((c : Thread nD τ).loc main_arg2)) := by
  refine Dat.arrAt_eq_of_covers (dats m 0 c) 6 _ (by decide +kernel) fun t hf y => ?_
  blk_simp
  rw [after0_6]
  frame_out
  idx_vars y
  unfold_payloads
  rw [emb6]
  pointwise [dcg, dz, dcv]
  rw [Words.sel_slt _ 2047 (by omega) (by omega), Words.sel_slt _ 2046 (by omega) (by omega)]
  rw [blk4, blk4, blk4, blk3, blk3, blk3, blk2, blk0, blk0, blk0]
  by_cases h1 : y0.val < 2047 <;> by_cases h2 : y0.val < 2046 <;> first | omega | simp only [↓reduceIte, ↓reduceDIte, h1, h2]
  all_goals blk_point

theorem dug_eq (c : Dev nD) : (dats m 0 c).arrAt 7 cfg0.N =
    dug (m ((c : Thread nD τ).loc main_arg0)) (m ((c : Thread nD τ).loc main_arg1)) (m ((c : Thread nD τ).loc main_arg2)) := by
  refine Dat.arrAt_eq_of_covers (dats m 0 c) 7 _ (by decide +kernel) fun t hf y => ?_
  blk_simp
  rw [after0_7]
  frame_out
  idx_vars y
  unfold_payloads
  rw [emb7]
  pointwise [dug, dz, dcv]
  rw [Words.sel_slt _ 2047 (by omega) (by omega), Words.sel_slt _ 2046 (by omega) (by omega)]
  rw [blk4, blk4, blk4, blk3, blk3, blk3, blk1, blk0, blk0, blk0]
  by_cases h1 : y0.val < 2047 <;> by_cases h2 : y0.val < 2046 <;> first | omega | simp only [↓reduceIte, ↓reduceDIte, h1, h2]
  all_goals blk_point

theorem dwg_eq (c : Dev nD) : (dats m 0 c).arrAt 8 cfg0.N =
    dwg (m ((c : Thread nD τ).loc main_arg0)) (m ((c : Thread nD τ).loc main_arg2)) := by
  refine Dat.arrAt_eq_of_covers (dats m 0 c) 8 _ (by decide +kernel) fun t hf y => ?_
  blk_simp
  rw [after0_8]
  frame_out
  idx_vars y
  rw [emb8]
  canon_tiles x h
  all_goals
    idx_vars x
    unfold_payloads
    pointwise [dwg, zs, dcv]
    simp only [ix2, Matrix.cons_val_zero, Matrix.cons_val_one] at h0 h1
    refine Finset.sum_congr rfl fun k _ => ?_
  · rw [blk4, blk0, blk1, blk2, if_pos (by omega)]
    blk_point
  all_goals
    first | rw [Words.sel_sge _ 1 (by omega) (by omega)] | rw [Words.sel_sge _ 2 (by omega) (by omega)]
    rw [blk4, blk0, blk1, blk2]
    split_ifs
    all_goals first | (exfalso; omega) | (simp only [mul_zero]; done) | blk_point

end Cert.SconvIdeal.Hand
-- ==== Proof.SconvPair.lean ====
/-
  The short convolution's backward call: the reference's composed terms, read at an index, are the values of the kernel's
  result arrays.
-/
module

public import proofs.«01_k».proof.Proof.SconvValue
public import Idealize.ShloMosaic.Lib.Quiescent

@[expose] public section

set_option maxRecDepth 16384

noncomputable section

namespace Cert.SconvIdeal.Hand

open Cert.SconvIdeal Cert.SconvIdeal.Gen Idealize.ShloMosaic Idealize.ShloMosaic.TcCoe Idealize.SL.Sem

theorem dcv_comm (x : S2048x3080.Idx → EReal) (dc : S2048x1024.Idx → EReal) (r : Fin 2048) (l : Fin 512) :
    dcv x dc r l = x (ix2 r ⟨1544 + l.val, by omega⟩) * dc (ix2 r ⟨512 + l.val, by omega⟩) := mul_comm _ _

set_option maxHeartbeats 4000000 in
/-- At `Ideal` the kernel's four results are the reference's, whatever the arguments hold. -/
theorem algebraic : Cert.algebraic_SconvIdeal_SconvRefIdeal := by
  pair_intro
  · run_from (Cert.SconvIdeal.Value.run_blocks m g)
  · run_from (Cert.SconvRefIdeal.Value.run m' g')
    · rw [db_eq]
      funext j
      idx_vars j
      pointwise [db, zs]
      refine Ideal.mul_congr rfl ((Words.add_rev _ _ _).trans ?_)
      by_cases h1 : 1 ≤ j0.val <;> by_cases h2 : 2 ≤ j0.val <;> first | omega | simp (disch := omega) only [dif_pos, dif_neg, if_pos, if_neg]
      all_goals blk_point
    · rw [dcg_eq]
      funext j
      idx_vars j
      pointwise [dcg, dz, dcv_comm]
      by_cases h1 : j0.val < 2047 <;> by_cases h2 : j0.val < 2046 <;> first | omega | simp (disch := omega) only [dif_pos, dif_neg]
      all_goals blk_point
    · rw [dug_eq]
      funext j
      idx_vars j
      pointwise [dug, dz, dcv_comm]
      by_cases h1 : j0.val < 2047 <;> by_cases h2 : j0.val < 2046 <;> first | omega | simp (disch := omega) only [dif_pos, dif_neg]
      all_goals blk_point
    · rw [dwg_eq]
      funext j
      idx_vars j
      pointwise [dwg, zs, dcv_comm]
      fin_vals j0 with hk
      all_goals simp (disch := omega) only [dif_pos, dif_neg, hk, add_zero, zero_add, Fin.sum_univ_one, Finset.univ_unique, Finset.sum_singleton]
      · refine Eq.trans ?_ (Fin.sum_univ_two_halves 2 2046 rfl _).symm
        refine Ideal.add_congr (Finset.sum_congr rfl fun k _ => ?_) (Finset.sum_congr rfl fun k _ => ?_)
        all_goals
          dsimp only
          simp (disch := omega) only [if_pos, if_neg]
          try blk_point
      all_goals
        refine Finset.sum_congr rfl fun k _ => ?_
        by_cases h1 : 1 ≤ k.val
        all_goals
          simp (disch := omega) only [dif_pos, dif_neg, if_pos, if_neg]
          try blk_point
/-- The reference runs to the end, leaves its arguments as they were and every counter at zero. -/
theorem frameRef : Cert.quiescent_SconvRefIdeal :=
  fun m g _ => θ_run_mono (Cert.SconvRefIdeal.Value.run m g) fun _ h => ⟨fun c => (h c).2.2.2.2, sem_eq_zero_of_no_sems (by decide) _⟩

end Cert.SconvIdeal.Hand
-- ==== Proof.LruConvValue.lean ====
/-
  The recurrent block's convolution, backward, at `Ideal`: what each of the three result arrays holds after the run, index by
  index.
-/
module

public import proofs.«01_k».proof.Defs
public import proofs.«01_k».proof.Proof.Gen.LruConvIdeal.Value
public import proofs.«01_k».proof.Proof.Gen.LruConvRefIdeal.Run
public import Idealize.ShloMosaic.Lib.Pipeline.ValueKit
public import Idealize.ShloMosaic.Lib.Pointwise
public import Idealize.ShloMosaic.Lib.Claim
public import proofs.«01_k».proof.Proof.Words

@[expose] public section

set_option maxRecDepth 16384

noncomputable section

namespace Cert.LruConvIdeal.Hand

open Cert.LruConvIdeal Cert.LruConvIdeal.Gen Idealize.ShloMosaic Idealize.ShloMosaic.TcCoe Idealize.SL.Sem
open Idealize.ShloMosaic.Pipeline (Dat)

variable (m : (ℓ : Loc nD τ sig) → Buf (Elt Ideal) ℓ)

/-- The convolution's cotangent: the scan's and the gate's cotangents together. -/
def du (p q : S2048x1024.Idx → EReal) (r : Fin 2048) (l : Fin 1024) : EReal := p (ix2 r l) + q (ix2 r l)

/-- Row `r` of the convolved input, shifted down `d` rows: zero in the first `d` rows. -/
def xs (x : S2048x2048.Idx → EReal) (d : Nat) (r : Fin 2048) (l : Fin 1024) : EReal :=
  if d ≤ r.val then x (ix2 ⟨r.val - d, by omega⟩ ⟨1024 + l.val, by omega⟩) else 0

/-- Tap `3 - d` times the cotangent `d` rows below, zero past the end. -/
def tap (w : S4x1024.Idx → EReal) (p q : S2048x1024.Idx → EReal) (d : Fin 4) (r : Fin 2048) (l : Fin 1024) : EReal :=
  if h : r.val < 2048 - d.val then w (ix2 ⟨3 - d.val, by omega⟩ l) * du p q ⟨r.val + d.val, by omega⟩ l else 0

/-- The input's gradient at row `r`, column `l`. -/
def dx (w : S4x1024.Idx → EReal) (p q : S2048x1024.Idx → EReal) (r : Fin 2048) (l : Fin 1024) : EReal :=
  tap w p q 0 r l + tap w p q 1 r l + tap w p q 2 r l + tap w p q 3 r l

/-- The input's gradient, its columns in four groups of 256. -/
def dxg (w : S4x1024.Idx → EReal) (p q : S2048x1024.Idx → EReal) : S4x2048x256.Idx → EReal := fun j =>
  dx w p q (j 1) ⟨256 * (j 0).val + (j 2).val, by
    have := (j 0).isLt; have := (j 2).isLt; change (j 0).val < 4 at *; change (j 2).val < 256 at *; omega⟩

/-- The taps' gradient: tap `k` meets the input shifted down `3 - k` rows. -/
def dwg (x : S2048x2048.Idx → EReal) (p q : S2048x1024.Idx → EReal) : S4x1024.Idx → EReal := fun j =>
  ∑ r : Fin 2048, du p q r (j 1) * xs x (3 - (j 0).val) r (j 1)

/-- The bias gradient. -/
def dbg (p q : S2048x1024.Idx → EReal) : S1x1024.Idx → EReal := fun j => ∑ r : Fin 2048, du p q r (j 1)

theorem idx0 : ∀ t : Fin grid0.N, win0_0.index t = ![t.val / 2, 0, t.val % 2] := by decide +kernel
theorem idx1 : ∀ t : Fin grid0.N, win0_1.index t = ![t.val / 2, 0, t.val % 2] := by decide +kernel
theorem idx2 : ∀ t : Fin grid0.N, win0_2.index t = ![4 + t.val / 2, 0, t.val % 2] := by decide +kernel
theorem idx3 : ∀ t : Fin grid0.N, win0_3.index t = ![0, t.val] := by decide +kernel
theorem idx4 : ∀ t : Fin grid0.N, win0_4.index t = ![t.val / 2, 0, t.val % 2] := by decide +kernel
theorem idx5 : ∀ t : Fin grid0.N, win0_5.index t = ![0, t.val] := by decide +kernel
theorem idx6 : ∀ t : Fin grid0.N, win0_6.index t = ![0, t.val] := by decide +kernel

theorem lt8 (t : Fin cfg0.N) : t.val < 8 := by have := t.isLt; have h : cfg0.N = 8 := N_0; omega

/-- Column `l` of chunk `t`. -/
abbrev col (t : Fin cfg0.N) (l : Fin 128) : Fin 1024 := ⟨128 * t.val + l.val, by have := lt8 t; omega⟩

theorem blk0 (c : Dev nD) (t : Fin cfg0.N) (r : Fin 2048) (l : Fin 128) :
    iblk m c 0 t (ix3 0 r l) = m ((c : Thread nD τ).loc main_arg2) (ix2 r (col t l)) := by
  have := lt8 t
  blk_point [iblk, V, idx0 t]
theorem blk1 (c : Dev nD) (t : Fin cfg0.N) (r : Fin 2048) (l : Fin 128) :
    iblk m c 1 t (ix3 0 r l) = m ((c : Thread nD τ).loc main_arg3) (ix2 r (col t l)) := by
  have := lt8 t
  blk_point [iblk, V, idx1 t]
theorem blk2 (c : Dev nD) (t : Fin cfg0.N) (r : Fin 2048) (l : Fin 128) :
    iblk m c 2 t (ix3 0 r l) = m ((c : Thread nD τ).loc main_arg0) (ix2 r ⟨1024 + (col t l).val, by have := lt8 t; omega⟩) := by
  have := lt8 t
  blk_point [iblk, V, idx2 t]
theorem blk3 (c : Dev nD) (t : Fin cfg0.N) (r : Fin 4) (l : Fin 128) :
    iblk m c 3 t (ix2 r l) = m ((c : Thread nD τ).loc main_arg1) (ix2 r (col t l)) := by
  blk_point [iblk, V, idx3 t]
theorem emb4 (t : Fin cfg0.N) (r : Fin 2048) (l : Fin 128) : ((View.whole main_v6_0).slice (win0_4.rect t)).emb (ix3 0 r l) =
    ix3 ⟨t.val / 2, by have := lt8 t; omega⟩ r ⟨128 * (t.val % 2) + l.val, by omega⟩ := by
  blk_point [idx4 t]
theorem emb5 (t : Fin cfg0.N) (r : Fin 4) (l : Fin 128) : ((View.whole main_v6_1).slice (win0_5.rect t)).emb (ix2 r l) = ix2 r (col t l) := by
  blk_point [idx5 t]
theorem emb6 (t : Fin cfg0.N) (r : Fin 1) (l : Fin 128) : ((View.whole main_v6_2).slice (win0_6.rect t)).emb (ix2 r l) = ix2 r (col t l) := by
  blk_point [idx6 t]

theorem dbg_eq (c : Dev nD) : (dats m 0 c).arrAt 6 cfg0.N =
    dbg (m ((c : Thread nD τ).loc main_arg2)) (m ((c : Thread nD τ).loc main_arg3)) := by
  refine Dat.arrAt_eq_of_covers (dats m 0 c) 6 _ (by decide +kernel) fun t hf y => ?_
  blk_simp
  rw [after0_6]
  frame_out
  idx_vars y
  unfold_payloads
  rw [emb6]
  pointwise [dbg, du]
  change (_ : EReal) = _
  refine Finset.sum_congr rfl fun k _ => ?_
  rw [blk0, blk1]

theorem dwg_eq (c : Dev nD) : (dats m 0 c).arrAt 5 cfg0.N =
    dwg (m ((c : Thread nD τ).loc main_arg0)) (m ((c : Thread nD τ).loc main_arg2)) (m ((c : Thread nD τ).loc main_arg3)) := by
  refine Dat.arrAt_eq_of_covers (dats m 0 c) 5 _ (by decide +kernel) fun t hf y => ?_
  blk_simp
  rw [after0_5]
  frame_out
  idx_vars y
  rw [emb5]
  canon_tiles x h
  all_goals
    idx_vars x
    unfold_payloads
    pointwise [dwg, du, xs]
    simp only [ix2, Matrix.cons_val_zero, Matrix.cons_val_one] at h0 h1
    refine Finset.sum_congr rfl fun k _ => ?_
  all_goals
    first | rw [Words.sel_sge _ 1 (by omega) (by omega)] | rw [Words.sel_sge _ 2 (by omega) (by omega)] | rw [Words.sel_sge _ 3 (by omega) (by omega)] | skip
    rw [blk0, blk1, blk2]
    by_cases h : (3 - y0.val) ≤ k.val <;> simp (disch := omega) only [if_pos, if_neg, mul_zero]
    all_goals first | omega | blk_point

theorem dxg_eq (c : Dev nD) : (dats m 0 c).arrAt 4 cfg0.N =
    dxg (m ((c : Thread nD τ).loc main_arg1)) (m ((c : Thread nD τ).loc main_arg2)) (m ((c : Thread nD τ).loc main_arg3)) := by
  refine Dat.arrAt_eq_of_covers (dats m 0 c) 4 _ (by decide +kernel) fun t hf y => ?_
  blk_simp
  rw [after0_4]
  frame_out
  idx_vars y
  unfold_payloads
  obtain rfl : y0 = 0 := Subsingleton.elim _ _
  rw [emb4]
  have := lt8 t
  pointwise [dxg, dx, tap, du]
  rw [Words.sel_slt _ 2047 (by omega) (by omega), Words.sel_slt _ 2046 (by omega) (by omega), Words.sel_slt _ 2045 (by omega) (by omega)]
  simp only [blk0, blk1, blk3]
  by_cases h1 : y1.val < 2047 <;> by_cases h2 : y1.val < 2046 <;> by_cases h3 : y1.val < 2045 <;>
    first | omega | simp (disch := omega) only [dif_pos, dif_neg, if_pos, if_neg, mul_zero]
  all_goals blk_point

end Cert.LruConvIdeal.Hand
-- ==== Proof.LruConvPair.lean ====
/-
  The recurrent block's convolution, backward: the reference's composed terms, read at an index, are the values of the
  kernel's result arrays.
-/
module

public import proofs.«01_k».proof.Proof.LruConvValue
public import Idealize.ShloMosaic.Lib.Quiescent

@[expose] public section

set_option maxRecDepth 16384

noncomputable section

namespace Cert.LruConvIdeal.Hand

open Cert.LruConvIdeal Cert.LruConvIdeal.Gen Idealize.ShloMosaic Idealize.ShloMosaic.TcCoe Idealize.SL.Sem

set_option maxHeartbeats 4000000 in
/-- At `Ideal` the kernel's three results are the reference's, whatever the arguments hold. -/
theorem algebraic : Cert.algebraic_LruConvIdeal_LruConvRefIdeal := by
  pair_intro
  · run_from (Cert.LruConvIdeal.Value.run_blocks m g)
  · run_from (Cert.LruConvRefIdeal.Value.run m' g')
    · rw [dxg_eq]
      funext j
      idx_vars j
      pointwise [dxg, dx, tap, du]
      by_cases h1 : j1.val < 2047 <;> by_cases h2 : j1.val < 2046 <;> by_cases h3 : j1.val < 2045 <;>
        first | omega | simp (disch := omega) only [dif_pos, dif_neg]
      all_goals blk_point
    · rw [dwg_eq]
      funext j
      idx_vars j
      pointwise [dwg, xs, du]
      fin_vals j0 with hk
      all_goals simp (disch := omega) only [dif_pos, dif_neg, hk, add_zero, zero_add, Fin.sum_univ_one, Finset.univ_unique, Finset.sum_singleton]
      · refine Eq.trans ?_ (Fin.sum_univ_two_halves 3 2045 rfl _).symm
        refine Ideal.add_congr (Finset.sum_congr rfl fun k _ => ?_) (Finset.sum_congr rfl fun k _ => ?_)
        all_goals
          dsimp only
          simp (disch := omega) only [if_pos, if_neg]
          try blk_point
      all_goals
        change (_ : EReal) = _
        refine Finset.sum_congr rfl fun k _ => ?_
        by_cases h1 : (3 - j0.val) ≤ k.val
        all_goals
          simp (disch := omega) only [dif_pos, dif_neg, if_pos, if_neg]
          try blk_point
    · rw [dbg_eq]
      funext j
      idx_vars j
      pointwise [dbg, du]
      exact Fin.sum_univ_one _

/-- The reference runs to the end, leaves its arguments as they were and every counter at zero. -/
theorem frameRef : Cert.quiescent_LruConvRefIdeal :=
  fun m g _ => θ_run_mono (Cert.LruConvRefIdeal.Value.run m g) fun _ h => ⟨fun c => (h c).2.2.2, sem_eq_zero_of_no_sems (by decide) _⟩

end Cert.LruConvIdeal.Hand
-- ==== Proof.Reals.lean ====
/-
  Real numbers inside the extended reals: when every argument is real, so is what the programs compute from it.
-/
module

public import Idealize.ShloMosaic.Lib.Pointwise

@[expose] public section

noncomputable section

namespace Cert.Reals

open Idealize.ShloMosaic

/-- The f32 word of minus infinity. -/
theorem ofBits_bot : Ideal.ofBits FTy.f32 4286578688#32 = ⊥ := by simp [Ideal.ofBits, Ideal.ieee]

/-- The f32 word of plus infinity. -/
theorem ofBits_top : Ideal.ofBits FTy.f32 2139095040#32 = ⊤ := by simp [Ideal.ofBits, Ideal.ieee]

/-- One, by its f32 word. -/
theorem ofBits_one : Ideal.ofBits FTy.f32 1065353216#32 = ((1 : ℝ) : EReal) := by
  simp [Ideal.ofBits, Ideal.ieee, -EReal.coe_mul]; norm_num

/-- The logarithm of a positive real is the real logarithm. -/
theorem log_coe (x : ℝ) (h : 0 < x) : Ideal.log (x : EReal) = (Real.log x : EReal) :=
  if_neg (not_le.mpr h)

/-- One sixteenth, by its f32 word. -/
theorem ofBits_sixteenth : Ideal.ofBits FTy.f32 1031798784#32 = ((1 / 16 : ℝ) : EReal) := by
  simp [Ideal.ofBits, Ideal.ieee, -EReal.coe_mul]; norm_num

theorem exp_coe (r : ℝ) : Ideal.exp (r : EReal) = (Real.exp r : EReal) := rfl

/-- A quotient of reals, the divisor not zero. -/
theorem div_coe (x y : ℝ) (h : y ≠ 0) : Ideal.div (x : EReal) (y : EReal) = ((x / y : ℝ) : EReal) := by
  unfold Ideal.div
  rw [if_neg (by exact_mod_cast h), div_eq_mul_inv, EReal.coe_mul, EReal.coe_inv]

/-- A finite sum of reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest entry of a row of reals is a real. -/
theorem fold_max {n : Nat} (hn : 0 < n) (f : Fin n → ℝ) :
    ∃ M : ℝ, Finset.fold max (⊥ : EReal) (fun i => ((f i : ℝ) : EReal)) Finset.univ = (M : EReal) := by
  have hne : (Finset.univ : Finset (Fin n)).Nonempty := ⟨⟨0, hn⟩, Finset.mem_univ _⟩
  have key : ∀ s : Finset (Fin n), s.Nonempty → ∃ M : ℝ, Finset.fold max (⊥ : EReal) (fun i => ((f i : ℝ) : EReal)) s = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM, ← EReal.coe_strictMono.monotone.map_max]⟩
  exact key _ hne

/-- An element whose absolute value lies below plus infinity is a real. -/
theorem of_abs_lt {x : EReal} (h : Ideal.cmp CmpFPredicate.olt (max x (-x)) (Ideal.ofBits FTy.f32 2139095040#32) = 1#1) : ∃ r : ℝ, x = (r : EReal) := by
  rw [ofBits_top] at h
  induction x using EReal.rec with
  | bot => simp [Ideal.cmp] at h
  | top => simp [Ideal.cmp] at h
  | coe r => exact ⟨r, rfl⟩

/-- So an array all of whose elements pass that test is an array of reals. -/
theorem array_of_abs_lt {s : Shape} {x : s.Idx → EReal}
    (h : ∀ i, Ideal.cmp CmpFPredicate.olt (max (x i) (-x i)) (Ideal.ofBits FTy.f32 2139095040#32) = 1#1) :
    ∃ y : s.Idx → ℝ, x = fun i => (y i : EReal) :=
  ⟨fun i => (of_abs_lt (h i)).choose, funext fun i => (of_abs_lt (h i)).choose_spec⟩

/-- A sum over the rows, block by block. -/
theorem sum_blocks {M : Type*} [AddCommMonoid M] (f : Fin 2048 → M) : ∑ r, f r = ∑ i : Fin 4, ∑ r : Fin 512, f ⟨512 * i.val + r.val, by omega⟩ := by
  have e : ∑ r, f r = (∑ d : Fin 1024, f ⟨d.val, by omega⟩) + ∑ d : Fin 1024, f ⟨1024 + d.val, by omega⟩ := Fin.sum_univ_two_halves 1024 1024 rfl f
  have e0 : ∑ d : Fin 1024, f ⟨d.val, by omega⟩ = (∑ d : Fin 512, f ⟨d.val, by omega⟩) + ∑ d : Fin 512, f ⟨512 + d.val, by omega⟩ :=
    Fin.sum_univ_two_halves 512 512 rfl (fun d : Fin 1024 => f ⟨d.val, by omega⟩)
  have e1 : ∑ d : Fin 1024, f ⟨1024 + d.val, by omega⟩ = (∑ d : Fin 512, f ⟨1024 + d.val, by omega⟩) + ∑ d : Fin 512, f ⟨1024 + (512 + d.val), by omega⟩ :=
    Fin.sum_univ_two_halves 512 512 rfl (fun d : Fin 1024 => f ⟨1024 + d.val, by omega⟩)
  rw [e, e0, e1, Fin.sum_univ_four, add_assoc, add_assoc, add_assoc]
  refine congrArg₂ (· + ·) ?_ (congrArg₂ (· + ·) ?_ (congrArg₂ (· + ·) ?_ ?_)) <;>
  · refine Finset.sum_congr rfl fun d _ => congrArg f (Fin.ext ?_)
    simp <;> omega

end Cert.Reals
-- ==== Proof.Soft.lean ====
/-
  The softmax's gradient over a finite row, in the extended reals.
-/
module

public import proofs.«01_k».proof.Proof.Reals

@[expose] public section

noncomputable section

namespace Cert.Soft

open Idealize.ShloMosaic

variable {n : Nat}

/-- The row's exponentials, its largest entry taken off. -/
def e (s : Fin n → EReal) (j : Fin n) : EReal := Ideal.exp (s j - Finset.fold max (Ideal.ofBits FTy.f32 4286578688#32) s Finset.univ)

/-- The row's weights. -/
def p (s : Fin n → EReal) (j : Fin n) : EReal := Ideal.div (e s j) (∑ x, e s x)

/-- The logits' cotangent from the weights' cotangent `g`. -/
def ds (s g : Fin n → EReal) (j : Fin n) : EReal := p s j * (g j - ∑ x, g x * p s x)

/-- A row of real logits: its exponentials are positive reals. -/
theorem e_real (hn : 0 < n) (s : Fin n → ℝ) : ∃ E : Fin n → ℝ, (∀ j, 0 < E j) ∧ ∀ j, e (fun x => (s x : EReal)) j = (E j : EReal) := by
  obtain ⟨M, hM⟩ := Reals.fold_max hn s
  refine ⟨fun j => Real.exp (s j - M), fun j => Real.exp_pos _, fun j => ?_⟩
  unfold e
  rw [Reals.ofBits_bot, hM, ← EReal.coe_sub, Reals.exp_coe]

/-- The derivative of the quotient, written by the quotient rule, is the weights' form of it: for a row of real logits and a
    row of real cotangents. -/
theorem ds_quotient (hn : 0 < n) (s g : Fin n → ℝ) (j : Fin n) :
    (Ideal.div (g j : EReal) (∑ x, e (fun x => (s x : EReal)) x)
      + -∑ x, (g x : EReal) * Ideal.div 1 ((∑ y, e (fun x => (s x : EReal)) y) * ∑ y, e (fun x => (s x : EReal)) y) * e (fun x => (s x : EReal)) x)
        * e (fun x => (s x : EReal)) j = ds (fun x => (s x : EReal)) (fun x => (g x : EReal)) j := by
  obtain ⟨E, hpos, hE⟩ := e_real hn s
  have hL : 0 < ∑ x, E x := Finset.sum_pos (fun x _ => hpos x) ⟨⟨0, hn⟩, Finset.mem_univ _⟩
  unfold ds p
  simp only [hE, Reals.sum_coe]
  rw [show (1 : EReal) = ((1 : ℝ) : EReal) from rfl]
  simp only [← EReal.coe_mul]
  simp only [Reals.div_coe _ _ hL.ne', Reals.div_coe _ _ (mul_pos hL hL).ne', ← EReal.coe_mul, Reals.sum_coe, ← EReal.coe_neg, ← EReal.coe_add, ← EReal.coe_sub]
  congr 1
  simp only [mul_one_div, div_mul_eq_mul_div, mul_div_assoc', ← Finset.sum_div]
  generalize ∑ x, E x = L at *
  have : L ≠ 0 := hL.ne'
  field_simp
  ring

end Cert.Soft
-- ==== Proof.XattnValue.lean ====
/-
  The cross attention's backward call at `Ideal`: what each of the two result arrays holds after the run, index by index.
-/
module

public import proofs.«01_k».proof.Defs
public import proofs.«01_k».proof.Proof.Gen.XattnIdeal.Value
public import proofs.«01_k».proof.Proof.Gen.XattnRefIdeal.Run
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Soft

@[expose] public section

set_option maxRecDepth 16384

noncomputable section

namespace Cert.XattnIdeal.Hand

open Cert.XattnIdeal Cert.XattnIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![0, t.val] := by decide +kernel
theorem idx1 : ∀ t : Fin grid0.N, win0_1.index t = ![t.val, 0, 0] := by decide +kernel
theorem idx2 : ∀ t : Fin grid0.N, win0_2.index t = ![4 + t.val, 0, 0] := by decide +kernel
theorem idx3 : ∀ t : Fin grid0.N, win0_3.index t = ![0, t.val] := by decide +kernel
theorem idx4 : ∀ t : Fin grid0.N, win0_4.index t = ![0, t.val] := by decide +kernel
theorem idx5 : ∀ t : Fin grid0.N, win0_5.index t = ![0, t.val, 0, 0] := by decide +kernel

theorem lt4 (t : Fin cfg0.N) : t.val < 4 := by have := t.isLt; have h : cfg0.N = 4 := N_0; omega

/-- Column `l` of head `t`. -/
abbrev col (t : Fin cfg0.N) (l : Fin 256) : Fin 1024 := ⟨256 * t.val + l.val, by have := lt4 t; omega⟩

theorem blk0 (c : Dev nD) (t : Fin cfg0.N) (r : Fin 2048) (l : Fin 256) :
    iblk m c 0 t (ix2 r l) = m ((c : Thread nD τ).loc main_arg0) (ix2 r (col t l)) := by
  blk_point [iblk, V, idx0 t]
theorem blk3 (c : Dev nD) (t : Fin cfg0.N) (r : Fin 2048) (l : Fin 256) :
    iblk m c 3 t (ix2 r l) = m ((c : Thread nD τ).loc main_arg3) (ix2 r (col t l)) := by
  blk_point [iblk, V, idx3 t]
/-- The keys are the first four heads of the joined operand … -/
theorem keys (c : Dev nD) (h : Fin 4) (r l : Fin 256) :
    V m c main_v6 (ix3 ⟨h.val, by omega⟩ r l) = m ((c : Thread nD τ).loc main_arg1) (ix2 r ⟨256 * h.val + l.val, by omega⟩) := by
  unfold V
  after_results_simp
  clean_types
  pointwise
  after_results_simp
  clean_types
  pointwise
  blk_point
/-- … and the values the last four. -/
theorem vals (c : Dev nD) (h : Fin 4) (r l : Fin 256) :
    V m c main_v6 (ix3 ⟨4 + h.val, by omega⟩ r l) = m ((c : Thread nD τ).loc main_arg2) (ix2 r ⟨256 * h.val + l.val, by omega⟩) := by
  unfold V
  after_results_simp
  clean_types
  pointwise
  after_results_simp
  clean_types
  pointwise
  blk_point
theorem blk1 (c : Dev nD) (t : Fin cfg0.N) (r l : Fin 256) :
    iblk m c 1 t (ix3 0 r l) = m ((c : Thread nD τ).loc main_arg1) (ix2 r (col t l)) := by
  refine Eq.trans ?_ (keys m c ⟨t.val, lt4 t⟩ r l)
  blk_point [iblk, idx1 t]
theorem blk2 (c : Dev nD) (t : Fin cfg0.N) (r l : Fin 256) :
    iblk m c 2 t (ix3 0 r l) = m ((c : Thread nD τ).loc main_arg2) (ix2 r (col t l)) := by
  refine Eq.trans ?_ (vals m c ⟨t.val, lt4 t⟩ r l)
  blk_point [iblk, idx2 t]
theorem emb4 (t : Fin cfg0.N) (r : Fin 2048) (l : Fin 256) : ((View.whole main_v8_0).slice (win0_4.rect t)).emb (ix2 r l) = ix2 r (col t l) := by
  blk_point [idx4 t]

theorem emb5 (t : Fin cfg0.N) (a : Fin 2) (r l : Fin 256) : ((View.whole main_v8_1).slice (win0_5.rect t)).emb (ix4 a 0 r l) = ix4 a ⟨t.val, lt4 t⟩ r l := by
  blk_point [idx5 t]

/-- The scaled logit of query row `r` and memory row `j` in head `h`. -/
def sc (q : S2048x1024.Idx → EReal) (k : S256x1024.Idx → EReal) (h : Fin 4) (r : Fin 2048) (j : Fin 256) : EReal :=
  (∑ l : Fin 256, q (ix2 r ⟨256 * h.val + l.val, by omega⟩) * k (ix2 j ⟨256 * h.val + l.val, by omega⟩)) * Ideal.ofBits FTy.f32 1031798784#32

/-- The weights' cotangent: the output cotangent's row against the value row. -/
def dp (v : S256x1024.Idx → EReal) (g : S2048x1024.Idx → EReal) (h : Fin 4) (r : Fin 2048) (j : Fin 256) : EReal :=
  ∑ l : Fin 256, g (ix2 r ⟨256 * h.val + l.val, by omega⟩) * v (ix2 j ⟨256 * h.val + l.val, by omega⟩)

/-- The logits' cotangent, scaled. -/
def ds (q : S2048x1024.Idx → EReal) (k v : S256x1024.Idx → EReal) (g : S2048x1024.Idx → EReal) (h : Fin 4) (r : Fin 2048) (j : Fin 256) : EReal :=
  Soft.ds (sc q k h r) (dp v g h r) j * Ideal.ofBits FTy.f32 1031798784#32

/-- The queries' gradient. -/
def dq (q : S2048x1024.Idx → EReal) (k v : S256x1024.Idx → EReal) (g : S2048x1024.Idx → EReal) (h : Fin 4) (r : Fin 2048) (l : Fin 256) : EReal :=
  ∑ j : Fin 256, ds q k v g h r j * k (ix2 j ⟨256 * h.val + l.val, by omega⟩)

/-- The queries' gradient, the heads side by side. -/
def dqg (q : S2048x1024.Idx → EReal) (k v : S256x1024.Idx → EReal) (g : S2048x1024.Idx → EReal) : S2048x1024.Idx → EReal := fun i =>
  dq q k v g ⟨(i 1).val / 256, by have := (i 1).isLt; change (i 1).val < 1024 at *; omega⟩ (i 0) ⟨(i 1).val % 256, by omega⟩

/-- The keys' gradient (first) and the values' (second), head by head. -/
def dkv (q : S2048x1024.Idx → EReal) (k v : S256x1024.Idx → EReal) (g : S2048x1024.Idx → EReal) : S2x4x256x256.Idx → EReal := fun i =>
  if (i 0).val = 0 then ∑ r : Fin 2048, ds q k v g (i 1) r (i 2) * q (ix2 r ⟨256 * (i 1).val + (i 3).val, by
    have := (i 1).isLt; have := (i 3).isLt; change (i 1).val < 4 at *; change (i 3).val < 256 at *; omega⟩)
  else ∑ r : Fin 2048, Soft.p (sc q k (i 1) r) (i 2) * g (ix2 r ⟨256 * (i 1).val + (i 3).val, by
    have := (i 1).isLt; have := (i 3).isLt; change (i 1).val < 4 at *; change (i 3).val < 256 at *; omega⟩)

theorem dq_eq (c : Dev nD) : (dats m 0 c).arrAt 4 cfg0.N = dqg
    (m ((c : Thread nD τ).loc main_arg0)) (m ((c : Thread nD τ).loc main_arg1)) (m ((c : Thread nD τ).loc main_arg2)) (m ((c : Thread nD τ).loc main_arg3)) := by
  refine Dat.arrAt_eq_of_covers (dats m 0 c) 4 _ (by decide +kernel) fun t hf y => ?_
  blk_simp
  rw [after0_4]
  simp only [outsAt0]
  unfold out0_A_4
  frame_out
  idx_vars y
  unfold_payloads
  rw [emb4]
  have := lt4 t
  have hh : (256 * t.val + y1.val) / 256 = t.val := by omega
  have hl : (256 * t.val + y1.val) % 256 = y1.val := by omega
  pointwise [dqg, dq, ds, Soft.ds, Soft.p, Soft.e, sc, dp, hh, hl]
  simp only [blk0, blk1, blk2, blk3]

theorem dkv_eq (c : Dev nD) : (dats m 0 c).arrAt 5 cfg0.N =
    dkv (m ((c : Thread nD τ).loc main_arg0)) (m ((c : Thread nD τ).loc main_arg1)) (m ((c : Thread nD τ).loc main_arg2)) (m ((c : Thread nD τ).loc main_arg3)) := by
  refine Dat.arrAt_eq_of_covers (dats m 0 c) 5 _ (by decide +kernel) fun t hf y => ?_
  blk_simp
  rw [after0_5]
  simp only [outsAt0]
  unfold out0_A_5
  frame_out
  idx_vars y
  obtain rfl : y1 = 0 := Subsingleton.elim _ _
  rw [emb5]
  canon_tiles x h
  all_goals
    idx_vars x
    unfold_payloads
    pointwise [dkv, ds, Soft.ds, Soft.p, Soft.e, sc, dp]
    simp only [blk0, blk1, blk2, blk3]
    simp only [ix4, Matrix.cons_val_zero, Matrix.cons_val_one, Matrix.cons_val] at h0 h1 h2 h3
  · rw [if_neg (by omega)]
    blk_point
  · rw [if_pos (by omega)]
    blk_point

end Cert.XattnIdeal.Hand
-- ==== Proof.XattnPair.lean ====
/-
  The cross attention's backward call: the reference's composed terms, read at an index, are the values of the kernel's
  result arrays.
-/
module

public import proofs.«01_k».proof.Proof.XattnValue
public import proofs.«01_k».proof.Proof.Gen.XattnRefIdeal.Read
public import proofs.«01_k».proof.Proof.Gen.Pre_xattn_finite
public import Idealize.ShloMosaic.Lib.Quiescent

@[expose] public section

set_option maxRecDepth 16384

noncomputable section

namespace Cert.XattnIdeal.Hand

open Cert.XattnIdeal Cert.XattnIdeal.Gen Idealize.ShloMosaic Idealize.ShloMosaic.TcCoe Idealize.SL.Sem

section
open Cert.XattnRefIdeal.Read

variable (q : S2048x1024.Idx → EReal) (k v : S256x1024.Idx → EReal) (g : S2048x1024.Idx → EReal) (h : Fin 4) (r : Fin 2048) (j : Fin 256)

/-- A query's array cut into four heads reads head `h`'s lane `l` at column `256 h + l` … -/
theorem heads (x : S2048x1024.Idx → EReal) (l : Fin 256) : val_main_v0 (F := Ideal) x (ix3 r h l) = x (ix2 r ⟨256 * h.val + l.val, by omega⟩) := by
  rw [val_main_v0_apply]
  refine congrArg x (funext fun a => Fin.ext ?_)
  match a with
  | ⟨0, _⟩ => change ((r.val * 4 + h.val) * 256 + l.val) / 1024 = r.val; omega
  | ⟨1, _⟩ => change ((r.val * 4 + h.val) * 256 + l.val) % 1024 = 256 * h.val + l.val; omega

/-- … and so does a memory's array. -/
theorem heads_mem (x : S256x1024.Idx → EReal) (l : Fin 256) : val_main_v1 (F := Ideal) x (ix3 j h l) = x (ix2 j ⟨256 * h.val + l.val, by omega⟩) := by
  rw [val_main_v1_apply]
  refine congrArg x (funext fun a => Fin.ext ?_)
  match a with
  | ⟨0, _⟩ => change ((j.val * 4 + h.val) * 256 + l.val) / 1024 = j.val; omega
  | ⟨1, _⟩ => change ((j.val * 4 + h.val) * 256 + l.val) % 1024 = 256 * h.val + l.val; omega

/-- The reference's scaled logits. -/
theorem ref_sc : val_main_v5 (F := Ideal) q k (ix3 h r j) = sc q k h r j := by
  pointwise [val_main_v5, val_main_v4, val_main_cst, val_main_v3]
  simp only [heads, heads_mem, sc]

/-- The logits of real arguments are real … -/
theorem sc_real (q : S2048x1024.Idx → ℝ) (k : S256x1024.Idx → ℝ) :
    ∃ σ : Fin 256 → ℝ, sc (fun i => (q i : EReal)) (fun i => (k i : EReal)) h r = fun j => (σ j : EReal) := by
  refine ⟨fun j => (∑ l : Fin 256, q (ix2 r ⟨256 * h.val + l.val, by omega⟩) * k (ix2 j ⟨256 * h.val + l.val, by omega⟩)) * (1 / 16), funext fun j => ?_⟩
  unfold sc
  simp only [← EReal.coe_mul, Reals.sum_coe, Reals.ofBits_sixteenth]

/-- … and so is the weights' cotangent. -/
theorem dp_real (v : S256x1024.Idx → ℝ) (g : S2048x1024.Idx → ℝ) :
    ∃ γ : Fin 256 → ℝ, dp (fun i => (v i : EReal)) (fun i => (g i : EReal)) h r = fun j => (γ j : EReal) := by
  refine ⟨fun j => ∑ l : Fin 256, g (ix2 r ⟨256 * h.val + l.val, by omega⟩) * v (ix2 j ⟨256 * h.val + l.val, by omega⟩), funext fun j => ?_⟩
  unfold dp
  simp only [← EReal.coe_mul, Reals.sum_coe]

/-- The row maximum … -/
theorem ref_max : val_main_v6 (F := Ideal) q k (ix2 h r) = Finset.univ.fold max ⊥ (sc q k h r) := by
  pointwise [val_main_v6, val_main_cst_0, ref_sc]
  exact congrArg (fun b => Finset.univ.fold max b (sc q k h r)) Reals.ofBits_bot

/-- … which the reference joins with −∞. -/
theorem ref_max' : val_main_v13 (F := Ideal) q k (ix2 h r) = Finset.univ.fold max ⊥ (sc q k h r) := by
  rw [val_main_v13_apply, ref_max]
  change max (Ideal.ofBits FTy.f32 4286578688#32) _ = _
  rw [Reals.ofBits_bot]
  exact max_eq_right bot_le

/-- The reference's exponentials. -/
theorem ref_e : val_main_v26 (F := Ideal) q k (ix3 h r j) = Soft.e (sc q k h r) j := by
  pointwise [val_main_v26, val_main_v25, val_main_v24, val_main_v23, ref_max', ref_sc, Soft.e]
  rw [Reals.ofBits_bot]

/-- The weights' cotangent. -/
theorem ref_dp : val_main_v38 (F := Ideal) v g (ix3 h r j) = dp v g h r j := by
  pointwise [val_main_v38, val_main_v37]
  simp only [show val_main_v36 (F := Ideal) g = val_main_v0 g from rfl, show val_main_v2 (F := Ideal) v = val_main_v1 v from rfl, heads, heads_mem, dp]

/-- The row's sum. -/
theorem ref_sum : val_main_v28 (F := Ideal) q k (ix3 h r 0) = ∑ j, Soft.e (sc q k h r) j := by
  pointwise [val_main_v28, val_main_v27, val_main_cst_8, ref_e]

/-- The reference's weights. -/
theorem ref_p : val_main_v30 (F := Ideal) q k (ix3 h r j) = Soft.p (sc q k h r) j := by
  pointwise [val_main_v30, val_main_v29, ref_sum, ref_e, Soft.p]

/-- The quotient rule's factor: one over the square of the row's sum. -/
theorem ref_inv : val_main_v33 (F := Ideal) q k (ix3 h r 0) =
    Ideal.div 1 ((∑ j, Soft.e (sc q k h r) j) * ∑ j, Soft.e (sc q k h r) j) := by
  pointwise [val_main_v33, val_main_v32, val_main_v31, val_main_cst_9, ref_sum]

/-- The row sum's cotangent. -/
theorem ref_dsum : val_main_v49 (F := Ideal) q k v g (ix2 h r) =
    -∑ j, dp v g h r j * Ideal.div 1 ((∑ j, Soft.e (sc q k h r) j) * ∑ j, Soft.e (sc q k h r) j) * Soft.e (sc q k h r) j := by
  pointwise [val_main_v49, val_main_cst_11, val_main_v46, val_main_v45, val_main_v44, val_main_cst_10, val_main_v43, val_main_v42, val_main_v41, ref_inv, ref_dp, ref_e]
  exact Fin.sum_univ_one _

/-- The logits' cotangent: the reference differentiates the quotient by the quotient rule; on real arguments it is the
    weights' form. -/
theorem ref_ds (q : S2048x1024.Idx → ℝ) (k v : S256x1024.Idx → ℝ) (g : S2048x1024.Idx → ℝ) :
    val_main_v54 (F := Ideal) (fun i => (q i : EReal)) (fun i => (k i : EReal)) (fun i => (v i : EReal)) (fun i => (g i : EReal)) (ix3 h r j) =
      ds (fun i => (q i : EReal)) (fun i => (k i : EReal)) (fun i => (v i : EReal)) (fun i => (g i : EReal)) h r j := by
  obtain ⟨σ, hσ⟩ := sc_real h r q k
  obtain ⟨γ, hγ⟩ := dp_real h r v g
  pointwise [val_main_v54, val_main_v53, val_main_cst_12, val_main_v52, ref_e, val_main_v51, val_main_v50, ref_dsum, val_main_v48, val_main_v47, ref_dp, ref_sum, ds]
  rw [hσ, hγ, ← Soft.ds_quotient (by omega)]

/-- The queries' gradient. -/
theorem ref_dq (q : S2048x1024.Idx → ℝ) (k v : S256x1024.Idx → ℝ) (g : S2048x1024.Idx → ℝ) (l : Fin 256) :
    val_main_v58 (F := Ideal) (fun i => (q i : EReal)) (fun i => (k i : EReal)) (fun i => (v i : EReal)) (fun i => (g i : EReal)) (ix3 r h l) =
      dq (fun i => (q i : EReal)) (fun i => (k i : EReal)) (fun i => (v i : EReal)) (fun i => (g i : EReal)) h r l := by
  pointwise [val_main_v58, val_main_v57, ref_ds]
  simp only [heads_mem, dq]

/-- The keys' gradient. -/
theorem ref_dk (q : S2048x1024.Idx → ℝ) (k v : S256x1024.Idx → ℝ) (g : S2048x1024.Idx → ℝ) (l : Fin 256) :
    val_main_v55 (F := Ideal) (fun i => (q i : EReal)) (fun i => (k i : EReal)) (fun i => (v i : EReal)) (fun i => (g i : EReal)) (ix3 h j l) =
      ∑ r : Fin 2048, ds (fun i => (q i : EReal)) (fun i => (k i : EReal)) (fun i => (v i : EReal)) (fun i => (g i : EReal)) h r j * (q (ix2 r ⟨256 * h.val + l.val, by omega⟩) : EReal) := by
  pointwise [val_main_v55, ref_ds]
  simp only [heads]

/-- The values' gradient. -/
theorem ref_dv (l : Fin 256) :
    val_main_v39 (F := Ideal) q k g (ix3 h l j) = ∑ r : Fin 2048, Soft.p (sc q k h r) j * g (ix2 r ⟨256 * h.val + l.val, by omega⟩) := by
  pointwise [val_main_v39, val_main_v37, ref_p]
  simp only [show val_main_v36 (F := Ideal) g = val_main_v0 g from rfl, heads, mul_comm]

/-- The reference's first result on real arguments. -/
theorem res_dq (q : S2048x1024.Idx → ℝ) (k v : S256x1024.Idx → ℝ) (g : S2048x1024.Idx → ℝ) :
    val_main_v60 (F := Ideal) (fun i => (q i : EReal)) (fun i => (k i : EReal)) (fun i => (v i : EReal)) (fun i => (g i : EReal)) =
      dqg (fun i => (q i : EReal)) (fun i => (k i : EReal)) (fun i => (v i : EReal)) (fun i => (g i : EReal)) := by
  funext y
  idx_vars y
  have e : idx_main_v60 (ix2 y0 y1) = ix3 y0 ⟨y1.val / 256, by omega⟩ ⟨y1.val % 256, by omega⟩ := funext fun a => Fin.ext (by
    match a with
    | ⟨0, _⟩ => change (y0.val * 1024 + y1.val) / 1024 = y0.val; omega
    | ⟨1, _⟩ => change (y0.val * 1024 + y1.val) / 256 % 4 = y1.val / 256; omega
    | ⟨2, _⟩ => change (y0.val * 1024 + y1.val) % 256 = y1.val % 256; omega)
  rw [val_main_v60_apply, e]
  exact ref_dq _ _ q k v g _

/-- The reference's second result on real arguments. -/
theorem res_dkv (q : S2048x1024.Idx → ℝ) (k v : S256x1024.Idx → ℝ) (g : S2048x1024.Idx → ℝ) :
    val_main_v64 (F := Ideal) (fun i => (q i : EReal)) (fun i => (k i : EReal)) (fun i => (v i : EReal)) (fun i => (g i : EReal)) =
      dkv (fun i => (q i : EReal)) (fun i => (k i : EReal)) (fun i => (v i : EReal)) (fun i => (g i : EReal)) := by
  funext y
  idx_vars y
  pointwise [val_main_v64, val_main_v63, val_main_v62, val_main_v61, val_main_v56, val_main_v40, dkv]
  by_cases h0 : y0.val = 0
  · simp (disch := omega) only [dif_pos, if_pos, h0]
    pointwise [val_main_v61, val_main_v56]
    exact ref_dk _ _ q k v g _
  · simp (disch := omega) only [dif_neg, if_neg, h0]
    pointwise [val_main_v62, val_main_v40]
    exact ref_dv _ _ _ _ _ _
end

/-- The arguments the precondition admits are arrays of reals. -/
theorem args_real (m : (ℓ : Loc nD τ sig) → Buf (Elt Ideal) ℓ) (hpre : Cert.Pre_XattnIdeal_xattn_finite (hPre_xattn_finite := Cert.Pre_xattn_finite.Gen.facts) m) (c : Dev nD) :
    ∃ (q : S2048x1024.Idx → ℝ) (k v : S256x1024.Idx → ℝ) (g : S2048x1024.Idx → ℝ),
      m ((c : Thread nD τ).loc main_arg0) = (fun i => (q i : EReal)) ∧ m ((c : Thread nD τ).loc main_arg1) = (fun i => (k i : EReal)) ∧
      m ((c : Thread nD τ).loc main_arg2) = (fun i => (v i : EReal)) ∧ m ((c : Thread nD τ).loc main_arg3) = (fun i => (g i : EReal)) := by
  obtain ⟨h0, h1, h2, h3⟩ := hpre c
  obtain ⟨q, hq⟩ := Reals.array_of_abs_lt fun i => by have := congrFun h0 i; pointwise [Pre_xattn_finite.fn] at this; exact this
  obtain ⟨k, hk⟩ := Reals.array_of_abs_lt fun i => by have := congrFun h1 i; pointwise [Pre_xattn_finite.fn] at this; exact this
  obtain ⟨v, hv⟩ := Reals.array_of_abs_lt fun i => by have := congrFun h2 i; pointwise [Pre_xattn_finite.fn] at this; exact this
  obtain ⟨g, hg⟩ := Reals.array_of_abs_lt fun i => by have := congrFun h3 i; pointwise [Pre_xattn_finite.fn] at this; exact this
  exact ⟨q, k, v, g, hq, hk, hv, hg⟩

set_option maxHeartbeats 4000000 in
/-- At `Ideal` the kernel's two results are the reference's, for real arguments. -/
theorem algebraic : Cert.algebraic_XattnIdeal_XattnRefIdeal_pre_xattn_finite (hPre_xattn_finite := Cert.Pre_xattn_finite.Gen.facts) := by
  pair_intro
  · run_from (Cert.XattnIdeal.Value.run_blocks m g)
  · run_from (Cert.XattnRefIdeal.Value.run m' g')
    · obtain ⟨q, k, v, g, hq, hk, hv, hg⟩ := args_real m hpre c
      rw [dq_eq, XattnRefIdeal.Read.val_main_v60_eq]
      obtain ⟨a0, a1, a2, a3⟩ := hagree c
      rw [a0, a1, a2, a3, hq, hk, hv, hg]
      exact res_dq q k v g
    · obtain ⟨q, k, v, g, hq, hk, hv, hg⟩ := args_real m hpre c
      rw [dkv_eq, XattnRefIdeal.Read.val_main_v64_eq]
      obtain ⟨a0, a1, a2, a3⟩ := hagree c
      rw [a0, a1, a2, a3, hq, hk, hv, hg]
      exact res_dkv q k v g

/-- The reference runs to the end, leaves its arguments as they were and every counter at zero. -/
theorem frameRef : Cert.quiescent_XattnRefIdeal :=
  fun m g _ => θ_run_mono (Cert.XattnRefIdeal.Value.run m g) fun _ h => ⟨fun c => (h c).2.2, sem_eq_zero_of_no_sems (by decide) _⟩

end Cert.XattnIdeal.Hand
-- ==== Proof.FoxMath.lean ====
/-
  The causal attention with a forget gate, over the reals: the scores, the row's exponentials and weights, and the
  gradient of the scores.
-/
module

public import proofs.«01_k».proof.Defs
public import Idealize.ShloMosaic.Lib.Pointwise
public import proofs.«01_k».proof.Proof.Reals

@[expose] public section

noncomputable section

namespace Cert.FoxMath

open Cert.FoxIdeal Idealize.ShloMosaic

/-- Column `d` of head `h` in an array of eight heads of 64 columns. -/
def col (h : Fin 8) (d : Fin 64) : Fin 512 := ⟨64 * h.val + d.val, by omega⟩

/-- An array of reals as extended reals. -/
abbrev up {s : Shape} (x : s.Idx → ℝ) : s.Idx → EReal := fun i => (x i : EReal)

variable (q k : S2048x512.Idx → ℝ) (c : S8x2048.Idx → ℝ) (v g : S2048x512.Idx → ℝ) (h : Fin 8) (r l : Fin 2048)

/-- The score of query `r` against key `l`: the scaled product and the gate's difference. -/
def S : ℝ := (∑ d : Fin 64, q (ix2 r (col h d)) * k (ix2 l (col h d))) * (1 / 8) + c (ix2 h r) - c (ix2 h l)

/-- The masked score: a key after the query is at −∞. -/
def msc : EReal := if l.val ≤ r.val then (S q k c h r l : EReal) else ⊥

/-- The row's largest masked score. -/
def M : ℝ := (Finset.univ.fold max ⊥ (msc q k c h r)).toReal

/-- The largest masked score is real: the query's own key is not masked. -/
theorem fold_msc : Finset.univ.fold max ⊥ (msc q k c h r) = (M q k c h r : EReal) := by
  refine (EReal.coe_toReal ?_ ?_).symm
  · refine ne_of_lt ((Finset.fold_max_lt _).mpr ⟨bot_lt_top, fun l _ => ?_⟩)
    unfold msc
    split
    · exact EReal.coe_lt_top _
    · exact bot_lt_top
  · refine ne_of_gt ((Finset.lt_fold_max _).mpr (Or.inr ⟨r, Finset.mem_univ _, ?_⟩))
    unfold msc
    rw [if_pos le_rfl]
    exact EReal.bot_lt_coe _

/-- The row's exponentials. -/
def E : ℝ := if l.val ≤ r.val then Real.exp (S q k c h r l - M q k c h r) else 0

/-- The exponential of a masked score less the largest. -/
theorem exp_msc : Ideal.exp (msc q k c h r l - (M q k c h r : EReal)) = (E q k c h r l : EReal) := by
  unfold msc E
  split
  · rw [← EReal.coe_sub, Reals.exp_coe]
  · rfl

/-- The row's sum. -/
def L : ℝ := ∑ l, E q k c h r l

theorem L_pos : 0 < L q k c h r := by
  refine Finset.sum_pos' (fun l _ => ?_) ⟨r, Finset.mem_univ _, ?_⟩
  · unfold E; split
    · exact (Real.exp_pos _).le
    · exact le_rfl
  · unfold E; rw [if_pos le_rfl]; exact Real.exp_pos _

/-- The weights. -/
def W : ℝ := E q k c h r l / L q k c h r

/-- The exponential of a masked score less the row's log-sum is the weight. -/
theorem exp_lse : Ideal.exp (msc q k c h r l - ((M q k c h r + Real.log (L q k c h r) : ℝ) : EReal)) = (W q k c h r l : EReal) := by
  unfold msc W E
  split
  · rw [← EReal.coe_sub, Reals.exp_coe, ← sub_sub, Real.exp_sub, Real.exp_log (L_pos q k c h r)]
  · rw [zero_div]; rfl

/-- The weights' cotangent. -/
def G : ℝ := ∑ d : Fin 64, g (ix2 r (col h d)) * v (ix2 l (col h d))

/-- The row's sum of the weights times their cotangent. -/
def D : ℝ := ∑ l, G v g h r l * W q k c h r l

/-- The scores' cotangent. -/
def DS : ℝ := W q k c h r l * (G v g h r l - D q k c v g h r)

theorem W_masked (hl : ¬l.val ≤ r.val) : W q k c h r l = 0 := by unfold W E; rw [if_neg hl, zero_div]
theorem DS_masked (hl : ¬l.val ≤ r.val) : DS q k c v g h r l = 0 := by unfold DS; rw [W_masked _ _ _ _ _ _ hl, zero_mul]

/-- The quotient rule's form of the scores' cotangent. -/
theorem quotient :
    (G v g h r l / L q k c h r + -∑ x, G v g h r x * (1 / (L q k c h r * L q k c h r)) * E q k c h r x) * E q k c h r l = DS q k c v g h r l := by
  have hL := (L_pos q k c h r).ne'
  unfold DS D W
  generalize L q k c h r = A at *
  have e : ∑ x, G v g h r x * (1 / (A * A)) * E q k c h r x = (∑ x, G v g h r x * (E q k c h r x / A)) / A := by
    rw [Finset.sum_div]
    refine Finset.sum_congr rfl fun x _ => ?_
    field_simp
  rw [e]
  field_simp
  ring

/-! ## The packed operands -/

/-- Head `hh` of pair `p`. -/
def hd (p : Fin 4) (hh : Fin 2) : Fin 8 := ⟨2 * p.val + hh.val, by omega⟩

/-- Lane `x` of pair `p`, as a column of the eight heads. -/
def lane (p : Fin 4) (x : Fin 128) : Fin 512 := ⟨128 * p.val + x.val, by omega⟩

/-- The packed queries: head `hh`'s own lanes hold the scaled query; of the other lanes the first holds the gate's sum, and the fourth to the sixth hold one. -/
def qaR (p : Fin 4) (hh : Fin 2) (x : Fin 128) : ℝ :=
  if x.val / 64 = hh.val then q (ix2 r (lane p x)) * (1 / 8) else if x.val % 64 = 0 then c (ix2 (hd p hh) r) else if 3 ≤ x.val % 64 ∧ x.val % 64 < 6 then 1 else 0

/-- The packed keys: head `hh`'s own lanes hold the key; of the other lanes the first three hold one and the fourth holds minus the gate's sum. -/
def kaR (p : Fin 4) (hh : Fin 2) (x : Fin 128) : ℝ :=
  if x.val / 64 = hh.val then k (ix2 l (lane p x)) else if x.val % 64 < 3 then 1 else if x.val % 64 = 3 then -c (ix2 (hd p hh) l) else 0

theorem sum_halves (f : Fin 128 → ℝ) : ∑ x, f x = (∑ d : Fin 64, f ⟨d.val, by omega⟩) + ∑ d : Fin 64, f ⟨64 + d.val, by omega⟩ :=
  Fin.sum_univ_two_halves 64 64 rfl f

/-- The lanes outside the head's own carry the gate's difference. -/
theorem gate_lanes (a b : ℝ) :
    ∑ d : Fin 64, (if d.val = 0 then a else if 3 ≤ d.val ∧ d.val < 6 then 1 else 0) * (if d.val < 3 then 1 else if d.val = 3 then -b else 0) = a - b := by
  have e : ∀ d : Fin 64, (if d.val = 0 then a else if 3 ≤ d.val ∧ d.val < 6 then 1 else 0) * (if d.val < 3 then 1 else if d.val = 3 then -b else 0) =
      (if d = 0 then a else 0) + (if d = 3 then -b else 0) := by
    intro d
    by_cases h0 : d = 0
    · subst h0; simp
    by_cases h3 : d = 3
    · subst h3; simp
    have n0 : ¬d.val = 0 := fun h => h0 (Fin.ext h)
    have n3 : ¬d.val = 3 := fun h => h3 (Fin.ext h)
    rw [if_neg n0, if_neg n3, if_neg h0, if_neg h3]
    split_ifs <;> first | omega | simp
  simp only [e, Finset.sum_add_distrib, Finset.sum_ite_eq', Finset.mem_univ, if_true]
  ring

/-- The product of a packed query and a packed key is the score. -/
theorem sum_packed (p : Fin 4) (hh : Fin 2) : ∑ x, qaR q c r p hh x * kaR k c l p hh x = S q k c (hd p hh) r l := by
  have own : ∀ d : Fin 64, ∀ x : Fin 128, x.val = 64 * hh.val + d.val →
      qaR q c r p hh x * kaR k c l p hh x = q (ix2 r (col (hd p hh) d)) * k (ix2 l (col (hd p hh) d)) * (1 / 8) := by
    intro d x hx
    have hl : lane p x = col (hd p hh) d := Fin.ext (by simp only [lane, col, hd]; omega)
    unfold qaR kaR
    rw [if_pos (by omega), if_pos (by omega), hl]
    ring
  have other : ∀ d : Fin 64, ∀ x : Fin 128, x.val = 64 * (1 - hh.val) + d.val →
      qaR q c r p hh x * kaR k c l p hh x =
        (if d.val = 0 then c (ix2 (hd p hh) r) else if 3 ≤ d.val ∧ d.val < 6 then 1 else 0) * (if d.val < 3 then 1 else if d.val = 3 then -c (ix2 (hd p hh) l) else 0) := by
    intro d x hx
    unfold qaR kaR
    have n : ¬x.val / 64 = hh.val := by omega
    rw [if_neg n, if_neg n, show x.val % 64 = d.val by omega]
  rw [sum_halves]
  unfold S
  rw [add_sub_assoc, ← gate_lanes, Finset.sum_mul]
  match hh with
  | 0 => exact congrArg₂ (· + ·) (Finset.sum_congr rfl fun d _ => own d _ (by simp)) (Finset.sum_congr rfl fun d _ => other d _ (by simp))
  | 1 =>
    rw [add_comm]
    exact congrArg₂ (· + ·) (Finset.sum_congr rfl fun d _ => own d _ (by simp)) (Finset.sum_congr rfl fun d _ => other d _ (by simp))

/-- The output of the attention, in the columns of the eight heads. -/
def O (z : Fin 512) : ℝ := ∑ l, W q k c ⟨z.val / 64, by omega⟩ r l * v (ix2 l z)

/-- The cotangent of the output kept in head `hh`'s own lanes. -/
def gm (p : Fin 4) (hh : Fin 2) (x : Fin 128) : ℝ := if x.val / 64 = hh.val then g (ix2 r (lane p x)) else 0

/-- A sum against the kept cotangent is over the head's own lanes. -/
theorem sum_gm (p : Fin 4) (hh : Fin 2) (f : Fin 512 → ℝ) :
    ∑ x, gm g r p hh x * f (lane p x) = ∑ d, g (ix2 r (col (hd p hh) d)) * f (col (hd p hh) d) := by
  have own : ∀ d : Fin 64, ∀ x : Fin 128, x.val = 64 * hh.val + d.val →
      gm g r p hh x * f (lane p x) = g (ix2 r (col (hd p hh) d)) * f (col (hd p hh) d) := by
    intro d x hx
    have hl : lane p x = col (hd p hh) d := Fin.ext (by simp only [lane, col, hd]; omega)
    unfold gm
    rw [if_pos (by omega), hl]
  have other : ∀ d : Fin 64, ∀ x : Fin 128, x.val = 64 * (1 - hh.val) + d.val → gm g r p hh x * f (lane p x) = 0 := by
    intro d x hx
    unfold gm
    rw [if_neg (by omega), zero_mul]
  rw [sum_halves]
  match hh with
  | 0 =>
    refine (congrArg₂ (· + ·) (Finset.sum_congr rfl fun d _ => own d _ (by simp)) (Finset.sum_eq_zero fun d _ => other d _ (by simp))).trans ?_
    exact add_zero _
  | 1 =>
    rw [add_comm]
    refine (congrArg₂ (· + ·) (Finset.sum_congr rfl fun d _ => own d _ (by simp)) (Finset.sum_eq_zero fun d _ => other d _ (by simp))).trans ?_
    exact add_zero _

/-- The kernel's row sum of the cotangent times the output is the row's sum of the weights times their cotangent. -/
theorem delta (p : Fin 4) (hh : Fin 2) : ∑ x, gm g r p hh x * O q k c v r (lane p x) = D q k c v g (hd p hh) r := by
  rw [sum_gm]
  unfold O D G
  simp only [Finset.sum_mul, Finset.mul_sum]
  rw [Finset.sum_comm]
  refine Finset.sum_congr rfl fun l _ => Finset.sum_congr rfl fun d _ => ?_
  have e : (⟨(col (hd p hh) d).val / 64, by omega⟩ : Fin 8) = hd p hh := Fin.ext (by simp only [col]; omega)
  rw [e]
  ring

/-- The kernel's product of the cotangent and the values is the weights' cotangent. -/
theorem cot (p : Fin 4) (hh : Fin 2) : ∑ x, gm g r p hh x * v (ix2 l (lane p x)) = G v g (hd p hh) r l :=
  sum_gm g r p hh fun z => v (ix2 l z)

end Cert.FoxMath
-- ==== Proof.FoxPack.lean ====
/-
  The causal attention's backward call: the packed queries and keys that the host hands the kernel, on real arguments.
-/
module

public import proofs.«01_k».proof.Proof.FoxMath
public import proofs.«01_k».proof.Proof.Gen.FoxIdeal.Value
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Words

@[expose] public section

set_option maxRecDepth 16384

noncomputable section

namespace Cert.FoxIdeal.Hand

open Cert.FoxIdeal Cert.FoxIdeal.Gen Cert.FoxMath Idealize.ShloMosaic Idealize.ShloMosaic.TcCoe Idealize.SL.Sem
open Idealize.ShloMosaic.Pipeline (Dat)

variable (m : (ℓ : Loc nD τ sig) → Buf (Elt Ideal) ℓ) (ct : Dev nD)
variable (q k : S2048x512.Idx → ℝ) (c : S8x2048.Idx → ℝ) (v g : S2048x512.Idx → ℝ)

/-- One eighth, by its f32 word. -/
theorem ofBits_eighth : Ideal.ofBits FTy.f32 1040187392#32 = ((1 / 8 : ℝ) : EReal) := by
  simp [Ideal.ofBits, Ideal.ieee, -EReal.coe_mul]; norm_num

/-- The word of one in an array of one element … -/
theorem one0 : id (constant (F := Ideal) S_ FTy.f32 1065353216#32) ix0 = ((1 : ℝ) : EReal) := Reals.ofBits_one

/-- … of zero … -/
theorem zero0 : id (constant (F := Ideal) S_ FTy.f32 0#32) ix0 = ((0 : ℝ) : EReal) := by
  change Ideal.ofBits FTy.f32 0#32 = _
  simp [Ideal.ofBits, Ideal.ieee]

/-- … and of −∞. -/
theorem bot0 : id (constant (F := Ideal) S_ FTy.f32 4286578688#32) ix0 = ⊥ := Reals.ofBits_bot

/-! ## The packed operands -/

set_option maxHeartbeats 4000000 in
/-- The packed queries of a pair's first head. -/
theorem qa0 (hq : m ((ct : Thread nD τ).loc main_arg0) = up q) (hc : m ((ct : Thread nD τ).loc main_arg3) = up c) (p : Fin 4) (r : Fin 2048) (x : Fin 128) :
    V m ct main_v77 (ix3 p r x) = (qaR q c r p 0 x : EReal) := by
  unfold V
  after_reads_at
  rw [show m (ct, Proc.tc.devRef main_arg0) = up q from hq, show m (ct, Proc.tc.devRef main_arg3) = up c from hc]
  simp (disch := omega) only [Words.sel_eq, Words.sel_slt, ← EReal.coe_sub, ← EReal.coe_mul, ofBits_eighth, sub_self, one0, zero0]
  unfold qaR
  have el : lane p x = ⟨p.val * 128 + x.val, by omega⟩ := Fin.ext (by simp only [lane]; omega)
  have eh : hd p 0 = ⟨p.val * 2, by omega⟩ := Fin.ext (by simp only [hd]; omega)
  rw [el, eh]
  have hx : x.val < 64 ∨ x.val = 64 ∨ x.val = 65 ∨ x.val = 66 ∨ x.val = 67 ∨ x.val = 68 ∨ x.val = 69 ∨ 69 < x.val := by omega
  rcases hx with hx | hx | hx | hx | hx | hx | hx | hx
  all_goals
    change _ = ((if x.val / 64 = 0 then _ else _ : ℝ) : EReal)
    simp (disch := omega) only [if_pos, if_neg]
    try first | exact one0 | exact zero0

set_option maxHeartbeats 4000000 in
/-- The packed queries of a pair's second head. -/
theorem qa1 (hq : m ((ct : Thread nD τ).loc main_arg0) = up q) (hc : m ((ct : Thread nD τ).loc main_arg3) = up c) (p : Fin 4) (r : Fin 2048) (x : Fin 128) :
    V m ct main_v150 (ix3 p r x) = (qaR q c r p 1 x : EReal) := by
  unfold V
  after_reads_at
  rw [show m (ct, Proc.tc.devRef main_arg0) = up q from hq, show m (ct, Proc.tc.devRef main_arg3) = up c from hc]
  simp (disch := omega) only [Words.sel_eq, Words.sel_sge, ← EReal.coe_sub, ← EReal.coe_mul, ofBits_eighth, sub_self, one0, zero0]
  unfold qaR
  have el : lane p x = ⟨p.val * 128 + x.val, by omega⟩ := Fin.ext (by simp only [lane]; omega)
  have eh : hd p 1 = ⟨p.val * 2 + 1, by omega⟩ := Fin.ext (by simp only [hd]; omega)
  rw [el, eh]
  have hx : 64 ≤ x.val ∨ x.val = 0 ∨ x.val = 1 ∨ x.val = 2 ∨ x.val = 3 ∨ x.val = 4 ∨ x.val = 5 ∨ (5 < x.val ∧ x.val < 64) := by omega
  rcases hx with hx | hx | hx | hx | hx | hx | hx | hx
  all_goals
    change _ = ((if x.val / 64 = 1 then _ else _ : ℝ) : EReal)
    simp (disch := omega) only [if_pos, if_neg]
    try first | exact one0 | exact zero0

set_option maxHeartbeats 4000000 in
/-- The packed keys of a pair's first head. -/
theorem ka0 (hk : m ((ct : Thread nD τ).loc main_arg1) = up k) (hc : m ((ct : Thread nD τ).loc main_arg3) = up c) (p : Fin 4) (r : Fin 2048) (x : Fin 128) :
    V m ct main_v78 (ix3 p r x) = (kaR k c r p 0 x : EReal) := by
  unfold V
  after_reads_at
  rw [show m (ct, Proc.tc.devRef main_arg1) = up k from hk, show m (ct, Proc.tc.devRef main_arg3) = up c from hc]
  simp (disch := omega) only [Words.sel_eq, Words.sel_slt, ← EReal.coe_sub, ← EReal.coe_neg, sub_self, neg_zero, one0, zero0]
  unfold kaR
  have el : lane p x = ⟨p.val * 128 + x.val, by omega⟩ := Fin.ext (by simp only [lane]; omega)
  have eh : hd p 0 = ⟨p.val * 2, by omega⟩ := Fin.ext (by simp only [hd]; omega)
  rw [el, eh]
  have hx : x.val < 64 ∨ x.val = 64 ∨ x.val = 65 ∨ x.val = 66 ∨ x.val = 67 ∨ x.val = 68 ∨ x.val = 69 ∨ 69 < x.val := by omega
  rcases hx with hx | hx | hx | hx | hx | hx | hx | hx
  all_goals
    change _ = ((if x.val / 64 = 0 then _ else _ : ℝ) : EReal)
    simp (disch := omega) only [if_pos, if_neg]
    try first | exact one0 | exact zero0

set_option maxHeartbeats 4000000 in
/-- The packed keys of a pair's second head. -/
theorem ka1 (hk : m ((ct : Thread nD τ).loc main_arg1) = up k) (hc : m ((ct : Thread nD τ).loc main_arg3) = up c) (p : Fin 4) (r : Fin 2048) (x : Fin 128) :
    V m ct main_v151 (ix3 p r x) = (kaR k c r p 1 x : EReal) := by
  unfold V
  after_reads_at
  rw [show m (ct, Proc.tc.devRef main_arg1) = up k from hk, show m (ct, Proc.tc.devRef main_arg3) = up c from hc]
  simp (disch := omega) only [Words.sel_eq, Words.sel_sge, ← EReal.coe_sub, ← EReal.coe_neg, sub_self, neg_zero, one0, zero0]
  unfold kaR
  have el : lane p x = ⟨p.val * 128 + x.val, by omega⟩ := Fin.ext (by simp only [lane]; omega)
  have eh : hd p 1 = ⟨p.val * 2 + 1, by omega⟩ := Fin.ext (by simp only [hd]; omega)
  rw [el, eh]
  have hx : 64 ≤ x.val ∨ x.val = 0 ∨ x.val = 1 ∨ x.val = 2 ∨ x.val = 3 ∨ x.val = 4 ∨ x.val = 5 ∨ (5 < x.val ∧ x.val < 64) := by omega
  rcases hx with hx | hx | hx | hx | hx | hx | hx | hx
  all_goals
    change _ = ((if x.val / 64 = 1 then _ else _ : ℝ) : EReal)
    simp (disch := omega) only [if_pos, if_neg]
    try first | exact one0 | exact zero0

/-- Two heads' packed arrays side by side, at the second axis of pairs and heads. -/
theorem pairs (a b : S4x2048x128.Idx → EReal) (p : Fin 4) (hh : Fin 2) (r : Fin 2048) (x : Fin 128) :
    (shapeCast (s := S4x2x2048x128) S8x2048x128 (concatenate S4x2x2048x128 1 [⟨S4x1x2048x128, broadcastInDim S4x1x2048x128 ![0, 2, 3] bcast_S4x2048x128_S4x1x2048x128_0_2_3 a⟩,
      ⟨S4x1x2048x128, broadcastInDim S4x1x2048x128 ![0, 2, 3] bcast_S4x2048x128_S4x1x2048x128_0_2_3 b⟩] concatenates_S4x1x2048x128_S4x1x2048x128_S4x2x2048x128_d1)
      shapeCasts_S4x2x2048x128_S8x2048x128 : S8x2048x128.Idx → EReal) (ix3 (hd p hh) r x) = if hh = 0 then a (ix3 p r x) else b (ix3 p r x) := by
  match hh with
  | 0 =>
    pointwise [hd]
    rw [dif_pos (by omega)]
  | 1 =>
    pointwise [hd]
    rw [dif_neg (by omega)]

/-- The kernel's queries are its two heads' queries side by side. -/
theorem e155 : V m ct main_v155 = shapeCast (s := S4x2x2048x128) S8x2048x128 (concatenate S4x2x2048x128 1 [⟨S4x1x2048x128, broadcastInDim S4x1x2048x128 ![0, 2, 3] bcast_S4x2048x128_S4x1x2048x128_0_2_3 (V m ct main_v77 : S4x2048x128.Idx → EReal)⟩,
      ⟨S4x1x2048x128, broadcastInDim S4x1x2048x128 ![0, 2, 3] bcast_S4x2048x128_S4x1x2048x128_0_2_3 (V m ct main_v150 : S4x2048x128.Idx → EReal)⟩] concatenates_S4x1x2048x128_S4x1x2048x128_S4x2x2048x128_d1)
      shapeCasts_S4x2x2048x128_S8x2048x128 := by
  unfold V
  after_reads_simp
  rfl

/-- The kernel's keys are its two heads' keys side by side. -/
theorem e159 : V m ct main_v159 = shapeCast (s := S4x2x2048x128) S8x2048x128 (concatenate S4x2x2048x128 1 [⟨S4x1x2048x128, broadcastInDim S4x1x2048x128 ![0, 2, 3] bcast_S4x2048x128_S4x1x2048x128_0_2_3 (V m ct main_v78 : S4x2048x128.Idx → EReal)⟩,
      ⟨S4x1x2048x128, broadcastInDim S4x1x2048x128 ![0, 2, 3] bcast_S4x2048x128_S4x1x2048x128_0_2_3 (V m ct main_v151 : S4x2048x128.Idx → EReal)⟩] concatenates_S4x1x2048x128_S4x1x2048x128_S4x2x2048x128_d1)
      shapeCasts_S4x2x2048x128_S8x2048x128 := by
  unfold V
  after_reads_simp
  rfl

/-- The packed queries, by pair and head. -/
theorem host_qa (hq : m ((ct : Thread nD τ).loc main_arg0) = up q) (hc : m ((ct : Thread nD τ).loc main_arg3) = up c) (p : Fin 4) (hh : Fin 2) (r : Fin 2048) (x : Fin 128) :
    V m ct main_v155 (ix3 (hd p hh) r x) = (qaR q c r p hh x : EReal) := by
  rw [e155 m ct, pairs]
  match hh with
  | 0 => rw [if_pos rfl, qa0 m ct q c hq hc]
  | 1 => rw [if_neg (by decide), qa1 m ct q c hq hc]

/-- The packed keys, by pair and head. -/
theorem host_ka (hk : m ((ct : Thread nD τ).loc main_arg1) = up k) (hc : m ((ct : Thread nD τ).loc main_arg3) = up c) (p : Fin 4) (hh : Fin 2) (r : Fin 2048) (x : Fin 128) :
    V m ct main_v159 (ix3 (hd p hh) r x) = (kaR k c r p hh x : EReal) := by
  rw [e159 m ct, pairs]
  match hh with
  | 0 => rw [if_pos rfl, ka0 m ct k c hk hc]
  | 1 => rw [if_neg (by decide), ka1 m ct k c hk hc]

/-- The values are the packed array's last 512 columns. -/
theorem host_v (hv : m ((ct : Thread nD τ).loc main_arg2) = up v) (r : Fin 2048) (z : Fin 512) :
    V m ct main_v1 (ix2 r ⟨1024 + z.val, by omega⟩) = (v (ix2 r z) : EReal) := by
  unfold V
  after_reads_at
  simp (disch := omega) only [dif_neg, dif_pos]
  refine (congrFun hv _).trans ?_
  exact congrArg (fun j => (v (ix2 r j) : EReal)) (Fin.ext (by change 1024 + z.val - 512 - 512 = z.val; omega))

/-- The cotangent is the padded array's first 512 columns. -/
theorem host_g (hg : m ((ct : Thread nD τ).loc main_arg4) = up g) (r : Fin 2048) (z : Fin 512) :
    V m ct main_v3 (ix2 r ⟨z.val, by omega⟩) = (g (ix2 r z) : EReal) := by
  unfold V
  after_reads_at
  exact congrFun hg _

end Cert.FoxIdeal.Hand
-- ==== Proof.FoxHost.lean ====
/-
  The causal attention's backward call: what the host hands the kernel, on real arguments.
-/
module

public import proofs.«01_k».proof.Proof.FoxMath
public import proofs.«01_k».proof.Proof.Gen.FoxIdeal.Value
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.FoxPack

@[expose] public section

set_option maxRecDepth 16384

noncomputable section

namespace Cert.FoxIdeal.Hand

open Cert.FoxIdeal Cert.FoxIdeal.Gen Cert.FoxMath Idealize.ShloMosaic Idealize.ShloMosaic.TcCoe Idealize.SL.Sem
open Idealize.ShloMosaic.Pipeline (Dat)

variable (m : (ℓ : Loc nD τ sig) → Buf (Elt Ideal) ℓ) (ct : Dev nD)
variable (q k : S2048x512.Idx → ℝ) (c : S8x2048.Idx → ℝ) (v g : S2048x512.Idx → ℝ)

/-! ## The forward's rows -/

/-- The host's masked score. -/
theorem host_sc (n : ℕ) (hn : n < 8) (r l : Fin 2048) :
    Scalar.select (IntOp.cmpi CmpIPredicate.sge (BitVec.ofNat 32 r.val) (BitVec.ofNat 32 l.val))
      ((∑ x : Fin 64, up q (ix2 r ⟨n * 64 + x.val, by omega⟩) * up k (ix2 l ⟨n * 64 + x.val, by omega⟩)) * Ideal.ofBits FTy.f32 1040187392#32 + up c (ix2 ⟨n, hn⟩ r) - up c (ix2 ⟨n, hn⟩ l))
      (id (constant (F := Ideal) S_ FTy.f32 4286578688#32) ix0) = msc q k c ⟨n, hn⟩ r l := by
  rw [Words.sel_sge _ _ (by omega) (by omega), bot0, ofBits_eighth]
  simp only [← EReal.coe_mul, Reals.sum_coe, ← EReal.coe_add, ← EReal.coe_sub]
  have e : ∀ x : Fin 64, (⟨n * 64 + x.val, by omega⟩ : Fin 512) = col ⟨n, hn⟩ x := fun x => Fin.ext (by simp only [col]; omega)
  simp only [e]
  rfl

/-- The exponential over the row's sum. -/
theorem div_L (h : Fin 8) (r l : Fin 2048) : Ideal.div (E q k c h r l : EReal) ((∑ x, E q k c h r x : ℝ) : EReal) = (W q k c h r l : EReal) :=
  Reals.div_coe _ _ (L_pos q k c h r).ne'

/-- Running two lines of host operations is running one and then the other. -/
theorem after_append (a b : List (HloOp τ sig (Elt Ideal))) (U : Valuation τ sig (Elt Ideal)) : StableHlo.after (a ++ b) U = StableHlo.after b (StableHlo.after a U) := by
  induction a generalizing U with
  | nil => rfl
  | cons o a ih => exact ih _

/-- What a buffer holds is what the last operations leave in it, from the buffers before them. -/
theorem cut (n : ℕ) : ∃ U : Valuation τ sig (Elt Ideal), ∀ r : Ref sig .tc, V m ct r = StableHlo.after (List.drop n hostOps0_52) U (Proc.tc.devRef r) := by
  refine ⟨StableHlo.after (List.take n hostOps0_52) (StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51]) fun b => m (ct, b)), fun r => ?_⟩
  rw [← after_append, List.take_append_drop, ← after_append]
  refine congrArg (fun o => StableHlo.after o (fun b => m (ct, b)) (Proc.tc.devRef r)) ?_
  rw [← List.flatten_singleton (l := hostOps0_52), ← List.flatten_append]
  rfl

/-- The masked scores. -/
theorem host_scores (hq : m ((ct : Thread nD τ).loc main_arg0) = up q) (hk : m ((ct : Thread nD τ).loc main_arg1) = up k) (hc : m ((ct : Thread nD τ).loc main_arg3) = up c)
    (h : Fin 8) (r l : Fin 2048) : V m ct main_v178 (ix3 h r l) = msc q k c h r l := by
  unfold V
  after_reads_at
  rw [show m (ct, Proc.tc.devRef main_arg0) = up q from hq, show m (ct, Proc.tc.devRef main_arg1) = up k from hk, show m (ct, Proc.tc.devRef main_arg3) = up c from hc]
  exact host_sc q k c h.val h.isLt r l

/-- The row's largest masked score, the logarithm of the row's sum, and the weights, from the masked scores. -/
theorem host_rows (hq : m ((ct : Thread nD τ).loc main_arg0) = up q) (hk : m ((ct : Thread nD τ).loc main_arg1) = up k) (hc : m ((ct : Thread nD τ).loc main_arg3) = up c) :
    (∀ (h : Fin 8) (r : Fin 2048), V m ct main_v179 (ix2 h r) = (M q k c h r : EReal)) ∧ (∀ (h : Fin 8) (r : Fin 2048), V m ct main_v192 (ix2 h r) = (Real.log (L q k c h r) : EReal)) ∧
      ∀ (h : Fin 8) (r l : Fin 2048), V m ct main_v187 (ix3 h r l) = (W q k c h r l : EReal) := by
  obtain ⟨U, hU⟩ := cut m ct 0
  have hy : ∀ (h : Fin 8) (r l : Fin 2048), (U (Proc.tc.devRef main_v178) : S8x2048x2048.Idx → EReal) (ix3 h r l) = msc q k c h r l := fun h r l => by
    rw [← host_scores m ct q k c hq hk hc h r l, hU]
    dsimp only [List.drop]
    after_reads_simp
  refine ⟨fun h r => ?_, fun h r => ?_, fun h r l => ?_⟩
  all_goals
    rw [hU]
    dsimp only [List.drop]
    after_reads_at
    simp only [hy, Reals.ofBits_bot]
  · exact fold_msc q k c h r
  · simp only [fold_msc, exp_msc, Reals.sum_coe]
    exact Reals.log_coe _ (L_pos q k c h r)
  · simp only [fold_msc, exp_msc, Reals.sum_coe]
    exact div_L q k c h r l

/-- The attention's output. -/
theorem out (hq : m ((ct : Thread nD τ).loc main_arg0) = up q) (hk : m ((ct : Thread nD τ).loc main_arg1) = up k) (hv : m ((ct : Thread nD τ).loc main_arg2) = up v) (hc : m ((ct : Thread nD τ).loc main_arg3) = up c)
    (r : Fin 2048) (z : Fin 512) : V m ct main_v191 (ix2 r z) = (O q k c v r z : EReal) := by
  obtain ⟨U, hU⟩ := cut m ct 11
  have hw : ∀ (h : Fin 8) (r l : Fin 2048), (U (Proc.tc.devRef main_v187) : S8x2048x2048.Idx → EReal) (ix3 h r l) = (W q k c h r l : EReal) := fun h r l => by
    rw [← (host_rows m ct q k c hq hk hc).2.2 h r l, hU]
    dsimp only [List.drop]
    after_reads_simp
  have hx : (U (Proc.tc.devRef main_arg2) : S2048x512.Idx → EReal) = up v := by
    rw [← hv]
    refine Eq.trans ?_ ((hU main_arg2).symm.trans ?_)
    · dsimp only [List.drop]
      after_reads_simp
    · unfold V
      after_reads_simp
  rw [hU]
  dsimp only [List.drop]
  after_reads_at
  simp only [hw, hx, ← EReal.coe_mul, Reals.sum_coe]
  have e : (⟨z.val / 64 * 64 + z.val % 64, by omega⟩ : Fin 512) = z := Fin.ext (by simp only []; omega)
  refine congrArg (fun x : ℝ => (x : EReal)) (Finset.sum_congr rfl fun l _ => (mul_comm _ _).trans (congrArg (fun w => W q k c ⟨z.val / 64, by omega⟩ r l * v (ix2 l w)) e))

/-- The row's log-sum, on every lane. -/
theorem lse (hq : m ((ct : Thread nD τ).loc main_arg0) = up q) (hk : m ((ct : Thread nD τ).loc main_arg1) = up k) (hc : m ((ct : Thread nD τ).loc main_arg3) = up c)
    (h : Fin 8) (r : Fin 2048) (x : Fin 128) : V m ct main_v195 (ix3 h r x) = ((M q k c h r + Real.log (L q k c h r) : ℝ) : EReal) := by
  obtain ⟨U, hU⟩ := cut m ct 16
  have hm : (U (Proc.tc.devRef main_v179) : S8x2048.Idx → EReal) (ix2 h r) = (M q k c h r : EReal) := by
    rw [← (host_rows m ct q k c hq hk hc).1 h r, hU]
    dsimp only [List.drop]
    after_reads_simp
  have hl : (U (Proc.tc.devRef main_v192) : S8x2048.Idx → EReal) (ix2 h r) = (Real.log (L q k c h r) : EReal) := by
    rw [← (host_rows m ct q k c hq hk hc).2.1 h r, hU]
    dsimp only [List.drop]
    after_reads_simp
  rw [hU]
  dsimp only [List.drop]
  after_reads_at
  rw [hm, hl, ← EReal.coe_add]

end Cert.FoxIdeal.Hand
-- ==== Proof.FoxBlock.lean ====
/-
  The attention's gradient: one block of rows and keys. On real operands the kernel's block weights are the rows' softmax weights, its block
  of score cotangents is theirs, and what it adds to each gradient is the sum over the block.
-/
module

public import proofs.«01_k».proof.Defs
public import proofs.«01_k».proof.Proof.Gen.FoxIdeal.Value
public import Idealize.ShloMosaic.Lib.Pointwise
public import Idealize.ShloMosaic.Lib.Claim
public import proofs.«01_k».proof.Proof.FoxMath
public import proofs.«01_k».proof.Proof.Words

@[expose] public section

set_option maxRecDepth 16384

namespace Cert.FoxIdeal.Hand

open Cert.FoxIdeal Cert.FoxIdeal.Gen Cert.FoxMath Idealize.ShloMosaic Idealize.ShloMosaic.TcCoe Idealize.SL.Sem

variable (q k : S2048x512.Idx → ℝ) (c : S8x2048.Idx → ℝ) (v g : S2048x512.Idx → ℝ) (p : Fin 4) (R C : Fin 512 → Fin 2048)

/-- The lane numbers. -/
abbrev lanes : IVec S512x128 32 := iota Kind.tc S512x128 32 [1] iota_S512x128_d1_w32

/-- A block's packed queries, packed keys and row log-sums of head `hh` of pair `p`. -/
structure Packed (hh : Fin 2) (qa ka ls : S1x512x128.Idx → EReal) : Prop where
  qa : ∀ r x, qa (ix3 0 r x) = (qaR q c (R r) p hh x : EReal)
  ka : ∀ l x, ka (ix3 0 l x) = (kaR k c (C l) p hh x : EReal)
  ls : ∀ r x, ls (ix3 0 r x) = ((M q k c (hd p hh) (R r) + Real.log (L q k c (hd p hh) (R r)) : ℝ) : EReal)

/-- A block's cotangents, outputs and values, both heads of pair `p` on their lanes. -/
structure Plain (dd oo vv : S512x128.Idx → EReal) : Prop where
  dd : ∀ r x, dd (ix2 r x) = (g (ix2 (R r) (lane p x)) : EReal)
  oo : ∀ r x, oo (ix2 r x) = (O q k c v (R r) (lane p x) : EReal)
  vv : ∀ l x, vv (ix2 l x) = (v (ix2 (C l) (lane p x)) : EReal)

variable {q k c v g p R C} {hh : Fin 2} {qa ka ls : S1x512x128.Idx → EReal} {dd oo vv : S512x128.Idx → EReal}

/-- One eighth, by its f32 word. -/
theorem eighth : Ideal.ofBits FTy.f32 1040187392#32 = ((1 / 8 : ℝ) : EReal) := by
  simp [Ideal.ofBits, Ideal.ieee, -EReal.coe_mul]; norm_num

/-- The name the mask is given stands for −∞. -/
theorem mask : Named.named (F := Ideal) Cert.FoxIdeal.κ "mask" (φ := .f32) 0xF149F2CA#32 = (⊥ : EReal) := IdealRules.named_const.ideal_named_scalar _ _ _ _ rfl

theorem msc_le (h : Fin 8) (r l : Fin 2048) (hl : l.val ≤ r.val) : (S q k c h r l : EReal) = msc q k c h r l := by unfold msc; rw [if_pos hl]
theorem msc_gt (h : Fin 8) (r l : Fin 2048) (hl : ¬l.val ≤ r.val) : (⊥ : EReal) = msc q k c h r l := by unfold msc; rw [if_neg hl]

/-- Below the diagonal the block's weights are the softmax weights. -/
theorem p_off (o : Packed q k c p R C hh qa ka ls) (hRC : ∀ r l, (C l).val ≤ (R r).val) (r l : Fin 512) :
    k0_pay25 (F := Ideal) qa ka ls (ix2 r l) = (W q k c (hd p hh) (R r) (C l) : EReal) := by
  pointwise [k0_pay25, k0_pay21, k0_pay22]
  simp only [o.qa, o.ka, o.ls, ← EReal.coe_mul, Reals.sum_coe, sum_packed, dite_eq_ite, ite_self]
  rw [msc_le _ _ _ (hRC r l)]
  exact exp_lse q k c (hd p hh) (R r) (C l)

/-- On the diagonal they are as well: the masked ones are zero. -/
theorem p_diag (o : Packed q k c p R C hh qa ka ls) (hRC : ∀ r l : Fin 512, (C l).val ≤ (R r).val ↔ l.val ≤ r.val) (r l : Fin 512) :
    k0_pay60 (F := Ideal) qa ka ls (ix2 r l) = (W q k c (hd p hh) (R r) (C l) : EReal) := by
  pointwise [k0_pay60, k0_pay56, k0_pay57, k0_pay51]
  simp only [o.qa, o.ka, o.ls, ← EReal.coe_mul, Reals.sum_coe, sum_packed, dite_eq_ite, ite_self]
  rw [Words.sel_sge _ _ (by omega) (by omega), mask]
  refine Eq.trans (congrArg (fun s : EReal => Ideal.exp (s - _)) ?_) (exp_lse q k c (hd p hh) (R r) (C l))
  unfold msc
  simp only [hRC]

/-- A row's products of the cotangent with the values, less its product with the output. -/
theorem tail (r l : Fin 2048) : ((∑ x, (gm g r p hh x : EReal) * (v (ix2 l (lane p x)) : EReal)) - ∑ x, (gm g r p hh x : EReal) * (O q k c v r (lane p x) : EReal)) =
    ((G v g (hd p hh) r l - D q k c v g (hd p hh) r : ℝ) : EReal) := by
  simp only [← EReal.coe_mul, Reals.sum_coe, cot, delta, ← EReal.coe_sub]

/-- The cotangent kept on the first head's lanes … -/
theorem keep0 (w : Plain q k c v g p R C dd oo vv) (r : Fin 512) (x : Fin 128) : k0_pay23 (F := Ideal) lanes dd (ix2 r x) = (gm g (R r) p 0 x : EReal) := by
  pointwise [k0_pay23, k0_pay20, k0_pay14]
  rw [Words.sel_slt _ _ (by omega) (by omega), w.dd]
  unfold gm
  by_cases hx : x.val < 64
  · rw [if_pos hx, if_pos (by change x.val / 64 = 0; omega)]
  · rw [if_neg hx, if_neg (by change ¬x.val / 64 = 0; omega)]
    simp [Ideal.ofBits, Ideal.ieee]

/-- … and on the second's. -/
theorem keep1 (w : Plain q k c v g p R C dd oo vv) (r : Fin 512) (x : Fin 128) : k0_pay38 (F := Ideal) lanes (k0_pay14 dd) (ix2 r x) = (gm g (R r) p 1 x : EReal) := by
  pointwise [k0_pay38, k0_pay35, k0_pay14]
  rw [Words.sel_sge _ _ (by omega) (by omega), w.dd]
  unfold gm
  by_cases hx : 64 ≤ x.val
  · rw [if_pos hx, if_pos (by change x.val / 64 = 1; omega)]
  · rw [if_neg hx, if_neg (by change ¬x.val / 64 = 1; omega)]
    simp [Ideal.ofBits, Ideal.ieee]

/-- The first head's score cotangents, from its weights: below the diagonal … -/
theorem ds0_off (o : Packed q k c p R C 0 qa ka ls) (w : Plain q k c v g p R C dd oo vv) (hRC : ∀ r l, (C l).val ≤ (R r).val) (r l : Fin 512) :
    k0_pay26 (F := Ideal) lanes dd oo vv qa ka ls (ix2 r l) = (DS q k c v g (hd p 0) (R r) (C l) : EReal) := by
  pointwise [k0_pay26, k0_pay24, k0_pay15, k0_pay16]
  simp only [p_off o hRC, keep0 w, w.oo, w.vv]
  rw [tail, ← EReal.coe_mul]
  rfl

/-- … and on it. -/
theorem ds0_diag (o : Packed q k c p R C 0 qa ka ls) (w : Plain q k c v g p R C dd oo vv) (hRC : ∀ r l : Fin 512, (C l).val ≤ (R r).val ↔ l.val ≤ r.val) (r l : Fin 512) :
    k0_pay62 (F := Ideal) (k0_pay60 qa ka ls) (k0_pay61 lanes dd oo vv) (ix2 r l) = (DS q k c v g (hd p 0) (R r) (C l) : EReal) := by
  have kp : ∀ (r : Fin 512) (x : Fin 128), k0_pay58 (F := Ideal) lanes dd (ix2 r x) = (gm g (R r) p 0 x : EReal) := keep0 w
  pointwise [k0_pay62, k0_pay61, k0_pay59, k0_pay49, k0_pay50]
  simp only [p_diag o hRC, kp, w.oo, w.vv]
  rw [tail, ← EReal.coe_mul]
  rfl

/-- The second head's likewise. -/
theorem ds1_off (o : Packed q k c p R C 1 qa ka ls) (w : Plain q k c v g p R C dd oo vv) (hRC : ∀ r l, (C l).val ≤ (R r).val) (r l : Fin 512) :
    k0_pay41 (F := Ideal) (k0_pay15 oo) (k0_pay16 vv) (k0_pay38 lanes (k0_pay14 dd)) (k0_pay39 lanes (k0_pay14 dd)) (k0_pay40 qa ka ls) (ix2 r l) =
      (DS q k c v g (hd p 1) (R r) (C l) : EReal) := by
  have pp : ∀ r l : Fin 512, k0_pay40 (F := Ideal) qa ka ls (ix2 r l) = (W q k c (hd p 1) (R r) (C l) : EReal) := p_off o hRC
  pointwise [k0_pay41, k0_pay39, k0_pay15, k0_pay16]
  simp only [pp, keep1 w, w.oo, w.vv]
  rw [tail, ← EReal.coe_mul]
  rfl

theorem ds1_diag (o : Packed q k c p R C 1 qa ka ls) (w : Plain q k c v g p R C dd oo vv) (hRC : ∀ r l : Fin 512, (C l).val ≤ (R r).val ↔ l.val ≤ r.val) (r l : Fin 512) :
    k0_pay77 (F := Ideal) (k0_pay49 oo) (k0_pay50 vv) k0_pay51 (k0_pay72 lanes (k0_pay48 dd)) (k0_pay73 lanes (k0_pay48 dd)) (k0_pay74 qa ka) k0_pay75 ls (ix2 r l) =
      (DS q k c v g (hd p 1) (R r) (C l) : EReal) := by
  have pp : ∀ r l : Fin 512, k0_pay76 (F := Ideal) k0_pay51 (k0_pay74 qa ka) k0_pay75 ls (ix2 r l) = (W q k c (hd p 1) (R r) (C l) : EReal) := p_diag o hRC
  have kp : ∀ (r : Fin 512) (x : Fin 128), k0_pay72 (F := Ideal) lanes (k0_pay48 dd) (ix2 r x) = (gm g (R r) p 1 x : EReal) := keep1 w
  pointwise [k0_pay77, k0_pay73, k0_pay49, k0_pay50]
  simp only [pp, kp, w.oo, w.vv]
  rw [tail, ← EReal.coe_mul]
  rfl

/-! ## What the block adds to each gradient -/

/-- The head of lane `x` of pair `p`. -/
def head (p : Fin 4) (x : Fin 128) : Fin 8 := hd p ⟨x.val / 64, by omega⟩

variable (q k c v g p R C)

/-- To a query's gradient, … -/
noncomputable def dqC (r : Fin 512) (x : Fin 128) : ℝ := (∑ l, DS q k c v g (head p x) (R r) (C l) * k (ix2 (C l) (lane p x))) * (1 / 8)
/-- … a key's, … -/
noncomputable def dkC (l : Fin 512) (x : Fin 128) : ℝ := ∑ r, DS q k c v g (head p x) (R r) (C l) * (q (ix2 (R r) (lane p x)) * (1 / 8))
/-- … a value's, … -/
noncomputable def dvC (l : Fin 512) (x : Fin 128) : ℝ := ∑ r, W q k c (head p x) (R r) (C l) * g (ix2 (R r) (lane p x))
/-- … the keys' gate's … -/
noncomputable def dckC (hh : Fin 2) (l : Fin 512) : ℝ := ∑ r, DS q k c v g (hd p hh) (R r) (C l)
/-- … and the queries' gate's. -/
noncomputable def dcqC (hh : Fin 2) (r : Fin 512) : ℝ := ∑ l, DS q k c v g (hd p hh) (R r) (C l)

variable {q k c v g p R C} {qb kb lb : S1x512x128.Idx → EReal}

theorem head0 (x : Fin 128) (hx : x.val < 64) : hd p 0 = head p x := congrArg (hd p) (Fin.ext (by change 0 = x.val / 64; omega))
theorem head1 (x : Fin 128) (hx : ¬x.val < 64) : hd p 1 = head p x := congrArg (hd p) (Fin.ext (by change 1 = x.val / 64; omega))
theorem ka_own (l : Fin 2048) (x : Fin 128) (h : x.val / 64 = hh.val) : kaR k c l p hh x = k (ix2 l (lane p x)) := if_pos h
theorem qa_own (r : Fin 2048) (x : Fin 128) (h : x.val / 64 = hh.val) : qaR q c r p hh x = q (ix2 r (lane p x)) * (1 / 8) := if_pos h

/-- The select between the two heads' lanes, for the queries' gradient … -/
theorem dq_lanes (o : Packed q k c p R C 0 qa ka ls) (o' : Packed q k c p R C 1 qb kb lb) (z : EReal) (r : Fin 512) (x : Fin 128) :
    Scalar.select (IntOp.cmpi .sge (BitVec.ofNat 32 x.val) 64#32) ((∑ l, (DS q k c v g (hd p 1) (R r) (C l) : EReal) * kb (ix3 0 l x)) * Ideal.ofBits FTy.f32 1040187392#32)
      (Scalar.select (IntOp.cmpi .slt (BitVec.ofNat 32 x.val) 64#32) ((∑ l, (DS q k c v g (hd p 0) (R r) (C l) : EReal) * ka (ix3 0 l x)) * Ideal.ofBits FTy.f32 1040187392#32) z) =
      (dqC q k c v g p R C r x : EReal) := by
  rw [Words.sel_sge _ _ (by omega) (by omega), Words.sel_slt _ _ (by omega) (by omega), eighth]
  simp only [o.ka, o'.ka]
  by_cases hx : x.val < 64
  · rw [if_neg (by omega), if_pos hx]
    simp only [head0 x hx, ka_own _ x (show x.val / 64 = (0 : Fin 2).val by change x.val / 64 = 0; omega), ← EReal.coe_mul, Reals.sum_coe]
    rfl
  · rw [if_pos (by omega)]
    simp only [head1 x hx, ka_own _ x (show x.val / 64 = (1 : Fin 2).val by change x.val / 64 = 1; omega), ← EReal.coe_mul, Reals.sum_coe]
    rfl

/-- … and for the keys'. -/
theorem dk_lanes (o : Packed q k c p R C 0 qa ka ls) (o' : Packed q k c p R C 1 qb kb lb) (z : EReal) (l : Fin 512) (x : Fin 128) :
    Scalar.select (IntOp.cmpi .sge (BitVec.ofNat 32 x.val) 64#32) (∑ r, (DS q k c v g (hd p 1) (R r) (C l) : EReal) * qb (ix3 0 r x))
      (Scalar.select (IntOp.cmpi .slt (BitVec.ofNat 32 x.val) 64#32) (∑ r, (DS q k c v g (hd p 0) (R r) (C l) : EReal) * qa (ix3 0 r x)) z) =
      (dkC q k c v g p R C l x : EReal) := by
  rw [Words.sel_sge _ _ (by omega) (by omega), Words.sel_slt _ _ (by omega) (by omega)]
  simp only [o.qa, o'.qa]
  by_cases hx : x.val < 64
  · rw [if_neg (by omega), if_pos hx]
    simp only [head0 x hx, qa_own _ x (show x.val / 64 = (0 : Fin 2).val by change x.val / 64 = 0; omega), ← EReal.coe_mul, Reals.sum_coe]
    rfl
  · rw [if_pos (by omega)]
    simp only [head1 x hx, qa_own _ x (show x.val / 64 = (1 : Fin 2).val by change x.val / 64 = 1; omega), ← EReal.coe_mul, Reals.sum_coe]
    rfl

/-- The two heads' products of weights and kept cotangents. -/
theorem dv_lanes (l : Fin 512) (x : Fin 128) :
    (∑ r, (W q k c (hd p 0) (R r) (C l) : EReal) * (gm g (R r) p 0 x : EReal)) + ∑ r, (W q k c (hd p 1) (R r) (C l) : EReal) * (gm g (R r) p 1 x : EReal) = (dvC q k c g p R C l x : EReal) := by
  simp only [← EReal.coe_mul, Reals.sum_coe, ← EReal.coe_add]
  refine congrArg (fun x : ℝ => (x : EReal)) ?_
  unfold dvC gm
  by_cases hx : x.val < 64
  · have h0 : x.val / 64 = (0 : Fin 2).val := by change x.val / 64 = 0; omega
    have h1 : ¬x.val / 64 = (1 : Fin 2).val := by change ¬x.val / 64 = 1; omega
    simp only [if_pos h0, if_neg h1, mul_zero, Finset.sum_const_zero, add_zero, head0 x hx]
  · have h0 : ¬x.val / 64 = (0 : Fin 2).val := by change ¬x.val / 64 = 0; omega
    have h1 : x.val / 64 = (1 : Fin 2).val := by change x.val / 64 = 1; omega
    simp only [if_neg h0, if_pos h1, mul_zero, Finset.sum_const_zero, zero_add, head1 x hx]

/-- A row's sum of the score cotangents: the two products by ones, the second of a difference that is zero. -/
theorem dcq_row (r : Fin 512) : (∑ l, (DS q k c v g (hd p hh) (R r) (C l) : EReal)) +
      ∑ l, ((DS q k c v g (hd p hh) (R r) (C l) : EReal) - (DS q k c v g (hd p hh) (R r) (C l) : EReal)) = (dcqC q k c v g p R C hh r : EReal) := by
  simp only [← EReal.coe_sub, Reals.sum_coe, ← EReal.coe_add, sub_self, Finset.sum_const_zero, add_zero]
  rfl

section off
variable (o : Packed q k c p R C 0 qa ka ls) (o' : Packed q k c p R C 1 qb kb lb) (w : Plain q k c v g p R C dd oo vv) (hRC : ∀ r l, (C l).val ≤ (R r).val)
include o o' w hRC

/-- Below the diagonal: the queries' gradient, … -/
theorem dq_off (y : S512x128.Idx → EReal) (r : Fin 512) (x : Fin 128) :
    k0_pay7 (F := Ideal) (k0_pay43 (k0_pay15 oo) (k0_pay16 vv) (k0_pay30 k0_pay17 (k0_pay20 lanes) (k0_pay28 lanes dd oo vv qa ka ls) k0_pay29) (k0_pay35 lanes)
      (k0_pay37 kb) (k0_pay38 lanes (k0_pay14 dd)) (k0_pay39 lanes (k0_pay14 dd)) (k0_pay40 qb kb lb)) y (ix2 r x) = y (ix2 r x) + (dqC q k c v g p R C r x : EReal) := by
  pointwise [k0_pay7, k0_pay43, k0_pay42, k0_pay30, k0_pay17, k0_pay20, k0_pay28, k0_pay27, k0_pay22, k0_pay29, k0_pay35, k0_pay37]
  simp only [ds0_off o w hRC, ds1_off o' w hRC]
  rw [dq_lanes o o']

/-- … the keys', … -/
theorem dk_off (y : S512x128.Idx → EReal) (l : Fin 512) (x : Fin 128) :
    k0_pay8 (F := Ideal) (k0_pay44 (k0_pay15 oo) (k0_pay16 vv) (k0_pay31 k0_pay18 (k0_pay20 lanes) (k0_pay21 qa) (k0_pay27 lanes dd oo vv qa ka ls)) (k0_pay35 lanes)
      (k0_pay36 qb) (k0_pay38 lanes (k0_pay14 dd)) (k0_pay39 lanes (k0_pay14 dd)) (k0_pay40 qb kb lb)) y (ix2 l x) = y (ix2 l x) + (dkC q k c v g p R C l x : EReal) := by
  pointwise [k0_pay8, k0_pay44, k0_pay42, k0_pay31, k0_pay18, k0_pay20, k0_pay21, k0_pay27, k0_pay35, k0_pay36]
  simp only [ds0_off o w hRC, ds1_off o' w hRC]
  rw [dk_lanes o o']

/-- … the values', … -/
theorem dv_off (y : S512x128.Idx → EReal) (l : Fin 512) (x : Fin 128) :
    k0_pay9 (F := Ideal) (k0_pay45 (k0_pay32 k0_pay19 (k0_pay24 lanes dd) (k0_pay25 qa ka ls)) (k0_pay39 lanes (k0_pay14 dd)) (k0_pay40 qb kb lb)) y (ix2 l x) =
      y (ix2 l x) + (dvC q k c g p R C l x : EReal) := by
  have pp : ∀ r l : Fin 512, k0_pay40 (F := Ideal) qb kb lb (ix2 r l) = (W q k c (hd p 1) (R r) (C l) : EReal) := p_off o' hRC
  pointwise [k0_pay9, k0_pay45, k0_pay32, k0_pay19, k0_pay24, k0_pay39]
  simp only [p_off o hRC, pp, keep0 w, keep1 w]
  rw [dv_lanes]

/-- … the keys' gate's, the first head's row … -/
theorem dck0_off (y : S1x1x512.Idx → EReal) (l : Fin 512) :
    k0_pay33 (F := Ideal) (k0_pay26 lanes dd oo vv qa ka ls) y (ix3 0 0 l) = y (ix3 0 0 l) + (dckC q k c v g p R C 0 l : EReal) := by
  pointwise [k0_pay33]
  simp only [ds0_off o w hRC, Reals.sum_coe]
  rfl

/-- … and the second's, … -/
theorem dck1_off (y : S1x1x512.Idx → EReal) (l : Fin 512) :
    k0_pay46 (F := Ideal) (k0_pay15 oo) (k0_pay16 vv) (k0_pay38 lanes (k0_pay14 dd)) (k0_pay39 lanes (k0_pay14 dd)) (k0_pay40 qb kb lb) y (ix3 0 0 l) =
      y (ix3 0 0 l) + (dckC q k c v g p R C 1 l : EReal) := by
  pointwise [k0_pay46]
  simp only [ds1_off o' w hRC, Reals.sum_coe]
  rfl

/-- … and the queries' gate's. -/
theorem dcq_off (y : S2x1x16x512.Idx → EReal) (h2 : Fin 2) (e : Fin 16) (r : Fin 512) :
    k0_pay47 (F := Ideal) k0_pay1 (k0_pay15 oo) (k0_pay16 vv) (k0_pay34 k0_pay1 (k0_pay26 lanes dd oo vv qa ka ls) (k0_pay27 lanes dd oo vv qa ka ls))
      (k0_pay38 lanes (k0_pay14 dd)) (k0_pay39 lanes (k0_pay14 dd)) (k0_pay40 qb kb lb) y (ix4 h2 0 e r) = y (ix4 h2 0 e r) + (dcqC q k c v g p R C h2 r : EReal) := by
  match h2 with
  | 0 =>
    pointwise [k0_pay47, k0_pay34, k0_pay27, k0_pay42, k0_pay1]
    simp only [ds0_off o w hRC, ds1_off o' w hRC]
    rw [dcq_row]
  | 1 =>
    pointwise [k0_pay47, k0_pay34, k0_pay27, k0_pay42, k0_pay1]
    simp only [ds0_off o w hRC, ds1_off o' w hRC]
    rw [dcq_row]

end off

section diag
variable (o : Packed q k c p R C 0 qa ka ls) (o' : Packed q k c p R C 1 qb kb lb) (w : Plain q k c v g p R C dd oo vv) (hRC : ∀ r l : Fin 512, (C l).val ≤ (R r).val ↔ l.val ≤ r.val)
include o o' w hRC

/-- On the diagonal: the queries' gradient, … -/
theorem dq_diag (y : S512x128.Idx → EReal) (r : Fin 512) (x : Fin 128) :
    k0_pay11 (F := Ideal) (k0_pay79 (k0_pay49 oo) (k0_pay50 vv) k0_pay51 (k0_pay64 k0_pay52 (k0_pay55 lanes) (k0_pay57 ka) (k0_pay60 qa ka ls) (k0_pay61 lanes dd oo vv))
      (k0_pay69 lanes) (k0_pay71 kb) (k0_pay72 lanes (k0_pay48 dd)) (k0_pay73 lanes (k0_pay48 dd)) (k0_pay74 qb kb) k0_pay75 lb) y (ix2 r x) =
      y (ix2 r x) + (dqC q k c v g p R C r x : EReal) := by
  pointwise [k0_pay11, k0_pay79, k0_pay78, k0_pay64, k0_pay63, k0_pay52, k0_pay55, k0_pay57, k0_pay69, k0_pay71]
  simp only [ds0_diag o w hRC, ds1_diag o' w hRC]
  rw [dq_lanes o o']

/-- … the keys', … -/
theorem dk_diag (y : S512x128.Idx → EReal) (l : Fin 512) (x : Fin 128) :
    k0_pay12 (F := Ideal) (k0_pay80 (k0_pay49 oo) (k0_pay50 vv) k0_pay51 (k0_pay65 k0_pay53 (k0_pay55 lanes) (k0_pay56 qa) (k0_pay60 qa ka ls) (k0_pay61 lanes dd oo vv))
      (k0_pay69 lanes) (k0_pay70 qb) (k0_pay72 lanes (k0_pay48 dd)) (k0_pay73 lanes (k0_pay48 dd)) (k0_pay74 qb kb) k0_pay75 lb) y (ix2 l x) =
      y (ix2 l x) + (dkC q k c v g p R C l x : EReal) := by
  pointwise [k0_pay12, k0_pay80, k0_pay78, k0_pay65, k0_pay63, k0_pay53, k0_pay55, k0_pay56, k0_pay69, k0_pay70]
  simp only [ds0_diag o w hRC, ds1_diag o' w hRC]
  rw [dk_lanes o o']

/-- … the values', … -/
theorem dv_diag (y : S512x128.Idx → EReal) (l : Fin 512) (x : Fin 128) :
    k0_pay13 (F := Ideal) (k0_pay81 k0_pay51 (k0_pay66 k0_pay54 (k0_pay59 lanes dd) (k0_pay60 qa ka ls)) (k0_pay73 lanes (k0_pay48 dd)) (k0_pay74 qb kb) k0_pay75 lb) y (ix2 l x) =
      y (ix2 l x) + (dvC q k c g p R C l x : EReal) := by
  have pp : ∀ r l : Fin 512, k0_pay76 (F := Ideal) k0_pay51 (k0_pay74 qb kb) k0_pay75 lb (ix2 r l) = (W q k c (hd p 1) (R r) (C l) : EReal) := p_diag o' hRC
  have k0 : ∀ (r : Fin 512) (x : Fin 128), k0_pay58 (F := Ideal) lanes dd (ix2 r x) = (gm g (R r) p 0 x : EReal) := keep0 w
  have k1 : ∀ (r : Fin 512) (x : Fin 128), k0_pay72 (F := Ideal) lanes (k0_pay48 dd) (ix2 r x) = (gm g (R r) p 1 x : EReal) := keep1 w
  pointwise [k0_pay13, k0_pay81, k0_pay66, k0_pay54, k0_pay59, k0_pay73]
  simp only [p_diag o hRC, pp, k0, k1]
  rw [dv_lanes]

/-- … the keys' gate's, the first head's row … -/
theorem dck0_diag (y : S1x1x512.Idx → EReal) (l : Fin 512) :
    k0_pay67 (F := Ideal) (k0_pay60 qa ka ls) (k0_pay61 lanes dd oo vv) y (ix3 0 0 l) = y (ix3 0 0 l) + (dckC q k c v g p R C 0 l : EReal) := by
  pointwise [k0_pay67]
  simp only [ds0_diag o w hRC, Reals.sum_coe]
  rfl

/-- … and the second's, … -/
theorem dck1_diag (y : S1x1x512.Idx → EReal) (l : Fin 512) :
    k0_pay82 (F := Ideal) (k0_pay49 oo) (k0_pay50 vv) k0_pay51 (k0_pay72 lanes (k0_pay48 dd)) (k0_pay73 lanes (k0_pay48 dd)) (k0_pay74 qb kb) k0_pay75 lb y (ix3 0 0 l) =
      y (ix3 0 0 l) + (dckC q k c v g p R C 1 l : EReal) := by
  pointwise [k0_pay82]
  simp only [ds1_diag o' w hRC, Reals.sum_coe]
  rfl

/-- … and the queries' gate's. -/
theorem dcq_diag (y : S2x1x16x512.Idx → EReal) (h2 : Fin 2) (e : Fin 16) (r : Fin 512) :
    k0_pay10 (F := Ideal) (k0_pay68 k0_pay1 (k0_pay60 qa ka ls) (k0_pay61 lanes dd oo vv)) (k0_pay83 k0_pay1 (k0_pay49 oo) (k0_pay50 vv) k0_pay51 (k0_pay72 lanes (k0_pay48 dd))
      (k0_pay73 lanes (k0_pay48 dd)) (k0_pay74 qb kb) k0_pay75 lb) y (ix4 h2 0 e r) = y (ix4 h2 0 e r) + (dcqC q k c v g p R C h2 r : EReal) := by
  match h2 with
  | 0 =>
    pointwise [k0_pay10, k0_pay68, k0_pay63, k0_pay83, k0_pay78, k0_pay1]
    simp only [ds0_diag o w hRC, ds1_diag o' w hRC]
    rw [dcq_row]
  | 1 =>
    pointwise [k0_pay10, k0_pay68, k0_pay63, k0_pay83, k0_pay78, k0_pay1]
    simp only [ds0_diag o w hRC, ds1_diag o' w hRC]
    rw [dcq_row]

end diag

end Cert.FoxIdeal.Hand
-- ==== Proof.FoxBlk.lean ====
/-
  The attention's gradient: what the windows hold at a point. Point `t` is pair `t / 16`, key block `t / 4 % 4` and row block `t % 4`; where the
  row block is not before the key block, its windows hold that block's packed operands, cotangents, outputs and values.
-/
module

public import proofs.«01_k».proof.Defs
public import proofs.«01_k».proof.Proof.Gen.FoxIdeal.Value
public import Idealize.ShloMosaic.Lib.Pipeline.ValueKit
public import Idealize.ShloMosaic.Lib.Pointwise
public import Idealize.ShloMosaic.Lib.Claim
public import proofs.«01_k».proof.Proof.FoxMath
public import proofs.«01_k».proof.Proof.FoxHost
public import proofs.«01_k».proof.Proof.FoxBlock

@[expose] public section

set_option maxRecDepth 16384

namespace Cert.FoxIdeal.Hand

open Cert.FoxIdeal Cert.FoxIdeal.Gen Cert.FoxMath Idealize.ShloMosaic Idealize.ShloMosaic.TcCoe Idealize.SL.Sem
open Idealize.ShloMosaic.Pipeline (Dat)

variable (m : (ℓ : Loc nD τ sig) → Buf (Elt Ideal) ℓ) (ct : Dev nD)

theorem lt64 (t : Fin cfg0.N) : t.val < 64 := by have := t.isLt; have h : cfg0.N = 64 := N_0; omega

/-- Row `r` of block `i`. -/
def blk (i : Fin 4) (r : Fin 512) : Fin 2048 := ⟨512 * i.val + r.val, by omega⟩

/-- A point's pair, key block and row block. -/
def pI (t : Fin cfg0.N) : Fin 4 := ⟨t.val / 16, by have := lt64 t; omega⟩
def jI (t : Fin cfg0.N) : Fin 4 := ⟨t.val / 4 % 4, by omega⟩
def iI (t : Fin cfg0.N) : Fin 4 := ⟨t.val % 4, by omega⟩

theorem idx0 : ∀ t : Fin grid0.N, win0_0.index t = ![t.val / 16, max (t.val % 4) (t.val / 4 % 4), 0] := by decide +kernel
theorem idx1 : ∀ t : Fin grid0.N, win0_1.index t = ![t.val / 16, t.val / 4 % 4, 0] := by decide +kernel
theorem idx2 : ∀ t : Fin grid0.N, win0_2.index t = ![t.val / 4 % 4, 8 + t.val / 16] := by decide +kernel
theorem idx3 : ∀ t : Fin grid0.N, win0_3.index t = ![max (t.val % 4) (t.val / 4 % 4), t.val / 16] := by decide +kernel
theorem idx4 : ∀ t : Fin grid0.N, win0_4.index t = ![max (t.val % 4) (t.val / 4 % 4), t.val / 16] := by decide +kernel
theorem idx5 : ∀ t : Fin grid0.N, win0_5.index t = ![t.val / 16, max (t.val % 4) (t.val / 4 % 4), 0] := by decide +kernel

variable (t : Fin cfg0.N) (hji : t.val / 4 % 4 ≤ t.val % 4)

include hji in
theorem index0 : win0_0.index t = ![t.val / 16, t.val % 4, 0] := by rw [idx0 t, max_eq_left hji]
include hji in
theorem index3 : win0_3.index t = ![t.val % 4, t.val / 16] := by rw [idx3 t, max_eq_left hji]
include hji in
theorem index4 : win0_4.index t = ![t.val % 4, t.val / 16] := by rw [idx4 t, max_eq_left hji]
include hji in
theorem index5 : win0_5.index t = ![t.val / 16, t.val % 4, 0] := by rw [idx5 t, max_eq_left hji]

/-- A window's block is read from its array. -/
theorem block_eq (w : Fin cfg0.W) : iblk m ct w t = View.read (Elt Ideal) ((cfg0.win w).blk t).view (V m ct (Pipeline.arrRef spec0 w)) := rfl

variable (U : (b : Ref sig Kind.tc) → Buf (Elt Ideal) ((ct : Thread nD τ).loc b))

include hji in
theorem emb0 (hh : Fin 2) (r : Fin 512) (x : Fin 128) : (win0_0.blk t).view.emb (ix3 hh r x) = ix3 (hd (pI t) hh) (blk (iI t) r) x := by
  blk_point [index0 t hji, hd, blk, pI, jI, iI, lane]
include hji in
theorem at0 (hh : Fin 2) (r : Fin 512) (x : Fin 128) : View.read (Elt Ideal) ((cfg0.win 0).blk t).view (U (Pipeline.arrRef spec0 0)) (ix3 hh r x) = U main_v155 (ix3 (hd (pI t) hh) (blk (iI t) r) x) :=
  congrArg (U main_v155) (emb0 t hji hh r x)
include hji in
theorem blk0 (hh : Fin 2) (r : Fin 512) (x : Fin 128) : iblk m ct 0 t (ix3 hh r x) = V m ct main_v155 (ix3 (hd (pI t) hh) (blk (iI t) r) x) :=
  (congrFun (block_eq m ct t 0) _).trans (at0 ct t hji (V m ct) hh r x)
theorem emb1 (hh : Fin 2) (r : Fin 512) (x : Fin 128) : (win0_1.blk t).view.emb (ix3 hh r x) = ix3 (hd (pI t) hh) (blk (jI t) r) x := by
  blk_point [idx1 t, hd, blk, pI, jI, iI, lane]
theorem at1 (hh : Fin 2) (r : Fin 512) (x : Fin 128) : View.read (Elt Ideal) ((cfg0.win 1).blk t).view (U (Pipeline.arrRef spec0 1)) (ix3 hh r x) = U main_v159 (ix3 (hd (pI t) hh) (blk (jI t) r) x) :=
  congrArg (U main_v159) (emb1 t hh r x)
theorem blk1 (hh : Fin 2) (r : Fin 512) (x : Fin 128) : iblk m ct 1 t (ix3 hh r x) = V m ct main_v159 (ix3 (hd (pI t) hh) (blk (jI t) r) x) :=
  (congrFun (block_eq m ct t 1) _).trans (at1 ct t (V m ct) hh r x)
theorem emb2 (r : Fin 512) (x : Fin 128) : (win0_2.blk t).view.emb (ix2 r x) = ix2 (blk (jI t) r) ⟨1024 + (lane (pI t) x).val, by omega⟩ := by
  blk_point [idx2 t, hd, blk, pI, jI, iI, lane]
theorem at2 (r : Fin 512) (x : Fin 128) : View.read (Elt Ideal) ((cfg0.win 2).blk t).view (U (Pipeline.arrRef spec0 2)) (ix2 r x) = U main_v1 (ix2 (blk (jI t) r) ⟨1024 + (lane (pI t) x).val, by omega⟩) :=
  congrArg (U main_v1) (emb2 t r x)
theorem blk2 (r : Fin 512) (x : Fin 128) : iblk m ct 2 t (ix2 r x) = V m ct main_v1 (ix2 (blk (jI t) r) ⟨1024 + (lane (pI t) x).val, by omega⟩) :=
  (congrFun (block_eq m ct t 2) _).trans (at2 ct t (V m ct) r x)
include hji in
theorem emb3 (r : Fin 512) (x : Fin 128) : (win0_3.blk t).view.emb (ix2 r x) = ix2 (blk (iI t) r) ⟨(lane (pI t) x).val, by omega⟩ := by
  blk_point [index3 t hji, hd, blk, pI, jI, iI, lane]
include hji in
theorem at3 (r : Fin 512) (x : Fin 128) : View.read (Elt Ideal) ((cfg0.win 3).blk t).view (U (Pipeline.arrRef spec0 3)) (ix2 r x) = U main_v3 (ix2 (blk (iI t) r) ⟨(lane (pI t) x).val, by omega⟩) :=
  congrArg (U main_v3) (emb3 t hji r x)
include hji in
theorem blk3 (r : Fin 512) (x : Fin 128) : iblk m ct 3 t (ix2 r x) = V m ct main_v3 (ix2 (blk (iI t) r) ⟨(lane (pI t) x).val, by omega⟩) :=
  (congrFun (block_eq m ct t 3) _).trans (at3 ct t hji (V m ct) r x)
include hji in
theorem emb4 (r : Fin 512) (x : Fin 128) : (win0_4.blk t).view.emb (ix2 r x) = ix2 (blk (iI t) r) (lane (pI t) x) := by
  blk_point [index4 t hji, hd, blk, pI, jI, iI, lane]
include hji in
theorem at4 (r : Fin 512) (x : Fin 128) : View.read (Elt Ideal) ((cfg0.win 4).blk t).view (U (Pipeline.arrRef spec0 4)) (ix2 r x) = U main_v191 (ix2 (blk (iI t) r) (lane (pI t) x)) :=
  congrArg (U main_v191) (emb4 t hji r x)
include hji in
theorem blk4 (r : Fin 512) (x : Fin 128) : iblk m ct 4 t (ix2 r x) = V m ct main_v191 (ix2 (blk (iI t) r) (lane (pI t) x)) :=
  (congrFun (block_eq m ct t 4) _).trans (at4 ct t hji (V m ct) r x)
include hji in
theorem emb5 (hh : Fin 2) (r : Fin 512) (x : Fin 128) : (win0_5.blk t).view.emb (ix3 hh r x) = ix3 (hd (pI t) hh) (blk (iI t) r) x := by
  blk_point [index5 t hji, hd, blk, pI, jI, iI, lane]
include hji in
theorem at5 (hh : Fin 2) (r : Fin 512) (x : Fin 128) : View.read (Elt Ideal) ((cfg0.win 5).blk t).view (U (Pipeline.arrRef spec0 5)) (ix3 hh r x) = U main_v195 (ix3 (hd (pI t) hh) (blk (iI t) r) x) :=
  congrArg (U main_v195) (emb5 t hji hh r x)
include hji in
theorem blk5 (hh : Fin 2) (r : Fin 512) (x : Fin 128) : iblk m ct 5 t (ix3 hh r x) = V m ct main_v195 (ix3 (hd (pI t) hh) (blk (iI t) r) x) :=
  (congrFun (block_eq m ct t 5) _).trans (at5 ct t hji (V m ct) hh r x)

theorem ld0 (X : S2x512x128.Idx → EReal) (r : Fin 512) (x : Fin 128) :
    View.ld (Val := Elt Ideal) (e' := .f32) X (Rect.unit ![0, 0, 0] ![1, 512, 128] inb_S2x512x128_S1x512x128_0_0_0) (ix3 0 r x) = X (ix3 0 r x) := by
  unfold View.ld
  pointwise
theorem ld1 (X : S2x512x128.Idx → EReal) (r : Fin 512) (x : Fin 128) :
    View.ld (Val := Elt Ideal) (e' := .f32) X (Rect.unit ![1, 0, 0] ![1, 512, 128] inb_S2x512x128_S1x512x128_1_0_0) (ix3 0 r x) = X (ix3 1 r x) := by
  unfold View.ld
  pointwise

variable {q k v g : S2048x512.Idx → ℝ} {c : S8x2048.Idx → ℝ}
  (hq : m ((ct : Thread nD τ).loc main_arg0) = up q) (hk : m ((ct : Thread nD τ).loc main_arg1) = up k)
  (hv : m ((ct : Thread nD τ).loc main_arg2) = up v) (hc : m ((ct : Thread nD τ).loc main_arg3) = up c)
  (hg : m ((ct : Thread nD τ).loc main_arg4) = up g)

include hji hq hk hc in
/-- The first head's packed blocks … -/
theorem packed0 : Packed q k c (pI t) (blk (iI t)) (blk (jI t)) 0
    (View.ld (iblk m ct 0 t) (Rect.unit ![0, 0, 0] ![1, 512, 128] inb_S2x512x128_S1x512x128_0_0_0))
    (View.ld (iblk m ct 1 t) (Rect.unit ![0, 0, 0] ![1, 512, 128] inb_S2x512x128_S1x512x128_0_0_0))
    (View.ld (iblk m ct 5 t) (Rect.unit ![0, 0, 0] ![1, 512, 128] inb_S2x512x128_S1x512x128_0_0_0)) where
  qa r x := (ld0 _ r x).trans ((blk0 m ct t hji 0 r x).trans (host_qa m ct q c hq hc _ _ _ _))
  ka l x := (ld0 _ l x).trans ((blk1 m ct t 0 l x).trans (host_ka m ct k c hk hc _ _ _ _))
  ls r x := (ld0 _ r x).trans ((blk5 m ct t hji 0 r x).trans (lse m ct q k c hq hk hc _ _ _))

include hji hq hk hc in
/-- … and the second's. -/
theorem packed1 : Packed q k c (pI t) (blk (iI t)) (blk (jI t)) 1
    (View.ld (iblk m ct 0 t) (Rect.unit ![1, 0, 0] ![1, 512, 128] inb_S2x512x128_S1x512x128_1_0_0))
    (View.ld (iblk m ct 1 t) (Rect.unit ![1, 0, 0] ![1, 512, 128] inb_S2x512x128_S1x512x128_1_0_0))
    (View.ld (iblk m ct 5 t) (Rect.unit ![1, 0, 0] ![1, 512, 128] inb_S2x512x128_S1x512x128_1_0_0)) where
  qa r x := (ld1 _ r x).trans ((blk0 m ct t hji 1 r x).trans (host_qa m ct q c hq hc _ _ _ _))
  ka l x := (ld1 _ l x).trans ((blk1 m ct t 1 l x).trans (host_ka m ct k c hk hc _ _ _ _))
  ls r x := (ld1 _ r x).trans ((blk5 m ct t hji 1 r x).trans (lse m ct q k c hq hk hc _ _ _))

include hji hq hk hv hc hg in
/-- The plain blocks. -/
theorem plain : Plain q k c v g (pI t) (blk (iI t)) (blk (jI t)) (iblk m ct 3 t) (iblk m ct 4 t) (iblk m ct 2 t) where
  dd r x := (blk3 m ct t hji r x).trans (host_g m ct g hg _ _)
  oo r x := (blk4 m ct t hji r x).trans (out m ct q k c v hq hk hv hc _ _)
  vv l x := (blk2 m ct t l x).trans (host_v m ct v hv _ _)

theorem below (h : t.val / 4 % 4 < t.val % 4) (r l : Fin 512) : (blk (jI t) l).val ≤ (blk (iI t) r).val := by
  change 512 * (t.val / 4 % 4) + l.val ≤ 512 * (t.val % 4) + r.val; omega
theorem diag (h : t.val / 4 % 4 = t.val % 4) (r l : Fin 512) : (blk (jI t) l).val ≤ (blk (iI t) r).val ↔ l.val ≤ r.val := by
  change 512 * (t.val / 4 % 4) + l.val ≤ 512 * (t.val % 4) + r.val ↔ _; omega

end Cert.FoxIdeal.Hand
-- ==== Proof.FoxRows.lean ====
/-
  The attention's gradient: a store of one block of rows, read back.
-/
module

public import proofs.«01_k».proof.Defs
public import proofs.«01_k».proof.Proof.Gen.FoxIdeal.Value
public import Idealize.ShloMosaic.Lib.Pipeline.ValueKit
public import Idealize.ShloMosaic.Lib.WritesUnit
public import Idealize.ShloMosaic.Lib.Pointwise

@[expose] public section

set_option maxRecDepth 16384

namespace Cert.FoxIdeal.Hand

open Cert.FoxIdeal Cert.FoxIdeal.Gen Idealize.ShloMosaic Idealize.ShloMosaic.TcCoe Idealize.SL.Sem

section unit
variable {s : Shape} {off off' size : Fin s.rank → ℕ} (inb : ∀ a, off a + size a ≤ s.size a)
  (w : (Rect.unit off size inb).shape.Idx → Elt Ideal .f32) (P : List (View.Piece (Elt Ideal) s .f32)) (y : s.Idx) (heq : off = off')
include heq

/-- The newest store, at an index it covers … -/
theorem canon_of_mem (x : (Rect.unit off size inb).shape.Idx) (hx : ∀ a, (y a).val = off' a + (x a).val) :
    View.canon (⟨Rect.unit off size inb, w⟩ :: P) y = w x := by
  subst heq
  have hy : (Rect.unit off size inb).emb x = y := funext fun a => Fin.ext (by
    show off a + 1 * (x a).val = (y a).val
    rw [hx a, Nat.one_mul])
  rw [← hy]
  exact View.canon_cons_emb _ w P x

/-- … and at one that it does not. -/
theorem canon_of_not_mem (a : Fin s.rank) (ha : (y a).val < off' a ∨ off' a + size a ≤ (y a).val) :
    View.canon (⟨Rect.unit off size inb, w⟩ :: P) y = View.canon P y := by
  subst heq
  refine View.canon_cons_of_not_mem _ P fun hy => ?_
  have := (Rect.mem_set_unit (inb := inb)).mp hy a
  omega

/-- A load of a block. -/
theorem ld_at (X : s.Idx → Elt Ideal .f32) (x : (Rect.unit off size inb).shape.Idx) (hx : ∀ a, (y a).val = off' a + (x a).val) :
    View.ld X (Rect.unit off size inb) x = X y := by
  subst heq
  refine congrArg X (funext fun a => Fin.ext ?_)
  show off a + 1 * (x a).val = (y a).val
  rw [hx a, Nat.one_mul]

end unit

/-! ## The queries' gradient: rows of a block of 512 -/

section dq
variable {off : Fin 2 → ℕ} (inb : ∀ a, off a + (![512, 128] : Fin 2 → ℕ) a ≤ S2048x128.size a) (i : Fin 4) (heq : off = ![512 * i.val, 0])
  (w : (Rect.unit (s := S2048x128) off ![512, 128] inb).shape.Idx → Elt Ideal .f32) (X : S2048x128.Idx → Elt Ideal .f32) (Y : Fin 2048) (x : Fin 128)
include heq

theorem row_ld (r : Fin 512) (hY : Y.val = 512 * i.val + r.val) : View.ld X (Rect.unit (s := S2048x128) off ![512, 128] inb) (ix2 r x) = X (ix2 Y x) := by
  refine ld_at inb _ heq X _ fun a => ?_
  match a with
  | ⟨0, _⟩ => exact hY
  | ⟨1, _⟩ => exact (Nat.zero_add _).symm

theorem row_write {M : Memref sig .tc .vmem S2048x128 .f32} (h : M.IsWhole) :
    View.read (Elt Ideal) M.view (M.view.writes (Elt Ideal) (h.unread X) [⟨Rect.unit off ![512, 128] inb, w⟩]) (ix2 Y x) =
      if Y.val / 512 = i.val then w (ix2 ⟨Y.val % 512, by omega⟩ x) else X (ix2 Y x) := by
  by_cases hY : Y.val / 512 = i.val
  · rw [if_pos hY]
    refine View.read_writes_cons_unit_of_mem _ _ inb w [] _ (ix2 ⟨Y.val % 512, by omega⟩ x) heq fun a => ?_
    match a with
    | ⟨0, _⟩ => change Y.val = 512 * i.val + Y.val % 512; omega
    | ⟨1, _⟩ => exact (Nat.zero_add _).symm
  · rw [if_neg hY]
    refine (View.read_writes_cons_unit_of_not_mem _ _ inb w [] _ heq 0 ?_).trans ?_
    · change Y.val < 512 * i.val ∨ 512 * i.val + 512 ≤ Y.val; omega
    · exact congrFun (Memref.IsWhole.read_unread h X) _

theorem row_canon (inb' : ∀ a, (![0, 0] : Fin 2 → ℕ) a + (![2048, 128] : Fin 2 → ℕ) a ≤ S2048x128.size a) :
    View.canon [⟨Rect.unit (s := S2048x128) off ![512, 128] inb, w⟩, ⟨Rect.unit ![0, 0] ![2048, 128] inb', X⟩] (ix2 Y x) =
      if Y.val / 512 = i.val then w (ix2 ⟨Y.val % 512, by omega⟩ x) else X (ix2 Y x) := by
  by_cases hY : Y.val / 512 = i.val
  · rw [if_pos hY]
    refine canon_of_mem inb w _ _ heq (ix2 ⟨Y.val % 512, by omega⟩ x) fun a => ?_
    match a with
    | ⟨0, _⟩ => change Y.val = 512 * i.val + Y.val % 512; omega
    | ⟨1, _⟩ => exact (Nat.zero_add _).symm
  · rw [if_neg hY]
    refine (canon_of_not_mem inb w _ _ heq 0 ?_).trans ?_
    · change Y.val < 512 * i.val ∨ 512 * i.val + 512 ≤ Y.val; omega
    · exact congrFun (View.canon_cons_unit_zero (Val := Elt Ideal) (S := S2048x128) (off := ![0, 0]) (by decide) inb' X []) _

end dq

/-! ## The queries' gate: the planes of a block -/

section dcq
variable {off : Fin 4 → ℕ} (inb : ∀ a, off a + (![2, 1, 16, 512] : Fin 4 → ℕ) a ≤ S2x4x16x512.size a) (i : Fin 4) (heq : off = ![0, i.val, 0, 0])
  (w : (Rect.unit (s := S2x4x16x512) off ![2, 1, 16, 512] inb).shape.Idx → Elt Ideal .f32) (X : S2x4x16x512.Idx → Elt Ideal .f32)
  (h2 : Fin 2) (a4 : Fin 4) (e : Fin 16) (r : Fin 512)
include heq

theorem plane_ld : View.ld X (Rect.unit (s := S2x4x16x512) off ![2, 1, 16, 512] inb) (ix4 h2 0 e r) = X (ix4 h2 i e r) := by
  refine ld_at inb _ heq X _ fun a => ?_
  match a with
  | ⟨0, _⟩ => exact (Nat.zero_add _).symm
  | ⟨1, _⟩ => rfl
  | ⟨2, _⟩ => exact (Nat.zero_add _).symm
  | ⟨3, _⟩ => exact (Nat.zero_add _).symm

theorem plane_write {M : Memref sig .tc .vmem S2x4x16x512 .f32} (h : M.IsWhole) :
    View.read (Elt Ideal) M.view (M.view.writes (Elt Ideal) (h.unread X) [⟨Rect.unit off ![2, 1, 16, 512] inb, w⟩]) (ix4 h2 a4 e r) =
      if a4 = i then w (ix4 h2 0 e r) else X (ix4 h2 a4 e r) := by
  by_cases hY : a4 = i
  · rw [if_pos hY]
    refine View.read_writes_cons_unit_of_mem _ _ inb w [] _ (ix4 h2 0 e r) heq fun a => ?_
    match a with
    | ⟨0, _⟩ => exact (Nat.zero_add _).symm
    | ⟨1, _⟩ => exact congrArg Fin.val hY
    | ⟨2, _⟩ => exact (Nat.zero_add _).symm
    | ⟨3, _⟩ => exact (Nat.zero_add _).symm
  · rw [if_neg hY]
    have hn : ¬a4.val = i.val := fun h => hY (Fin.ext h)
    refine (View.read_writes_cons_unit_of_not_mem _ _ inb w [] _ heq 1 ?_).trans ?_
    · change a4.val < i.val ∨ i.val + 1 ≤ a4.val; omega
    · exact congrFun (Memref.IsWhole.read_unread h X) _

theorem plane_canon (inb' : ∀ a, (![0, 0, 0, 0] : Fin 4 → ℕ) a + (![2, 4, 16, 512] : Fin 4 → ℕ) a ≤ S2x4x16x512.size a) :
    View.canon [⟨Rect.unit (s := S2x4x16x512) off ![2, 1, 16, 512] inb, w⟩, ⟨Rect.unit ![0, 0, 0, 0] ![2, 4, 16, 512] inb', X⟩] (ix4 h2 a4 e r) =
      if a4 = i then w (ix4 h2 0 e r) else X (ix4 h2 a4 e r) := by
  by_cases hY : a4 = i
  · rw [if_pos hY]
    refine canon_of_mem inb w _ _ heq (ix4 h2 0 e r) fun a => ?_
    match a with
    | ⟨0, _⟩ => exact (Nat.zero_add _).symm
    | ⟨1, _⟩ => exact congrArg Fin.val hY
    | ⟨2, _⟩ => exact (Nat.zero_add _).symm
    | ⟨3, _⟩ => exact (Nat.zero_add _).symm
  · rw [if_neg hY]
    have hn : ¬a4.val = i.val := fun h => hY (Fin.ext h)
    refine (canon_of_not_mem inb w _ _ heq 1 ?_).trans ?_
    · change a4.val < i.val ∨ i.val + 1 ≤ a4.val; omega
    · exact congrFun (View.canon_cons_unit_zero (Val := Elt Ideal) (S := S2x4x16x512) (off := ![0, 0, 0, 0]) (by decide) inb' X []) _

end dcq

/-! ## The keys' gate: one row per head -/

section dck

/-- The rectangles of the first head's row and of the second's. -/
abbrev rc0 : Rect S2x1x512 := Rect.unit ![0, 0, 0] ![1, 1, 512] inb_S2x1x512_S1x1x512_0_0_0
abbrev rc1 : Rect S2x1x512 := Rect.unit ![1, 0, 0] ![1, 1, 512] inb_S2x1x512_S1x1x512_1_0_0

variable (w1 : rc1.shape.Idx → Elt Ideal .f32) (w0 : rc0.shape.Idx → Elt Ideal .f32) (P : List (View.Piece (Elt Ideal) S2x1x512 .f32)) (l : Fin 512)

theorem emb_row1 : rc1.emb (ix3 0 0 l) = (ix3 1 0 l : S2x1x512.Idx) := funext fun a => Fin.ext (by
  match a with
  | ⟨0, _⟩ => rfl
  | ⟨1, _⟩ => rfl
  | ⟨2, _⟩ => change 0 + 1 * l.val = l.val; omega)

theorem emb_row0 : rc0.emb (ix3 0 0 l) = (ix3 0 0 l : S2x1x512.Idx) := funext fun a => Fin.ext (by
  match a with
  | ⟨0, _⟩ => rfl
  | ⟨1, _⟩ => rfl
  | ⟨2, _⟩ => change 0 + 1 * l.val = l.val; omega)

theorem row1 : View.canon (⟨rc1, w1⟩ :: P) (ix3 1 0 l) = w1 (ix3 0 0 l) := by
  rw [← emb_row1 l]
  exact View.canon_cons_emb rc1 w1 P (ix3 0 0 l)

theorem row0 : View.canon (⟨rc0, w0⟩ :: P) (ix3 0 0 l) = w0 (ix3 0 0 l) := by
  rw [← emb_row0 l]
  exact View.canon_cons_emb rc0 w0 P (ix3 0 0 l)

theorem skip1 : View.canon (⟨rc1, w1⟩ :: P) (ix3 0 0 l) = View.canon P (ix3 0 0 l) :=
  View.canon_cons_of_not_mem _ P fun hy => absurd ((Rect.mem_set_unit (inb := inb_S2x1x512_S1x1x512_1_0_0)).mp hy 0).1 (by change ¬(1 ≤ 0); decide)

theorem skip0 : View.canon (⟨rc0, w0⟩ :: P) (ix3 1 0 l) = View.canon P (ix3 1 0 l) :=
  View.canon_cons_of_not_mem _ P fun hy => absurd ((Rect.mem_set_unit (inb := inb_S2x1x512_S1x1x512_0_0_0)).mp hy 0).2 (by change ¬(1 < 0 + 1); decide)

theorem whole3 (X : S2x1x512.Idx → Elt Ideal .f32) (inb' : ∀ a, (![0, 0, 0] : Fin 3 → ℕ) a + S2x1x512.size a ≤ S2x1x512.size a) :
    View.canon (⟨Rect.unit ![0, 0, 0] S2x1x512.size inb', X⟩ :: P) = X :=
  View.canon_cons_unit_zero (Val := Elt Ideal) (S := S2x1x512) (off := ![0, 0, 0]) (by decide) inb' X P

theorem ldr0 (X : S2x1x512.Idx → Elt Ideal .f32) : View.ld X rc0 (ix3 0 0 l) = X (ix3 0 0 l) := congrArg X (emb_row0 l)

theorem ldr1 (X : S2x1x512.Idx → Elt Ideal .f32) : View.ld X rc1 (ix3 0 0 l) = X (ix3 1 0 l) := congrArg X (emb_row1 l)

end dck

end Cert.FoxIdeal.Hand
-- ==== Proof.FoxSteps.lean ====
/-
  The attention's gradient: what each point of the grid leaves in the five gradients' blocks, from what the point before left.
-/
module

public import proofs.«01_k».proof.Defs
public import proofs.«01_k».proof.Proof.Gen.FoxIdeal.Value
public import Idealize.ShloMosaic.Lib.Pipeline.ValueKit
public import Idealize.ShloMosaic.Lib.Pointwise
public import Idealize.ShloMosaic.Lib.Claim
public import proofs.«01_k».proof.Proof.FoxBlk
public import proofs.«01_k».proof.Proof.FoxRows

@[expose] public section

set_option maxRecDepth 16384

namespace Cert.FoxIdeal.Hand

open Cert.FoxIdeal Cert.FoxIdeal.Gen Cert.FoxMath Idealize.ShloMosaic Idealize.ShloMosaic.TcCoe Idealize.SL.Sem
open Idealize.ShloMosaic.Pipeline (Dat)

/-! ## What key block `j` adds to a query's row, and row block `i` to a key's -/

variable (q k : S2048x512.Idx → ℝ) (c : S8x2048.Idx → ℝ) (v g : S2048x512.Idx → ℝ) (p j i : Fin 4)

noncomputable def dqT (Y : Fin 2048) (x : Fin 128) : ℝ := (∑ l, DS q k c v g (head p x) Y (blk j l) * k (ix2 (blk j l) (lane p x))) * (1 / 8)
noncomputable def dkT (Z : Fin 2048) (x : Fin 128) : ℝ := ∑ r, DS q k c v g (head p x) (blk i r) Z * (q (ix2 (blk i r) (lane p x)) * (1 / 8))
noncomputable def dvT (Z : Fin 2048) (x : Fin 128) : ℝ := ∑ r, W q k c (head p x) (blk i r) Z * g (ix2 (blk i r) (lane p x))
noncomputable def dckT (hh : Fin 2) (Z : Fin 2048) : ℝ := ∑ r, DS q k c v g (hd p hh) (blk i r) Z
noncomputable def dcqT (hh : Fin 2) (Y : Fin 2048) : ℝ := ∑ l, DS q k c v g (hd p hh) Y (blk j l)

/-! ## The steps -/

variable (m : (ℓ : Loc nD τ sig) → Buf (Elt Ideal) ℓ) (ct : Dev nD) (t : Fin cfg0.N)

theorem coord2 : ∀ t : Fin grid0.N, (grid0.coords t 2).val = t.val % 4 := by decide +kernel
theorem off1 : k0_off1 (grid0.coords t) = ![0, (iI t).val, 0, 0] := (k0_off1_eq _).trans (by rw [coord2]; rfl)
theorem off2 : k0_off2 (grid0.coords t) = ![512 * (iI t).val, 0] := (k0_off2_eq _).trans (by rw [coord2]; rfl)
theorem off3 : k0_off3 (grid0.coords t) = ![0, (iI t).val, 0, 0] := (k0_off3_eq _).trans (by rw [coord2]; rfl)
theorem off4 : k0_off4 (grid0.coords t) = ![512 * (iI t).val, 0] := (k0_off4_eq _).trans (by rw [coord2]; rfl)

/-- What the point before left. -/
noncomputable abbrev prev := outsAt0 m ct (t.val - 1) (Nat.lt_of_le_of_lt (Nat.sub_le _ _) t.isLt)

variable {q k c v g}
  (hq : m ((ct : Thread nD τ).loc main_arg0) = up q) (hk : m ((ct : Thread nD τ).loc main_arg1) = up k)
  (hv : m ((ct : Thread nD τ).loc main_arg2) = up v) (hc : m ((ct : Thread nD τ).loc main_arg3) = up c)
  (hg : m ((ct : Thread nD τ).loc main_arg4) = up g)

theorem blk_row (Y : Fin 2048) (h : Y.val / 512 = (iI t).val) : blk (iI t) ⟨Y.val % 512, by omega⟩ = Y := Fin.ext (by
  change 512 * (iI t).val + Y.val % 512 = Y.val; omega)

theorem zero2 (y : S2048x128.Idx) : k0_pay2 (F := Ideal) y = 0 := by
  pointwise [k0_pay2]
theorem zero3 (y : S2x4x16x512.Idx) : k0_pay3 (F := Ideal) y = 0 := by
  pointwise [k0_pay3]
theorem zero4 (y : S512x128.Idx) : k0_pay4 (F := Ideal) y = 0 := by
  pointwise [k0_pay4]
theorem zero5 (y : S512x128.Idx) : k0_pay5 (F := Ideal) y = 0 := by
  pointwise [k0_pay5]
theorem zero6 (y : S2x1x512.Idx) : k0_pay6 (F := Ideal) y = 0 := by
  pointwise [k0_pay6]

theorem row_of (Y : Fin 2048) (h : Y.val / 512 = (iI t).val) : Y.val = 512 * (iI t).val + Y.val % 512 := by omega

section B
variable (h0 : ¬t.val % 16 = 0) (h1 : ¬t.val / 4 % 4 = t.val % 4) (h2 : t.val / 4 % 4 + 1 ≤ t.val % 4) (h3 : ¬t.val / 4 % 4 = t.val % 4)
include h0 h1 h2 h3 hq hk hv hc hg

/-- Below the diagonal a point adds to its rows of the queries' gradient what its key block adds, … -/
theorem dq_B (Y : Fin 2048) (x : Fin 128) :
    (outsAt0 m ct t.val t.isLt).1 (ix2 Y x) = if Y.val / 512 = (iI t).val then (prev m ct t).1 (ix2 Y x) + (dqT q k c v g (pI t) (jI t) Y x : EReal) else (prev m ct t).1 (ix2 Y x) := by
  rw [outsAt0_B m ct t h0 h1 h2 h3]
  frame_out
  refine (row_write _ (iI t) (off2 t) _ _ Y x _).trans ?_
  by_cases hY : Y.val / 512 = (iI t).val
  · rw [if_pos hY, if_pos hY]
    refine (dq_off (packed0 m ct t (by omega) hq hk hc) (packed1 m ct t (by omega) hq hk hc) (plain m ct t (by omega) hq hk hv hc hg) (below t (by omega)) _ _ x).trans ?_
    exact congrArg₂ (· + ·) (row_ld _ (iI t) (off2 t) _ Y x ⟨Y.val % 512, by omega⟩ (row_of t Y hY))
      (congrArg (fun Y => (dqT q k c v g (pI t) (jI t) Y x : EReal)) (blk_row t Y hY))
  · rw [if_neg hY, if_neg hY]

/-- … to its plane of the queries' gate's, … -/
theorem dcq_B (hh : Fin 2) (a : Fin 4) (e : Fin 16) (r : Fin 512) :
    (outsAt0 m ct t.val t.isLt).2.2.2.2 (ix4 hh a e r) =
      if a = iI t then (prev m ct t).2.2.2.2 (ix4 hh a e r) + (dcqT q k c v g (pI t) (jI t) hh (blk a r) : EReal) else (prev m ct t).2.2.2.2 (ix4 hh a e r) := by
  rw [outsAt0_B m ct t h0 h1 h2 h3]
  frame_out
  refine (plane_write _ (iI t) (off1 t) _ _ hh a e r _).trans ?_
  by_cases hY : a = iI t
  · subst hY
    rw [if_pos rfl, if_pos rfl]
    refine (dcq_off (packed0 m ct t (by omega) hq hk hc) (packed1 m ct t (by omega) hq hk hc) (plain m ct t (by omega) hq hk hv hc hg) (below t (by omega)) _ hh e r).trans ?_
    exact congrArg (· + _) (plane_ld _ (iI t) (off1 t) _ hh e r)
  · rw [if_neg hY, if_neg hY]

/-- … and to the keys' gradients what its row block adds: the keys', … -/
theorem dk_B (l : Fin 512) (x : Fin 128) :
    (outsAt0 m ct t.val t.isLt).2.1 (ix2 l x) = (prev m ct t).2.1 (ix2 l x) + (dkT q k c v g (pI t) (iI t) (blk (jI t) l) x : EReal) := by
  rw [outsAt0_B m ct t h0 h1 h2 h3]
  frame_out
  exact dk_off (packed0 m ct t (by omega) hq hk hc) (packed1 m ct t (by omega) hq hk hc) (plain m ct t (by omega) hq hk hv hc hg) (below t (by omega)) _ l x

/-- … the values' … -/
theorem dv_B (l : Fin 512) (x : Fin 128) :
    (outsAt0 m ct t.val t.isLt).2.2.1 (ix2 l x) = (prev m ct t).2.2.1 (ix2 l x) + (dvT q k c g (pI t) (iI t) (blk (jI t) l) x : EReal) := by
  rw [outsAt0_B m ct t h0 h1 h2 h3]
  frame_out
  exact dv_off (packed0 m ct t (by omega) hq hk hc) (packed1 m ct t (by omega) hq hk hc) (plain m ct t (by omega) hq hk hv hc hg) (below t (by omega)) _ l x

/-- … and the keys' gate's. -/
theorem dck_B (hh : Fin 2) (l : Fin 512) :
    (outsAt0 m ct t.val t.isLt).2.2.2.1 (ix3 hh 0 l) = (prev m ct t).2.2.2.1 (ix3 hh 0 l) + (dckT q k c v g (pI t) (iI t) hh (blk (jI t) l) : EReal) := by
  rw [outsAt0_B m ct t h0 h1 h2 h3]
  frame_out
  match hh with
  | 0 =>
    refine (skip1 _ _ l).trans ((row0 _ _ l).trans ?_)
    refine (dck0_off (packed0 m ct t (by omega) hq hk hc) (packed1 m ct t (by omega) hq hk hc) (plain m ct t (by omega) hq hk hv hc hg) (below t (by omega)) _ l).trans ?_
    exact congrArg (· + _) (ldr0 l _)
  | 1 =>
    refine (row1 _ _ l).trans ?_
    refine (dck1_off (packed0 m ct t (by omega) hq hk hc) (packed1 m ct t (by omega) hq hk hc) (plain m ct t (by omega) hq hk hv hc hg) (below t (by omega)) _ l).trans ?_
    exact congrArg (· + _) (ldr1 l _)

end B

/-- The two stores of the keys' gate, over zeros. -/
theorem dck_zero {M : Memref sig .tc .vmem S2x1x512 .f32} (w0 : (rc0.shape.Idx → Elt Ideal .f32) → rc0.shape.Idx → Elt Ideal .f32)
    (w1 : (rc1.shape.Idx → Elt Ideal .f32) → rc1.shape.Idx → Elt Ideal .f32) (inb' : ∀ a, (![0, 0, 0] : Fin 3 → ℕ) a + S2x1x512.size a ≤ S2x1x512.size a)
    (Z : S2x1x512.Idx → Elt Ideal .f32) (hZ : ∀ y, Z y = 0) (a0 a1 : Fin 512 → EReal) (e0 : ∀ y l, w0 y (ix3 0 0 l) = y (ix3 0 0 l) + a0 l) (e1 : ∀ y l, w1 y (ix3 0 0 l) = y (ix3 0 0 l) + a1 l) (hh : Fin 2) (l : Fin 512) :
    View.canon [⟨rc1, w1 (M.view.readCov [⟨rc0, w0 (M.view.readCov [⟨Rect.unit ![0, 0, 0] S2x1x512.size inb', Z⟩] rc0.toLoadRect)⟩,
      ⟨Rect.unit ![0, 0, 0] S2x1x512.size inb', Z⟩] rc1.toLoadRect)⟩,
      ⟨rc0, w0 (M.view.readCov [⟨Rect.unit ![0, 0, 0] S2x1x512.size inb', Z⟩] rc0.toLoadRect)⟩,
      ⟨Rect.unit ![0, 0, 0] S2x1x512.size inb', Z⟩] (ix3 hh 0 l) = if hh = 0 then a0 l else a1 l := by
  match hh with
  | 0 =>
    refine (skip1 _ _ l).trans ((row0 _ _ l).trans ((e0 _ l).trans ((congrArg (· + _) ?_).trans (zero_add _))))
    rw [View.readCov_eq_canon']
    exact (congrFun (whole3 _ _ _) _).trans (hZ _)
  | 1 =>
    refine (row1 _ _ l).trans ((e1 _ l).trans ((congrArg (· + _) ?_).trans (zero_add _)))
    rw [View.readCov_eq_canon']
    refine (congrArg (View.canon _) (emb_row1 l)).trans ((skip0 _ _ l).trans ?_)
    exact (congrFun (whole3 _ _ _) _).trans (hZ _)

section A
variable (h0 : t.val % 16 = 0) (h1 : t.val / 4 % 4 = t.val % 4) (h2 : ¬t.val / 4 % 4 + 1 ≤ t.val % 4) (h3 : t.val / 4 % 4 = t.val % 4)
include h0 h1 h2 h3 hq hk hv hc hg

/-- At the pair's first point the gradients start from zero: the queries', … -/
theorem dq_A (Y : Fin 2048) (x : Fin 128) :
    (outsAt0 m ct t.val t.isLt).1 (ix2 Y x) = if Y.val / 512 = (iI t).val then 0 + (dqT q k c v g (pI t) (jI t) Y x : EReal) else 0 := by
  rw [outsAt0_A m ct t h0 h1 h2 h3]
  frame_out
  refine (row_canon _ (iI t) (off4 t) _ _ Y x _).trans ?_
  by_cases hY : Y.val / 512 = (iI t).val
  · rw [if_pos hY, if_pos hY]
    refine (dq_diag (packed0 m ct t (by omega) hq hk hc) (packed1 m ct t (by omega) hq hk hc) (plain m ct t (by omega) hq hk hv hc hg) (diag t h1) _ _ x).trans ?_
    exact congrArg₂ (· + ·) ((row_ld _ (iI t) (off4 t) _ Y x ⟨Y.val % 512, by omega⟩ (row_of t Y hY)).trans (zero2 _))
      (congrArg (fun Y => (dqT q k c v g (pI t) (jI t) Y x : EReal)) (blk_row t Y hY))
  · rw [if_neg hY, if_neg hY]; exact zero2 _

/-- … the queries' gate's, … -/
theorem dcq_A (hh : Fin 2) (a : Fin 4) (e : Fin 16) (r : Fin 512) :
    (outsAt0 m ct t.val t.isLt).2.2.2.2 (ix4 hh a e r) =
      if a = iI t then 0 + (dcqT q k c v g (pI t) (jI t) hh (blk a r) : EReal) else 0 := by
  rw [outsAt0_A m ct t h0 h1 h2 h3]
  frame_out
  refine (plane_canon _ (iI t) (off3 t) _ _ hh a e r _).trans ?_
  by_cases hY : a = iI t
  · subst hY
    rw [if_pos rfl, if_pos rfl]
    refine (dcq_diag (packed0 m ct t (by omega) hq hk hc) (packed1 m ct t (by omega) hq hk hc) (plain m ct t (by omega) hq hk hv hc hg) (diag t h1) _ hh e r).trans ?_
    exact congrArg (· + _) ((plane_ld _ (iI t) (off3 t) _ hh e r).trans (zero3 _))
  · rw [if_neg hY, if_neg hY]; exact zero3 _

end A

section D
variable (h0 : ¬t.val % 16 = 0) (h1 : t.val / 4 % 4 = t.val % 4) (h2 : ¬t.val / 4 % 4 + 1 ≤ t.val % 4) (h3 : t.val / 4 % 4 = t.val % 4)
include h0 h1 h2 h3 hq hk hv hc hg

/-- At the later diagonal points the queries' gradients go on: the queries', … -/
theorem dq_D (Y : Fin 2048) (x : Fin 128) :
    (outsAt0 m ct t.val t.isLt).1 (ix2 Y x) = if Y.val / 512 = (iI t).val then (prev m ct t).1 (ix2 Y x) + (dqT q k c v g (pI t) (jI t) Y x : EReal) else (prev m ct t).1 (ix2 Y x) := by
  rw [outsAt0_D m ct t h0 h1 h2 h3]
  frame_out
  refine (row_write _ (iI t) (off4 t) _ _ Y x _).trans ?_
  by_cases hY : Y.val / 512 = (iI t).val
  · rw [if_pos hY, if_pos hY]
    refine (dq_diag (packed0 m ct t (by omega) hq hk hc) (packed1 m ct t (by omega) hq hk hc) (plain m ct t (by omega) hq hk hv hc hg) (diag t h1) _ _ x).trans ?_
    exact congrArg₂ (· + ·) (row_ld _ (iI t) (off4 t) _ Y x ⟨Y.val % 512, by omega⟩ (row_of t Y hY))
      (congrArg (fun Y => (dqT q k c v g (pI t) (jI t) Y x : EReal)) (blk_row t Y hY))
  · rw [if_neg hY, if_neg hY]

/-- … the queries' gate's, … -/
theorem dcq_D (hh : Fin 2) (a : Fin 4) (e : Fin 16) (r : Fin 512) :
    (outsAt0 m ct t.val t.isLt).2.2.2.2 (ix4 hh a e r) =
      if a = iI t then (prev m ct t).2.2.2.2 (ix4 hh a e r) + (dcqT q k c v g (pI t) (jI t) hh (blk a r) : EReal) else (prev m ct t).2.2.2.2 (ix4 hh a e r) := by
  rw [outsAt0_D m ct t h0 h1 h2 h3]
  frame_out
  refine (plane_write _ (iI t) (off3 t) _ _ hh a e r _).trans ?_
  by_cases hY : a = iI t
  · subst hY
    rw [if_pos rfl, if_pos rfl]
    refine (dcq_diag (packed0 m ct t (by omega) hq hk hc) (packed1 m ct t (by omega) hq hk hc) (plain m ct t (by omega) hq hk hv hc hg) (diag t h1) _ hh e r).trans ?_
    exact congrArg (· + _) (plane_ld _ (iI t) (off3 t) _ hh e r)
  · rw [if_neg hY, if_neg hY]

end D

section AD
variable (h1 : t.val / 4 % 4 = t.val % 4)
include h1 hq hk hv hc hg

/-- At a diagonal point the keys' gradients start from zero: the keys', … -/
theorem dk_AD (l : Fin 512) (x : Fin 128) : (outsAt0 m ct t.val t.isLt).2.1 (ix2 l x) = (dkT q k c v g (pI t) (iI t) (blk (jI t) l) x : EReal) := by
  have e := fun y : S512x128.Idx → EReal => dk_diag (packed0 m ct t (by omega) hq hk hc) (packed1 m ct t (by omega) hq hk hc) (plain m ct t (by omega) hq hk hv hc hg) (diag t h1) y l x
  by_cases h0 : t.val % 16 = 0
  · rw [outsAt0_A m ct t h0 h1 (by omega) h1]
    frame_out
    exact (e _).trans ((congrArg (· + _) (zero4 _)).trans (zero_add _))
  · rw [outsAt0_D m ct t h0 h1 (by omega) h1]
    frame_out
    exact (e _).trans ((congrArg (· + _) (zero4 _)).trans (zero_add _))

/-- … the values' … -/
theorem dv_AD (l : Fin 512) (x : Fin 128) : (outsAt0 m ct t.val t.isLt).2.2.1 (ix2 l x) = (dvT q k c g (pI t) (iI t) (blk (jI t) l) x : EReal) := by
  have e := fun y : S512x128.Idx → EReal => dv_diag (packed0 m ct t (by omega) hq hk hc) (packed1 m ct t (by omega) hq hk hc) (plain m ct t (by omega) hq hk hv hc hg) (diag t h1) y l x
  by_cases h0 : t.val % 16 = 0
  · rw [outsAt0_A m ct t h0 h1 (by omega) h1]
    frame_out
    exact (e _).trans ((congrArg (· + _) (zero5 _)).trans (zero_add _))
  · rw [outsAt0_D m ct t h0 h1 (by omega) h1]
    frame_out
    exact (e _).trans ((congrArg (· + _) (zero5 _)).trans (zero_add _))

/-- … and the keys' gate's. -/
theorem dck_AD (hh : Fin 2) (l : Fin 512) : (outsAt0 m ct t.val t.isLt).2.2.2.1 (ix3 hh 0 l) = (dckT q k c v g (pI t) (iI t) hh (blk (jI t) l) : EReal) := by
  have e0 := fun (y : S1x1x512.Idx → EReal) l => dck0_diag (packed0 m ct t (by omega) hq hk hc) (packed1 m ct t (by omega) hq hk hc) (plain m ct t (by omega) hq hk hv hc hg) (diag t h1) y l
  have e1 := fun (y : S1x1x512.Idx → EReal) l => dck1_diag (packed0 m ct t (by omega) hq hk hc) (packed1 m ct t (by omega) hq hk hc) (plain m ct t (by omega) hq hk hv hc hg) (diag t h1) y l
  have z : (if hh = 0 then (dckC q k c v g (pI t) (blk (iI t)) (blk (jI t)) 0 l : EReal) else (dckC q k c v g (pI t) (blk (iI t)) (blk (jI t)) 1 l : EReal)) =
      (dckT q k c v g (pI t) (iI t) hh (blk (jI t) l) : EReal) := by
    match hh with
    | 0 => rfl
    | 1 => rfl
  by_cases h0 : t.val % 16 = 0
  · rw [outsAt0_A m ct t h0 h1 (by omega) h1]
    frame_out
    exact (dck_zero _ _ _ _ zero6 _ _ e0 e1 hh l).trans z
  · rw [outsAt0_D m ct t h0 h1 (by omega) h1]
    frame_out
    exact (dck_zero _ _ _ _ zero6 _ _ e0 e1 hh l).trans z

end AD

section C
variable (h0 : ¬t.val % 16 = 0) (h1 : ¬t.val / 4 % 4 = t.val % 4) (h2 : ¬t.val / 4 % 4 + 1 ≤ t.val % 4) (h3 : ¬t.val / 4 % 4 = t.val % 4)

include h0 h1 h2 h3

/-- Above the diagonal the queries' gradients are left as they were. -/
theorem dq_C (Y : Fin 2048) (x : Fin 128) : (outsAt0 m ct t.val t.isLt).1 (ix2 Y x) = (prev m ct t).1 (ix2 Y x) := by
  rw [outsAt0_C m ct t h0 h1 h2 h3]
  rfl

theorem dcq_C (hh : Fin 2) (a : Fin 4) (e : Fin 16) (r : Fin 512) : (outsAt0 m ct t.val t.isLt).2.2.2.2 (ix4 hh a e r) = (prev m ct t).2.2.2.2 (ix4 hh a e r) := by
  rw [outsAt0_C m ct t h0 h1 h2 h3]
  rfl

end C

end Cert.FoxIdeal.Hand
-- ==== Proof.FoxSum.lean ====
/-
  The attention's gradient: sums over the blocks of rows and keys.
-/
module

public import proofs.«01_k».proof.Defs
public import Idealize.ShloMosaic.Lib.Pointwise
public import Idealize.ShloMosaic.Lib.Pipeline.ValueKit
public import proofs.«01_k».proof.Proof.Reals

@[expose] public section

namespace Cert.FoxMath

open Cert.FoxIdeal Idealize.ShloMosaic

/-- A sum over the rows, block by block. -/
theorem sum_blocks (f : Fin 2048 → ℝ) : ∑ r, f r = ∑ i : Fin 4, ∑ r : Fin 512, f ⟨512 * i.val + r.val, by omega⟩ := by
  have e : ∑ r, f r = (∑ d : Fin 1024, f ⟨d.val, by omega⟩) + ∑ d : Fin 1024, f ⟨1024 + d.val, by omega⟩ := Fin.sum_univ_two_halves 1024 1024 rfl f
  have e0 : ∑ d : Fin 1024, f ⟨d.val, by omega⟩ = (∑ d : Fin 512, f ⟨d.val, by omega⟩) + ∑ d : Fin 512, f ⟨512 + d.val, by omega⟩ :=
    Fin.sum_univ_two_halves 512 512 rfl (fun d : Fin 1024 => f ⟨d.val, by omega⟩)
  have e1 : ∑ d : Fin 1024, f ⟨1024 + d.val, by omega⟩ = (∑ d : Fin 512, f ⟨1024 + d.val, by omega⟩) + ∑ d : Fin 512, f ⟨1024 + (512 + d.val), by omega⟩ :=
    Fin.sum_univ_two_halves 512 512 rfl (fun d : Fin 1024 => f ⟨1024 + d.val, by omega⟩)
  rw [e, e0, e1, Fin.sum_univ_four, add_assoc, add_assoc, add_assoc]
  refine congrArg₂ (· + ·) ?_ (congrArg₂ (· + ·) ?_ (congrArg₂ (· + ·) ?_ ?_)) <;>
  · refine Finset.sum_congr rfl fun d _ => congrArg f (Fin.ext ?_)
    simp <;> omega

/-- A quantity reset where the row block is the key block, and added to at each row block after it, holds after a row block the terms of the row blocks
    from the key block to it. -/
theorem diag_sum {N : ℕ} (f : (n : ℕ) → n < N → EReal) (term : ℕ → ℝ)
    (h0 : ∀ n (h : n < N), n / 4 % 4 = n % 4 → f n h = (term n : EReal))
    (hs : ∀ n (h : n < N), n / 4 % 4 < n % 4 → f n h = f (n - 1) (by omega) + (term n : EReal)) :
    ∀ n (h : n < N), n / 4 % 4 ≤ n % 4 → f n h = ((∑ i ∈ Finset.range (n % 4 + 1), if n / 4 % 4 ≤ i then term (4 * (n / 4) + i) else 0 : ℝ) : EReal) := by
  intro n
  induction n with
  | zero =>
    intro h _
    rw [h0 0 h (by omega)]
    simp
  | succ n ih =>
    intro h hle
    rw [Finset.sum_range_succ, if_pos hle, show 4 * ((n + 1) / 4) + (n + 1) % 4 = n + 1 by omega]
    rcases Nat.lt_or_ge ((n + 1) / 4 % 4) ((n + 1) % 4) with hlt | hge
    · rw [hs (n + 1) h hlt, EReal.coe_add]
      refine congrArg (· + _) ?_
      refine (ih (by omega) (by omega)).trans ?_
      rw [show (n + 1) / 4 = n / 4 by omega, show (n + 1) % 4 = n % 4 + 1 by omega]
    · rw [h0 (n + 1) h (by omega), Finset.sum_eq_zero, zero_add]
      intro i hi
      rw [if_neg]
      have := Finset.mem_range.mp hi
      omega

/-- A quantity reset at the pair's first point and added to at the others. -/
theorem pair_sum {N : ℕ} (f : (n : ℕ) → n < N → EReal) (term : ℕ → ℝ)
    (h0 : ∀ n (h : n < N), n % 16 = 0 → f n h = (term n : EReal))
    (hs : ∀ n (h : n < N), ¬n % 16 = 0 → f n h = f (n - 1) (by omega) + (term n : EReal)) :
    ∀ n (h : n < N), f n h = ((∑ i ∈ Finset.range (n % 16 + 1), term (16 * (n / 16) + i) : ℝ) : EReal) := by
  intro n
  induction n with
  | zero =>
    intro h
    rw [h0 0 h (by omega)]
    simp
  | succ n ih =>
    intro h
    by_cases hz : (n + 1) % 16 = 0
    · rw [h0 (n + 1) h hz, hz]
      simp only [zero_add, Finset.sum_range_one, add_zero]
      rw [show 16 * ((n + 1) / 16) = n + 1 by omega]
    · rw [Finset.sum_range_succ, show 16 * ((n + 1) / 16) + (n + 1) % 16 = n + 1 by omega, hs (n + 1) h hz, EReal.coe_add]
      refine congrArg (· + _) ?_
      refine (ih (by omega)).trans ?_
      rw [show (n + 1) / 16 = n / 16 by omega, show (n + 1) % 16 = n % 16 + 1 by omega]

/-- A row of block `a` meets its key blocks `0 … a` at the points of its pair: the others' terms are zero. -/
theorem pair_total (a : ℕ) (ha : a < 4) (D : Fin 4 → ℝ) (hD : ∀ j : Fin 4, a < j.val → D j = 0) :
    (∑ i ∈ Finset.range 16, if a = i % 4 ∧ i / 4 % 4 ≤ i % 4 then D ⟨i / 4 % 4, by omega⟩ else 0) = ∑ j, D j := by
  have h1 := hD 1
  have h2 := hD 2
  have h3 := hD 3
  simp only [Finset.sum_range_succ, Finset.sum_range_zero, Fin.sum_univ_four]
  interval_cases a <;> simp_all

/-- A key of block `j` meets its row blocks `j … 3`: the others' terms are zero. -/
theorem diag_total (j : ℕ) (hj : j < 4) (D : Fin 4 → ℝ) (hD : ∀ i : Fin 4, i.val < j → D i = 0) :
    (∑ i ∈ Finset.range 4, if j ≤ i then D ⟨i % 4, by omega⟩ else 0) = ∑ i, D i := by
  have h0 := hD 0
  have h1 := hD 1
  have h2 := hD 2
  simp only [Finset.sum_range_succ, Finset.sum_range_zero, Fin.sum_univ_four]
  interval_cases j <;> simp_all

end Cert.FoxMath
-- ==== Proof.FoxValue.lean ====
/-
  The attention's gradient: the five arrays the kernel leaves. Each block's sum over the points that met it is the sum over all key blocks, or all
  row blocks: what lies above the diagonal is zero.
-/
module

public import proofs.«01_k».proof.Defs
public import proofs.«01_k».proof.Proof.Gen.FoxIdeal.Value
public import Idealize.ShloMosaic.Lib.Pipeline.ValueKit
public import Idealize.ShloMosaic.Lib.Pointwise
public import Idealize.ShloMosaic.Lib.Claim
public import proofs.«01_k».proof.Proof.FoxSteps
public import proofs.«01_k».proof.Proof.FoxSum

@[expose] public section

set_option maxRecDepth 16384

namespace Cert.FoxIdeal.Hand

open Cert.FoxIdeal Cert.FoxIdeal.Gen Cert.FoxMath Idealize.ShloMosaic Idealize.ShloMosaic.TcCoe Idealize.SL.Sem
open Idealize.ShloMosaic.Pipeline (Dat)

/-- The pair, key block and row block of point `n`. -/
def pN (n : ℕ) : Fin 4 := ⟨n / 16 % 4, by omega⟩
def jN (n : ℕ) : Fin 4 := ⟨n / 4 % 4, by omega⟩
def iN (n : ℕ) : Fin 4 := ⟨n % 4, by omega⟩

theorem pI_eq (t : Fin cfg0.N) : pI t = pN t.val := Fin.ext (by have := lt64 t; change t.val / 16 = t.val / 16 % 4; omega)

/-! ## What lies above the diagonal adds nothing -/

variable (q k : S2048x512.Idx → ℝ) (c : S8x2048.Idx → ℝ) (v g : S2048x512.Idx → ℝ) (p j i : Fin 4)

theorem blk_gt (Y : Fin 2048) (h : Y.val / 512 < j.val) (l : Fin 512) : ¬(blk j l).val ≤ Y.val := by change ¬512 * j.val + l.val ≤ Y.val; omega
theorem blk_lt (Z : Fin 2048) (h : i.val < Z.val / 512) (r : Fin 512) : ¬Z.val ≤ (blk i r).val := by change ¬Z.val ≤ 512 * i.val + r.val; omega

theorem dqT_zero (Y : Fin 2048) (x : Fin 128) (h : Y.val / 512 < j.val) : dqT q k c v g p j Y x = 0 := by
  unfold dqT; simp only [DS_masked _ _ _ _ _ _ _ _ (blk_gt j Y h _), zero_mul, Finset.sum_const_zero]
theorem dcqT_zero (hh : Fin 2) (Y : Fin 2048) (h : Y.val / 512 < j.val) : dcqT q k c v g p j hh Y = 0 := by
  unfold dcqT; simp only [DS_masked _ _ _ _ _ _ _ _ (blk_gt j Y h _), Finset.sum_const_zero]
theorem dkT_zero (Z : Fin 2048) (x : Fin 128) (h : i.val < Z.val / 512) : dkT q k c v g p i Z x = 0 := by
  unfold dkT; simp only [DS_masked _ _ _ _ _ _ _ _ (blk_lt i Z h _), zero_mul, Finset.sum_const_zero]
theorem dvT_zero (Z : Fin 2048) (x : Fin 128) (h : i.val < Z.val / 512) : dvT q k c g p i Z x = 0 := by
  unfold dvT; simp only [W_masked _ _ _ _ _ _ (blk_lt i Z h _), zero_mul, Finset.sum_const_zero]
theorem dckT_zero (hh : Fin 2) (Z : Fin 2048) (h : i.val < Z.val / 512) : dckT q k c v g p i hh Z = 0 := by
  unfold dckT; simp only [DS_masked _ _ _ _ _ _ _ _ (blk_lt i Z h _), Finset.sum_const_zero]

theorem add_if {P Q : Prop} [Decidable P] [Decidable Q] (a : EReal) (b : ℝ) (h : P ↔ Q) :
    (if P then a + (b : EReal) else a) = a + ((if Q then b else 0 : ℝ) : EReal) := by
  by_cases hp : P
  · rw [if_pos hp, if_pos (h.mp hp)]
  · rw [if_neg hp, if_neg fun hq => hp (h.mpr hq)]; exact (add_zero a).symm

/-! ## What a point adds, by its number -/

noncomputable def dqN (Y : Fin 2048) (x : Fin 128) (n : ℕ) : ℝ := if Y.val / 512 = n % 4 ∧ n / 4 % 4 ≤ n % 4 then dqT q k c v g (pN n) (jN n) Y x else 0
noncomputable def dcqN (hh : Fin 2) (Y : Fin 2048) (n : ℕ) : ℝ := if Y.val / 512 = n % 4 ∧ n / 4 % 4 ≤ n % 4 then dcqT q k c v g (pN n) (jN n) hh Y else 0

theorem pN_run (n i : ℕ) (hi : i < 16) : pN (16 * (n / 16) + i) = pN n := Fin.ext (by change (16 * (n / 16) + i) / 16 % 4 = n / 16 % 4; omega)
theorem jN_run (n i : ℕ) (hi : i < 16) : jN (16 * (n / 16) + i) = ⟨i / 4 % 4, by omega⟩ := Fin.ext (by change (16 * (n / 16) + i) / 4 % 4 = i / 4 % 4; omega)

theorem blk_div (a : Fin 4) (r : Fin 512) : (blk a r).val / 512 = a.val := by change (512 * a.val + r.val) / 512 = a.val; omega

/-- The quantities a key's blocks hold at the last point of their run. -/
theorem keys_last (f : (n : ℕ) → n < cfg0.N → EReal) (T : Fin 4 → Fin 4 → Fin 2048 → ℝ) (l : Fin 512) (hT : ∀ p i Z, i.val < Z.val / 512 → T p i Z = 0)
    (h0 : ∀ t : Fin cfg0.N, t.val / 4 % 4 = t.val % 4 → f t.val t.isLt = (T (pI t) (iI t) (blk (jI t) l) : EReal))
    (hs : ∀ t : Fin cfg0.N, t.val / 4 % 4 < t.val % 4 → f t.val t.isLt = f (t.val - 1) (Nat.lt_of_le_of_lt (Nat.sub_le _ _) t.isLt) + (T (pI t) (iI t) (blk (jI t) l) : EReal))
    (t : Fin cfg0.N) (ht : t.val % 4 = 3) : f t.val t.isLt = ((∑ i, T (pI t) i (blk (jI t) l) : ℝ) : EReal) := by
  refine (diag_sum f (fun n => T (pN n) (iN n) (blk (jN n) l)) (fun n h hd => ?_) (fun n h hd => ?_) t.val t.isLt (by omega)).trans ?_
  · exact (h0 ⟨n, h⟩ hd).trans (by rw [pI_eq]; rfl)
  · exact (hs ⟨n, h⟩ hd).trans (by rw [pI_eq]; rfl)
  · refine congrArg (fun x : ℝ => (x : EReal)) ?_
    rw [ht, pI_eq, ← diag_total (t.val / 4 % 4) (by omega) (fun i => T (pN t.val) i (blk (jI t) l)) fun i h => hT _ i _ (by
      have := blk_div (jI t) l
      rw [this]
      exact h)]
    refine Finset.sum_congr rfl fun i hi => ?_
    have hi := Finset.mem_range.mp hi
    have e0 : pN (4 * (t.val / 4) + i) = pN t.val := Fin.ext (by change (4 * (t.val / 4) + i) / 16 % 4 = t.val / 16 % 4; omega)
    have e1 : iN (4 * (t.val / 4) + i) = ⟨i % 4, by omega⟩ := Fin.ext (by change (4 * (t.val / 4) + i) % 4 = i % 4; omega)
    have e2 : jN (4 * (t.val / 4) + i) = jI t := Fin.ext (by change (4 * (t.val / 4) + i) / 4 % 4 = t.val / 4 % 4; omega)
    rw [e0, e1, e2]

variable (m : (ℓ : Loc nD τ sig) → Buf (Elt Ideal) ℓ) (ct : Dev nD)
variable {q k c v g}
  (hq : m ((ct : Thread nD τ).loc main_arg0) = up q) (hk : m ((ct : Thread nD τ).loc main_arg1) = up k)
  (hv : m ((ct : Thread nD τ).loc main_arg2) = up v) (hc : m ((ct : Thread nD τ).loc main_arg3) = up c)
  (hg : m ((ct : Thread nD τ).loc main_arg4) = up g)
include hq hk hv hc hg

/-- The queries' gradient at its pair's last point. -/
theorem dq_last (t : Fin cfg0.N) (ht : t.val % 16 = 15) (Y : Fin 2048) (x : Fin 128) :
    (outsAt0 m ct t.val t.isLt).1 (ix2 Y x) = ((∑ j, dqT q k c v g (pI t) j Y x : ℝ) : EReal) := by
  refine (pair_sum (fun n h => (outsAt0 m ct n h).1 (ix2 Y x)) (dqN q k c v g Y x) ?_ ?_ t.val t.isLt).trans ?_
  · intro n h hn
    refine (dq_A m ct ⟨n, h⟩ hq hk hv hc hg hn (by dsimp only; omega) (by dsimp only; omega) (by dsimp only; omega) Y x).trans ?_
    rw [pI_eq]
    exact (add_if _ _ ⟨fun h => ⟨h, by omega⟩, fun h => h.1⟩).trans (zero_add _)
  · intro n h hn
    rcases Nat.lt_trichotomy (n / 4 % 4) (n % 4) with hlt | heq | hgt
    · refine (dq_B m ct ⟨n, h⟩ hq hk hv hc hg hn (by dsimp only; omega) (by dsimp only; omega) (by dsimp only; omega) Y x).trans ?_
      rw [pI_eq]
      exact add_if _ _ ⟨fun h => ⟨h, by omega⟩, fun h => h.1⟩
    · refine (dq_D m ct ⟨n, h⟩ hq hk hv hc hg hn (by dsimp only; omega) (by dsimp only; omega) (by dsimp only; omega) Y x).trans ?_
      rw [pI_eq]
      exact add_if _ _ ⟨fun h => ⟨h, by omega⟩, fun h => h.1⟩
    · refine (dq_C m ct ⟨n, h⟩ hn (by dsimp only; omega) (by dsimp only; omega) (by dsimp only; omega) Y x).trans ?_
      unfold dqN
      rw [if_neg fun h => absurd h.2 (by omega)]
      exact (add_zero _).symm
  · refine congrArg (fun x : ℝ => (x : EReal)) ?_
    rw [ht, pI_eq, ← pair_total (Y.val / 512) (by omega) (fun j => dqT q k c v g (pN t.val) j Y x) fun j h => dqT_zero q k c v g _ j Y x h]
    refine Finset.sum_congr rfl fun i hi => ?_
    have hi := Finset.mem_range.mp hi
    unfold dqN
    rw [pN_run _ _ hi, jN_run _ _ hi, show (16 * (t.val / 16) + i) % 4 = i % 4 by omega, show (16 * (t.val / 16) + i) / 4 % 4 = i / 4 % 4 by omega]

/-- The queries' gate's gradient at its pair's last point. -/
theorem dcq_last (t : Fin cfg0.N) (ht : t.val % 16 = 15) (hh : Fin 2) (a : Fin 4) (e : Fin 16) (r : Fin 512) :
    (outsAt0 m ct t.val t.isLt).2.2.2.2 (ix4 hh a e r) = ((∑ j, dcqT q k c v g (pI t) j hh (blk a r) : ℝ) : EReal) := by
  refine (pair_sum (fun n h => (outsAt0 m ct n h).2.2.2.2 (ix4 hh a e r)) (dcqN q k c v g hh (blk a r)) ?_ ?_ t.val t.isLt).trans ?_
  · intro n h hn
    refine (dcq_A m ct ⟨n, h⟩ hq hk hv hc hg hn (by dsimp only; omega) (by dsimp only; omega) (by dsimp only; omega) hh a e r).trans ?_
    rw [pI_eq]
    exact (add_if _ _ ⟨fun h => ⟨(blk_div a r).trans (congrArg Fin.val h), by omega⟩, fun h => Fin.ext ((blk_div a r).symm.trans h.1)⟩).trans (zero_add _)
  · intro n h hn
    rcases Nat.lt_trichotomy (n / 4 % 4) (n % 4) with hlt | heq | hgt
    · refine (dcq_B m ct ⟨n, h⟩ hq hk hv hc hg hn (by dsimp only; omega) (by dsimp only; omega) (by dsimp only; omega) hh a e r).trans ?_
      rw [pI_eq]
      exact add_if _ _ ⟨fun h => ⟨(blk_div a r).trans (congrArg Fin.val h), by omega⟩, fun h => Fin.ext ((blk_div a r).symm.trans h.1)⟩
    · refine (dcq_D m ct ⟨n, h⟩ hq hk hv hc hg hn (by dsimp only; omega) (by dsimp only; omega) (by dsimp only; omega) hh a e r).trans ?_
      rw [pI_eq]
      exact add_if _ _ ⟨fun h => ⟨(blk_div a r).trans (congrArg Fin.val h), by omega⟩, fun h => Fin.ext ((blk_div a r).symm.trans h.1)⟩
    · refine (dcq_C m ct ⟨n, h⟩ hn (by dsimp only; omega) (by dsimp only; omega) (by dsimp only; omega) hh a e r).trans ?_
      unfold dcqN
      rw [if_neg fun h => absurd h.2 (by omega)]
      exact (add_zero _).symm
  · refine congrArg (fun x : ℝ => (x : EReal)) ?_
    rw [ht, pI_eq, ← pair_total ((blk a r).val / 512) (by omega) (fun j => dcqT q k c v g (pN t.val) j hh (blk a r)) fun j h => dcqT_zero q k c v g _ j hh (blk a r) h]
    refine Finset.sum_congr rfl fun i hi => ?_
    have hi := Finset.mem_range.mp hi
    unfold dcqN
    rw [pN_run _ _ hi, jN_run _ _ hi, show (16 * (t.val / 16) + i) % 4 = i % 4 by omega, show (16 * (t.val / 16) + i) / 4 % 4 = i / 4 % 4 by omega]

/-- The keys' gradient at a run's last point, … -/
theorem dk_last (t : Fin cfg0.N) (ht : t.val % 4 = 3) (l : Fin 512) (x : Fin 128) :
    (outsAt0 m ct t.val t.isLt).2.1 (ix2 l x) = ((∑ i, dkT q k c v g (pI t) i (blk (jI t) l) x : ℝ) : EReal) :=
  keys_last (fun n h => (outsAt0 m ct n h).2.1 (ix2 l x)) (fun p i Z => dkT q k c v g p i Z x) l (fun p i Z h => dkT_zero q k c v g p i Z x h)
    (fun t h => dk_AD m ct t hq hk hv hc hg h l x) (fun t h => dk_B m ct t hq hk hv hc hg (by omega) (by omega) (by omega) (by omega) l x) t ht

/-- … the values' … -/
theorem dv_last (t : Fin cfg0.N) (ht : t.val % 4 = 3) (l : Fin 512) (x : Fin 128) :
    (outsAt0 m ct t.val t.isLt).2.2.1 (ix2 l x) = ((∑ i, dvT q k c g (pI t) i (blk (jI t) l) x : ℝ) : EReal) :=
  keys_last (fun n h => (outsAt0 m ct n h).2.2.1 (ix2 l x)) (fun p i Z => dvT q k c g p i Z x) l (fun p i Z h => dvT_zero q k c g p i Z x h)
    (fun t h => dv_AD m ct t hq hk hv hc hg h l x) (fun t h => dv_B m ct t hq hk hv hc hg (by omega) (by omega) (by omega) (by omega) l x) t ht

/-- … and the keys' gate's. -/
theorem dck_last (t : Fin cfg0.N) (ht : t.val % 4 = 3) (hh : Fin 2) (l : Fin 512) :
    (outsAt0 m ct t.val t.isLt).2.2.2.1 (ix3 hh 0 l) = ((∑ i, dckT q k c v g (pI t) i hh (blk (jI t) l) : ℝ) : EReal) :=
  keys_last (fun n h => (outsAt0 m ct n h).2.2.2.1 (ix3 hh 0 l)) (fun p i Z => dckT q k c v g p i hh Z) l (fun p i Z h => dckT_zero q k c v g p i hh Z h)
    (fun t h => dck_AD m ct t hq hk hv hc hg h hh l) (fun t h => dck_B m ct t hq hk hv hc hg (by omega) (by omega) (by omega) (by omega) hh l) t ht

end Cert.FoxIdeal.Hand
-- ==== Proof.FoxArr.lean ====
/-
  The attention's gradient: the kernel's five result arrays, as sums over all the rows or all the keys.
-/
module

public import proofs.«01_k».proof.Defs
public import proofs.«01_k».proof.Proof.Gen.FoxIdeal.Value
public import Idealize.ShloMosaic.Lib.Pipeline.ValueKit
public import Idealize.ShloMosaic.Lib.Pointwise
public import Idealize.ShloMosaic.Lib.Claim
public import proofs.«01_k».proof.Proof.FoxValue

@[expose] public section

set_option maxRecDepth 16384

namespace Cert.FoxIdeal.Hand

open Cert.FoxIdeal Cert.FoxIdeal.Gen Cert.FoxMath Idealize.ShloMosaic Idealize.ShloMosaic.TcCoe Idealize.SL.Sem
open Idealize.ShloMosaic.Pipeline (Dat)

variable (q k : S2048x512.Idx → ℝ) (c : S8x2048.Idx → ℝ) (v g : S2048x512.Idx → ℝ)

/-- The queries' gradient, the keys' and the values', and the gate's by keys and by queries. -/
noncomputable def dqG (y : Fin 2048) (z : Fin 512) : ℝ := ∑ l, DS q k c v g ⟨z.val / 64, by omega⟩ y l * (1 / 8) * k (ix2 l z)
noncomputable def dkG (y : Fin 2048) (z : Fin 512) : ℝ := ∑ r, DS q k c v g ⟨z.val / 64, by omega⟩ r y * (1 / 8) * q (ix2 r z)
noncomputable def dvG (y : Fin 2048) (z : Fin 512) : ℝ := ∑ r, W q k c ⟨z.val / 64, by omega⟩ r y * g (ix2 r z)
noncomputable def dckG (h : Fin 8) (l : Fin 2048) : ℝ := ∑ r, DS q k c v g h r l
noncomputable def dcqG (h : Fin 8) (r : Fin 2048) : ℝ := ∑ l, DS q k c v g h r l

theorem head_eq (p : Fin 4) (x : Fin 128) : head p x = ⟨(lane p x).val / 64, by omega⟩ :=
  Fin.ext (by change 2 * p.val + x.val / 64 = (128 * p.val + x.val) / 64; omega)

variable (p : Fin 4)

theorem dq_total (Y : Fin 2048) (x : Fin 128) : ∑ j, dqT q k c v g p j Y x = dqG q k c v g Y (lane p x) := by
  unfold dqG
  rw [sum_blocks]
  refine Finset.sum_congr rfl fun j _ => ?_
  unfold dqT
  rw [Finset.sum_mul, head_eq]
  exact Finset.sum_congr rfl fun l _ => by rw [mul_right_comm]; rfl

theorem dk_total (Z : Fin 2048) (x : Fin 128) : ∑ i, dkT q k c v g p i Z x = dkG q k c v g Z (lane p x) := by
  unfold dkG
  rw [sum_blocks]
  refine Finset.sum_congr rfl fun i _ => ?_
  unfold dkT
  rw [head_eq]
  exact Finset.sum_congr rfl fun r _ => by rw [mul_comm (q _), ← mul_assoc]; rfl

theorem dv_total (Z : Fin 2048) (x : Fin 128) : ∑ i, dvT q k c g p i Z x = dvG q k c g Z (lane p x) := by
  unfold dvG
  rw [sum_blocks]
  refine Finset.sum_congr rfl fun i _ => ?_
  unfold dvT
  rw [head_eq]
  rfl

theorem dck_total (hh : Fin 2) (Z : Fin 2048) : ∑ i, dckT q k c v g p i hh Z = dckG q k c v g (hd p hh) Z := by
  unfold dckG
  rw [sum_blocks]
  rfl

theorem dcq_total (hh : Fin 2) (Y : Fin 2048) : ∑ j, dcqT q k c v g p j hh Y = dcqG q k c v g (hd p hh) Y := by
  unfold dcqG
  rw [sum_blocks]
  rfl

/-! ## Where the blocks go -/

variable (t : Fin cfg0.N)

theorem idx6 : ∀ t : Fin grid0.N, win0_6.index t = ![0, t.val / 16] := by decide +kernel
theorem idx7 : ∀ t : Fin grid0.N, win0_7.index t = ![t.val / 4 % 4, t.val / 16] := by decide +kernel
theorem idx8 : ∀ t : Fin grid0.N, win0_8.index t = ![t.val / 4 % 4, t.val / 16] := by decide +kernel
theorem idx9 : ∀ t : Fin grid0.N, win0_9.index t = ![t.val / 16, 0, t.val / 4 % 4] := by decide +kernel
theorem idx10 : ∀ t : Fin grid0.N, win0_10.index t = ![t.val / 16, 0, 0, 0] := by decide +kernel

theorem emb6 (Y : Fin 2048) (x : Fin 128) : (win0_6.blk t).view.emb (ix2 Y x) = ix2 Y (lane (pI t) x) := by
  blk_point [idx6 t, lane, pI]
theorem emb7 (l : Fin 512) (x : Fin 128) : (win0_7.blk t).view.emb (ix2 l x) = ix2 (blk (jI t) l) (lane (pI t) x) := by
  blk_point [idx7 t, lane, pI, blk, jI]
theorem emb8 (l : Fin 512) (x : Fin 128) : (win0_8.blk t).view.emb (ix2 l x) = ix2 (blk (jI t) l) (lane (pI t) x) := by
  blk_point [idx8 t, lane, pI, blk, jI]
theorem emb9 (hh : Fin 2) (l : Fin 512) : (win0_9.blk t).view.emb (ix3 hh 0 l) = ix3 (hd (pI t) hh) 0 (blk (jI t) l) := by
  blk_point [idx9 t, hd, pI, blk, jI]
theorem emb10 (hh : Fin 2) (a : Fin 4) (e : Fin 16) (r : Fin 512) : (win0_10.blk t).view.emb (ix4 hh a e r) = ix4 (hd (pI t) hh) a e r := by
  blk_point [idx10 t, hd, pI]

/-! ## The arrays -/

variable (m : (ℓ : Loc nD τ sig) → Buf (Elt Ideal) ℓ) (ct : Dev nD)
variable {q k c v g}
  (hq : m ((ct : Thread nD τ).loc main_arg0) = up q) (hk : m ((ct : Thread nD τ).loc main_arg1) = up k)
  (hv : m ((ct : Thread nD τ).loc main_arg2) = up v) (hc : m ((ct : Thread nD τ).loc main_arg3) = up c)
  (hg : m ((ct : Thread nD τ).loc main_arg4) = up g)
include hq hk hv hc hg

theorem dq_arr : (dats m 0 ct).arrAt 6 cfg0.N = fun i : S2048x512.Idx => (dqG q k c v g (i 0) (i 1) : EReal) := by
  refine Dat.arrAt_eq_of_covers (dats m 0 ct) 6 _ (by decide +kernel) fun t hf y => ?_
  blk_simp
  rw [after0_6]
  idx_vars y
  rw [emb6]
  exact (dq_last m ct hq hk hv hc hg t ((flush0_6 t).mp hf) y0 y1).trans (congrArg (fun x : ℝ => (x : EReal)) (dq_total q k c v g _ _ _))

theorem dk_arr : (dats m 0 ct).arrAt 7 cfg0.N = fun i : S2048x512.Idx => (dkG q k c v g (i 0) (i 1) : EReal) := by
  refine Dat.arrAt_eq_of_covers (dats m 0 ct) 7 _ (by decide +kernel) fun t hf y => ?_
  blk_simp
  rw [after0_7]
  idx_vars y
  rw [emb7]
  exact (dk_last m ct hq hk hv hc hg t ((flush0_7 t).mp hf) y0 y1).trans (congrArg (fun x : ℝ => (x : EReal)) (dk_total q k c v g _ _ _))

theorem dv_arr : (dats m 0 ct).arrAt 8 cfg0.N = fun i : S2048x512.Idx => (dvG q k c g (i 0) (i 1) : EReal) := by
  refine Dat.arrAt_eq_of_covers (dats m 0 ct) 8 _ (by decide +kernel) fun t hf y => ?_
  blk_simp
  rw [after0_8]
  idx_vars y
  rw [emb8]
  exact (dv_last m ct hq hk hv hc hg t ((flush0_8 t).mp hf) y0 y1).trans (congrArg (fun x : ℝ => (x : EReal)) (dv_total q k c g _ _ _))

theorem dck_arr : (dats m 0 ct).arrAt 9 cfg0.N = fun i : S8x1x2048.Idx => (dckG q k c v g (i 0) (i 2) : EReal) := by
  refine Dat.arrAt_eq_of_covers (dats m 0 ct) 9 _ (by decide +kernel) fun t hf y => ?_
  blk_simp
  rw [after0_9]
  idx_vars y
  obtain rfl : y1 = 0 := Subsingleton.elim _ _
  rw [emb9]
  exact (dck_last m ct hq hk hv hc hg t ((flush0_9 t).mp hf) y0 y2).trans (congrArg (fun x : ℝ => (x : EReal)) (dck_total q k c v g _ _ _))

theorem dcq_arr : (dats m 0 ct).arrAt 10 cfg0.N = fun i : S8x4x16x512.Idx => (dcqG q k c v g (i 0) (blk (i 1) (i 3)) : EReal) := by
  refine Dat.arrAt_eq_of_covers (dats m 0 ct) 10 _ (by decide +kernel) fun t hf y => ?_
  blk_simp
  rw [after0_10]
  idx_vars y
  rw [emb10]
  exact (dcq_last m ct hq hk hv hc hg t ((flush0_10 t).mp hf) y0 y1 y2 y3).trans (congrArg (fun x : ℝ => (x : EReal)) (dcq_total q k c v g _ _ _))

end Cert.FoxIdeal.Hand
-- ==== Proof.FoxRef.lean ====
/-
  The causal attention's backward call: the reference's composed terms on real arguments, buffer by buffer.
-/
module

public import proofs.«01_k».proof.Proof.FoxMath
public import proofs.«01_k».proof.Proof.Words
public import proofs.«01_k».proof.Proof.Gen.FoxRefIdeal.Read

@[expose] public section

set_option maxRecDepth 16384

noncomputable section

namespace Cert.FoxRefIdeal.Hand

open Cert.FoxRefIdeal Cert.FoxRefIdeal.Read Cert.FoxMath Idealize.ShloMosaic

variable (q k : S2048x512.Idx → ℝ) (c : S8x2048.Idx → ℝ) (v g : S2048x512.Idx → ℝ) (h : Fin 8) (r l : Fin 2048) (d : Fin 64)

/-- An array cut into eight heads reads head `h`'s lane `d` at column `64 h + d`. -/
theorem heads (x : S2048x512.Idx → EReal) : val_main_v0 (F := Ideal) x (ix3 r h d) = x (ix2 r (col h d)) := by
  rw [val_main_v0_apply]
  refine congrArg x (funext fun a => Fin.ext ?_)
  match a with
  | ⟨0, _⟩ => change ((r.val * 8 + h.val) * 64 + d.val) / 512 = r.val; omega
  | ⟨1, _⟩ => change ((r.val * 8 + h.val) * 64 + d.val) % 512 = 64 * h.val + d.val; omega

/-- One eighth, by its f32 word. -/
theorem ofBits_eighth : Ideal.ofBits FTy.f32 1040187392#32 = ((1 / 8 : ℝ) : EReal) := by
  simp [Ideal.ofBits, Ideal.ieee, -EReal.coe_mul]; norm_num

/-- The scores. -/
theorem ref_s : val_main_v10 (F := Ideal) (up q) (up k) (up c) (ix3 h r l) = (S q k c h r l : EReal) := by
  pointwise [val_main_v10, val_main_v9, val_main_v8, val_main_v7, val_main_v6, val_main_v5, val_main_v4, val_main_v3, val_main_cst, val_main_v2]
  simp only [show val_main_v1 (F := Ideal) (up k) = val_main_v0 (up k) from rfl, heads, ofBits_eighth, ← EReal.coe_mul, Reals.sum_coe, ← EReal.coe_add, ← EReal.coe_sub]
  rfl

/-- The masked scores. -/
theorem ref_sc : val_main_v20 (F := Ideal) (up q) (up k) (up c) (ix3 h r l) = msc q k c h r l := by
  pointwise [val_main_v20, val_main_v18, val_main_v17, val_main_v16, val_main_v15, val_main_v14, val_main_v13, val_main_v12, val_main_v11, val_main_v19, val_main_cst_0, ref_s]
  rw [Words.sel_sge _ _ (by omega) (by omega), Reals.ofBits_bot]
  rfl

/-- The row maximum … -/
theorem ref_max : val_main_v22 (F := Ideal) (up q) (up k) (up c) (ix2 h r) = (M q k c h r : EReal) := by
  pointwise [val_main_v22, val_main_cst_2, ref_sc]
  rw [← fold_msc]
  exact congrArg (fun b => Finset.univ.fold max b (msc q k c h r)) Reals.ofBits_bot

/-- … which the reference joins with −∞. -/
theorem ref_max' : val_main_v29 (F := Ideal) (up q) (up k) (up c) (ix2 h r) = (M q k c h r : EReal) := by
  rw [val_main_v29_apply, ref_max]
  change max (Ideal.ofBits FTy.f32 4286578688#32) _ = _
  rw [Reals.ofBits_bot]
  exact max_eq_right bot_le

/-- The exponentials. -/
theorem ref_e : val_main_v42 (F := Ideal) (up q) (up k) (up c) (ix3 h r l) = (E q k c h r l : EReal) := by
  pointwise [val_main_v42, val_main_v41, val_main_v40, val_main_v39, ref_max', ref_sc]
  exact exp_msc q k c h r l

/-- The row's sum. -/
theorem ref_sum : val_main_v44 (F := Ideal) (up q) (up k) (up c) (ix3 h r 0) = (L q k c h r : EReal) := by
  pointwise [val_main_v44, val_main_v43, val_main_cst_10, ref_e]
  exact Reals.sum_coe _ _

/-- The weights. -/
theorem ref_w : val_main_v46 (F := Ideal) (up q) (up k) (up c) (ix3 h r l) = (W q k c h r l : EReal) := by
  pointwise [val_main_v46, val_main_v45, ref_sum, ref_e]
  exact Reals.div_coe _ _ (L_pos q k c h r).ne'

/-- One over the square of the row's sum. -/
theorem ref_inv : val_main_v49 (F := Ideal) (up q) (up k) (up c) (ix3 h r 0) = ((1 / (L q k c h r * L q k c h r) : ℝ) : EReal) := by
  pointwise [val_main_v49, val_main_v48, val_main_v47, val_main_cst_11, ref_sum]
  have hL := L_pos q k c h r
  rw [← EReal.coe_mul]
  exact Reals.div_coe 1 _ (mul_pos hL hL).ne'

/-- The weights' cotangent. -/
theorem ref_g : val_main_v56 (F := Ideal) (up v) (up g) (ix3 h r l) = (G v g h r l : EReal) := by
  pointwise [val_main_v56, val_main_v55]
  simp only [show val_main_v50 (F := Ideal) (up v) = val_main_v0 (up v) from rfl, show val_main_v54 (F := Ideal) (up g) = val_main_v0 (up g) from rfl, heads, ← EReal.coe_mul, Reals.sum_coe]
  rfl

/-- The row sum's cotangent. -/
theorem ref_dsum : val_main_v68 (F := Ideal) (up q) (up k) (up v) (up c) (up g) (ix2 h r) =
    ((-∑ x, G v g h r x * (1 / (L q k c h r * L q k c h r)) * E q k c h r x : ℝ) : EReal) := by
  pointwise [val_main_v68, val_main_cst_13, val_main_v65, val_main_v64, val_main_v63, val_main_cst_12, val_main_v62, val_main_v61, val_main_v60, ref_inv, ref_g, ref_e]
  simp only [← EReal.coe_mul, Reals.sum_coe, ← EReal.coe_neg, Fin.sum_univ_one]

/-- The scores' cotangent. -/
theorem ref_ds : val_main_v73 (F := Ideal) (up q) (up k) (up v) (up c) (up g) (ix3 h r l) = (DS q k c v g h r l : EReal) := by
  pointwise [val_main_v73, val_main_v18, val_main_v17, val_main_v16, val_main_v15, val_main_v14, val_main_v13, val_main_v12, val_main_v11, val_main_v72, val_main_cst_14, val_main_v71, val_main_v70, val_main_v69, val_main_v67, val_main_v66, ref_dsum, ref_g, ref_sum, ref_e]
  rw [Words.sel_sge _ _ (by omega) (by omega), Reals.div_coe _ _ (L_pos q k c h r).ne', ← EReal.coe_add, ← EReal.coe_mul, quotient]
  split
  · rfl
  · next hl => rw [DS_masked _ _ _ _ _ _ _ _ hl]; rfl

/-- The scaled scores' cotangent. -/
theorem ref_ds' : val_main_v82 (F := Ideal) (up q) (up k) (up v) (up c) (up g) (ix3 h r l) = ((DS q k c v g h r l * (1 / 8) : ℝ) : EReal) := by
  pointwise [val_main_v82, val_main_v81, val_main_cst_19, ref_ds]
  rw [ofBits_eighth, ← EReal.coe_mul]

/-- An array of eight heads put side by side. -/
theorem merge (y : Fin 2048) (z : Fin 512) : idx_main_v88 (ix2 y z) = ix3 y ⟨z.val / 64, by omega⟩ ⟨z.val % 64, by omega⟩ :=
  funext fun a => Fin.ext (by
    match a with
    | ⟨0, _⟩ => change (y.val * 512 + z.val) / 512 = y.val; omega
    | ⟨1, _⟩ => change (y.val * 512 + z.val) / 64 % 8 = z.val / 64; omega
    | ⟨2, _⟩ => change (y.val * 512 + z.val) % 64 = z.val % 64; omega)

/-- The queries' gradient. -/
theorem ref_dq (y : Fin 2048) (z : Fin 512) : val_main_v88 (F := Ideal) (up q) (up k) (up v) (up c) (up g) (ix2 y z) =
    ((∑ l, DS q k c v g ⟨z.val / 64, by omega⟩ y l * (1 / 8) * k (ix2 l z) : ℝ) : EReal) := by
  rw [val_main_v88_apply, merge]
  pointwise [val_main_v86, val_main_v85, ref_ds']
  simp only [show val_main_v1 (F := Ideal) (up k) = val_main_v0 (up k) from rfl, heads, ← EReal.coe_mul, Reals.sum_coe]
  have e : col ⟨z.val / 64, by omega⟩ ⟨z.val % 64, by omega⟩ = z := Fin.ext (Nat.div_add_mod z.val 64)
  rw [e]

/-- The keys' gradient. -/
theorem ref_dk (y : Fin 2048) (z : Fin 512) : val_main_v87 (F := Ideal) (up q) (up k) (up v) (up c) (up g) (ix2 y z) =
    ((∑ r, DS q k c v g ⟨z.val / 64, by omega⟩ r y * (1 / 8) * q (ix2 r z) : ℝ) : EReal) := by
  rw [val_main_v87_apply, show idx_main_v87 (ix2 y z) = idx_main_v88 (ix2 y z) from rfl, merge]
  pointwise [val_main_v84, val_main_v83, ref_ds']
  simp only [heads, ← EReal.coe_mul, Reals.sum_coe]
  have e : col ⟨z.val / 64, by omega⟩ ⟨z.val % 64, by omega⟩ = z := Fin.ext (Nat.div_add_mod z.val 64)
  rw [e]

/-- The values' gradient. -/
theorem ref_dv (y : Fin 2048) (z : Fin 512) : val_main_v59 (F := Ideal) (up q) (up k) (up c) (up g) (ix2 y z) =
    ((∑ r, W q k c ⟨z.val / 64, by omega⟩ r y * g (ix2 r z) : ℝ) : EReal) := by
  rw [val_main_v59_apply, show idx_main_v59 (ix2 y z) = idx_main_v88 (ix2 y z) from rfl, merge]
  pointwise [val_main_v58, val_main_v57, val_main_v55, ref_w]
  simp only [show val_main_v54 (F := Ideal) (up g) = val_main_v0 (up g) from rfl, heads, ← EReal.coe_mul, Reals.sum_coe]
  have e : col ⟨z.val / 64, by omega⟩ ⟨z.val % 64, by omega⟩ = z := Fin.ext (Nat.div_add_mod z.val 64)
  exact congrArg (fun x : ℝ => (x : EReal)) (Finset.sum_congr rfl fun i _ => (mul_comm _ _).trans (congrArg (fun w => W q k c _ i y * g (ix2 i w)) e))

/-- The column sums of the scores' cotangent. -/
theorem ref_dck : val_main_v92 (F := Ideal) (up q) (up k) (up v) (up c) (up g) (ix3 h 0 l) = ((∑ r, DS q k c v g h r l : ℝ) : EReal) := by
  pointwise [val_main_v92, val_main_v91, val_main_v77, val_main_cst_16, val_main_v76, val_main_v75, val_main_cst_15, val_main_v74, ref_ds]
  simp only [Fin.sum_univ_one, ← EReal.coe_neg, Reals.sum_coe, Finset.sum_neg_distrib, neg_neg]

/-- The row sums of the scores' cotangent, sixteen times over. -/
theorem ref_dcq (a : Fin 4) (b : Fin 16) (e : Fin 512) : val_main_v90 (F := Ideal) (up q) (up k) (up v) (up c) (up g) (ix4 h a b e) =
    ((∑ l, DS q k c v g h ⟨512 * a.val + e.val, by omega⟩ l : ℝ) : EReal) := by
  have i : idx_main_v89 (ix4 h a 0 e) = ix2 h ⟨512 * a.val + e.val, by omega⟩ := funext fun n => Fin.ext (by
    match n with
    | ⟨0, _⟩ => change (((h.val * 4 + a.val) * 1 + 0) * 512 + e.val) / 2048 = h.val; omega
    | ⟨1, _⟩ => change (((h.val * 4 + a.val) * 1 + 0) * 512 + e.val) % 2048 = 512 * a.val + e.val; omega)
  have s : val_main_v80 (F := Ideal) (up q) (up k) (up v) (up c) (up g) (ix2 h ⟨512 * a.val + e.val, by omega⟩) =
      ((∑ l, DS q k c v g h ⟨512 * a.val + e.val, by omega⟩ l : ℝ) : EReal) := by
    pointwise [val_main_v80, val_main_cst_18, val_main_v79, val_main_v78, val_main_cst_17, ref_ds]
    simp only [Fin.sum_univ_one, Reals.sum_coe]
  rw [val_main_v90_apply, show idx_main_v90 (ix4 h a b e) = ix4 h a 0 e from by funext n; match n with | ⟨0, _⟩ => rfl | ⟨1, _⟩ => rfl | ⟨2, _⟩ => rfl | ⟨3, _⟩ => rfl, val_main_v89_apply, i, s]

end Cert.FoxRefIdeal.Hand
-- ==== Proof.FoxPair.lean ====
/-
  The attention's gradient: the pair. On real operands the kernel's five results are the reference's.
-/
module

public import proofs.«01_k».proof.Defs
public import proofs.«01_k».proof.Proof.Gen.FoxIdeal.Value
public import proofs.«01_k».proof.Proof.Gen.FoxRefIdeal.Run
public import proofs.«01_k».proof.Proof.Gen.FoxRefIdeal.Read
public import proofs.«01_k».proof.Proof.Gen.Pre_fox_finite
public import Idealize.ShloMosaic.Lib.Pointwise
public import Idealize.ShloMosaic.Lib.Claim
public import Idealize.ShloMosaic.Lib.Quiescent
public import proofs.«01_k».proof.Proof.FoxRef
public import proofs.«01_k».proof.Proof.FoxArr

@[expose] public section

set_option maxRecDepth 16384

namespace Cert.FoxIdeal.Hand

open Cert.FoxIdeal Cert.FoxIdeal.Gen Cert.FoxMath Idealize.ShloMosaic Idealize.ShloMosaic.TcCoe Idealize.SL.Sem

/-- The arguments the precondition admits are arrays of reals. -/
theorem args_real (m : (ℓ : Loc nD τ sig) → Buf (Elt Ideal) ℓ) (hpre : Cert.Pre_FoxIdeal_fox_finite (hPre_fox_finite := Cert.Pre_fox_finite.Gen.facts) m) (c : Dev nD) :
    ∃ (q k v : S2048x512.Idx → ℝ) (b : S8x2048.Idx → ℝ) (g : S2048x512.Idx → ℝ),
      m ((c : Thread nD τ).loc main_arg0) = up q ∧ m ((c : Thread nD τ).loc main_arg1) = up k ∧ m ((c : Thread nD τ).loc main_arg2) = up v ∧
      m ((c : Thread nD τ).loc main_arg3) = up b ∧ m ((c : Thread nD τ).loc main_arg4) = up g := by
  obtain ⟨h0, h1, h2, h3, h4⟩ := hpre c
  obtain ⟨q, hq⟩ := Reals.array_of_abs_lt fun i => by have := congrFun h0 i; pointwise [Pre_fox_finite.fn] at this; exact this
  obtain ⟨k, hk⟩ := Reals.array_of_abs_lt fun i => by have := congrFun h1 i; pointwise [Pre_fox_finite.fn] at this; exact this
  obtain ⟨v, hv⟩ := Reals.array_of_abs_lt fun i => by have := congrFun h2 i; pointwise [Pre_fox_finite.fn] at this; exact this
  obtain ⟨b, hb⟩ := Reals.array_of_abs_lt fun i => by have := congrFun h3 i; pointwise [Pre_fox_finite.fn] at this; exact this
  obtain ⟨g, hg⟩ := Reals.array_of_abs_lt fun i => by have := congrFun h4 i; pointwise [Pre_fox_finite.fn] at this; exact this
  exact ⟨q, k, v, b, g, hq, hk, hv, hb, hg⟩

set_option maxHeartbeats 4000000 in
/-- At `Ideal` the kernel's five results are the reference's, for real arguments. -/
theorem algebraic : Cert.algebraic_FoxIdeal_FoxRefIdeal_pre_fox_finite (hPre_fox_finite := Cert.Pre_fox_finite.Gen.facts) := by
  pair_intro
  · run_from (Cert.FoxIdeal.Value.run_blocks m g)
  · run_from (Cert.FoxRefIdeal.Value.run m' g')
    · obtain ⟨q, k, v, b, w, hq, hk, hv, hb, hg⟩ := args_real m hpre c
      obtain ⟨a0, a1, a2, a3, a4⟩ := hagree c
      refine Eq.trans ?_ (dq_arr m c hq hk hv hb hg).symm
      rw [FoxRefIdeal.Read.val_main_v88_eq, a0, a1, a2, a3, a4, hq, hk, hv, hb, hg]
      funext i
      idx_vars i
      exact Cert.FoxRefIdeal.Hand.ref_dq ..
    · obtain ⟨q, k, v, b, w, hq, hk, hv, hb, hg⟩ := args_real m hpre c
      obtain ⟨a0, a1, a2, a3, a4⟩ := hagree c
      refine Eq.trans ?_ (dk_arr m c hq hk hv hb hg).symm
      rw [FoxRefIdeal.Read.val_main_v87_eq, a0, a1, a2, a3, a4, hq, hk, hv, hb, hg]
      funext i
      idx_vars i
      exact Cert.FoxRefIdeal.Hand.ref_dk ..
    · obtain ⟨q, k, v, b, w, hq, hk, hv, hb, hg⟩ := args_real m hpre c
      obtain ⟨a0, a1, a2, a3, a4⟩ := hagree c
      refine Eq.trans ?_ (dv_arr m c hq hk hv hb hg).symm
      rw [FoxRefIdeal.Read.val_main_v59_eq, a0, a1, a3, a4, hq, hk, hb, hg]
      funext i
      idx_vars i
      exact Cert.FoxRefIdeal.Hand.ref_dv ..
    · obtain ⟨q, k, v, b, w, hq, hk, hv, hb, hg⟩ := args_real m hpre c
      obtain ⟨a0, a1, a2, a3, a4⟩ := hagree c
      refine Eq.trans ?_ (dck_arr m c hq hk hv hb hg).symm
      rw [FoxRefIdeal.Read.val_main_v92_eq, a0, a1, a2, a3, a4, hq, hk, hv, hb, hg]
      funext i
      idx_vars i
      obtain rfl : i1 = 0 := Subsingleton.elim _ _
      exact Cert.FoxRefIdeal.Hand.ref_dck ..
    · obtain ⟨q, k, v, b, w, hq, hk, hv, hb, hg⟩ := args_real m hpre c
      obtain ⟨a0, a1, a2, a3, a4⟩ := hagree c
      refine Eq.trans ?_ (dcq_arr m c hq hk hv hb hg).symm
      rw [FoxRefIdeal.Read.val_main_v90_eq, a0, a1, a2, a3, a4, hq, hk, hv, hb, hg]
      funext i
      idx_vars i
      exact Cert.FoxRefIdeal.Hand.ref_dcq ..

/-- The mask's name keeps the program: it is the word the kernel holds. -/
theorem preserves : Cert.preserves_Fox_FoxIdeal := IdealRules.named_const.statement Cert.FoxIdeal.κ "mask" .f32 0xF149F2CA#32 ⊥ rfl

/-- The reference runs to the end, leaves its arguments as they were and every counter at zero. -/
theorem frameRef : Cert.quiescent_FoxRefIdeal :=
  fun m g _ => θ_run_mono (Cert.FoxRefIdeal.Value.run m g) fun _ h => ⟨fun c => (h c).2.2.2.2.2, sem_eq_zero_of_no_sems (by decide) _⟩

end Cert.FoxIdeal.Hand
-- ==== Proof.LossValue.lean ====
/-
  The loss head: what its two arrays hold, at any arguments.
-/
module

public import proofs.«01_k».proof.Defs
public import proofs.«01_k».proof.Proof.Gen.LossIdeal.Value
public import Idealize.ShloMosaic.Lib.Pipeline.ValueKit
public import Idealize.ShloMosaic.Lib.Pointwise
public import proofs.«01_k».proof.Proof.Reals

@[expose] public section

set_option maxRecDepth 16384

noncomputable section

namespace Cert.LossIdeal.Hand

open Cert.LossIdeal Cert.LossIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel

theorem lt4 (t : Fin cfg0.N) : t.val < 4 := by have := t.isLt; have h : cfg0.N = 4 := N_0; omega

/-- Row `r` of block `t`. -/
abbrev row (t : Fin cfg0.N) (r : Fin 512) : Fin 2048 := ⟨512 * t.val + r.val, by have := lt4 t; omega⟩

theorem blk0 (c : Dev nD) (t : Fin cfg0.N) (r : Fin 512) (l : Fin 1024) :
    iblk m c 0 t (ix2 r l) = m ((c : Thread nD τ).loc main_arg0) (ix2 (row t r) l) := by
  blk_point [iblk, V, idx0 t]
theorem blk1 (c : Dev nD) (t : Fin cfg0.N) (r : Fin 512) (l : Fin 1024) :
    iblk m c 1 t (ix2 r l) = m ((c : Thread nD τ).loc main_arg1) (ix2 (row t r) l) := by
  blk_point [iblk, V, idx1 t]
theorem emb2 (t : Fin cfg0.N) (r : Fin 512) (l : Fin 1024) : (win0_2.blk t).view.emb (ix2 r l) = ix2 (row t r) l := by
  blk_point [idx2 t]

/-- One 1024th, by its f32 word. -/
theorem ofBits_inv : Ideal.ofBits FTy.f32 981467136#32 = ((1 / 1024 : ℝ) : EReal) := by
  simp [Ideal.ofBits, Ideal.ieee, -EReal.coe_mul]; norm_num

/-- One half, by its f32 word. -/
theorem ofBits_half : Ideal.ofBits FTy.f32 1056964608#32 = ((1 / 2 : ℝ) : EReal) := by
  simp [Ideal.ofBits, Ideal.ieee, -EReal.coe_mul]; norm_num

/-- A row's mean squared error. -/
def err (x y : S2048x1024.Idx → EReal) (r : Fin 2048) : EReal :=
  Ideal.div (∑ k, (x (ix2 r k) - y (ix2 r k)) * (x (ix2 r k) - y (ix2 r k))) (Ideal.ofBits FTy.f32 1149239296#32)

/-- The gradient at an index of the block. -/
theorem pay2 (a b : Vec Ideal S512x1024 .f32) (r : Fin 512) (l : Fin 1024) :
    k0_pay2 a b (ix2 r l) = (a (ix2 r l) - b (ix2 r l)) * Ideal.ofBits FTy.f32 981467136#32 := by
  unfold_payloads
  pointwise

/-- Half the sum of the block's mean squared errors. -/
theorem pay3 (a b : Vec Ideal S512x1024 .f32) (e : Fin 512 → EReal) (p : Fin 8) (q : Fin 128)
    (he : ∀ r, Ideal.div (∑ k, (a (ix2 r k) - b (ix2 r k)) * (a (ix2 r k) - b (ix2 r k))) (Ideal.ofBits FTy.f32 1149239296#32) = e r) :
    k0_pay3 a b (ix2 p q) = ((1 / 2 : ℝ) : EReal) * ∑ r, e r := by
  unfold_payloads
  pointwise
  rw [ofBits_half]
  exact congrArg _ (Finset.sum_congr rfl fun r _ => he r)

/-- The gradient: the error over the row's length. -/
def grad (x y : S2048x1024.Idx → EReal) (i : S2048x1024.Idx) : EReal := (x i - y i) * Ideal.ofBits FTy.f32 981467136#32

theorem dx_arr (c : Dev nD) : (dats m 0 c).arrAt 2 cfg0.N =
    fun i : S2048x1024.Idx => grad (m ((c : Thread nD τ).loc main_arg0)) (m ((c : Thread nD τ).loc main_arg1)) i := by
  refine Dat.arrAt_eq_of_covers (dats m 0 c) 2 _ (by decide +kernel) fun t hf y => ?_
  have ht := lt4 t
  blk_simp
  rw [after0_2]
  idx_vars y
  refine Eq.trans ?_ (congrArg (fun i : S2048x1024.Idx => grad (m ((c : Thread nD τ).loc main_arg0)) (m ((c : Thread nD τ).loc main_arg1)) i) (emb2 t y0 y1).symm)
  have e : k0_pay2 (iblk m c 0 t) (iblk m c 1 t) (ix2 y0 y1) = grad (m ((c : Thread nD τ).loc main_arg0)) (m ((c : Thread nD τ).loc main_arg1)) (ix2 (row t y0) y1) := by
    rw [pay2, blk0, blk1]
    rfl
  rcases Nat.lt_or_ge 0 t.val with h | h
  · rw [outsAt0_B m c t (by omega) (by omega)]
    frame_out
    exact e
  · rw [outsAt0_A m c t (by omega) (by omega)]
    frame_out
    exact e

/-- Half the sum of block `n`'s mean squared errors. -/
def term (x y : S2048x1024.Idx → EReal) (n : ℕ) : EReal :=
  if h : n < 4 then ((1 / 2 : ℝ) : EReal) * ∑ r : Fin 512, err x y ⟨512 * n + r.val, by omega⟩ else 0

/-- One half goes into a sum. -/
theorem half_add (a b : EReal) : ((1 / 2 : ℝ) : EReal) * a + ((1 / 2 : ℝ) : EReal) * b = ((1 / 2 : ℝ) : EReal) * (a + b) :=
  (EReal.left_distrib_of_nonneg_of_ne_top (by exact_mod_cast (by norm_num : (0 : ℝ) ≤ 1 / 2)) (EReal.coe_ne_top _) a b).symm

theorem loss_arr (c : Dev nD) : (dats m 0 c).arrAt 3 cfg0.N =
    fun _ : S8x128.Idx => ((1 / 2 : ℝ) : EReal) * ∑ r, err (m ((c : Thread nD τ).loc main_arg0)) (m ((c : Thread nD τ).loc main_arg1)) r := by
  have e : ∀ (t : Fin cfg0.N) (p : Fin 8) (q : Fin 128), k0_pay3 (iblk m c 0 t) (iblk m c 1 t) (ix2 p q) = term (m ((c : Thread nD τ).loc main_arg0)) (m ((c : Thread nD τ).loc main_arg1)) t.val := by
    intro t p q
    rw [term, dif_pos (lt4 t)]
    refine pay3 _ _ _ p q fun r => ?_
    simp only [blk0, blk1]
    rfl
  refine Dat.arrAt_eq_of_covers (dats m 0 c) 3 _ (by decide +kernel) fun t hf y => ?_
  blk_simp
  rw [after0_3]
  idx_vars y
  have h3 := (flush0_3 t).mp hf
  have ht := lt4 t
  refine (Pipeline.eq_sum_of_reset_step_single (fun n hn => (outsAt0 m c n hn).2 (ix2 y0 y1)) 4 (0 : EReal) (term (m ((c : Thread nD τ).loc main_arg0)) (m ((c : Thread nD τ).loc main_arg1))) ?_ ?_ (by decide) t).trans ?_
  · intro t h
    have ht := lt4 t
    rw [outsAt0_A m c t h (by omega), zero_add, ← e t y0 y1]
    frame_out
  · intro t h
    have ht := lt4 t
    rw [outsAt0_B m c t h (by omega), ← e t y0 y1]
    frame_out
    unfold_payloads
    pointwise
  · rw [zero_add, show t.val = 3 by omega, Reals.sum_blocks]
    simp only [Finset.sum_range_succ, Finset.sum_range_zero, Fin.sum_univ_four, zero_add, ← half_add]
    rfl

end Cert.LossIdeal.Hand
-- ==== Proof.LossPair.lean ====
/-
  The loss head: the reference's loss and gradient, and the pair.
-/
module

public import proofs.«01_k».proof.Defs
public import proofs.«01_k».proof.Proof.Gen.LossIdeal.Value
public import proofs.«01_k».proof.Proof.Gen.LossRefIdeal.Run
public import proofs.«01_k».proof.Proof.Gen.LossRefIdeal.Read
public import Idealize.ShloMosaic.Lib.Pointwise
public import Idealize.ShloMosaic.Lib.Claim
public import Idealize.ShloMosaic.Lib.Quiescent
public import proofs.«01_k».proof.Proof.LossValue

@[expose] public section

set_option maxRecDepth 16384

noncomputable section

namespace Cert.LossIdeal.Hand

open Cert.LossIdeal Cert.LossIdeal.Gen Cert.LossRefIdeal.Read Idealize.ShloMosaic Idealize.ShloMosaic.TcCoe Idealize.SL.Sem

variable (x y : S2048x1024.Idx → EReal)

/-- The row's length, by its f32 word. -/
theorem ofBits_len : Ideal.ofBits FTy.f32 1149239296#32 = ((1024 : ℝ) : EReal) := by
  simp [Ideal.ofBits, Ideal.ieee, -EReal.coe_mul]; norm_num

/-- Two, by its f32 word. -/
theorem ofBits_two : Ideal.ofBits FTy.f32 1073741824#32 = ((2 : ℝ) : EReal) := by
  simp [Ideal.ofBits, Ideal.ieee, -EReal.coe_mul]; norm_num

/-- The reference's gradient: half the mean's share of twice the error. -/
theorem ref_dx (r : Fin 2048) (l : Fin 1024) : val_main_v14 (F := Ideal) x y (ix2 r l) = grad x y (ix2 r l) := by
  unfold grad
  pointwise [val_main_v14, val_main_v13, val_main_v12, val_main_v11, val_main_v10, val_main_v9, val_main_v3, val_main_v2, val_main_v0, val_main_cst, val_main_cst_4, val_main_cst_5, val_main_cst_6]
  rw [ofBits_half, ofBits_len, ofBits_two, ofBits_inv, Reals.div_coe _ _ (by norm_num), ← mul_assoc, ← EReal.coe_mul, mul_comm]
  norm_num

/-- A row's mean squared error in the reference. -/
theorem ref_err (r : Fin 2048) : val_main_v6 (F := Ideal) x y (ix1 r) = err x y r := by
  pointwise [val_main_v6, val_main_v5, val_main_v4, val_main_v1, val_main_v0, val_main_cst_0, val_main_cst_1]
  rfl

/-- The reference's loss. -/
theorem ref_loss (p : Fin 8) (q : Fin 128) : val_main_v15 (F := Ideal) x y (ix2 p q) = ((1 / 2 : ℝ) : EReal) * ∑ r, err x y r := by
  pointwise [val_main_v15, val_main_v8, val_main_v7, val_main_cst_2, val_main_cst_3, ref_err]
  rw [ofBits_half]

set_option maxHeartbeats 4000000 in
/-- At `Ideal` the kernel's two results are the reference's. -/
theorem algebraic : Cert.algebraic_LossIdeal_LossRefIdeal := by
  pair_intro
  · run_from (Cert.LossIdeal.Value.run_blocks m g)
  · run_from (Cert.LossRefIdeal.Value.run m' g')
    · refine Eq.trans ?_ (dx_arr m c).symm
      rw [LossRefIdeal.Read.val_main_v14_eq]
      funext i
      idx_vars i
      exact ref_dx ..
    · refine Eq.trans ?_ (loss_arr m c).symm
      rw [LossRefIdeal.Read.val_main_v15_eq]
      funext i
      idx_vars i
      exact ref_loss ..

/-- The reference runs to the end, leaves its arguments as they were and every counter at zero. -/
theorem frameRef : Cert.quiescent_LossRefIdeal :=
  fun m g _ => θ_run_mono (Cert.LossRefIdeal.Value.run m g) fun _ h => ⟨fun c => (h c).2.2, sem_eq_zero_of_no_sems (by decide) _⟩

end Cert.LossIdeal.Hand
-- ==== Proof.NormMath.lean ====
/-
  The norm's gradient on real rows.
-/
module

public import Idealize.ShloMosaic.Lib.Pointwise
public import proofs.«01_k».proof.Proof.Reals

@[expose] public section

noncomputable section

namespace Cert.NormMath

open Idealize.ShloMosaic

/-- The number added under the root. -/
def eps : ℝ := 8796093 * (2 ^ 43 : ℝ)⁻¹

theorem eps_pos : 0 < eps := by unfold eps; positivity

/-- … by its f32 word. -/
theorem ofBits_eps : Ideal.ofBits FTy.f32 897988541#32 = (eps : EReal) := by
  unfold eps
  simp [Ideal.ofBits, Ideal.ieee, -EReal.coe_mul]

/-- The row's length, by its f32 word. -/
theorem ofBits_len : Ideal.ofBits FTy.f32 1149239296#32 = ((1024 : ℝ) : EReal) := by
  simp [Ideal.ofBits, Ideal.ieee, -EReal.coe_mul]; norm_num

/-- Minus one half, by its f32 word. -/
theorem ofBits_neg_half : Ideal.ofBits FTy.f32 3204448256#32 = ((-1 / 2 : ℝ) : EReal) := by
  simp [Ideal.ofBits, Ideal.ieee, -EReal.coe_mul]; norm_num

/-- A row's mean square, with the number added. -/
def ms (a : Fin 1024 → ℝ) : ℝ := (∑ k, a k * a k) / 1024 + eps

theorem ms_pos (a : Fin 1024 → ℝ) : 0 < ms a :=
  add_pos_of_nonneg_of_pos (div_nonneg (Finset.sum_nonneg fun k _ => mul_self_nonneg _) (by norm_num)) eps_pos

/-- A row's inverse root mean square. -/
def rs (a : Fin 1024 → ℝ) : ℝ := (Real.sqrt (ms a))⁻¹

theorem rs_sq (a : Fin 1024 → ℝ) : rs a * rs a = 1 / ms a := by
  unfold rs
  rw [← mul_inv, Real.mul_self_sqrt (ms_pos a).le, one_div]

theorem ms_coe (a : Fin 1024 → ℝ) :
    Ideal.div (∑ k, (a k : EReal) * (a k : EReal)) (Ideal.ofBits FTy.f32 1149239296#32) + Ideal.ofBits FTy.f32 897988541#32 = (ms a : EReal) := by
  simp only [← EReal.coe_mul, Reals.sum_coe, ofBits_len, ofBits_eps]
  rw [Reals.div_coe _ _ (by norm_num), ← EReal.coe_add]
  rfl

theorem rsqrt_ms (a : Fin 1024 → ℝ) : Ideal.rsqrt (ms a : EReal) = (rs a : EReal) := by
  rw [Ideal.rsqrt_coe, if_neg (ms_pos a).not_gt, if_neg (ms_pos a).ne']
  rfl

/-- What the kernel computes of a row `a` with cotangent `d` and gain `g`. -/
def dz (a d g : Fin 1024 → ℝ) (l : Fin 1024) : ℝ :=
  rs a * (d l * g l - a l * rs a * ((∑ k, d k * g k * (a k * rs a)) / 1024))

theorem dz_coe (a d g : Fin 1024 → ℝ) (l : Fin 1024) :
    (rs a : EReal) * ((d l : EReal) * g l - (a l : EReal) * rs a * Ideal.div (∑ k, (d k : EReal) * g k * ((a k : EReal) * rs a)) (Ideal.ofBits FTy.f32 1149239296#32))
      = (dz a d g l : EReal) := by
  simp only [← EReal.coe_mul, Reals.sum_coe, ofBits_len]
  rw [Reals.div_coe _ _ (by norm_num)]
  simp only [← EReal.coe_mul, ← EReal.coe_sub]
  rfl

/-- The derivative through the mean square: what the reference adds, twice, to `d g r`. -/
def back (a d g : Fin 1024 → ℝ) : ℝ := (∑ k, a k * (d k * g k)) * (-1 / 2 * (rs a / ms a)) / 1024

theorem back_coe (a d g : Fin 1024 → ℝ) :
    Ideal.div (((∑ k, a k * (d k * g k) : ℝ) : EReal) * ((-1 / 2 * (rs a / ms a) : ℝ) : EReal)) (Ideal.ofBits FTy.f32 1149239296#32) = (back a d g : EReal) := by
  rw [ofBits_len, ← EReal.coe_mul, Reals.div_coe _ _ (by norm_num)]
  rfl

/-- The two agree. -/
theorem dz_eq (a d g : Fin 1024 → ℝ) (l : Fin 1024) : d l * g l * rs a + a l * back a d g + back a d g * a l = dz a d g l := by
  have e : ∑ k, d k * g k * (a k * rs a) = (∑ k, a k * (d k * g k)) * rs a := by
    rw [Finset.sum_mul]
    exact Finset.sum_congr rfl fun k _ => by ring
  have h : rs a / ms a = rs a * (rs a * rs a) := by rw [rs_sq]; ring
  unfold back dz
  rw [e, h]
  ring

end Cert.NormMath
-- ==== Proof.NormValue.lean ====
/-
  The norm's gradient: what the kernel's two arrays hold.
-/
module

public import proofs.«01_k».proof.Defs
public import proofs.«01_k».proof.Proof.Gen.NormIdeal.Value
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Words
public import proofs.«01_k».proof.Proof.Reals
public import proofs.«01_k».proof.Proof.NormMath

@[expose] public section

set_option maxRecDepth 16384

noncomputable section

namespace Cert.NormIdeal.Hand

open Cert.NormIdeal Cert.NormIdeal.Gen Idealize.ShloMosaic Idealize.ShloMosaic.TcCoe Idealize.SL.Sem Cert.NormMath
open Idealize.ShloMosaic.Pipeline (Dat)

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![0, 0] := by decide +kernel

theorem lt4 (t : Fin cfg0.N) : t.val < 4 := by have := t.isLt; have h : cfg0.N = 4 := N_0; omega

/-- Row `r` of block `t`. -/
abbrev row (t : Fin cfg0.N) (r : Fin 512) : Fin 2048 := ⟨512 * t.val + r.val, by have := t.isLt; have h : cfg0.N = 4 := N_0; omega⟩

theorem blk0 (c : Dev nD) (t : Fin cfg0.N) (r : Fin 512) (l : Fin 1024) :
    iblk m c 0 t (ix2 r l) = m ((c : Thread nD τ).loc main_arg0) (ix2 (row t r) l) := by
  blk_point [iblk, V, idx0 t]
theorem blk1 (c : Dev nD) (t : Fin cfg0.N) (r : Fin 512) (l : Fin 1024) :
    iblk m c 1 t (ix2 r l) = m ((c : Thread nD τ).loc main_arg1) (ix2 (row t r) l) := by
  blk_point [iblk, V, idx1 t]
theorem blk2 (c : Dev nD) (t : Fin cfg0.N) (l : Fin 1024) :
    iblk m c 2 t (ix2 0 l) = m ((c : Thread nD τ).loc main_arg2) (ix1 l) := by
  blk_point [iblk, V, idx2 t]
theorem emb3 (t : Fin cfg0.N) (r : Fin 512) (l : Fin 1024) : (win0_3.blk t).view.emb (ix2 r l) = ix2 (row t r) l := by
  blk_point [idx3 t]
theorem emb4 (t : Fin cfg0.N) (l : Fin 1024) : (win0_4.blk t).view.emb (ix2 0 l) = ix2 0 l := by
  blk_point [idx4 t]

/-- The rows' gradient at an index of the block, for real rows. -/
theorem pay3 (a b : Vec Ideal S512x1024 .f32) (w : Vec Ideal S1x1024 .f32) (z d g : Fin 1024 → ℝ) (r : Fin 512) (l : Fin 1024)
    (ha : ∀ k, a (ix2 r k) = (z k : EReal)) (hb : ∀ k, b (ix2 r k) = (d k : EReal)) (hw : ∀ k, w (ix2 0 k) = (g k : EReal)) :
    k0_pay3 a b w (ix2 r l) = (dz z d g l : EReal) := by
  unfold_payloads
  pointwise
  simp only [ha, hb, hw, ms_coe, rsqrt_ms]
  exact dz_coe z d g l

/-- The gain's gradient of the block's rows. -/
theorem pay4 (a b : Vec Ideal S512x1024 .f32) (z d : Fin 512 → Fin 1024 → ℝ) (l : Fin 1024)
    (ha : ∀ r k, a (ix2 r k) = (z r k : EReal)) (hb : ∀ r k, b (ix2 r k) = (d r k : EReal)) :
    k0_pay4 a b (ix2 0 l) = ((∑ r, d r l * (z r l * rs (z r)) : ℝ) : EReal) := by
  unfold_payloads
  pointwise
  simp only [ha, hb, ms_coe, rsqrt_ms]
  simp only [← EReal.coe_mul, Reals.sum_coe]

variable {z d : S2048x1024.Idx → ℝ} {g : S1024.Idx → ℝ}

theorem dz_arr (c : Dev nD) (hz : m ((c : Thread nD τ).loc main_arg0) = fun i => (z i : EReal)) (hd : m ((c : Thread nD τ).loc main_arg1) = fun i => (d i : EReal))
    (hg : m ((c : Thread nD τ).loc main_arg2) = fun i => (g i : EReal)) : (dats m 0 c).arrAt 3 cfg0.N =
      fun i : S2048x1024.Idx => (dz (fun k => z (ix2 (i 0) k)) (fun k => d (ix2 (i 0) k)) (fun k => g (ix1 k)) (i 1) : EReal) := by
  refine Dat.arrAt_eq_of_covers (dats m 0 c) 3 _ (by decide +kernel) fun t hf y => ?_
  have ht : t.val < 4 := lt4 t
  blk_simp
  rw [after0_3]
  idx_vars y
  refine Eq.trans ?_ (congrArg (fun i : S2048x1024.Idx => (dz (fun k => z (ix2 (i 0) k)) (fun k => d (ix2 (i 0) k)) (fun k => g (ix1 k)) (i 1) : EReal)) (emb3 t y0 y1).symm)
  have e : k0_pay3 (iblk m c 0 t) (iblk m c 1 t) (iblk m c 2 t) (ix2 y0 y1) =
      (dz (fun k => z (ix2 (row t y0) k)) (fun k => d (ix2 (row t y0) k)) (fun k => g (ix1 k)) y1 : EReal) :=
    pay3 _ _ _ _ _ _ _ _ (fun k => (blk0 m c t y0 k).trans (congrFun hz _)) (fun k => (blk1 m c t y0 k).trans (congrFun hd _)) (fun k => (blk2 m c t k).trans (congrFun hg _))
  rcases Nat.lt_or_ge 0 t.val with h | h
  · rw [outsAt0_B m c t (by omega) (by omega)]
    frame_out
    exact e
  · rw [outsAt0_A m c t (by omega) (by omega)]
    frame_out
    exact e

/-- The gain's gradient of block `n`'s rows. -/
def term (z d : S2048x1024.Idx → ℝ) (l : Fin 1024) (n : ℕ) : ℝ :=
  if h : n < 4 then ∑ r : Fin 512, d (ix2 ⟨512 * n + r.val, by omega⟩ l) * (z (ix2 ⟨512 * n + r.val, by omega⟩ l) * rs fun k => z (ix2 ⟨512 * n + r.val, by omega⟩ k)) else 0

theorem dg_arr (c : Dev nD) (hz : m ((c : Thread nD τ).loc main_arg0) = fun i => (z i : EReal)) (hd : m ((c : Thread nD τ).loc main_arg1) = fun i => (d i : EReal)) :
    (dats m 0 c).arrAt 4 cfg0.N = fun i : S1x1024.Idx => ((∑ r, d (ix2 r (i 1)) * (z (ix2 r (i 1)) * rs fun k => z (ix2 r k)) : ℝ) : EReal) := by
  have e : ∀ (t : Fin cfg0.N) (l : Fin 1024), k0_pay4 (iblk m c 0 t) (iblk m c 1 t) (ix2 0 l) = (term z d l t.val : EReal) := by
    intro t l
    have ht : t.val < 4 := lt4 t
    refine (pay4 _ _ (fun r k => z (ix2 (row t r) k)) (fun r k => d (ix2 (row t r) k)) l (fun r k => (blk0 m c t r k).trans (congrFun hz _)) (fun r k => (blk1 m c t r k).trans (congrFun hd _))).trans ?_
    rw [term, dif_pos ht]
  refine Dat.arrAt_eq_of_covers (dats m 0 c) 4 _ (by decide +kernel) fun t hf y => ?_
  blk_simp
  rw [after0_4]
  idx_vars y
  obtain rfl : y0 = 0 := Subsingleton.elim _ _
  refine Eq.trans ?_ (congrArg (fun i : S1x1024.Idx => ((∑ r, d (ix2 r (i 1)) * (z (ix2 r (i 1)) * rs fun k => z (ix2 r k)) : ℝ) : EReal)) (emb4 t y1).symm)
  have h3 := (flush0_4 t).mp hf
  have ht : t.val < 4 := lt4 t
  refine (Pipeline.eq_sum_of_reset_step_single (fun n hn => (outsAt0 m c n hn).2 (ix2 0 y1)) 4 (0 : EReal) (fun n => (term z d y1 n : EReal)) ?_ ?_ (by decide) t).trans ?_
  · intro t h
    have ht : t.val < 4 := lt4 t
    rw [outsAt0_A m c t h (by omega), zero_add, ← e]
    frame_out
  · intro t h
    have ht : t.val < 4 := lt4 t
    rw [outsAt0_B m c t h (by omega), ← e]
    frame_out
    unfold_payloads
    pointwise
  · rw [zero_add, show t.val = 3 by omega, Reals.sum_coe, Reals.sum_blocks]
    refine congrArg (fun x : ℝ => (x : EReal)) ?_
    simp only [Finset.sum_range_succ, Finset.sum_range_zero, Fin.sum_univ_four, zero_add]
    rfl

end Cert.NormIdeal.Hand
-- ==== Proof.NormRef.lean ====
/-
  The norm's gradient: what the reference computes.
-/
module

public import proofs.«01_k».proof.Defs
public import proofs.«01_k».proof.Proof.Gen.NormRefIdeal.Read
public import Idealize.ShloMosaic.Lib.Pointwise
public import proofs.«01_k».proof.Proof.NormMath

@[expose] public section

set_option maxRecDepth 16384

noncomputable section

namespace Cert.NormRefIdeal.Hand

open Cert.NormRefIdeal Cert.NormRefIdeal.Gen Cert.NormRefIdeal.Read Cert.NormMath Idealize.ShloMosaic

/-- A real array. -/
abbrev up {s : Shape} (x : s.Idx → ℝ) : s.Idx → EReal := fun i => (x i : EReal)

variable (z d : S2048x1024.Idx → ℝ) (g : S1024.Idx → ℝ) (r : Fin 2048) (l : Fin 1024)

theorem ref_ms : val_main_v6 (F := Ideal) (up z) (ix2 r 0) = (ms fun k => z (ix2 r k) : EReal) := by
  pointwise [val_main_v6, val_main_v5, val_main_v4, val_main_v3, val_main_v2, val_main_v1, val_main_v0, val_main_cst, val_main_cst_0, val_main_cst_1]
  exact ms_coe fun k => z (ix2 r k)

theorem ref_rs : val_main_v7 (F := Ideal) (up z) (ix2 r 0) = (rs fun k => z (ix2 r k) : EReal) := by
  pointwise [val_main_v7, ref_ms]
  exact rsqrt_ms _

theorem ref_dot : val_main_v24 (F := Ideal) (up z) (up d) (up g) (ix2 r 0) = ((∑ k, z (ix2 r k) * (d (ix2 r k) * g (ix1 k)) : ℝ) : EReal) := by
  pointwise [val_main_v24, val_main_v23, val_main_v22, val_main_v20, val_main_v19, val_main_v13, val_main_cst_5]
  simp only [← EReal.coe_mul, Reals.sum_coe]

theorem ref_slope : val_main_v10 (F := Ideal) (up z) (ix2 r 0) = ((-1 / 2 * (rs (fun k => z (ix2 r k)) / ms fun k => z (ix2 r k)) : ℝ) : EReal) := by
  pointwise [val_main_v10, val_main_v9, val_main_v8, val_main_cst_2, ref_ms, ref_rs]
  rw [ofBits_neg_half, Reals.div_coe _ _ (ms_pos _).ne', ← EReal.coe_mul]

theorem ref_mean : val_main_v29 (F := Ideal) (up z) (up d) (up g) (ix2 r 0) = (back (fun k => z (ix2 r k)) (fun k => d (ix2 r k)) (fun k => g (ix1 k)) : EReal) := by
  rw [val_main_v29_apply, val_main_v27_apply, ref_dot, ref_slope, val_main_v28_apply, val_main_cst_6_apply]
  exact back_coe _ _ _

theorem ref_back : val_main_v31 (F := Ideal) (up z) (up d) (up g) (ix2 r l) = (back (fun k => z (ix2 r k)) (fun k => d (ix2 r k)) (fun k => g (ix1 k)) : EReal) := by
  pointwise [val_main_v31, val_main_v30, val_main_cst_7]
  rw [Fin.sum_univ_one]
  exact ref_mean z d g r

/-- The gradient of the normed rows. -/
theorem ref_dz : val_main_v36 (F := Ideal) (up z) (up d) (up g) (ix2 r l) = (dz (fun k => z (ix2 r k)) (fun k => d (ix2 r k)) (fun k => g (ix1 k)) l : EReal) := by
  pointwise [val_main_v36, val_main_v35, val_main_v34, val_main_v33, val_main_v32, val_main_v26, val_main_v25, val_main_v20, val_main_v19, val_main_v13, ref_back, ref_rs]
  simp only [← EReal.coe_mul, ← EReal.coe_add]
  exact congrArg _ (dz_eq (fun k => z (ix2 r k)) (fun k => d (ix2 r k)) (fun k => g (ix1 k)) l)

/-- The gain's gradient. -/
theorem ref_dg : val_main_v37 (F := Ideal) (up z) (up d) (ix2 0 l) = ((∑ r, d (ix2 r l) * (z (ix2 r l) * rs fun k => z (ix2 r k)) : ℝ) : EReal) := by
  pointwise [val_main_v37, val_main_v21, val_main_v18, val_main_v17, val_main_v16, val_main_v12, val_main_v11, val_main_cst_3, val_main_cst_4, ref_rs]
  rw [Fin.sum_univ_one]
  simp only [← EReal.coe_mul, Reals.sum_coe]
  exact congrArg (fun x : ℝ => (x : EReal)) (Finset.sum_congr rfl fun r _ => mul_comm _ _)

end Cert.NormRefIdeal.Hand
-- ==== Proof.NormPair.lean ====
/-
  The norm's gradient: the pair. On real arguments the kernel's two results are the reference's.
-/
module

public import proofs.«01_k».proof.Defs
public import proofs.«01_k».proof.Proof.Gen.NormIdeal.Value
public import proofs.«01_k».proof.Proof.Gen.NormRefIdeal.Run
public import proofs.«01_k».proof.Proof.Gen.NormRefIdeal.Read
public import proofs.«01_k».proof.Proof.Gen.Pre_norm_finite
public import Idealize.ShloMosaic.Lib.Pointwise
public import Idealize.ShloMosaic.Lib.Claim
public import Idealize.ShloMosaic.Lib.Quiescent
public import proofs.«01_k».proof.Proof.NormRef
public import proofs.«01_k».proof.Proof.NormValue

@[expose] public section

set_option maxRecDepth 16384

noncomputable section

namespace Cert.NormIdeal.Hand

open Cert.NormIdeal Cert.NormIdeal.Gen Cert.NormMath Idealize.ShloMosaic Idealize.ShloMosaic.TcCoe Idealize.SL.Sem

/-- The arguments the precondition admits are arrays of reals. -/
theorem args_real (m : (ℓ : Loc nD τ sig) → Buf (Elt Ideal) ℓ) (hpre : Cert.Pre_NormIdeal_norm_finite (hPre_norm_finite := Cert.Pre_norm_finite.Gen.facts) m) (c : Dev nD) :
    ∃ (z d : S2048x1024.Idx → ℝ) (g : S1024.Idx → ℝ), m ((c : Thread nD τ).loc main_arg0) = (fun i => (z i : EReal)) ∧
      m ((c : Thread nD τ).loc main_arg1) = (fun i => (d i : EReal)) ∧ m ((c : Thread nD τ).loc main_arg2) = (fun i => (g i : EReal)) := by
  obtain ⟨h0, h1, h2⟩ := hpre c
  obtain ⟨z, hz⟩ := Reals.array_of_abs_lt fun i => by have := congrFun h0 i; pointwise [Pre_norm_finite.fn] at this; exact this
  obtain ⟨d, hd⟩ := Reals.array_of_abs_lt fun i => by have := congrFun h1 i; pointwise [Pre_norm_finite.fn] at this; exact this
  obtain ⟨g, hg⟩ := Reals.array_of_abs_lt fun i => by have := congrFun h2 i; pointwise [Pre_norm_finite.fn] at this; exact this
  exact ⟨z, d, g, hz, hd, hg⟩

set_option maxHeartbeats 4000000 in
/-- At `Ideal` the kernel's two results are the reference's, for real arguments. -/
theorem algebraic : Cert.algebraic_NormIdeal_NormRefIdeal_pre_norm_finite (hPre_norm_finite := Cert.Pre_norm_finite.Gen.facts) := by
  pair_intro
  · run_from (Cert.NormIdeal.Value.run_blocks m g)
  · run_from (Cert.NormRefIdeal.Value.run m' g')
    · obtain ⟨z, d, w, hz, hd, hw⟩ := args_real m hpre c
      refine Eq.trans ?_ (dz_arr m c hz hd hw).symm
      rw [NormRefIdeal.Read.val_main_v36_eq, hz, hd, hw]
      funext i
      idx_vars i
      exact Cert.NormRefIdeal.Hand.ref_dz ..
    · obtain ⟨z, d, w, hz, hd, hw⟩ := args_real m hpre c
      refine Eq.trans ?_ (dg_arr m c hz hd).symm
      rw [NormRefIdeal.Read.val_main_v37_eq, hz, hd]
      funext i
      idx_vars i
      obtain rfl : i0 = 0 := Subsingleton.elim _ _
      exact Cert.NormRefIdeal.Hand.ref_dg ..

/-- The reference runs to the end, leaves its arguments as they were and every counter at zero. -/
theorem frameRef : Cert.quiescent_NormRefIdeal :=
  fun m g _ => θ_run_mono (Cert.NormRefIdeal.Value.run m g) fun _ h => ⟨fun c => (h c).2.2, sem_eq_zero_of_no_sems (by decide) _⟩

end Cert.NormIdeal.Hand
-- ==== Proof.NormResValue.lean ====
/-
  The norm's gradient: with the residual's cotangent: what the kernel's two arrays hold.
-/
module

public import proofs.«01_k».proof.Defs
public import proofs.«01_k».proof.Proof.Gen.NormResIdeal.Value
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Words
public import proofs.«01_k».proof.Proof.Reals
public import proofs.«01_k».proof.Proof.NormMath

@[expose] public section

set_option maxRecDepth 16384

noncomputable section

namespace Cert.NormResIdeal.Hand

open Cert.NormResIdeal Cert.NormResIdeal.Gen Idealize.ShloMosaic Idealize.ShloMosaic.TcCoe Idealize.SL.Sem Cert.NormMath
open Idealize.ShloMosaic.Pipeline (Dat)

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![0, 0] := by decide +kernel

theorem lt4 (t : Fin cfg0.N) : t.val < 4 := by have := t.isLt; have h : cfg0.N = 4 := N_0; omega

/-- Row `r` of block `t`. -/
abbrev row (t : Fin cfg0.N) (r : Fin 512) : Fin 2048 := ⟨512 * t.val + r.val, by have := t.isLt; have h : cfg0.N = 4 := N_0; omega⟩

theorem blk0 (c : Dev nD) (t : Fin cfg0.N) (r : Fin 512) (l : Fin 1024) :
    iblk m c 0 t (ix2 r l) = m ((c : Thread nD τ).loc main_arg0) (ix2 (row t r) l) := by
  blk_point [iblk, V, idx0 t]
theorem blk1 (c : Dev nD) (t : Fin cfg0.N) (r : Fin 512) (l : Fin 1024) :
    iblk m c 1 t (ix2 r l) = m ((c : Thread nD τ).loc main_arg1) (ix2 (row t r) l) := by
  blk_point [iblk, V, idx1 t]
theorem blk2 (c : Dev nD) (t : Fin cfg0.N) (l : Fin 1024) :
    iblk m c 2 t (ix2 0 l) = m ((c : Thread nD τ).loc main_arg2) (ix1 l) := by
  blk_point [iblk, V, idx2 t]
theorem blk3 (c : Dev nD) (t : Fin cfg0.N) (r : Fin 512) (l : Fin 1024) :
    iblk m c 3 t (ix2 r l) = m ((c : Thread nD τ).loc main_arg3) (ix2 (row t r) l) := by
  blk_point [iblk, V, idx3 t]
theorem emb4 (t : Fin cfg0.N) (r : Fin 512) (l : Fin 1024) : (win0_4.blk t).view.emb (ix2 r l) = ix2 (row t r) l := by
  blk_point [idx4 t]
theorem emb5 (t : Fin cfg0.N) (l : Fin 1024) : (win0_5.blk t).view.emb (ix2 0 l) = ix2 0 l := by
  blk_point [idx5 t]

/-- The rows' gradient at an index of the block, for real rows. -/
theorem pay (a b p : Vec Ideal S512x1024 .f32) (w : Vec Ideal S1x1024 .f32) (z d g : Fin 1024 → ℝ) (e : ℝ) (r : Fin 512) (l : Fin 1024)
    (ha : ∀ k, a (ix2 r k) = (z k : EReal)) (hb : ∀ k, b (ix2 r k) = (d k : EReal)) (hw : ∀ k, w (ix2 0 k) = (g k : EReal)) (hp : p (ix2 r l) = (e : EReal)) :
    k0_pay4 a b w p (ix2 r l) = ((dz z d g l + e : ℝ) : EReal) := by
  unfold_payloads
  pointwise
  simp only [ha, hb, hw, hp, ms_coe, rsqrt_ms]
  rw [dz_coe z d g l, EReal.coe_add]

/-- The gain's gradient of the block's rows. -/
theorem gain (a b : Vec Ideal S512x1024 .f32) (z d : Fin 512 → Fin 1024 → ℝ) (l : Fin 1024)
    (ha : ∀ r k, a (ix2 r k) = (z r k : EReal)) (hb : ∀ r k, b (ix2 r k) = (d r k : EReal)) :
    k0_pay5 a b (ix2 0 l) = ((∑ r, d r l * (z r l * rs (z r)) : ℝ) : EReal) := by
  unfold_payloads
  pointwise
  simp only [ha, hb, ms_coe, rsqrt_ms]
  simp only [← EReal.coe_mul, Reals.sum_coe]

variable {z d e : S2048x1024.Idx → ℝ} {g : S1024.Idx → ℝ}

/-- What the first result holds. -/
def dzG (z d e : S2048x1024.Idx → ℝ) (g : S1024.Idx → ℝ) (r : Fin 2048) (l : Fin 1024) : ℝ :=
  dz (fun k => z (ix2 r k)) (fun k => d (ix2 r k)) (fun k => g (ix1 k)) l + e (ix2 r l)

theorem dz_arr (c : Dev nD) (hz : m ((c : Thread nD τ).loc main_arg0) = fun i => (z i : EReal)) (hd : m ((c : Thread nD τ).loc main_arg1) = fun i => (d i : EReal))
    (hg : m ((c : Thread nD τ).loc main_arg2) = fun i => (g i : EReal)) (he : m ((c : Thread nD τ).loc main_arg3) = fun i => (e i : EReal)) :
    (dats m 0 c).arrAt 4 cfg0.N = fun i : S2048x1024.Idx => (dzG z d e g (i 0) (i 1) : EReal) := by
  refine Dat.arrAt_eq_of_covers (dats m 0 c) 4 _ (by decide +kernel) fun t hf y => ?_
  have ht : t.val < 4 := lt4 t
  blk_simp
  rw [after0_4]
  idx_vars y
  refine Eq.trans ?_ (congrArg (fun i : S2048x1024.Idx => (dzG z d e g (i 0) (i 1) : EReal)) (emb4 t y0 y1).symm)
  have e : k0_pay4 (iblk m c 0 t) (iblk m c 1 t) (iblk m c 2 t) (iblk m c 3 t) (ix2 y0 y1) = (dzG z d e g (row t y0) y1 : EReal) :=
    pay _ _ _ _ _ _ _ _ _ _ (fun k => (blk0 m c t y0 k).trans (congrFun hz _)) (fun k => (blk1 m c t y0 k).trans (congrFun hd _)) (fun k => (blk2 m c t k).trans (congrFun hg _))
      ((blk3 m c t y0 y1).trans (congrFun he _))
  rcases Nat.lt_or_ge 0 t.val with h | h
  · rw [outsAt0_B m c t (by omega) (by omega)]
    frame_out
    exact e
  · rw [outsAt0_A m c t (by omega) (by omega)]
    frame_out
    exact e

/-- The gain's gradient of block `n`'s rows. -/
def term (z d : S2048x1024.Idx → ℝ) (l : Fin 1024) (n : ℕ) : ℝ :=
  if h : n < 4 then ∑ r : Fin 512, d (ix2 ⟨512 * n + r.val, by omega⟩ l) * (z (ix2 ⟨512 * n + r.val, by omega⟩ l) * rs fun k => z (ix2 ⟨512 * n + r.val, by omega⟩ k)) else 0

theorem dg_arr (c : Dev nD) (hz : m ((c : Thread nD τ).loc main_arg0) = fun i => (z i : EReal)) (hd : m ((c : Thread nD τ).loc main_arg1) = fun i => (d i : EReal)) :
    (dats m 0 c).arrAt 5 cfg0.N = fun i : S1x1024.Idx => ((∑ r, d (ix2 r (i 1)) * (z (ix2 r (i 1)) * rs fun k => z (ix2 r k)) : ℝ) : EReal) := by
  have e : ∀ (t : Fin cfg0.N) (l : Fin 1024), k0_pay5 (iblk m c 0 t) (iblk m c 1 t) (ix2 0 l) = (term z d l t.val : EReal) := by
    intro t l
    have ht : t.val < 4 := lt4 t
    refine (gain _ _ (fun r k => z (ix2 (row t r) k)) (fun r k => d (ix2 (row t r) k)) l (fun r k => (blk0 m c t r k).trans (congrFun hz _)) (fun r k => (blk1 m c t r k).trans (congrFun hd _))).trans ?_
    rw [term, dif_pos ht]
  refine Dat.arrAt_eq_of_covers (dats m 0 c) 5 _ (by decide +kernel) fun t hf y => ?_
  blk_simp
  rw [after0_5]
  idx_vars y
  obtain rfl : y0 = 0 := Subsingleton.elim _ _
  refine Eq.trans ?_ (congrArg (fun i : S1x1024.Idx => ((∑ r, d (ix2 r (i 1)) * (z (ix2 r (i 1)) * rs fun k => z (ix2 r k)) : ℝ) : EReal)) (emb5 t y1).symm)
  have h3 := (flush0_5 t).mp hf
  have ht : t.val < 4 := lt4 t
  refine (Pipeline.eq_sum_of_reset_step_single (fun n hn => (outsAt0 m c n hn).2 (ix2 0 y1)) 4 (0 : EReal) (fun n => (term z d y1 n : EReal)) ?_ ?_ (by decide) t).trans ?_
  · intro t h
    have ht : t.val < 4 := lt4 t
    rw [outsAt0_A m c t h (by omega), zero_add, ← e]
    frame_out
  · intro t h
    have ht : t.val < 4 := lt4 t
    rw [outsAt0_B m c t h (by omega), ← e]
    frame_out
    unfold_payloads
    pointwise
  · rw [zero_add, show t.val = 3 by omega, Reals.sum_coe, Reals.sum_blocks]
    refine congrArg (fun x : ℝ => (x : EReal)) ?_
    simp only [Finset.sum_range_succ, Finset.sum_range_zero, Fin.sum_univ_four, zero_add]
    rfl

end Cert.NormResIdeal.Hand
-- ==== Proof.NormResRef.lean ====
/-
  The norm's gradient: with the residual's cotangent: what the reference computes.
-/
module

public import proofs.«01_k».proof.Defs
public import proofs.«01_k».proof.Proof.Gen.NormResRefIdeal.Read
public import Idealize.ShloMosaic.Lib.Pointwise
public import proofs.«01_k».proof.Proof.NormMath

@[expose] public section

set_option maxRecDepth 16384

noncomputable section

namespace Cert.NormResRefIdeal.Hand

open Cert.NormResRefIdeal Cert.NormResRefIdeal.Gen Cert.NormResRefIdeal.Read Cert.NormMath Idealize.ShloMosaic

/-- A real array. -/
abbrev up {s : Shape} (x : s.Idx → ℝ) : s.Idx → EReal := fun i => (x i : EReal)

variable (z d e : S2048x1024.Idx → ℝ) (g : S1024.Idx → ℝ) (r : Fin 2048) (l : Fin 1024)

theorem ref_ms : val_main_v6 (F := Ideal) (up z) (ix2 r 0) = (ms fun k => z (ix2 r k) : EReal) := by
  pointwise [val_main_v6, val_main_v5, val_main_v4, val_main_v3, val_main_v2, val_main_v1, val_main_v0, val_main_cst, val_main_cst_0, val_main_cst_1]
  exact ms_coe fun k => z (ix2 r k)

theorem ref_rs : val_main_v7 (F := Ideal) (up z) (ix2 r 0) = (rs fun k => z (ix2 r k) : EReal) := by
  pointwise [val_main_v7, ref_ms]
  exact rsqrt_ms _

theorem ref_dot : val_main_v24 (F := Ideal) (up z) (up d) (up g) (ix2 r 0) = ((∑ k, z (ix2 r k) * (d (ix2 r k) * g (ix1 k)) : ℝ) : EReal) := by
  pointwise [val_main_v24, val_main_v23, val_main_v22, val_main_v20, val_main_v19, val_main_v13, val_main_cst_5]
  simp only [← EReal.coe_mul, Reals.sum_coe]

theorem ref_slope : val_main_v10 (F := Ideal) (up z) (ix2 r 0) = ((-1 / 2 * (rs (fun k => z (ix2 r k)) / ms fun k => z (ix2 r k)) : ℝ) : EReal) := by
  pointwise [val_main_v10, val_main_v9, val_main_v8, val_main_cst_2, ref_ms, ref_rs]
  rw [ofBits_neg_half, Reals.div_coe _ _ (ms_pos _).ne', ← EReal.coe_mul]

theorem ref_mean : val_main_v30 (F := Ideal) (up z) (up d) (up g) (ix2 r 0) = (back (fun k => z (ix2 r k)) (fun k => d (ix2 r k)) (fun k => g (ix1 k)) : EReal) := by
  rw [val_main_v30_apply, val_main_v28_apply, ref_dot, ref_slope, val_main_v29_apply, val_main_cst_6_apply]
  exact back_coe _ _ _

theorem ref_back : val_main_v32 (F := Ideal) (up z) (up d) (up g) (ix2 r l) = (back (fun k => z (ix2 r k)) (fun k => d (ix2 r k)) (fun k => g (ix1 k)) : EReal) := by
  pointwise [val_main_v32, val_main_v31, val_main_cst_7]
  rw [Fin.sum_univ_one]
  exact ref_mean z d g r

/-- The gradient of the normed rows and the residual. -/
theorem ref_dz : val_main_v36 (F := Ideal) (up z) (up d) (up g) (up e) (ix2 r l) =
    ((dz (fun k => z (ix2 r k)) (fun k => d (ix2 r k)) (fun k => g (ix1 k)) l + e (ix2 r l) : ℝ) : EReal) := by
  pointwise [val_main_v36, val_main_v35, val_main_v34, val_main_v33, val_main_v27, val_main_v26, val_main_v25, val_main_v20, val_main_v19, val_main_v13, ref_back, ref_rs]
  simp only [← EReal.coe_mul, ← EReal.coe_add]
  refine congrArg _ ?_
  rw [← dz_eq (fun k => z (ix2 r k)) (fun k => d (ix2 r k)) (fun k => g (ix1 k)) l]
  ring

/-- The gain's gradient. -/
theorem ref_dg : val_main_v37 (F := Ideal) (up z) (up d) (ix2 0 l) = ((∑ r, d (ix2 r l) * (z (ix2 r l) * rs fun k => z (ix2 r k)) : ℝ) : EReal) := by
  pointwise [val_main_v37, val_main_v21, val_main_v18, val_main_v17, val_main_v16, val_main_v12, val_main_v11, val_main_cst_3, val_main_cst_4, ref_rs]
  rw [Fin.sum_univ_one]
  simp only [← EReal.coe_mul, Reals.sum_coe]
  exact congrArg (fun x : ℝ => (x : EReal)) (Finset.sum_congr rfl fun r _ => mul_comm _ _)

end Cert.NormResRefIdeal.Hand
-- ==== Proof.NormResPair.lean ====
/-
  The norm's gradient with the residual's cotangent: the pair. On real arguments the kernel's two results are the reference's.
-/
module

public import proofs.«01_k».proof.Defs
public import proofs.«01_k».proof.Proof.Gen.NormResIdeal.Value
public import proofs.«01_k».proof.Proof.Gen.NormResRefIdeal.Run
public import proofs.«01_k».proof.Proof.Gen.NormResRefIdeal.Read
public import proofs.«01_k».proof.Proof.Gen.Pre_norm_res_finite
public import Idealize.ShloMosaic.Lib.Pointwise
public import Idealize.ShloMosaic.Lib.Claim
public import Idealize.ShloMosaic.Lib.Quiescent
public import proofs.«01_k».proof.Proof.NormResRef
public import proofs.«01_k».proof.Proof.NormResValue

@[expose] public section

set_option maxRecDepth 16384

noncomputable section

namespace Cert.NormResIdeal.Hand

open Cert.NormResIdeal Cert.NormResIdeal.Gen Cert.NormMath Idealize.ShloMosaic Idealize.ShloMosaic.TcCoe Idealize.SL.Sem

/-- The arguments the precondition admits are arrays of reals. -/
theorem args_real (m : (ℓ : Loc nD τ sig) → Buf (Elt Ideal) ℓ) (hpre : Cert.Pre_NormResIdeal_norm_res_finite (hPre_norm_res_finite := Cert.Pre_norm_res_finite.Gen.facts) m) (c : Dev nD) :
    ∃ (z d : S2048x1024.Idx → ℝ) (g : S1024.Idx → ℝ) (e : S2048x1024.Idx → ℝ), m ((c : Thread nD τ).loc main_arg0) = (fun i => (z i : EReal)) ∧
      m ((c : Thread nD τ).loc main_arg1) = (fun i => (d i : EReal)) ∧ m ((c : Thread nD τ).loc main_arg2) = (fun i => (g i : EReal)) ∧
      m ((c : Thread nD τ).loc main_arg3) = (fun i => (e i : EReal)) := by
  obtain ⟨h0, h1, h2, h3⟩ := hpre c
  obtain ⟨z, hz⟩ := Reals.array_of_abs_lt fun i => by have := congrFun h0 i; pointwise [Pre_norm_res_finite.fn] at this; exact this
  obtain ⟨d, hd⟩ := Reals.array_of_abs_lt fun i => by have := congrFun h1 i; pointwise [Pre_norm_res_finite.fn] at this; exact this
  obtain ⟨g, hg⟩ := Reals.array_of_abs_lt fun i => by have := congrFun h2 i; pointwise [Pre_norm_res_finite.fn] at this; exact this
  obtain ⟨e, he⟩ := Reals.array_of_abs_lt fun i => by have := congrFun h3 i; pointwise [Pre_norm_res_finite.fn] at this; exact this
  exact ⟨z, d, g, e, hz, hd, hg, he⟩

set_option maxHeartbeats 4000000 in
/-- At `Ideal` the kernel's two results are the reference's, for real arguments. -/
theorem algebraic : Cert.algebraic_NormResIdeal_NormResRefIdeal_pre_norm_res_finite (hPre_norm_res_finite := Cert.Pre_norm_res_finite.Gen.facts) := by
  pair_intro
  · run_from (Cert.NormResIdeal.Value.run_blocks m g)
  · run_from (Cert.NormResRefIdeal.Value.run m' g')
    · obtain ⟨z, d, w, e, hz, hd, hw, he⟩ := args_real m hpre c
      refine Eq.trans ?_ (dz_arr m c hz hd hw he).symm
      rw [NormResRefIdeal.Read.val_main_v36_eq, hz, hd, hw, he]
      funext i
      idx_vars i
      exact Cert.NormResRefIdeal.Hand.ref_dz ..
    · obtain ⟨z, d, w, e, hz, hd, hw, he⟩ := args_real m hpre c
      refine Eq.trans ?_ (dg_arr m c hz hd).symm
      rw [NormResRefIdeal.Read.val_main_v37_eq, hz, hd]
      funext i
      idx_vars i
      obtain rfl : i0 = 0 := Subsingleton.elim _ _
      exact Cert.NormResRefIdeal.Hand.ref_dg ..

/-- The reference runs to the end, leaves its arguments as they were and every counter at zero. -/
theorem frameRef : Cert.quiescent_NormResRefIdeal :=
  fun m g _ => θ_run_mono (Cert.NormResRefIdeal.Value.run m g) fun _ h => ⟨fun c => (h c).2.2, sem_eq_zero_of_no_sems (by decide) _⟩

end Cert.NormResIdeal.Hand
-- ==== Proof.NormMemValue.lean ====
/-
  The gradient of the memory's norm: what the kernel's two arrays hold.
-/
module

public import proofs.«01_k».proof.Defs
public import proofs.«01_k».proof.Proof.Gen.NormMemIdeal.Value
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Words
public import proofs.«01_k».proof.Proof.Reals
public import proofs.«01_k».proof.Proof.NormMath

@[expose] public section

set_option maxRecDepth 16384

noncomputable section

namespace Cert.NormMemIdeal.Hand

open Cert.NormMemIdeal Cert.NormMemIdeal.Gen Idealize.ShloMosaic Idealize.ShloMosaic.TcCoe Idealize.SL.Sem Cert.NormMath
open Idealize.ShloMosaic.Pipeline (Dat)

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![0, 0] := by decide +kernel

theorem at0 (t : Fin cfg0.N) : t.val = 0 := by have := t.isLt; have h : cfg0.N = 1 := N_0; omega

theorem blk0 (c : Dev nD) (t : Fin cfg0.N) (r : Fin 256) (l : Fin 1024) :
    iblk m c 0 t (ix2 r l) = m ((c : Thread nD τ).loc main_arg0) (ix2 r l) := by
  blk_point [iblk, V, idx0 t, at0 t]
theorem blk1 (c : Dev nD) (t : Fin cfg0.N) (r : Fin 256) (l : Fin 1024) :
    iblk m c 1 t (ix2 r l) = m ((c : Thread nD τ).loc main_arg1) (ix2 r l) := by
  blk_point [iblk, V, idx1 t, at0 t]
theorem blk2 (c : Dev nD) (t : Fin cfg0.N) (l : Fin 1024) :
    iblk m c 2 t (ix2 0 l) = m ((c : Thread nD τ).loc main_arg2) (ix1 l) := by
  blk_point [iblk, V, idx2 t]
theorem emb3 (t : Fin cfg0.N) (r : Fin 256) (l : Fin 1024) : (win0_3.blk t).view.emb (ix2 r l) = ix2 r l := by
  blk_point [idx3 t, at0 t]
theorem emb4 (t : Fin cfg0.N) (l : Fin 1024) : (win0_4.blk t).view.emb (ix2 0 l) = ix2 0 l := by
  blk_point [idx4 t]

/-- The rows' gradient at an index of the block, for real rows. -/
theorem pay3 (a b : Vec Ideal S256x1024 .f32) (w : Vec Ideal S1x1024 .f32) (z d g : Fin 1024 → ℝ) (r : Fin 256) (l : Fin 1024)
    (ha : ∀ k, a (ix2 r k) = (z k : EReal)) (hb : ∀ k, b (ix2 r k) = (d k : EReal)) (hw : ∀ k, w (ix2 0 k) = (g k : EReal)) :
    k0_pay3 a b w (ix2 r l) = (dz z d g l : EReal) := by
  unfold_payloads
  pointwise
  simp only [ha, hb, hw, ms_coe, rsqrt_ms]
  exact dz_coe z d g l

/-- The gain's gradient of the block's rows. -/
theorem pay4 (a b : Vec Ideal S256x1024 .f32) (z d : Fin 256 → Fin 1024 → ℝ) (l : Fin 1024)
    (ha : ∀ r k, a (ix2 r k) = (z r k : EReal)) (hb : ∀ r k, b (ix2 r k) = (d r k : EReal)) :
    k0_pay4 a b (ix2 0 l) = ((∑ r, d r l * (z r l * rs (z r)) : ℝ) : EReal) := by
  unfold_payloads
  pointwise
  simp only [ha, hb, ms_coe, rsqrt_ms]
  simp only [← EReal.coe_mul, Reals.sum_coe]

variable {z d : S256x1024.Idx → ℝ} {g : S1024.Idx → ℝ}

theorem dz_arr (c : Dev nD) (hz : m ((c : Thread nD τ).loc main_arg0) = fun i => (z i : EReal)) (hd : m ((c : Thread nD τ).loc main_arg1) = fun i => (d i : EReal))
    (hg : m ((c : Thread nD τ).loc main_arg2) = fun i => (g i : EReal)) : (dats m 0 c).arrAt 3 cfg0.N =
      fun i : S256x1024.Idx => (dz (fun k => z (ix2 (i 0) k)) (fun k => d (ix2 (i 0) k)) (fun k => g (ix1 k)) (i 1) : EReal) := by
  refine Dat.arrAt_eq_of_covers (dats m 0 c) 3 _ (by decide +kernel) fun t hf y => ?_
  blk_simp
  rw [after0_3]
  idx_vars y
  refine Eq.trans ?_ (congrArg (fun i : S256x1024.Idx => (dz (fun k => z (ix2 (i 0) k)) (fun k => d (ix2 (i 0) k)) (fun k => g (ix1 k)) (i 1) : EReal)) (emb3 t y0 y1).symm)
  have e : k0_pay3 (iblk m c 0 t) (iblk m c 1 t) (iblk m c 2 t) (ix2 y0 y1) =
      (dz (fun k => z (ix2 (y0) k)) (fun k => d (ix2 (y0) k)) (fun k => g (ix1 k)) y1 : EReal) :=
    pay3 _ _ _ _ _ _ _ _ (fun k => (blk0 m c t y0 k).trans (congrFun hz _)) (fun k => (blk1 m c t y0 k).trans (congrFun hd _)) (fun k => (blk2 m c t k).trans (congrFun hg _))
  simp only [outsAt0]
  frame_out
  exact e

theorem dg_arr (c : Dev nD) (hz : m ((c : Thread nD τ).loc main_arg0) = fun i => (z i : EReal)) (hd : m ((c : Thread nD τ).loc main_arg1) = fun i => (d i : EReal)) :
    (dats m 0 c).arrAt 4 cfg0.N = fun i : S1x1024.Idx => ((∑ r, d (ix2 r (i 1)) * (z (ix2 r (i 1)) * rs fun k => z (ix2 r k)) : ℝ) : EReal) := by
  refine Dat.arrAt_eq_of_covers (dats m 0 c) 4 _ (by decide +kernel) fun t hf y => ?_
  blk_simp
  rw [after0_4]
  idx_vars y
  obtain rfl : y0 = 0 := Subsingleton.elim _ _
  refine Eq.trans ?_ (congrArg (fun i : S1x1024.Idx => ((∑ r, d (ix2 r (i 1)) * (z (ix2 r (i 1)) * rs fun k => z (ix2 r k)) : ℝ) : EReal)) (emb4 t y1).symm)
  simp only [outsAt0]
  frame_out
  exact pay4 _ _ (fun r k => z (ix2 r k)) (fun r k => d (ix2 r k)) y1 (fun r k => (blk0 m c t r k).trans (congrFun hz _)) (fun r k => (blk1 m c t r k).trans (congrFun hd _))

end Cert.NormMemIdeal.Hand
-- ==== Proof.NormMemRef.lean ====
/-
  The gradient of the memory's norm: what the reference computes.
-/
module

public import proofs.«01_k».proof.Defs
public import proofs.«01_k».proof.Proof.Gen.NormMemRefIdeal.Read
public import Idealize.ShloMosaic.Lib.Pointwise
public import proofs.«01_k».proof.Proof.NormMath

@[expose] public section

set_option maxRecDepth 16384

noncomputable section

namespace Cert.NormMemRefIdeal.Hand

open Cert.NormMemRefIdeal Cert.NormMemRefIdeal.Gen Cert.NormMemRefIdeal.Read Cert.NormMath Idealize.ShloMosaic

/-- A real array. -/
abbrev up {s : Shape} (x : s.Idx → ℝ) : s.Idx → EReal := fun i => (x i : EReal)

variable (z d : S256x1024.Idx → ℝ) (g : S1024.Idx → ℝ) (r : Fin 256) (l : Fin 1024)

theorem ref_ms : val_main_v6 (F := Ideal) (up z) (ix2 r 0) = (ms fun k => z (ix2 r k) : EReal) := by
  pointwise [val_main_v6, val_main_v5, val_main_v4, val_main_v3, val_main_v2, val_main_v1, val_main_v0, val_main_cst, val_main_cst_0, val_main_cst_1]
  exact ms_coe fun k => z (ix2 r k)

theorem ref_rs : val_main_v7 (F := Ideal) (up z) (ix2 r 0) = (rs fun k => z (ix2 r k) : EReal) := by
  pointwise [val_main_v7, ref_ms]
  exact rsqrt_ms _

theorem ref_dot : val_main_v24 (F := Ideal) (up z) (up d) (up g) (ix2 r 0) = ((∑ k, z (ix2 r k) * (d (ix2 r k) * g (ix1 k)) : ℝ) : EReal) := by
  pointwise [val_main_v24, val_main_v23, val_main_v22, val_main_v20, val_main_v19, val_main_v13, val_main_cst_5]
  simp only [← EReal.coe_mul, Reals.sum_coe]

theorem ref_slope : val_main_v10 (F := Ideal) (up z) (ix2 r 0) = ((-1 / 2 * (rs (fun k => z (ix2 r k)) / ms fun k => z (ix2 r k)) : ℝ) : EReal) := by
  pointwise [val_main_v10, val_main_v9, val_main_v8, val_main_cst_2, ref_ms, ref_rs]
  rw [ofBits_neg_half, Reals.div_coe _ _ (ms_pos _).ne', ← EReal.coe_mul]

theorem ref_mean : val_main_v29 (F := Ideal) (up z) (up d) (up g) (ix2 r 0) = (back (fun k => z (ix2 r k)) (fun k => d (ix2 r k)) (fun k => g (ix1 k)) : EReal) := by
  rw [val_main_v29_apply, val_main_v27_apply, ref_dot, ref_slope, val_main_v28_apply, val_main_cst_6_apply]
  exact back_coe _ _ _

theorem ref_back : val_main_v31 (F := Ideal) (up z) (up d) (up g) (ix2 r l) = (back (fun k => z (ix2 r k)) (fun k => d (ix2 r k)) (fun k => g (ix1 k)) : EReal) := by
  pointwise [val_main_v31, val_main_v30, val_main_cst_7]
  rw [Fin.sum_univ_one]
  exact ref_mean z d g r

/-- The gradient of the normed rows. -/
theorem ref_dz : val_main_v36 (F := Ideal) (up z) (up d) (up g) (ix2 r l) = (dz (fun k => z (ix2 r k)) (fun k => d (ix2 r k)) (fun k => g (ix1 k)) l : EReal) := by
  pointwise [val_main_v36, val_main_v35, val_main_v34, val_main_v33, val_main_v32, val_main_v26, val_main_v25, val_main_v20, val_main_v19, val_main_v13, ref_back, ref_rs]
  simp only [← EReal.coe_mul, ← EReal.coe_add]
  exact congrArg _ (dz_eq (fun k => z (ix2 r k)) (fun k => d (ix2 r k)) (fun k => g (ix1 k)) l)

/-- The gain's gradient. -/
theorem ref_dg : val_main_v37 (F := Ideal) (up z) (up d) (ix2 0 l) = ((∑ r, d (ix2 r l) * (z (ix2 r l) * rs fun k => z (ix2 r k)) : ℝ) : EReal) := by
  pointwise [val_main_v37, val_main_v21, val_main_v18, val_main_v17, val_main_v16, val_main_v12, val_main_v11, val_main_cst_3, val_main_cst_4, ref_rs]
  rw [Fin.sum_univ_one]
  simp only [← EReal.coe_mul, Reals.sum_coe]
  exact congrArg (fun x : ℝ => (x : EReal)) (Finset.sum_congr rfl fun r _ => mul_comm _ _)

end Cert.NormMemRefIdeal.Hand
-- ==== Proof.NormMemPair.lean ====
/-
  The gradient of the memory's norm: the pair. On real arguments the kernel's two results are the reference's.
-/
module

public import proofs.«01_k».proof.Defs
public import proofs.«01_k».proof.Proof.Gen.NormMemIdeal.Value
public import proofs.«01_k».proof.Proof.Gen.NormMemRefIdeal.Run
public import proofs.«01_k».proof.Proof.Gen.NormMemRefIdeal.Read
public import proofs.«01_k».proof.Proof.Gen.Pre_norm_mem_finite
public import Idealize.ShloMosaic.Lib.Pointwise
public import Idealize.ShloMosaic.Lib.Claim
public import Idealize.ShloMosaic.Lib.Quiescent
public import proofs.«01_k».proof.Proof.NormMemRef
public import proofs.«01_k».proof.Proof.NormMemValue

@[expose] public section

set_option maxRecDepth 16384

noncomputable section

namespace Cert.NormMemIdeal.Hand

open Cert.NormMemIdeal Cert.NormMemIdeal.Gen Cert.NormMath Idealize.ShloMosaic Idealize.ShloMosaic.TcCoe Idealize.SL.Sem

/-- The arguments the precondition admits are arrays of reals. -/
theorem args_real (m : (ℓ : Loc nD τ sig) → Buf (Elt Ideal) ℓ) (hpre : Cert.Pre_NormMemIdeal_norm_mem_finite (hPre_norm_mem_finite := Cert.Pre_norm_mem_finite.Gen.facts) m) (c : Dev nD) :
    ∃ (z d : S256x1024.Idx → ℝ) (g : S1024.Idx → ℝ), m ((c : Thread nD τ).loc main_arg0) = (fun i => (z i : EReal)) ∧
      m ((c : Thread nD τ).loc main_arg1) = (fun i => (d i : EReal)) ∧ m ((c : Thread nD τ).loc main_arg2) = (fun i => (g i : EReal)) := by
  obtain ⟨h0, h1, h2⟩ := hpre c
  obtain ⟨z, hz⟩ := Reals.array_of_abs_lt fun i => by have := congrFun h0 i; pointwise [Pre_norm_mem_finite.fn] at this; exact this
  obtain ⟨d, hd⟩ := Reals.array_of_abs_lt fun i => by have := congrFun h1 i; pointwise [Pre_norm_mem_finite.fn] at this; exact this
  obtain ⟨g, hg⟩ := Reals.array_of_abs_lt fun i => by have := congrFun h2 i; pointwise [Pre_norm_mem_finite.fn] at this; exact this
  exact ⟨z, d, g, hz, hd, hg⟩

set_option maxHeartbeats 4000000 in
/-- At `Ideal` the kernel's two results are the reference's, for real arguments. -/
theorem algebraic : Cert.algebraic_NormMemIdeal_NormMemRefIdeal_pre_norm_mem_finite (hPre_norm_mem_finite := Cert.Pre_norm_mem_finite.Gen.facts) := by
  pair_intro
  · run_from (Cert.NormMemIdeal.Value.run_blocks m g)
  · run_from (Cert.NormMemRefIdeal.Value.run m' g')
    · obtain ⟨z, d, w, hz, hd, hw⟩ := args_real m hpre c
      refine Eq.trans ?_ (dz_arr m c hz hd hw).symm
      rw [NormMemRefIdeal.Read.val_main_v36_eq, hz, hd, hw]
      funext i
      idx_vars i
      exact Cert.NormMemRefIdeal.Hand.ref_dz ..
    · obtain ⟨z, d, w, hz, hd, hw⟩ := args_real m hpre c
      refine Eq.trans ?_ (dg_arr m c hz hd).symm
      rw [NormMemRefIdeal.Read.val_main_v37_eq, hz, hd]
      funext i
      idx_vars i
      obtain rfl : i0 = 0 := Subsingleton.elim _ _
      exact Cert.NormMemRefIdeal.Hand.ref_dg ..

/-- The reference runs to the end, leaves its arguments as they were and every counter at zero. -/
theorem frameRef : Cert.quiescent_NormMemRefIdeal :=
  fun m g _ => θ_run_mono (Cert.NormMemRefIdeal.Value.run m g) fun _ h => ⟨fun c => (h c).2.2, sem_eq_zero_of_no_sems (by decide) _⟩

end Cert.NormMemIdeal.Hand
-- ==== Proof.FfnDaMath.lean ====
/-
  The product fused with SwiGLU's gradient: the two gradients, as functions of the reals.
-/
module

public import proofs.«01_k».proof.Defs
public import Idealize.ShloMosaic.Lib.Pointwise
public import proofs.«01_k».proof.Proof.Reals

@[expose] public section

set_option maxRecDepth 16384

noncomputable section

namespace Cert.FfnDaMath

open Idealize.ShloMosaic

/-- A real array. -/
abbrev up {s : Shape} (x : s.Idx → ℝ) : s.Idx → EReal := fun i => (x i : EReal)

/-- The logistic function. -/
def sg (x : ℝ) : ℝ := 1 / (1 + Real.exp (-x))

theorem logistic_coe (x : ℝ) : Ideal.div 1 (1 + Ideal.exp (-(x : EReal))) = (sg x : EReal) := by
  rw [← EReal.coe_neg, Reals.exp_coe, ← EReal.coe_one, ← EReal.coe_add]
  exact Reals.div_coe _ _ (by positivity)

/-- The gradient of the gate, from the gradient `a` of the product of its two factors … -/
def dgate (a x y : ℝ) : ℝ := a * y * (sg x * (1 + x * (1 - sg x)))

/-- … and of the other factor. -/
def dup (a x : ℝ) : ℝ := a * (x * sg x)

/-- The gradient of the product of the two factors, by the down projection's weight. -/
def da (dy : (Shape.mk 2 ![2048, 1024]).Idx → ℝ) (w : (Shape.mk 2 ![2816, 1024]).Idx → ℝ) (r : Fin 2048) (f : Fin 2816) : ℝ :=
  ∑ x : Fin 1024, dy (ix2 r x) * w (ix2 f x)

/-- Feature `f` of shard `j`. -/
abbrev feat (j : Fin 4) (f : Fin 704) : Fin 2816 := ⟨j.val * 704 + f.val, by omega⟩

/-- The two gradients, shard by shard. -/
def out (dy : (Shape.mk 2 ![2048, 1024]).Idx → ℝ) (w : (Shape.mk 2 ![2816, 1024]).Idx → ℝ) (g u : (Shape.mk 2 ![2048, 2816]).Idx → ℝ)
    (p : Fin 2) (j : Fin 4) (r : Fin 2048) (f : Fin 704) : ℝ :=
  if p = 0 then dgate (da dy w r (feat j f)) (g (ix2 r (feat j f))) (u (ix2 r (feat j f))) else dup (da dy w r (feat j f)) (g (ix2 r (feat j f)))

end Cert.FfnDaMath
-- ==== Proof.FfnDaValue.lean ====
/-
  The product fused with SwiGLU's gradient: what the kernel's array holds.
-/
module

public import proofs.«01_k».proof.Defs
public import proofs.«01_k».proof.Proof.Gen.FfnDaIdeal.Value
public import Idealize.ShloMosaic.Lib.Pipeline.ValueKit
public import Idealize.ShloMosaic.Lib.Pointwise
public import Idealize.ShloMosaic.Lib.StableHlo.ReadAt
public import proofs.«01_k».proof.Proof.FfnDaMath

@[expose] public section

set_option maxRecDepth 16384

noncomputable section

namespace Cert.FfnDaIdeal.Hand

open Cert.FfnDaIdeal Cert.FfnDaIdeal.Gen Cert.FfnDaMath Idealize.ShloMosaic Idealize.ShloMosaic.TcCoe Idealize.SL.Sem
open Idealize.ShloMosaic.Pipeline (Dat)

variable (m : (ℓ : Loc nD τ sig) → Buf (Elt Ideal) ℓ) (ct : Dev nD)

theorem idx0 : ∀ t : Fin grid0.N, win0_0.index t = ![t.val % 2, 0] := by decide +kernel
theorem idx1 : ∀ t : Fin grid0.N, win0_1.index t = ![t.val / 2, 0, 0] := by decide +kernel
theorem idx2 : ∀ t : Fin grid0.N, win0_2.index t = ![0, t.val / 2, t.val % 2, 0] := by decide +kernel
theorem idx3 : ∀ t : Fin grid0.N, win0_3.index t = ![0, t.val / 2, t.val % 2, 0] := by decide +kernel

theorem lt8 (t : Fin cfg0.N) : t.val < 8 := by have := t.isLt; have h : cfg0.N = 8 := N_0; omega

/-- Row `r` of the point's block of rows. -/
abbrev row (t : Fin cfg0.N) (r : Fin 1024) : Fin 2048 := ⟨1024 * (t.val % 2) + r.val, by omega⟩

/-- The point's shard of features. -/
abbrev shard (t : Fin cfg0.N) : Fin 4 := ⟨t.val / 2, by have := lt8 t; omega⟩

theorem emb0 (t : Fin cfg0.N) (r k : Fin 1024) : (win0_0.blk t).view.emb (ix2 r k) = ix2 (row t r) k := by blk_point [idx0 t]
theorem emb1 (t : Fin cfg0.N) (f : Fin 704) (k : Fin 1024) : (win0_1.blk t).view.emb (ix3 0 f k) = ix3 (shard t) f k := by blk_point [idx1 t]
theorem emb2 (t : Fin cfg0.N) (p : Fin 2) (r : Fin 1024) (f : Fin 704) : (win0_2.blk t).view.emb (ix4 p 0 r f) = ix4 p (shard t) (row t r) f := by blk_point [idx2 t]
theorem emb3 (t : Fin cfg0.N) (p : Fin 2) (r : Fin 1024) (f : Fin 704) : (win0_3.blk t).view.emb (ix4 p 0 r f) = ix4 p (shard t) (row t r) f := by blk_point [idx3 t]

/-- The cotangent's rows. -/
theorem host0 (r : Fin 2048) (k : Fin 1024) : V m ct main_v7 (ix2 r k) = m ((ct : Thread nD τ).loc main_arg0) (ix2 r k) := by
  unfold V
  after_reads_at
/-- The shards of the weight. -/
theorem host1 (j : Fin 4) (f : Fin 704) (k : Fin 1024) : V m ct main_v9 (ix3 j f k) = m ((ct : Thread nD τ).loc main_arg1) (ix2 (feat j f) k) := by
  unfold V
  after_reads_at
/-- The shards of the gate … -/
theorem host2 (j : Fin 4) (r : Fin 2048) (f : Fin 704) : V m ct main_v10 (ix4 0 j r f) = m ((ct : Thread nD τ).loc main_arg2) (ix2 r (feat j f)) := by
  unfold V
  after_reads_at
  pointwise
  after_reads_at
/-- … and of the other factor. -/
theorem host3 (j : Fin 4) (r : Fin 2048) (f : Fin 704) : V m ct main_v10 (ix4 1 j r f) = m ((ct : Thread nD τ).loc main_arg3) (ix2 r (feat j f)) := by
  unfold V
  after_reads_at
  pointwise
  after_reads_at

theorem blk0 (t : Fin cfg0.N) (r k : Fin 1024) : iblk m ct 0 t (ix2 r k) = m ((ct : Thread nD τ).loc main_arg0) (ix2 (row t r) k) :=
  (congrArg (V m ct main_v7) (emb0 t r k)).trans (host0 m ct _ _)
theorem blk1 (t : Fin cfg0.N) (f : Fin 704) (k : Fin 1024) : iblk m ct 1 t (ix3 0 f k) = m ((ct : Thread nD τ).loc main_arg1) (ix2 (feat (shard t) f) k) :=
  (congrArg (V m ct main_v9) (emb1 t f k)).trans (host1 m ct _ _ _)
theorem blk2 (t : Fin cfg0.N) (r : Fin 1024) (f : Fin 704) : iblk m ct 2 t (ix4 0 0 r f) = m ((ct : Thread nD τ).loc main_arg2) (ix2 (row t r) (feat (shard t) f)) :=
  (congrArg (V m ct main_v10) (emb2 t 0 r f)).trans (host2 m ct _ _ _)
theorem blk3 (t : Fin cfg0.N) (r : Fin 1024) (f : Fin 704) : iblk m ct 2 t (ix4 1 0 r f) = m ((ct : Thread nD τ).loc main_arg3) (ix2 (row t r) (feat (shard t) f)) :=
  (congrArg (V m ct main_v10) (emb2 t 1 r f)).trans (host3 m ct _ _ _)

theorem ld2 (X : Vec Ideal S2x1x1024x704 .bf16) (r : Fin 1024) (f : Fin 704) : View.ld X r0_2 (ix4 0 0 r f) = X (ix4 0 0 r f) := by
  unfold View.ld r0_2
  pointwise
theorem ld3 (X : Vec Ideal S2x1x1024x704 .bf16) (r : Fin 1024) (f : Fin 704) : View.ld X r0_3 (ix4 0 0 r f) = X (ix4 1 0 r f) := by
  unfold View.ld r0_3
  pointwise

section
variable {a : Vec Ideal S1024x1024 .bf16} {w : Vec Ideal S1x704x1024 .bf16} {g u : Vec Ideal S1x1x1024x704 .bf16} {r : Fin 1024} {f : Fin 704}
  {za zw : Fin 1024 → ℝ} {zg zu : ℝ} (ha : ∀ k, a (ix2 r k) = (za k : EReal)) (hw : ∀ k, w (ix3 0 f k) = (zw k : EReal))
  (hg : g (ix4 0 0 r f) = (zg : EReal)) (hu : u (ix4 0 0 r f) = (zu : EReal))
include ha hw hg

theorem k0_up : k0_pay5 a w g (ix4 0 0 r f) = (dup (∑ k, za k * zw k) zg : EReal) := by
  unfold_payloads
  pointwise
  simp only [ha, hw, hg, Ideal.logistic, logistic_coe, ← EReal.coe_mul, Reals.sum_coe]
  rfl

include hu in
theorem k0_gate : k0_pay4 a w g u (ix4 0 0 r f) = (dgate (∑ k, za k * zw k) zg zu : EReal) := by
  unfold_payloads
  pointwise
  simp only [ha, hw, hg, hu, Ideal.logistic, logistic_coe]
  simp only [← EReal.coe_one, ← EReal.coe_sub, ← EReal.coe_add, ← EReal.coe_mul, Reals.sum_coe]
  rfl
end

variable {dy : S2048x1024.Idx → ℝ} {w : S2816x1024.Idx → ℝ} {g u : S2048x2816.Idx → ℝ}
  (a0 : m ((ct : Thread nD τ).loc main_arg0) = up dy) (a1 : m ((ct : Thread nD τ).loc main_arg1) = up w)
  (a2 : m ((ct : Thread nD τ).loc main_arg2) = up g) (a3 : m ((ct : Thread nD τ).loc main_arg3) = up u)
include a0 a1 a2

theorem pt_up (t : Fin cfg0.N) (r : Fin 1024) (f : Fin 704) :
    k0_pay5 (iblk m ct 0 t) (iblk m ct 1 t) (View.ld (iblk m ct 2 t) r0_2) (ix4 0 0 r f) = (out dy w g u 1 (shard t) (row t r) f : EReal) :=
  k0_up (fun k => (blk0 m ct t r k).trans (by rw [a0])) (fun k => (blk1 m ct t f k).trans (by rw [a1])) ((ld2 _ r f).trans ((blk2 m ct t r f).trans (by rw [a2])))

include a3 in
theorem pt_gate (t : Fin cfg0.N) (r : Fin 1024) (f : Fin 704) :
    k0_pay4 (iblk m ct 0 t) (iblk m ct 1 t) (View.ld (iblk m ct 2 t) r0_2) (View.ld (iblk m ct 2 t) r0_3) (ix4 0 0 r f) = (out dy w g u 0 (shard t) (row t r) f : EReal) :=
  k0_gate (fun k => (blk0 m ct t r k).trans (by rw [a0])) (fun k => (blk1 m ct t f k).trans (by rw [a1])) ((ld2 _ r f).trans ((blk2 m ct t r f).trans (by rw [a2])))
    ((ld3 _ r f).trans ((blk3 m ct t r f).trans (by rw [a3])))

/-- The kernel's array: the two gradients, shard by shard. -/
theorem arr (a3 : m ((ct : Thread nD τ).loc main_arg3) = up u) :
    (dats m 0 ct).arrAt 3 cfg0.N = fun i : S2x4x2048x704.Idx => (out dy w g u (i 0) (i 1) (i 2) (i 3) : EReal) := by
  refine Dat.arrAt_eq_of_covers (dats m 0 ct) 3 _ (by decide +kernel) fun t hf y => ?_
  blk_simp
  rw [after0_3]
  have e (p : Fin 2) (r : Fin 1024) (f : Fin 704) (hy : y = ix4 p 0 r f) : ((out dy w g u p (shard t) (row t r) f : ℝ) : EReal) =
      (fun i : S2x4x2048x704.Idx => (out dy w g u (i 0) (i 1) (i 2) (i 3) : EReal)) ((win0_3.blk t).view.emb y) := by
    rw [hy, emb3]
    rfl
  frame_out
  canon_tiles y h
  · idx_vars y
    obtain rfl : y0 = 0 := Subsingleton.elim _ _
    obtain rfl : y1 = 0 := Subsingleton.elim _ _
    refine (pt_up m ct a0 a1 a2 t y2 y3).trans (e 1 y2 y3 ?_)
    funext a
    exact Fin.ext (match a with
      | 0 => by simpa using h0
      | 1 => by simpa using h1
      | 2 => h2
      | 3 => h3)
  · idx_vars y
    obtain rfl : y0 = 0 := Subsingleton.elim _ _
    obtain rfl : y1 = 0 := Subsingleton.elim _ _
    refine (pt_gate m ct a0 a1 a2 a3 t y2 y3).trans (e 0 y2 y3 ?_)
    funext a
    exact Fin.ext (match a with
      | 0 => by simpa using h0
      | 1 => by simpa using h1
      | 2 => h2
      | 3 => h3)

end Cert.FfnDaIdeal.Hand
-- ==== Proof.FfnDaRef.lean ====
/-
  The product fused with SwiGLU's gradient: what the reference computes.
-/
module

public import proofs.«01_k».proof.Defs
public import proofs.«01_k».proof.Proof.Gen.FfnDaRefIdeal.Read
public import Idealize.ShloMosaic.Lib.Pointwise
public import proofs.«01_k».proof.Proof.FfnDaMath

@[expose] public section

set_option maxRecDepth 16384

noncomputable section

namespace Cert.FfnDaRefIdeal.Hand

open Cert.FfnDaRefIdeal Cert.FfnDaRefIdeal.Gen Cert.FfnDaRefIdeal.Read Cert.FfnDaMath Idealize.ShloMosaic

variable (dy : S2048x1024.Idx → ℝ) (w : S2816x1024.Idx → ℝ) (g u : S2048x2816.Idx → ℝ) (r : Fin 2048) (f : Fin 2816)

theorem ref_sg : val_main_v0_2 (F := Ideal) (up g) (ix2 r f) = sg (g (ix2 r f)) := by
  pointwise [val_main_v0_2, val_main_call0_v4, val_main_call0_cst_0, val_main_call0_v3, val_main_call0_v2, val_main_call0_cst, val_main_call0_v1, val_main_call0_v0]
  exact logistic_coe _

theorem ref_da : val_main_v3 (F := Ideal) (up dy) (up w) (ix2 r f) = da dy w r f := by
  pointwise [val_main_v3]
  simp only [← EReal.coe_mul, Reals.sum_coe]
  rfl

theorem ref_gate : val_main_v6 (F := Ideal) (up dy) (up w) (up g) (up u) (ix2 r f) = dgate (da dy w r f) (g (ix2 r f)) (u (ix2 r f)) := by
  pointwise [val_main_v6, val_main_call1_v2, val_main_call1_v1, val_main_call1_v0, val_main_v5, val_main_v0_1, val_main_call0_v7, val_main_call0_v6, val_main_call0_cst_1]
  rw [ref_sg, ref_da]
  simp only [← EReal.coe_one, ← EReal.coe_mul, ← EReal.coe_sub, ← EReal.coe_add]
  refine congrArg _ ?_
  unfold dgate
  ring

theorem ref_up : val_main_v4 (F := Ideal) (up dy) (up w) (up g) (ix2 r f) = dup (da dy w r f) (g (ix2 r f)) := by
  pointwise [val_main_v4, val_main_v0_0]
  rw [ref_sg, ref_da]
  simp only [← EReal.coe_mul]
  refine congrArg _ ?_
  unfold dup
  ring

/-- The two gradients stacked. -/
theorem ref_stack (p : Fin 2) : val_main_v9 (F := Ideal) (up dy) (up w) (up g) (up u) (ix3 p r f) =
    if p = 0 then val_main_v6 (F := Ideal) (up dy) (up w) (up g) (up u) (ix2 r f) else val_main_v4 (F := Ideal) (up dy) (up w) (up g) (ix2 r f) := by
  fin_cases p
  · pointwise [val_main_v9, val_main_v7]

  · pointwise [val_main_v9, val_main_v8]

theorem ref_o (p : Fin 2) (j : Fin 4) (f : Fin 704) : val_main_v12 (F := Ideal) (up dy) (up w) (up g) (up u) (ix4 p j r f) = out dy w g u p j r f := by
  rw [val_main_v12_apply, val_main_v11_apply, val_main_v10_apply]
  have e : idx_main_v11 (idx_main_v12 (ix4 p j r f)) = ix3 p r (feat j f) := by
    funext a
    exact Fin.ext (match a with
      | 0 => by simp [idx_main_v11, idx_main_v12]; omega
      | 1 => by simp [idx_main_v11, idx_main_v12]; omega
      | 2 => by simp [idx_main_v11, idx_main_v12]; omega)
  rw [e]
  refine (ref_stack dy w g u r (feat j f) p).trans ?_
  unfold out
  split
  · exact ref_gate ..
  · exact ref_up ..

end Cert.FfnDaRefIdeal.Hand
-- ==== Proof.FfnDaPair.lean ====
/-
  The product fused with SwiGLU's gradient: the pair. On real arguments the kernel's result is the reference's.
-/
module

public import proofs.«01_k».proof.Defs
public import proofs.«01_k».proof.Proof.Gen.FfnDaIdeal.Value
public import proofs.«01_k».proof.Proof.Gen.FfnDaRefIdeal.Run
public import proofs.«01_k».proof.Proof.Gen.FfnDaRefIdeal.Read
public import proofs.«01_k».proof.Proof.Gen.Pre_ffn_da_finite
public import Idealize.ShloMosaic.Lib.Pointwise
public import Idealize.ShloMosaic.Lib.Claim
public import Idealize.ShloMosaic.Lib.Quiescent
public import proofs.«01_k».proof.Proof.FfnDaRef
public import proofs.«01_k».proof.Proof.FfnDaValue

@[expose] public section

set_option maxRecDepth 16384

noncomputable section

namespace Cert.FfnDaIdeal.Hand

open Cert.FfnDaIdeal Cert.FfnDaIdeal.Gen Cert.FfnDaMath Idealize.ShloMosaic Idealize.ShloMosaic.TcCoe Idealize.SL.Sem

/-- The arguments the precondition admits are arrays of reals. -/
theorem args_real (m : (ℓ : Loc nD τ sig) → Buf (Elt Ideal) ℓ) (hpre : Cert.Pre_FfnDaIdeal_ffn_da_finite (hPre_ffn_da_finite := Cert.Pre_ffn_da_finite.Gen.facts) m) (c : Dev nD) :
    ∃ (dy : S2048x1024.Idx → ℝ) (w : S2816x1024.Idx → ℝ) (g u : S2048x2816.Idx → ℝ), m ((c : Thread nD τ).loc main_arg0) = up dy ∧
      m ((c : Thread nD τ).loc main_arg1) = up w ∧ m ((c : Thread nD τ).loc main_arg2) = up g ∧ m ((c : Thread nD τ).loc main_arg3) = up u := by
  obtain ⟨h0, h1, h2, h3⟩ := hpre c
  obtain ⟨dy, hy⟩ := Reals.array_of_abs_lt fun i => by have := congrFun h0 i; pointwise [Pre_ffn_da_finite.fn] at this; exact this
  obtain ⟨w, hw⟩ := Reals.array_of_abs_lt fun i => by have := congrFun h1 i; pointwise [Pre_ffn_da_finite.fn] at this; exact this
  obtain ⟨g, hg⟩ := Reals.array_of_abs_lt fun i => by have := congrFun h2 i; pointwise [Pre_ffn_da_finite.fn] at this; exact this
  obtain ⟨u, hu⟩ := Reals.array_of_abs_lt fun i => by have := congrFun h3 i; pointwise [Pre_ffn_da_finite.fn] at this; exact this
  exact ⟨dy, w, g, u, hy, hw, hg, hu⟩

set_option maxHeartbeats 4000000 in
/-- At `Ideal` the kernel's result is the reference's, for real arguments. -/
theorem algebraic : Cert.algebraic_FfnDaIdeal_FfnDaRefIdeal_pre_ffn_da_finite (hPre_ffn_da_finite := Cert.Pre_ffn_da_finite.Gen.facts) := by
  pair_intro
  · run_from (Cert.FfnDaIdeal.Value.run_blocks m g)
  · run_from (Cert.FfnDaRefIdeal.Value.run m' g')
    obtain ⟨dy, w, y, u, hy, hw, hg, hu⟩ := args_real m hpre c
    refine Eq.trans ?_ (arr m c hy hw hg hu).symm
    rw [FfnDaRefIdeal.Read.val_main_v12_eq, hy, hw, hg, (hagree c).2.2.2, hu]
    funext i
    idx_vars i
    exact Cert.FfnDaRefIdeal.Hand.ref_o ..

/-- The reference runs to the end, leaves its arguments as they were and every counter at zero. -/
theorem frameRef : Cert.quiescent_FfnDaRefIdeal :=
  fun m g _ => θ_run_mono (Cert.FfnDaRefIdeal.Value.run m g) fun _ h => ⟨fun c => (h c).2, sem_eq_zero_of_no_sems (by decide) _⟩

end Cert.FfnDaIdeal.Hand
-- ==== Proof.DlogfMath.lean ====
/-
  Sums to the right, by doubling steps inside a chunk and chunk by chunk, and the slope of the logarithm of the logistic function.
-/
module

public import proofs.«01_k».proof.Defs
public import Idealize.ShloMosaic.Lib.Pointwise
public import proofs.«01_k».proof.Proof.Reals

@[expose] public section

set_option maxRecDepth 16384

noncomputable section

namespace Cert.DlogfMath

open Idealize.ShloMosaic

section
variable {M : Type*} [AddCommMonoid M]

/-- The sum of the `m` entries from `n` on. -/
def box (m : ℕ) (Z : ℕ → M) (n : ℕ) : M := ∑ j ∈ Finset.range m, Z (n + j)

theorem box_one (Z : ℕ → M) (n : ℕ) : box 1 Z n = Z n := by simp [box]

/-- Two neighbouring sums make one. -/
theorem box_add (a b : ℕ) (Z : ℕ → M) (n : ℕ) : box (a + b) Z n = box a Z n + box b Z (n + a) := by
  unfold box
  rw [Finset.sum_range_add]
  exact congrArg _ (Finset.sum_congr rfl fun j _ => by rw [Nat.add_assoc])

/-- Past the end every sum is zero. -/
theorem box_zero {N : ℕ} {Z : ℕ → M} (hZ : ∀ n, N ≤ n → Z n = 0) (m n : ℕ) (hn : N ≤ n) : box m Z n = 0 :=
  Finset.sum_eq_zero fun j _ => hZ _ (by omega)

/-- The sum of all entries from `n` on, of which there are 2048 at most. -/
def tail (Z : ℕ → M) (n : ℕ) : M := box 2048 Z n

theorem tail_split {Z : ℕ → M} (hZ : ∀ n, 2048 ≤ n → Z n = 0) (m n : ℕ) : tail Z n = box m Z n + tail Z (n + m) := by
  have h := box_add 2048 m Z n
  rw [Nat.add_comm 2048 m, box_add m 2048 Z n, box_zero hZ m (n + 2048) (by omega), add_zero] at h
  exact h.symm

/-- A chunk of 128 entries, zero past its end. -/
def cut (Z : ℕ → M) (o n : ℕ) : M := if n < 128 then Z (o + n) else 0

theorem cut_zero (Z : ℕ → M) (o n : ℕ) (h : 128 ≤ n) : cut Z o n = 0 := if_neg (by omega)

/-- The chunk's own sum and the sum of what follows. -/
theorem chunk_tail {Z : ℕ → M} (hZ : ∀ n, 2048 ≤ n → Z n = 0) (o l : ℕ) (hl : l < 128) :
    box 128 (cut Z o) l + tail Z (o + 128) = tail Z (o + l) := by
  have e : (128 : ℕ) = (128 - l) + l := by omega
  have h : box 128 (cut Z o) l = box (128 - l) Z (o + l) := by
    conv_lhs => rw [e]
    rw [box_add, box_zero (cut_zero Z o) l _ (by omega), add_zero]
    refine Finset.sum_congr rfl fun j hj => ?_
    have := Finset.mem_range.mp hj
    rw [cut, if_pos (by omega), Nat.add_assoc]
  rw [h, tail_split hZ (128 - l) (o + l), show o + l + (128 - l) = o + 128 by omega]

/-- The whole chunk's sum. -/
theorem sum_chunk {Z : ℕ → M} (hZ : ∀ n, 2048 ≤ n → Z n = 0) (o : ℕ) : tail Z (o + 128) + ∑ l : Fin 128, Z (o + l.val) = tail Z o := by
  rw [tail_split hZ 128 o, add_comm, box, Finset.sum_range]
end

/-- The softplus function. -/
def softplus (x : EReal) : EReal := max x 0 + Ideal.log1p (Ideal.exp (-(max x (-x))))

theorem softplus_coe (x : ℝ) : softplus (x : EReal) = (Real.log (1 + Real.exp x) : EReal) := by
  have h : max (x : EReal) (-(x : EReal)) = ((max x (-x) : ℝ) : EReal) := by rw [← EReal.coe_neg, ← EReal.coe_strictMono.monotone.map_max]
  have h0 : max (x : EReal) 0 = ((max x 0 : ℝ) : EReal) := by rw [← EReal.coe_zero, ← EReal.coe_strictMono.monotone.map_max]
  unfold softplus Ideal.log1p
  rw [h, h0, ← EReal.coe_neg, Reals.exp_coe, ← EReal.coe_one, ← EReal.coe_add, Reals.log_coe _ (by positivity), ← EReal.coe_add]
  refine congrArg _ ?_
  rcases le_total 0 x with hx | hx
  · rw [max_eq_left hx, max_eq_left (by linarith)]
    have e : 1 + Real.exp x = Real.exp x * (1 + Real.exp (-x)) := by rw [mul_add, ← Real.exp_add]; simp [add_comm]
    rw [e, Real.log_mul (Real.exp_pos x).ne' (by positivity), Real.log_exp]
  · rw [max_eq_right hx, max_eq_right (by linarith), neg_neg, zero_add]

theorem log_one : Ideal.log 1 = 0 := by rw [← EReal.coe_one, Reals.log_coe _ one_pos, Real.log_one, EReal.coe_zero]

theorem exp_zero : Ideal.exp 0 = 1 := by rw [← EReal.coe_zero, Reals.exp_coe, Real.exp_zero, EReal.coe_one]

/-- The logistic function's value, by the guarded exponential of the argument less its softplus. -/
theorem logistic_eq (x : EReal) : Ideal.exp ((if x = ⊤ then 0 else x) - if softplus x = ⊤ then 0 else softplus x) = Ideal.logistic x := by
  induction x using EReal.rec with
  | bot =>
    have h : softplus ⊥ = 0 := by simp [softplus, Ideal.log1p, log_one]
    rw [h]
    simp
  | top =>
    have h : softplus ⊤ = ⊤ := by simp [softplus, Ideal.log1p, log_one]
    rw [h]
    simp [exp_zero]
  | coe r =>
    rw [softplus_coe, if_neg (EReal.coe_ne_top _), if_neg (EReal.coe_ne_top _), ← EReal.coe_sub, Reals.exp_coe]
    unfold Ideal.logistic
    rw [← EReal.coe_neg, Reals.exp_coe, ← EReal.coe_one, ← EReal.coe_add, Reals.div_coe _ _ (by positivity)]
    refine congrArg _ ?_
    rw [Real.exp_sub, Real.exp_log (by positivity), Real.exp_neg]
    have := Real.exp_pos r
    field_simp
    exact add_comm _ _

/-- A row of the difference of two arrays, zero past its end. -/
def diff (q d : (Shape.mk 2 ![8, 2048]).Idx → EReal) (h : Fin 8) (n : ℕ) : EReal := if hn : n < 2048 then q (ix2 h ⟨n, hn⟩) - d (ix2 h ⟨n, hn⟩) else 0

theorem diff_zero (q d : (Shape.mk 2 ![8, 2048]).Idx → EReal) (h : Fin 8) (n : ℕ) (hn : 2048 ≤ n) : diff q d h n = 0 := dif_neg (by omega)

end Cert.DlogfMath
-- ==== Proof.DlogfChunk.lean ====
/-
  The forget gate's gradient: one chunk of the kernel's sum to the right, as the kernel's operations and as a sum.
-/
module

public import proofs.«01_k».proof.Defs
public import proofs.«01_k».proof.Proof.Gen.DlogfIdeal.Value
public import Idealize.ShloMosaic.Lib.Pipeline.ValueKit
public import Idealize.ShloMosaic.Lib.Pointwise
public import Idealize.ShloMosaic.Lib.KernelVsHost
public import proofs.«01_k».proof.Proof.DlogfMath
public import proofs.«01_k».proof.Proof.Words

@[expose] public section

set_option maxRecDepth 16384

noncomputable section

namespace Cert.DlogfIdeal.Hand

open Cert.DlogfIdeal Cert.DlogfIdeal.Gen Cert.DlogfMath Idealize.ShloMosaic Idealize.ShloMosaic.TcCoe Idealize.SL.Sem

/-- One doubling step: each lane takes up what lies `128 - s` lanes to its right. -/
def step (s : BitVec 32) (v : FVec Ideal S8x128 .f32) : FVec Ideal S8x128 .f32 :=
  addf v (select (cmpi .slt (iota .tc S8x128 32 [1] iota_S8x128_d1_w32) (broadcast S8x128 s)) (dynamicRotate 1 s none v rotates_S8x128_d1) (broadcast S8x128 (Scalar.ofBits .f32 0x00000000#32)))

/-- The seven steps. -/
def scan (v : FVec Ideal S8x128 .f32) : FVec Ideal S8x128 .f32 := step 64#32 (step 96#32 (step 112#32 (step 120#32 (step 124#32 (step 126#32 (step 127#32 v))))))

/-- A running sum with a chunk's row sums added. -/
def acc (c : FVec Ideal S8x1 .f32) (v : FVec Ideal S8x128 .f32) : FVec Ideal S8x1 .f32 :=
  addf c (shapeCast S8x1 (multiReduction .add [1] S8 v 0x00000000#32 reduces_S8x128_S8 (.inl rfl) rfl) shapeCasts_S8_S8x1)

/-- The gate's slope. -/
def gate (f b : Vec Ideal S8x128 .f32) : FVec Ideal S8x128 .f32 :=
  logistic (subf (broadcast S8x128 (Scalar.ofBits .f32 0x00000000#32)) (addf (shapeCast S8x128 f shapeCasts_S8x128_S8x128) (shapeCast S8x128 b shapeCasts_S8x128_S8x128)))

/-- A chunk of the result. -/
def chunk (c : FVec Ideal S8x1 .f32) (v : FVec Ideal S8x128 .f32) (f b : Vec Ideal S8x128 .f32) : FVec Ideal S8x128 .f32 :=
  mulf (addf (scan v) (broadcastTo S8x128 c broadcasts_S8x1_S8x128)) (gate f b)

/-- `v` holds the sums of `m` neighbouring entries of a chunk. -/
def Holds (v : FVec Ideal S8x128 .f32) (Z : Fin 8 → ℕ → EReal) (o m : ℕ) : Prop := ∀ (h : Fin 8) (l : Fin 128), v (ix2 h l) = box m (cut (Z h) o) l.val

theorem step_holds {v : FVec Ideal S8x128 .f32} {Z : Fin 8 → ℕ → EReal} {o m : ℕ} (hv : Holds v Z o m) (s : ℕ) (hm : 0 < m) (hs : s + m = 128) :
    Holds (step (BitVec.ofNat 32 s) v) Z o (m + m) := by
  intro h l
  have e : (BitVec.ofNat 32 s).toNat = s := by rw [BitVec.toNat_ofNat]; exact Nat.mod_eq_of_lt (by omega)
  have key : step (BitVec.ofNat 32 s) v (ix2 h l) = v (ix2 h l) + if l.val < s then dynamicRotate 1 (BitVec.ofNat 32 s) none v rotates_S8x128_d1 (ix2 h l) else 0 := by
    unfold step
    generalize dynamicRotate 1 (BitVec.ofNat 32 s) none v rotates_S8x128_d1 = y
    pointwise
    rw [Words.sel_slt _ _ (by omega) (by omega)]
  rw [key, hv h l, box_add]
  refine congrArg _ ?_
  split
  · rw [dynamicRotate_apply 1 _ v _ (ix2 h l) (ix2 h ⟨l.val + m, by omega⟩) (fun b => match b with
      | 0 => rfl
      | 1 => by simp [e]; omega), hv]
  · exact (box_zero (cut_zero (Z h) o) m _ (by omega)).symm

/-- The seven steps sum the chunk to the right. -/
theorem scan_holds {v : FVec Ideal S8x128 .f32} {Z : Fin 8 → ℕ → EReal} {o : ℕ} (hv : Holds v Z o 1) : Holds (scan v) Z o 128 :=
  step_holds (m := 64) (step_holds (m := 32) (step_holds (m := 16) (step_holds (m := 8) (step_holds (m := 4) (step_holds (m := 2) (step_holds (m := 1) hv
    127 (by omega) rfl) 126 (by omega) rfl) 124 (by omega) rfl) 120 (by omega) rfl) 112 (by omega) rfl) 96 (by omega) rfl) 64 (by omega) rfl

variable {Z : Fin 8 → ℕ → EReal} (hZ : ∀ h n, 2048 ≤ n → Z h n = 0)
include hZ

/-- The running sum after a chunk. -/
theorem acc_tail {c : FVec Ideal S8x1 .f32} {v : FVec Ideal S8x128 .f32} {o : ℕ} (hc : ∀ h, c (ix2 h 0) = tail (Z h) (o + 128))
    (hv : ∀ (h : Fin 8) (l : Fin 128), v (ix2 h l) = Z h (o + l.val)) (h : Fin 8) : acc c v (ix2 h 0) = tail (Z h) o := by
  unfold acc
  pointwise
  rw [hc]
  simp only [hv]
  exact sum_chunk (hZ h) o

/-- A chunk of the result: the sum of all entries from there on, times the gate's slope. -/
theorem chunk_tail' {c : FVec Ideal S8x1 .f32} {v : FVec Ideal S8x128 .f32} {f b : Vec Ideal S8x128 .f32} {o : ℕ} (hc : ∀ h, c (ix2 h 0) = tail (Z h) (o + 128))
    (hv : ∀ (h : Fin 8) (l : Fin 128), v (ix2 h l) = Z h (o + l.val)) (h : Fin 8) (l : Fin 128) :
    chunk c v f b (ix2 h l) = tail (Z h) (o + l.val) * Ideal.logistic (-(f (ix2 h l) + b (ix2 h l))) := by
  have hs : scan v (ix2 h l) = box 128 (cut (Z h) o) l.val :=
    scan_holds (fun h l => by rw [hv, box_one, cut, if_pos l.isLt]) h l
  unfold chunk gate
  generalize scan v = y at hs ⊢
  pointwise
  rw [hs, hc, chunk_tail (hZ h) o l.val l.isLt]
  simp

end Cert.DlogfIdeal.Hand
-- ==== Proof.DlogfValue.lean ====
/-
  The forget gate's gradient: what the kernel's two arrays hold.
-/
module

public import proofs.«01_k».proof.Proof.DlogfChunk
public import Idealize.ShloMosaic.Lib.StableHlo.ReadAt

@[expose] public section

set_option maxRecDepth 16384

noncomputable section

namespace Cert.DlogfIdeal.Hand

open Cert.DlogfIdeal Cert.DlogfIdeal.Gen Cert.DlogfMath Idealize.ShloMosaic Idealize.ShloMosaic.TcCoe Idealize.SL.Sem
open Idealize.ShloMosaic.Pipeline (Dat)

/-- The lanes of a chunk. -/
abbrev rct (c : Fin 16) : Rect S8x2048 := Rect.unit (s := S8x2048) ![0, 128 * c.val] S8x128.size (by
  intro a
  match a with
  | 0 => exact Nat.le_refl 8
  | 1 => show 128 * c.val + 128 ≤ 2048; omega)

/-- The chunk the kernel takes up after `n` others: the last one first. -/
abbrev nth (n : ℕ) : Fin 16 := Fin.ofNat 16 (15 - n)

variable (q d f : Vec Ideal S8x2048 .f32) (b : Vec Ideal S8x128 .f32)

/-- A chunk of the cotangent. -/
def dc (n : ℕ) : FVec Ideal S8x128 .f32 := subf (View.ld q (rct (nth n))) (View.ld d (rct (nth n)))

/-- What the kernel carries from the chunks done. -/
def carry : ℕ → FVec Ideal S8x1 .f32
  | 0 => broadcast S8x1 (Scalar.ofBits .f32 0x00000000#32)
  | n + 1 => acc (carry n) (dc q d n)

/-- The chunk's result. -/
def res (n : ℕ) : FVec Ideal S8x128 .f32 := chunk (carry q d n) (dc q d n) (View.ld f (rct (nth n))) (View.ld b r0_1)

/-- The sum of the results of the chunks done. -/
def total : ℕ → FVec Ideal S8x1 .f32
  | 0 => broadcast S8x1 (Scalar.ofBits .f32 0x00000000#32)
  | n + 1 => acc (total n) (res q d f b n)

/-- The stores of the chunks done, the last one first. -/
def stores : ℕ → List (View.Piece (Elt Ideal) S8x2048 .f32)
  | 0 => []
  | n + 1 => ⟨rct (nth n), res q d f b n⟩ :: stores n

/-- The first result's buffer, by its stores. -/
theorem out4_eq : out0_4 q d f b = View.canon (stores q d f b 16) := rfl

/-- The second result's buffer. -/
theorem out5_eq : out0_5 q d f b = View.canon [⟨r0_1, broadcastTo S8x128 (shapeCast S8x1 (total q d f b 16) shapeCasts_S8x1_S8x1) broadcasts_S8x1_S8x128⟩] := rfl

theorem ld_rct (x : Vec Ideal S8x2048 .f32) (c : Fin 16) (h : Fin 8) (l : Fin 128) : View.ld x (rct c) (ix2 h l) = x (ix2 h ⟨128 * c.val + l.val, by omega⟩) :=
  congrArg x (funext fun a => Fin.ext (match a with
    | 0 => by simp [rct, LoadRect.idx_apply, Rect.unit]
    | 1 => by simp [rct, LoadRect.idx_apply, Rect.unit]))

theorem ld_all (h : Fin 8) (l : Fin 128) : View.ld b r0_1 (ix2 h l) = b (ix2 h l) :=
  congrArg b (funext fun a => Fin.ext (match a with
    | 0 => by simp [LoadRect.idx_apply, Rect.unit]
    | 1 => by simp [LoadRect.idx_apply, Rect.unit]))

theorem nth_val (n : ℕ) (hn : n < 16) : 128 * (nth n).val + 128 = 2048 - 128 * n := by
  have : (nth n).val = (15 - n) % 16 := rfl
  omega

theorem dc_eq (n : ℕ) (h : Fin 8) (l : Fin 128) : dc q d n (ix2 h l) = diff q d h (128 * (nth n).val + l.val) := by
  unfold dc diff
  rw [dif_pos (by omega)]
  exact congrArg₂ (fun a b : EReal => a - b) (ld_rct ..) (ld_rct ..)

theorem carry_eq : ∀ n ≤ 16, ∀ h, carry q d n (ix2 h 0) = tail (diff q d h) (2048 - 128 * n)
  | 0, _, h => by
    unfold carry
    pointwise
    exact (box_zero (diff_zero q d h) _ _ (by omega)).symm
  | n + 1, hn, h => by
    have e := nth_val n (by omega)
    rw [carry, show 2048 - 128 * (n + 1) = 128 * (nth n).val by omega]
    exact acc_tail (diff_zero q d) (fun h => by rw [carry_eq n (by omega) h, e]) (dc_eq q d n) h

variable {b} {g : Fin 8 → EReal} (hb : ∀ h l, b (ix2 h l) = g h)

/-- A row of the first result, zero past its end. -/
def grad (q d f : Vec Ideal S8x2048 .f32) (g : Fin 8 → EReal) (h : Fin 8) (n : ℕ) : EReal :=
  if hn : n < 2048 then tail (diff q d h) n * Ideal.logistic (-(f (ix2 h ⟨n, hn⟩) + g h)) else 0

theorem grad_zero (h : Fin 8) (n : ℕ) (hn : 2048 ≤ n) : grad q d f g h n = 0 := dif_neg (by omega)

include hb in
theorem res_eq (n : ℕ) (hn : n < 16) (h : Fin 8) (l : Fin 128) : res q d f b n (ix2 h l) = grad q d f g h (128 * (nth n).val + l.val) := by
  have e := nth_val n hn
  unfold res grad
  rw [chunk_tail' (diff_zero q d) (o := 128 * (nth n).val) (fun h => by rw [carry_eq q d n (by omega) h, e]) (dc_eq q d n) h l, dif_pos (by omega)]
  rw [ld_rct, ld_all, hb]

include hb in
theorem total_eq : ∀ n ≤ 16, ∀ h, total q d f b n (ix2 h 0) = tail (grad q d f g h) (2048 - 128 * n)
  | 0, _, h => by
    unfold total
    pointwise
    exact (box_zero (grad_zero q d f h) _ _ (by omega)).symm
  | n + 1, hn, h => by
    have e := nth_val n (by omega)
    rw [total, show 2048 - 128 * (n + 1) = 128 * (nth n).val by omega]
    exact acc_tail (grad_zero q d f) (fun h => by rw [total_eq n (by omega) h, e]) (res_eq q d f hb n (by omega)) h

include hb in
/-- The chunks done, each at its lanes. -/
theorem stores_eq : ∀ n ≤ 16, ∀ (h : Fin 8) (y : Fin 2048), 2048 - 128 * n ≤ y.val → View.canon (stores q d f b n) (ix2 h y) = grad q d f g h y.val
  | 0, _, h, y, hy => by omega
  | n + 1, hn, h, y, hy => by
    have e := nth_val n (by omega)
    rw [stores]
    by_cases hy' : 2048 - 128 * n ≤ y.val
    · rw [View.canon_cons_of_not_mem _ _ (fun hm => ?_)]
      · exact stores_eq n (by omega) h y hy'
      · obtain ⟨j, hj, hj'⟩ := ((rct (nth n)).mem_set.mp hm) 1
        have h1 : j < 128 := hj
        have h2 : y.val = 128 * (nth n).val + 1 * j := hj'
        omega
    · have e' : ix2 h y = (rct (nth n)).emb (ix2 h ⟨y.val - 128 * (nth n).val, by omega⟩ : S8x128.Idx) :=
        funext fun a => Fin.ext (match a with
          | 0 => by simp [rct, Rect.emb, LoadRect.idx_apply, Rect.unit]
          | 1 => by simp [rct, Rect.emb, LoadRect.idx_apply, Rect.unit]; omega)
      rw [e', View.canon_cons_emb]
      refine (res_eq q d f hb n (by omega) h _).trans ?_
      rw [show 128 * (nth n).val + (y.val - 128 * (nth n).val) = y.val by omega]

section
variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel

theorem emb0 (t : Fin cfg0.N) (h : Fin 8) (l : Fin 2048) : (win0_0.blk t).view.emb (ix2 h l) = ix2 h l := by blk_point [idx0 t]
theorem emb1 (t : Fin cfg0.N) (h : Fin 8) (l : Fin 2048) : (win0_1.blk t).view.emb (ix2 h l) = ix2 h l := by blk_point [idx1 t]
theorem emb2 (t : Fin cfg0.N) (h : Fin 8) (l : Fin 2048) : (win0_2.blk t).view.emb (ix2 h l) = ix2 h l := by blk_point [idx2 t]
theorem emb3 (t : Fin cfg0.N) (h : Fin 8) (l : Fin 128) : (win0_3.blk t).view.emb (ix2 h l) = ix2 h l := by blk_point [idx3 t]
theorem emb4 (t : Fin cfg0.N) (h : Fin 8) (l : Fin 2048) : (win0_4.blk t).view.emb (ix2 h l) = ix2 h l := by blk_point [idx4 t]
theorem emb5 (t : Fin cfg0.N) (h : Fin 8) (l : Fin 128) : (win0_5.blk t).view.emb (ix2 h l) = ix2 h l := by blk_point [idx5 t]

theorem host0 (i) : V m c main_arg2 i = m ((c : Thread nD τ).loc main_arg2) i := by
  unfold V
  after_reads_at
theorem host1 (i) : V m c main_arg3 i = m ((c : Thread nD τ).loc main_arg3) i := by
  unfold V
  after_reads_at
theorem host2 (h : Fin 8) (l : Fin 2048) : V m c main_v2 (ix2 h l) = m ((c : Thread nD τ).loc main_arg0) (ix2 l h) := by
  unfold V
  after_reads_at
theorem host3 (h : Fin 8) (l : Fin 128) : V m c main_v1 (ix2 h l) = m ((c : Thread nD τ).loc main_arg1) (ix1 h) := by
  unfold V
  after_reads_at

theorem blk0 (t : Fin cfg0.N) : iblk m c 0 t = m ((c : Thread nD τ).loc main_arg2) := by
  funext i
  idx_vars i
  exact (congrArg (V m c main_arg2) (emb0 t _ _)).trans (host0 m c _)
theorem blk1 (t : Fin cfg0.N) : iblk m c 1 t = m ((c : Thread nD τ).loc main_arg3) := by
  funext i
  idx_vars i
  exact (congrArg (V m c main_arg3) (emb1 t _ _)).trans (host1 m c _)
theorem blk2 (t : Fin cfg0.N) (h : Fin 8) (l : Fin 2048) : iblk m c 2 t (ix2 h l) = m ((c : Thread nD τ).loc main_arg0) (ix2 l h) :=
  (congrArg (V m c main_v2) (emb2 t h l)).trans (host2 m c h l)
theorem blk3 (t : Fin cfg0.N) (h : Fin 8) (l : Fin 128) : iblk m c 3 t (ix2 h l) = m ((c : Thread nD τ).loc main_arg1) (ix1 h) :=
  (congrArg (V m c main_v1) (emb3 t h l)).trans (host3 m c h l)

/-- An entry of the first result. -/
def value (f : Vec Ideal S2048x8 .f32) (b : Vec Ideal S8 .f32) (q d : Vec Ideal S8x2048 .f32) (h : Fin 8) (r : Fin 2048) : EReal :=
  tail (diff q d h) r.val * Ideal.logistic (-((f (ix2 r h) : EReal) + b (ix1 h)))

/-- An entry of the first result, by the program's arguments. -/
def entry (h : Fin 8) (r : Fin 2048) : EReal :=
  value (m ((c : Thread nD τ).loc main_arg0)) (m ((c : Thread nD τ).loc main_arg1)) (m ((c : Thread nD τ).loc main_arg2)) (m ((c : Thread nD τ).loc main_arg3)) h r

/-- Row sums of the first result. -/
def rowSum (h : Fin 8) : EReal := ∑ r : Fin 2048, entry m c h r

theorem grad_entry (t : Fin cfg0.N) (h : Fin 8) (r : Fin 2048) :
    grad (iblk m c 0 t) (iblk m c 1 t) (iblk m c 2 t) (fun h => m ((c : Thread nD τ).loc main_arg1) (ix1 h)) h r.val = entry m c h r := by
  unfold grad entry value
  rw [dif_pos r.isLt, blk0, blk1, blk2]

theorem tail_rowSum (t : Fin cfg0.N) (h : Fin 8) :
    tail (grad (iblk m c 0 t) (iblk m c 1 t) (iblk m c 2 t) (fun h => m ((c : Thread nD τ).loc main_arg1) (ix1 h)) h) (2048 - 128 * 16) = rowSum m c h := by
  unfold tail box rowSum
  rw [Finset.sum_range]
  refine Finset.sum_congr rfl fun r _ => ?_
  rw [show 2048 - 128 * 16 + r.val = r.val by omega]
  exact grad_entry m c t h r

/-- The first array. -/
theorem arr4 : (dats m 0 c).arrAt 4 cfg0.N = fun i : S8x2048.Idx => entry m c (i 0) (i 1) := by
  refine Dat.arrAt_eq_of_covers (dats m 0 c) 4 _ (by decide +kernel) fun t hf y => ?_
  blk_simp
  rw [after0_4]
  idx_vars y
  refine Eq.trans ?_ (congrArg (fun i : S8x2048.Idx => entry m c (i 0) (i 1)) (emb4 t y0 y1)).symm
  rw [out4_eq]
  exact (stores_eq _ _ _ (blk3 m c t) 16 (le_refl _) y0 y1 (by omega)).trans (grad_entry m c t y0 y1)

/-- The second array: the row sums. -/
theorem arr5 : (dats m 0 c).arrAt 5 cfg0.N = fun i : S8x128.Idx => rowSum m c (i 0) := by
  refine Dat.arrAt_eq_of_covers (dats m 0 c) 5 _ (by decide +kernel) fun t hf y => ?_
  blk_simp
  rw [after0_5]
  idx_vars y
  refine Eq.trans ?_ (congrArg (fun i : S8x128.Idx => rowSum m c (i 0)) (emb5 t y0 y1)).symm
  rw [out5_eq]
  have e : ix2 y0 y1 = r0_1.emb (ix2 y0 y1 : S8x128.Idx) := funext fun a => Fin.ext (match a with
    | 0 => by simp [Rect.emb, LoadRect.idx_apply, Rect.unit]
    | 1 => by simp [Rect.emb, LoadRect.idx_apply, Rect.unit])
  rw [e, View.canon_cons_emb]
  have h := total_eq (iblk m c 0 t) (iblk m c 1 t) (iblk m c 2 t) (blk3 m c t) 16 (le_refl _) y0
  generalize total (iblk m c 0 t) (iblk m c 1 t) (iblk m c 2 t) (iblk m c 3 t) 16 = z at h ⊢
  pointwise
  rw [h]
  exact (tail_rowSum m c t y0).trans (congrArg (rowSum m c) (congrFun e 0))
end

end Cert.DlogfIdeal.Hand
-- ==== Proof.DlogfRef.lean ====
/-
  The forget gate's gradient: what the reference computes.
-/
module

public import proofs.«01_k».proof.Defs
public import proofs.«01_k».proof.Proof.Gen.DlogfRefIdeal.Read
public import Idealize.ShloMosaic.Lib.Pointwise
public import proofs.«01_k».proof.Proof.DlogfMath

@[expose] public section

set_option maxRecDepth 16384

noncomputable section

namespace Cert.DlogfRefIdeal.Hand

open Cert.DlogfRefIdeal Cert.DlogfRefIdeal.Gen Cert.DlogfRefIdeal.Read Cert.DlogfMath Idealize.ShloMosaic

variable (f : S2048x8.Idx → EReal) (b : S8.Idx → EReal) (q d : S8x2048.Idx → EReal)

theorem ref_sp (r : Fin 2048) (h : Fin 8) : val_main_call0_v1_0 (F := Ideal) f b (ix2 r h) = softplus (-(f (ix2 r h) + b (ix1 h))) := by
  pointwise [val_main_call0_v1_0, val_main_call0_call0_v4, val_main_call0_call0_v6, val_main_call0_call0_v5, val_main_call0_call0_v11, val_main_call0_call0_v10, val_main_call0_call0_v9, val_main_call0_call0_v8, val_main_call0_call0_v7, val_main_call0_call0_v3, val_main_call0_call0_v2, val_main_call0_call0_v1, val_main_call0_call0_v0, val_main_call0_call0_cst, val_main_call0_v0, val_main_v2, val_main_v1, val_main_v0]
  rw [if_neg (fun h => h rfl)]
  rfl

/-- The slope of the logarithm of the logistic function. -/
theorem ref_sg (r : Fin 2048) (h : Fin 8) : val_main_v3_1 (F := Ideal) f b (ix2 r h) = Ideal.logistic (-(f (ix2 r h) + b (ix1 h))) := by
  pointwise [val_main_v3_1, val_main_call0_call0_v21, val_main_call0_call0_v20, val_main_call0_call0_cst_3, val_main_call0_call0_v19, val_main_call0_call0_v18, val_main_call0_call0_v17, val_main_call0_call0_cst_2, val_main_call0_call0_v16, val_main_call0_call0_v15, val_main_call0_call0_cst_1, val_main_call0_call0_v14, val_main_call0_call0_v13, val_main_call0_call0_cst_0, val_main_call0_v0, val_main_v2, val_main_v1, val_main_v0]
  rw [ref_sp, Reals.ofBits_top]
  exact logistic_eq _

/-- A column, zero past its end. -/
def column (x : S2048x8.Idx → EReal) (h : Fin 8) (n : ℕ) : EReal := if hn : n < 2048 then x (ix2 ⟨n, hn⟩ h) else 0

/-- A window sum from the left end with zeros past the right. -/
theorem window (x : S2048x8.Idx → EReal) (r : Fin 2048) (h : Fin 8) :
    Host.reduceWindow (u := ⟨0, ![]⟩) (fun a b : EReal => a + b) ![2048, 1] ![1, 1] ![0, 0] ![2047, 0] x (fun _ => (0 : EReal)) reduceWindows_S2048x8_S2048x8_w2048s1p0_2047_w1s1p0_0 (by decide) (ix2 r h)
      = tail (column x h) r.val := by
  have fold (n : ℕ) (g : Fin n → EReal) : (List.finRange n).foldl (fun a k => a + g k) 0 = ∑ k, g k := by
    rw [Fin.sum_univ_def, List.sum_eq_foldl, List.foldl_map]
  unfold Host.reduceWindow
  dsimp only
  rw [fold]
  rw [Fintype.sum_equiv (Shape.rowMajor ⟨2, ![2048, 1]⟩).symm _ (fun w : (⟨2, ![2048, 1]⟩ : Shape).Idx => column x h (r.val + (w 0).val)) ?_]
  · rw [sum_idx2]
    simp only [Fin.sum_univ_one]
    unfold tail box
    exact (Finset.sum_range fun j => column x h (r.val + j)).symm
  · intro k
    have hk : ((Shape.rowMajor ⟨2, ![2048, 1]⟩).symm k 1).val = 0 := by have := ((Shape.rowMajor ⟨2, ![2048, 1]⟩).symm k 1).isLt; simp at this; exact this
    unfold column
    refine dite_congr (propext ⟨fun hin => ?_, fun hn a => ?_⟩) (fun hn => ?_) (fun _ => rfl)
    · simpa using (hin 0).2
    · match a with
      | 0 => simpa using hn
      | 1 => simp [hk]
    · refine congrArg x (funext fun a => Fin.ext (match a with
        | 0 => by simp
        | 1 => by simp [hk]))

/-- The cotangent of the sums. -/
theorem ref_9 (r : Fin 2048) (h : Fin 8) : val_main_v9 (F := Ideal) q d (ix2 r h) = q (ix2 h r) - d (ix2 h r) := by
  pointwise [val_main_v9, val_main_v8, val_main_v7]
  rfl

theorem ref_S (r : Fin 2048) (h : Fin 8) : val_main_v10 (F := Ideal) q d (ix2 r h) = tail (diff q d h) r.val := by
  have e : column (val_main_v9 (F := Ideal) q d) h = diff q d h := by
    funext n
    unfold column diff
    split
    · exact ref_9 ..
    · rfl
  rw [← e, ← window]
  have z : val_main_call2_call0_v0 (F := Ideal) (Shape.Idx.first h_S_) = 0 := by pointwise [val_main_call2_call0_v0, val_main_call2_call0_cst]
  unfold val_main_v10 Host.reduceWindowAdd
  rw [z, Ideal.hostReduceWindowAdd_def]
  unfold Ideal.hostReduceWindowAdd
  rfl

theorem ref_11 (r : Fin 2048) (h : Fin 8) : val_main_v11 (F := Ideal) f b q d (ix2 r h) = tail (diff q d h) r.val * Ideal.logistic (-(f (ix2 r h) + b (ix1 h))) := by
  pointwise [val_main_v11, val_main_call3_v1, val_main_call3_v0]
  rw [ref_S, ref_sg, EReal.neg_mul, neg_neg]

theorem ref_df (r : Fin 2048) (h : Fin 8) : val_main_v15 (F := Ideal) f b q d (ix2 h r) = tail (diff q d h) r.val * Ideal.logistic (-(f (ix2 r h) + b (ix1 h))) := by
  pointwise [val_main_v15]
  exact ref_11 ..

theorem ref_db (h : Fin 8) (l : Fin 128) :
    val_main_v17 (F := Ideal) f b q d (ix2 h l) = ∑ r : Fin 2048, tail (diff q d h) r.val * Ideal.logistic (-(f (ix2 r h) + b (ix1 h))) := by
  pointwise [val_main_v17, val_main_v16, val_main_v14, val_main_v13, val_main_v12, val_main_cst, val_main_cst_0]
  rw [Fin.sum_univ_one]
  exact Finset.sum_congr rfl fun r _ => ref_11 ..

end Cert.DlogfRefIdeal.Hand
-- ==== Proof.DlogfPair.lean ====
/-
  The forget gate's gradient: the pair. The kernel's two results are the reference's, whatever the arguments.
-/
module

public import proofs.«01_k».proof.Defs
public import proofs.«01_k».proof.Proof.Gen.DlogfIdeal.Value
public import proofs.«01_k».proof.Proof.Gen.DlogfRefIdeal.Run
public import proofs.«01_k».proof.Proof.Gen.DlogfRefIdeal.Read
public import Idealize.ShloMosaic.Lib.Pointwise
public import Idealize.ShloMosaic.Lib.Claim
public import Idealize.ShloMosaic.Lib.Quiescent
public import proofs.«01_k».proof.Proof.DlogfRef
public import proofs.«01_k».proof.Proof.DlogfValue

@[expose] public section

set_option maxRecDepth 16384

noncomputable section

namespace Cert.DlogfIdeal.Hand

open Cert.DlogfIdeal Cert.DlogfIdeal.Gen Cert.DlogfMath Idealize.ShloMosaic Idealize.ShloMosaic.TcCoe Idealize.SL.Sem

set_option maxHeartbeats 4000000 in
/-- At `Ideal` the kernel's two results are the reference's. -/
theorem algebraic : Cert.algebraic_DlogfIdeal_DlogfRefIdeal := by
  pair_intro
  · run_from (Cert.DlogfIdeal.Value.run_blocks m g)
  · refine θ_run_mono (Cert.DlogfRefIdeal.Value.run m' g') fun r hr c => ?_
    obtain ⟨h0, h1, h2, h3⟩ := hagree c
    refine ⟨(hr c).1.trans (Eq.trans ?_ (arr4 m c).symm), (hr c).2.1.trans (Eq.trans ?_ (arr5 m c).symm), (hr c).2.2⟩
    · rw [DlogfRefIdeal.Read.val_main_v15_eq, h0, h1, h2, h3]
      funext i
      idx_vars i
      exact Cert.DlogfRefIdeal.Hand.ref_df ..
    · rw [DlogfRefIdeal.Read.val_main_v17_eq, h0, h1, h2, h3]
      funext i
      idx_vars i
      exact Cert.DlogfRefIdeal.Hand.ref_db ..

/-- The reference runs to the end, leaves its arguments as they were and every counter at zero. -/
theorem frameRef : Cert.quiescent_DlogfRefIdeal :=
  fun m g _ => θ_run_mono (Cert.DlogfRefIdeal.Value.run m g) fun _ h => ⟨fun c => (h c).2.2, sem_eq_zero_of_no_sems (by decide) _⟩

end Cert.DlogfIdeal.Hand
-- ==== Proof.XattnFwdValue.lean ====
/-
  The cross attention's forward call at `Ideal`: what each of the two result arrays holds after the run, index by index.
-/
module

public import proofs.«01_k».proof.Defs
public import proofs.«01_k».proof.Proof.Gen.XattnFwdIdeal.Value
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Soft

@[expose] public section

set_option maxRecDepth 16384

noncomputable section

namespace Cert.XattnFwdIdeal.Hand

open Cert.XattnFwdIdeal Cert.XattnFwdIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![t.val, 0, 0] := by decide +kernel
theorem idx3 : ∀ t : Fin grid0.N, win0_3.index t = ![4 + t.val, 0, 0] := by decide +kernel
theorem idx4 : ∀ t : Fin grid0.N, win0_4.index t = ![0, t.val] := by decide +kernel
theorem idx5 : ∀ t : Fin grid0.N, win0_5.index t = ![0, t.val] := by decide +kernel

theorem lt4 (t : Fin cfg0.N) : t.val < 4 := by have := t.isLt; have h : cfg0.N = 4 := N_0; omega

/-- Column `l` of head `h`. -/
abbrev lane (h : Fin 4) (l : Fin 256) : Fin 1024 := ⟨256 * h.val + l.val, by omega⟩

/-- The head a grid point works on. -/
abbrev hd (t : Fin cfg0.N) : Fin 4 := ⟨t.val, lt4 t⟩

variable (c : Dev nD)

theorem blk0 (t : Fin cfg0.N) (r : Fin 2048) (l : Fin 1024) : iblk m c 0 t (ix2 r l) = m ((c : Thread nD τ).loc main_arg0) (ix2 r l) := by
  blk_point [iblk, V, idx0 t]
theorem blk1 (t : Fin cfg0.N) (r : Fin 1024) (l : Fin 256) : iblk m c 1 t (ix2 r l) = m ((c : Thread nD τ).loc main_arg1) (ix2 r (lane (hd t) l)) := by
  blk_point [iblk, V, idx1 t]
/-- The first four heads of the joined operand are the keys' … -/
theorem keys (h : Fin 4) (r l : Fin 256) : V m c main_v7 (ix3 ⟨h.val, by omega⟩ r l) = m ((c : Thread nD τ).loc main_arg2) (ix2 r (lane h l)) := by
  unfold V
  after_results_simp
  clean_types
  pointwise
  after_results_simp
  clean_types
  pointwise
  blk_point
/-- … and the last four the values'. -/
theorem vals (h : Fin 4) (r l : Fin 256) : V m c main_v7 (ix3 ⟨4 + h.val, by omega⟩ r l) = m ((c : Thread nD τ).loc main_arg3) (ix2 r (lane h l)) := by
  unfold V
  after_results_simp
  clean_types
  pointwise
  after_results_simp
  clean_types
  pointwise
  blk_point
theorem blk2 (t : Fin cfg0.N) (r l : Fin 256) : iblk m c 2 t (ix3 0 r l) = m ((c : Thread nD τ).loc main_arg2) (ix2 r (lane (hd t) l)) := by
  refine Eq.trans ?_ (keys m c (hd t) r l)
  blk_point [iblk, idx2 t]
theorem blk3 (t : Fin cfg0.N) (r l : Fin 256) : iblk m c 3 t (ix3 0 r l) = m ((c : Thread nD τ).loc main_arg3) (ix2 r (lane (hd t) l)) := by
  refine Eq.trans ?_ (vals m c (hd t) r l)
  blk_point [iblk, idx3 t]
theorem emb4 (t : Fin cfg0.N) (r : Fin 2048) (l : Fin 256) : ((View.whole main_v8_0).slice (win0_4.rect t)).emb (ix2 r l) = ix2 r (lane (hd t) l) := by
  blk_point [idx4 t]
theorem emb5 (t : Fin cfg0.N) (r : Fin 2048) (l : Fin 256) : ((View.whole main_v8_1).slice (win0_5.rect t)).emb (ix2 r l) = ix2 r (lane (hd t) l) := by
  blk_point [idx5 t]

/-- The head a column belongs to, and its place there. -/
abbrev headOf (y : Fin 1024) : Fin 4 := ⟨y.val / 256, by omega⟩
abbrev laneOf (y : Fin 1024) : Fin 256 := ⟨y.val % 256, by omega⟩
theorem headOf_lane (h : Fin 4) (l : Fin 256) : headOf (lane h l) = h := Fin.ext (by change (256 * h.val + l.val) / 256 = h.val; omega)
theorem laneOf_lane (h : Fin 4) (l : Fin 256) : laneOf (lane h l) = l := Fin.ext (by change (256 * h.val + l.val) % 256 = l.val; omega)

/-- The queries: the rows against the weight's columns. -/
def query (x : S2048x1024.Idx → EReal) (w : S1024x1024.Idx → EReal) (r : Fin 2048) (y : Fin 1024) : EReal :=
  ∑ l : Fin 1024, x (ix2 r l) * w (ix2 l y)

/-- The scaled logit of query row `r` and memory row `j` in head `h`. -/
def logit (x : S2048x1024.Idx → EReal) (w : S1024x1024.Idx → EReal) (k : S256x1024.Idx → EReal) (h : Fin 4) (r : Fin 2048) (j : Fin 256) : EReal :=
  (∑ l : Fin 256, query x w r (lane h l) * k (ix2 j (lane h l))) * Ideal.ofBits FTy.f32 1031798784#32

/-- The attention's output: the values weighed by the row's softmax. -/
def mixed (x : S2048x1024.Idx → EReal) (w : S1024x1024.Idx → EReal) (k v : S256x1024.Idx → EReal) (h : Fin 4) (r : Fin 2048) (l : Fin 256) : EReal :=
  ∑ j : Fin 256, Soft.p (logit x w k h r) j * v (ix2 j (lane h l))

section
variable (A : S2048x1024.Idx → EReal) (B : S1024x256.Idx → EReal) (K W : S1x256x256.Idx → EReal)
  (x : S2048x1024.Idx → EReal) (w : S1024x1024.Idx → EReal) (k v : S256x1024.Idx → EReal) (h : Fin 4)

/-- The queries of one head's tile. -/
def tileQ (r : Fin 2048) (l : Fin 256) : EReal := ∑ y : Fin 1024, A (ix2 r y) * B (ix2 y l)

/-- The logits of one head's tile. -/
def tileLogit (r : Fin 2048) (j : Fin 256) : EReal := (∑ l : Fin 256, tileQ A B r l * K (ix3 0 j l)) * Ideal.ofBits FTy.f32 1031798784#32

/-- The outputs of one head's tile. -/
def tileO (r : Fin 2048) (l : Fin 256) : EReal := ∑ j : Fin 256, Soft.p (tileLogit A B K r) j * W (ix3 0 j l)

variable (hA : ∀ r l, A (ix2 r l) = x (ix2 r l)) (hB : ∀ r l, B (ix2 r l) = w (ix2 r (lane h l)))
include hA hB

theorem tileQ_eq (r : Fin 2048) (l : Fin 256) : tileQ A B r l = query x w r (lane h l) := by
  simp only [tileQ, query, hA, hB]

variable (hK : ∀ r l, K (ix3 0 r l) = k (ix2 r (lane h l))) (hW : ∀ r l, W (ix3 0 r l) = v (ix2 r (lane h l)))
include hK hW

theorem tileO_eq (r : Fin 2048) (l : Fin 256) : tileO A B K W r l = mixed x w k v h r l := by
  have e : tileLogit A B K r = logit x w k h r := funext fun j => by
    simp only [tileLogit, logit, hK, tileQ_eq A B x w h hA hB]
  simp only [tileO, mixed, e, hW]
end

theorem q_arr : (dats m 0 c).arrAt 4 cfg0.N = fun i : S2048x1024.Idx =>
    query (m ((c : Thread nD τ).loc main_arg0)) (m ((c : Thread nD τ).loc main_arg1)) (i 0) (i 1) := by
  refine Dat.arrAt_eq_of_covers (dats m 0 c) 4 _ (by decide +kernel) fun t hf y => ?_
  blk_simp
  rw [after0_4]
  unfold out0_4
  frame_out
  idx_vars y
  unfold_payloads
  rw [emb4]
  refine Eq.trans ?_ (tileQ_eq (iblk m c 0 t) (iblk m c 1 t) _ _ (hd t) (blk0 m c t) (blk1 m c t) y0 y1)
  pointwise [tileQ]

theorem o_arr : (dats m 0 c).arrAt 5 cfg0.N = fun i : S2048x1024.Idx =>
    mixed (m ((c : Thread nD τ).loc main_arg0)) (m ((c : Thread nD τ).loc main_arg1)) (m ((c : Thread nD τ).loc main_arg2)) (m ((c : Thread nD τ).loc main_arg3))
      (headOf (i 1)) (i 0) (laneOf (i 1)) := by
  refine Dat.arrAt_eq_of_covers (dats m 0 c) 5 _ (by decide +kernel) fun t hf y => ?_
  blk_simp
  rw [after0_5]
  unfold out0_5
  frame_out
  idx_vars y
  unfold_payloads
  rw [emb5]
  have eh : headOf (ix2 y0 (lane (hd t) y1) 1) = hd t := headOf_lane _ _
  have el : laneOf (ix2 y0 (lane (hd t) y1) 1) = y1 := laneOf_lane _ _
  simp only [eh, el]
  refine Eq.trans ?_ (tileO_eq (iblk m c 0 t) (iblk m c 1 t) (iblk m c 2 t) (iblk m c 3 t) _ _ _ _ (hd t) (blk0 m c t) (blk1 m c t) (blk2 m c t) (blk3 m c t) y0 y1)
  pointwise [tileO, tileLogit, tileQ, Soft.p, Soft.e]

end Cert.XattnFwdIdeal.Hand
-- ==== Proof.XattnFwdPair.lean ====
/-
  The cross attention's forward call: the pair. The kernel's two results are the reference's, whatever the arguments.
-/
module

public import proofs.«01_k».proof.Proof.XattnFwdValue
public import proofs.«01_k».proof.Proof.Gen.XattnFwdRefIdeal.Read
public import Idealize.ShloMosaic.Lib.Quiescent

@[expose] public section

set_option maxRecDepth 16384

noncomputable section

namespace Cert.XattnFwdIdeal.Hand

open Cert.XattnFwdIdeal Cert.XattnFwdIdeal.Gen Idealize.ShloMosaic Idealize.ShloMosaic.TcCoe Idealize.SL.Sem

section
open Cert.XattnFwdRefIdeal.Read

variable (x : S2048x1024.Idx → EReal) (w : S1024x1024.Idx → EReal) (k v : S256x1024.Idx → EReal) (h : Fin 4) (r : Fin 2048) (j : Fin 256)

/-- The reference's queries … -/
theorem ref_q (y : Fin 1024) : val_main_v0 (F := Ideal) x w (ix2 r y) = query x w r y := by
  pointwise [val_main_v0, query]

/-- … cut into heads. -/
theorem ref_heads (l : Fin 256) : val_main_v1 (F := Ideal) x w (ix3 r h l) = query x w r (lane h l) := by
  rw [val_main_v1_apply, ← ref_q]
  refine congrArg (val_main_v0 (F := Ideal) x w) (funext fun a => Fin.ext ?_)
  match a with
  | ⟨0, _⟩ => change ((r.val * 4 + h.val) * 256 + l.val) / 1024 = r.val; omega
  | ⟨1, _⟩ => change ((r.val * 4 + h.val) * 256 + l.val) % 1024 = 256 * h.val + l.val; omega

/-- A memory's array cut into heads. -/
theorem ref_mem (l : Fin 256) : val_main_v2 (F := Ideal) k (ix3 j h l) = k (ix2 j (lane h l)) := by
  rw [val_main_v2_apply]
  refine congrArg k (funext fun a => Fin.ext ?_)
  match a with
  | ⟨0, _⟩ => change ((j.val * 4 + h.val) * 256 + l.val) / 1024 = j.val; omega
  | ⟨1, _⟩ => change ((j.val * 4 + h.val) * 256 + l.val) % 1024 = 256 * h.val + l.val; omega

/-- The reference's scaled logits. -/
theorem ref_logit : val_main_v5 (F := Ideal) x w k (ix3 h r j) = logit x w k h r j := by
  pointwise [val_main_v5, val_main_v4, val_main_cst, val_main_v3]
  simp only [ref_heads, ref_mem, logit]

/-- The row maximum, which the reference joins with −∞. -/
theorem ref_max : val_main_v8 (F := Ideal) x w k (ix2 h r) = Finset.univ.fold max ⊥ (logit x w k h r) := by
  have e : val_main_v6 (F := Ideal) x w k (ix2 h r) = Finset.univ.fold max ⊥ (logit x w k h r) := by
    pointwise [val_main_v6, val_main_cst_0, ref_logit]
    exact congrArg (fun b => Finset.univ.fold max b (logit x w k h r)) Reals.ofBits_bot
  rw [val_main_v8_apply, e]
  change max (Ideal.ofBits FTy.f32 4286578688#32) _ = _
  rw [Reals.ofBits_bot]
  exact max_eq_right bot_le

/-- The reference's exponentials … -/
theorem ref_e : val_main_v12 (F := Ideal) x w k (ix3 h r j) = Soft.e (logit x w k h r) j := by
  pointwise [val_main_v12, val_main_v11, val_main_v10, val_main_v9, ref_max, ref_logit, Soft.e]
  rw [Reals.ofBits_bot]

/-- … their sum … -/
theorem ref_sum : val_main_v13 (F := Ideal) x w k (ix2 h r) = ∑ j, Soft.e (logit x w k h r) j := by
  pointwise [val_main_v13, val_main_cst_2, ref_e]

/-- … and the weights. -/
theorem ref_p : val_main_v16 (F := Ideal) x w k (ix3 h r j) = Soft.p (logit x w k h r) j := by
  pointwise [val_main_v16, val_main_v15, val_main_v14, ref_sum, ref_e, Soft.p]

/-- The reference's output, head by head … -/
theorem ref_mixed (l : Fin 256) : val_main_v18 (F := Ideal) x w k v (ix3 h l r) = mixed x w k v h r l := by
  pointwise [val_main_v18, ref_p]
  simp only [show val_main_v17 (F := Ideal) v = val_main_v2 v from rfl, ref_mem, mixed, mul_comm]

/-- … and the heads side by side. -/
theorem ref_o (y : Fin 1024) : val_main_v22 (F := Ideal) x w k v (ix2 r y) = mixed x w k v (headOf y) r (laneOf y) := by
  rw [← ref_mixed]
  have e : idx_main_v20 (ix2 r y) = ix3 r (headOf y) (laneOf y) := funext fun a => Fin.ext (by
    match a with
    | ⟨0, _⟩ => change (r.val * 1024 + y.val) / 1024 = r.val; omega
    | ⟨1, _⟩ => change (r.val * 1024 + y.val) / 256 % 4 = y.val / 256; omega
    | ⟨2, _⟩ => change (r.val * 1024 + y.val) % 256 = y.val % 256; omega)
  pointwise [val_main_v22]
  rw [val_main_v20_apply, e]
  pointwise [val_main_v19]
end

set_option maxHeartbeats 4000000 in
/-- At `Ideal` the kernel's two results are the reference's. -/
theorem algebraic : Cert.algebraic_XattnFwdIdeal_XattnFwdRefIdeal := by
  pair_intro
  · run_from (Cert.XattnFwdIdeal.Value.run_blocks m g)
  · refine θ_run_mono (Cert.XattnFwdRefIdeal.Value.run m' g') fun r hr c => ?_
    obtain ⟨a0, a1, a2, a3⟩ := hagree c
    refine ⟨(hr c).1.trans (Eq.trans ?_ (q_arr m c).symm), (hr c).2.1.trans (Eq.trans ?_ (o_arr m c).symm), (hr c).2.2⟩
    · rw [XattnFwdRefIdeal.Read.val_main_v21_eq, a0, a1]
      funext i
      idx_vars i
      pointwise [XattnFwdRefIdeal.Read.val_main_v21]
      exact ref_q ..
    · rw [XattnFwdRefIdeal.Read.val_main_v22_eq, a0, a1, a2, a3]
      funext i
      idx_vars i
      exact ref_o ..

/-- The reference runs to the end, leaves its arguments as they were and every counter at zero. -/
theorem frameRef : Cert.quiescent_XattnFwdRefIdeal :=
  fun m g _ => θ_run_mono (Cert.XattnFwdRefIdeal.Value.run m g) fun _ h => ⟨fun c => (h c).2.2, sem_eq_zero_of_no_sems (by decide) _⟩

end Cert.XattnFwdIdeal.Hand
-- ==== Proof.FoxFwdMath.lean ====
/-
  A softmax taken block by block: what the running maximum, the running sum and the running product hold after the first blocks of keys, and
  that the quotient and the log-sum at the end are the whole row's.
-/
module

public import proofs.«01_k».proof.Proof.FoxMath

@[expose] public section

noncomputable section

namespace Cert.FoxFwdMath

open Cert.FoxIdeal Cert.FoxMath Idealize.ShloMosaic

/-- Row `r` of block `i`. -/
def blk (i : Fin 4) (r : Fin 512) : Fin 2048 := ⟨512 * i.val + r.val, by omega⟩

/-- The sum over the keys of the first `n` blocks. -/
def pre (n : ℕ) (f : Fin 2048 → ℝ) : ℝ := ∑ l, if l.val < 512 * n then f l else 0

theorem pre_succ (j : Fin 4) (f : Fin 2048 → ℝ) : pre (j.val + 1) f = pre j.val f + ∑ y, f (blk j y) := by
  unfold pre
  rw [Reals.sum_blocks, Reals.sum_blocks (fun l => if l.val < 512 * j.val then f l else 0)]
  have on : ∀ i : Fin 4, ∀ n : ℕ, i.val < n → (∑ r : Fin 512, if (⟨512 * i.val + r.val, by omega⟩ : Fin 2048).val < 512 * n then f ⟨512 * i.val + r.val, by omega⟩ else 0) = ∑ y, f (blk i y) :=
    fun i n h => Finset.sum_congr rfl fun r _ => if_pos (by change 512 * i.val + r.val < 512 * n; omega)
  have off : ∀ i : Fin 4, ∀ n : ℕ, n ≤ i.val → (∑ r : Fin 512, if (⟨512 * i.val + r.val, by omega⟩ : Fin 2048).val < 512 * n then f ⟨512 * i.val + r.val, by omega⟩ else 0) = 0 :=
    fun i n h => Finset.sum_eq_zero fun r _ => if_neg (by change ¬512 * i.val + r.val < 512 * n; omega)
  have e : ∀ i : Fin 4, (∑ r : Fin 512, if (⟨512 * i.val + r.val, by omega⟩ : Fin 2048).val < 512 * (j.val + 1) then f ⟨512 * i.val + r.val, by omega⟩ else 0) =
      (∑ r : Fin 512, if (⟨512 * i.val + r.val, by omega⟩ : Fin 2048).val < 512 * j.val then f ⟨512 * i.val + r.val, by omega⟩ else 0) + if i = j then ∑ y, f (blk i y) else 0 := by
    intro i
    rcases lt_trichotomy i.val j.val with h | h | h
    · rw [on i _ (by omega), on i _ h, if_neg (fun h' => by subst h'; omega), add_zero]
    · rw [on i _ (by omega), off i _ (by omega), if_pos (Fin.ext h), zero_add]
    · rw [off i _ (by omega), off i _ (by omega), if_neg (fun h' => by subst h'; omega), add_zero]
  simp only [e, Finset.sum_add_distrib, Finset.sum_ite_eq', Finset.mem_univ, if_true]

theorem pre_zero (f : Fin 2048 → ℝ) : pre 0 f = 0 := Finset.sum_eq_zero fun l _ => if_neg (by omega)

theorem mul_pre (a : ℝ) (n : ℕ) (f : Fin 2048 → ℝ) : a * pre n f = pre n fun l => a * f l := by
  unfold pre
  rw [Finset.mul_sum]
  exact Finset.sum_congr rfl fun l _ => by rw [mul_ite, mul_zero]

variable (q k : S2048x512.Idx → ℝ) (c : S8x2048.Idx → ℝ) (h : Fin 8) (r : Fin 2048) (u : Fin 128 → Fin 2048 → ℝ)

/-- The row's exponentials with `μ` taken off the scores. -/
def ex (μ : ℝ) (l : Fin 2048) : ℝ := if l.val ≤ r.val then Real.exp (S q k c h r l - μ) else 0

theorem exp_ex (μ : ℝ) (l : Fin 2048) : Ideal.exp (msc q k c h r l - (μ : EReal)) = (ex q k c h r μ l : EReal) := by
  unfold msc ex
  split
  · rw [← EReal.coe_sub, Reals.exp_coe]
  · rfl

theorem ex_shift (μ ν : ℝ) (l : Fin 2048) : Real.exp (μ - ν) * ex q k c h r μ l = ex q k c h r ν l := by
  unfold ex
  split
  · rw [← Real.exp_add]; congr 1; ring
  · exact mul_zero _

/-- The whole row's exponentials are those with the largest score taken off. -/
theorem ex_M (l : Fin 2048) : ex q k c h r (M q k c h r) l = E q k c h r l := rfl

/-- After the first `n` blocks: nothing seen yet, or the exponentials with some real taken off, summed, and their products with `u`. -/
def Stat (n : ℕ) (mm ll : EReal) (ac : Fin 128 → EReal) : Prop :=
  (n = 0 ∧ mm = ⊥ ∧ ll = 0 ∧ ∀ x, ac x = 0) ∨
    ∃ μ : ℝ, mm = (μ : EReal) ∧ ll = (pre n (ex q k c h r μ) : EReal) ∧ ∀ x, ac x = (pre n (fun l => ex q k c h r μ l * u x l) : EReal)

variable {q k c h r u}

theorem Stat.congr {n : ℕ} {mm ll mm' ll' : EReal} {ac ac' : Fin 128 → EReal} (H : Stat q k c h r u n mm ll ac) (em : mm' = mm) (el : ll' = ll) (ea : ∀ x, ac' x = ac x) :
    Stat q k c h r u n mm' ll' ac' := by
  rw [em, el, funext ea]
  exact H

/-- One more block of keys, the first of them not after the query. -/
theorem Stat.step {j : Fin 4} {mm ll : EReal} {ac : Fin 128 → EReal} (H : Stat q k c h r u j.val mm ll ac) (hj : 512 * j.val ≤ r.val) {mm' ll' : EReal} {ac' : Fin 128 → EReal}
    (em : mm' = max mm (Finset.univ.fold max ⊥ fun y => msc q k c h r (blk j y)))
    (el : ll' = Ideal.exp (mm - mm') * ll + ∑ y, Ideal.exp (msc q k c h r (blk j y) - mm'))
    (ea : ∀ x, ac' x = Ideal.exp (mm - mm') * ac x + ∑ y, Ideal.exp (msc q k c h r (blk j y) - mm') * (u x (blk j y) : EReal)) :
    Stat q k c h r u (j.val + 1) mm' ll' ac' := by
  have ht : mm < ⊤ := by
    rcases H with ⟨_, e, _⟩ | ⟨μ, e, _⟩
    · rw [e]; exact bot_lt_top
    · rw [e]; exact EReal.coe_lt_top _
  obtain ⟨ν, hν⟩ : ∃ ν : ℝ, mm' = (ν : EReal) := by
    refine ⟨mm'.toReal, (EReal.coe_toReal ?_ ?_).symm⟩
    · rw [em]
      refine ne_of_lt (max_lt ht ((Finset.fold_max_lt _).mpr ⟨bot_lt_top, fun y _ => ?_⟩))
      unfold msc
      split
      · exact EReal.coe_lt_top _
      · exact bot_lt_top
    · rw [em]
      refine ne_of_gt (lt_max_of_lt_right ((Finset.lt_fold_max _).mpr (Or.inr ⟨0, Finset.mem_univ _, ?_⟩)))
      unfold msc
      rw [if_pos (show (blk j 0).val ≤ r.val from hj)]
      exact EReal.bot_lt_coe _
  refine Or.inr ⟨ν, hν, ?_, fun x => ?_⟩
  · rw [el, hν]
    simp only [exp_ex, Reals.sum_coe]
    rcases H with ⟨hn, e, e', _⟩ | ⟨μ, e, e', _⟩
    · rw [e', mul_zero, zero_add, pre_succ, hn, pre_zero, zero_add]
    · rw [e, e', ← EReal.coe_sub, Reals.exp_coe, ← EReal.coe_mul, ← EReal.coe_add, mul_pre, pre_succ]
      simp only [ex_shift]
  · rw [ea, hν]
    simp only [exp_ex, ← EReal.coe_mul, Reals.sum_coe]
    rcases H with ⟨hn, e, _, e'⟩ | ⟨μ, e, _, e'⟩
    · rw [e', mul_zero, zero_add, pre_succ, hn, pre_zero, zero_add]
    · rw [e, e', ← EReal.coe_sub, Reals.exp_coe, ← EReal.coe_mul, ← EReal.coe_add, mul_pre, pre_succ]
      simp only [← mul_assoc, ex_shift]

/-- Once every key not after the query has been seen, a sum over the blocks seen is the whole row's, the largest score taken off again. -/
theorem pre_all {n : ℕ} (hr : r.val < 512 * n) (μ : ℝ) (w : Fin 2048 → ℝ) :
    pre n (fun l => ex q k c h r μ l * w l) = Real.exp (M q k c h r - μ) * ∑ l, E q k c h r l * w l := by
  unfold pre
  rw [Finset.mul_sum]
  refine Finset.sum_congr rfl fun l _ => ?_
  rw [← mul_assoc, ← ex_M, ex_shift]
  by_cases hl : l.val < 512 * n
  · exact if_pos hl
  · rw [if_neg hl]
    unfold ex
    rw [if_neg (by omega), zero_mul]

theorem pre_sum {n : ℕ} (hr : r.val < 512 * n) (μ : ℝ) : pre n (ex q k c h r μ) = Real.exp (M q k c h r - μ) * L q k c h r := by
  have e := pre_all (q := q) (k := k) (c := c) (h := h) hr μ fun _ => 1
  simp only [mul_one] at e
  exact e

/-- The quotient at the end is the row's weighted sum … -/
theorem Stat.out {n : ℕ} {mm ll : EReal} {ac : Fin 128 → EReal} (H : Stat q k c h r u n mm ll ac) (hr : r.val < 512 * n) (x : Fin 128) :
    Ideal.div (ac x) ll = ((∑ l, W q k c h r l * u x l : ℝ) : EReal) := by
  rcases H with ⟨hn, _⟩ | ⟨μ, _, el, ea⟩
  · omega
  have hL := L_pos q k c h r
  have hE := Real.exp_pos (M q k c h r - μ)
  rw [ea, el, pre_all hr, pre_sum hr, Reals.div_coe _ _ (mul_pos hE hL).ne', mul_div_mul_left _ _ hE.ne', Finset.sum_div]
  unfold W
  simp only [div_mul_eq_mul_div]

/-- … and the running maximum plus the logarithm of the running sum is the row's log-sum. -/
theorem Stat.lse {n : ℕ} {mm ll : EReal} {ac : Fin 128 → EReal} (H : Stat q k c h r u n mm ll ac) (hr : r.val < 512 * n) :
    mm + Ideal.log ll = ((M q k c h r + Real.log (L q k c h r) : ℝ) : EReal) := by
  rcases H with ⟨hn, _⟩ | ⟨μ, em, el, _⟩
  · omega
  have hL := L_pos q k c h r
  have hE := Real.exp_pos (M q k c h r - μ)
  rw [em, el, pre_sum hr, Reals.log_coe _ (mul_pos hE hL), ← EReal.coe_add, Real.log_mul hE.ne' hL.ne', Real.log_exp]
  congr 1
  ring

end Cert.FoxFwdMath
-- ==== Proof.FoxFwdBlock.lean ====
/-
  The causal attention's forward call: one block of queries against one block of keys. On real operands the scores are the packed product,
  masked on the diagonal, and the running maximum, sum and product take the block's keys in; the last block's quotient and log-sum.
-/
module

public import proofs.«01_k».proof.Defs
public import proofs.«01_k».proof.Proof.Gen.FoxFwdIdeal.Value
public import Idealize.ShloMosaic.Lib.Pointwise
public import Idealize.ShloMosaic.Lib.Claim
public import proofs.«01_k».proof.Proof.FoxFwdMath
public import proofs.«01_k».proof.Proof.Words

@[expose] public section

set_option maxRecDepth 16384

namespace Cert.FoxFwdIdeal.Hand

open Cert.FoxFwdIdeal Cert.FoxFwdIdeal.Gen Cert.FoxMath Cert.FoxFwdMath Idealize.ShloMosaic Idealize.ShloMosaic.TcCoe Idealize.SL.Sem

variable (q k : S2048x512.Idx → ℝ) (c : S8x2048.Idx → ℝ) (v : S2048x512.Idx → ℝ) (p i j : Fin 4) (hh : Fin 2)

/-- A block's packed queries and packed keys of head `hh` of pair `p`, and the pair's values. -/
structure Blocks (qa ka : S1x512x128.Idx → EReal) (vv : S512x128.Idx → EReal) : Prop where
  qa : ∀ r x, qa (ix3 0 r x) = (qaR q c (blk i r) p hh x : EReal)
  ka : ∀ l x, ka (ix3 0 l x) = (kaR k c (blk j l) p hh x : EReal)
  vv : ∀ l x, vv (ix2 l x) = (v (ix2 (blk j l) (lane p x)) : EReal)

/-- A block's step of the running maximum, sum and product. -/
structure Upd (m l : S1x512x1.Idx → EReal) (ac : S1x512x128.Idx → EReal) (m' l' : S1x512x1.Idx → EReal) (ac' : S1x512x128.Idx → EReal) : Prop where
  em : ∀ r, m' (ix3 0 r 0) = max (m (ix3 0 r 0)) (Finset.univ.fold max ⊥ fun y => msc q k c (hd p hh) (blk i r) (blk j y))
  el : ∀ r, l' (ix3 0 r 0) = Ideal.exp (m (ix3 0 r 0) - m' (ix3 0 r 0)) * l (ix3 0 r 0) + ∑ y, Ideal.exp (msc q k c (hd p hh) (blk i r) (blk j y) - m' (ix3 0 r 0))
  ea : ∀ r x, ac' (ix3 0 r x) = Ideal.exp (m (ix3 0 r 0) - m' (ix3 0 r 0)) * ac (ix3 0 r x) +
    ∑ y, Ideal.exp (msc q k c (hd p hh) (blk i r) (blk j y) - m' (ix3 0 r 0)) * (v (ix2 (blk j y) (lane p x)) : EReal)

/-- The rows of block `i` after `n` blocks of keys. -/
def Rows (n : ℕ) (m l : S1x512x1.Idx → EReal) (ac : S1x512x128.Idx → EReal) : Prop :=
  ∀ r : Fin 512, Stat q k c (hd p hh) (blk i r) (fun x l => v (ix2 l (lane p x))) n (m (ix3 0 r 0)) (l (ix3 0 r 0)) fun x => ac (ix3 0 r x)

variable {q k c v p i j hh} {qa ka : S1x512x128.Idx → EReal} {vv : S512x128.Idx → EReal} {m l m' l' : S1x512x1.Idx → EReal} {ac ac' : S1x512x128.Idx → EReal}

theorem Rows.step (H : Rows q k c v p i hh j.val m l ac) (hji : j.val ≤ i.val) (u : Upd q k c v p i j hh m l ac m' l' ac') : Rows q k c v p i hh (j.val + 1) m' l' ac' :=
  fun r => (H r).step (by change 512 * j.val ≤ 512 * i.val + r.val; omega) (u.em r) (u.el r) (u.ea r)

/-- The name the mask is given stands for −∞. -/
theorem mask : Named.named (F := Ideal) Cert.FoxFwdIdeal.κ "mask" (φ := .f32) 0xF149F2CA#32 = (⊥ : EReal) := IdealRules.named_const.ideal_named_scalar _ _ _ _ rfl

section block
variable (b : Blocks q k c v p i j hh qa ka vv)
include b

/-- Before the diagonal no score is masked … -/
theorem sc_off (h : j.val < i.val) (r y : Fin 512) : k0_pay11 (F := Ideal) qa ka (ix2 r y) = msc q k c (hd p hh) (blk i r) (blk j y) := by
  pointwise [k0_pay11]
  simp only [b.qa, b.ka, ← EReal.coe_mul, Reals.sum_coe, sum_packed, dite_eq_ite, ite_self]
  unfold msc
  rw [if_pos (by change 512 * j.val + y.val ≤ 512 * i.val + r.val; omega)]

/-- … and on it those of later keys are. -/
theorem sc_diag (h : j = i) (r y : Fin 512) : k0_pay28 (F := Ideal) qa ka (ix2 r y) = msc q k c (hd p hh) (blk i r) (blk j y) := by
  pointwise [k0_pay28, k0_pay27]
  simp only [b.qa, b.ka, ← EReal.coe_mul, Reals.sum_coe, sum_packed, dite_eq_ite, ite_self]
  rw [Words.sel_sge _ _ (by omega) (by omega), mask]
  unfold msc
  subst h
  have e : (blk j y).val ≤ (blk j r).val ↔ y.val ≤ r.val := by change 512 * j.val + y.val ≤ 512 * j.val + r.val ↔ _; omega
  simp only [e]

theorem off0 (h : j.val < i.val) : Upd q k c v p i j hh m l ac (k0_pay19 (F := Ideal) (k0_pay13 (F := Ideal) qa ka m)) (k0_pay16 (F := Ideal) qa ka m l) (k0_pay18 (F := Ideal) (k0_pay17 (F := Ideal) vv qa ka m ac)) where
  em r := by
    pointwise [k0_pay19, k0_pay13, k0_pay12, sc_off b h]
    rw [Reals.ofBits_bot]
  el r := by
    pointwise [k0_pay19, k0_pay16, k0_pay14, k0_pay15, k0_pay12, sc_off b h]
  ea r x := by
    pointwise [k0_pay19, k0_pay18, k0_pay17, k0_pay14, k0_pay15, k0_pay12, k0_pay10, sc_off b h, b.vv]

theorem off1 (h : j.val < i.val) : Upd q k c v p i j hh m l ac (k0_pay5 (F := Ideal) (k0_pay22 (F := Ideal) qa ka m)) (k0_pay25 (F := Ideal) qa ka m l) (k0_pay4 (F := Ideal) (k0_pay10 (F := Ideal) vv) (k0_pay23 (F := Ideal) qa ka m) (k0_pay24 (F := Ideal) qa ka m) ac) :=
  off0 b h

theorem diag0 (h : j = i) : Upd q k c v p i j hh m l ac (k0_pay37 (F := Ideal) (k0_pay30 (F := Ideal) qa ka m)) (k0_pay33 (F := Ideal) qa ka m l)
    (k0_pay36 (F := Ideal) (k0_pay26 (F := Ideal) vv) (k0_pay32 (F := Ideal) qa ka m) (k0_pay34 (F := Ideal) ac) (k0_pay35 (F := Ideal) qa ka m)) where
  em r := by
    pointwise [k0_pay37, k0_pay30, k0_pay29, sc_diag b h]
    rw [Reals.ofBits_bot]
  el r := by
    pointwise [k0_pay37, k0_pay33, k0_pay31, k0_pay32, k0_pay29, sc_diag b h]
  ea r x := by
    pointwise [k0_pay37, k0_pay36, k0_pay35, k0_pay34, k0_pay31, k0_pay32, k0_pay29, k0_pay26, sc_diag b h, b.vv]

theorem diag1 (h : j = i) : Upd q k c v p i j hh m l ac (k0_pay8 (F := Ideal) (k0_pay40 (F := Ideal) k0_pay27 qa ka m)) (k0_pay6 (F := Ideal) (k0_pay43 (F := Ideal) k0_pay27 qa ka m l))
    (k0_pay7 (F := Ideal) (k0_pay26 (F := Ideal) vv) (k0_pay41 (F := Ideal) k0_pay27 qa ka m) (k0_pay42 (F := Ideal) k0_pay27 qa ka m) ac) :=
  diag0 b h

end block

/-- The output from the two heads' rows … -/
theorem out_rows {m0 l0 m1 l1 : S1x512x1.Idx → EReal} {a0 a1 : S1x512x128.Idx → EReal} (H0 : Rows q k c v p i 0 (i.val + 1) m0 l0 a0) (H1 : Rows q k c v p i 1 (i.val + 1) m1 l1 a1)
    (r : Fin 512) (x : Fin 128) : k0_pay44 (F := Ideal) (iota Kind.tc S512x128 32 [1] iota_S512x128_d1_w32) a0 l0 a1 l1 (ix2 r x) = (O q k c v (blk i r) (lane p x) : EReal) := by
  have hr : (blk i r).val < 512 * (i.val + 1) := by change 512 * i.val + r.val < _; omega
  pointwise [k0_pay44]
  rw [Words.sel_slt _ _ (by omega) (by omega)]
  by_cases hx : x.val < 64
  · rw [if_pos hx]
    refine ((H0 r).out hr x).trans ?_
    have e : hd p 0 = ⟨(lane p x).val / 64, by omega⟩ := Fin.ext (by change 2 * p.val + 0 = (128 * p.val + x.val) / 64; omega)
    rw [e]
    rfl
  · rw [if_neg hx]
    refine ((H1 r).out hr x).trans ?_
    have e : hd p 1 = ⟨(lane p x).val / 64, by omega⟩ := Fin.ext (by change 2 * p.val + 1 = (128 * p.val + x.val) / 64; omega)
    rw [e]
    rfl

/-- … and a head's log-sum. -/
theorem lse_rows (H : Rows q k c v p i hh (i.val + 1) m l ac) (r : Fin 512) (x : Fin 128) :
    k0_pay45 (F := Ideal) m l (ix3 0 r x) = ((M q k c (hd p hh) (blk i r) + Real.log (L q k c (hd p hh) (blk i r)) : ℝ) : EReal) := by
  pointwise [k0_pay45]
  exact (H r).lse (by change 512 * i.val + r.val < _; omega)

theorem lse_rows' (H : Rows q k c v p i hh (i.val + 1) m l ac) (r : Fin 512) (x : Fin 128) :
    k0_pay9 (F := Ideal) (k0_pay46 m) l (ix3 0 r x) = ((M q k c (hd p hh) (blk i r) + Real.log (L q k c (hd p hh) (blk i r)) : ℝ) : EReal) :=
  lse_rows H r x

end Cert.FoxFwdIdeal.Hand
-- ==== Proof.FoxFwdPack.lean ====
/-
  The causal attention's forward call: the packed queries and keys that the host hands the kernel, on real arguments. They are the backward
  call's, in this program's own buffers.
-/
module

public import proofs.«01_k».proof.Proof.FoxPack
public import proofs.«01_k».proof.Proof.Gen.FoxFwdIdeal.Value
public import Idealize.ShloMosaic.Lib.Pipeline.ValueKit
public import Idealize.ShloMosaic.Lib.Pointwise
public import Idealize.ShloMosaic.Lib.StableHlo.ReadAt

@[expose] public section

set_option maxRecDepth 16384

noncomputable section

namespace Cert.FoxFwdIdeal.Hand

open Cert.FoxFwdIdeal Cert.FoxFwdIdeal.Gen Cert.FoxMath Idealize.ShloMosaic Idealize.ShloMosaic.TcCoe Idealize.SL.Sem
open Cert.FoxIdeal.Hand (ofBits_eighth one0 zero0 bot0 pairs)

variable (m : (ℓ : Loc nD τ sig) → Buf (Elt Ideal) ℓ) (ct : Dev nD)
variable (q k : S2048x512.Idx → ℝ) (c : S8x2048.Idx → ℝ) (v : S2048x512.Idx → ℝ)

/-! ## The packed operands -/

set_option maxHeartbeats 4000000 in
/-- The packed queries of a pair's first head. -/
theorem qa0 (hq : m ((ct : Thread nD τ).loc main_arg0) = up q) (hc : m ((ct : Thread nD τ).loc main_arg3) = up c) (p : Fin 4) (r : Fin 2048) (x : Fin 128) :
    V m ct main_v75 (ix3 p r x) = (qaR q c r p 0 x : EReal) := by
  unfold V
  after_reads_at
  rw [show m (ct, Proc.tc.devRef main_arg0) = up q from hq, show m (ct, Proc.tc.devRef main_arg3) = up c from hc]
  simp (disch := omega) only [Words.sel_eq, Words.sel_slt, ← EReal.coe_sub, ← EReal.coe_mul, ofBits_eighth, sub_self, one0, zero0]
  unfold qaR
  have el : lane p x = ⟨p.val * 128 + x.val, by omega⟩ := Fin.ext (by simp only [lane]; omega)
  have eh : hd p 0 = ⟨p.val * 2, by omega⟩ := Fin.ext (by simp only [hd]; omega)
  rw [el, eh]
  have hx : x.val < 64 ∨ x.val = 64 ∨ x.val = 65 ∨ x.val = 66 ∨ x.val = 67 ∨ x.val = 68 ∨ x.val = 69 ∨ 69 < x.val := by omega
  rcases hx with hx | hx | hx | hx | hx | hx | hx | hx
  all_goals
    change _ = ((if x.val / 64 = 0 then _ else _ : ℝ) : EReal)
    simp (disch := omega) only [if_pos, if_neg]
    try first | exact one0 | exact zero0

set_option maxHeartbeats 4000000 in
/-- The packed queries of a pair's second head. -/
theorem qa1 (hq : m ((ct : Thread nD τ).loc main_arg0) = up q) (hc : m ((ct : Thread nD τ).loc main_arg3) = up c) (p : Fin 4) (r : Fin 2048) (x : Fin 128) :
    V m ct main_v148 (ix3 p r x) = (qaR q c r p 1 x : EReal) := by
  unfold V
  after_reads_at
  rw [show m (ct, Proc.tc.devRef main_arg0) = up q from hq, show m (ct, Proc.tc.devRef main_arg3) = up c from hc]
  simp (disch := omega) only [Words.sel_eq, Words.sel_sge, ← EReal.coe_sub, ← EReal.coe_mul, ofBits_eighth, sub_self, one0, zero0]
  unfold qaR
  have el : lane p x = ⟨p.val * 128 + x.val, by omega⟩ := Fin.ext (by simp only [lane]; omega)
  have eh : hd p 1 = ⟨p.val * 2 + 1, by omega⟩ := Fin.ext (by simp only [hd]; omega)
  rw [el, eh]
  have hx : 64 ≤ x.val ∨ x.val = 0 ∨ x.val = 1 ∨ x.val = 2 ∨ x.val = 3 ∨ x.val = 4 ∨ x.val = 5 ∨ (5 < x.val ∧ x.val < 64) := by omega
  rcases hx with hx | hx | hx | hx | hx | hx | hx | hx
  all_goals
    change _ = ((if x.val / 64 = 1 then _ else _ : ℝ) : EReal)
    simp (disch := omega) only [if_pos, if_neg]
    try first | exact one0 | exact zero0

set_option maxHeartbeats 4000000 in
/-- The packed keys of a pair's first head. -/
theorem ka0 (hk : m ((ct : Thread nD τ).loc main_arg1) = up k) (hc : m ((ct : Thread nD τ).loc main_arg3) = up c) (p : Fin 4) (r : Fin 2048) (x : Fin 128) :
    V m ct main_v76 (ix3 p r x) = (kaR k c r p 0 x : EReal) := by
  unfold V
  after_reads_at
  rw [show m (ct, Proc.tc.devRef main_arg1) = up k from hk, show m (ct, Proc.tc.devRef main_arg3) = up c from hc]
  simp (disch := omega) only [Words.sel_eq, Words.sel_slt, ← EReal.coe_sub, ← EReal.coe_neg, sub_self, neg_zero, one0, zero0]
  unfold kaR
  have el : lane p x = ⟨p.val * 128 + x.val, by omega⟩ := Fin.ext (by simp only [lane]; omega)
  have eh : hd p 0 = ⟨p.val * 2, by omega⟩ := Fin.ext (by simp only [hd]; omega)
  rw [el, eh]
  have hx : x.val < 64 ∨ x.val = 64 ∨ x.val = 65 ∨ x.val = 66 ∨ x.val = 67 ∨ x.val = 68 ∨ x.val = 69 ∨ 69 < x.val := by omega
  rcases hx with hx | hx | hx | hx | hx | hx | hx | hx
  all_goals
    change _ = ((if x.val / 64 = 0 then _ else _ : ℝ) : EReal)
    simp (disch := omega) only [if_pos, if_neg]
    try first | exact one0 | exact zero0

set_option maxHeartbeats 4000000 in
/-- The packed keys of a pair's second head. -/
theorem ka1 (hk : m ((ct : Thread nD τ).loc main_arg1) = up k) (hc : m ((ct : Thread nD τ).loc main_arg3) = up c) (p : Fin 4) (r : Fin 2048) (x : Fin 128) :
    V m ct main_v149 (ix3 p r x) = (kaR k c r p 1 x : EReal) := by
  unfold V
  after_reads_at
  rw [show m (ct, Proc.tc.devRef main_arg1) = up k from hk, show m (ct, Proc.tc.devRef main_arg3) = up c from hc]
  simp (disch := omega) only [Words.sel_eq, Words.sel_sge, ← EReal.coe_sub, ← EReal.coe_neg, sub_self, neg_zero, one0, zero0]
  unfold kaR
  have el : lane p x = ⟨p.val * 128 + x.val, by omega⟩ := Fin.ext (by simp only [lane]; omega)
  have eh : hd p 1 = ⟨p.val * 2 + 1, by omega⟩ := Fin.ext (by simp only [hd]; omega)
  rw [el, eh]
  have hx : 64 ≤ x.val ∨ x.val = 0 ∨ x.val = 1 ∨ x.val = 2 ∨ x.val = 3 ∨ x.val = 4 ∨ x.val = 5 ∨ (5 < x.val ∧ x.val < 64) := by omega
  rcases hx with hx | hx | hx | hx | hx | hx | hx | hx
  all_goals
    change _ = ((if x.val / 64 = 1 then _ else _ : ℝ) : EReal)
    simp (disch := omega) only [if_pos, if_neg]
    try first | exact one0 | exact zero0

/-- The kernel's queries are its two heads' queries side by side. -/
theorem qa_sides : V m ct main_v153 = shapeCast (s := S4x2x2048x128) S8x2048x128 (concatenate S4x2x2048x128 1 [⟨S4x1x2048x128, broadcastInDim S4x1x2048x128 ![0, 2, 3] bcast_S4x2048x128_S4x1x2048x128_0_2_3 (V m ct main_v75 : S4x2048x128.Idx → EReal)⟩,
      ⟨S4x1x2048x128, broadcastInDim S4x1x2048x128 ![0, 2, 3] bcast_S4x2048x128_S4x1x2048x128_0_2_3 (V m ct main_v148 : S4x2048x128.Idx → EReal)⟩] concatenates_S4x1x2048x128_S4x1x2048x128_S4x2x2048x128_d1)
      shapeCasts_S4x2x2048x128_S8x2048x128 := by
  unfold V
  after_reads_simp
  rfl

/-- The kernel's keys are its two heads' keys side by side. -/
theorem ka_sides : V m ct main_v157 = shapeCast (s := S4x2x2048x128) S8x2048x128 (concatenate S4x2x2048x128 1 [⟨S4x1x2048x128, broadcastInDim S4x1x2048x128 ![0, 2, 3] bcast_S4x2048x128_S4x1x2048x128_0_2_3 (V m ct main_v76 : S4x2048x128.Idx → EReal)⟩,
      ⟨S4x1x2048x128, broadcastInDim S4x1x2048x128 ![0, 2, 3] bcast_S4x2048x128_S4x1x2048x128_0_2_3 (V m ct main_v149 : S4x2048x128.Idx → EReal)⟩] concatenates_S4x1x2048x128_S4x1x2048x128_S4x2x2048x128_d1)
      shapeCasts_S4x2x2048x128_S8x2048x128 := by
  unfold V
  after_reads_simp
  rfl

/-- The packed queries, by pair and head. -/
theorem host_qa (hq : m ((ct : Thread nD τ).loc main_arg0) = up q) (hc : m ((ct : Thread nD τ).loc main_arg3) = up c) (p : Fin 4) (hh : Fin 2) (r : Fin 2048) (x : Fin 128) :
    V m ct main_v153 (ix3 (hd p hh) r x) = (qaR q c r p hh x : EReal) := by
  rw [qa_sides m ct, pairs]
  match hh with
  | 0 => rw [if_pos rfl, qa0 m ct q c hq hc]
  | 1 => rw [if_neg (by decide), qa1 m ct q c hq hc]

/-- The packed keys, by pair and head. -/
theorem host_ka (hk : m ((ct : Thread nD τ).loc main_arg1) = up k) (hc : m ((ct : Thread nD τ).loc main_arg3) = up c) (p : Fin 4) (hh : Fin 2) (r : Fin 2048) (x : Fin 128) :
    V m ct main_v157 (ix3 (hd p hh) r x) = (kaR k c r p hh x : EReal) := by
  rw [ka_sides m ct, pairs]
  match hh with
  | 0 => rw [if_pos rfl, ka0 m ct k c hk hc]
  | 1 => rw [if_neg (by decide), ka1 m ct k c hk hc]

/-- The values are the packed array's last 512 columns. -/
theorem host_v (hv : m ((ct : Thread nD τ).loc main_arg2) = up v) (r : Fin 2048) (z : Fin 512) :
    V m ct main_v1 (ix2 r ⟨1024 + z.val, by omega⟩) = (v (ix2 r z) : EReal) := by
  unfold V
  after_reads_at
  simp (disch := omega) only [dif_neg, dif_pos]
  refine (congrFun hv _).trans ?_
  exact congrArg (fun j => (v (ix2 r j) : EReal)) (Fin.ext (by change 1024 + z.val - 512 - 512 = z.val; omega))

end Cert.FoxFwdIdeal.Hand
-- ==== Proof.FoxFwdBlk.lean ====
/-
  The causal attention's forward call: what the windows hold at a point. Point `t` is pair `t / 16`, query block `t / 4 % 4` and key block
  `t % 4`; where the key block is not after the query block, its windows hold that block's packed operands and values.
-/
module

public import proofs.«01_k».proof.Proof.FoxFwdBlock
public import proofs.«01_k».proof.Proof.FoxFwdPack
public import proofs.«01_k».proof.Proof.FoxRows

@[expose] public section

set_option maxRecDepth 16384

namespace Cert.FoxFwdIdeal.Hand

open Cert.FoxFwdIdeal Cert.FoxFwdIdeal.Gen Cert.FoxMath Cert.FoxFwdMath Idealize.ShloMosaic Idealize.ShloMosaic.TcCoe Idealize.SL.Sem
open Cert.FoxIdeal.Hand (canon_of_mem canon_of_not_mem ld_at)

variable (m : (ℓ : Loc nD τ sig) → Buf (Elt Ideal) ℓ) (ct : Dev nD)

theorem lt64 (t : Fin cfg0.N) : t.val < 64 := by have := t.isLt; have h : cfg0.N = 64 := N_0; omega

/-- A point's pair, query block and key block. -/
def pI (t : Fin cfg0.N) : Fin 4 := ⟨t.val / 16, by have := lt64 t; omega⟩
def iI (t : Fin cfg0.N) : Fin 4 := ⟨t.val / 4 % 4, by omega⟩
def jI (t : Fin cfg0.N) : Fin 4 := ⟨t.val % 4, by omega⟩

theorem idx0 : ∀ t : Fin grid0.N, win0_0.index t = ![t.val / 16, t.val / 4 % 4, 0] := by decide +kernel
theorem idx1 : ∀ t : Fin grid0.N, win0_1.index t = ![t.val / 16, min (t.val % 4) (t.val / 4 % 4), 0] := by decide +kernel
theorem idx2 : ∀ t : Fin grid0.N, win0_2.index t = ![min (t.val % 4) (t.val / 4 % 4), 8 + t.val / 16] := by decide +kernel
theorem idx3 : ∀ t : Fin grid0.N, win0_3.index t = ![t.val / 4 % 4, t.val / 16] := by decide +kernel
theorem idx4 : ∀ t : Fin grid0.N, win0_4.index t = ![t.val / 16, t.val / 4 % 4, 0] := by decide +kernel

variable (t : Fin cfg0.N) (hji : t.val % 4 ≤ t.val / 4 % 4)

/-- A window's block is read from its array. -/
theorem block_eq (w : Fin cfg0.W) : iblk m ct w t = View.read (Elt Ideal) ((cfg0.win w).blk t).view (V m ct (Pipeline.arrRef spec0 w)) := rfl

theorem emb0 (hh : Fin 2) (r : Fin 512) (x : Fin 128) : (win0_0.blk t).view.emb (ix3 hh r x) = ix3 (hd (pI t) hh) (blk (iI t) r) x := by
  blk_point [idx0 t, hd, blk, pI, jI, iI, lane]
theorem blk0 (hh : Fin 2) (r : Fin 512) (x : Fin 128) : iblk m ct 0 t (ix3 hh r x) = V m ct main_v153 (ix3 (hd (pI t) hh) (blk (iI t) r) x) :=
  (congrFun (block_eq m ct t 0) _).trans (congrArg (V m ct main_v153) (emb0 t hh r x))

include hji in
theorem emb1 (hh : Fin 2) (r : Fin 512) (x : Fin 128) : (win0_1.blk t).view.emb (ix3 hh r x) = ix3 (hd (pI t) hh) (blk (jI t) r) x := by
  have e := (idx1 t).trans (by rw [min_eq_left hji])
  blk_point [e, hd, blk, pI, jI, iI, lane]
include hji in
theorem blk1 (hh : Fin 2) (r : Fin 512) (x : Fin 128) : iblk m ct 1 t (ix3 hh r x) = V m ct main_v157 (ix3 (hd (pI t) hh) (blk (jI t) r) x) :=
  (congrFun (block_eq m ct t 1) _).trans (congrArg (V m ct main_v157) (emb1 t hji hh r x))

include hji in
theorem emb2 (r : Fin 512) (x : Fin 128) : (win0_2.blk t).view.emb (ix2 r x) = ix2 (blk (jI t) r) ⟨1024 + (lane (pI t) x).val, by omega⟩ := by
  have e := (idx2 t).trans (by rw [min_eq_left hji])
  blk_point [e, hd, blk, pI, jI, iI, lane]
include hji in
theorem blk2 (r : Fin 512) (x : Fin 128) : iblk m ct 2 t (ix2 r x) = V m ct main_v1 (ix2 (blk (jI t) r) ⟨1024 + (lane (pI t) x).val, by omega⟩) :=
  (congrFun (block_eq m ct t 2) _).trans (congrArg (V m ct main_v1) (emb2 t hji r x))

/-! ## Two heads' stores, and loads of one head -/

section heads
variable {n : ℕ} {i0 : ∀ a, (![0, 0, 0] : Fin 3 → ℕ) a + (![1, 512, n] : Fin 3 → ℕ) a ≤ (⟨3, ![2, 512, n]⟩ : Shape).size a}
  {i1 : ∀ a, (![1, 0, 0] : Fin 3 → ℕ) a + (![1, 512, n] : Fin 3 → ℕ) a ≤ (⟨3, ![2, 512, n]⟩ : Shape).size a}
  {iw : ∀ a, (![0, 0, 0] : Fin 3 → ℕ) a + (![2, 512, n] : Fin 3 → ℕ) a ≤ (⟨3, ![2, 512, n]⟩ : Shape).size a}
  (w0 : (Rect.unit (s := ⟨3, ![2, 512, n]⟩) ![0, 0, 0] ![1, 512, n] i0).shape.Idx → Elt Ideal .f32)
  (w1 : (Rect.unit (s := ⟨3, ![2, 512, n]⟩) ![1, 0, 0] ![1, 512, n] i1).shape.Idx → Elt Ideal .f32)
  (X : (⟨3, ![2, 512, n]⟩ : Shape).Idx → Elt Ideal .f32) (P : List (View.Piece (Elt Ideal) ⟨3, ![2, 512, n]⟩ .f32)) (r : Fin 512) (z : Fin n)

theorem canon0 : View.canon (⟨Rect.unit (s := ⟨3, ![2, 512, n]⟩) ![0, 0, 0] ![1, 512, n] i0, w0⟩ :: P) (ix3 0 r z) = w0 (ix3 0 r z) :=
  canon_of_mem i0 w0 P _ rfl (ix3 0 r z) fun a => match a with
    | ⟨0, _⟩ => rfl
    | ⟨1, _⟩ => (Nat.zero_add _).symm
    | ⟨2, _⟩ => (Nat.zero_add _).symm

theorem canon1 : View.canon (⟨Rect.unit (s := ⟨3, ![2, 512, n]⟩) ![1, 0, 0] ![1, 512, n] i1, w1⟩ :: P) (ix3 1 r z) = w1 (ix3 0 r z) :=
  canon_of_mem i1 w1 P _ rfl (ix3 0 r z) fun a => match a with
    | ⟨0, _⟩ => rfl
    | ⟨1, _⟩ => (Nat.zero_add _).symm
    | ⟨2, _⟩ => (Nat.zero_add _).symm

theorem canon01 : View.canon (⟨Rect.unit (s := ⟨3, ![2, 512, n]⟩) ![0, 0, 0] ![1, 512, n] i0, w0⟩ :: P) (ix3 1 r z) = View.canon P (ix3 1 r z) :=
  canon_of_not_mem i0 w0 P _ rfl 0 (by change 1 < 0 ∨ 0 + 1 ≤ 1; omega)

theorem canon10 : View.canon (⟨Rect.unit (s := ⟨3, ![2, 512, n]⟩) ![1, 0, 0] ![1, 512, n] i1, w1⟩ :: P) (ix3 0 r z) = View.canon P (ix3 0 r z) :=
  canon_of_not_mem i1 w1 P _ rfl 0 (by change 0 < 1 ∨ 1 + 1 ≤ 0; omega)

theorem canonW (y : (⟨3, ![2, 512, n]⟩ : Shape).Idx) : View.canon (⟨Rect.unit (s := ⟨3, ![2, 512, n]⟩) ![0, 0, 0] ![2, 512, n] iw, X⟩ :: P) y = X y :=
  canon_of_mem iw X P y rfl y fun a => match a with
    | ⟨0, _⟩ => (Nat.zero_add _).symm
    | ⟨1, _⟩ => (Nat.zero_add _).symm
    | ⟨2, _⟩ => (Nat.zero_add _).symm

theorem ldH0 : View.ld X (Rect.unit (s := ⟨3, ![2, 512, n]⟩) ![0, 0, 0] ![1, 512, n] i0) (ix3 0 r z) = X (ix3 0 r z) :=
  ld_at i0 (ix3 0 r z) rfl X (ix3 0 r z) fun a => match a with
    | ⟨0, _⟩ => rfl
    | ⟨1, _⟩ => (Nat.zero_add _).symm
    | ⟨2, _⟩ => (Nat.zero_add _).symm

theorem ldH1 : View.ld X (Rect.unit (s := ⟨3, ![2, 512, n]⟩) ![1, 0, 0] ![1, 512, n] i1) (ix3 0 r z) = X (ix3 1 r z) :=
  ld_at i1 (ix3 1 r z) rfl X (ix3 0 r z) fun a => match a with
    | ⟨0, _⟩ => rfl
    | ⟨1, _⟩ => (Nat.zero_add _).symm
    | ⟨2, _⟩ => (Nat.zero_add _).symm

variable {sp : Space} (W : View sig Kind.tc sp (⟨3, ![2, 512, n]⟩ : Shape) .f32)

theorem rcH0 : W.readCov P (Rect.unit (s := ⟨3, ![2, 512, n]⟩) ![0, 0, 0] ![1, 512, n] i0).toLoadRect (ix3 0 r z) = View.canon P (ix3 0 r z) :=
  (congrFun (View.readCov_eq_canon' W P _) _).trans (ldH0 (i0 := i0) (View.canon P) r z)

theorem rcH1 : W.readCov P (Rect.unit (s := ⟨3, ![2, 512, n]⟩) ![1, 0, 0] ![1, 512, n] i1).toLoadRect (ix3 0 r z) = View.canon P (ix3 1 r z) :=
  (congrFun (View.readCov_eq_canon' W P _) _).trans (ldH1 (i1 := i1) (View.canon P) r z)

end heads

section ldbf
variable (X : S2x512x128.Idx → EReal) (r : Fin 512) (x : Fin 128)

/-- One head of a window's block. -/
theorem ldb0 : View.ld (Val := Elt Ideal) (e' := .bf16) X (Rect.unit ![0, 0, 0] ![1, 512, 128] inb_S2x512x128_S1x512x128_0_0_0) (ix3 0 r x) = X (ix3 0 r x) :=
  ldH0 (i0 := inb_S2x512x128_S1x512x128_0_0_0) X r x
theorem ldb1 : View.ld (Val := Elt Ideal) (e' := .bf16) X (Rect.unit ![1, 0, 0] ![1, 512, 128] inb_S2x512x128_S1x512x128_1_0_0) (ix3 0 r x) = X (ix3 1 r x) :=
  ldH1 (i1 := inb_S2x512x128_S1x512x128_1_0_0) X r x
end ldbf

variable {q k v : S2048x512.Idx → ℝ} {c : S8x2048.Idx → ℝ}
  (hq : m ((ct : Thread nD τ).loc main_arg0) = up q) (hk : m ((ct : Thread nD τ).loc main_arg1) = up k)
  (hv : m ((ct : Thread nD τ).loc main_arg2) = up v) (hc : m ((ct : Thread nD τ).loc main_arg3) = up c)

include hji hq hk hv hc in
/-- The first head's packed blocks … -/
theorem blocks0 : Blocks q k c v (pI t) (iI t) (jI t) 0
    (View.ld (iblk m ct 0 t) (Rect.unit ![0, 0, 0] ![1, 512, 128] inb_S2x512x128_S1x512x128_0_0_0))
    (View.ld (iblk m ct 1 t) (Rect.unit ![0, 0, 0] ![1, 512, 128] inb_S2x512x128_S1x512x128_0_0_0)) (iblk m ct 2 t) where
  qa r x := (ldb0 _ r x).trans ((blk0 m ct t 0 r x).trans (host_qa m ct q c hq hc _ _ _ _))
  ka l x := (ldb0 _ l x).trans ((blk1 m ct t hji 0 l x).trans (host_ka m ct k c hk hc _ _ _ _))
  vv l x := (blk2 m ct t hji l x).trans (host_v m ct v hv _ _)

include hji hq hk hv hc in
/-- … and the second's. -/
theorem blocks1 : Blocks q k c v (pI t) (iI t) (jI t) 1
    (View.ld (iblk m ct 0 t) (Rect.unit ![1, 0, 0] ![1, 512, 128] inb_S2x512x128_S1x512x128_1_0_0))
    (View.ld (iblk m ct 1 t) (Rect.unit ![1, 0, 0] ![1, 512, 128] inb_S2x512x128_S1x512x128_1_0_0)) (iblk m ct 2 t) where
  qa r x := (ldb1 _ r x).trans ((blk0 m ct t 1 r x).trans (host_qa m ct q c hq hc _ _ _ _))
  ka l x := (ldb1 _ l x).trans ((blk1 m ct t hji 1 l x).trans (host_ka m ct k c hk hc _ _ _ _))
  vv l x := (blk2 m ct t hji l x).trans (host_v m ct v hv _ _)

end Cert.FoxFwdIdeal.Hand
-- ==== Proof.FoxFwdSteps.lean ====
/-
  The causal attention's forward call: a point's step. Where the key block is not after the query block, both heads' running rows take the
  block in; where it is after, they stand; the last key block's point writes the rows' quotients and log-sums.
-/
module

public import proofs.«01_k».proof.Proof.FoxFwdBlk
public import Idealize.ShloMosaic.Lib.Pipeline.ValueKit
public import Idealize.ShloMosaic.Lib.WritesUnit

@[expose] public section

set_option maxRecDepth 16384

namespace Cert.FoxFwdIdeal.Hand

open Cert.FoxFwdIdeal Cert.FoxFwdIdeal.Gen Cert.FoxMath Cert.FoxFwdMath Idealize.ShloMosaic Idealize.ShloMosaic.TcCoe Idealize.SL.Sem

variable (m : (ℓ : Loc nD τ sig) → Buf (Elt Ideal) ℓ) (ct : Dev nD)

section state
variable (q k : S2048x512.Idx → ℝ) (c : S8x2048.Idx → ℝ) (v : S2048x512.Idx → ℝ) (p i : Fin 4)

/-- Both heads' running rows, as the three scratch buffers hold them. -/
def State (n : ℕ) (X Y : S2x512x1.Idx → EReal) (Z : S2x512x128.Idx → EReal) : Prop :=
  ∀ (hh : Fin 2) (r : Fin 512), Stat q k c (hd p hh) (blk i r) (fun x l => v (ix2 l (lane p x))) n (X (ix3 hh r 0)) (Y (ix3 hh r 0)) fun x => Z (ix3 hh r x)
end state

variable {q k v : S2048x512.Idx → ℝ} {c : S8x2048.Idx → ℝ} {p i : Fin 4} {n : ℕ}

/-- What a point before left, loaded head by head … -/
theorem rd0 (h : scM0_0.IsWhole) (X : S2x512x1.Idx → EReal) : View.read (Elt Ideal) (View.whole cc0_scratch0) (Memref.IsWhole.unread (Val := Elt Ideal) h X) = X := Memref.IsWhole.read_unread (Val := Elt Ideal) h X
theorem rd1 (h : scM0_1.IsWhole) (X : S2x512x1.Idx → EReal) : View.read (Elt Ideal) (View.whole cc0_scratch1) (Memref.IsWhole.unread (Val := Elt Ideal) h X) = X := Memref.IsWhole.read_unread (Val := Elt Ideal) h X
theorem rd2 (h : scM0_2.IsWhole) (X : S2x512x128.Idx → EReal) : View.read (Elt Ideal) (View.whole cc0_scratch2) (Memref.IsWhole.unread (Val := Elt Ideal) h X) = X := Memref.IsWhole.read_unread (Val := Elt Ideal) h X

theorem ldn0 (X : S2x512x1.Idx → EReal) (r : Fin 512) :
    View.ld (Val := Elt Ideal) (e' := .f32) X (Rect.unit ![0, 0, 0] ![1, 512, 1] inb_S2x512x1_S1x512x1_0_0_0) (ix3 0 r 0) = X (ix3 0 r 0) := ldH0 (i0 := inb_S2x512x1_S1x512x1_0_0_0) X r 0
theorem ldn1 (X : S2x512x1.Idx → EReal) (r : Fin 512) :
    View.ld (Val := Elt Ideal) (e' := .f32) X (Rect.unit ![1, 0, 0] ![1, 512, 1] inb_S2x512x1_S1x512x1_1_0_0) (ix3 0 r 0) = X (ix3 1 r 0) := ldH1 (i1 := inb_S2x512x1_S1x512x1_1_0_0) X r 0
theorem ldw0 (X : S2x512x128.Idx → EReal) (r : Fin 512) (x : Fin 128) :
    View.ld (Val := Elt Ideal) (e' := .f32) X (Rect.unit ![0, 0, 0] ![1, 512, 128] inb_S2x512x128_S1x512x128_0_0_0) (ix3 0 r x) = X (ix3 0 r x) := ldH0 (i0 := inb_S2x512x128_S1x512x128_0_0_0) X r x
theorem ldw1 (X : S2x512x128.Idx → EReal) (r : Fin 512) (x : Fin 128) :
    View.ld (Val := Elt Ideal) (e' := .f32) X (Rect.unit ![1, 0, 0] ![1, 512, 128] inb_S2x512x128_S1x512x128_1_0_0) (ix3 0 r x) = X (ix3 1 r x) := ldH1 (i1 := inb_S2x512x128_S1x512x128_1_0_0) X r x

theorem State.rows0 {X Y : S2x512x1.Idx → EReal} {Z : S2x512x128.Idx → EReal} (H : State q k c v p i n X Y Z) : Rows q k c v p i 0 n
    (View.ld (Val := Elt Ideal) (e' := .f32) X (Rect.unit ![0, 0, 0] ![1, 512, 1] inb_S2x512x1_S1x512x1_0_0_0))
    (View.ld (Val := Elt Ideal) (e' := .f32) Y (Rect.unit ![0, 0, 0] ![1, 512, 1] inb_S2x512x1_S1x512x1_0_0_0))
    (View.ld (Val := Elt Ideal) (e' := .f32) Z (Rect.unit ![0, 0, 0] ![1, 512, 128] inb_S2x512x128_S1x512x128_0_0_0)) :=
  fun r => (H 0 r).congr (ldn0 X r) (ldn0 Y r) (ldw0 Z r)
theorem State.rows1 {X Y : S2x512x1.Idx → EReal} {Z : S2x512x128.Idx → EReal} (H : State q k c v p i n X Y Z) : Rows q k c v p i 1 n
    (View.ld (Val := Elt Ideal) (e' := .f32) X (Rect.unit ![1, 0, 0] ![1, 512, 1] inb_S2x512x1_S1x512x1_1_0_0))
    (View.ld (Val := Elt Ideal) (e' := .f32) Y (Rect.unit ![1, 0, 0] ![1, 512, 1] inb_S2x512x1_S1x512x1_1_0_0))
    (View.ld (Val := Elt Ideal) (e' := .f32) Z (Rect.unit ![1, 0, 0] ![1, 512, 128] inb_S2x512x128_S1x512x128_1_0_0)) :=
  fun r => (H 1 r).congr (ldn1 X r) (ldn1 Y r) (ldw1 Z r)

/-- … and what the first point of a row of blocks resets. -/
theorem reset_m (y : S2x512x1.Idx) : k0_pay1 (F := Ideal) y = ⊥ := by
  pointwise [k0_pay1]
  exact mask
theorem reset_l (y : S2x512x1.Idx) : k0_pay2 (F := Ideal) y = 0 := by
  pointwise [k0_pay2]
theorem reset_a (y : S2x512x128.Idx) : k0_pay3 (F := Ideal) y = 0 := by
  pointwise [k0_pay3]

variable (t : Fin cfg0.N)
  (hq : m ((ct : Thread nD τ).loc main_arg0) = up q) (hk : m ((ct : Thread nD τ).loc main_arg1) = up k)
  (hv : m ((ct : Thread nD τ).loc main_arg2) = up v) (hc : m ((ct : Thread nD τ).loc main_arg3) = up c)

/-- What the point leaves in the scratch buffers, and what the one before left. -/
abbrev Now (q k v : S2048x512.Idx → ℝ) (c : S8x2048.Idx → ℝ) (n : ℕ) : Prop :=
  State q k c v (pI t) (iI t) n (outsAt0 m ct t.val t.isLt).2.2.1 (outsAt0 m ct t.val t.isLt).2.2.2.1 (outsAt0 m ct t.val t.isLt).2.2.2.2
abbrev Was (q k v : S2048x512.Idx → ℝ) (c : S8x2048.Idx → ℝ) (n : ℕ) : Prop :=
  State q k c v (pI t) (iI t) n (outsAt0 m ct (t.val - 1) (Nat.lt_of_le_of_lt (Nat.sub_le _ _) t.isLt)).2.2.1
    (outsAt0 m ct (t.val - 1) (Nat.lt_of_le_of_lt (Nat.sub_le _ _) t.isLt)).2.2.2.1 (outsAt0 m ct (t.val - 1) (Nat.lt_of_le_of_lt (Nat.sub_le _ _) t.isLt)).2.2.2.2

include hq hk hv hc

theorem step_F (h0 : ¬t.val % 4 = 0) (h1 : t.val % 4 + 1 ≤ t.val / 4 % 4) (h2 : ¬t.val / 4 % 4 = t.val % 4) (h3 : ¬t.val % 4 = 3) (H : Was m ct t q k v c (jI t).val) :
    Now m ct t q k v c ((jI t).val + 1) := by
  have hji : t.val % 4 ≤ t.val / 4 % 4 := by omega
  have b0 := blocks0 m ct t hji hq hk hv hc
  have b1 := blocks1 m ct t hji hq hk hv hc
  unfold Now
  rw [outsAt0_F m ct t h0 h1 h2 h3]
  frame_out
  intro hh r
  match hh with
  | 0 =>
    simp only [canon10 (n := 1), canon10 (n := 128), canon0 (n := 1), canon0 (n := 128)]
    refine Rows.step ?_ hji (off0 b0 h1) r
    simp only [rd0, rd1, rd2]
    exact H.rows0
  | 1 =>
    simp only [canon1 (n := 1), canon1 (n := 128)]
    refine Rows.step ?_ hji (off1 b1 h1) r
    simp only [rd0, rd1, rd2]
    exact H.rows1

theorem step_A (h0 : t.val % 4 = 0) (h1 : ¬t.val % 4 + 1 ≤ t.val / 4 % 4) (h2 : t.val / 4 % 4 = t.val % 4) (h3 : ¬t.val % 4 = 3) :
    Now m ct t q k v c ((jI t).val + 1) := by
  have hji : t.val % 4 ≤ t.val / 4 % 4 := by omega
  have b0 := blocks0 m ct t hji hq hk hv hc
  have b1 := blocks1 m ct t hji hq hk hv hc
  have e : jI t = iI t := Fin.ext h2.symm
  unfold Now
  rw [outsAt0_A m ct t h0 h1 h2 h3]
  frame_out
  intro hh r
  match hh with
  | 0 =>
    simp only [canon10 (n := 1), canon10 (n := 128), canon0 (n := 1), canon0 (n := 128)]
    refine Rows.step (fun r' => ?_) hji (diag0 b0 e) r
    simp only [rcH0 (n := 1), rcH0 (n := 128), canonW (n := 1), canonW (n := 128), reset_m, reset_l, reset_a]
    exact Or.inl ⟨h0, rfl, rfl, fun _ => rfl⟩
  | 1 =>
    simp only [canon1 (n := 1), canon1 (n := 128)]
    refine Rows.step (fun r' => ?_) hji (diag1 b1 e) r
    simp only [rcH1 (n := 1), rcH1 (n := 128), canon01 (n := 1), canon01 (n := 128), canonW (n := 1), canonW (n := 128), reset_m, reset_l, reset_a]
    exact Or.inl ⟨h0, rfl, rfl, fun _ => rfl⟩

theorem step_E (h0 : ¬t.val % 4 = 0) (h1 : ¬t.val % 4 + 1 ≤ t.val / 4 % 4) (h2 : t.val / 4 % 4 = t.val % 4) (h3 : ¬t.val % 4 = 3) (H : Was m ct t q k v c (jI t).val) :
    Now m ct t q k v c ((jI t).val + 1) := by
  have hji : t.val % 4 ≤ t.val / 4 % 4 := by omega
  have b0 := blocks0 m ct t hji hq hk hv hc
  have b1 := blocks1 m ct t hji hq hk hv hc
  have e : jI t = iI t := Fin.ext h2.symm
  unfold Now
  rw [outsAt0_E m ct t h0 h1 h2 h3]
  frame_out
  intro hh r
  match hh with
  | 0 =>
    simp only [canon10 (n := 1), canon10 (n := 128), canon0 (n := 1), canon0 (n := 128)]
    refine Rows.step ?_ hji (diag0 b0 e) r
    simp only [rd0, rd1, rd2]
    exact H.rows0
  | 1 =>
    simp only [canon1 (n := 1), canon1 (n := 128)]
    refine Rows.step ?_ hji (diag1 b1 e) r
    simp only [rd0, rd1, rd2]
    exact H.rows1

theorem step_G (h0 : ¬t.val % 4 = 0) (h1 : ¬t.val % 4 + 1 ≤ t.val / 4 % 4) (h2 : t.val / 4 % 4 = t.val % 4) (h3 : t.val % 4 = 3) (H : Was m ct t q k v c (jI t).val) :
    Now m ct t q k v c ((jI t).val + 1) := by
  have hji : t.val % 4 ≤ t.val / 4 % 4 := by omega
  have b0 := blocks0 m ct t hji hq hk hv hc
  have b1 := blocks1 m ct t hji hq hk hv hc
  have e : jI t = iI t := Fin.ext h2.symm
  unfold Now
  rw [outsAt0_G m ct t h0 h1 h2 h3]
  frame_out
  intro hh r
  match hh with
  | 0 =>
    simp only [canon10 (n := 1), canon10 (n := 128), canon0 (n := 1), canon0 (n := 128)]
    refine Rows.step ?_ hji (diag0 b0 e) r
    simp only [rd0, rd1, rd2]
    exact H.rows0
  | 1 =>
    simp only [canon1 (n := 1), canon1 (n := 128)]
    refine Rows.step ?_ hji (diag1 b1 e) r
    simp only [rd0, rd1, rd2]
    exact H.rows1

theorem step_D (h0 : t.val % 4 = 0) (h1 : t.val % 4 + 1 ≤ t.val / 4 % 4) (h2 : ¬t.val / 4 % 4 = t.val % 4) (h3 : ¬t.val % 4 = 3) :
    Now m ct t q k v c ((jI t).val + 1) := by
  have hji : t.val % 4 ≤ t.val / 4 % 4 := by omega
  have b0 := blocks0 m ct t hji hq hk hv hc
  have b1 := blocks1 m ct t hji hq hk hv hc
  unfold Now
  rw [outsAt0_D m ct t h0 h1 h2 h3]
  frame_out
  intro hh r
  match hh with
  | 0 =>
    simp only [canon10 (n := 1), canon10 (n := 128), canon0 (n := 1), canon0 (n := 128)]
    refine Rows.step (fun r' => ?_) hji (off0 b0 h1) r
    simp only [rcH0 (n := 1), rcH0 (n := 128), canonW (n := 1), canonW (n := 128), reset_m, reset_l, reset_a]
    exact Or.inl ⟨h0, rfl, rfl, fun _ => rfl⟩
  | 1 =>
    simp only [canon1 (n := 1), canon1 (n := 128)]
    refine Rows.step (fun r' => ?_) hji (off1 b1 h1) r
    simp only [rcH1 (n := 1), rcH1 (n := 128), canon01 (n := 1), canon01 (n := 128), canonW (n := 1), canonW (n := 128), reset_m, reset_l, reset_a]
    exact Or.inl ⟨h0, rfl, rfl, fun _ => rfl⟩

omit hq hk hv hc in
theorem step_B (h0 : ¬t.val % 4 = 0) (h1 : ¬t.val % 4 + 1 ≤ t.val / 4 % 4) (h2 : ¬t.val / 4 % 4 = t.val % 4) (h3 : ¬t.val % 4 = 3) (H : Was m ct t q k v c n) : Now m ct t q k v c n := by
  unfold Now
  rw [outsAt0_B m ct t h0 h1 h2 h3]
  frame_out
  exact H

omit hq hk hv hc in
theorem step_C (h0 : ¬t.val % 4 = 0) (h1 : ¬t.val % 4 + 1 ≤ t.val / 4 % 4) (h2 : ¬t.val / 4 % 4 = t.val % 4) (h3 : t.val % 4 = 3) (H : Was m ct t q k v c n) : Now m ct t q k v c n := by
  unfold Now
  rw [outsAt0_C m ct t h0 h1 h2 h3]
  frame_out
  exact H

end Cert.FoxFwdIdeal.Hand
-- ==== Proof.FoxFwdValue.lean ====
/-
  The causal attention's forward call: what the kernel's two result arrays hold on real arguments. After a point the running rows have taken in
  every key block up to the smaller of the point's two, so at the last key block they hold every key that is not after the query.
-/
module

public import proofs.«01_k».proof.Proof.FoxFwdSteps

@[expose] public section

set_option maxRecDepth 16384

namespace Cert.FoxFwdIdeal.Hand

open Cert.FoxFwdIdeal Cert.FoxFwdIdeal.Gen Cert.FoxMath Cert.FoxFwdMath Idealize.ShloMosaic Idealize.ShloMosaic.TcCoe Idealize.SL.Sem
open Idealize.ShloMosaic.Pipeline (Dat)

variable (m : (ℓ : Loc nD τ sig) → Buf (Elt Ideal) ℓ) (ct : Dev nD)
variable {q k v : S2048x512.Idx → ℝ} {c : S8x2048.Idx → ℝ}
  (hq : m ((ct : Thread nD τ).loc main_arg0) = up q) (hk : m ((ct : Thread nD τ).loc main_arg1) = up k)
  (hv : m ((ct : Thread nD τ).loc main_arg2) = up v) (hc : m ((ct : Thread nD τ).loc main_arg3) = up c)

/-- A point that is not a row's first follows one of the same row. -/
theorem was {n : ℕ} (t : Fin cfg0.N) (h0 : ¬t.val % 4 = 0) (H : Now m ct ⟨t.val - 1, Nat.lt_of_le_of_lt (Nat.sub_le _ _) t.isLt⟩ q k v c n) : Was m ct t q k v c n := by
  have ep : pI ⟨t.val - 1, Nat.lt_of_le_of_lt (Nat.sub_le _ _) t.isLt⟩ = pI t := Fin.ext (by change (t.val - 1) / 16 = t.val / 16; omega)
  have ei : iI ⟨t.val - 1, Nat.lt_of_le_of_lt (Nat.sub_le _ _) t.isLt⟩ = iI t := Fin.ext (by change (t.val - 1) / 4 % 4 = t.val / 4 % 4; omega)
  unfold Now at H
  rw [ep, ei] at H
  exact H

include hq hk hv hc

/-- The blocks taken in after a point. -/
theorem taken : ∀ (n : ℕ) (hn : n < cfg0.N), Now m ct ⟨n, hn⟩ q k v c (min (n % 4) (n / 4 % 4) + 1) := by
  intro n
  induction n with
  | zero =>
    intro hn
    exact step_A m ct ⟨0, hn⟩ hq hk hv hc rfl (by change ¬0 % 4 + 1 ≤ 0 / 4 % 4; decide) (by change 0 / 4 % 4 = 0 % 4; decide) (by change ¬0 % 4 = 3; decide)
  | succ n ih =>
    intro hn
    have prev := ih (Nat.lt_of_succ_lt hn)
    by_cases h0 : (n + 1) % 4 = 0
    · have e : min ((n + 1) % 4) ((n + 1) / 4 % 4) + 1 = (jI ⟨n + 1, hn⟩).val + 1 := by change _ = (n + 1) % 4 + 1; omega
      rw [e]
      by_cases h1 : (n + 1) % 4 + 1 ≤ (n + 1) / 4 % 4
      · exact step_D m ct ⟨n + 1, hn⟩ hq hk hv hc h0 h1 (by change ¬(n + 1) / 4 % 4 = (n + 1) % 4; omega) (by change ¬(n + 1) % 4 = 3; omega)
      · exact step_A m ct ⟨n + 1, hn⟩ hq hk hv hc h0 h1 (by change (n + 1) / 4 % 4 = (n + 1) % 4; omega) (by change ¬(n + 1) % 4 = 3; omega)
    · have w : Was m ct ⟨n + 1, hn⟩ q k v c (min (n % 4) (n / 4 % 4) + 1) := was m ct ⟨n + 1, hn⟩ h0 prev
      by_cases hle : (n + 1) % 4 ≤ (n + 1) / 4 % 4
      · have e : min ((n + 1) % 4) ((n + 1) / 4 % 4) + 1 = (jI ⟨n + 1, hn⟩).val + 1 := by change _ = (n + 1) % 4 + 1; omega
        have e' : min (n % 4) (n / 4 % 4) + 1 = (jI ⟨n + 1, hn⟩).val := by change _ = (n + 1) % 4; omega
        rw [e]
        rw [e'] at w
        by_cases h2 : (n + 1) / 4 % 4 = (n + 1) % 4
        · by_cases h3 : (n + 1) % 4 = 3
          · exact step_G m ct ⟨n + 1, hn⟩ hq hk hv hc h0 (by change ¬(n + 1) % 4 + 1 ≤ (n + 1) / 4 % 4; omega) h2 h3 w
          · exact step_E m ct ⟨n + 1, hn⟩ hq hk hv hc h0 (by change ¬(n + 1) % 4 + 1 ≤ (n + 1) / 4 % 4; omega) h2 h3 w
        · exact step_F m ct ⟨n + 1, hn⟩ hq hk hv hc h0 (by change (n + 1) % 4 + 1 ≤ (n + 1) / 4 % 4; omega) h2 (by change ¬(n + 1) % 4 = 3; omega) w
      · have e : min ((n + 1) % 4) ((n + 1) / 4 % 4) + 1 = min (n % 4) (n / 4 % 4) + 1 := by omega
        rw [e]
        by_cases h3 : (n + 1) % 4 = 3
        · exact step_C m ct ⟨n + 1, hn⟩ h0 (by change ¬(n + 1) % 4 + 1 ≤ (n + 1) / 4 % 4; omega) (by change ¬(n + 1) / 4 % 4 = (n + 1) % 4; omega) h3 w
        · exact step_B m ct ⟨n + 1, hn⟩ h0 (by change ¬(n + 1) % 4 + 1 ≤ (n + 1) / 4 % 4; omega) (by change ¬(n + 1) / 4 % 4 = (n + 1) % 4; omega) h3 w

/-- Before the last key block the rows hold every key of the blocks up to it, or up to the query's own. -/
theorem before (t : Fin cfg0.N) (h3 : t.val % 4 = 3) : Was m ct t q k v c (min 2 (t.val / 4 % 4) + 1) := by
  have h := was m ct t (by omega) (taken m ct hq hk hv hc (t.val - 1) (Nat.lt_of_le_of_lt (Nat.sub_le _ _) t.isLt))
  have e : min ((t.val - 1) % 4) ((t.val - 1) / 4 % 4) + 1 = min 2 (t.val / 4 % 4) + 1 := by omega
  rw [e] at h
  exact h

/-- The last key block's point writes the output … -/
theorem out_last (t : Fin cfg0.N) (h3 : t.val % 4 = 3) (r : Fin 512) (x : Fin 128) : (outsAt0 m ct t.val t.isLt).1 (ix2 r x) = (O q k c v (blk (iI t) r) (lane (pI t) x) : EReal) := by
  have H := before m ct hq hk hv hc t h3
  by_cases h2 : t.val / 4 % 4 = t.val % 4
  · have hji : t.val % 4 ≤ t.val / 4 % 4 := by omega
    have e : jI t = iI t := Fin.ext h2.symm
    have en : min 2 (t.val / 4 % 4) + 1 = (jI t).val := by change _ = t.val % 4; omega
    rw [en] at H
    have R0 := Rows.step H.rows0 hji (diag0 (blocks0 m ct t hji hq hk hv hc) e)
    have R1 := Rows.step H.rows1 hji (diag1 (blocks1 m ct t hji hq hk hv hc) e)
    have ej : (jI t).val + 1 = (iI t).val + 1 := by rw [e]
    rw [ej] at R0 R1
    rw [outsAt0_G m ct t (by omega) (by omega) h2 h3]
    frame_out
    refine out_rows (m0 := _) (m1 := _) (fun r' => (R0 r').congr rfl ?_ fun x' => ?_) (fun r' => (R1 r').congr rfl ?_ fun x' => ?_) r x
    all_goals simp only [rcH0 (n := 1), rcH0 (n := 128), rcH1 (n := 1), rcH1 (n := 128), canon10 (n := 1), canon10 (n := 128), canon0 (n := 1), canon0 (n := 128), canon1 (n := 1), canon1 (n := 128), rd0, rd1, rd2]
    all_goals rfl
  · have en : min 2 (t.val / 4 % 4) + 1 = (iI t).val + 1 := by change _ = t.val / 4 % 4 + 1; omega
    rw [en] at H
    rw [outsAt0_C m ct t (by omega) (by omega) h2 h3]
    frame_out
    simp only [rd0, rd1, rd2]
    exact out_rows H.rows0 H.rows1 r x

/-- … and the log-sums, on every lane. -/
theorem lse_last (t : Fin cfg0.N) (h3 : t.val % 4 = 3) (hh : Fin 2) (r : Fin 512) (x : Fin 128) :
    (outsAt0 m ct t.val t.isLt).2.1 (ix3 hh r x) = ((FoxMath.M q k c (hd (pI t) hh) (blk (iI t) r) + Real.log (L q k c (hd (pI t) hh) (blk (iI t) r)) : ℝ) : EReal) := by
  have H := before m ct hq hk hv hc t h3
  by_cases h2 : t.val / 4 % 4 = t.val % 4
  · have hji : t.val % 4 ≤ t.val / 4 % 4 := by omega
    have e : jI t = iI t := Fin.ext h2.symm
    have en : min 2 (t.val / 4 % 4) + 1 = (jI t).val := by change _ = t.val % 4; omega
    rw [en] at H
    have R0 := Rows.step H.rows0 hji (diag0 (blocks0 m ct t hji hq hk hv hc) e)
    have R1 := Rows.step H.rows1 hji (diag1 (blocks1 m ct t hji hq hk hv hc) e)
    have ej : (jI t).val + 1 = (iI t).val + 1 := by rw [e]
    rw [ej] at R0 R1
    rw [outsAt0_G m ct t (by omega) (by omega) h2 h3]
    frame_out
    match hh with
    | 0 =>
      simp only [canon10 (n := 128), canon0 (n := 128)]
      refine lse_rows (fun r' => (R0 r').congr ?_ ?_ fun _ => rfl) r x
      all_goals simp only [rcH0 (n := 1), canon10 (n := 1), canon0 (n := 1), rd0, rd1]
      all_goals rfl
    | 1 =>
      simp only [canon1 (n := 128)]
      refine lse_rows' (fun r' => (R1 r').congr ?_ ?_ fun _ => rfl) r x
      all_goals simp only [rcH1 (n := 1), canon1 (n := 1), rd0, rd1]
      all_goals rfl
  · have en : min 2 (t.val / 4 % 4) + 1 = (iI t).val + 1 := by change _ = t.val / 4 % 4 + 1; omega
    rw [en] at H
    rw [outsAt0_C m ct t (by omega) (by omega) h2 h3]
    frame_out
    match hh with
    | 0 =>
      simp only [canon10 (n := 128), canon0 (n := 128), rd0, rd1]
      exact lse_rows H.rows0 r x
    | 1 =>
      simp only [canon1 (n := 128), rd0, rd1]
      exact lse_rows' H.rows1 r x

omit hq hk hv hc in
theorem emb3 (t : Fin cfg0.N) (r : Fin 512) (x : Fin 128) : (win0_3.blk t).view.emb (ix2 r x) = ix2 (blk (iI t) r) (lane (pI t) x) := by
  blk_point [idx3 t, lane, pI, blk, iI]
omit hq hk hv hc in
theorem emb4 (t : Fin cfg0.N) (hh : Fin 2) (r : Fin 512) (x : Fin 128) : (win0_4.blk t).view.emb (ix3 hh r x) = ix3 (hd (pI t) hh) (blk (iI t) r) x := by
  blk_point [idx4 t, hd, pI, blk, iI]

/-- The array of outputs … -/
theorem o_arr : (dats m 0 ct).arrAt 3 cfg0.N = fun i : S2048x512.Idx => (O q k c v (i 0) (i 1) : EReal) := by
  refine Dat.arrAt_eq_of_covers (dats m 0 ct) 3 _ (by decide +kernel) fun t hf y => ?_
  blk_simp
  rw [after0_3]
  idx_vars y
  rw [emb3]
  exact out_last m ct hq hk hv hc t ((flush0_3 t).mp hf) y0 y1

/-- … and of log-sums. -/
theorem lse_arr : (dats m 0 ct).arrAt 4 cfg0.N = fun i : S8x2048x128.Idx => ((FoxMath.M q k c (i 0) (i 1) + Real.log (L q k c (i 0) (i 1)) : ℝ) : EReal) := by
  refine Dat.arrAt_eq_of_covers (dats m 0 ct) 4 _ (by decide +kernel) fun t hf y => ?_
  blk_simp
  rw [after0_4]
  idx_vars y
  rw [emb4]
  exact lse_last m ct hq hk hv hc t ((flush0_4 t).mp hf) y0 y1 y2

end Cert.FoxFwdIdeal.Hand
-- ==== Proof.FoxFwdRef.lean ====
/-
  The causal attention's forward call: the reference's composed terms on real arguments, buffer by buffer.
-/
module

public import proofs.«01_k».proof.Proof.FoxMath
public import proofs.«01_k».proof.Proof.Words
public import proofs.«01_k».proof.Proof.Gen.FoxFwdRefIdeal.Read

@[expose] public section

set_option maxRecDepth 16384

noncomputable section

namespace Cert.FoxFwdRefIdeal.Hand

open Cert.FoxFwdRefIdeal Cert.FoxFwdRefIdeal.Read Cert.FoxMath Idealize.ShloMosaic

variable (q k : S2048x512.Idx → ℝ) (c : S8x2048.Idx → ℝ) (v : S2048x512.Idx → ℝ) (h : Fin 8) (r l : Fin 2048) (d : Fin 64)

/-- An array cut into eight heads reads head `h`'s lane `d` at column `64 h + d`. -/
theorem heads (x : S2048x512.Idx → EReal) : val_main_v0 (F := Ideal) x (ix3 r h d) = x (ix2 r (col h d)) := by
  rw [val_main_v0_apply]
  refine congrArg x (funext fun a => Fin.ext ?_)
  match a with
  | ⟨0, _⟩ => change ((r.val * 8 + h.val) * 64 + d.val) / 512 = r.val; omega
  | ⟨1, _⟩ => change ((r.val * 8 + h.val) * 64 + d.val) % 512 = 64 * h.val + d.val; omega

/-- One eighth, by its f32 word. -/
theorem ofBits_eighth : Ideal.ofBits FTy.f32 1040187392#32 = ((1 / 8 : ℝ) : EReal) := by
  simp [Ideal.ofBits, Ideal.ieee, -EReal.coe_mul]; norm_num

/-- The scores … -/
theorem ref_s : val_main_v10 (F := Ideal) (up q) (up k) (up c) (ix3 h r l) = (S q k c h r l : EReal) := by
  pointwise [val_main_v10, val_main_v9, val_main_v8, val_main_v7, val_main_v6, val_main_v5, val_main_v4, val_main_v3, val_main_cst, val_main_v2]
  simp only [show val_main_v1 (F := Ideal) (up k) = val_main_v0 (up k) from rfl, heads, ofBits_eighth, ← EReal.coe_mul, Reals.sum_coe, ← EReal.coe_add, ← EReal.coe_sub]
  rfl

/-- … and the masked scores. -/
theorem ref_sc : val_main_v20 (F := Ideal) (up q) (up k) (up c) (ix3 h r l) = msc q k c h r l := by
  pointwise [val_main_v20, val_main_v18, val_main_v17, val_main_v16, val_main_v15, val_main_v14, val_main_v13, val_main_v12, val_main_v11, val_main_v19, val_main_cst_0, ref_s]
  rw [Words.sel_sge _ _ (by omega) (by omega), Reals.ofBits_bot]
  rfl

/-- The row maximum … -/
theorem ref_max : val_main_v21 (F := Ideal) (up q) (up k) (up c) (ix2 h r) = (M q k c h r : EReal) := by
  pointwise [val_main_v21, val_main_cst_1, ref_sc]
  rw [← fold_msc]
  exact congrArg (fun b => Finset.univ.fold max b (msc q k c h r)) Reals.ofBits_bot

/-- … and the same joined with −∞. -/
theorem ref_max' : val_main_v23 (F := Ideal) (up q) (up k) (up c) (ix2 h r) = (M q k c h r : EReal) := by
  rw [val_main_v23_apply, ref_max]
  change max (Ideal.ofBits FTy.f32 4286578688#32) _ = _
  rw [Reals.ofBits_bot]
  exact max_eq_right bot_le

/-- The exponentials, … -/
theorem ref_e : val_main_v27 (F := Ideal) (up q) (up k) (up c) (ix3 h r l) = (E q k c h r l : EReal) := by
  pointwise [val_main_v27, val_main_v26, val_main_v25, val_main_v24, ref_max', ref_sc]
  exact exp_msc q k c h r l

/-- … the row's sum … -/
theorem ref_sum : val_main_v28 (F := Ideal) (up q) (up k) (up c) (ix2 h r) = (L q k c h r : EReal) := by
  pointwise [val_main_v28, val_main_cst_3, ref_e]
  exact Reals.sum_coe _ _

/-- … and the weights. -/
theorem ref_w : val_main_v31 (F := Ideal) (up q) (up k) (up c) (ix3 h r l) = (W q k c h r l : EReal) := by
  pointwise [val_main_v31, val_main_v30, val_main_v29, ref_sum, ref_e]
  exact Reals.div_coe _ _ (L_pos q k c h r).ne'

/-- The output. -/
theorem ref_o (z : Fin 512) : val_main_v35 (F := Ideal) (up q) (up k) (up v) (up c) (ix2 r z) = (O q k c v r z : EReal) := by
  have i : idx_main_v35 (ix2 r z) = ix3 r ⟨z.val / 64, by omega⟩ ⟨z.val % 64, by omega⟩ := funext fun a => Fin.ext (by
    match a with
    | ⟨0, _⟩ => change (r.val * 512 + z.val) / 512 = r.val; omega
    | ⟨1, _⟩ => change (r.val * 512 + z.val) / 64 % 8 = z.val / 64; omega
    | ⟨2, _⟩ => change (r.val * 512 + z.val) % 64 = z.val % 64; omega)
  rw [val_main_v35_apply, i]
  pointwise [val_main_v34, val_main_v33, ref_w]
  simp only [show val_main_v32 (F := Ideal) (up v) = val_main_v0 (up v) from rfl, heads, ← EReal.coe_mul, Reals.sum_coe]
  have e : col ⟨z.val / 64, by omega⟩ ⟨z.val % 64, by omega⟩ = z := Fin.ext (Nat.div_add_mod z.val 64)
  rw [e]
  exact congrArg (fun x : ℝ => (x : EReal)) (Finset.sum_congr rfl fun i _ => mul_comm _ _)

/-- The maximum and the sum the log-sum is taken from … -/
theorem ref_top : val_main_v36 (F := Ideal) (up q) (up k) (up c) (ix2 h r) = (M q k c h r : EReal) := by
  pointwise [val_main_v36, val_main_cst_4, ref_sc]
  rw [← fold_msc]
  exact congrArg (fun b => Finset.univ.fold max b (msc q k c h r)) Reals.ofBits_bot

theorem ref_e' : val_main_v40 (F := Ideal) (up q) (up k) (up c) (ix3 h r l) = (E q k c h r l : EReal) := by
  pointwise [val_main_v40, val_main_v39, val_main_v38, val_main_v37, ref_top, ref_sc]
  exact exp_msc q k c h r l

theorem ref_sum' : val_main_v41 (F := Ideal) (up q) (up k) (up c) (ix2 h r) = (L q k c h r : EReal) := by
  pointwise [val_main_v41, val_main_cst_5, ref_e']
  exact Reals.sum_coe _ _

/-- … and the row's log-sum: its logarithm, … -/
theorem ref_log : val_main_v42 (F := Ideal) (up q) (up k) (up c) (ix2 h r) = (Real.log (L q k c h r) : EReal) := by
  rw [val_main_v42_apply, ref_sum']
  exact Reals.log_coe _ (L_pos q k c h r)

/-- … the maximum added, … -/
theorem ref_add : val_main_v43 (F := Ideal) (up q) (up k) (up c) (ix2 h r) = ((FoxMath.M q k c h r + Real.log (L q k c h r) : ℝ) : EReal) := by
  rw [val_main_v43_apply, ref_top, ref_log]
  exact (EReal.coe_add _ _).symm

/-- … on every lane. -/
theorem ref_lse (x : Fin 128) : val_main_v45 (F := Ideal) (up q) (up k) (up c) (ix3 h r x) = ((FoxMath.M q k c h r + Real.log (L q k c h r) : ℝ) : EReal) := by
  have i : idx_main_v44 (idx_main_v45 (ix3 h r x)) = ix2 h r := funext fun a => Fin.ext (by
    match a with
    | ⟨0, _⟩ => rfl
    | ⟨1, _⟩ => rfl)
  rw [val_main_v45_apply, val_main_v44_apply, i]
  exact ref_add q k c h r

end Cert.FoxFwdRefIdeal.Hand
-- ==== Proof.FoxFwdPair.lean ====
/-
  The causal attention's forward call: the pair. On real operands the kernel's outputs and log-sums are the reference's.
-/
module

public import proofs.«01_k».proof.Defs
public import proofs.«01_k».proof.Proof.Gen.FoxFwdIdeal.Value
public import proofs.«01_k».proof.Proof.Gen.FoxFwdRefIdeal.Run
public import proofs.«01_k».proof.Proof.Gen.FoxFwdRefIdeal.Read
public import proofs.«01_k».proof.Proof.Gen.Pre_fox_fwd_finite
public import Idealize.ShloMosaic.Lib.Pointwise
public import Idealize.ShloMosaic.Lib.Claim
public import Idealize.ShloMosaic.Lib.Quiescent
public import proofs.«01_k».proof.Proof.FoxFwdRef
public import proofs.«01_k».proof.Proof.FoxFwdValue

@[expose] public section

set_option maxRecDepth 16384

namespace Cert.FoxFwdIdeal.Hand

open Cert.FoxFwdIdeal Cert.FoxFwdIdeal.Gen Cert.FoxMath Idealize.ShloMosaic Idealize.ShloMosaic.TcCoe Idealize.SL.Sem

/-- The arguments the precondition admits are arrays of reals. -/
theorem args_real (m : (ℓ : Loc nD τ sig) → Buf (Elt Ideal) ℓ) (hpre : Cert.Pre_FoxFwdIdeal_fox_fwd_finite (hPre_fox_fwd_finite := Cert.Pre_fox_fwd_finite.Gen.facts) m) (c : Dev nD) :
    ∃ (q k v : S2048x512.Idx → ℝ) (b : S8x2048.Idx → ℝ),
      m ((c : Thread nD τ).loc main_arg0) = up q ∧ m ((c : Thread nD τ).loc main_arg1) = up k ∧ m ((c : Thread nD τ).loc main_arg2) = up v ∧
      m ((c : Thread nD τ).loc main_arg3) = up b := by
  obtain ⟨h0, h1, h2, h3⟩ := hpre c
  obtain ⟨q, hq⟩ := Reals.array_of_abs_lt fun i => by have := congrFun h0 i; pointwise [Pre_fox_fwd_finite.fn] at this; exact this
  obtain ⟨k, hk⟩ := Reals.array_of_abs_lt fun i => by have := congrFun h1 i; pointwise [Pre_fox_fwd_finite.fn] at this; exact this
  obtain ⟨v, hv⟩ := Reals.array_of_abs_lt fun i => by have := congrFun h2 i; pointwise [Pre_fox_fwd_finite.fn] at this; exact this
  obtain ⟨b, hb⟩ := Reals.array_of_abs_lt fun i => by have := congrFun h3 i; pointwise [Pre_fox_fwd_finite.fn] at this; exact this
  exact ⟨q, k, v, b, hq, hk, hv, hb⟩

set_option maxHeartbeats 4000000 in
/-- At `Ideal` the kernel's two results are the reference's, for real arguments. -/
theorem algebraic : Cert.algebraic_FoxFwdIdeal_FoxFwdRefIdeal_pre_fox_fwd_finite (hPre_fox_fwd_finite := Cert.Pre_fox_fwd_finite.Gen.facts) := by
  pair_intro
  · run_from (Cert.FoxFwdIdeal.Value.run_blocks m g)
  · refine θ_run_mono (Cert.FoxFwdRefIdeal.Value.run m' g') fun r hr c => ?_
    obtain ⟨q, k, v, b, hq, hk, hv, hb⟩ := args_real m hpre c
    obtain ⟨a0, a1, a2, a3⟩ := hagree c
    refine ⟨(hr c).1.trans (Eq.trans ?_ (o_arr m c hq hk hv hb).symm), (hr c).2.1.trans (Eq.trans ?_ (lse_arr m c hq hk hv hb).symm), (hr c).2.2⟩
    · rw [FoxFwdRefIdeal.Read.val_main_v35_eq, a0, a1, a2, a3, hq, hk, hv, hb]
      funext i
      idx_vars i
      exact Cert.FoxFwdRefIdeal.Hand.ref_o ..
    · rw [FoxFwdRefIdeal.Read.val_main_v45_eq, a0, a1, a3, hq, hk, hb]
      funext i
      idx_vars i
      exact Cert.FoxFwdRefIdeal.Hand.ref_lse ..

/-- The one constant named, the mask's, is `-∞` in the ideal program. -/
theorem preserves : Cert.preserves_FoxFwd_FoxFwdIdeal := IdealRules.named_const.statement Cert.FoxFwdIdeal.κ "mask" .f32 0xF149F2CA#32 ⊥ rfl

/-- The reference, host operations only, runs. -/
theorem frameRef : Cert.quiescent_FoxFwdRefIdeal := fun m g _ => θ_run_mono (Cert.FoxFwdRefIdeal.Value.run m g) fun _ h => ⟨fun c => (h c).2.2, sem_eq_zero_of_no_sems (by decide) _⟩

end Cert.FoxFwdIdeal.Hand
-- ==== Proof.NormFwdPair.lean ====
/-
  The norm's forward call: what the kernel's array holds, and the pair. Both sides are the same expression of the row, whatever it holds.
-/
module

public import proofs.«01_k».proof.Defs
public import proofs.«01_k».proof.Proof.Gen.NormFwdIdeal.Value
public import proofs.«01_k».proof.Proof.Gen.NormFwdRefIdeal.Run
public import proofs.«01_k».proof.Proof.Gen.NormFwdRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.NormFwdIdeal.Hand

open Cert.NormFwdIdeal Cert.NormFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx_rows : ∀ t : Fin grid0.N, win0_0.index t = ![t.val, 0] := by decide +kernel
theorem idx_gain : ∀ t : Fin grid0.N, win0_1.index t = ![0, 0] := by decide +kernel
theorem idx_out : ∀ t : Fin grid0.N, win0_2.index t = ![t.val, 0] := by decide +kernel

/-- Row `r` of block `t`. -/
abbrev row (t : Fin cfg0.N) (r : Fin 512) : Fin 2048 := ⟨512 * t.val + r.val, by have := t.isLt; have h : cfg0.N = 4 := N_0; omega⟩

theorem rows (t : Fin cfg0.N) (r : Fin 512) (l : Fin 1024) : iblk m c 0 t (ix2 r l) = m ((c : Thread nD τ).loc main_arg0) (ix2 (row t r) l) := by
  blk_point [iblk, V, idx_rows t]
theorem gain (t : Fin cfg0.N) (l : Fin 1024) : iblk m c 1 t (ix2 0 l) = m ((c : Thread nD τ).loc main_arg1) (ix1 l) := by
  blk_point [iblk, V, idx_gain t]
theorem emb (t : Fin cfg0.N) (r : Fin 512) (l : Fin 1024) : (win0_2.blk t).view.emb (ix2 r l) = ix2 (row t r) l := by
  blk_point [idx_out t]

theorem arr : (dats m 0 c).arrAt 2 cfg0.N = NormFwdRefIdeal.Read.val_main_v13 (m ((c : Thread nD τ).loc main_arg0)) (m ((c : Thread nD τ).loc main_arg1)) := by
  refine Dat.arrAt_eq_of_covers (dats m 0 c) 2 _ (by decide +kernel) fun t hf y => ?_
  blk_simp
  rw [after0_2]
  frame_out
  idx_vars y
  rw [emb]
  unfold_payloads
  pointwise [NormFwdRefIdeal.Read.val_main_v13, NormFwdRefIdeal.Read.val_main_v12, NormFwdRefIdeal.Read.val_main_v11, NormFwdRefIdeal.Read.val_main_v10, NormFwdRefIdeal.Read.val_main_v9, NormFwdRefIdeal.Read.val_main_v8, NormFwdRefIdeal.Read.val_main_v7, NormFwdRefIdeal.Read.val_main_v6, NormFwdRefIdeal.Read.val_main_v5, NormFwdRefIdeal.Read.val_main_v4, NormFwdRefIdeal.Read.val_main_v3, NormFwdRefIdeal.Read.val_main_v2, NormFwdRefIdeal.Read.val_main_v1, NormFwdRefIdeal.Read.val_main_v0, NormFwdRefIdeal.Read.val_main_cst, NormFwdRefIdeal.Read.val_main_cst_0, NormFwdRefIdeal.Read.val_main_cst_1]
  simp only [rows, gain]

/-- At `Ideal` the kernel's result is the reference's, whatever the arguments hold. -/
theorem algebraic : Cert.algebraic_NormFwdIdeal_NormFwdRefIdeal := by
  pair_intro
  · run_from (Cert.NormFwdIdeal.Value.run_blocks m g)
  · run_from (Cert.NormFwdRefIdeal.Value.run m' g')
    rw [arr, NormFwdRefIdeal.Read.val_main_v13_eq]

/-- The reference runs to the end, leaves its arguments as they were and every counter at zero. -/
theorem frameRef : Cert.quiescent_NormFwdRefIdeal :=
  fun m g _ => θ_run_mono (Cert.NormFwdRefIdeal.Value.run m g) fun _ h => ⟨fun c => (h c).2, sem_eq_zero_of_no_sems (by decide) _⟩

end Cert.NormFwdIdeal.Hand
-- ==== Proof.NormAddPair.lean ====
/-
  The norm's forward call, with the residual added: what the kernel's array holds, and the pair. Both sides are the same expression of the row, whatever it holds.
-/
module

public import proofs.«01_k».proof.Defs
public import proofs.«01_k».proof.Proof.Gen.NormAddIdeal.Value
public import proofs.«01_k».proof.Proof.Gen.NormAddRefIdeal.Run
public import proofs.«01_k».proof.Proof.Gen.NormAddRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.NormAddIdeal.Hand

open Cert.NormAddIdeal Cert.NormAddIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx_rows : ∀ t : Fin grid0.N, win0_1.index t = ![t.val, 0] := by decide +kernel
theorem idx_gain : ∀ t : Fin grid0.N, win0_2.index t = ![0, 0] := by decide +kernel
theorem idx_out : ∀ t : Fin grid0.N, win0_3.index t = ![t.val, 0] := by decide +kernel

/-- Row `r` of block `t`. -/
abbrev row (t : Fin cfg0.N) (r : Fin 512) : Fin 2048 := ⟨512 * t.val + r.val, by have := t.isLt; have h : cfg0.N = 4 := N_0; omega⟩

theorem rows (t : Fin cfg0.N) (r : Fin 512) (l : Fin 1024) : iblk m c 1 t (ix2 r l) = m ((c : Thread nD τ).loc main_arg1) (ix2 (row t r) l) := by
  blk_point [iblk, V, idx_rows t]
theorem gain (t : Fin cfg0.N) (l : Fin 1024) : iblk m c 2 t (ix2 0 l) = m ((c : Thread nD τ).loc main_arg2) (ix1 l) := by
  blk_point [iblk, V, idx_gain t]
theorem emb (t : Fin cfg0.N) (r : Fin 512) (l : Fin 1024) : (win0_3.blk t).view.emb (ix2 r l) = ix2 (row t r) l := by
  blk_point [idx_out t]
theorem idx_res : ∀ t : Fin grid0.N, win0_0.index t = ![t.val, 0] := by decide +kernel
theorem res (t : Fin cfg0.N) (r : Fin 512) (l : Fin 1024) : iblk m c 0 t (ix2 r l) = m ((c : Thread nD τ).loc main_arg0) (ix2 (row t r) l) := by
  blk_point [iblk, V, idx_res t]

theorem arr : (dats m 0 c).arrAt 3 cfg0.N = NormAddRefIdeal.Read.val_main_v13 (m ((c : Thread nD τ).loc main_arg0)) (m ((c : Thread nD τ).loc main_arg1)) (m ((c : Thread nD τ).loc main_arg2)) := by
  refine Dat.arrAt_eq_of_covers (dats m 0 c) 3 _ (by decide +kernel) fun t hf y => ?_
  blk_simp
  rw [after0_3]
  frame_out
  idx_vars y
  rw [emb]
  unfold_payloads
  pointwise [NormAddRefIdeal.Read.val_main_v13, NormAddRefIdeal.Read.val_main_v12, NormAddRefIdeal.Read.val_main_v11, NormAddRefIdeal.Read.val_main_v10, NormAddRefIdeal.Read.val_main_v9, NormAddRefIdeal.Read.val_main_v8, NormAddRefIdeal.Read.val_main_v7, NormAddRefIdeal.Read.val_main_v6, NormAddRefIdeal.Read.val_main_v5, NormAddRefIdeal.Read.val_main_v4, NormAddRefIdeal.Read.val_main_v3, NormAddRefIdeal.Read.val_main_v2, NormAddRefIdeal.Read.val_main_v1, NormAddRefIdeal.Read.val_main_v0, NormAddRefIdeal.Read.val_main_cst, NormAddRefIdeal.Read.val_main_cst_0, NormAddRefIdeal.Read.val_main_cst_1]
  simp only [rows, gain, res]

/-- At `Ideal` the kernel's result is the reference's, whatever the arguments hold. -/
theorem algebraic : Cert.algebraic_NormAddIdeal_NormAddRefIdeal := by
  pair_intro
  · run_from (Cert.NormAddIdeal.Value.run_blocks m g)
  · run_from (Cert.NormAddRefIdeal.Value.run m' g')
    rw [arr, NormAddRefIdeal.Read.val_main_v13_eq]

/-- The reference runs to the end, leaves its arguments as they were and every counter at zero. -/
theorem frameRef : Cert.quiescent_NormAddRefIdeal :=
  fun m g _ => θ_run_mono (Cert.NormAddRefIdeal.Value.run m g) fun _ h => ⟨fun c => (h c).2, sem_eq_zero_of_no_sems (by decide) _⟩

end Cert.NormAddIdeal.Hand
-- ==== Proof.SconvFwdPair.lean ====
/-
  The short convolution's forward call: what the kernel's array holds, and the pair.
-/
module

public import proofs.«01_k».proof.Defs
public import proofs.«01_k».proof.Proof.Gen.SconvFwdIdeal.Value
public import proofs.«01_k».proof.Proof.Gen.SconvFwdRefIdeal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt
public import proofs.«01_k».proof.Proof.Words

@[expose] public section

set_option maxRecDepth 16384

noncomputable section

namespace Cert.SconvFwdIdeal.Hand

open Cert.SconvFwdIdeal Cert.SconvFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product `c·u` shifted down `d` rows: zero in the first `d`. -/
def down (x : S2048x3080.Idx → EReal) (d : ℕ) (r : Fin 2048) (l : Fin 512) : EReal :=
  if d ≤ r.val then x (ix2 ⟨r.val - d, by omega⟩ ⟨2056 + l.val, by omega⟩) * x (ix2 ⟨r.val - d, by omega⟩ ⟨2568 + l.val, by omega⟩) else 0

/-- The gated convolution. -/
def gated (x : S2048x3080.Idx → EReal) (w : S3x512.Idx → EReal) : S2048x512.Idx → EReal := fun j =>
  x (ix2 (j 0) ⟨1544 + (j 1).val, by have := (j 1).isLt; change (j 1).val < 512 at this; omega⟩) *
    (w (ix2 2 (j 1)) * down x 0 (j 0) (j 1) + w (ix2 1 (j 1)) * down x 1 (j 0) (j 1) + w (ix2 0 (j 1)) * down x 2 (j 0) (j 1))

/-- Column `l` of chunk `t`. -/
abbrev col (t : Fin cfg0.N) (l : Fin 128) : Fin 512 := ⟨128 * t.val + l.val, by have := t.isLt; have h : cfg0.N = 4 := N_0; omega⟩

theorem idx0 : ∀ t : Fin grid0.N, win0_0.index t = ![0, 12 + t.val] := by decide +kernel
theorem idx1 : ∀ t : Fin grid0.N, win0_1.index t = ![0, 16 + t.val] := by decide +kernel
theorem idx2 : ∀ t : Fin grid0.N, win0_2.index t = ![0, 20 + t.val] := by decide +kernel
theorem idx3 : ∀ t : Fin grid0.N, win0_3.index t = ![0, t.val] := by decide +kernel
theorem idx4 : ∀ t : Fin grid0.N, win0_4.index t = ![0, t.val] := by decide +kernel

/-- The packed projection holds the three convolution groups from column 1536 on. -/
theorem packed (r : Fin 2048) (k : Fin 1536) : V m c main_v4 (ix2 r ⟨1536 + k.val, by omega⟩) = m ((c : Thread nD τ).loc main_arg0) (ix2 r ⟨1544 + k.val, by omega⟩) := by
  unfold V
  after_results_simp
  clean_types
  pointwise
  after_results_simp
  clean_types
  pointwise
theorem blk0 (t : Fin cfg0.N) (r : Fin 2048) (l : Fin 128) : iblk m c 0 t (ix2 r l) = m ((c : Thread nD τ).loc main_arg0) (ix2 r ⟨1544 + (col t l).val, by omega⟩) := by
  refine Eq.trans ?_ ((packed m c r ⟨0 + (col t l).val, by omega⟩).trans ?_)
  · blk_point [iblk, idx0 t]
  · blk_point
theorem blk1 (t : Fin cfg0.N) (r : Fin 2048) (l : Fin 128) : iblk m c 1 t (ix2 r l) = m ((c : Thread nD τ).loc main_arg0) (ix2 r ⟨2056 + (col t l).val, by omega⟩) := by
  refine Eq.trans ?_ ((packed m c r ⟨512 + (col t l).val, by omega⟩).trans ?_)
  · blk_point [iblk, idx1 t]
  · blk_point
theorem blk2 (t : Fin cfg0.N) (r : Fin 2048) (l : Fin 128) : iblk m c 2 t (ix2 r l) = m ((c : Thread nD τ).loc main_arg0) (ix2 r ⟨2568 + (col t l).val, by omega⟩) := by
  refine Eq.trans ?_ ((packed m c r ⟨1024 + (col t l).val, by omega⟩).trans ?_)
  · blk_point [iblk, idx2 t]
  · blk_point
theorem blk3 (t : Fin cfg0.N) (k : Fin 3) (l : Fin 128) : iblk m c 3 t (ix2 k l) = m ((c : Thread nD τ).loc main_arg1) (ix2 k (col t l)) := by
  blk_point [iblk, V, idx3 t]
theorem emb (t : Fin cfg0.N) (r : Fin 2048) (l : Fin 128) : (win0_4.blk t).view.emb (ix2 r l) = ix2 r (col t l) := by
  blk_point [idx4 t]

theorem arr : (dats m 0 c).arrAt 4 cfg0.N = gated (m ((c : Thread nD τ).loc main_arg0)) (m ((c : Thread nD τ).loc main_arg1)) := by
  refine Dat.arrAt_eq_of_covers (dats m 0 c) 4 _ (by decide +kernel) fun t hf y => ?_
  blk_simp
  rw [after0_4]
  frame_out
  idx_vars y
  unfold_payloads
  rw [emb]
  pointwise [gated, down]
  rw [Words.sel_sge _ 1 (by omega) (by omega), Words.sel_sge _ 2 (by omega) (by omega)]
  simp only [blk0, blk1, blk2, blk3]
  by_cases h1 : 1 ≤ y0.val <;> by_cases h2 : 2 ≤ y0.val <;> first | omega | simp only [if_pos, if_neg, h1, h2, not_false_eq_true, mul_zero]
  all_goals blk_point

/-- At `Ideal` the kernel's result is the reference's, whatever the arguments hold. -/
theorem algebraic : Cert.algebraic_SconvFwdIdeal_SconvFwdRefIdeal := by
  pair_intro
  · run_from (Cert.SconvFwdIdeal.Value.run_blocks m g)
  · run_from (Cert.SconvFwdRefIdeal.Value.run m' g')
    rw [arr]
    funext j
    idx_vars j
    pointwise [gated, down]
    refine Ideal.mul_congr rfl ((Words.add_rev _ _ _).trans ?_)
    by_cases h1 : 1 ≤ j0.val <;> by_cases h2 : 2 ≤ j0.val <;> first | omega | simp (disch := omega) only [dif_pos, dif_neg, if_pos, if_neg]
    all_goals blk_point

/-- The reference runs to the end, leaves its arguments as they were and every counter at zero. -/
theorem frameRef : Cert.quiescent_SconvFwdRefIdeal :=
  fun m g _ => θ_run_mono (Cert.SconvFwdRefIdeal.Value.run m g) fun _ h => ⟨fun c => (h c).2, sem_eq_zero_of_no_sems (by decide) _⟩

end Cert.SconvFwdIdeal.Hand
-- ==== Proof.LruConvFwdPair.lean ====
/-
  The recurrent block's convolution, forward: what the kernel's array holds, and the pair.
-/
module

public import proofs.«01_k».proof.Defs
public import proofs.«01_k».proof.Proof.Gen.LruConvFwdIdeal.Value
public import proofs.«01_k».proof.Proof.Gen.LruConvFwdRefIdeal.Run
public import Idealize.ShloMosaic.Lib.Pipeline.ValueKit
public import Idealize.ShloMosaic.Lib.Pointwise
public import Idealize.ShloMosaic.Lib.Claim
public import Idealize.ShloMosaic.Lib.Quiescent
public import proofs.«01_k».proof.Proof.Words

@[expose] public section

set_option maxRecDepth 16384

noncomputable section

namespace Cert.LruConvFwdIdeal.Hand

open Cert.LruConvFwdIdeal Cert.LruConvFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Row `r` of the convolved input shifted down `d` rows: zero in the first `d`. -/
def down (x : S2048x2048.Idx → EReal) (d : ℕ) (r : Fin 2048) (l : Fin 1024) : EReal :=
  if d ≤ r.val then x (ix2 ⟨r.val - d, by omega⟩ ⟨1024 + l.val, by omega⟩) else 0

/-- The four taps, oldest first, and the bias. -/
def taps (x : S2048x2048.Idx → EReal) (w : S4x1024.Idx → EReal) (b : S1024.Idx → EReal) (r : Fin 2048) (l : Fin 1024) : EReal :=
  w (ix2 0 l) * down x 3 r l + w (ix2 1 l) * down x 2 r l + w (ix2 2 l) * down x 1 r l + w (ix2 3 l) * down x 0 r l + b (ix1 l)

/-- Column `k` of group `n`. -/
abbrev group (n : Fin 4) (k : Fin 256) : Fin 1024 := ⟨256 * n.val + k.val, by omega⟩

theorem lt8 (t : Fin cfg0.N) : t.val < 8 := by have := t.isLt; have h : cfg0.N = 8 := N_0; omega

/-- Column `l` of chunk `t`. -/
abbrev col (t : Fin cfg0.N) (l : Fin 128) : Fin 1024 := ⟨128 * t.val + l.val, by have := lt8 t; omega⟩

theorem idx0 : ∀ t : Fin grid0.N, win0_0.index t = ![4 + t.val / 2, 0, t.val % 2] := by decide +kernel
theorem idx1 : ∀ t : Fin grid0.N, win0_1.index t = ![0, t.val] := by decide +kernel
theorem idx2 : ∀ t : Fin grid0.N, win0_2.index t = ![0, t.val] := by decide +kernel
theorem idx3 : ∀ t : Fin grid0.N, win0_3.index t = ![t.val / 2, 0, t.val % 2] := by decide +kernel

theorem blk0 (t : Fin cfg0.N) (r : Fin 2048) (l : Fin 128) :
    iblk m c 0 t (ix3 0 r l) = m ((c : Thread nD τ).loc main_arg0) (ix2 r ⟨1024 + (col t l).val, by have := lt8 t; omega⟩) := by
  have := lt8 t
  blk_point [iblk, V, idx0 t]
theorem blk1 (t : Fin cfg0.N) (k : Fin 4) (l : Fin 128) : iblk m c 1 t (ix2 k l) = m ((c : Thread nD τ).loc main_arg1) (ix2 k (col t l)) := by
  blk_point [iblk, V, idx1 t]
theorem blk2 (t : Fin cfg0.N) (l : Fin 128) : iblk m c 2 t (ix2 0 l) = m ((c : Thread nD τ).loc main_arg2) (ix1 (col t l)) := by
  blk_point [iblk, V, idx2 t]
theorem emb (t : Fin cfg0.N) (r : Fin 2048) (l : Fin 128) :
    (win0_3.blk t).view.emb (ix3 0 r l) = ix3 ⟨t.val / 2, by have := lt8 t; omega⟩ r ⟨128 * (t.val % 2) + l.val, by omega⟩ := by
  blk_point [idx3 t]

theorem add5 (b p q r s : EReal) : b + p + q + r + s = s + r + q + p + b := by abel

theorem arr : (dats m 0 c).arrAt 3 cfg0.N = fun j : S4x2048x256.Idx =>
    taps (m ((c : Thread nD τ).loc main_arg0)) (m ((c : Thread nD τ).loc main_arg1)) (m ((c : Thread nD τ).loc main_arg2)) (j 1) (group (j 0) (j 2)) := by
  refine Dat.arrAt_eq_of_covers (dats m 0 c) 3 _ (by decide +kernel) fun t hf y => ?_
  blk_simp
  rw [after0_3]
  frame_out
  idx_vars y
  unfold_payloads
  obtain rfl : y0 = 0 := Subsingleton.elim _ _
  rw [emb]
  have e : group ⟨t.val / 2, by have := lt8 t; omega⟩ ⟨128 * (t.val % 2) + y2.val, by omega⟩ = col t y2 := Fin.ext (by change 256 * (t.val / 2) + (128 * (t.val % 2) + y2.val) = 128 * t.val + y2.val; omega)
  change _ = taps _ _ _ y1 (group ⟨t.val / 2, by have := lt8 t; omega⟩ ⟨128 * (t.val % 2) + y2.val, by omega⟩)
  rw [e]
  pointwise [taps, down]
  rw [Words.sel_sge _ 1 (by omega) (by omega), Words.sel_sge _ 2 (by omega) (by omega), Words.sel_sge _ 3 (by omega) (by omega)]
  simp only [blk0, blk1, blk2]
  refine (add5 _ _ _ _ _).trans ?_
  by_cases h1 : 1 ≤ y1.val <;> by_cases h2 : 2 ≤ y1.val <;> by_cases h3 : 3 ≤ y1.val <;>
    first | omega | simp (disch := omega) only [if_pos, if_neg, mul_zero]
  all_goals blk_point

/-- At `Ideal` the kernel's result is the reference's, whatever the arguments hold. -/
theorem algebraic : Cert.algebraic_LruConvFwdIdeal_LruConvFwdRefIdeal := by
  pair_intro
  · run_from (Cert.LruConvFwdIdeal.Value.run_blocks m g)
  · run_from (Cert.LruConvFwdRefIdeal.Value.run m' g')
    rw [arr]
    funext j
    idx_vars j
    pointwise [taps, down]
    by_cases h1 : 1 ≤ j1.val <;> by_cases h2 : 2 ≤ j1.val <;> by_cases h3 : 3 ≤ j1.val <;>
      first | omega | simp (disch := omega) only [dif_pos, dif_neg, if_pos, if_neg]
    all_goals blk_point

/-- The reference runs to the end, leaves its arguments as they were and every counter at zero. -/
theorem frameRef : Cert.quiescent_LruConvFwdRefIdeal :=
  fun m g _ => θ_run_mono (Cert.LruConvFwdRefIdeal.Value.run m g) fun _ h => ⟨fun c => (h c).2, sem_eq_zero_of_no_sems (by decide) _⟩

end Cert.LruConvFwdIdeal.Hand
-- ==== Proof.FfnUpPair.lean ====
/-
  SwiGLU's forward call, two products fused with the gate: what the kernel's two arrays hold, and the pair. Both sides are the same sums of products,
  whatever the arguments hold.
-/
module

public import proofs.«01_k».proof.Defs
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt
public import proofs.«01_k».proof.Proof.Reals

@[expose] public section

set_option maxRecDepth 16384

noncomputable section

namespace Cert.FfnUpIdeal.Hand

open Cert.FfnUpIdeal Cert.FfnUpIdeal.Gen Idealize.ShloMosaic Idealize.ShloMosaic.TcCoe Idealize.SL.Sem
open Idealize.ShloMosaic.Pipeline (Dat)

/-- Feature `f` of shard `j` of the gate (`p = 0`) or of the other factor (`p = 1`), among the weight's columns. -/
abbrev colW (p : Fin 2) (j : Fin 4) (f : Fin 704) : Fin 5632 := ⟨2816 * p.val + (704 * j.val + f.val), by omega⟩

/-- A product's entry: row `r` with that column. -/
def prod (h : S2048x1024.Idx → EReal) (w : S1024x5632.Idx → EReal) (p : Fin 2) (j : Fin 4) (r : Fin 2048) (f : Fin 704) : EReal :=
  ∑ k : Fin 1024, h (ix2 r k) * w (ix2 k (colW p j f))

/-- The gated entry. -/
def act (h : S2048x1024.Idx → EReal) (w : S1024x5632.Idx → EReal) (j : Fin 4) (r : Fin 2048) (f : Fin 704) : EReal :=
  prod h w 0 j r f * Ideal.div 1 (1 + Ideal.exp (-prod h w 0 j r f)) * prod h w 1 j r f

variable (m : (ℓ : Loc nD τ sig) → Buf (Elt Ideal) ℓ) (ct : Dev nD)

theorem idx0 : ∀ t : Fin grid0.N, win0_0.index t = ![t.val % 2, 0] := by decide +kernel
theorem idx1 : ∀ t : Fin grid0.N, win0_1.index t = ![0, t.val / 2, 0, 0] := by decide +kernel
theorem idx2 : ∀ t : Fin grid0.N, win0_2.index t = ![0, t.val / 2, t.val % 2, 0] := by decide +kernel
theorem idx3 : ∀ t : Fin grid0.N, win0_3.index t = ![t.val / 2, t.val % 2, 0] := by decide +kernel

theorem lt8 (t : Fin cfg0.N) : t.val < 8 := by have := t.isLt; have h : cfg0.N = 8 := N_0; omega

/-- Row `r` of the point's block of rows. -/
abbrev row (t : Fin cfg0.N) (r : Fin 1024) : Fin 2048 := ⟨1024 * (t.val % 2) + r.val, by omega⟩

/-- The point's shard of features. -/
abbrev shard (t : Fin cfg0.N) : Fin 4 := ⟨t.val / 2, by have := lt8 t; omega⟩

theorem emb0 (t : Fin cfg0.N) (r k : Fin 1024) : (win0_0.blk t).view.emb (ix2 r k) = ix2 (row t r) k := by blk_point [idx0 t]
theorem emb1 (t : Fin cfg0.N) (p : Fin 2) (f : Fin 704) (k : Fin 1024) : (win0_1.blk t).view.emb (ix4 p 0 f k) = ix4 p (shard t) f k := by blk_point [idx1 t]
theorem emb2 (t : Fin cfg0.N) (p : Fin 2) (r : Fin 1024) (f : Fin 704) : (win0_2.blk t).view.emb (ix4 p 0 r f) = ix4 p (shard t) (row t r) f := by blk_point [idx2 t]
theorem emb3 (t : Fin cfg0.N) (r : Fin 1024) (f : Fin 704) : (win0_3.blk t).view.emb (ix3 0 r f) = ix3 (shard t) (row t r) f := by blk_point [idx3 t]

/-- The rows … -/
theorem host0 (r : Fin 2048) (k : Fin 1024) : V m ct main_v0 (ix2 r k) = m ((ct : Thread nD τ).loc main_arg0) (ix2 r k) := by
  unfold V
  after_reads_at
/-- … and the weight's shards. -/
theorem host1 (p : Fin 2) (j : Fin 4) (f : Fin 704) (k : Fin 1024) : V m ct main_v3 (ix4 p j f k) = m ((ct : Thread nD τ).loc main_arg1) (ix2 k (colW p j f)) := by
  unfold V
  after_reads_at
  pointwise
  blk_point

/-- The point's rows … -/
theorem blk0 (t : Fin cfg0.N) (r k : Fin 1024) : iblk m ct 0 t (ix2 r k) = m ((ct : Thread nD τ).loc main_arg0) (ix2 (row t r) k) :=
  (congrArg (V m ct main_v0) (emb0 t r k)).trans (host0 m ct _ _)
/-- … and the weights of its shard. -/
theorem blk1 (t : Fin cfg0.N) (p : Fin 2) (f : Fin 704) (k : Fin 1024) : iblk m ct 1 t (ix4 p 0 f k) = m ((ct : Thread nD τ).loc main_arg1) (ix2 k (colW p (shard t) f)) :=
  (congrArg (V m ct main_v3) (emb1 t p f k)).trans (host1 m ct _ _ _ _)

theorem gate_pt (t : Fin cfg0.N) (r : Fin 1024) (f : Fin 704) : k0_pay4 (iblk m ct 0 t) (View.ld (iblk m ct 1 t) r0_1) (ix4 0 0 r f) =
    prod (m ((ct : Thread nD τ).loc main_arg0)) (m ((ct : Thread nD τ).loc main_arg1)) 0 (shard t) (row t r) f := by
  unfold_payloads
  pointwise [prod]
  simp only [blk0, blk1]
theorem up_pt (t : Fin cfg0.N) (r : Fin 1024) (f : Fin 704) : k0_pay5 (iblk m ct 0 t) (View.ld (iblk m ct 1 t) r0_2) (ix4 0 0 r f) =
    prod (m ((ct : Thread nD τ).loc main_arg0)) (m ((ct : Thread nD τ).loc main_arg1)) 1 (shard t) (row t r) f := by
  unfold_payloads
  pointwise [prod]
  simp only [blk0, blk1]
theorem act_pt (t : Fin cfg0.N) (r : Fin 1024) (f : Fin 704) :
    k0_pay6 (iblk m ct 0 t) (View.ld (iblk m ct 1 t) r0_1) (View.ld (iblk m ct 1 t) r0_2) (ix3 0 r f) =
    act (m ((ct : Thread nD τ).loc main_arg0)) (m ((ct : Thread nD τ).loc main_arg1)) (shard t) (row t r) f := by
  unfold_payloads
  pointwise [act, prod]
  simp only [blk0, blk1]
  rfl

/-- The array of the two products … -/
theorem gu_arr : (dats m 0 ct).arrAt 2 cfg0.N = fun i : S2x4x2048x704.Idx => prod (m ((ct : Thread nD τ).loc main_arg0)) (m ((ct : Thread nD τ).loc main_arg1)) (i 0) (i 1) (i 2) (i 3) := by
  refine Dat.arrAt_eq_of_covers (dats m 0 ct) 2 _ (by decide +kernel) fun t hf y => ?_
  blk_simp
  rw [after0_2]
  have e (p : Fin 2) (r : Fin 1024) (f : Fin 704) (hy : y = ix4 p 0 r f) : prod (m ((ct : Thread nD τ).loc main_arg0)) (m ((ct : Thread nD τ).loc main_arg1)) p (shard t) (row t r) f =
      (fun i : S2x4x2048x704.Idx => prod (m ((ct : Thread nD τ).loc main_arg0)) (m ((ct : Thread nD τ).loc main_arg1)) (i 0) (i 1) (i 2) (i 3)) ((win0_2.blk t).view.emb y) := by
    rw [hy, emb2]
    rfl
  frame_out
  canon_tiles y h
  · idx_vars y
    obtain rfl : y0 = 0 := Subsingleton.elim _ _
    obtain rfl : y1 = 0 := Subsingleton.elim _ _
    refine (up_pt m ct t y2 y3).trans (e 1 y2 y3 ?_)
    funext a
    exact Fin.ext (match a with
      | 0 => by simpa using h0
      | 1 => by simpa using h1
      | 2 => h2
      | 3 => h3)
  · idx_vars y
    obtain rfl : y0 = 0 := Subsingleton.elim _ _
    obtain rfl : y1 = 0 := Subsingleton.elim _ _
    refine (gate_pt m ct t y2 y3).trans (e 0 y2 y3 ?_)
    funext a
    exact Fin.ext (match a with
      | 0 => by simpa using h0
      | 1 => by simpa using h1
      | 2 => h2
      | 3 => h3)

/-- … and of the gated entries. -/
theorem a_arr : (dats m 0 ct).arrAt 3 cfg0.N = fun i : S4x2048x704.Idx => act (m ((ct : Thread nD τ).loc main_arg0)) (m ((ct : Thread nD τ).loc main_arg1)) (i 0) (i 1) (i 2) := by
  refine Dat.arrAt_eq_of_covers (dats m 0 ct) 3 _ (by decide +kernel) fun t hf y => ?_
  blk_simp
  rw [after0_3]
  frame_out
  idx_vars y
  obtain rfl : y0 = 0 := Subsingleton.elim _ _
  rw [emb3]
  exact act_pt m ct t y1 y2

end Cert.FfnUpIdeal.Hand

namespace Cert.FfnUpRefIdeal.Hand

open Cert.FfnUpRefIdeal Cert.FfnUpRefIdeal.Gen Cert.FfnUpRefIdeal.Read Idealize.ShloMosaic
open Cert.FfnUpIdeal.Hand (colW prod act)

variable (h : S2048x1024.Idx → EReal) (w : S1024x5632.Idx → EReal) (j : Fin 4) (r : Fin 2048) (f : Fin 704)

theorem ref_g (x : Fin 2816) (hx : x.val = 704 * j.val + f.val) : val_main_v1 (F := Ideal) h w (ix2 r x) = prod h w 0 j r f := by
  pointwise [val_main_v1, val_main_v0, prod]
  refine Finset.sum_congr rfl fun k _ => ?_
  blk_point
theorem ref_u (x : Fin 2816) (hx : x.val = 704 * j.val + f.val) : val_main_v2 (F := Ideal) h w (ix2 r x) = prod h w 1 j r f := by
  pointwise [val_main_v2, val_main_v0, prod]
  refine Finset.sum_congr rfl fun k _ => ?_
  blk_point

theorem ref_a : val_main_v16 (F := Ideal) h w (ix3 j r f) = act h w j r f := by
  have e : idx_main_v15 (idx_main_v16 (ix3 j r f)) = ix2 r ⟨704 * j.val + f.val, by omega⟩ := by
    funext a
    exact Fin.ext (match a with
      | 0 => by simp [idx_main_v15, idx_main_v16]; omega
      | 1 => by simp [idx_main_v15, idx_main_v16]; omega)
  rw [val_main_v16_apply, val_main_v15_apply, e]
  pointwise [val_main_v14, val_main_v13, val_main_v12, val_main_call0_v5, val_main_call0_v4, val_main_call0_v3, val_main_call0_v2, val_main_call0_v1, val_main_call0_v0, val_main_call0_cst, val_main_call0_cst_0]
  rw [ref_g h w j r f, ref_u h w j r f]
  · rfl
  · rfl
  · rfl

theorem ref_gu (p : Fin 2) : val_main_v11 (F := Ideal) h w (ix4 p j r f) = prod h w p j r f := by
  fin_cases p
  · pointwise [val_main_v11, val_main_v9, val_main_v5, val_main_v4, val_main_v3]
    exact ref_g h w j r f _ (congrArg (· + f.val) (Nat.mul_comm ..))
  · pointwise [val_main_v11, val_main_v10, val_main_v8, val_main_v7, val_main_v6]
    exact ref_u h w j r f _ (congrArg (· + f.val) (Nat.mul_comm ..))

end Cert.FfnUpRefIdeal.Hand

namespace Cert.FfnUpIdeal.Hand

open Cert.FfnUpIdeal Cert.FfnUpIdeal.Gen Idealize.ShloMosaic Idealize.ShloMosaic.TcCoe Idealize.SL.Sem

/-- At `Ideal` the kernel's two results are the reference's, whatever the arguments hold. -/
theorem algebraic : Cert.algebraic_FfnUpIdeal_FfnUpRefIdeal := by
  pair_intro
  · run_from (Cert.FfnUpIdeal.Value.run_blocks m g)
  · run_from (Cert.FfnUpRefIdeal.Value.run m' g')
    · rw [gu_arr, FfnUpRefIdeal.Read.val_main_v11_eq]
      funext i
      idx_vars i
      exact Cert.FfnUpRefIdeal.Hand.ref_gu ..
    · rw [a_arr, FfnUpRefIdeal.Read.val_main_v16_eq]
      funext i
      idx_vars i
      exact Cert.FfnUpRefIdeal.Hand.ref_a ..

/-- The reference runs to the end, leaves its arguments as they were and every counter at zero. -/
theorem frameRef : Cert.quiescent_FfnUpRefIdeal :=
  fun m g _ => θ_run_mono (Cert.FfnUpRefIdeal.Value.run m g) fun _ h => ⟨fun c => (h c).2.2, sem_eq_zero_of_no_sems (by decide) _⟩

end Cert.FfnUpIdeal.Hand
-- ==== Proof.FoxCumMath.lean ====
/-
  Sums from the left, by doubling steps inside a chunk and chunk by chunk, and the logarithm of the logistic function in its two forms.
-/
module

public import Idealize.ShloMosaic.Lib.Pointwise
public import proofs.«01_k».proof.Proof.DlogfMath

@[expose] public section

noncomputable section

namespace Cert.FoxCumMath

open Idealize.ShloMosaic Cert.DlogfMath

section
variable {M : Type*} [AddCommMonoid M]

/-- The sum of the last `m` entries up to `n`, of those there are. -/
def win (m : ℕ) (Z : ℕ → M) (n : ℕ) : M := ∑ j ∈ Finset.range m, if j ≤ n then Z (n - j) else 0

theorem win_one (Z : ℕ → M) (n : ℕ) : win 1 Z n = Z n := by simp [win]

/-- Two neighbouring sums make one. -/
theorem win_add (a b : ℕ) (Z : ℕ → M) (n : ℕ) : win (a + b) Z n = win a Z n + if a ≤ n then win b Z (n - a) else 0 := by
  unfold win
  rw [Finset.sum_range_add]
  refine congrArg _ ?_
  split
  · refine Finset.sum_congr rfl fun j _ => ?_
    by_cases h : a + j ≤ n
    · rw [if_pos h, if_pos (by omega), Nat.sub_sub]
    · rw [if_neg h, if_neg (by omega)]
  · exact Finset.sum_eq_zero fun j _ => if_neg (by omega)

/-- The sum of the first `n` entries. -/
def pre (Z : ℕ → M) (n : ℕ) : M := ∑ j ∈ Finset.range n, Z j

/-- A window that reaches past the first entry. -/
theorem win_all {m n : ℕ} (h : n < m) (Z : ℕ → M) : win m Z n = pre Z (n + 1) := by
  obtain ⟨k, rfl⟩ : ∃ k, m = n + 1 + k := ⟨m - (n + 1), by omega⟩
  rw [win_add, if_neg (by omega), add_zero, pre, ← Finset.sum_range_reflect]
  refine Finset.sum_congr rfl fun j hj => ?_
  have := Finset.mem_range.mp hj
  rw [if_pos (by omega), Nat.add_sub_cancel]

theorem pre_add (Z : ℕ → M) (a b : ℕ) : pre Z (a + b) = pre Z a + pre (fun n => Z (a + n)) b := Finset.sum_range_add _ _ _
end

/-- The logarithm of the logistic function. -/
def logSig (z : EReal) : EReal := min z 0 - Ideal.log1p (Ideal.exp (0 - max z (-z)))

theorem logSig_eq (z : EReal) : logSig z = -softplus (-z) := by
  induction z using EReal.rec with
  | bot => simp [logSig, softplus, Ideal.log1p, log_one]
  | top => simp [logSig, softplus, Ideal.log1p, log_one]
  | coe r =>
    have h : max (r : EReal) (-(r : EReal)) = ((max r (-r) : ℝ) : EReal) := by rw [← EReal.coe_neg, ← EReal.coe_strictMono.monotone.map_max]
    have h0 : min (r : EReal) 0 = ((min r 0 : ℝ) : EReal) := by rw [← EReal.coe_zero, ← EReal.coe_strictMono.monotone.map_min]
    rw [← EReal.coe_neg, softplus_coe, logSig, Ideal.log1p, h, h0, zero_sub, ← EReal.coe_neg, Reals.exp_coe, ← EReal.coe_one, ← EReal.coe_add,
      Reals.log_coe _ (by positivity), ← EReal.coe_sub, ← EReal.coe_neg]
    refine congrArg _ ?_
    rcases le_total 0 r with hr | hr
    · rw [min_eq_right hr, max_eq_left (by linarith), zero_sub]
    · rw [min_eq_left hr, max_eq_right (by linarith), neg_neg]
      have e : 1 + Real.exp (-r) = Real.exp (-r) * (1 + Real.exp r) := by rw [mul_add, ← Real.exp_add]; simp [add_comm]
      rw [e, Real.log_mul (Real.exp_pos _).ne' (by positivity), Real.log_exp]
      ring

end Cert.FoxCumMath
-- ==== Proof.FoxCumValue.lean ====
/-
  The cumulated log forget gates: what the kernel's array holds.
-/
module

public import proofs.«01_k».proof.Defs
public import proofs.«01_k».proof.Proof.Gen.FoxCumIdeal.Value
public import Idealize.ShloMosaic.Lib.Pipeline.ValueKit
public import Idealize.ShloMosaic.Lib.Pointwise
public import Idealize.ShloMosaic.Lib.KernelVsHost
public import Idealize.ShloMosaic.Lib.StableHlo.ReadAt
public import proofs.«01_k».proof.Proof.FoxCumMath
public import proofs.«01_k».proof.Proof.Words

@[expose] public section

set_option maxRecDepth 16384

noncomputable section

namespace Cert.FoxCumIdeal.Hand

open Cert.FoxCumIdeal Cert.FoxCumIdeal.Gen Cert.FoxCumMath Idealize.ShloMosaic Idealize.ShloMosaic.TcCoe Idealize.SL.Sem
open Idealize.ShloMosaic.Pipeline (Dat)

/-- One doubling step: each lane takes up what lies `s` lanes to its left. -/
def step (s : BitVec 32) (v : FVec Ideal S8x128 .f32) : FVec Ideal S8x128 .f32 :=
  addf v (select (cmpi .sge (iota .tc S8x128 32 [1] iota_S8x128_d1_w32) (broadcast S8x128 s)) (dynamicRotate 1 s none v rotates_S8x128_d1) (broadcast S8x128 (Scalar.ofBits .f32 0x00000000#32)))

/-- The seven steps. -/
def scan (v : FVec Ideal S8x128 .f32) : FVec Ideal S8x128 .f32 := step 64#32 (step 32#32 (step 16#32 (step 8#32 (step 4#32 (step 2#32 (step 1#32 v))))))

/-- The lanes of a chunk. -/
abbrev rct (c : Fin 16) : Rect S8x2048 := Rect.unit (s := S8x2048) ![0, 128 * c.val] S8x128.size (by
  intro a
  match a with
  | 0 => exact Nat.le_refl 8
  | 1 => show 128 * c.val + 128 ≤ 2048; omega)

/-- The chunk the kernel takes up after `n` others. -/
abbrev nth (n : ℕ) : Fin 16 := Fin.ofNat 16 n

variable (f : Vec Ideal S8x2048 .f32) (b : Vec Ideal S8x128 .f32)

/-- The log gates of a chunk. -/
def gates (n : ℕ) : FVec Ideal S8x128 .f32 := k0_pay3 (View.ld f (rct (nth n))) (View.ld b r0_1)

/-- What the kernel carries from the chunks done. -/
def carry : ℕ → FVec Ideal S8x1 .f32
  | 0 => k0_pay2
  | n + 1 => k0_pay7 (carry n) (gates f b n)

/-- The chunk's result. -/
def res (n : ℕ) : FVec Ideal S8x128 .f32 := addf (scan (gates f b n)) (broadcastTo S8x128 (carry f b n) broadcasts_S8x1_S8x128)

/-- The stores of the chunks done, the last one first. -/
def stores : ℕ → List (View.Piece (Elt Ideal) S8x2048 .f32)
  | 0 => []
  | n + 1 => ⟨rct (nth n), res f b n⟩ :: stores n

/-- The buffer, by its stores. -/
theorem out2_eq : out0_2 f b = View.canon (stores f b 16) := rfl

section
/-- Every lane holds the sum of the last `m` entries of its chunk, up to its own. -/
def Holds (v : FVec Ideal S8x128 .f32) (Z : Fin 8 → ℕ → EReal) (o m : ℕ) : Prop := ∀ (h : Fin 8) (l : Fin 128), v (ix2 h l) = win m (fun n => Z h (o + n)) l.val

theorem step_holds {v : FVec Ideal S8x128 .f32} {Z : Fin 8 → ℕ → EReal} {o m : ℕ} (hv : Holds v Z o m) (hs : m < 128) : Holds (step (BitVec.ofNat 32 m) v) Z o (m + m) := by
  intro h l
  have e : (BitVec.ofNat 32 m).toNat = m := by rw [BitVec.toNat_ofNat]; exact Nat.mod_eq_of_lt (by omega)
  have key : step (BitVec.ofNat 32 m) v (ix2 h l) = v (ix2 h l) + if m ≤ l.val then dynamicRotate 1 (BitVec.ofNat 32 m) none v rotates_S8x128_d1 (ix2 h l) else 0 := by
    unfold step
    generalize dynamicRotate 1 (BitVec.ofNat 32 m) none v rotates_S8x128_d1 = y
    pointwise
    rw [Words.sel_sge _ _ (by omega) (by omega)]
  rw [key, hv h l, win_add]
  refine congrArg _ ?_
  split
  · rw [dynamicRotate_apply 1 _ v _ (ix2 h l) (ix2 h ⟨l.val - m, by omega⟩) (fun b => match b with
      | 0 => rfl
      | 1 => by simp [e]; omega), hv]
  · rfl

/-- The seven steps sum the chunk from its left end. -/
theorem scan_holds {v : FVec Ideal S8x128 .f32} {Z : Fin 8 → ℕ → EReal} {o : ℕ} (hv : Holds v Z o 1) : Holds (scan v) Z o 128 :=
  step_holds (m := 64) (step_holds (m := 32) (step_holds (m := 16) (step_holds (m := 8) (step_holds (m := 4) (step_holds (m := 2) (step_holds (m := 1) hv
    (by omega)) (by omega)) (by omega)) (by omega)) (by omega)) (by omega)) (by omega)
end

theorem ld_rct (x : Vec Ideal S8x2048 .f32) (c : Fin 16) (h : Fin 8) (l : Fin 128) : View.ld x (rct c) (ix2 h l) = x (ix2 h ⟨128 * c.val + l.val, by omega⟩) :=
  congrArg x (funext fun a => Fin.ext (match a with
    | 0 => by simp [rct, LoadRect.idx_apply, Rect.unit]
    | 1 => by simp [rct, LoadRect.idx_apply, Rect.unit]))

theorem ld_all (h : Fin 8) (l : Fin 128) : View.ld b r0_1 (ix2 h l) = b (ix2 h l) :=
  congrArg b (funext fun a => Fin.ext (match a with
    | 0 => by simp [LoadRect.idx_apply, Rect.unit]
    | 1 => by simp [LoadRect.idx_apply, Rect.unit]))

theorem pay3_pt (x y : Vec Ideal S8x128 .f32) (h : Fin 8) (l : Fin 128) : k0_pay3 x y (ix2 h l) = logSig (x (ix2 h l) + y (ix2 h l)) := by
  unfold k0_pay3
  pointwise [logSig]
  rfl

/-- A row of log gates, zero past its end. -/
def row (f : Vec Ideal S8x2048 .f32) (g : Fin 8 → EReal) (h : Fin 8) (n : ℕ) : EReal := if hn : n < 2048 then logSig (f (ix2 h ⟨n, hn⟩) + g h) else 0

variable {b} {g : Fin 8 → EReal} (hb : ∀ h l, b (ix2 h l) = g h)
include hb

theorem gates_eq (n : ℕ) (hn : n < 16) (h : Fin 8) (l : Fin 128) : gates f b n (ix2 h l) = row f g h (128 * n + l.val) := by
  have e : (nth n).val = n := Nat.mod_eq_of_lt hn
  unfold gates row
  rw [pay3_pt, ld_rct, ld_all, hb, dif_pos (by omega)]
  simp only [e]

theorem carry_eq : ∀ n ≤ 16, ∀ h, carry f b n (ix2 h 0) = pre (row f g h) (128 * n)
  | 0, _, h => by
    unfold carry k0_pay2 pre
    pointwise
    simp
  | n + 1, hn, h => by
    rw [carry, Nat.mul_add, pre_add, ← carry_eq n (by omega) h]
    unfold k0_pay7
    generalize carry f b n = c
    have hv := gates_eq f hb n (by omega)
    generalize gates f b n = v at hv ⊢
    pointwise
    refine congrArg _ ?_
    rw [pre, Finset.sum_range]
    exact Finset.sum_congr rfl fun l _ => hv h l

theorem res_eq (n : ℕ) (hn : n < 16) (h : Fin 8) (l : Fin 128) : res f b n (ix2 h l) = pre (row f g h) (128 * n + l.val + 1) := by
  have hs : scan (gates f b n) (ix2 h l) = win 128 (fun k => row f g h (128 * n + k)) l.val :=
    scan_holds (Z := row f g) (fun h l => by rw [gates_eq f hb n hn, win_one]) h l
  have hc := carry_eq f hb n (by omega) h
  unfold res
  generalize scan (gates f b n) = y at hs ⊢
  generalize carry f b n = c at hc ⊢
  pointwise
  rw [hs, hc, win_all l.isLt, Nat.add_assoc, pre_add _ (128 * n), add_comm]

/-- The chunks done, each at its lanes. -/
theorem stores_eq : ∀ n ≤ 16, ∀ (h : Fin 8) (y : Fin 2048), y.val < 128 * n → View.canon (stores f b n) (ix2 h y) = pre (row f g h) (y.val + 1)
  | 0, _, h, y, hy => by omega
  | n + 1, hn, h, y, hy => by
    have e : (nth n).val = n := Nat.mod_eq_of_lt hn
    rw [stores]
    by_cases hy' : y.val < 128 * n
    · rw [View.canon_cons_of_not_mem _ _ (fun hm => ?_)]
      · exact stores_eq n (by omega) h y hy'
      · obtain ⟨j, hj, hj'⟩ := ((rct (nth n)).mem_set.mp hm) 1
        have h2 : y.val = 128 * (nth n).val + 1 * j := hj'
        omega
    · have e' : ix2 h y = (rct (nth n)).emb (ix2 h ⟨y.val - 128 * n, by omega⟩ : S8x128.Idx) :=
        funext fun a => Fin.ext (match a with
          | 0 => by simp [rct, Rect.emb, LoadRect.idx_apply, Rect.unit]
          | 1 => by simp [rct, Rect.emb, LoadRect.idx_apply, Rect.unit]; omega)
      rw [e', View.canon_cons_emb]
      refine (res_eq f hb n (by omega) h _).trans ?_
      rw [show 128 * n + (y.val - 128 * n) = y.val by omega]

omit hb
section
variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel

theorem emb0 (t : Fin cfg0.N) (h : Fin 8) (l : Fin 2048) : (win0_0.blk t).view.emb (ix2 h l) = ix2 h l := by blk_point [idx0 t]
theorem emb1 (t : Fin cfg0.N) (h : Fin 8) (l : Fin 128) : (win0_1.blk t).view.emb (ix2 h l) = ix2 h l := by blk_point [idx1 t]
theorem emb2 (t : Fin cfg0.N) (h : Fin 8) (l : Fin 2048) : (win0_2.blk t).view.emb (ix2 h l) = ix2 h l := by blk_point [idx2 t]

theorem host0 (h : Fin 8) (l : Fin 2048) : V m c main_v0 (ix2 h l) = m ((c : Thread nD τ).loc main_arg0) (ix2 l h) := by
  unfold V
  after_reads_at
theorem host1 (h : Fin 8) (l : Fin 128) : V m c main_v2 (ix2 h l) = m ((c : Thread nD τ).loc main_arg1) (ix1 h) := by
  unfold V
  after_reads_at

theorem blk0 (t : Fin cfg0.N) (h : Fin 8) (l : Fin 2048) : iblk m c 0 t (ix2 h l) = m ((c : Thread nD τ).loc main_arg0) (ix2 l h) :=
  (congrArg (V m c main_v0) (emb0 t h l)).trans (host0 m c h l)
theorem blk1 (t : Fin cfg0.N) (h : Fin 8) (l : Fin 128) : iblk m c 1 t (ix2 h l) = m ((c : Thread nD τ).loc main_arg1) (ix1 h) :=
  (congrArg (V m c main_v2) (emb1 t h l)).trans (host1 m c h l)

/-- A column of log gates by the program's arguments, zero past its end. -/
def col (f : Vec Ideal S2048x8 .f32) (b : Vec Ideal S8 .f32) (h : Fin 8) (n : ℕ) : EReal := if hn : n < 2048 then logSig ((f (ix2 ⟨n, hn⟩ h) : EReal) + b (ix1 h)) else 0

/-- An entry of the result: the sum of the log gates up to it. -/
def entry (h : Fin 8) (r : Fin 2048) : EReal := pre (col (m ((c : Thread nD τ).loc main_arg0)) (m ((c : Thread nD τ).loc main_arg1)) h) (r.val + 1)

theorem row_col (t : Fin cfg0.N) (h : Fin 8) :
    row (iblk m c 0 t) (fun h => m ((c : Thread nD τ).loc main_arg1) (ix1 h)) h = col (m ((c : Thread nD τ).loc main_arg0)) (m ((c : Thread nD τ).loc main_arg1)) h := by
  funext n
  unfold row col
  split
  · rw [blk0]
  · rfl

/-- The array. -/
theorem arr : (dats m 0 c).arrAt 2 cfg0.N = fun i : S8x2048.Idx => entry m c (i 0) (i 1) := by
  refine Dat.arrAt_eq_of_covers (dats m 0 c) 2 _ (by decide +kernel) fun t hf y => ?_
  blk_simp
  rw [after0_2]
  idx_vars y
  refine Eq.trans ?_ (congrArg (fun i : S8x2048.Idx => entry m c (i 0) (i 1)) (emb2 t y0 y1)).symm
  rw [out2_eq]
  refine (stores_eq _ (blk1 m c t) 16 (le_refl _) y0 y1 (by omega)).trans ?_
  rw [row_col]
  rfl
end

end Cert.FoxCumIdeal.Hand
-- ==== Proof.FoxCumPair.lean ====
/-
  The cumulated log forget gates: what the reference computes, and the pair. The kernel's result is the reference's, whatever the arguments.
-/
module

public import proofs.«01_k».proof.Defs
public import proofs.«01_k».proof.Proof.Gen.FoxCumRefIdeal.Run
public import proofs.«01_k».proof.Proof.Gen.FoxCumRefIdeal.Read
public import Idealize.ShloMosaic.Lib.Pointwise
public import Idealize.ShloMosaic.Lib.Claim
public import Idealize.ShloMosaic.Lib.Quiescent
public import proofs.«01_k».proof.Proof.FoxCumValue

@[expose] public section

set_option maxRecDepth 16384

noncomputable section

namespace Cert.FoxCumRefIdeal.Hand

open Cert.FoxCumRefIdeal Cert.FoxCumRefIdeal.Gen Cert.FoxCumRefIdeal.Read Cert.FoxCumMath Cert.DlogfMath Idealize.ShloMosaic
open Cert.FoxCumIdeal.Hand (col)

variable (f : S2048x8.Idx → EReal) (b : S8.Idx → EReal)

/-- The host's form of the logarithm of the logistic function. -/
theorem ref_log (r : Fin 2048) (h : Fin 8) : val_main_v3 (F := Ideal) f b (ix2 r h) = logSig (f (ix2 r h) + b (ix1 h)) := by
  rw [logSig_eq]
  pointwise [val_main_v3, val_main_call0_v1, val_main_call0_call0_v4, val_main_call0_call0_v6, val_main_call0_call0_v5, val_main_call0_call0_v11, val_main_call0_call0_v10, val_main_call0_call0_v9, val_main_call0_call0_v8, val_main_call0_call0_v7, val_main_call0_call0_v3, val_main_call0_call0_v2, val_main_call0_call0_v1, val_main_call0_call0_v0, val_main_call0_call0_cst, val_main_call0_v0, val_main_v2, val_main_v1, val_main_v0]
  rw [if_neg (fun h => h rfl)]
  rfl

/-- A column, zero past its end. -/
def column (x : S2048x8.Idx → EReal) (h : Fin 8) (n : ℕ) : EReal := if hn : n < 2048 then x (ix2 ⟨n, hn⟩ h) else 0

/-- A window sum padded with zeros before the first entry. -/
theorem window (x : S2048x8.Idx → EReal) (r : Fin 2048) (h : Fin 8) :
    Host.reduceWindow (u := ⟨0, ![]⟩) (fun a b : EReal => a + b) ![2048, 1] ![1, 1] ![2047, 0] ![0, 0] x (fun _ => (0 : EReal)) reduceWindows_S2048x8_S2048x8_w2048s1p2047_0_w1s1p0_0 (by decide) (ix2 r h)
      = pre (column x h) (r.val + 1) := by
  have fold (n : ℕ) (g : Fin n → EReal) : (List.finRange n).foldl (fun a k => a + g k) 0 = ∑ k, g k := by
    rw [Fin.sum_univ_def, List.sum_eq_foldl, List.foldl_map]
  unfold Host.reduceWindow
  dsimp only
  rw [fold]
  rw [Fintype.sum_equiv (Shape.rowMajor ⟨2, ![2048, 1]⟩).symm _ (fun w : (⟨2, ![2048, 1]⟩ : Shape).Idx => if 2047 - (w 0).val ≤ r.val then column x h (r.val - (2047 - (w 0).val)) else 0) ?_]
  · rw [sum_idx2]
    simp only [Fin.sum_univ_one]
    rw [← win_all (show r.val < 2048 by omega), win, ← Finset.sum_range_reflect]
    exact (Finset.sum_range fun j => if 2047 - j ≤ r.val then column x h (r.val - (2047 - j)) else 0).symm
  · intro k
    have hk : ((Shape.rowMajor ⟨2, ![2048, 1]⟩).symm k 1).val = 0 :=
      Nat.lt_one_iff.mp ((Shape.rowMajor ⟨2, ![2048, 1]⟩).symm k 1).isLt
    have hk0 : ((Shape.rowMajor ⟨2, ![2048, 1]⟩).symm k 0).val < 2048 := ((Shape.rowMajor ⟨2, ![2048, 1]⟩).symm k 0).isLt
    split
    · rename_i hin
      have h0 : 2047 ≤ r.val + ((Shape.rowMajor ⟨2, ![2048, 1]⟩).symm k 0).val := by simpa using (hin 0).1
      rw [if_pos (by omega), column, dif_pos (by omega)]
      refine congrArg x (funext fun a => Fin.ext (match a with
        | 0 => ?_
        | 1 => by simp [hk]))
      simp
      omega
    · rename_i hin
      rw [if_neg fun hle => hin fun a => ?_]
      match a with
      | 0 => simp; omega
      | 1 => simp [hk]

theorem ref_val (r : Fin 2048) (h : Fin 8) : val_main_v5 (F := Ideal) f b (ix2 h r) = pre (col f b h) (r.val + 1) := by
  have e : column (val_main_v3 (F := Ideal) f b) h = col f b h := by
    funext n
    unfold column col
    split
    · exact ref_log ..
    · rfl
  have z : val_main_call1_call0_v0 (F := Ideal) (Shape.Idx.first h_S_) = 0 := by pointwise [val_main_call1_call0_v0, val_main_call1_call0_cst]
  rw [← e, ← window]
  pointwise [val_main_v5]
  unfold val_main_v4 Host.reduceWindowAdd
  rw [z, Ideal.hostReduceWindowAdd_def]
  unfold Ideal.hostReduceWindowAdd
  rfl

end Cert.FoxCumRefIdeal.Hand

namespace Cert.FoxCumIdeal.Hand

open Cert.FoxCumIdeal Cert.FoxCumIdeal.Gen Idealize.ShloMosaic Idealize.ShloMosaic.TcCoe Idealize.SL.Sem

/-- At `Ideal` the kernel's result is the reference's, whatever the arguments hold. -/
theorem algebraic : Cert.algebraic_FoxCumIdeal_FoxCumRefIdeal := by
  pair_intro
  · run_from (Cert.FoxCumIdeal.Value.run_blocks m g)
  · refine θ_run_mono (Cert.FoxCumRefIdeal.Value.run m' g') fun r hr c => ?_
    obtain ⟨h0, h1⟩ := hagree c
    refine ⟨(hr c).1.trans (Eq.trans ?_ (arr m c).symm), (hr c).2⟩
    rw [FoxCumRefIdeal.Read.val_main_v5_eq, h0, h1]
    funext i
    idx_vars i
    exact Cert.FoxCumRefIdeal.Hand.ref_val ..

/-- The reference runs to the end, leaves its arguments as they were and every counter at zero. -/
theorem frameRef : Cert.quiescent_FoxCumRefIdeal :=
  fun m g _ => θ_run_mono (Cert.FoxCumRefIdeal.Value.run m g) fun _ h => ⟨fun c => (h c).2, sem_eq_zero_of_no_sems (by decide) _⟩

end Cert.FoxCumIdeal.Hand
-- ==== Proof.MemNormPair.lean ====
/-
  The norm's forward call at the memory's shape, in one block: what the kernel's array holds, and the pair. Both sides are the same expression of the row, whatever it holds.
-/
module

public import proofs.«01_k».proof.Defs
public import proofs.«01_k».proof.Proof.Gen.MemNormIdeal.Value
public import proofs.«01_k».proof.Proof.Gen.MemNormRefIdeal.Run
public import proofs.«01_k».proof.Proof.Gen.MemNormRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.MemNormIdeal.Hand

open Cert.MemNormIdeal Cert.MemNormIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx_rows : ∀ t : Fin grid0.N, win0_0.index t = ![0, 0] := by decide +kernel
theorem idx_gain : ∀ t : Fin grid0.N, win0_1.index t = ![0, 0] := by decide +kernel
theorem idx_out : ∀ t : Fin grid0.N, win0_2.index t = ![0, 0] := by decide +kernel

theorem rows (t : Fin cfg0.N) (r : Fin 256) (l : Fin 1024) : iblk m c 0 t (ix2 r l) = m ((c : Thread nD τ).loc main_arg0) (ix2 r l) := by
  blk_point [iblk, V, idx_rows t]
theorem gain (t : Fin cfg0.N) (l : Fin 1024) : iblk m c 1 t (ix2 0 l) = m ((c : Thread nD τ).loc main_arg1) (ix1 l) := by
  blk_point [iblk, V, idx_gain t]
theorem emb (t : Fin cfg0.N) (r : Fin 256) (l : Fin 1024) : (win0_2.blk t).view.emb (ix2 r l) = ix2 r l := by
  blk_point [idx_out t]

theorem arr : (dats m 0 c).arrAt 2 cfg0.N = MemNormRefIdeal.Read.val_main_v13 (m ((c : Thread nD τ).loc main_arg0)) (m ((c : Thread nD τ).loc main_arg1)) := by
  refine Dat.arrAt_eq_of_covers (dats m 0 c) 2 _ (by decide +kernel) fun t hf y => ?_
  blk_simp
  rw [after0_2]
  frame_out
  idx_vars y
  rw [emb]
  unfold_payloads
  pointwise [MemNormRefIdeal.Read.val_main_v13, MemNormRefIdeal.Read.val_main_v12, MemNormRefIdeal.Read.val_main_v11, MemNormRefIdeal.Read.val_main_v10, MemNormRefIdeal.Read.val_main_v9, MemNormRefIdeal.Read.val_main_v8, MemNormRefIdeal.Read.val_main_v7, MemNormRefIdeal.Read.val_main_v6, MemNormRefIdeal.Read.val_main_v5, MemNormRefIdeal.Read.val_main_v4, MemNormRefIdeal.Read.val_main_v3, MemNormRefIdeal.Read.val_main_v2, MemNormRefIdeal.Read.val_main_v1, MemNormRefIdeal.Read.val_main_v0, MemNormRefIdeal.Read.val_main_cst, MemNormRefIdeal.Read.val_main_cst_0, MemNormRefIdeal.Read.val_main_cst_1]
  simp only [rows, gain]

/-- At `Ideal` the kernel's result is the reference's, whatever the arguments hold. -/
theorem algebraic : Cert.algebraic_MemNormIdeal_MemNormRefIdeal := by
  pair_intro
  · run_from (Cert.MemNormIdeal.Value.run_blocks m g)
  · run_from (Cert.MemNormRefIdeal.Value.run m' g')
    rw [arr, MemNormRefIdeal.Read.val_main_v13_eq]

/-- The reference runs to the end, leaves its arguments as they were and every counter at zero. -/
theorem frameRef : Cert.quiescent_MemNormRefIdeal :=
  fun m g _ => θ_run_mono (Cert.MemNormRefIdeal.Value.run m g) fun _ h => ⟨fun c => (h c).2, sem_eq_zero_of_no_sems (by decide) _⟩

end Cert.MemNormIdeal.Hand
-- ==== Proof.MmNnPair.lean ====
/-
  The product of rows with a weight, a block of rows at a point: what the kernel's array holds, and the pair.
-/
module

public import proofs.«01_k».proof.Defs
public import proofs.«01_k».proof.Proof.Gen.MmNnIdeal.Value
public import proofs.«01_k».proof.Proof.Gen.MmNnRefIdeal.Run
public import proofs.«01_k».proof.Proof.Gen.MmNnRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.MmNnIdeal.Hand

open Cert.MmNnIdeal Cert.MmNnIdeal.Gen Cert.MmNnRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

theorem lt (t : Fin cfg0.N) : t.val < 2 := by have := t.isLt; have h : cfg0.N = 2 := N_0; omega

/-- The left factor's block. -/
theorem blk0 (t : Fin cfg0.N) (r : Fin 1024) (k : Fin 3200) : iblk m c 0 t (ix2 r k) = m ((c : Thread nD τ).loc main_arg0) (ix2 ⟨1024 * t.val + r.val, by have := lt t; omega⟩ k) := by
  have e : (win0_0.blk t).view.emb (ix2 r k) = ix2 ⟨1024 * t.val + r.val, by have := lt t; omega⟩ k := by blk_point [idx0 t]
  refine (congrArg (V m c main_v0) e).trans ?_
  unfold V
  after_reads_at

/-- The right factor's block. -/
theorem blk1 (t : Fin cfg0.N) (k : Fin 3200) (l : Fin 1024) : iblk m c 1 t (ix2 k l) = m ((c : Thread nD τ).loc main_arg1) (ix2 k l) := by
  have e : (win0_1.blk t).view.emb (ix2 k l) = ix2 k l := by blk_point [idx1 t]
  refine (congrArg (V m c main_v1) e).trans ?_
  unfold V
  after_reads_at

/-- Where the product's block lies. -/
theorem emb (t : Fin cfg0.N) (r l : Fin 1024) : (win0_2.blk t).view.emb (ix2 r l) = ix2 ⟨1024 * t.val + r.val, by have := lt t; omega⟩ l := by blk_point [idx2 t]

/-- The kernel's array is the reference's product. -/
theorem arr : (dats m 0 c).arrAt 2 cfg0.N = val_main_v0 (m ((c : Thread nD τ).loc main_arg0)) (m ((c : Thread nD τ).loc main_arg1)) := by
  refine Dat.arrAt_eq_of_covers (dats m 0 c) 2 _ (by decide +kernel) fun t hf y => ?_
  blk_simp
  rw [after0_2]
  frame_out
  idx_vars y
  rw [emb]
  unfold_payloads
  pointwise [val_main_v0]
  simp only [blk0, blk1]

/-- At `Ideal` the kernel's result is the reference's, whatever the arguments hold. -/
theorem algebraic : Cert.algebraic_MmNnIdeal_MmNnRefIdeal := by
  pair_intro
  · run_from (Cert.MmNnIdeal.Value.run_blocks m g)
  · run_from (Cert.MmNnRefIdeal.Value.run m' g')
    rw [arr]
    rfl

/-- The reference runs to the end, leaves its arguments as they were and every counter at zero. -/
theorem frameRef : Cert.quiescent_MmNnRefIdeal :=
  fun m g _ => θ_run_mono (Cert.MmNnRefIdeal.Value.run m g) fun _ h => ⟨fun c => (h c).2, sem_eq_zero_of_no_sems (by decide) _⟩

end Cert.MmNnIdeal.Hand
-- ==== Proof.MmColsPair.lean ====
/-
  The product of rows with a weight's transpose, a block of columns at a point.
-/
module

public import proofs.«01_k».proof.Defs
public import proofs.«01_k».proof.Proof.Gen.MmColsIdeal.Value
public import proofs.«01_k».proof.Proof.Gen.MmColsRefIdeal.Run
public import proofs.«01_k».proof.Proof.Gen.MmColsRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.MmColsIdeal.Hand

open Cert.MmColsIdeal Cert.MmColsIdeal.Gen Cert.MmColsRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![t.val, 0] := by decide +kernel
theorem idx2 : ∀ t : Fin grid0.N, win0_2.index t = ![0, t.val] := by decide +kernel

theorem lt (t : Fin cfg0.N) : t.val < 5 := by have := t.isLt; have h : cfg0.N = 5 := N_0; omega

/-- The left factor's block. -/
theorem blk0 (t : Fin cfg0.N) (r : Fin 2048) (k : Fin 1024) : iblk m c 0 t (ix2 r k) = m ((c : Thread nD τ).loc main_arg0) (ix2 r k) := by
  have e : (win0_0.blk t).view.emb (ix2 r k) = ix2 r k := by blk_point [idx0 t]
  refine (congrArg (V m c main_v0) e).trans ?_
  unfold V
  after_reads_at

/-- The right factor's block. -/
theorem blk1 (t : Fin cfg0.N) (l : Fin 640) (k : Fin 1024) : iblk m c 1 t (ix2 l k) = m ((c : Thread nD τ).loc main_arg1) (ix2 ⟨640 * t.val + l.val, by have := lt t; omega⟩ k) := by
  have e : (win0_1.blk t).view.emb (ix2 l k) = ix2 ⟨640 * t.val + l.val, by have := lt t; omega⟩ k := by blk_point [idx1 t]
  refine (congrArg (V m c main_v1) e).trans ?_
  unfold V
  after_reads_at

/-- Where the product's block lies. -/
theorem emb (t : Fin cfg0.N) (r : Fin 2048) (l : Fin 640) : (win0_2.blk t).view.emb (ix2 r l) = ix2 r ⟨640 * t.val + l.val, by have := lt t; omega⟩ := by blk_point [idx2 t]

/-- The kernel's array is the reference's product. -/
theorem arr : (dats m 0 c).arrAt 2 cfg0.N = val_main_v1 (m ((c : Thread nD τ).loc main_arg0)) (m ((c : Thread nD τ).loc main_arg1)) := by
  refine Dat.arrAt_eq_of_covers (dats m 0 c) 2 _ (by decide +kernel) fun t hf y => ?_
  blk_simp
  rw [after0_2]
  frame_out
  idx_vars y
  rw [emb]
  unfold_payloads
  pointwise [val_main_v1, val_main_v0]
  simp only [blk0, blk1]

/-- At `Ideal` the kernel's result is the reference's, whatever the arguments hold. -/
theorem algebraic : Cert.algebraic_MmColsIdeal_MmColsRefIdeal := by
  pair_intro
  · run_from (Cert.MmColsIdeal.Value.run_blocks m g)
  · run_from (Cert.MmColsRefIdeal.Value.run m' g')
    rw [arr]
    rfl

/-- The reference runs to the end, leaves its arguments as they were and every counter at zero. -/
theorem frameRef : Cert.quiescent_MmColsRefIdeal :=
  fun m g _ => θ_run_mono (Cert.MmColsRefIdeal.Value.run m g) fun _ h => ⟨fun c => (h c).2, sem_eq_zero_of_no_sems (by decide) _⟩

end Cert.MmColsIdeal.Hand
-- ==== Proof.MmRowsPair.lean ====
/-
  The product summed over the rows of both factors, a block of the left factor's columns at a point.
-/
module

public import proofs.«01_k».proof.Defs
public import proofs.«01_k».proof.Proof.Gen.MmRowsIdeal.Value
public import proofs.«01_k».proof.Proof.Gen.MmRowsRefIdeal.Run
public import proofs.«01_k».proof.Proof.Gen.MmRowsRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.MmRowsIdeal.Hand

open Cert.MmRowsIdeal Cert.MmRowsIdeal.Gen Cert.MmRowsRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![0, t.val] := by decide +kernel
theorem idx1 : ∀ t : Fin grid0.N, win0_1.index t = ![0, 0] := by decide +kernel
theorem idx2 : ∀ t : Fin grid0.N, win0_2.index t = ![t.val, 0] := by decide +kernel

theorem lt (t : Fin cfg0.N) : t.val < 5 := by have := t.isLt; have h : cfg0.N = 5 := N_0; omega

/-- The left factor's block. -/
theorem blk0 (t : Fin cfg0.N) (k : Fin 2048) (r : Fin 640) : iblk m c 0 t (ix2 k r) = m ((c : Thread nD τ).loc main_arg0) (ix2 k ⟨640 * t.val + r.val, by have := lt t; omega⟩) := by
  have e : (win0_0.blk t).view.emb (ix2 k r) = ix2 k ⟨640 * t.val + r.val, by have := lt t; omega⟩ := by blk_point [idx0 t]
  refine (congrArg (V m c main_v0) e).trans ?_
  unfold V
  after_reads_at

/-- The right factor's block. -/
theorem blk1 (t : Fin cfg0.N) (k : Fin 2048) (l : Fin 1024) : iblk m c 1 t (ix2 k l) = m ((c : Thread nD τ).loc main_arg1) (ix2 k l) := by
  have e : (win0_1.blk t).view.emb (ix2 k l) = ix2 k l := by blk_point [idx1 t]
  refine (congrArg (V m c main_v1) e).trans ?_
  unfold V
  after_reads_at

/-- Where the product's block lies. -/
theorem emb (t : Fin cfg0.N) (r : Fin 640) (l : Fin 1024) : (win0_2.blk t).view.emb (ix2 r l) = ix2 ⟨640 * t.val + r.val, by have := lt t; omega⟩ l := by blk_point [idx2 t]

/-- The kernel's array is the reference's product. -/
theorem arr : (dats m 0 c).arrAt 2 cfg0.N = val_main_v1 (m ((c : Thread nD τ).loc main_arg0)) (m ((c : Thread nD τ).loc main_arg1)) := by
  refine Dat.arrAt_eq_of_covers (dats m 0 c) 2 _ (by decide +kernel) fun t hf y => ?_
  blk_simp
  rw [after0_2]
  frame_out
  idx_vars y
  rw [emb]
  unfold_payloads
  pointwise [val_main_v1, val_main_v0]
  simp only [blk0, blk1]

/-- At `Ideal` the kernel's result is the reference's, whatever the arguments hold. -/
theorem algebraic : Cert.algebraic_MmRowsIdeal_MmRowsRefIdeal := by
  pair_intro
  · run_from (Cert.MmRowsIdeal.Value.run_blocks m g)
  · run_from (Cert.MmRowsRefIdeal.Value.run m' g')
    rw [arr]
    rfl

/-- The reference runs to the end, leaves its arguments as they were and every counter at zero. -/
theorem frameRef : Cert.quiescent_MmRowsRefIdeal :=
  fun m g _ => θ_run_mono (Cert.MmRowsRefIdeal.Value.run m g) fun _ h => ⟨fun c => (h c).2, sem_eq_zero_of_no_sems (by decide) _⟩

end Cert.MmRowsIdeal.Hand
-- ==== Proof.MmNtPair.lean ====
/-
  The product of rows with a weight's transpose, at one point.
-/
module

public import proofs.«01_k».proof.Defs
public import proofs.«01_k».proof.Proof.Gen.MmNtIdeal.Value
public import proofs.«01_k».proof.Proof.Gen.MmNtRefIdeal.Run
public import proofs.«01_k».proof.Proof.Gen.MmNtRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.MmNtIdeal.Hand

open Cert.MmNtIdeal Cert.MmNtIdeal.Gen Cert.MmNtRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel

theorem lt (t : Fin cfg0.N) : t.val < 1 := by have := t.isLt; have h : cfg0.N = 1 := N_0; omega

/-- The left factor's block. -/
theorem blk0 (t : Fin cfg0.N) (r : Fin 2048) (k : Fin 1024) : iblk m c 0 t (ix2 r k) = m ((c : Thread nD τ).loc main_arg0) (ix2 r k) := by
  have e : (win0_0.blk t).view.emb (ix2 r k) = ix2 r k := by blk_point [idx0 t]
  refine (congrArg (V m c main_v0) e).trans ?_
  unfold V
  after_reads_at

/-- The right factor's block. -/
theorem blk1 (t : Fin cfg0.N) (l k : Fin 1024) : iblk m c 1 t (ix2 l k) = m ((c : Thread nD τ).loc main_arg1) (ix2 l k) := by
  have e : (win0_1.blk t).view.emb (ix2 l k) = ix2 l k := by blk_point [idx1 t]
  refine (congrArg (V m c main_v1) e).trans ?_
  unfold V
  after_reads_at

/-- Where the product's block lies. -/
theorem emb (t : Fin cfg0.N) (r : Fin 2048) (l : Fin 1024) : (win0_2.blk t).view.emb (ix2 r l) = ix2 r l := by blk_point [idx2 t]

/-- The kernel's array is the reference's product. -/
theorem arr : (dats m 0 c).arrAt 2 cfg0.N = val_main_v1 (m ((c : Thread nD τ).loc main_arg0)) (m ((c : Thread nD τ).loc main_arg1)) := by
  refine Dat.arrAt_eq_of_covers (dats m 0 c) 2 _ (by decide +kernel) fun t hf y => ?_
  blk_simp
  rw [after0_2]
  frame_out
  idx_vars y
  rw [emb]
  unfold_payloads
  pointwise [val_main_v1, val_main_v0]
  simp only [blk0, blk1]

/-- At `Ideal` the kernel's result is the reference's, whatever the arguments hold. -/
theorem algebraic : Cert.algebraic_MmNtIdeal_MmNtRefIdeal := by
  pair_intro
  · run_from (Cert.MmNtIdeal.Value.run_blocks m g)
  · run_from (Cert.MmNtRefIdeal.Value.run m' g')
    rw [arr]
    rfl

/-- The reference runs to the end, leaves its arguments as they were and every counter at zero. -/
theorem frameRef : Cert.quiescent_MmNtRefIdeal :=
  fun m g _ => θ_run_mono (Cert.MmNtRefIdeal.Value.run m g) fun _ h => ⟨fun c => (h c).2, sem_eq_zero_of_no_sems (by decide) _⟩

end Cert.MmNtIdeal.Hand
-- ==== Proof.MmTnPair.lean ====
/-
  The product summed over the rows of both factors, at one point.
-/
module

public import proofs.«01_k».proof.Defs
public import proofs.«01_k».proof.Proof.Gen.MmTnIdeal.Value
public import proofs.«01_k».proof.Proof.Gen.MmTnRefIdeal.Run
public import proofs.«01_k».proof.Proof.Gen.MmTnRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.MmTnIdeal.Hand

open Cert.MmTnIdeal Cert.MmTnIdeal.Gen Cert.MmTnRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel

theorem lt (t : Fin cfg0.N) : t.val < 1 := by have := t.isLt; have h : cfg0.N = 1 := N_0; omega

/-- The left factor's block. -/
theorem blk0 (t : Fin cfg0.N) (k : Fin 2048) (r : Fin 1024) : iblk m c 0 t (ix2 k r) = m ((c : Thread nD τ).loc main_arg0) (ix2 k r) := by
  have e : (win0_0.blk t).view.emb (ix2 k r) = ix2 k r := by blk_point [idx0 t]
  refine (congrArg (V m c main_v0) e).trans ?_
  unfold V
  after_reads_at

/-- The right factor's block. -/
theorem blk1 (t : Fin cfg0.N) (k : Fin 2048) (l : Fin 1024) : iblk m c 1 t (ix2 k l) = m ((c : Thread nD τ).loc main_arg1) (ix2 k l) := by
  have e : (win0_1.blk t).view.emb (ix2 k l) = ix2 k l := by blk_point [idx1 t]
  refine (congrArg (V m c main_v1) e).trans ?_
  unfold V
  after_reads_at

/-- Where the product's block lies. -/
theorem emb (t : Fin cfg0.N) (r l : Fin 1024) : (win0_2.blk t).view.emb (ix2 r l) = ix2 r l := by blk_point [idx2 t]

/-- The kernel's array is the reference's product. -/
theorem arr : (dats m 0 c).arrAt 2 cfg0.N = val_main_v1 (m ((c : Thread nD τ).loc main_arg0)) (m ((c : Thread nD τ).loc main_arg1)) := by
  refine Dat.arrAt_eq_of_covers (dats m 0 c) 2 _ (by decide +kernel) fun t hf y => ?_
  blk_simp
  rw [after0_2]
  frame_out
  idx_vars y
  rw [emb]
  unfold_payloads
  pointwise [val_main_v1, val_main_v0]
  simp only [blk0, blk1]

/-- At `Ideal` the kernel's result is the reference's, whatever the arguments hold. -/
theorem algebraic : Cert.algebraic_MmTnIdeal_MmTnRefIdeal := by
  pair_intro
  · run_from (Cert.MmTnIdeal.Value.run_blocks m g)
  · run_from (Cert.MmTnRefIdeal.Value.run m' g')
    rw [arr]
    rfl

/-- The reference runs to the end, leaves its arguments as they were and every counter at zero. -/
theorem frameRef : Cert.quiescent_MmTnRefIdeal :=
  fun m g _ => θ_run_mono (Cert.MmTnRefIdeal.Value.run m g) fun _ h => ⟨fun c => (h c).2, sem_eq_zero_of_no_sems (by decide) _⟩

end Cert.MmTnIdeal.Hand
-- ==== Proof.BmmNnPair.lean ====
/-
  The product of the same rows with each of eight weights, a weight at a point.
-/
module

public import proofs.«01_k».proof.Defs
public import proofs.«01_k».proof.Proof.Gen.BmmNnIdeal.Value
public import proofs.«01_k».proof.Proof.Gen.BmmNnRefIdeal.Run
public import proofs.«01_k».proof.Proof.Gen.BmmNnRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.BmmNnIdeal.Hand

open Cert.BmmNnIdeal Cert.BmmNnIdeal.Gen Cert.BmmNnRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![t.val, 0, 0] := by decide +kernel
theorem idx2 : ∀ t : Fin grid0.N, win0_2.index t = ![t.val, 0, 0] := by decide +kernel

theorem lt (t : Fin cfg0.N) : t.val < 8 := by have := t.isLt; have h : cfg0.N = 8 := N_0; omega

/-- The left factor's block. -/
theorem blk0 (t : Fin cfg0.N) (r : Fin 2048) (k : Fin 1024) : iblk m c 0 t (ix2 r k) = m ((c : Thread nD τ).loc main_arg0) (ix2 r k) := by
  have e : (win0_0.blk t).view.emb (ix2 r k) = ix2 r k := by blk_point [idx0 t]
  refine (congrArg (V m c main_v0) e).trans ?_
  unfold V
  after_reads_at

/-- The right factor's block. -/
theorem blk1 (t : Fin cfg0.N) (k : Fin 1024) (l : Fin 256) : iblk m c 1 t (ix3 0 k l) = m ((c : Thread nD τ).loc main_arg1) (ix3 ⟨t.val, lt t⟩ k l) := by
  have e : (win0_1.blk t).view.emb (ix3 0 k l) = ix3 ⟨t.val, lt t⟩ k l := by blk_point [idx1 t]
  refine (congrArg (V m c main_v1) e).trans ?_
  unfold V
  after_reads_at

/-- Where the product's block lies. -/
theorem emb (t : Fin cfg0.N) (r : Fin 2048) (l : Fin 256) : (win0_2.blk t).view.emb (ix3 0 r l) = ix3 ⟨t.val, lt t⟩ r l := by blk_point [idx2 t]

/-- The kernel's array is the reference's product. -/
theorem arr : (dats m 0 c).arrAt 2 cfg0.N = val_main_v1 (m ((c : Thread nD τ).loc main_arg0)) (m ((c : Thread nD τ).loc main_arg1)) := by
  refine Dat.arrAt_eq_of_covers (dats m 0 c) 2 _ (by decide +kernel) fun t hf y => ?_
  blk_simp
  rw [after0_2]
  frame_out
  idx_vars y
  obtain rfl : y0 = 0 := Subsingleton.elim _ _
  rw [emb]
  unfold_payloads
  pointwise [val_main_v1, val_main_v0]
  simp only [blk0, blk1]
  exact Finset.sum_congr (M := EReal) rfl fun k _ => EReal.mul_comm _ _

/-- At `Ideal` the kernel's result is the reference's, whatever the arguments hold. -/
theorem algebraic : Cert.algebraic_BmmNnIdeal_BmmNnRefIdeal := by
  pair_intro
  · run_from (Cert.BmmNnIdeal.Value.run_blocks m g)
  · run_from (Cert.BmmNnRefIdeal.Value.run m' g')
    rw [arr]
    rfl

/-- The reference runs to the end, leaves its arguments as they were and every counter at zero. -/
theorem frameRef : Cert.quiescent_BmmNnRefIdeal :=
  fun m g _ => θ_run_mono (Cert.BmmNnRefIdeal.Value.run m g) fun _ h => ⟨fun c => (h c).2, sem_eq_zero_of_no_sems (by decide) _⟩

end Cert.BmmNnIdeal.Hand
-- ==== Proof.BmmTnPair.lean ====
/-
  The products of the same rows with each of eight groups of rows, summed over the rows, a group at a point.
-/
module

public import proofs.«01_k».proof.Defs
public import proofs.«01_k».proof.Proof.Gen.BmmTnIdeal.Value
public import proofs.«01_k».proof.Proof.Gen.BmmTnRefIdeal.Run
public import proofs.«01_k».proof.Proof.Gen.BmmTnRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.BmmTnIdeal.Hand

open Cert.BmmTnIdeal Cert.BmmTnIdeal.Gen Cert.BmmTnRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![t.val, 0, 0] := by decide +kernel
theorem idx2 : ∀ t : Fin grid0.N, win0_2.index t = ![t.val, 0, 0] := by decide +kernel

theorem lt (t : Fin cfg0.N) : t.val < 8 := by have := t.isLt; have h : cfg0.N = 8 := N_0; omega

/-- The left factor's block. -/
theorem blk0 (t : Fin cfg0.N) (k : Fin 2048) (r : Fin 1024) : iblk m c 0 t (ix2 k r) = m ((c : Thread nD τ).loc main_arg0) (ix2 k r) := by
  have e : (win0_0.blk t).view.emb (ix2 k r) = ix2 k r := by blk_point [idx0 t]
  refine (congrArg (V m c main_v0) e).trans ?_
  unfold V
  after_reads_at

/-- The right factor's block. -/
theorem blk1 (t : Fin cfg0.N) (k : Fin 2048) (l : Fin 256) : iblk m c 1 t (ix3 0 k l) = m ((c : Thread nD τ).loc main_arg1) (ix3 ⟨t.val, lt t⟩ k l) := by
  have e : (win0_1.blk t).view.emb (ix3 0 k l) = ix3 ⟨t.val, lt t⟩ k l := by blk_point [idx1 t]
  refine (congrArg (V m c main_v1) e).trans ?_
  unfold V
  after_reads_at

/-- Where the product's block lies. -/
theorem emb (t : Fin cfg0.N) (r : Fin 1024) (l : Fin 256) : (win0_2.blk t).view.emb (ix3 0 r l) = ix3 ⟨t.val, lt t⟩ r l := by blk_point [idx2 t]

/-- The kernel's array is the reference's product. -/
theorem arr : (dats m 0 c).arrAt 2 cfg0.N = val_main_v1 (m ((c : Thread nD τ).loc main_arg0)) (m ((c : Thread nD τ).loc main_arg1)) := by
  refine Dat.arrAt_eq_of_covers (dats m 0 c) 2 _ (by decide +kernel) fun t hf y => ?_
  blk_simp
  rw [after0_2]
  frame_out
  idx_vars y
  obtain rfl : y0 = 0 := Subsingleton.elim _ _
  rw [emb]
  unfold_payloads
  pointwise [val_main_v1, val_main_v0]
  simp only [blk0, blk1]
  exact Finset.sum_congr (M := EReal) rfl fun k _ => EReal.mul_comm _ _

/-- At `Ideal` the kernel's result is the reference's, whatever the arguments hold. -/
theorem algebraic : Cert.algebraic_BmmTnIdeal_BmmTnRefIdeal := by
  pair_intro
  · run_from (Cert.BmmTnIdeal.Value.run_blocks m g)
  · run_from (Cert.BmmTnRefIdeal.Value.run m' g')
    rw [arr]
    rfl

/-- The reference runs to the end, leaves its arguments as they were and every counter at zero. -/
theorem frameRef : Cert.quiescent_BmmTnRefIdeal :=
  fun m g _ => θ_run_mono (Cert.BmmTnRefIdeal.Value.run m g) fun _ h => ⟨fun c => (h c).2, sem_eq_zero_of_no_sems (by decide) _⟩

end Cert.BmmTnIdeal.Hand
-- ==== Proof.MmA3Pair.lean ====
/-
  The products of each of eight groups of rows with the same rows, summed over the rows, a group at a point.
-/
module

public import proofs.«01_k».proof.Defs
public import proofs.«01_k».proof.Proof.Gen.MmA3Ideal.Value
public import proofs.«01_k».proof.Proof.Gen.MmA3RefIdeal.Run
public import proofs.«01_k».proof.Proof.Gen.MmA3RefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.MmA3Ideal.Hand

open Cert.MmA3Ideal Cert.MmA3Ideal.Gen Cert.MmA3RefIdeal.Read Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![t.val, 0, 0] := by decide +kernel
theorem idx1 : ∀ t : Fin grid0.N, win0_1.index t = ![0, 0] := by decide +kernel
theorem idx2 : ∀ t : Fin grid0.N, win0_2.index t = ![t.val, 0, 0] := by decide +kernel

theorem lt (t : Fin cfg0.N) : t.val < 8 := by have := t.isLt; have h : cfg0.N = 8 := N_0; omega

/-- The left factor's block. -/
theorem blk0 (t : Fin cfg0.N) (k : Fin 2048) (r : Fin 704) : iblk m c 0 t (ix3 0 k r) = m ((c : Thread nD τ).loc main_arg0) (ix3 ⟨t.val, lt t⟩ k r) := by
  have e : (win0_0.blk t).view.emb (ix3 0 k r) = ix3 ⟨t.val, lt t⟩ k r := by blk_point [idx0 t]
  refine (congrArg (V m c main_v0) e).trans ?_
  unfold V
  after_reads_at

/-- The right factor's block. -/
theorem blk1 (t : Fin cfg0.N) (k : Fin 2048) (l : Fin 1024) : iblk m c 1 t (ix2 k l) = m ((c : Thread nD τ).loc main_arg1) (ix2 k l) := by
  have e : (win0_1.blk t).view.emb (ix2 k l) = ix2 k l := by blk_point [idx1 t]
  refine (congrArg (V m c main_v1) e).trans ?_
  unfold V
  after_reads_at

/-- Where the product's block lies. -/
theorem emb (t : Fin cfg0.N) (r : Fin 704) (l : Fin 1024) : (win0_2.blk t).view.emb (ix3 0 r l) = ix3 ⟨t.val, lt t⟩ r l := by blk_point [idx2 t]

/-- The kernel's array is the reference's product. -/
theorem arr : (dats m 0 c).arrAt 2 cfg0.N = val_main_v0 (m ((c : Thread nD τ).loc main_arg0)) (m ((c : Thread nD τ).loc main_arg1)) := by
  refine Dat.arrAt_eq_of_covers (dats m 0 c) 2 _ (by decide +kernel) fun t hf y => ?_
  blk_simp
  rw [after0_2]
  frame_out
  idx_vars y
  obtain rfl : y0 = 0 := Subsingleton.elim _ _
  rw [emb]
  unfold_payloads
  pointwise [val_main_v0]
  simp only [blk0, blk1]
  rfl

/-- At `Ideal` the kernel's result is the reference's, whatever the arguments hold. -/
theorem algebraic : Cert.algebraic_MmA3Ideal_MmA3RefIdeal := by
  pair_intro
  · run_from (Cert.MmA3Ideal.Value.run_blocks m g)
  · run_from (Cert.MmA3RefIdeal.Value.run m' g')
    rw [arr]
    rfl

/-- The reference runs to the end, leaves its arguments as they were and every counter at zero. -/
theorem frameRef : Cert.quiescent_MmA3RefIdeal :=
  fun m g _ => θ_run_mono (Cert.MmA3RefIdeal.Value.run m g) fun _ h => ⟨fun c => (h c).2, sem_eq_zero_of_no_sems (by decide) _⟩

end Cert.MmA3Ideal.Hand
-- ==== Proof.BmmNnSumPair.lean ====
/-
  The sum over eight groups of the products of rows with a weight, a block of rows at a point.
-/
module

public import proofs.«01_k».proof.Defs
public import proofs.«01_k».proof.Proof.Gen.BmmNnSumIdeal.Value
public import proofs.«01_k».proof.Proof.Gen.BmmNnSumRefIdeal.Run
public import proofs.«01_k».proof.Proof.Gen.BmmNnSumRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.BmmNnSumIdeal.Hand

open Cert.BmmNnSumIdeal Cert.BmmNnSumIdeal.Gen Cert.BmmNnSumRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![0, t.val, 0] := by decide +kernel
theorem idx1 : ∀ t : Fin grid0.N, win0_1.index t = ![0, 0, 0] := by decide +kernel
theorem idx2 : ∀ t : Fin grid0.N, win0_2.index t = ![t.val, 0] := by decide +kernel

theorem lt (t : Fin cfg0.N) : t.val < 4 := by have := t.isLt; have h : cfg0.N = 4 := N_0; omega

/-- The left factor's block. -/
theorem blk0 (t : Fin cfg0.N) (g : Fin 8) (r : Fin 512) (k : Fin 704) : iblk m c 0 t (ix3 g r k) = m ((c : Thread nD τ).loc main_arg0) (ix3 g ⟨512 * t.val + r.val, by have := lt t; omega⟩ k) := by
  have e : (win0_0.blk t).view.emb (ix3 g r k) = ix3 g ⟨512 * t.val + r.val, by have := lt t; omega⟩ k := by blk_point [idx0 t]
  refine (congrArg (V m c main_v0) e).trans ?_
  unfold V
  after_reads_at

/-- The right factor's block. -/
theorem blk1 (t : Fin cfg0.N) (g : Fin 8) (k : Fin 704) (l : Fin 1024) : iblk m c 1 t (ix3 g k l) = m ((c : Thread nD τ).loc main_arg1) (ix3 g k l) := by
  have e : (win0_1.blk t).view.emb (ix3 g k l) = ix3 g k l := by blk_point [idx1 t]
  refine (congrArg (V m c main_v1) e).trans ?_
  unfold V
  after_reads_at

/-- Where the product's block lies. -/
theorem emb (t : Fin cfg0.N) (r : Fin 512) (l : Fin 1024) : (win0_2.blk t).view.emb (ix2 r l) = ix2 ⟨512 * t.val + r.val, by have := lt t; omega⟩ l := by blk_point [idx2 t]

/-- The kernel's array is the reference's product. -/
theorem arr : (dats m 0 c).arrAt 2 cfg0.N = val_main_v1 (m ((c : Thread nD τ).loc main_arg0)) (m ((c : Thread nD τ).loc main_arg1)) := by
  refine Dat.arrAt_eq_of_covers (dats m 0 c) 2 _ (by decide +kernel) fun t hf y => ?_
  blk_simp
  rw [after0_2]
  frame_out
  idx_vars y
  rw [emb]
  unfold_payloads
  pointwise [val_main_v1_apply, val_main_cst_apply, Fin.sum_univ_eight, val_main_v0]
  simp only [blk0, blk1]
  rfl

/-- At `Ideal` the kernel's result is the reference's, whatever the arguments hold. -/
theorem algebraic : Cert.algebraic_BmmNnSumIdeal_BmmNnSumRefIdeal := by
  pair_intro
  · run_from (Cert.BmmNnSumIdeal.Value.run_blocks m g)
  · run_from (Cert.BmmNnSumRefIdeal.Value.run m' g')
    rw [arr]
    rfl

/-- The reference runs to the end, leaves its arguments as they were and every counter at zero. -/
theorem frameRef : Cert.quiescent_BmmNnSumRefIdeal :=
  fun m g _ => θ_run_mono (Cert.BmmNnSumRefIdeal.Value.run m g) fun _ h => ⟨fun c => (h c).2, sem_eq_zero_of_no_sems (by decide) _⟩

end Cert.BmmNnSumIdeal.Hand
-- ==== Proof.BmmNtSumPair.lean ====
/-
  The sum over eight groups of the products of rows with a weight's transpose, a block of rows at a point.
-/
module

public import proofs.«01_k».proof.Defs
public import proofs.«01_k».proof.Proof.Gen.BmmNtSumIdeal.Value
public import proofs.«01_k».proof.Proof.Gen.BmmNtSumRefIdeal.Run
public import proofs.«01_k».proof.Proof.Gen.BmmNtSumRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.BmmNtSumIdeal.Hand

open Cert.BmmNtSumIdeal Cert.BmmNtSumIdeal.Gen Cert.BmmNtSumRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![0, t.val, 0] := by decide +kernel
theorem idx1 : ∀ t : Fin grid0.N, win0_1.index t = ![0, 0, 0] := by decide +kernel
theorem idx2 : ∀ t : Fin grid0.N, win0_2.index t = ![t.val, 0] := by decide +kernel

theorem lt (t : Fin cfg0.N) : t.val < 4 := by have := t.isLt; have h : cfg0.N = 4 := N_0; omega

/-- The left factor's block. -/
theorem blk0 (t : Fin cfg0.N) (g : Fin 8) (r : Fin 512) (k : Fin 256) : iblk m c 0 t (ix3 g r k) = m ((c : Thread nD τ).loc main_arg0) (ix3 g ⟨512 * t.val + r.val, by have := lt t; omega⟩ k) := by
  have e : (win0_0.blk t).view.emb (ix3 g r k) = ix3 g ⟨512 * t.val + r.val, by have := lt t; omega⟩ k := by blk_point [idx0 t]
  refine (congrArg (V m c main_v0) e).trans ?_
  unfold V
  after_reads_at

/-- The right factor's block. -/
theorem blk1 (t : Fin cfg0.N) (g : Fin 8) (l : Fin 1024) (k : Fin 256) : iblk m c 1 t (ix3 g l k) = m ((c : Thread nD τ).loc main_arg1) (ix3 g l k) := by
  have e : (win0_1.blk t).view.emb (ix3 g l k) = ix3 g l k := by blk_point [idx1 t]
  refine (congrArg (V m c main_v1) e).trans ?_
  unfold V
  after_reads_at

/-- Where the product's block lies. -/
theorem emb (t : Fin cfg0.N) (r : Fin 512) (l : Fin 1024) : (win0_2.blk t).view.emb (ix2 r l) = ix2 ⟨512 * t.val + r.val, by have := lt t; omega⟩ l := by blk_point [idx2 t]

/-- The kernel's array is the reference's product. -/
theorem arr : (dats m 0 c).arrAt 2 cfg0.N = val_main_v1 (m ((c : Thread nD τ).loc main_arg0)) (m ((c : Thread nD τ).loc main_arg1)) := by
  refine Dat.arrAt_eq_of_covers (dats m 0 c) 2 _ (by decide +kernel) fun t hf y => ?_
  blk_simp
  rw [after0_2]
  frame_out
  idx_vars y
  rw [emb]
  unfold_payloads
  pointwise [val_main_v1_apply, val_main_cst_apply, Fin.sum_univ_eight, val_main_v0]
  simp only [blk0, blk1]
  rfl

/-- At `Ideal` the kernel's result is the reference's, whatever the arguments hold. -/
theorem algebraic : Cert.algebraic_BmmNtSumIdeal_BmmNtSumRefIdeal := by
  pair_intro
  · run_from (Cert.BmmNtSumIdeal.Value.run_blocks m g)
  · run_from (Cert.BmmNtSumRefIdeal.Value.run m' g')
    rw [arr]
    rfl

/-- The reference runs to the end, leaves its arguments as they were and every counter at zero. -/
theorem frameRef : Cert.quiescent_BmmNtSumRefIdeal :=
  fun m g _ => θ_run_mono (Cert.BmmNtSumRefIdeal.Value.run m g) fun _ h => ⟨fun c => (h c).2, sem_eq_zero_of_no_sems (by decide) _⟩

end Cert.BmmNtSumIdeal.Hand
-- ==== Proof.AdamWPair.lean ====
/-
  The optimiser's update of one weight and of its two moments, and the pair.
-/
module

public import proofs.«01_k».proof.Defs
public import proofs.«01_k».proof.Proof.Gen.AdamWIdeal.Value
public import proofs.«01_k».proof.Proof.Gen.AdamWRefIdeal.Run
public import proofs.«01_k».proof.Proof.Gen.AdamWRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.AdamWIdeal.Hand

open Cert.AdamWIdeal Cert.AdamWIdeal.Gen Cert.AdamWRefIdeal.Read Idealize.ShloMosaic Idealize.ShloMosaic.TcCoe Idealize.SL.Sem
open Idealize.ShloMosaic.Pipeline (Dat)

/-- The step is the reference's. -/
theorem step (g mu nu p : Vec Ideal S2816x1024 .f32) : Cert.AdamWIdeal.Value.G4 g mu nu p = val_main_v23 p g mu nu := by
  funext i
  pointwise [val_main_v23, val_main_v22, val_main_v21, val_main_v20, val_main_v19, val_main_v18, val_main_v17, val_main_v16, val_main_v15, val_main_v14, val_main_v13, val_main_v12, val_main_v11, val_main_v10, val_main_v4]
  rfl

/-- The first moment is the reference's. -/
theorem moment1 (g mu : Vec Ideal S2816x1024 .f32) : Cert.AdamWIdeal.Value.G5 g mu = val_main_v4 g mu := by
  funext i
  rfl

/-- The second moment is the reference's. -/
theorem moment2 (g nu : Vec Ideal S2816x1024 .f32) : Cert.AdamWIdeal.Value.G6 g nu = val_main_v10 g nu := by
  funext i
  rfl

/-- At `Ideal` the kernel's three results are the reference's, whatever the arguments hold. -/
theorem algebraic : Cert.algebraic_AdamWIdeal_AdamWRefIdeal := by
  pair_intro
  · run_from (Cert.AdamWIdeal.Value.run m g)
  · run_from (Cert.AdamWRefIdeal.Value.run m' g')
    · exact (step _ _ _ _).symm
    · exact (moment1 _ _).symm
    · exact (moment2 _ _).symm

/-- The reference runs to the end, leaves its arguments as they were and every counter at zero. -/
theorem frameRef : Cert.quiescent_AdamWRefIdeal :=
  fun m g _ => θ_run_mono (Cert.AdamWRefIdeal.Value.run m g) fun _ h => ⟨fun c => (h c).2.2.2, sem_eq_zero_of_no_sems (by decide) _⟩

end Cert.AdamWIdeal.Hand
-- ==== Proof.SumDevPair.lean ====
/-
  The sum of the eight blocks an exchange has gathered, and the pair.
-/
module

public import proofs.«01_k».proof.Defs
public import proofs.«01_k».proof.Proof.Gen.SumDevIdeal.Value
public import proofs.«01_k».proof.Proof.Gen.SumDevRefIdeal.Run
public import proofs.«01_k».proof.Proof.Gen.SumDevRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.SumDevIdeal.Hand

open Cert.SumDevIdeal Cert.SumDevIdeal.Gen Cert.SumDevRefIdeal.Read Idealize.ShloMosaic Idealize.ShloMosaic.TcCoe Idealize.SL.Sem
open Idealize.ShloMosaic.Pipeline (Dat)

/-- The kernel's eight additions are the reference's sum over the blocks. -/
theorem sums (a : Vec Ideal S8x384x128 .f32) : Cert.SumDevIdeal.Value.G1 a = val_main_v0 a := by
  funext y
  idx_vars y
  unfold Cert.SumDevIdeal.Value.G1 k0_pay1
  pointwise [val_main_v0_apply, val_main_cst_apply, Fin.sum_univ_eight]
  have e (k : Fin 8) : idx_main_v0 (ix2 y0 y1) k = ix3 k y0 y1 :=
    funext fun a => match a with | ⟨0, _⟩ => rfl | ⟨1, _⟩ => rfl | ⟨2, _⟩ => rfl
  simp only [e]

/-- At `Ideal` the kernel's result is the reference's, whatever the argument holds. -/
theorem algebraic : Cert.algebraic_SumDevIdeal_SumDevRefIdeal := by
  pair_intro
  · run_from (Cert.SumDevIdeal.Value.run m g)
  · run_from (Cert.SumDevRefIdeal.Value.run m' g')
    exact (sums _).symm

/-- The reference runs to the end, leaves its arguments as they were and every counter at zero. -/
theorem frameRef : Cert.quiescent_SumDevRefIdeal :=
  fun m g _ => θ_run_mono (Cert.SumDevRefIdeal.Value.run m g) fun _ h => ⟨fun c => (h c).2, sem_eq_zero_of_no_sems (by decide) _⟩

end Cert.SumDevIdeal.Hand
-- ==== Proof.lean ====
/-
  The claims of the certificate, put together: for each pair the three frames, the rewriting (none) and the equation of
  the results, from the modules that prove them.
-/
module

public import proofs.«01_k».proof.Defs
public import proofs.«01_k».proof.Proof.Gen.Sconv.Frame
public import proofs.«01_k».proof.Proof.Gen.SconvIdeal.Frame
public import proofs.«01_k».proof.Proof.Gen.SconvIdeal.Value
public import proofs.«01_k».proof.Proof.Gen.SconvRefIdeal.Run
public import proofs.«01_k».proof.Proof.SconvValue
public import proofs.«01_k».proof.Proof.SconvPair
public import proofs.«01_k».proof.Proof.Gen.LruConv.Frame
public import proofs.«01_k».proof.Proof.Gen.LruConvIdeal.Frame
public import proofs.«01_k».proof.Proof.Gen.LruConvIdeal.Value
public import proofs.«01_k».proof.Proof.Gen.LruConvRefIdeal.Run
public import proofs.«01_k».proof.Proof.LruConvValue
public import proofs.«01_k».proof.Proof.LruConvPair
public import proofs.«01_k».proof.Proof.Gen.Xattn.Frame
public import proofs.«01_k».proof.Proof.Gen.XattnIdeal.Frame
public import proofs.«01_k».proof.Proof.Gen.XattnIdeal.Value
public import proofs.«01_k».proof.Proof.Gen.XattnRefIdeal.Run
public import proofs.«01_k».proof.Proof.Gen.XattnRefIdeal.Read
public import proofs.«01_k».proof.Proof.Gen.Pre_xattn_finite
public import proofs.«01_k».proof.Proof.XattnValue
public import proofs.«01_k».proof.Proof.XattnPair
public import proofs.«01_k».proof.Proof.Gen.Fox.Frame
public import proofs.«01_k».proof.Proof.Gen.FoxIdeal.Frame
public import proofs.«01_k».proof.Proof.Gen.FoxIdeal.Value
public import proofs.«01_k».proof.Proof.Gen.FoxRefIdeal.Run
public import proofs.«01_k».proof.Proof.Gen.FoxRefIdeal.Read
public import proofs.«01_k».proof.Proof.Gen.Pre_fox_finite
public import proofs.«01_k».proof.Proof.FoxArr
public import proofs.«01_k».proof.Proof.FoxPair
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.LossValue
public import proofs.«01_k».proof.Proof.LossPair
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Pre_norm_finite
public import proofs.«01_k».proof.Proof.NormValue
public import proofs.«01_k».proof.Proof.NormPair
public import proofs.«01_k».proof.Proof.Gen.NormRes.Frame
public import proofs.«01_k».proof.Proof.Gen.NormResIdeal.Frame
public import proofs.«01_k».proof.Proof.Gen.NormResIdeal.Value
public import proofs.«01_k».proof.Proof.Gen.NormResRefIdeal.Run
public import proofs.«01_k».proof.Proof.Gen.NormResRefIdeal.Read
public import proofs.«01_k».proof.Proof.Gen.Pre_norm_res_finite
public import proofs.«01_k».proof.Proof.NormResValue
public import proofs.«01_k».proof.Proof.NormResPair
public import proofs.«01_k».proof.Proof.Gen.NormMem.Frame
public import proofs.«01_k».proof.Proof.Gen.NormMemIdeal.Frame
public import proofs.«01_k».proof.Proof.Gen.NormMemIdeal.Value
public import proofs.«01_k».proof.Proof.Gen.NormMemRefIdeal.Run
public import proofs.«01_k».proof.Proof.Gen.NormMemRefIdeal.Read
public import proofs.«01_k».proof.Proof.Gen.Pre_norm_mem_finite
public import proofs.«01_k».proof.Proof.NormMemValue
public import proofs.«01_k».proof.Proof.NormMemPair
public import proofs.«01_k».proof.Proof.Gen.FfnDa.Frame
public import proofs.«01_k».proof.Proof.Gen.FfnDaIdeal.Frame
public import proofs.«01_k».proof.Proof.Gen.FfnDaIdeal.Value
public import proofs.«01_k».proof.Proof.Gen.FfnDaRefIdeal.Run
public import proofs.«01_k».proof.Proof.Gen.FfnDaRefIdeal.Read
public import proofs.«01_k».proof.Proof.Gen.Pre_ffn_da_finite
public import proofs.«01_k».proof.Proof.FfnDaValue
public import proofs.«01_k».proof.Proof.FfnDaPair
public import proofs.«01_k».proof.Proof.Gen.Dlogf.Frame
public import proofs.«01_k».proof.Proof.Gen.DlogfIdeal.Frame
public import proofs.«01_k».proof.Proof.Gen.DlogfIdeal.Value
public import proofs.«01_k».proof.Proof.Gen.DlogfRefIdeal.Run
public import proofs.«01_k».proof.Proof.Gen.DlogfRefIdeal.Read
public import proofs.«01_k».proof.Proof.DlogfValue
public import proofs.«01_k».proof.Proof.DlogfPair
public import proofs.«01_k».proof.Proof.Gen.XattnFwd.Frame
public import proofs.«01_k».proof.Proof.Gen.XattnFwdIdeal.Frame
public import proofs.«01_k».proof.Proof.Gen.XattnFwdIdeal.Value
public import proofs.«01_k».proof.Proof.Gen.XattnFwdRefIdeal.Run
public import proofs.«01_k».proof.Proof.Gen.XattnFwdRefIdeal.Read
public import proofs.«01_k».proof.Proof.XattnFwdValue
public import proofs.«01_k».proof.Proof.XattnFwdPair
public import proofs.«01_k».proof.Proof.Gen.FoxFwd.Frame
public import proofs.«01_k».proof.Proof.Gen.FoxFwdIdeal.Frame
public import proofs.«01_k».proof.Proof.Gen.FoxFwdIdeal.Value
public import proofs.«01_k».proof.Proof.Gen.FoxFwdRefIdeal.Run
public import proofs.«01_k».proof.Proof.Gen.FoxFwdRefIdeal.Read
public import proofs.«01_k».proof.Proof.Gen.Pre_fox_fwd_finite
public import proofs.«01_k».proof.Proof.FoxFwdValue
public import proofs.«01_k».proof.Proof.FoxFwdPair
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.NormFwdPair
public import proofs.«01_k».proof.Proof.Gen.NormAdd.Frame
public import proofs.«01_k».proof.Proof.Gen.NormAddIdeal.Frame
public import proofs.«01_k».proof.Proof.Gen.NormAddIdeal.Value
public import proofs.«01_k».proof.Proof.Gen.NormAddRefIdeal.Run
public import proofs.«01_k».proof.Proof.Gen.NormAddRefIdeal.Read
public import proofs.«01_k».proof.Proof.NormAddPair
public import proofs.«01_k».proof.Proof.Gen.SconvFwd.Frame
public import proofs.«01_k».proof.Proof.Gen.SconvFwdIdeal.Frame
public import proofs.«01_k».proof.Proof.Gen.SconvFwdIdeal.Value
public import proofs.«01_k».proof.Proof.Gen.SconvFwdRefIdeal.Run
public import proofs.«01_k».proof.Proof.SconvFwdPair
public import proofs.«01_k».proof.Proof.Gen.LruConvFwd.Frame
public import proofs.«01_k».proof.Proof.Gen.LruConvFwdIdeal.Frame
public import proofs.«01_k».proof.Proof.Gen.LruConvFwdIdeal.Value
public import proofs.«01_k».proof.Proof.Gen.LruConvFwdRefIdeal.Run
public import proofs.«01_k».proof.Proof.LruConvFwdPair
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.FfnUpPair
public import proofs.«01_k».proof.Proof.Gen.FoxCum.Frame
public import proofs.«01_k».proof.Proof.Gen.FoxCumIdeal.Frame
public import proofs.«01_k».proof.Proof.Gen.FoxCumIdeal.Value
public import proofs.«01_k».proof.Proof.Gen.FoxCumRefIdeal.Run
public import proofs.«01_k».proof.Proof.Gen.FoxCumRefIdeal.Read
public import proofs.«01_k».proof.Proof.FoxCumPair
public import proofs.«01_k».proof.Proof.Gen.MemNorm.Frame
public import proofs.«01_k».proof.Proof.Gen.MemNormIdeal.Frame
public import proofs.«01_k».proof.Proof.Gen.MemNormIdeal.Value
public import proofs.«01_k».proof.Proof.Gen.MemNormRefIdeal.Run
public import proofs.«01_k».proof.Proof.Gen.MemNormRefIdeal.Read
public import proofs.«01_k».proof.Proof.MemNormPair
public import proofs.«01_k».proof.Proof.Gen.MmNn.Frame
public import proofs.«01_k».proof.Proof.Gen.MmNnIdeal.Frame
public import proofs.«01_k».proof.Proof.Gen.MmNnIdeal.Value
public import proofs.«01_k».proof.Proof.Gen.MmNnRefIdeal.Run
public import proofs.«01_k».proof.Proof.Gen.MmNnRefIdeal.Read
public import proofs.«01_k».proof.Proof.MmNnPair
public import proofs.«01_k».proof.Proof.Gen.MmCols.Frame
public import proofs.«01_k».proof.Proof.Gen.MmColsIdeal.Frame
public import proofs.«01_k».proof.Proof.Gen.MmColsIdeal.Value
public import proofs.«01_k».proof.Proof.Gen.MmColsRefIdeal.Run
public import proofs.«01_k».proof.Proof.Gen.MmColsRefIdeal.Read
public import proofs.«01_k».proof.Proof.MmColsPair
public import proofs.«01_k».proof.Proof.Gen.MmRows.Frame
public import proofs.«01_k».proof.Proof.Gen.MmRowsIdeal.Frame
public import proofs.«01_k».proof.Proof.Gen.MmRowsIdeal.Value
public import proofs.«01_k».proof.Proof.Gen.MmRowsRefIdeal.Run
public import proofs.«01_k».proof.Proof.Gen.MmRowsRefIdeal.Read
public import proofs.«01_k».proof.Proof.MmRowsPair
public import proofs.«01_k».proof.Proof.Gen.MmNt.Frame
public import proofs.«01_k».proof.Proof.Gen.MmNtIdeal.Frame
public import proofs.«01_k».proof.Proof.Gen.MmNtIdeal.Value
public import proofs.«01_k».proof.Proof.Gen.MmNtRefIdeal.Run
public import proofs.«01_k».proof.Proof.Gen.MmNtRefIdeal.Read
public import proofs.«01_k».proof.Proof.MmNtPair
public import proofs.«01_k».proof.Proof.Gen.MmTn.Frame
public import proofs.«01_k».proof.Proof.Gen.MmTnIdeal.Frame
public import proofs.«01_k».proof.Proof.Gen.MmTnIdeal.Value
public import proofs.«01_k».proof.Proof.Gen.MmTnRefIdeal.Run
public import proofs.«01_k».proof.Proof.Gen.MmTnRefIdeal.Read
public import proofs.«01_k».proof.Proof.MmTnPair
public import proofs.«01_k».proof.Proof.Gen.BmmNn.Frame
public import proofs.«01_k».proof.Proof.Gen.BmmNnIdeal.Frame
public import proofs.«01_k».proof.Proof.Gen.BmmNnIdeal.Value
public import proofs.«01_k».proof.Proof.Gen.BmmNnRefIdeal.Run
public import proofs.«01_k».proof.Proof.Gen.BmmNnRefIdeal.Read
public import proofs.«01_k».proof.Proof.BmmNnPair
public import proofs.«01_k».proof.Proof.Gen.BmmTn.Frame
public import proofs.«01_k».proof.Proof.Gen.BmmTnIdeal.Frame
public import proofs.«01_k».proof.Proof.Gen.BmmTnIdeal.Value
public import proofs.«01_k».proof.Proof.Gen.BmmTnRefIdeal.Run
public import proofs.«01_k».proof.Proof.Gen.BmmTnRefIdeal.Read
public import proofs.«01_k».proof.Proof.BmmTnPair
public import proofs.«01_k».proof.Proof.Gen.MmA3.Frame
public import proofs.«01_k».proof.Proof.Gen.MmA3Ideal.Frame
public import proofs.«01_k».proof.Proof.Gen.MmA3Ideal.Value
public import proofs.«01_k».proof.Proof.Gen.MmA3RefIdeal.Run
public import proofs.«01_k».proof.Proof.Gen.MmA3RefIdeal.Read
public import proofs.«01_k».proof.Proof.MmA3Pair
public import proofs.«01_k».proof.Proof.Gen.BmmNnSum.Frame
public import proofs.«01_k».proof.Proof.Gen.BmmNnSumIdeal.Frame
public import proofs.«01_k».proof.Proof.Gen.BmmNnSumIdeal.Value
public import proofs.«01_k».proof.Proof.Gen.BmmNnSumRefIdeal.Run
public import proofs.«01_k».proof.Proof.Gen.BmmNnSumRefIdeal.Read
public import proofs.«01_k».proof.Proof.BmmNnSumPair
public import proofs.«01_k».proof.Proof.Gen.BmmNtSum.Frame
public import proofs.«01_k».proof.Proof.Gen.BmmNtSumIdeal.Frame
public import proofs.«01_k».proof.Proof.Gen.BmmNtSumIdeal.Value
public import proofs.«01_k».proof.Proof.Gen.BmmNtSumRefIdeal.Run
public import proofs.«01_k».proof.Proof.Gen.BmmNtSumRefIdeal.Read
public import proofs.«01_k».proof.Proof.BmmNtSumPair
public import proofs.«01_k».proof.Proof.Gen.AdamW.Frame
public import proofs.«01_k».proof.Proof.Gen.AdamWIdeal.Frame
public import proofs.«01_k».proof.Proof.Gen.AdamWIdeal.Value
public import proofs.«01_k».proof.Proof.Gen.AdamWRefIdeal.Run
public import proofs.«01_k».proof.Proof.Gen.AdamWRefIdeal.Read
public import proofs.«01_k».proof.Proof.AdamWPair
public import proofs.«01_k».proof.Proof.Gen.SumDev.Frame
public import proofs.«01_k».proof.Proof.Gen.SumDevIdeal.Frame
public import proofs.«01_k».proof.Proof.Gen.SumDevIdeal.Value
public import proofs.«01_k».proof.Proof.Gen.SumDevRefIdeal.Run
public import proofs.«01_k».proof.Proof.Gen.SumDevRefIdeal.Read
public import proofs.«01_k».proof.Proof.SumDevPair
public import proofs.«01_k».proof.Proof.Gen.LruScan.Frame
public import proofs.«01_k».proof.Proof.Gen.LruScanIdeal.Frame

@[expose] public section

noncomputable section

namespace Cert.Proof

theorem claim : Cert.Claim :=
  ⟨Cert.Loss.Gen.facts,
   Cert.LossIdeal.Gen.facts,
   Cert.LossRefIdeal.Gen.facts,
   Cert.Norm.Gen.facts,
   Cert.NormIdeal.Gen.facts,
   Cert.NormRefIdeal.Gen.facts,
   Cert.NormRes.Gen.facts,
   Cert.NormResIdeal.Gen.facts,
   Cert.NormResRefIdeal.Gen.facts,
   Cert.NormMem.Gen.facts,
   Cert.NormMemIdeal.Gen.facts,
   Cert.NormMemRefIdeal.Gen.facts,
   Cert.Sconv.Gen.facts,
   Cert.SconvIdeal.Gen.facts,
   Cert.SconvRefIdeal.Gen.facts,
   Cert.LruConv.Gen.facts,
   Cert.LruConvIdeal.Gen.facts,
   Cert.LruConvRefIdeal.Gen.facts,
   Cert.Dlogf.Gen.facts,
   Cert.DlogfIdeal.Gen.facts,
   Cert.DlogfRefIdeal.Gen.facts,
   Cert.FfnDa.Gen.facts,
   Cert.FfnDaIdeal.Gen.facts,
   Cert.FfnDaRefIdeal.Gen.facts,
   Cert.Xattn.Gen.facts,
   Cert.XattnIdeal.Gen.facts,
   Cert.XattnRefIdeal.Gen.facts,
   Cert.Fox.Gen.facts,
   Cert.FoxIdeal.Gen.facts,
   Cert.FoxRefIdeal.Gen.facts,
   Cert.XattnFwd.Gen.facts,
   Cert.XattnFwdIdeal.Gen.facts,
   Cert.XattnFwdRefIdeal.Gen.facts,
   Cert.FoxFwd.Gen.facts,
   Cert.FoxFwdIdeal.Gen.facts,
   Cert.FoxFwdRefIdeal.Gen.facts,
   Cert.NormFwd.Gen.facts,
   Cert.NormFwdIdeal.Gen.facts,
   Cert.NormFwdRefIdeal.Gen.facts,
   Cert.NormAdd.Gen.facts,
   Cert.NormAddIdeal.Gen.facts,
   Cert.NormAddRefIdeal.Gen.facts,
   Cert.SconvFwd.Gen.facts,
   Cert.SconvFwdIdeal.Gen.facts,
   Cert.SconvFwdRefIdeal.Gen.facts,
   Cert.LruConvFwd.Gen.facts,
   Cert.LruConvFwdIdeal.Gen.facts,
   Cert.LruConvFwdRefIdeal.Gen.facts,
   Cert.FfnUp.Gen.facts,
   Cert.FfnUpIdeal.Gen.facts,
   Cert.FfnUpRefIdeal.Gen.facts,
   Cert.FoxCum.Gen.facts,
   Cert.FoxCumIdeal.Gen.facts,
   Cert.FoxCumRefIdeal.Gen.facts,
   Cert.LruScan.Gen.facts,
   Cert.LruScanIdeal.Gen.facts,
   Cert.MemNorm.Gen.facts,
   Cert.MemNormIdeal.Gen.facts,
   Cert.MemNormRefIdeal.Gen.facts,
   Cert.MmNn.Gen.facts,
   Cert.MmNnIdeal.Gen.facts,
   Cert.MmNnRefIdeal.Gen.facts,
   Cert.MmCols.Gen.facts,
   Cert.MmColsIdeal.Gen.facts,
   Cert.MmColsRefIdeal.Gen.facts,
   Cert.MmRows.Gen.facts,
   Cert.MmRowsIdeal.Gen.facts,
   Cert.MmRowsRefIdeal.Gen.facts,
   Cert.MmNt.Gen.facts,
   Cert.MmNtIdeal.Gen.facts,
   Cert.MmNtRefIdeal.Gen.facts,
   Cert.MmTn.Gen.facts,
   Cert.MmTnIdeal.Gen.facts,
   Cert.MmTnRefIdeal.Gen.facts,
   Cert.BmmNn.Gen.facts,
   Cert.BmmNnIdeal.Gen.facts,
   Cert.BmmNnRefIdeal.Gen.facts,
   Cert.BmmTn.Gen.facts,
   Cert.BmmTnIdeal.Gen.facts,
   Cert.BmmTnRefIdeal.Gen.facts,
   Cert.MmA3.Gen.facts,
   Cert.MmA3Ideal.Gen.facts,
   Cert.MmA3RefIdeal.Gen.facts,
   Cert.BmmNnSum.Gen.facts,
   Cert.BmmNnSumIdeal.Gen.facts,
   Cert.BmmNnSumRefIdeal.Gen.facts,
   Cert.BmmNtSum.Gen.facts,
   Cert.BmmNtSumIdeal.Gen.facts,
   Cert.BmmNtSumRefIdeal.Gen.facts,
   Cert.AdamW.Gen.facts,
   Cert.AdamWIdeal.Gen.facts,
   Cert.AdamWRefIdeal.Gen.facts,
   Cert.SumDev.Gen.facts,
   Cert.SumDevIdeal.Gen.facts,
   Cert.SumDevRefIdeal.Gen.facts,
   Cert.Pre_norm_finite.Gen.facts,
   Cert.Pre_norm_res_finite.Gen.facts,
   Cert.Pre_norm_mem_finite.Gen.facts,
   Cert.Pre_ffn_da_finite.Gen.facts,
   Cert.Pre_xattn_finite.Gen.facts,
   Cert.Pre_fox_finite.Gen.facts,
   Cert.Pre_fox_fwd_finite.Gen.facts,
   fun m ρ _ => Cert.Loss.Gen.frame m ρ,
   fun m ρ _ => Cert.LossIdeal.Gen.frame m ρ,
   Cert.LossIdeal.Hand.frameRef,
   fun m ρ _ => Cert.Norm.Gen.frame m ρ,
   fun m ρ _ => Cert.NormIdeal.Gen.frame m ρ,
   fun m ρ _ => Cert.NormIdeal.Gen.frame m ρ,
   Cert.NormIdeal.Hand.frameRef,
   fun m ρ _ => Cert.NormIdeal.Hand.frameRef m ρ trivial,
   fun m ρ _ => Cert.NormRes.Gen.frame m ρ,
   fun m ρ _ => Cert.NormResIdeal.Gen.frame m ρ,
   fun m ρ _ => Cert.NormResIdeal.Gen.frame m ρ,
   Cert.NormResIdeal.Hand.frameRef,
   fun m ρ _ => Cert.NormResIdeal.Hand.frameRef m ρ trivial,
   fun m ρ _ => Cert.NormMem.Gen.frame m ρ,
   fun m ρ _ => Cert.NormMemIdeal.Gen.frame m ρ,
   fun m ρ _ => Cert.NormMemIdeal.Gen.frame m ρ,
   Cert.NormMemIdeal.Hand.frameRef,
   fun m ρ _ => Cert.NormMemIdeal.Hand.frameRef m ρ trivial,
   fun m ρ _ => Cert.Sconv.Gen.frame m ρ,
   fun m ρ _ => Cert.SconvIdeal.Gen.frame m ρ,
   Cert.SconvIdeal.Hand.frameRef,
   fun m ρ _ => Cert.LruConv.Gen.frame m ρ,
   fun m ρ _ => Cert.LruConvIdeal.Gen.frame m ρ,
   Cert.LruConvIdeal.Hand.frameRef,
   fun m ρ _ => Cert.Dlogf.Gen.frame m ρ,
   fun m ρ _ => Cert.DlogfIdeal.Gen.frame m ρ,
   Cert.DlogfIdeal.Hand.frameRef,
   fun m ρ _ => Cert.FfnDa.Gen.frame m ρ,
   fun m ρ _ => Cert.FfnDaIdeal.Gen.frame m ρ,
   fun m ρ _ => Cert.FfnDaIdeal.Gen.frame m ρ,
   Cert.FfnDaIdeal.Hand.frameRef,
   fun m ρ _ => Cert.FfnDaIdeal.Hand.frameRef m ρ trivial,
   fun m ρ _ => Cert.Xattn.Gen.frame m ρ,
   fun m ρ _ => Cert.XattnIdeal.Gen.frame m ρ,
   fun m ρ _ => Cert.XattnIdeal.Gen.frame m ρ,
   Cert.XattnIdeal.Hand.frameRef,
   fun m ρ _ => Cert.XattnIdeal.Hand.frameRef m ρ trivial,
   fun m ρ _ => Cert.Fox.Gen.frame m ρ,
   fun m ρ _ => Cert.FoxIdeal.Gen.frame m ρ,
   fun m ρ _ => Cert.FoxIdeal.Gen.frame m ρ,
   Cert.FoxIdeal.Hand.frameRef,
   fun m ρ _ => Cert.FoxIdeal.Hand.frameRef m ρ trivial,
   fun m ρ _ => Cert.XattnFwd.Gen.frame m ρ,
   fun m ρ _ => Cert.XattnFwdIdeal.Gen.frame m ρ,
   Cert.XattnFwdIdeal.Hand.frameRef,
   fun m ρ _ => Cert.FoxFwd.Gen.frame m ρ,
   fun m ρ _ => Cert.FoxFwdIdeal.Gen.frame m ρ,
   fun m ρ _ => Cert.FoxFwdIdeal.Gen.frame m ρ,
   Cert.FoxFwdIdeal.Hand.frameRef,
   fun m ρ _ => Cert.FoxFwdIdeal.Hand.frameRef m ρ trivial,
   fun m ρ _ => Cert.NormFwd.Gen.frame m ρ,
   fun m ρ _ => Cert.NormFwdIdeal.Gen.frame m ρ,
   Cert.NormFwdIdeal.Hand.frameRef,
   fun m ρ _ => Cert.NormAdd.Gen.frame m ρ,
   fun m ρ _ => Cert.NormAddIdeal.Gen.frame m ρ,
   Cert.NormAddIdeal.Hand.frameRef,
   fun m ρ _ => Cert.SconvFwd.Gen.frame m ρ,
   fun m ρ _ => Cert.SconvFwdIdeal.Gen.frame m ρ,
   Cert.SconvFwdIdeal.Hand.frameRef,
   fun m ρ _ => Cert.LruConvFwd.Gen.frame m ρ,
   fun m ρ _ => Cert.LruConvFwdIdeal.Gen.frame m ρ,
   Cert.LruConvFwdIdeal.Hand.frameRef,
   fun m ρ _ => Cert.FfnUp.Gen.frame m ρ,
   fun m ρ _ => Cert.FfnUpIdeal.Gen.frame m ρ,
   Cert.FfnUpIdeal.Hand.frameRef,
   fun m ρ _ => Cert.FoxCum.Gen.frame m ρ,
   fun m ρ _ => Cert.FoxCumIdeal.Gen.frame m ρ,
   Cert.FoxCumIdeal.Hand.frameRef,
   fun m ρ _ => Cert.LruScan.Gen.frame m ρ,
   fun m ρ _ => Cert.LruScanIdeal.Gen.frame m ρ,
   fun m ρ _ => Cert.MemNorm.Gen.frame m ρ,
   fun m ρ _ => Cert.MemNormIdeal.Gen.frame m ρ,
   Cert.MemNormIdeal.Hand.frameRef,
   fun m ρ _ => Cert.MmNn.Gen.frame m ρ,
   fun m ρ _ => Cert.MmNnIdeal.Gen.frame m ρ,
   Cert.MmNnIdeal.Hand.frameRef,
   fun m ρ _ => Cert.MmCols.Gen.frame m ρ,
   fun m ρ _ => Cert.MmColsIdeal.Gen.frame m ρ,
   Cert.MmColsIdeal.Hand.frameRef,
   fun m ρ _ => Cert.MmRows.Gen.frame m ρ,
   fun m ρ _ => Cert.MmRowsIdeal.Gen.frame m ρ,
   Cert.MmRowsIdeal.Hand.frameRef,
   fun m ρ _ => Cert.MmNt.Gen.frame m ρ,
   fun m ρ _ => Cert.MmNtIdeal.Gen.frame m ρ,
   Cert.MmNtIdeal.Hand.frameRef,
   fun m ρ _ => Cert.MmTn.Gen.frame m ρ,
   fun m ρ _ => Cert.MmTnIdeal.Gen.frame m ρ,
   Cert.MmTnIdeal.Hand.frameRef,
   fun m ρ _ => Cert.BmmNn.Gen.frame m ρ,
   fun m ρ _ => Cert.BmmNnIdeal.Gen.frame m ρ,
   Cert.BmmNnIdeal.Hand.frameRef,
   fun m ρ _ => Cert.BmmTn.Gen.frame m ρ,
   fun m ρ _ => Cert.BmmTnIdeal.Gen.frame m ρ,
   Cert.BmmTnIdeal.Hand.frameRef,
   fun m ρ _ => Cert.MmA3.Gen.frame m ρ,
   fun m ρ _ => Cert.MmA3Ideal.Gen.frame m ρ,
   Cert.MmA3Ideal.Hand.frameRef,
   fun m ρ _ => Cert.BmmNnSum.Gen.frame m ρ,
   fun m ρ _ => Cert.BmmNnSumIdeal.Gen.frame m ρ,
   Cert.BmmNnSumIdeal.Hand.frameRef,
   fun m ρ _ => Cert.BmmNtSum.Gen.frame m ρ,
   fun m ρ _ => Cert.BmmNtSumIdeal.Gen.frame m ρ,
   Cert.BmmNtSumIdeal.Hand.frameRef,
   fun m ρ _ => Cert.AdamW.Gen.frame m ρ,
   fun m ρ _ => Cert.AdamWIdeal.Gen.frame m ρ,
   Cert.AdamWIdeal.Hand.frameRef,
   fun m ρ _ => Cert.SumDev.Gen.frame m ρ,
   fun m ρ _ => Cert.SumDevIdeal.Gen.frame m ρ,
   Cert.SumDevIdeal.Hand.frameRef,
   trivial,
   Cert.LossIdeal.Hand.algebraic,
   trivial,
   Cert.NormIdeal.Hand.algebraic,
   trivial,
   Cert.NormResIdeal.Hand.algebraic,
   trivial,
   Cert.NormMemIdeal.Hand.algebraic,
   trivial,
   Cert.SconvIdeal.Hand.algebraic,
   trivial,
   Cert.LruConvIdeal.Hand.algebraic,
   trivial,
   Cert.DlogfIdeal.Hand.algebraic,
   trivial,
   Cert.FfnDaIdeal.Hand.algebraic,
   trivial,
   Cert.XattnIdeal.Hand.algebraic,
   Cert.FoxIdeal.Hand.preserves,
   Cert.FoxIdeal.Hand.algebraic,
   trivial,
   Cert.XattnFwdIdeal.Hand.algebraic,
   Cert.FoxFwdIdeal.Hand.preserves,
   Cert.FoxFwdIdeal.Hand.algebraic,
   trivial,
   Cert.NormFwdIdeal.Hand.algebraic,
   trivial,
   Cert.NormAddIdeal.Hand.algebraic,
   trivial,
   Cert.SconvFwdIdeal.Hand.algebraic,
   trivial,
   Cert.LruConvFwdIdeal.Hand.algebraic,
   trivial,
   Cert.FfnUpIdeal.Hand.algebraic,
   trivial,
   Cert.FoxCumIdeal.Hand.algebraic,
   trivial,
   trivial,
   Cert.MemNormIdeal.Hand.algebraic,
   trivial,
   Cert.MmNnIdeal.Hand.algebraic,
   trivial,
   Cert.MmColsIdeal.Hand.algebraic,
   trivial,
   Cert.MmRowsIdeal.Hand.algebraic,
   trivial,
   Cert.MmNtIdeal.Hand.algebraic,
   trivial,
   Cert.MmTnIdeal.Hand.algebraic,
   trivial,
   Cert.BmmNnIdeal.Hand.algebraic,
   trivial,
   Cert.BmmTnIdeal.Hand.algebraic,
   trivial,
   Cert.MmA3Ideal.Hand.algebraic,
   trivial,
   Cert.BmmNnSumIdeal.Hand.algebraic,
   trivial,
   Cert.BmmNtSumIdeal.Hand.algebraic,
   trivial,
   Cert.AdamWIdeal.Hand.algebraic,
   trivial,
   Cert.SumDevIdeal.Hand.algebraic⟩

end Cert.Proof

end
